-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1536 : Shape := ⟨2, ![8192, 1536]⟩
abbrev S8192x1024 : Shape := ⟨2, ![8192, 1024]⟩
abbrev S16 : Shape := ⟨1, ![16]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1536 .f32) (main_arg1 : FVec F S8192x1024 .f32) (main_arg2 : FVec F S16 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_finite2.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024x5632 .f32) (main_arg2 : FVec F S2816x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S8192x1536 : Shape := ⟨2, ![8192, 1536]⟩
abbrev S8192x1024 : Shape := ⟨2, ![8192, 1024]⟩
abbrev S16 : Shape := ⟨1, ![16]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x256 : Shape := ⟨2, ![8192, 256]⟩
abbrev S512x1536 : Shape := ⟨2, ![512, 1536]⟩
abbrev S512x128 : Shape := ⟨2, ![512, 128]⟩
abbrev S512x1024 : Shape := ⟨2, ![512, 1024]⟩
abbrev S512x256 : Shape := ⟨2, ![512, 256]⟩
abbrev S2048x256 : Shape := ⟨2, ![2048, 256]⟩
abbrev S4x8x128 : Shape := ⟨3, ![4, 8, 128]⟩
abbrev S512x512 : Shape := ⟨2, ![512, 512]⟩
abbrev S128x128 : Shape := ⟨2, ![128, 128]⟩
abbrev S2x8x128 : Shape := ⟨3, ![2, 8, 128]⟩
abbrev S512x1 : Shape := ⟨2, ![512, 1]⟩
abbrev S8x128 : Shape := ⟨2, ![8, 128]⟩
abbrev S1 : Shape := ⟨1, ![1]⟩
abbrev S256x128 : Shape := ⟨2, ![256, 128]⟩
abbrev S512 : Shape := ⟨1, ![512]⟩
abbrev S1x512x1 : Shape := ⟨3, ![1, 512, 1]⟩
abbrev S1x1x1 : Shape := ⟨3, ![1, 1, 1]⟩
abbrev S1x8x128 : Shape := ⟨3, ![1, 8, 128]⟩
abbrev S128x256 : Shape := ⟨2, ![128, 256]⟩
abbrev S384x256 : Shape := ⟨2, ![384, 256]⟩
abbrev S4x4x1 : Shape := ⟨3, ![4, 4, 1]⟩
abbrev S4x4 : Shape := ⟨2, ![4, 4]⟩

abbrev nBuf : Space → Nat
  | .hbm => 43
  | .vmem => 52
  | .smem => 1
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S16, .f32⟩
  | .hbm, ⟨3, _⟩ => ⟨S8192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x128, .f32⟩
  | .hbm, ⟨26, _⟩ => ⟨S8192x32, .f32⟩
  | .hbm, ⟨27, _⟩ => ⟨S8192x32, .f32⟩
  | .hbm, ⟨28, _⟩ => ⟨S8192x128, .f32⟩
  | .hbm, ⟨29, _⟩ => ⟨S8192x1024, .bf16⟩
  | .hbm, ⟨30, _⟩ => ⟨S8192x256, .bf16⟩
  | .hbm, ⟨31, _⟩ => ⟨S8192x256, .bf16⟩
  | .hbm, ⟨32, _⟩ => ⟨S8192x1024, .bf16⟩
  | .hbm, ⟨33, _⟩ => ⟨S8192x1024, .f32⟩
  | .hbm, ⟨34, _⟩ => ⟨S8192x256, .f32⟩
  | .hbm, ⟨35, _⟩ => ⟨S2048x256, .f32⟩
  | .hbm, ⟨36, _⟩ => ⟨S8192x256, .f32⟩
  | .hbm, ⟨37, _⟩ => ⟨S2048x256, .f32⟩
  | .hbm, ⟨38, _⟩ => ⟨S4x8x128, .f32⟩
  | .hbm, ⟨39, _⟩ => ⟨S8192x1536, .bf16⟩
  | .hbm, ⟨40, _⟩ => ⟨S4x4x1, .f32⟩
  | .hbm, ⟨41, _⟩ => ⟨S4x4, .f32⟩
  | .hbm, ⟨42, _⟩ => ⟨S16, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S128x128, .bf16⟩
  | .local _ .vmem, ⟨17, _⟩ => ⟨S128x128, .bf16⟩
  | .local _ .vmem, ⟨18, _⟩ => ⟨S512x128, .bf16⟩
  | .local _ .vmem, ⟨19, _⟩ => ⟨S512x128, .bf16⟩
  | .local _ .vmem, ⟨20, _⟩ => ⟨S128x128, .bf16⟩
  | .local _ .vmem, ⟨21, _⟩ => ⟨S128x128, .bf16⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S512x128, .f32⟩
  | .local _ .vmem, ⟨27, _⟩ => ⟨S512x128, .f32⟩
  | .local _ .vmem, ⟨28, _⟩ => ⟨S128x128, .f32⟩
  | .local _ .vmem, ⟨29, _⟩ => ⟨S128x128, .f32⟩
  | .local _ .vmem, ⟨30, _⟩ => ⟨S512x128, .f32⟩
  | .local _ .vmem, ⟨31, _⟩ => ⟨S512x128, .f32⟩
  | .local _ .vmem, ⟨32, _⟩ => ⟨S128x128, .f32⟩
  | .local _ .vmem, ⟨33, _⟩ => ⟨S128x128, .f32⟩
  | .local _ .vmem, ⟨34, _⟩ => ⟨S2x8x128, .f32⟩
  | .local _ .vmem, ⟨35, _⟩ => ⟨S2x8x128, .f32⟩
  | .local _ .vmem, ⟨36, _⟩ => ⟨S512x1024, .f32⟩
  | .local _ .vmem, ⟨37, _⟩ => ⟨S512x1024, .f32⟩
  | .local _ .vmem, ⟨38, _⟩ => ⟨S512x256, .f32⟩
  | .local _ .vmem, ⟨39, _⟩ => ⟨S512x256, .f32⟩
  | .local _ .vmem, ⟨40, _⟩ => ⟨S128x256, .f32⟩
  | .local _ .vmem, ⟨41, _⟩ => ⟨S128x256, .f32⟩
  | .local _ .vmem, ⟨42, _⟩ => ⟨S512x256, .f32⟩
  | .local _ .vmem, ⟨43, _⟩ => ⟨S512x256, .f32⟩
  | .local _ .vmem, ⟨44, _⟩ => ⟨S128x256, .f32⟩
  | .local _ .vmem, ⟨45, _⟩ => ⟨S128x256, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x1536, .bf16⟩
  | .local _ .vmem, ⟨51, _⟩ => ⟨S512x1536, .bf16⟩
  | .local _ .smem, ⟨0, _⟩ => ⟨S16, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .smem, ⟨0, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem12_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem4_1 : DmaSem sig := 46
abbrev cc2_sem5_0 : DmaSem sig := 47
abbrev cc2_sem5_1 : DmaSem sig := 48
abbrev cc2_sem6_0 : DmaSem sig := 49
abbrev cc2_sem6_1 : DmaSem sig := 50
abbrev cc2_sem7_0 : DmaSem sig := 51
abbrev cc2_sem7_1 : DmaSem sig := 52

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) (c0_i32_25 : BitVec 32) (c0_i32_35 : BitVec 32) : Fin 1 → Nat :=
  let c4_i32 : BitVec 32 := 4#32
  let c2_i32 : BitVec 32 := 2#32
  let arg0 : BitVec 32 := BitVec.ofNat 32 (i 0).val
  let v66 : BitVec 32 := Scalar.muli c2_i32 arg0
  let v67 : BitVec 32 := Scalar.addi v66 c0_i32_25
  let v96 : BitVec 32 := Scalar.muli c4_i32 v67
  let v97 : BitVec 32 := Scalar.addi v96 c0_i32_35
  let v98 : Index := Scalar.indexCast v97
  ![v98.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x8x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1536 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S8192x1536 : Shape := ⟨2, ![8192, 1536]⟩
abbrev S8192x1024 : Shape := ⟨2, ![8192, 1024]⟩
abbrev S16 : Shape := ⟨1, ![16]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x256 : Shape := ⟨2, ![8192, 256]⟩
abbrev S1x8192x16x64 : Shape := ⟨4, ![1, 8192, 16, 64]⟩
abbrev S1x8192x16x32 : Shape := ⟨4, ![1, 8192, 16, 32]⟩
abbrev S1x8192x1x32 : Shape := ⟨4, ![1, 8192, 1, 32]⟩
abbrev S1x8192x4x64 : Shape := ⟨4, ![1, 8192, 4, 64]⟩
abbrev S1x8192x4x32 : Shape := ⟨4, ![1, 8192, 4, 32]⟩
abbrev S1x64x128x4x4x64 : Shape := ⟨6, ![1, 64, 128, 4, 4, 64]⟩
abbrev S1x64x128x4x64 : Shape := ⟨5, ![1, 64, 128, 4, 64]⟩
abbrev S1x1x128x4x64 : Shape := ⟨5, ![1, 1, 128, 4, 64]⟩
abbrev S1x63x128x4x64 : Shape := ⟨5, ![1, 63, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x64x4x128 : Shape := ⟨6, ![1, 64, 4, 64, 4, 128]⟩
abbrev S1x64x4x64x256 : Shape := ⟨5, ![1, 64, 4, 64, 256]⟩
abbrev S1x4x4x1 : Shape := ⟨4, ![1, 4, 4, 1]⟩
abbrev S64x4x4x128 : Shape := ⟨4, ![64, 4, 4, 128]⟩
abbrev S1x64x4x128x4x64 : Shape := ⟨6, ![1, 64, 4, 128, 4, 64]⟩
abbrev S1x64x4x256x64 : Shape := ⟨5, ![1, 64, 4, 256, 64]⟩

abbrev nBuf : Space → Nat
  | .hbm => 294
  | .vmem => 0
  | .smem => 0
  | _ => 0

abbrev hbmTy0_0 (i : Nat) : BufTy := match i % 128 with
  | 0 => ⟨S8192x1536, .f32⟩
  | 1 => ⟨S8192x1024, .f32⟩
  | 2 => ⟨S16, .f32⟩
  | 3 => ⟨S8192, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S8192x1, .f32⟩
  | 19 => ⟨S1x32, .f32⟩
  | 20 => ⟨S8192x32, .f32⟩
  | 21 => ⟨S8192x32, .f32⟩
  | 22 => ⟨S8192x32, .f32⟩
  | 23 => ⟨S8192x32, .f32⟩
  | 24 => ⟨S8192x32, .f32⟩
  | 25 => ⟨S8192x1024, .f32⟩
  | 26 => ⟨S8192x256, .f32⟩
  | 27 => ⟨S8192x256, .f32⟩
  | 28 => ⟨S1x8192x16x64, .f32⟩
  | 29 => ⟨S1x8192x16x32, .f32⟩
  | 30 => ⟨S1x8192x16x32, .f32⟩
  | 31 => ⟨S1x8192x1x32, .f32⟩
  | 32 => ⟨S1x8192x1x32, .f32⟩
  | 33 => ⟨S1x8192x16x32, .f32⟩
  | 34 => ⟨S1x8192x16x32, .f32⟩
  | 35 => ⟨S1x8192x16x32, .f32⟩
  | 36 => ⟨S1x8192x16x32, .f32⟩
  | 37 => ⟨S1x8192x16x32, .f32⟩
  | 38 => ⟨S1x8192x16x32, .f32⟩
  | 39 => ⟨S1x8192x16x32, .f32⟩
  | 40 => ⟨S1x8192x16x32, .f32⟩
  | 41 => ⟨S1x8192x16x32, .f32⟩
  | 42 => ⟨S1x8192x16x32, .f32⟩
  | 43 => ⟨S1x8192x16x64, .f32⟩
  | 44 => ⟨S1x8192x4x64, .f32⟩
  | 45 => ⟨S1x8192x4x32, .f32⟩
  | 46 => ⟨S1x8192x4x32, .f32⟩
  | 47 => ⟨S1x8192x1x32, .f32⟩
  | 48 => ⟨S1x8192x1x32, .f32⟩
  | 49 => ⟨S1x8192x4x32, .f32⟩
  | 50 => ⟨S1x8192x4x32, .f32⟩
  | 51 => ⟨S1x8192x4x32, .f32⟩
  | 52 => ⟨S1x8192x4x32, .f32⟩
  | 53 => ⟨S1x8192x4x32, .f32⟩
  | 54 => ⟨S1x8192x4x32, .f32⟩
  | 55 => ⟨S1x8192x4x32, .f32⟩
  | 56 => ⟨S1x8192x4x32, .f32⟩
  | 57 => ⟨S1x8192x4x32, .f32⟩
  | 58 => ⟨S1x8192x4x32, .f32⟩
  | 59 => ⟨S1x8192x4x64, .f32⟩
  | 60 => ⟨S1x8192x4x64, .f32⟩
  | 61 => ⟨S1x64x128x4x4x64, .f32⟩
  | 62 => ⟨S1x64x128x4x64, .f32⟩
  | 63 => ⟨S1x1x128x4x64, .f32⟩
  | 64 => ⟨S_, .f32⟩
  | 65 => ⟨S1x1x128x4x64, .f32⟩
  | 66 => ⟨S1x63x128x4x64, .f32⟩
  | 67 => ⟨S1x64x128x4x64, .f32⟩
  | 68 => ⟨S_, .f32⟩
  | 69 => ⟨S1x1x128x4x64, .f32⟩
  | 70 => ⟨S1x64x256x4x64, .f32⟩
  | 71 => ⟨S1x64x128x4x64, .f32⟩
  | 72 => ⟨S1x1x128x4x64, .f32⟩
  | 73 => ⟨S_, .f32⟩
  | 74 => ⟨S1x1x128x4x64, .f32⟩
  | 75 => ⟨S1x63x128x4x64, .f32⟩
  | 76 => ⟨S1x64x128x4x64, .f32⟩
  | 77 => ⟨S_, .f32⟩
  | 78 => ⟨S1x1x128x4x64, .f32⟩
  | 79 => ⟨S1x64x256x4x64, .f32⟩
  | 80 => ⟨S1x64x4x256x128x4, .f32⟩
  | 81 => ⟨S1x64x4x4x128x256, .f32⟩
  | 82 => ⟨S_, .f32⟩
  | 83 => ⟨S1x64x4x4x128x256, .f32⟩
  | 84 => ⟨S1x64x4x4x128x256, .f32⟩
  | 85 => ⟨S128, .i32⟩
  | 86 => ⟨S128x1, .i32⟩
  | 87 => ⟨S256, .i32⟩
  | 88 => ⟨S1x256, .i32⟩
  | 89 => ⟨S_, .i32⟩
  | 90 => ⟨S128x1, .i32⟩
  | 91 => ⟨S128x1, .i32⟩
  | 92 => ⟨S128x256, .i32⟩
  | 93 => ⟨S128x256, .i32⟩
  | 94 => ⟨S128x256, .i32⟩
  | 95 => ⟨S_, .i32⟩
  | 96 => ⟨S128x256, .i32⟩
  | 97 => ⟨S128x256, .i1⟩
  | 98 => ⟨S_, .i32⟩
  | 99 => ⟨S128x256, .i32⟩
  | 100 => ⟨S128x256, .i1⟩
  | 101 => ⟨S128x256, .i1⟩
  | 102 => ⟨S64, .i32⟩
  | 103 => ⟨S64x1, .i32⟩
  | 104 => ⟨S_, .i32⟩
  | 105 => ⟨S64x1, .i32⟩
  | 106 => ⟨S64x1, .i32⟩
  | 107 => ⟨S_, .i32⟩
  | 108 => ⟨S64x1, .i32⟩
  | 109 => ⟨S64x1, .i32⟩
  | 110 => ⟨S256, .i32⟩
  | 111 => ⟨S1x256, .i32⟩
  | 112 => ⟨S64x256, .i32⟩
  | 113 => ⟨S64x256, .i32⟩
  | 114 => ⟨S64x256, .i32⟩
  | 115 => ⟨S1x128x256, .i1⟩
  | 116 => ⟨S_, .i32⟩
  | 117 => ⟨S64x256, .i32⟩
  | 118 => ⟨S64x256, .i1⟩
  | 119 => ⟨S64x1x256, .i1⟩
  | 120 => ⟨S64x128x256, .i1⟩
  | 121 => ⟨S64x128x256, .i1⟩
  | 122 => ⟨S64x128x256, .i1⟩
  | 123 => ⟨S1x64x1x1x128x256, .i1⟩
  | 124 => ⟨S_, .f32⟩
  | 125 => ⟨S_, .f32⟩
  | 126 => ⟨S1x64x4x4x128x256, .i1⟩
  | 127 => ⟨S1x64x4x4x128x256, .f32⟩
  | _ => ⟨S8192x1536, .f32⟩

abbrev hbmTy0_1 (i : Nat) : BufTy := match i % 128 with
  | 0 => ⟨S1x64x4x4x128x256, .f32⟩
  | 1 => ⟨S_, .f32⟩
  | 2 => ⟨S1x64x4x4x128x256, .f32⟩
  | 3 => ⟨S4x4, .f32⟩
  | 4 => ⟨S1x1x4x4x1x1, .f32⟩
  | 5 => ⟨S_, .f32⟩
  | 6 => ⟨S1x64x4x4x128, .f32⟩
  | 7 => ⟨S1x64x4x4x128x1, .f32⟩
  | 8 => ⟨S1x64x4x4x128x256, .f32⟩
  | 9 => ⟨S1x64x4x4x128x256, .i1⟩
  | 10 => ⟨S1x64x4x4x128x256, .f32⟩
  | 11 => ⟨S_, .f32⟩
  | 12 => ⟨S1x64x4x4x128, .f32⟩
  | 13 => ⟨S1x64x4x4x128x1, .f32⟩
  | 14 => ⟨S1x64x4x4x128x1, .f32⟩
  | 15 => ⟨S1x64x4x4x128x1, .f32⟩
  | 16 => ⟨S1x64x4x4x128x1, .f32⟩
  | 17 => ⟨S1x64x4x4x128x1, .i1⟩
  | 18 => ⟨S1x64x4x4x128x1, .f32⟩
  | 19 => ⟨S1x64x4x4x128x1, .i1⟩
  | 20 => ⟨S_, .f32⟩
  | 21 => ⟨S1x64x4x4x128x1, .f32⟩
  | 22 => ⟨S_, .f32⟩
  | 23 => ⟨S1x64x4x4x128x1, .f32⟩
  | 24 => ⟨S_, .f32⟩
  | 25 => ⟨S1x64x4x4x128x1, .f32⟩
  | 26 => ⟨S1x64x4x4x128x1, .f32⟩
  | 27 => ⟨S1x64x4x4x128x1, .f32⟩
  | 28 => ⟨S1x64x4x4x128x1, .f32⟩
  | 29 => ⟨S1x64x4x4x128x1, .i1⟩
  | 30 => ⟨S1x64x4x4x128x1, .f32⟩
  | 31 => ⟨S1x64x4x4x128x1, .i1⟩
  | 32 => ⟨S_, .f32⟩
  | 33 => ⟨S1x64x4x4x128x1, .f32⟩
  | 34 => ⟨S_, .f32⟩
  | 35 => ⟨S1x64x4x4x128x1, .f32⟩
  | 36 => ⟨S_, .f32⟩
  | 37 => ⟨S1x64x4x4x128x1, .f32⟩
  | 38 => ⟨S1x64x4x4x128x1, .f32⟩
  | 39 => ⟨S1x64x4x4x128x1, .f32⟩
  | 40 => ⟨S1x64x4x4x128x256, .f32⟩
  | 41 => ⟨S1x64x4x4x128x256, .f32⟩
  | 42 => ⟨S1x64x4x4x128x256, .f32⟩
  | 43 => ⟨S_, .f32⟩
  | 44 => ⟨S1x64x4x4x128, .f32⟩
  | 45 => ⟨S1x64x4x4x128x1, .f32⟩
  | 46 => ⟨S1x64x4x4x128x1, .f32⟩
  | 47 => ⟨S1x64x4x4x128x1, .f32⟩
  | 48 => ⟨S1x64x4x4x128x1, .f32⟩
  | 49 => ⟨S1x64x4x4x128x1, .f32⟩
  | 50 => ⟨S1x64x4x4x128x256, .f32⟩
  | 51 => ⟨S1x64x4x4x128x256, .f32⟩
  | 52 => ⟨S1x64x4x4x128x1, .f32⟩
  | 53 => ⟨S_, .f32⟩
  | 54 => ⟨S1x64x4x4x128x1, .f32⟩
  | 55 => ⟨S1x64x4x4x128x1, .f32⟩
  | 56 => ⟨S1x64x4x64x4x128, .f32⟩
  | 57 => ⟨S1x64x128x4x4x64, .f32⟩
  | 58 => ⟨S8192x1024, .f32⟩
  | 59 => ⟨S1x64x128x4x4x64, .f32⟩
  | 60 => ⟨S1x64x4x64x4x128, .f32⟩
  | 61 => ⟨S1x64x4x4x128x256, .f32⟩
  | 62 => ⟨S1x64x4x64x256, .f32⟩
  | 63 => ⟨S1x64x256x4x64, .f32⟩
  | 64 => ⟨S1x64x4x4x128x256, .f32⟩
  | 65 => ⟨S1x64x4x4x128x256, .f32⟩
  | 66 => ⟨S1x64x4x4x128x256, .f32⟩
  | 67 => ⟨S_, .f32⟩
  | 68 => ⟨S1x64x4x4x128, .f32⟩
  | 69 => ⟨S1x64x4x4x128x1, .f32⟩
  | 70 => ⟨S1x64x4x4x128x1, .f32⟩
  | 71 => ⟨S1x64x4x4x128x256, .f32⟩
  | 72 => ⟨S1x64x4x4x128x256, .f32⟩
  | 73 => ⟨S1x64x4x4x128x1, .f32⟩
  | 74 => ⟨S_, .f32⟩
  | 75 => ⟨S1x4x4x1, .f32⟩
  | 76 => ⟨S1x1x4x4x1x1, .f32⟩
  | 77 => ⟨S1x64x4x4x128x1, .f32⟩
  | 78 => ⟨S_, .f32⟩
  | 79 => ⟨S64x4x4x128, .f32⟩
  | 80 => ⟨S1x64x4x4x128, .f32⟩
  | 81 => ⟨S1x64x4x4x128x256, .f32⟩
  | 82 => ⟨S1x64x4x4x128x256, .f32⟩
  | 83 => ⟨S1x64x4x4x128x256, .f32⟩
  | 84 => ⟨S1x64x4x4x128x256, .f32⟩
  | 85 => ⟨S_, .f32⟩
  | 86 => ⟨S1x64x4x4x128, .f32⟩
  | 87 => ⟨S1x64x4x4x128x1, .f32⟩
  | 88 => ⟨S1x64x4x4x128x1, .f32⟩
  | 89 => ⟨S1x64x4x4x128x1, .f32⟩
  | 90 => ⟨S_, .f32⟩
  | 91 => ⟨S1x4x4x1, .f32⟩
  | 92 => ⟨S1x1x4x4x1x1, .f32⟩
  | 93 => ⟨S1x1x4x4x1x1, .f32⟩
  | 94 => ⟨S1x64x4x4x128x1, .f32⟩
  | 95 => ⟨S_, .f32⟩
  | 96 => ⟨S64x4x4x128, .f32⟩
  | 97 => ⟨S1x64x4x4x128, .f32⟩
  | 98 => ⟨S1x64x4x4x128, .f32⟩
  | 99 => ⟨S1x64x4x4x128x256, .f32⟩
  | 100 => ⟨S1x64x4x4x128x256, .f32⟩
  | 101 => ⟨S1x64x4x4x128x256, .f32⟩
  | 102 => ⟨S_, .f32⟩
  | 103 => ⟨S4x4, .f32⟩
  | 104 => ⟨S16, .f32⟩
  | 105 => ⟨S_, .f32⟩
  | 106 => ⟨S1x64x4x4x128x256, .f32⟩
  | 107 => ⟨S1x64x4x4x128x256, .f32⟩
  | 108 => ⟨S_, .f32⟩
  | 109 => ⟨S1x64x4x4x128x256, .f32⟩
  | 110 => ⟨S1x64x4x4x128x256, .f32⟩
  | 111 => ⟨S1x64x4x256x128x4, .f32⟩
  | 112 => ⟨S1x64x4x128x4x64, .f32⟩
  | 113 => ⟨S1x64x128x4x4x64, .f32⟩
  | 114 => ⟨S1x64x4x256x64, .f32⟩
  | 115 => ⟨S1x64x256x4x64, .f32⟩
  | 116 => ⟨S1x64x128x4x64, .f32⟩
  | 117 => ⟨S1x64x128x4x64, .f32⟩
  | 118 => ⟨S1x1x128x4x64, .f32⟩
  | 119 => ⟨S1x63x128x4x64, .f32⟩
  | 120 => ⟨S_, .f32⟩
  | 121 => ⟨S1x64x128x4x64, .f32⟩
  | 122 => ⟨S1x64x128x4x64, .f32⟩
  | 123 => ⟨S1x8192x4x64, .f32⟩
  | 124 => ⟨S1x64x128x4x64, .f32⟩
  | 125 => ⟨S1x64x128x4x64, .f32⟩
  | 126 => ⟨S1x1x128x4x64, .f32⟩
  | 127 => ⟨S1x63x128x4x64, .f32⟩
  | _ => ⟨S8192x1536, .f32⟩

abbrev hbmTy0_2 (i : Nat) : BufTy := match i % 128 with
  | 0 => ⟨S_, .f32⟩
  | 1 => ⟨S1x64x128x4x64, .f32⟩
  | 2 => ⟨S1x64x128x4x64, .f32⟩
  | 3 => ⟨S1x8192x4x64, .f32⟩
  | 4 => ⟨S1x8192x16x64, .f32⟩
  | 5 => ⟨S8192x256, .f32⟩
  | 6 => ⟨S1x8192x4x32, .f32⟩
  | 7 => ⟨S1x8192x4x32, .f32⟩
  | 8 => ⟨S1x8192x4x32, .f32⟩
  | 9 => ⟨S1x8192x4x32, .f32⟩
  | 10 => ⟨S1x8192x4x32, .f32⟩
  | 11 => ⟨S1x8192x4x32, .f32⟩
  | 12 => ⟨S1x8192x4x32, .f32⟩
  | 13 => ⟨S1x8192x4x32, .f32⟩
  | 14 => ⟨S1x8192x4x32, .f32⟩
  | 15 => ⟨S1x8192x4x32, .f32⟩
  | 16 => ⟨S1x8192x4x32, .f32⟩
  | 17 => ⟨S1x8192x4x32, .f32⟩
  | 18 => ⟨S1x8192x4x32, .f32⟩
  | 19 => ⟨S1x8192x4x64, .f32⟩
  | 20 => ⟨S8192x256, .f32⟩
  | 21 => ⟨S1x8192x16x32, .f32⟩
  | 22 => ⟨S1x8192x16x32, .f32⟩
  | 23 => ⟨S1x8192x16x32, .f32⟩
  | 24 => ⟨S1x8192x16x32, .f32⟩
  | 25 => ⟨S1x8192x16x32, .f32⟩
  | 26 => ⟨S1x8192x16x32, .f32⟩
  | 27 => ⟨S1x8192x16x32, .f32⟩
  | 28 => ⟨S1x8192x16x32, .f32⟩
  | 29 => ⟨S1x8192x16x32, .f32⟩
  | 30 => ⟨S1x8192x16x32, .f32⟩
  | 31 => ⟨S1x8192x16x32, .f32⟩
  | 32 => ⟨S1x8192x16x32, .f32⟩
  | 33 => ⟨S1x8192x16x32, .f32⟩
  | 34 => ⟨S1x8192x16x64, .f32⟩
  | 35 => ⟨S8192x1024, .f32⟩
  | 36 => ⟨S8192x1536, .f32⟩
  | 37 => ⟨S8192x1536, .bf16⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_3 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_c : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_8 : Ref sig .tc := ⟨.hbm, 95, rfl⟩
abbrev main_v82 : Ref sig .tc := ⟨.hbm, 96, rfl⟩
abbrev main_v83 : Ref sig .tc := ⟨.hbm, 97, rfl⟩
abbrev main_c_9 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_c_10 : Ref sig .tc := ⟨.hbm, 104, rfl⟩
abbrev main_v89 : Ref sig .tc := ⟨.hbm, 105, rfl⟩
abbrev main_v90 : Ref sig .tc := ⟨.hbm, 106, rfl⟩
abbrev main_c_11 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_c_12 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_13 : Ref sig .tc := ⟨.hbm, 124, rfl⟩
abbrev main_call0_v0 : Ref sig .tc := ⟨.hbm, 125, rfl⟩
abbrev main_v106_1 : Ref sig .tc := ⟨.hbm, 126, rfl⟩
abbrev main_call0_v2 : Ref sig .tc := ⟨.hbm, 127, rfl⟩
abbrev main_v106_0 : Ref sig .tc := ⟨.hbm, 128, rfl⟩
abbrev main_call0_cst : Ref sig .tc := ⟨.hbm, 129, rfl⟩
abbrev main_v106_2 : Ref sig .tc := ⟨.hbm, 130, rfl⟩
abbrev main_v107 : Ref sig .tc := ⟨.hbm, 131, rfl⟩
abbrev main_v108 : Ref sig .tc := ⟨.hbm, 132, rfl⟩
abbrev main_cst_14 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_15 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_16 : Ref sig .tc := ⟨.hbm, 148, rfl⟩
abbrev main_v122 : Ref sig .tc := ⟨.hbm, 149, rfl⟩
abbrev main_cst_17 : Ref sig .tc := ⟨.hbm, 150, rfl⟩
abbrev main_v123 : Ref sig .tc := ⟨.hbm, 151, rfl⟩
abbrev main_cst_18 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_19 : Ref sig .tc := ⟨.hbm, 160, rfl⟩
abbrev main_v131 : Ref sig .tc := ⟨.hbm, 161, rfl⟩
abbrev main_cst_20 : Ref sig .tc := ⟨.hbm, 162, rfl⟩
abbrev main_v132 : Ref sig .tc := ⟨.hbm, 163, rfl⟩
abbrev main_cst_21 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_22 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_23 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_24 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_25 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_26 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_27 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_28 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_29 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_30 : Ref sig .tc := ⟨.hbm, 230, rfl⟩
abbrev main_v190 : Ref sig .tc := ⟨.hbm, 231, rfl⟩
abbrev main_v191 : Ref sig .tc := ⟨.hbm, 232, rfl⟩
abbrev main_call1_cst : Ref sig .tc := ⟨.hbm, 233, rfl⟩
abbrev main_call1_v0 : Ref sig .tc := ⟨.hbm, 234, rfl⟩
abbrev main_v192 : Ref sig .tc := ⟨.hbm, 235, rfl⟩
abbrev main_cst_31 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_cst_32 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_cst_33 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S2816x1024 : Shape := ⟨2, ![2816, 1024]⟩
abbrev S8x352x1024 : Shape := ⟨3, ![8, 352, 1024]⟩
abbrev S_ : Shape := ⟨0, ![]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩
abbrev S1024x1024 : Shape := ⟨2, ![1024, 1024]⟩
abbrev S4x352x1024 : Shape := ⟨3, ![4, 352, 1024]⟩
abbrev S2x1024x1408 : Shape := ⟨3, ![2, 1024, 1408]⟩
abbrev S1408x1024 : Shape := ⟨2, ![1408, 1024]⟩
abbrev S1024x512 : Shape := ⟨2, ![1024, 512]⟩
abbrev S1x1024x512 : Shape := ⟨3, ![1, 1024, 512]⟩
abbrev S384x1024 : Shape := ⟨2, ![384, 1024]⟩
abbrev S1024x384 : Shape := ⟨2, ![1024, 384]⟩
abbrev S1x1024x384 : Shape := ⟨3, ![1, 1024, 384]⟩
abbrev S2048x1408 : Shape := ⟨2, ![2048, 1408]⟩
abbrev S2048x1024 : Shape := ⟨2, ![2048, 1024]⟩
abbrev S2x512x2816 : Shape := ⟨3, ![2, 512, 2816]⟩
abbrev S1024x2816 : Shape := ⟨2, ![1024, 2816]⟩
abbrev S1x512x2816 : Shape := ⟨3, ![1, 512, 2816]⟩
abbrev S512x2816 : Shape := ⟨2, ![512, 2816]⟩

abbrev nBuf : Space → Nat
  | .hbm => 17
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S1024x5632, .bf16⟩
  | .hbm, ⟨6, _⟩ => ⟨S2816x1024, .bf16⟩
  | .hbm, ⟨7, _⟩ => ⟨S8x352x1024, .bf16⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S2x8192x2816, .bf16⟩
  | .hbm, ⟨13, _⟩ => ⟨S8192x2816, .bf16⟩
  | .hbm, ⟨14, _⟩ => ⟨S2x8192x2816, .bf16⟩
  | .hbm, ⟨15, _⟩ => ⟨S2816x1024, .f32⟩
  | .hbm, ⟨16, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1024x1024, .bf16⟩
  | .local _ .vmem, ⟨11, _⟩ => ⟨S1024x1024, .bf16⟩
  | .local _ .vmem, ⟨12, _⟩ => ⟨S4x352x1024, .bf16⟩
  | .local _ .vmem, ⟨13, _⟩ => ⟨S4x352x1024, .bf16⟩
  | .local _ .vmem, ⟨14, _⟩ => ⟨S2x1024x1408, .bf16⟩
  | .local _ .vmem, ⟨15, _⟩ => ⟨S2x1024x1408, .bf16⟩
  | .local _ .vmem, ⟨16, _⟩ => ⟨S2x1024x1408, .bf16⟩
  | .local _ .vmem, ⟨17, _⟩ => ⟨S2x1024x1408, .bf16⟩
  | .local _ .vmem, ⟨18, _⟩ => ⟨S2048x1408, .bf16⟩
  | .local _ .vmem, ⟨19, _⟩ => ⟨S2048x1408, .bf16⟩
  | .local _ .vmem, ⟨20, _⟩ => ⟨S2048x1024, .bf16⟩
  | .local _ .vmem, ⟨21, _⟩ => ⟨S2048x1024, .bf16⟩
  | .local _ .vmem, ⟨22, _⟩ => ⟨S1408x1024, .f32⟩
  | .local _ .vmem, ⟨23, _⟩ => ⟨S1408x1024, .f32⟩
  | .local _ .vmem, ⟨24, _⟩ => ⟨S2x512x2816, .bf16⟩
  | .local _ .vmem, ⟨25, _⟩ => ⟨S2x512x2816, .bf16⟩
  | .local _ .vmem, ⟨26, _⟩ => ⟨S1024x2816, .bf16⟩
  | .local _ .vmem, ⟨27, _⟩ => ⟨S1024x2816, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4x352x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![2, 1, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2816 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x2816 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== Reference2Ideal.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S1024x2816, .f32⟩
  | .hbm, ⟨35, _⟩ => ⟨S2816x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x5632, .f32⟩
  | .hbm, ⟨44, _⟩ => ⟨S5632x1024, .f32⟩
  | .hbm, ⟨45, _⟩ => ⟨S1024x5632, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S8x1024x704 : Shape := ⟨3, ![8, 1024, 704]⟩
abbrev S2048x1024 : Shape := ⟨2, ![2048, 1024]⟩
abbrev S1x2048x1408 : Shape := ⟨3, ![1, 2048, 1408]⟩
abbrev S2x1024x704 : Shape := ⟨3, ![2, 1024, 704]⟩
abbrev S1024x1408 : Shape := ⟨2, ![1024, 1408]⟩
abbrev S2048x1408 : Shape := ⟨2, ![2048, 1408]⟩
abbrev S1024x704 : Shape := ⟨2, ![1024, 704]⟩
abbrev S1x1024x704 : Shape := ⟨3, ![1, 1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S8192x1024, .bf16⟩
  | .hbm, ⟨3, _⟩ => ⟨S2x8192x2816, .bf16⟩
  | .hbm, ⟨4, _⟩ => ⟨S8x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S2x1024x704, .f32⟩
  | .local _ .vmem, ⟨5, _⟩ => ⟨S2x1024x704, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S8192x2816, .f32⟩
  | .hbm, ⟨9, _⟩ => ⟨S1x8192x2816, .f32⟩
  | .hbm, ⟨10, _⟩ => ⟨S8192x2816, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x8x704, .f32⟩
  | .hbm, ⟨15, _⟩ => ⟨S8x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S8x352x1024 : Shape := ⟨3, ![8, 352, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩
abbrev S1x1024 : Shape := ⟨2, ![1, 1024]⟩
abbrev S512x2816 : Shape := ⟨2, ![512, 2816]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x5632, .bf16⟩
  | .hbm, ⟨7, _⟩ => ⟨S2816x1024, .bf16⟩
  | .hbm, ⟨8, _⟩ => ⟨S8x352x1024, .bf16⟩
  | .hbm, ⟨9, _⟩ => ⟨S2x8192x2816, .bf16⟩
  | .hbm, ⟨10, _⟩ => ⟨S8192x2816, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x2816, .bf16⟩
  | .local _ .vmem, ⟨11, _⟩ => ⟨S512x2816, .bf16⟩
  | .local _ .vmem, ⟨12, _⟩ => ⟨S8x352x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x352x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference4Ideal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192x5632 : Shape := ⟨2, ![8192, 5632]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .f32⟩
  | .local _ .vmem, ⟨4, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S8192x1536 : Shape := ⟨2, ![8192, 1536]⟩
abbrev S1024x1536 : Shape := ⟨2, ![1024, 1536]⟩
abbrev S8192x1024 : Shape := ⟨2, ![8192, 1024]⟩
abbrev S512x1536 : Shape := ⟨2, ![512, 1536]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S8192x1536, .bf16⟩
  | .hbm, ⟨4, _⟩ => ⟨S1024x1536, .bf16⟩
  | .hbm, ⟨5, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1536, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1024 : Shape := ⟨1, ![1024]⟩
abbrev S8x128x1024 : Shape := ⟨3, ![8, 128, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S8x128x1024, .bf16⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x128x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S8x128x1024 : Shape := ⟨3, ![8, 128, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8x128x1024, .bf16⟩
  | .hbm, ⟨4, _⟩ => ⟨S8192x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x128x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S8x128x1024 : Shape := ⟨3, ![8, 128, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8x128x1024, .bf16⟩
  | .hbm, ⟨4, _⟩ => ⟨S8192x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S8x128x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel13.lean ====
abbrev S8192x1024 : Shape := ⟨2, ![8192, 1024]⟩
abbrev S8192x2048 : Shape := ⟨2, ![8192, 2048]⟩
abbrev S8x1024x256 : Shape := ⟨3, ![8, 1024, 256]⟩
abbrev S2048x1024 : Shape := ⟨2, ![2048, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S8x1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .f32⟩
  | .local _ .vmem, ⟨5, _⟩ => ⟨S4x1024x256, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S8192x1536 : Shape := ⟨2, ![8192, 1536]⟩
abbrev S8x1024x192 : Shape := ⟨3, ![8, 1024, 192]⟩
abbrev S2048x1024 : Shape := ⟨2, ![2048, 1024]⟩
abbrev S2048x768 : Shape := ⟨2, ![2048, 768]⟩
abbrev S4x1024x192 : Shape := ⟨3, ![4, 1024, 192]⟩
abbrev S1024x768 : Shape := ⟨2, ![1024, 768]⟩
abbrev S1024x192 : Shape := ⟨2, ![1024, 192]⟩
abbrev S1x1024x192 : Shape := ⟨3, ![1, 1024, 192]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S8192x1536, .bf16⟩
  | .hbm, ⟨4, _⟩ => ⟨S8x1024x192, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S4x1024x192, .f32⟩
  | .local _ .vmem, ⟨5, _⟩ => ⟨S4x1024x192, .f32⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x8x192 : Shape := ⟨3, ![1024, 8, 192]⟩
abbrev S8x1024x192 : Shape := ⟨3, ![8, 1024, 192]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1024x8x192, .f32⟩
  | .hbm, ⟨8, _⟩ => ⟨S8x1024x192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RefVal.lean ====
/- The reference program's values, one definition for each operation, as functions of the arguments they depend on. -/
module

public import proofs.«01_k».proof.Proof.Gen.ReferenceIdeal
public import Idealize.ShloMosaic.Lib.StableHlo.Run

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

/-- What an array of a shape and an element type holds. -/
abbrev Arr (F : FTy → Type) (s : Shape) (e : EltTy) := (⟨s, e⟩ : BufTy).Contents (Elt F)

variable {F : FTy → Type} [FloatOps F]

def val_main_v0 : Arr F S8192 .f32 :=
  sitofp .f32 (iotaInDim S8192 32 0)
def val_main_v1 : Arr F S32 .f32 :=
  sitofp .f32 (iotaInDim S32 32 0)
def val_main_cst : Arr F S_ .f32 :=
  constant S_ .f32 0x40000000#32
def val_main_v2 : Arr F S32 .f32 :=
  broadcastInDim S32 ![] bcast_S_S32 val_main_cst
def val_main_v3 : Arr F S32 .f32 :=
  mulf val_main_v2 val_main_v1
def val_main_cst_0 : Arr F S_ .f32 :=
  constant S_ .f32 0x00000000#32
def val_main_v4 : Arr F S32 .f32 :=
  broadcastInDim S32 ![] bcast_S_S32 val_main_cst_0
def val_main_v5 : Arr F S32 .f32 :=
  addf val_main_v4 val_main_v3
def val_main_v6 : Arr F S32 .f32 :=
  Host.negf val_main_v5
def val_main_cst_1 : Arr F S_ .f32 :=
  constant S_ .f32 0x42800000#32
def val_main_v7 : Arr F S32 .f32 :=
  broadcastInDim S32 ![] bcast_S_S32 val_main_cst_1
def val_main_v8 : Arr F S32 .f32 :=
  Host.divf val_main_v6 val_main_v7
def val_main_cst_2 : Arr F S_ .f32 :=
  constant S_ .f32 0x461C4000#32
def val_main_v9 : Arr F S32 .f32 :=
  broadcastInDim S32 ![] bcast_S_S32 val_main_cst_2
def val_main_v10 : Arr F S32 .f32 :=
  Host.powf val_main_v9 val_main_v8
def val_main_v11 : Arr F S8192x1 .f32 :=
  broadcastInDim S8192x1 ![0] bcast_S8192_S8192x1_0 val_main_v0
def val_main_v12 : Arr F S1x32 .f32 :=
  broadcastInDim S1x32 ![1] bcast_S32_S1x32_1 val_main_v10
def val_main_v13 : Arr F S8192x32 .f32 :=
  broadcastInDim S8192x32 ![0, 1] bcast_S8192x1_S8192x32_0_1 val_main_v11
def val_main_v14 : Arr F S8192x32 .f32 :=
  broadcastInDim S8192x32 ![0, 1] bcast_S1x32_S8192x32_0_1 val_main_v12
def val_main_v15 : Arr F S8192x32 .f32 :=
  mulf val_main_v13 val_main_v14
def val_main_v16 : Arr F S8192x32 .f32 :=
  Host.cos val_main_v15
def val_main_v17 : Arr F S8192x32 .f32 :=
  Host.sin val_main_v15
def val_main_v18 (x0 : Arr F S8192x1536 .f32) : Arr F S8192x1024 .f32 :=
  extractStridedSlice S8192x1024 ![0, 0] (x0) slices_S8192x1536_S8192x1024_0_0
def val_main_v19 (x0 : Arr F S8192x1536 .f32) : Arr F S8192x256 .f32 :=
  extractStridedSlice S8192x256 ![0, 1024] (x0) slices_S8192x1536_S8192x256_0_1024
def val_main_v20 (x0 : Arr F S8192x1536 .f32) : Arr F S8192x256 .f32 :=
  extractStridedSlice S8192x256 ![0, 1280] (x0) slices_S8192x1536_S8192x256_0_1280
def val_main_v21 (x0 : Arr F S8192x1536 .f32) : Arr F S1x8192x16x64 .f32 :=
  shapeCast _ (val_main_v18 x0) shapeCasts_S8192x1024_S1x8192x16x64
def val_main_v22 (x0 : Arr F S8192x1536 .f32) : Arr F S1x8192x16x32 .f32 :=
  extractStridedSlice S1x8192x16x32 ![0, 0, 0, 0] (val_main_v21 x0) slices_S1x8192x16x64_S1x8192x16x32_0_0_0_0
def val_main_v23 (x0 : Arr F S8192x1536 .f32) : Arr F S1x8192x16x32 .f32 :=
  extractStridedSlice S1x8192x16x32 ![0, 0, 0, 32] (val_main_v21 x0) slices_S1x8192x16x64_S1x8192x16x32_0_0_0_32
def val_main_v24 : Arr F S1x8192x1x32 .f32 :=
  broadcastInDim S1x8192x1x32 ![1, 3] bcast_S8192x32_S1x8192x1x32_1_3 val_main_v16
def val_main_v25 : Arr F S1x8192x1x32 .f32 :=
  broadcastInDim S1x8192x1x32 ![1, 3] bcast_S8192x32_S1x8192x1x32_1_3 val_main_v17
def val_main_v26 : Arr F S1x8192x16x32 .f32 :=
  broadcastInDim S1x8192x16x32 ![0, 1, 2, 3] bcast_S1x8192x1x32_S1x8192x16x32_0_1_2_3 val_main_v24
def val_main_v27 (x0 : Arr F S8192x1536 .f32) : Arr F S1x8192x16x32 .f32 :=
  mulf (val_main_v22 x0) val_main_v26
def val_main_v28 : Arr F S1x8192x16x32 .f32 :=
  broadcastInDim S1x8192x16x32 ![0, 1, 2, 3] bcast_S1x8192x1x32_S1x8192x16x32_0_1_2_3 val_main_v25
def val_main_v29 (x0 : Arr F S8192x1536 .f32) : Arr F S1x8192x16x32 .f32 :=
  mulf (val_main_v23 x0) val_main_v28
def val_main_v30 (x0 : Arr F S8192x1536 .f32) : Arr F S1x8192x16x32 .f32 :=
  subf (val_main_v27 x0) (val_main_v29 x0)
def val_main_v31 : Arr F S1x8192x16x32 .f32 :=
  broadcastInDim S1x8192x16x32 ![0, 1, 2, 3] bcast_S1x8192x1x32_S1x8192x16x32_0_1_2_3 val_main_v24
def val_main_v32 (x0 : Arr F S8192x1536 .f32) : Arr F S1x8192x16x32 .f32 :=
  mulf (val_main_v23 x0) val_main_v31
def val_main_v33 : Arr F S1x8192x16x32 .f32 :=
  broadcastInDim S1x8192x16x32 ![0, 1, 2, 3] bcast_S1x8192x1x32_S1x8192x16x32_0_1_2_3 val_main_v25
def val_main_v34 (x0 : Arr F S8192x1536 .f32) : Arr F S1x8192x16x32 .f32 :=
  mulf (val_main_v22 x0) val_main_v33
def val_main_v35 (x0 : Arr F S8192x1536 .f32) : Arr F S1x8192x16x32 .f32 :=
  addf (val_main_v32 x0) (val_main_v34 x0)
def val_main_v36 (x0 : Arr F S8192x1536 .f32) : Arr F S1x8192x16x64 .f32 :=
  concatenate S1x8192x16x64 3 [⟨S1x8192x16x32, (val_main_v30 x0)⟩, ⟨S1x8192x16x32, (val_main_v35 x0)⟩] concatenates_S1x8192x16x32_S1x8192x16x32_S1x8192x16x64_d3
def val_main_v37 (x0 : Arr F S8192x1536 .f32) : Arr F S1x8192x4x64 .f32 :=
  shapeCast _ (val_main_v19 x0) shapeCasts_S8192x256_S1x8192x4x64
def val_main_v38 (x0 : Arr F S8192x1536 .f32) : Arr F S1x8192x4x32 .f32 :=
  extractStridedSlice S1x8192x4x32 ![0, 0, 0, 0] (val_main_v37 x0) slices_S1x8192x4x64_S1x8192x4x32_0_0_0_0
def val_main_v39 (x0 : Arr F S8192x1536 .f32) : Arr F S1x8192x4x32 .f32 :=
  extractStridedSlice S1x8192x4x32 ![0, 0, 0, 32] (val_main_v37 x0) slices_S1x8192x4x64_S1x8192x4x32_0_0_0_32
def val_main_v40 : Arr F S1x8192x1x32 .f32 :=
  broadcastInDim S1x8192x1x32 ![1, 3] bcast_S8192x32_S1x8192x1x32_1_3 val_main_v16
def val_main_v41 : Arr F S1x8192x1x32 .f32 :=
  broadcastInDim S1x8192x1x32 ![1, 3] bcast_S8192x32_S1x8192x1x32_1_3 val_main_v17
def val_main_v42 : Arr F S1x8192x4x32 .f32 :=
  broadcastInDim S1x8192x4x32 ![0, 1, 2, 3] bcast_S1x8192x1x32_S1x8192x4x32_0_1_2_3 val_main_v40
def val_main_v43 (x0 : Arr F S8192x1536 .f32) : Arr F S1x8192x4x32 .f32 :=
  mulf (val_main_v38 x0) val_main_v42
def val_main_v44 : Arr F S1x8192x4x32 .f32 :=
  broadcastInDim S1x8192x4x32 ![0, 1, 2, 3] bcast_S1x8192x1x32_S1x8192x4x32_0_1_2_3 val_main_v41
def val_main_v45 (x0 : Arr F S8192x1536 .f32) : Arr F S1x8192x4x32 .f32 :=
  mulf (val_main_v39 x0) val_main_v44
def val_main_v46 (x0 : Arr F S8192x1536 .f32) : Arr F S1x8192x4x32 .f32 :=
  subf (val_main_v43 x0) (val_main_v45 x0)
def val_main_v47 : Arr F S1x8192x4x32 .f32 :=
  broadcastInDim S1x8192x4x32 ![0, 1, 2, 3] bcast_S1x8192x1x32_S1x8192x4x32_0_1_2_3 val_main_v40
def val_main_v48 (x0 : Arr F S8192x1536 .f32) : Arr F S1x8192x4x32 .f32 :=
  mulf (val_main_v39 x0) val_main_v47
def val_main_v49 : Arr F S1x8192x4x32 .f32 :=
  broadcastInDim S1x8192x4x32 ![0, 1, 2, 3] bcast_S1x8192x1x32_S1x8192x4x32_0_1_2_3 val_main_v41
def val_main_v50 (x0 : Arr F S8192x1536 .f32) : Arr F S1x8192x4x32 .f32 :=
  mulf (val_main_v38 x0) val_main_v49
def val_main_v51 (x0 : Arr F S8192x1536 .f32) : Arr F S1x8192x4x32 .f32 :=
  addf (val_main_v48 x0) (val_main_v50 x0)
def val_main_v52 (x0 : Arr F S8192x1536 .f32) : Arr F S1x8192x4x64 .f32 :=
  concatenate S1x8192x4x64 3 [⟨S1x8192x4x32, (val_main_v46 x0)⟩, ⟨S1x8192x4x32, (val_main_v51 x0)⟩] concatenates_S1x8192x4x32_S1x8192x4x32_S1x8192x4x64_d3
def val_main_v53 (x0 : Arr F S8192x1536 .f32) : Arr F S1x8192x4x64 .f32 :=
  shapeCast _ (val_main_v20 x0) shapeCasts_S8192x256_S1x8192x4x64
def val_main_v54 (x0 : Arr F S8192x1536 .f32) : Arr F S1x64x128x4x4x64 .f32 :=
  shapeCast _ (val_main_v36 x0) shapeCasts_S1x8192x16x64_S1x64x128x4x4x64
def val_main_v55 (x0 : Arr F S8192x1536 .f32) : Arr F S1x64x128x4x64 .f32 :=
  shapeCast _ (val_main_v52 x0) shapeCasts_S1x8192x4x64_S1x64x128x4x64
def val_main_v56 (x0 : Arr F S8192x1536 .f32) : Arr F S1x1x128x4x64 .f32 :=
  extractStridedSlice S1x1x128x4x64 ![0, 0, 0, 0, 0] (val_main_v55 x0) slices_S1x64x128x4x64_S1x1x128x4x64_0_0_0_0_0
def val_main_cst_3 : Arr F S_ .f32 :=
  constant S_ .f32 0x00000000#32
def val_main_v57 : Arr F S1x1x128x4x64 .f32 :=
  broadcastInDim S1x1x128x4x64 ![] bcast_S_S1x1x128x4x64 val_main_cst_3
def val_main_v58 (x0 : Arr F S8192x1536 .f32) : Arr F S1x63x128x4x64 .f32 :=
  extractStridedSlice S1x63x128x4x64 ![0, 0, 0, 0, 0] (val_main_v55 x0) slices_S1x64x128x4x64_S1x63x128x4x64_0_0_0_0_0
def val_main_v59 (x0 : Arr F S8192x1536 .f32) : Arr F S1x64x128x4x64 .f32 :=
  concatenate S1x64x128x4x64 1 [⟨S1x1x128x4x64, val_main_v57⟩, ⟨S1x63x128x4x64, (val_main_v58 x0)⟩] concatenates_S1x1x128x4x64_S1x63x128x4x64_S1x64x128x4x64_d1
def val_main_cst_4 : Arr F S_ .f32 :=
  constant S_ .f32 0x00000000#32
def val_main_v60 : Arr F S1x1x128x4x64 .f32 :=
  broadcastInDim S1x1x128x4x64 ![] bcast_S_S1x1x128x4x64 val_main_cst_4
def val_main_v61 (x0 : Arr F S8192x1536 .f32) : Arr F S1x64x256x4x64 .f32 :=
  concatenate S1x64x256x4x64 2 [⟨S1x64x128x4x64, (val_main_v59 x0)⟩, ⟨S1x64x128x4x64, (val_main_v55 x0)⟩] concatenates_S1x64x128x4x64_S1x64x128x4x64_S1x64x256x4x64_d2
def val_main_v62 (x0 : Arr F S8192x1536 .f32) : Arr F S1x64x128x4x64 .f32 :=
  shapeCast _ (val_main_v53 x0) shapeCasts_S1x8192x4x64_S1x64x128x4x64
def val_main_v63 (x0 : Arr F S8192x1536 .f32) : Arr F S1x1x128x4x64 .f32 :=
  extractStridedSlice S1x1x128x4x64 ![0, 0, 0, 0, 0] (val_main_v62 x0) slices_S1x64x128x4x64_S1x1x128x4x64_0_0_0_0_0
def val_main_cst_5 : Arr F S_ .f32 :=
  constant S_ .f32 0x00000000#32
def val_main_v64 : Arr F S1x1x128x4x64 .f32 :=
  broadcastInDim S1x1x128x4x64 ![] bcast_S_S1x1x128x4x64 val_main_cst_5
def val_main_v65 (x0 : Arr F S8192x1536 .f32) : Arr F S1x63x128x4x64 .f32 :=
  extractStridedSlice S1x63x128x4x64 ![0, 0, 0, 0, 0] (val_main_v62 x0) slices_S1x64x128x4x64_S1x63x128x4x64_0_0_0_0_0
def val_main_v66 (x0 : Arr F S8192x1536 .f32) : Arr F S1x64x128x4x64 .f32 :=
  concatenate S1x64x128x4x64 1 [⟨S1x1x128x4x64, val_main_v64⟩, ⟨S1x63x128x4x64, (val_main_v65 x0)⟩] concatenates_S1x1x128x4x64_S1x63x128x4x64_S1x64x128x4x64_d1
def val_main_cst_6 : Arr F S_ .f32 :=
  constant S_ .f32 0x00000000#32
def val_main_v67 : Arr F S1x1x128x4x64 .f32 :=
  broadcastInDim S1x1x128x4x64 ![] bcast_S_S1x1x128x4x64 val_main_cst_6
def val_main_v68 (x0 : Arr F S8192x1536 .f32) : Arr F S1x64x256x4x64 .f32 :=
  concatenate S1x64x256x4x64 2 [⟨S1x64x128x4x64, (val_main_v66 x0)⟩, ⟨S1x64x128x4x64, (val_main_v62 x0)⟩] concatenates_S1x64x128x4x64_S1x64x128x4x64_S1x64x256x4x64_d2
def val_main_v69 (x0 : Arr F S8192x1536 .f32) : Arr F S1x64x4x256x128x4 .f32 :=
  Host.dotGeneral dot_S1x64x256x4x64_S1x64x128x4x4x64_S1x64x4x256x128x4_4_5_2_24_013_013 none (val_main_v61 x0) (val_main_v54 x0)
def val_main_v70 (x0 : Arr F S8192x1536 .f32) : Arr F S1x64x4x4x128x256 .f32 :=
  transpose S1x64x4x4x128x256 [0, 1, 2, 5, 4, 3] (val_main_v69 x0) transposes_S1x64x4x256x128x4_S1x64x4x4x128x256_0_1_2_5_4_3
def val_main_cst_7 : Arr F S_ .f32 :=
  constant S_ .f32 0x3E000000#32
def val_main_v71 : Arr F S1x64x4x4x128x256 .f32 :=
  broadcastInDim S1x64x4x4x128x256 ![] bcast_S_S1x64x4x4x128x256 val_main_cst_7
def val_main_v72 (x0 : Arr F S8192x1536 .f32) : Arr F S1x64x4x4x128x256 .f32 :=
  mulf (val_main_v70 x0) val_main_v71
def val_main_v73 : Arr F S128 .i32 :=
  iotaInDim S128 32 0
def val_main_v74 : Arr F S128x1 .i32 :=
  broadcastInDim S128x1 ![0] bcast_S128_S128x1_0 val_main_v73
def val_main_v75 : Arr F S256 .i32 :=
  iotaInDim S256 32 0
def val_main_v76 : Arr F S1x256 .i32 :=
  broadcastInDim S1x256 ![1] bcast_S256_S1x256_1 val_main_v75
def val_main_c : Arr F S_ .i32 :=
  constantI S_ 32 128#32
def val_main_v77 : Arr F S128x1 .i32 :=
  broadcastInDim S128x1 ![] bcast_S_S128x1 val_main_c
def val_main_v78 : Arr F S128x1 .i32 :=
  addi (val_main_v74 (F := F)) (val_main_v77 (F := F))
def val_main_v79 : Arr F S128x256 .i32 :=
  broadcastInDim S128x256 ![0, 1] bcast_S128x1_S128x256_0_1 val_main_v78
def val_main_v80 : Arr F S128x256 .i32 :=
  broadcastInDim S128x256 ![0, 1] bcast_S1x256_S128x256_0_1 val_main_v76
def val_main_v81 : Arr F S128x256 .i32 :=
  subi (val_main_v79 (F := F)) (val_main_v80 (F := F))
def val_main_c_8 : Arr F S_ .i32 :=
  constantI S_ 32 0#32
def val_main_v82 : Arr F S128x256 .i32 :=
  broadcastInDim S128x256 ![] bcast_S_S128x256 val_main_c_8
def val_main_v83 : Arr F S128x256 .i1 :=
  cmpi .sge (val_main_v81 (F := F)) (val_main_v82 (F := F))
def val_main_c_9 : Arr F S_ .i32 :=
  constantI S_ 32 128#32
def val_main_v84 : Arr F S128x256 .i32 :=
  broadcastInDim S128x256 ![] bcast_S_S128x256 val_main_c_9
def val_main_v85 : Arr F S128x256 .i1 :=
  cmpi .slt (val_main_v81 (F := F)) (val_main_v84 (F := F))
def val_main_v86 : Arr F S128x256 .i1 :=
  andi (val_main_v83 (F := F)) (val_main_v85 (F := F))
def val_main_v87 : Arr F S64 .i32 :=
  iotaInDim S64 32 0
def val_main_v88 : Arr F S64x1 .i32 :=
  broadcastInDim S64x1 ![0] bcast_S64_S64x1_0 val_main_v87
def val_main_c_10 : Arr F S_ .i32 :=
  constantI S_ 32 128#32
def val_main_v89 : Arr F S64x1 .i32 :=
  broadcastInDim S64x1 ![] bcast_S_S64x1 val_main_c_10
def val_main_v90 : Arr F S64x1 .i32 :=
  muli (val_main_v88 (F := F)) (val_main_v89 (F := F))
def val_main_c_11 : Arr F S_ .i32 :=
  constantI S_ 32 128#32
def val_main_v91 : Arr F S64x1 .i32 :=
  broadcastInDim S64x1 ![] bcast_S_S64x1 val_main_c_11
def val_main_v92 : Arr F S64x1 .i32 :=
  subi (val_main_v90 (F := F)) (val_main_v91 (F := F))
def val_main_v93 : Arr F S256 .i32 :=
  iotaInDim S256 32 0
def val_main_v94 : Arr F S1x256 .i32 :=
  broadcastInDim S1x256 ![1] bcast_S256_S1x256_1 val_main_v93
def val_main_v95 : Arr F S64x256 .i32 :=
  broadcastInDim S64x256 ![0, 1] bcast_S64x1_S64x256_0_1 val_main_v92
def val_main_v96 : Arr F S64x256 .i32 :=
  broadcastInDim S64x256 ![0, 1] bcast_S1x256_S64x256_0_1 val_main_v94
def val_main_v97 : Arr F S64x256 .i32 :=
  addi (val_main_v95 (F := F)) (val_main_v96 (F := F))
def val_main_v98 : Arr F S1x128x256 .i1 :=
  broadcastInDim S1x128x256 ![1, 2] bcast_S128x256_S1x128x256_1_2 val_main_v86
def val_main_c_12 : Arr F S_ .i32 :=
  constantI S_ 32 0#32
def val_main_v99 : Arr F S64x256 .i32 :=
  broadcastInDim S64x256 ![] bcast_S_S64x256 val_main_c_12
def val_main_v100 : Arr F S64x256 .i1 :=
  cmpi .sge (val_main_v97 (F := F)) (val_main_v99 (F := F))
def val_main_v101 : Arr F S64x1x256 .i1 :=
  broadcastInDim S64x1x256 ![0, 2] bcast_S64x256_S64x1x256_0_2 val_main_v100
def val_main_v102 : Arr F S64x128x256 .i1 :=
  broadcastInDim S64x128x256 ![0, 1, 2] bcast_S1x128x256_S64x128x256_0_1_2 val_main_v98
def val_main_v103 : Arr F S64x128x256 .i1 :=
  broadcastInDim S64x128x256 ![0, 1, 2] bcast_S64x1x256_S64x128x256_0_1_2 val_main_v101
def val_main_v104 : Arr F S64x128x256 .i1 :=
  andi (val_main_v102 (F := F)) (val_main_v103 (F := F))
def val_main_v105 : Arr F S1x64x1x1x128x256 .i1 :=
  broadcastInDim S1x64x1x1x128x256 ![1, 4, 5] bcast_S64x128x256_S1x64x1x1x128x256_1_4_5 val_main_v104
def val_main_cst_13 : Arr F S_ .f32 :=
  constant S_ .f32 0xFF800000#32
def val_main_call0_v0 : Arr F S_ .f32 :=
  id val_main_cst_13
def val_main_v106_1 : Arr F S1x64x4x4x128x256 .i1 :=
  broadcastInDim S1x64x4x4x128x256 ![0, 1, 2, 3, 4, 5] bcast_S1x64x1x1x128x256_S1x64x4x4x128x256_0_1_2_3_4_5 val_main_v105
def val_main_call0_v2 : Arr F S1x64x4x4x128x256 .f32 :=
  broadcastInDim S1x64x4x4x128x256 ![] bcast_S_S1x64x4x4x128x256 val_main_call0_v0
def val_main_v106_0 (x0 : Arr F S8192x1536 .f32) : Arr F S1x64x4x4x128x256 .f32 :=
  select (val_main_v106_1 (F := F)) (val_main_v72 (F := F) x0) (val_main_call0_v2 (F := F))
def val_main_call0_cst : Arr F S_ .f32 :=
  constant S_ .f32 0x00000000#32
def val_main_v106_2 : Arr F S1x64x4x4x128x256 .f32 :=
  broadcastInDim S1x64x4x4x128x256 ![] bcast_S_S1x64x4x4x128x256 val_main_call0_cst
def val_main_v107 (x2 : Arr F S16 .f32) : Arr F S4x4 .f32 :=
  shapeCast _ (x2) shapeCasts_S16_S4x4
def val_main_v108 (x2 : Arr F S16 .f32) : Arr F S1x1x4x4x1x1 .f32 :=
  broadcastInDim S1x1x4x4x1x1 ![2, 3] bcast_S4x4_S1x1x4x4x1x1_2_3 (val_main_v107 x2)
def val_main_cst_14 : Arr F S_ .f32 :=
  constant S_ .f32 0xFF800000#32
def val_main_v109 (x0 : Arr F S8192x1536 .f32) : Arr F S1x64x4x4x128 .f32 :=
  Host.reduce FloatOps.maximumf (val_main_v106_0 x0) val_main_cst_14 reducesTo_S1x64x4x4x128x256_S1x64x4x4x128_d5 h_S_
def val_main_v110 (x0 : Arr F S8192x1536 .f32) : Arr F S1x64x4x4x128x1 .f32 :=
  shapeCast _ (val_main_v109 x0) shapeCasts_S1x64x4x4x128_S1x64x4x4x128x1
def val_main_v111 (x0 : Arr F S8192x1536 .f32) : Arr F S1x64x4x4x128x256 .f32 :=
  broadcastInDim S1x64x4x4x128x256 ![0, 1, 2, 3, 4, 5] bcast_S1x64x4x4x128x1_S1x64x4x4x128x256_0_1_2_3_4_5 (val_main_v110 x0)
def val_main_v112 (x0 : Arr F S8192x1536 .f32) : Arr F S1x64x4x4x128x256 .i1 :=
  cmpf .oeq (val_main_v106_0 x0) (val_main_v111 x0)
def val_main_v113 (x0 : Arr F S8192x1536 .f32) : Arr F S1x64x4x4x128x256 .f32 :=
  uitofp .f32 (val_main_v112 x0)
def val_main_cst_15 : Arr F S_ .f32 :=
  constant S_ .f32 0x00000000#32
def val_main_v114 (x0 : Arr F S8192x1536 .f32) : Arr F S1x64x4x4x128 .f32 :=
  Host.reduceAdd (val_main_v113 x0) val_main_cst_15 reducesTo_S1x64x4x4x128x256_S1x64x4x4x128_d5 h_S_
def val_main_v115 (x0 : Arr F S8192x1536 .f32) : Arr F S1x64x4x4x128x1 .f32 :=
  broadcastInDim S1x64x4x4x128x1 ![0, 1, 2, 3, 4] bcast_S1x64x4x4x128_S1x64x4x4x128x1_0_1_2_3_4 (val_main_v109 x0)
def val_main_v116 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v117 (x0 : Arr F S8192x1536 .f32) (x2 : Arr F S16 .f32) : Arr F S1x64x4x4x128x1 .f32 :=
  maximumf (val_main_v115 x0) (val_main_v116 x2)
def val_main_v118 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v119 (x0 : Arr F S8192x1536 .f32) (x2 : Arr F S16 .f32) : Arr F S1x64x4x4x128x1 .i1 :=
  cmpf .ogt (val_main_v115 x0) (val_main_v118 x2)
def val_main_v120 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v121 (x0 : Arr F S8192x1536 .f32) (x2 : Arr F S16 .f32) : Arr F S1x64x4x4x128x1 .i1 :=
  cmpf .oeq (val_main_v115 x0) (val_main_v120 x2)
def val_main_cst_16 : Arr F S_ .f32 :=
  constant S_ .f32 0x3F800000#32
def val_main_v122 : Arr F S1x64x4x4x128x1 .f32 :=
  broadcastInDim S1x64x4x4x128x1 ![] bcast_S_S1x64x4x4x128x1 val_main_cst_16
def val_main_cst_17 : Arr F S_ .f32 :=
  constant S_ .f32 0x00000000#32
def val_main_v123 : Arr F S1x64x4x4x128x1 .f32 :=
  broadcastInDim S1x64x4x4x128x1 ![] bcast_S_S1x64x4x4x128x1 val_main_cst_17
def val_main_cst_18 : Arr F S_ .f32 :=
  constant S_ .f32 0x3F000000#32
def val_main_v124 : Arr F S1x64x4x4x128x1 .f32 :=
  broadcastInDim S1x64x4x4x128x1 ![] bcast_S_S1x64x4x4x128x1 val_main_cst_18
def val_main_v125 (x0 : Arr F S8192x1536 .f32) (x2 : Arr F S16 .f32) : Arr F S1x64x4x4x128x1 .f32 :=
  select (val_main_v121 x0 x2) val_main_v124 val_main_v123
def val_main_v126 (x0 : Arr F S8192x1536 .f32) (x2 : Arr F S16 .f32) : Arr F S1x64x4x4x128x1 .f32 :=
  select (val_main_v119 x0 x2) val_main_v122 (val_main_v125 x0 x2)
def val_main_v127 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v128 (x0 : Arr F S8192x1536 .f32) (x2 : Arr F S16 .f32) : Arr F S1x64x4x4x128x1 .i1 :=
  cmpf .ogt (val_main_v127 x2) (val_main_v115 x0)
def val_main_v129 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v130 (x0 : Arr F S8192x1536 .f32) (x2 : Arr F S16 .f32) : Arr F S1x64x4x4x128x1 .i1 :=
  cmpf .oeq (val_main_v129 x2) (val_main_v115 x0)
def val_main_cst_19 : Arr F S_ .f32 :=
  constant S_ .f32 0x3F800000#32
def val_main_v131 : Arr F S1x64x4x4x128x1 .f32 :=
  broadcastInDim S1x64x4x4x128x1 ![] bcast_S_S1x64x4x4x128x1 val_main_cst_19
def val_main_cst_20 : Arr F S_ .f32 :=
  constant S_ .f32 0x00000000#32
def val_main_v132 : Arr F S1x64x4x4x128x1 .f32 :=
  broadcastInDim S1x64x4x4x128x1 ![] bcast_S_S1x64x4x4x128x1 val_main_cst_20
def val_main_cst_21 : Arr F S_ .f32 :=
  constant S_ .f32 0x3F000000#32
def val_main_v133 : Arr F S1x64x4x4x128x1 .f32 :=
  broadcastInDim S1x64x4x4x128x1 ![] bcast_S_S1x64x4x4x128x1 val_main_cst_21
def val_main_v134 (x0 : Arr F S8192x1536 .f32) (x2 : Arr F S16 .f32) : Arr F S1x64x4x4x128x1 .f32 :=
  select (val_main_v130 x0 x2) val_main_v133 val_main_v132
def val_main_v135 (x0 : Arr F S8192x1536 .f32) (x2 : Arr F S16 .f32) : Arr F S1x64x4x4x128x1 .f32 :=
  select (val_main_v128 x0 x2) val_main_v131 (val_main_v134 x0 x2)
def val_main_v136 (x0 : Arr F S8192x1536 .f32) (x2 : Arr F S16 .f32) : Arr F S1x64x4x4x128x256 .f32 :=
  broadcastInDim S1x64x4x4x128x256 ![0, 1, 2, 3, 4, 5] bcast_S1x64x4x4x128x1_S1x64x4x4x128x256_0_1_2_3_4_5 (val_main_v117 x0 x2)
def val_main_v137 (x0 : Arr F S8192x1536 .f32) (x2 : Arr F S16 .f32) : Arr F S1x64x4x4x128x256 .f32 :=
  subf (val_main_v106_0 x0) (val_main_v136 x0 x2)
def val_main_v138 (x0 : Arr F S8192x1536 .f32) (x2 : Arr F S16 .f32) : Arr F S1x64x4x4x128x256 .f32 :=
  Host.exp (val_main_v137 x0 x2)
def val_main_cst_22 : Arr F S_ .f32 :=
  constant S_ .f32 0x00000000#32
def val_main_v139 (x0 : Arr F S8192x1536 .f32) (x2 : Arr F S16 .f32) : Arr F S1x64x4x4x128 .f32 :=
  Host.reduceAdd (val_main_v138 x0 x2) val_main_cst_22 reducesTo_S1x64x4x4x128x256_S1x64x4x4x128_d5 h_S_
def val_main_v140 (x0 : Arr F S8192x1536 .f32) (x2 : Arr F S16 .f32) : Arr F S1x64x4x4x128x1 .f32 :=
  broadcastInDim S1x64x4x4x128x1 ![0, 1, 2, 3, 4] bcast_S1x64x4x4x128_S1x64x4x4x128x1_0_1_2_3_4 (val_main_v139 x0 x2)
def val_main_v141 (x2 : Arr F S16 .f32) : Arr F S1x64x4x4x128x1 .f32 :=
  broadcastInDim S1x64x4x4x128x1 ![0, 1, 2, 3, 4, 5] bcast_S1x1x4x4x1x1_S1x64x4x4x128x1_0_1_2_3_4_5 (val_main_v108 x2)
def val_main_v142 (x0 : Arr F S8192x1536 .f32) (x2 : Arr F S16 .f32) : Arr F S1x64x4x4x128x1 .f32 :=
  subf (val_main_v141 x2) (val_main_v117 x0 x2)
def val_main_v143 (x0 : Arr F S8192x1536 .f32) (x2 : Arr F S16 .f32) : Arr F S1x64x4x4x128x1 .f32 :=
  Host.exp (val_main_v142 x0 x2)
def val_main_v144 (x0 : Arr F S8192x1536 .f32) (x2 : Arr F S16 .f32) : Arr F S1x64x4x4x128x1 .f32 :=
  addf (val_main_v140 x0 x2) (val_main_v143 x0 x2)
def val_main_v145 (x0 : Arr F S8192x1536 .f32) (x2 : Arr F S16 .f32) : Arr F S1x64x4x4x128x256 .f32 :=
  broadcastInDim S1x64x4x4x128x256 ![0, 1, 2, 3, 4, 5] bcast_S1x64x4x4x128x1_S1x64x4x4x128x256_0_1_2_3_4_5 (val_main_v144 x0 x2)
def val_main_v146 (x0 : Arr F S8192x1536 .f32) (x2 : Arr F S16 .f32) : Arr F S1x64x4x4x128x256 .f32 :=
  Host.divf (val_main_v138 x0 x2) (val_main_v145 x0 x2)
def val_main_v147 (x0 : Arr F S8192x1536 .f32) (x2 : Arr F S16 .f32) : Arr F S1x64x4x4x128x1 .f32 :=
  mulf (val_main_v144 x0 x2) (val_main_v144 x0 x2)
def val_main_cst_23 : Arr F S_ .f32 :=
  constant S_ .f32 0x3F800000#32
def val_main_v148 : Arr F S1x64x4x4x128x1 .f32 :=
  broadcastInDim S1x64x4x4x128x1 ![] bcast_S_S1x64x4x4x128x1 val_main_cst_23
def val_main_v149 (x0 : Arr F S8192x1536 .f32) (x2 : Arr F S16 .f32) : Arr F S1x64x4x4x128x1 .f32 :=
  Host.divf val_main_v148 (val_main_v147 x0 x2)
def val_main_v150 (x0 : Arr F S8192x1536 .f32) (x2 : Arr F S16 .f32) : Arr F S1x64x4x64x4x128 .f32 :=
  Host.dotGeneral dot_S1x64x256x4x64_S1x64x4x4x128x256_S1x64x4x64x4x128_2_5_4_34_013_012 none (val_main_v68 x0) (val_main_v146 x0 x2)
def val_main_v151 (x0 : Arr F S8192x1536 .f32) (x2 : Arr F S16 .f32) : Arr F S1x64x128x4x4x64 .f32 :=
  transpose S1x64x128x4x4x64 [0, 1, 5, 2, 4, 3] (val_main_v150 x0 x2) transposes_S1x64x4x64x4x128_S1x64x128x4x4x64_0_1_5_2_4_3
def val_main_v152 (x0 : Arr F S8192x1536 .f32) (x2 : Arr F S16 .f32) : Arr F S8192x1024 .f32 :=
  shapeCast _ (val_main_v151 x0 x2) shapeCasts_S1x64x128x4x4x64_S8192x1024
def val_main_v153 (x1 : Arr F S8192x1024 .f32) : Arr F S1x64x128x4x4x64 .f32 :=
  shapeCast _ (x1) shapeCasts_S8192x1024_S1x64x128x4x4x64
def val_main_v154 (x1 : Arr F S8192x1024 .f32) : Arr F S1x64x4x64x4x128 .f32 :=
  transpose S1x64x4x64x4x128 [0, 1, 3, 5, 4, 2] (val_main_v153 x1) transposes_S1x64x128x4x4x64_S1x64x4x64x4x128_0_1_3_5_4_2
def val_main_v155 (x0 : Arr F S8192x1536 .f32) (x1 : Arr F S8192x1024 .f32) : Arr F S1x64x4x4x128x256 .f32 :=
  Host.dotGeneral dot_S1x64x4x64x4x128_S1x64x256x4x64_S1x64x4x4x128x256_3_4_45_2_012_013 none (val_main_v154 x1) (val_main_v68 x0)
def val_main_v156 (x0 : Arr F S8192x1536 .f32) (x1 : Arr F S8192x1024 .f32) (x2 : Arr F S16 .f32) : Arr F S1x64x4x64x256 .f32 :=
  Host.dotGeneral dot_S1x64x4x64x4x128_S1x64x4x4x128x256_S1x64x4x64x256_45_34_3_5_012_012 none (val_main_v154 x1) (val_main_v146 x0 x2)
def val_main_v157 (x0 : Arr F S8192x1536 .f32) (x1 : Arr F S8192x1024 .f32) (x2 : Arr F S16 .f32) : Arr F S1x64x256x4x64 .f32 :=
  transpose S1x64x256x4x64 [0, 1, 4, 2, 3] (val_main_v156 x0 x1 x2) transposes_S1x64x4x64x256_S1x64x256x4x64_0_1_4_2_3
def val_main_v158 (x0 : Arr F S8192x1536 .f32) (x2 : Arr F S16 .f32) : Arr F S1x64x4x4x128x256 .f32 :=
  broadcastInDim S1x64x4x4x128x256 ![0, 1, 2, 3, 4, 5] bcast_S1x64x4x4x128x1_S1x64x4x4x128x256_0_1_2_3_4_5 (val_main_v149 x0 x2)
def val_main_v159 (x0 : Arr F S8192x1536 .f32) (x1 : Arr F S8192x1024 .f32) (x2 : Arr F S16 .f32) : Arr F S1x64x4x4x128x256 .f32 :=
  mulf (val_main_v155 x0 x1) (val_main_v158 x0 x2)
def val_main_v160 (x0 : Arr F S8192x1536 .f32) (x1 : Arr F S8192x1024 .f32) (x2 : Arr F S16 .f32) : Arr F S1x64x4x4x128x256 .f32 :=
  mulf (val_main_v159 x0 x1 x2) (val_main_v138 x0 x2)
def val_main_cst_24 : Arr F S_ .f32 :=
  constant S_ .f32 0x00000000#32
def val_main_v161 (x0 : Arr F S8192x1536 .f32) (x1 : Arr F S8192x1024 .f32) (x2 : Arr F S16 .f32) : Arr F S1x64x4x4x128 .f32 :=
  Host.reduceAdd (val_main_v160 x0 x1 x2) val_main_cst_24 reducesTo_S1x64x4x4x128x256_S1x64x4x4x128_d5 h_S_
def val_main_v162 (x0 : Arr F S8192x1536 .f32) (x1 : Arr F S8192x1024 .f32) (x2 : Arr F S16 .f32) : Arr F S1x64x4x4x128x1 .f32 :=
  shapeCast _ (val_main_v161 x0 x1 x2) shapeCasts_S1x64x4x4x128_S1x64x4x4x128x1
def val_main_v163 (x0 : Arr F S8192x1536 .f32) (x1 : Arr F S8192x1024 .f32) (x2 : Arr F S16 .f32) : Arr F S1x64x4x4x128x1 .f32 :=
  Host.negf (val_main_v162 x0 x1 x2)
def val_main_v164 (x0 : Arr F S8192x1536 .f32) (x2 : Arr F S16 .f32) : Arr F S1x64x4x4x128x256 .f32 :=
  broadcastInDim S1x64x4x4x128x256 ![0, 1, 2, 3, 4, 5] bcast_S1x64x4x4x128x1_S1x64x4x4x128x256_0_1_2_3_4_5 (val_main_v144 x0 x2)
def val_main_v165 (x0 : Arr F S8192x1536 .f32) (x1 : Arr F S8192x1024 .f32) (x2 : Arr F S16 .f32) : Arr F S1x64x4x4x128x256 .f32 :=
  Host.divf (val_main_v155 x0 x1) (val_main_v164 x0 x2)
def val_main_v166 (x0 : Arr F S8192x1536 .f32) (x1 : Arr F S8192x1024 .f32) (x2 : Arr F S16 .f32) : Arr F S1x64x4x4x128x1 .f32 :=
  mulf (val_main_v163 x0 x1 x2) (val_main_v143 x0 x2)
def val_main_cst_25 : Arr F S_ .f32 :=
  constant S_ .f32 0x00000000#32
def val_main_v167 (x0 : Arr F S8192x1536 .f32) (x1 : Arr F S8192x1024 .f32) (x2 : Arr F S16 .f32) : Arr F S1x4x4x1 .f32 :=
  Host.reduceAdd (val_main_v166 x0 x1 x2) val_main_cst_25 reducesTo_S1x64x4x4x128x1_S1x4x4x1_d1_4 h_S_
def val_main_v168 (x0 : Arr F S8192x1536 .f32) (x1 : Arr F S8192x1024 .f32) (x2 : Arr F S16 .f32) : Arr F S1x1x4x4x1x1 .f32 :=
  shapeCast _ (val_main_v167 x0 x1 x2) shapeCasts_S1x4x4x1_S1x1x4x4x1x1
def val_main_v169 (x0 : Arr F S8192x1536 .f32) (x1 : Arr F S8192x1024 .f32) (x2 : Arr F S16 .f32) : Arr F S1x64x4x4x128x1 .f32 :=
  Host.negf (val_main_v166 x0 x1 x2)
def val_main_cst_26 : Arr F S_ .f32 :=
  constant S_ .f32 0x00000000#32
def val_main_v170 (x0 : Arr F S8192x1536 .f32) (x1 : Arr F S8192x1024 .f32) (x2 : Arr F S16 .f32) : Arr F S64x4x4x128 .f32 :=
  Host.reduceAdd (val_main_v163 x0 x1 x2) val_main_cst_26 reducesTo_S1x64x4x4x128x1_S64x4x4x128_d0_5 h_S_
def val_main_v171 (x0 : Arr F S8192x1536 .f32) (x1 : Arr F S8192x1024 .f32) (x2 : Arr F S16 .f32) : Arr F S1x64x4x4x128 .f32 :=
  broadcastInDim S1x64x4x4x128 ![1, 2, 3, 4] bcast_S64x4x4x128_S1x64x4x4x128_1_2_3_4 (val_main_v170 x0 x1 x2)
def val_main_v172 (x0 : Arr F S8192x1536 .f32) (x1 : Arr F S8192x1024 .f32) (x2 : Arr F S16 .f32) : Arr F S1x64x4x4x128x256 .f32 :=
  broadcastInDim S1x64x4x4x128x256 ![0, 1, 2, 3, 4] bcast_S1x64x4x4x128_S1x64x4x4x128x256_0_1_2_3_4 (val_main_v171 x0 x1 x2)
def val_main_v173 (x0 : Arr F S8192x1536 .f32) (x1 : Arr F S8192x1024 .f32) (x2 : Arr F S16 .f32) : Arr F S1x64x4x4x128x256 .f32 :=
  addf (val_main_v165 x0 x1 x2) (val_main_v172 x0 x1 x2)
def val_main_v174 (x0 : Arr F S8192x1536 .f32) (x1 : Arr F S8192x1024 .f32) (x2 : Arr F S16 .f32) : Arr F S1x64x4x4x128x256 .f32 :=
  mulf (val_main_v173 x0 x1 x2) (val_main_v138 x0 x2)
def val_main_v175 (x0 : Arr F S8192x1536 .f32) (x1 : Arr F S8192x1024 .f32) (x2 : Arr F S16 .f32) : Arr F S1x64x4x4x128x256 .f32 :=
  Host.negf (val_main_v174 x0 x1 x2)
def val_main_cst_27 : Arr F S_ .f32 :=
  constant S_ .f32 0x00000000#32
def val_main_v176 (x0 : Arr F S8192x1536 .f32) (x1 : Arr F S8192x1024 .f32) (x2 : Arr F S16 .f32) : Arr F S1x64x4x4x128 .f32 :=
  Host.reduceAdd (val_main_v175 x0 x1 x2) val_main_cst_27 reducesTo_S1x64x4x4x128x256_S1x64x4x4x128_d5 h_S_
def val_main_v177 (x0 : Arr F S8192x1536 .f32) (x1 : Arr F S8192x1024 .f32) (x2 : Arr F S16 .f32) : Arr F S1x64x4x4x128x1 .f32 :=
  shapeCast _ (val_main_v176 x0 x1 x2) shapeCasts_S1x64x4x4x128_S1x64x4x4x128x1
def val_main_v178 (x0 : Arr F S8192x1536 .f32) (x1 : Arr F S8192x1024 .f32) (x2 : Arr F S16 .f32) : Arr F S1x64x4x4x128x1 .f32 :=
  addf (val_main_v169 x0 x1 x2) (val_main_v177 x0 x1 x2)
def val_main_v179 (x0 : Arr F S8192x1536 .f32) (x1 : Arr F S8192x1024 .f32) (x2 : Arr F S16 .f32) : Arr F S1x64x4x4x128x1 .f32 :=
  mulf (val_main_v178 x0 x1 x2) (val_main_v135 x0 x2)
def val_main_cst_28 : Arr F S_ .f32 :=
  constant S_ .f32 0x00000000#32
def val_main_v180 (x0 : Arr F S8192x1536 .f32) (x1 : Arr F S8192x1024 .f32) (x2 : Arr F S16 .f32) : Arr F S1x4x4x1 .f32 :=
  Host.reduceAdd (val_main_v179 x0 x1 x2) val_main_cst_28 reducesTo_S1x64x4x4x128x1_S1x4x4x1_d1_4 h_S_
def val_main_v181 (x0 : Arr F S8192x1536 .f32) (x1 : Arr F S8192x1024 .f32) (x2 : Arr F S16 .f32) : Arr F S1x1x4x4x1x1 .f32 :=
  shapeCast _ (val_main_v180 x0 x1 x2) shapeCasts_S1x4x4x1_S1x1x4x4x1x1
def val_main_v182 (x0 : Arr F S8192x1536 .f32) (x1 : Arr F S8192x1024 .f32) (x2 : Arr F S16 .f32) : Arr F S1x1x4x4x1x1 .f32 :=
  addf (val_main_v168 x0 x1 x2) (val_main_v181 x0 x1 x2)
def val_main_v183 (x0 : Arr F S8192x1536 .f32) (x1 : Arr F S8192x1024 .f32) (x2 : Arr F S16 .f32) : Arr F S1x64x4x4x128x1 .f32 :=
  mulf (val_main_v178 x0 x1 x2) (val_main_v126 x0 x2)
def val_main_cst_29 : Arr F S_ .f32 :=
  constant S_ .f32 0x00000000#32
def val_main_v184 (x0 : Arr F S8192x1536 .f32) (x1 : Arr F S8192x1024 .f32) (x2 : Arr F S16 .f32) : Arr F S64x4x4x128 .f32 :=
  Host.reduceAdd (val_main_v183 x0 x1 x2) val_main_cst_29 reducesTo_S1x64x4x4x128x1_S64x4x4x128_d0_5 h_S_
def val_main_v185 (x0 : Arr F S8192x1536 .f32) (x1 : Arr F S8192x1024 .f32) (x2 : Arr F S16 .f32) : Arr F S1x64x4x4x128 .f32 :=
  broadcastInDim S1x64x4x4x128 ![1, 2, 3, 4] bcast_S64x4x4x128_S1x64x4x4x128_1_2_3_4 (val_main_v184 x0 x1 x2)
def val_main_v186 (x0 : Arr F S8192x1536 .f32) (x1 : Arr F S8192x1024 .f32) (x2 : Arr F S16 .f32) : Arr F S1x64x4x4x128 .f32 :=
  Host.divf (val_main_v185 x0 x1 x2) (val_main_v114 x0)
def val_main_v187 (x0 : Arr F S8192x1536 .f32) (x1 : Arr F S8192x1024 .f32) (x2 : Arr F S16 .f32) : Arr F S1x64x4x4x128x256 .f32 :=
  broadcastInDim S1x64x4x4x128x256 ![0, 1, 2, 3, 4] bcast_S1x64x4x4x128_S1x64x4x4x128x256_0_1_2_3_4 (val_main_v186 x0 x1 x2)
def val_main_v188 (x0 : Arr F S8192x1536 .f32) (x1 : Arr F S8192x1024 .f32) (x2 : Arr F S16 .f32) : Arr F S1x64x4x4x128x256 .f32 :=
  mulf (val_main_v187 x0 x1 x2) (val_main_v113 x0)
def val_main_v189 (x0 : Arr F S8192x1536 .f32) (x1 : Arr F S8192x1024 .f32) (x2 : Arr F S16 .f32) : Arr F S1x64x4x4x128x256 .f32 :=
  addf (val_main_v174 x0 x1 x2) (val_main_v188 x0 x1 x2)
def val_main_cst_30 : Arr F S_ .f32 :=
  constant S_ .f32 0x00000000#32
def val_main_v190 (x0 : Arr F S8192x1536 .f32) (x1 : Arr F S8192x1024 .f32) (x2 : Arr F S16 .f32) : Arr F S4x4 .f32 :=
  Host.reduceAdd (val_main_v182 x0 x1 x2) val_main_cst_30 reducesTo_S1x1x4x4x1x1_S4x4_d0_1_4_5 h_S_
def val_main_v191 (x0 : Arr F S8192x1536 .f32) (x1 : Arr F S8192x1024 .f32) (x2 : Arr F S16 .f32) : Arr F S16 .f32 :=
  shapeCast _ (val_main_v190 x0 x1 x2) shapeCasts_S4x4_S16
def val_main_call1_cst : Arr F S_ .f32 :=
  constant S_ .f32 0x00000000#32
def val_main_call1_v0 : Arr F S1x64x4x4x128x256 .f32 :=
  broadcastInDim S1x64x4x4x128x256 ![] bcast_S_S1x64x4x4x128x256 val_main_call1_cst
def val_main_v192 (x0 : Arr F S8192x1536 .f32) (x1 : Arr F S8192x1024 .f32) (x2 : Arr F S16 .f32) : Arr F S1x64x4x4x128x256 .f32 :=
  select (val_main_v106_1 (F := F)) (val_main_v189 (F := F) x0 x1 x2) (val_main_call1_v0 (F := F))
def val_main_cst_31 : Arr F S_ .f32 :=
  constant S_ .f32 0x3E000000#32
def val_main_v193 : Arr F S1x64x4x4x128x256 .f32 :=
  broadcastInDim S1x64x4x4x128x256 ![] bcast_S_S1x64x4x4x128x256 val_main_cst_31
def val_main_v194 (x0 : Arr F S8192x1536 .f32) (x1 : Arr F S8192x1024 .f32) (x2 : Arr F S16 .f32) : Arr F S1x64x4x4x128x256 .f32 :=
  mulf (val_main_v192 x0 x1 x2) val_main_v193
def val_main_v195 (x0 : Arr F S8192x1536 .f32) (x1 : Arr F S8192x1024 .f32) (x2 : Arr F S16 .f32) : Arr F S1x64x4x256x128x4 .f32 :=
  transpose S1x64x4x256x128x4 [0, 1, 2, 5, 4, 3] (val_main_v194 x0 x1 x2) transposes_S1x64x4x4x128x256_S1x64x4x256x128x4_0_1_2_5_4_3
def val_main_v196 (x0 : Arr F S8192x1536 .f32) (x1 : Arr F S8192x1024 .f32) (x2 : Arr F S16 .f32) : Arr F S1x64x4x128x4x64 .f32 :=
  Host.dotGeneral dot_S1x64x4x256x128x4_S1x64x256x4x64_S1x64x4x128x4x64_3_2_45_4_012_013 none (val_main_v195 x0 x1 x2) (val_main_v61 x0)
def val_main_v197 (x0 : Arr F S8192x1536 .f32) (x1 : Arr F S8192x1024 .f32) (x2 : Arr F S16 .f32) : Arr F S1x64x128x4x4x64 .f32 :=
  transpose S1x64x128x4x4x64 [0, 1, 3, 2, 4, 5] (val_main_v196 x0 x1 x2) transposes_S1x64x4x128x4x64_S1x64x128x4x4x64_0_1_3_2_4_5
def val_main_v198 (x0 : Arr F S8192x1536 .f32) (x1 : Arr F S8192x1024 .f32) (x2 : Arr F S16 .f32) : Arr F S1x64x4x256x64 .f32 :=
  Host.dotGeneral dot_S1x64x4x256x128x4_S1x64x128x4x4x64_S1x64x4x256x64_45_24_3_5_012_013 none (val_main_v195 x0 x1 x2) (val_main_v54 x0)
def val_main_v199 (x0 : Arr F S8192x1536 .f32) (x1 : Arr F S8192x1024 .f32) (x2 : Arr F S16 .f32) : Arr F S1x64x256x4x64 .f32 :=
  transpose S1x64x256x4x64 [0, 1, 3, 2, 4] (val_main_v198 x0 x1 x2) transposes_S1x64x4x256x64_S1x64x256x4x64_0_1_3_2_4
def val_main_v200 (x0 : Arr F S8192x1536 .f32) (x1 : Arr F S8192x1024 .f32) (x2 : Arr F S16 .f32) : Arr F S1x64x128x4x64 .f32 :=
  extractStridedSlice S1x64x128x4x64 ![0, 0, 0, 0, 0] (val_main_v157 x0 x1 x2) slices_S1x64x256x4x64_S1x64x128x4x64_0_0_0_0_0
def val_main_v201 (x0 : Arr F S8192x1536 .f32) (x1 : Arr F S8192x1024 .f32) (x2 : Arr F S16 .f32) : Arr F S1x64x128x4x64 .f32 :=
  extractStridedSlice S1x64x128x4x64 ![0, 0, 128, 0, 0] (val_main_v157 x0 x1 x2) slices_S1x64x256x4x64_S1x64x128x4x64_0_0_128_0_0
def val_main_v202 (x0 : Arr F S8192x1536 .f32) (x1 : Arr F S8192x1024 .f32) (x2 : Arr F S16 .f32) : Arr F S1x1x128x4x64 .f32 :=
  extractStridedSlice S1x1x128x4x64 ![0, 0, 0, 0, 0] (val_main_v200 x0 x1 x2) slices_S1x64x128x4x64_S1x1x128x4x64_0_0_0_0_0
def val_main_v203 (x0 : Arr F S8192x1536 .f32) (x1 : Arr F S8192x1024 .f32) (x2 : Arr F S16 .f32) : Arr F S1x63x128x4x64 .f32 :=
  extractStridedSlice S1x63x128x4x64 ![0, 1, 0, 0, 0] (val_main_v200 x0 x1 x2) slices_S1x64x128x4x64_S1x63x128x4x64_0_1_0_0_0
def val_main_cst_32 : Arr F S_ .f32 :=
  constant S_ .f32 0x00000000#32
def val_main_v204 (x0 : Arr F S8192x1536 .f32) (x1 : Arr F S8192x1024 .f32) (x2 : Arr F S16 .f32) : Arr F S1x64x128x4x64 .f32 :=
  pad S1x64x128x4x64 ![0, 0, 0, 0, 0] ![0, 1, 0, 0, 0] ![0, 0, 0, 0, 0] (val_main_v203 x0 x1 x2) val_main_cst_32 pads_S1x63x128x4x64_S1x64x128x4x64_000_010_000_000_000 h_S_
def val_main_v205 (x0 : Arr F S8192x1536 .f32) (x1 : Arr F S8192x1024 .f32) (x2 : Arr F S16 .f32) : Arr F S1x64x128x4x64 .f32 :=
  addf (val_main_v201 x0 x1 x2) (val_main_v204 x0 x1 x2)
def val_main_v206 (x0 : Arr F S8192x1536 .f32) (x1 : Arr F S8192x1024 .f32) (x2 : Arr F S16 .f32) : Arr F S1x8192x4x64 .f32 :=
  shapeCast _ (val_main_v205 x0 x1 x2) shapeCasts_S1x64x128x4x64_S1x8192x4x64
def val_main_v207 (x0 : Arr F S8192x1536 .f32) (x1 : Arr F S8192x1024 .f32) (x2 : Arr F S16 .f32) : Arr F S1x64x128x4x64 .f32 :=
  extractStridedSlice S1x64x128x4x64 ![0, 0, 0, 0, 0] (val_main_v199 x0 x1 x2) slices_S1x64x256x4x64_S1x64x128x4x64_0_0_0_0_0
def val_main_v208 (x0 : Arr F S8192x1536 .f32) (x1 : Arr F S8192x1024 .f32) (x2 : Arr F S16 .f32) : Arr F S1x64x128x4x64 .f32 :=
  extractStridedSlice S1x64x128x4x64 ![0, 0, 128, 0, 0] (val_main_v199 x0 x1 x2) slices_S1x64x256x4x64_S1x64x128x4x64_0_0_128_0_0
def val_main_v209 (x0 : Arr F S8192x1536 .f32) (x1 : Arr F S8192x1024 .f32) (x2 : Arr F S16 .f32) : Arr F S1x1x128x4x64 .f32 :=
  extractStridedSlice S1x1x128x4x64 ![0, 0, 0, 0, 0] (val_main_v207 x0 x1 x2) slices_S1x64x128x4x64_S1x1x128x4x64_0_0_0_0_0
def val_main_v210 (x0 : Arr F S8192x1536 .f32) (x1 : Arr F S8192x1024 .f32) (x2 : Arr F S16 .f32) : Arr F S1x63x128x4x64 .f32 :=
  extractStridedSlice S1x63x128x4x64 ![0, 1, 0, 0, 0] (val_main_v207 x0 x1 x2) slices_S1x64x128x4x64_S1x63x128x4x64_0_1_0_0_0
def val_main_cst_33 : Arr F S_ .f32 :=
  constant S_ .f32 0x00000000#32
def val_main_v211 (x0 : Arr F S8192x1536 .f32) (x1 : Arr F S8192x1024 .f32) (x2 : Arr F S16 .f32) : Arr F S1x64x128x4x64 .f32 :=
  pad S1x64x128x4x64 ![0, 0, 0, 0, 0] ![0, 1, 0, 0, 0] ![0, 0, 0, 0, 0] (val_main_v210 x0 x1 x2) val_main_cst_33 pads_S1x63x128x4x64_S1x64x128x4x64_000_010_000_000_000 h_S_
def val_main_v212 (x0 : Arr F S8192x1536 .f32) (x1 : Arr F S8192x1024 .f32) (x2 : Arr F S16 .f32) : Arr F S1x64x128x4x64 .f32 :=
  addf (val_main_v208 x0 x1 x2) (val_main_v211 x0 x1 x2)
def val_main_v213 (x0 : Arr F S8192x1536 .f32) (x1 : Arr F S8192x1024 .f32) (x2 : Arr F S16 .f32) : Arr F S1x8192x4x64 .f32 :=
  shapeCast _ (val_main_v212 x0 x1 x2) shapeCasts_S1x64x128x4x64_S1x8192x4x64
def val_main_v214 (x0 : Arr F S8192x1536 .f32) (x1 : Arr F S8192x1024 .f32) (x2 : Arr F S16 .f32) : Arr F S1x8192x16x64 .f32 :=
  shapeCast _ (val_main_v197 x0 x1 x2) shapeCasts_S1x64x128x4x4x64_S1x8192x16x64
def val_main_v215 (x0 : Arr F S8192x1536 .f32) (x1 : Arr F S8192x1024 .f32) (x2 : Arr F S16 .f32) : Arr F S8192x256 .f32 :=
  shapeCast _ (val_main_v206 x0 x1 x2) shapeCasts_S1x8192x4x64_S8192x256
def val_main_v216 (x0 : Arr F S8192x1536 .f32) (x1 : Arr F S8192x1024 .f32) (x2 : Arr F S16 .f32) : Arr F S1x8192x4x32 .f32 :=
  extractStridedSlice S1x8192x4x32 ![0, 0, 0, 0] (val_main_v213 x0 x1 x2) slices_S1x8192x4x64_S1x8192x4x32_0_0_0_0
def val_main_v217 (x0 : Arr F S8192x1536 .f32) (x1 : Arr F S8192x1024 .f32) (x2 : Arr F S16 .f32) : Arr F S1x8192x4x32 .f32 :=
  extractStridedSlice S1x8192x4x32 ![0, 0, 0, 32] (val_main_v213 x0 x1 x2) slices_S1x8192x4x64_S1x8192x4x32_0_0_0_32
def val_main_v218 : Arr F S1x8192x4x32 .f32 :=
  broadcastInDim S1x8192x4x32 ![0, 1, 2, 3] bcast_S1x8192x1x32_S1x8192x4x32_0_1_2_3 val_main_v41
def val_main_v219 (x0 : Arr F S8192x1536 .f32) (x1 : Arr F S8192x1024 .f32) (x2 : Arr F S16 .f32) : Arr F S1x8192x4x32 .f32 :=
  mulf (val_main_v217 x0 x1 x2) val_main_v218
def val_main_v220 : Arr F S1x8192x4x32 .f32 :=
  broadcastInDim S1x8192x4x32 ![0, 1, 2, 3] bcast_S1x8192x1x32_S1x8192x4x32_0_1_2_3 val_main_v40
def val_main_v221 (x0 : Arr F S8192x1536 .f32) (x1 : Arr F S8192x1024 .f32) (x2 : Arr F S16 .f32) : Arr F S1x8192x4x32 .f32 :=
  mulf (val_main_v217 x0 x1 x2) val_main_v220
def val_main_v222 (x0 : Arr F S8192x1536 .f32) (x1 : Arr F S8192x1024 .f32) (x2 : Arr F S16 .f32) : Arr F S1x8192x4x32 .f32 :=
  Host.negf (val_main_v216 x0 x1 x2)
def val_main_v223 : Arr F S1x8192x4x32 .f32 :=
  broadcastInDim S1x8192x4x32 ![0, 1, 2, 3] bcast_S1x8192x1x32_S1x8192x4x32_0_1_2_3 val_main_v41
def val_main_v224 (x0 : Arr F S8192x1536 .f32) (x1 : Arr F S8192x1024 .f32) (x2 : Arr F S16 .f32) : Arr F S1x8192x4x32 .f32 :=
  mulf (val_main_v222 x0 x1 x2) val_main_v223
def val_main_v225 (x0 : Arr F S8192x1536 .f32) (x1 : Arr F S8192x1024 .f32) (x2 : Arr F S16 .f32) : Arr F S1x8192x4x32 .f32 :=
  addf (val_main_v221 x0 x1 x2) (val_main_v224 x0 x1 x2)
def val_main_v226 : Arr F S1x8192x4x32 .f32 :=
  broadcastInDim S1x8192x4x32 ![0, 1, 2, 3] bcast_S1x8192x1x32_S1x8192x4x32_0_1_2_3 val_main_v40
def val_main_v227 (x0 : Arr F S8192x1536 .f32) (x1 : Arr F S8192x1024 .f32) (x2 : Arr F S16 .f32) : Arr F S1x8192x4x32 .f32 :=
  mulf (val_main_v216 x0 x1 x2) val_main_v226
def val_main_v228 (x0 : Arr F S8192x1536 .f32) (x1 : Arr F S8192x1024 .f32) (x2 : Arr F S16 .f32) : Arr F S1x8192x4x32 .f32 :=
  addf (val_main_v219 x0 x1 x2) (val_main_v227 x0 x1 x2)
def val_main_v229 (x0 : Arr F S8192x1536 .f32) (x1 : Arr F S8192x1024 .f32) (x2 : Arr F S16 .f32) : Arr F S1x8192x4x64 .f32 :=
  concatenate S1x8192x4x64 3 [⟨S1x8192x4x32, (val_main_v228 x0 x1 x2)⟩, ⟨S1x8192x4x32, (val_main_v225 x0 x1 x2)⟩] concatenates_S1x8192x4x32_S1x8192x4x32_S1x8192x4x64_d3
def val_main_v230 (x0 : Arr F S8192x1536 .f32) (x1 : Arr F S8192x1024 .f32) (x2 : Arr F S16 .f32) : Arr F S8192x256 .f32 :=
  shapeCast _ (val_main_v229 x0 x1 x2) shapeCasts_S1x8192x4x64_S8192x256
def val_main_v231 (x0 : Arr F S8192x1536 .f32) (x1 : Arr F S8192x1024 .f32) (x2 : Arr F S16 .f32) : Arr F S1x8192x16x32 .f32 :=
  extractStridedSlice S1x8192x16x32 ![0, 0, 0, 0] (val_main_v214 x0 x1 x2) slices_S1x8192x16x64_S1x8192x16x32_0_0_0_0
def val_main_v232 (x0 : Arr F S8192x1536 .f32) (x1 : Arr F S8192x1024 .f32) (x2 : Arr F S16 .f32) : Arr F S1x8192x16x32 .f32 :=
  extractStridedSlice S1x8192x16x32 ![0, 0, 0, 32] (val_main_v214 x0 x1 x2) slices_S1x8192x16x64_S1x8192x16x32_0_0_0_32
def val_main_v233 : Arr F S1x8192x16x32 .f32 :=
  broadcastInDim S1x8192x16x32 ![0, 1, 2, 3] bcast_S1x8192x1x32_S1x8192x16x32_0_1_2_3 val_main_v25
def val_main_v234 (x0 : Arr F S8192x1536 .f32) (x1 : Arr F S8192x1024 .f32) (x2 : Arr F S16 .f32) : Arr F S1x8192x16x32 .f32 :=
  mulf (val_main_v232 x0 x1 x2) val_main_v233
def val_main_v235 : Arr F S1x8192x16x32 .f32 :=
  broadcastInDim S1x8192x16x32 ![0, 1, 2, 3] bcast_S1x8192x1x32_S1x8192x16x32_0_1_2_3 val_main_v24
def val_main_v236 (x0 : Arr F S8192x1536 .f32) (x1 : Arr F S8192x1024 .f32) (x2 : Arr F S16 .f32) : Arr F S1x8192x16x32 .f32 :=
  mulf (val_main_v232 x0 x1 x2) val_main_v235
def val_main_v237 (x0 : Arr F S8192x1536 .f32) (x1 : Arr F S8192x1024 .f32) (x2 : Arr F S16 .f32) : Arr F S1x8192x16x32 .f32 :=
  Host.negf (val_main_v231 x0 x1 x2)
def val_main_v238 : Arr F S1x8192x16x32 .f32 :=
  broadcastInDim S1x8192x16x32 ![0, 1, 2, 3] bcast_S1x8192x1x32_S1x8192x16x32_0_1_2_3 val_main_v25
def val_main_v239 (x0 : Arr F S8192x1536 .f32) (x1 : Arr F S8192x1024 .f32) (x2 : Arr F S16 .f32) : Arr F S1x8192x16x32 .f32 :=
  mulf (val_main_v237 x0 x1 x2) val_main_v238
def val_main_v240 (x0 : Arr F S8192x1536 .f32) (x1 : Arr F S8192x1024 .f32) (x2 : Arr F S16 .f32) : Arr F S1x8192x16x32 .f32 :=
  addf (val_main_v236 x0 x1 x2) (val_main_v239 x0 x1 x2)
def val_main_v241 : Arr F S1x8192x16x32 .f32 :=
  broadcastInDim S1x8192x16x32 ![0, 1, 2, 3] bcast_S1x8192x1x32_S1x8192x16x32_0_1_2_3 val_main_v24
def val_main_v242 (x0 : Arr F S8192x1536 .f32) (x1 : Arr F S8192x1024 .f32) (x2 : Arr F S16 .f32) : Arr F S1x8192x16x32 .f32 :=
  mulf (val_main_v231 x0 x1 x2) val_main_v241
def val_main_v243 (x0 : Arr F S8192x1536 .f32) (x1 : Arr F S8192x1024 .f32) (x2 : Arr F S16 .f32) : Arr F S1x8192x16x32 .f32 :=
  addf (val_main_v234 x0 x1 x2) (val_main_v242 x0 x1 x2)
def val_main_v244 (x0 : Arr F S8192x1536 .f32) (x1 : Arr F S8192x1024 .f32) (x2 : Arr F S16 .f32) : Arr F S1x8192x16x64 .f32 :=
  concatenate S1x8192x16x64 3 [⟨S1x8192x16x32, (val_main_v243 x0 x1 x2)⟩, ⟨S1x8192x16x32, (val_main_v240 x0 x1 x2)⟩] concatenates_S1x8192x16x32_S1x8192x16x32_S1x8192x16x64_d3
def val_main_v245 (x0 : Arr F S8192x1536 .f32) (x1 : Arr F S8192x1024 .f32) (x2 : Arr F S16 .f32) : Arr F S8192x1024 .f32 :=
  shapeCast _ (val_main_v244 x0 x1 x2) shapeCasts_S1x8192x16x64_S8192x1024
def val_main_v246 (x0 : Arr F S8192x1536 .f32) (x1 : Arr F S8192x1024 .f32) (x2 : Arr F S16 .f32) : Arr F S8192x1536 .f32 :=
  (concatenate S8192x1536 1 [⟨S8192x1024, ((val_main_v245 x0 x1 x2) : Arr F S8192x1024 .f32)⟩, ⟨S8192x256, ((val_main_v230 x0 x1 x2) : Arr F S8192x256 .f32)⟩, ⟨S8192x256, ((val_main_v215 x0 x1 x2) : Arr F S8192x256 .f32)⟩] concatenates_S8192x1024_S8192x256_S8192x256_S8192x1536_d1 : Arr F S8192x1536 .f32)
def val_main_v247 (x0 : Arr F S8192x1536 .f32) (x1 : Arr F S8192x1024 .f32) (x2 : Arr F S16 .f32) : Arr F S8192x1536 .bf16 :=
  truncf .bf16 (val_main_v246 x0 x1 x2) bitsLt_bf16_f32

end Cert.ReferenceIdeal.Read

end
-- ==== Proof.RefOps.lean ====
/- The reference program as a list of operations, in windows. -/
module

public import proofs.«01_k».proof.Proof.RefVal

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def fn_main_v36 : Arr F S1x8192x16x32 .f32 → Arr F S1x8192x16x32 .f32 → Arr F S1x8192x16x64 .f32 :=
  (fun a b => concatenate S1x8192x16x64 3 [⟨S1x8192x16x32, a⟩, ⟨S1x8192x16x32, b⟩] concatenates_S1x8192x16x32_S1x8192x16x32_S1x8192x16x64_d3)

def fn_main_v52 : Arr F S1x8192x4x32 .f32 → Arr F S1x8192x4x32 .f32 → Arr F S1x8192x4x64 .f32 :=
  (fun a b => concatenate S1x8192x4x64 3 [⟨S1x8192x4x32, a⟩, ⟨S1x8192x4x32, b⟩] concatenates_S1x8192x4x32_S1x8192x4x32_S1x8192x4x64_d3)

def fn_main_v59 : Arr F S1x1x128x4x64 .f32 → Arr F S1x63x128x4x64 .f32 → Arr F S1x64x128x4x64 .f32 :=
  (fun a b => concatenate S1x64x128x4x64 1 [⟨S1x1x128x4x64, a⟩, ⟨S1x63x128x4x64, b⟩] concatenates_S1x1x128x4x64_S1x63x128x4x64_S1x64x128x4x64_d1)

def fn_main_v61 : Arr F S1x64x128x4x64 .f32 → Arr F S1x64x128x4x64 .f32 → Arr F S1x64x256x4x64 .f32 :=
  (fun a b => concatenate S1x64x256x4x64 2 [⟨S1x64x128x4x64, a⟩, ⟨S1x64x128x4x64, b⟩] concatenates_S1x64x128x4x64_S1x64x128x4x64_S1x64x256x4x64_d2)

def fn_main_v66 : Arr F S1x1x128x4x64 .f32 → Arr F S1x63x128x4x64 .f32 → Arr F S1x64x128x4x64 .f32 :=
  (fun a b => concatenate S1x64x128x4x64 1 [⟨S1x1x128x4x64, a⟩, ⟨S1x63x128x4x64, b⟩] concatenates_S1x1x128x4x64_S1x63x128x4x64_S1x64x128x4x64_d1)

def fn_main_v68 : Arr F S1x64x128x4x64 .f32 → Arr F S1x64x128x4x64 .f32 → Arr F S1x64x256x4x64 .f32 :=
  (fun a b => concatenate S1x64x256x4x64 2 [⟨S1x64x128x4x64, a⟩, ⟨S1x64x128x4x64, b⟩] concatenates_S1x64x128x4x64_S1x64x128x4x64_S1x64x256x4x64_d2)

def fn_main_v229 : Arr F S1x8192x4x32 .f32 → Arr F S1x8192x4x32 .f32 → Arr F S1x8192x4x64 .f32 :=
  (fun a b => concatenate S1x8192x4x64 3 [⟨S1x8192x4x32, a⟩, ⟨S1x8192x4x32, b⟩] concatenates_S1x8192x4x32_S1x8192x4x32_S1x8192x4x64_d3)

def fn_main_v244 : Arr F S1x8192x16x32 .f32 → Arr F S1x8192x16x32 .f32 → Arr F S1x8192x16x64 .f32 :=
  (fun a b => concatenate S1x8192x16x64 3 [⟨S1x8192x16x32, a⟩, ⟨S1x8192x16x32, b⟩] concatenates_S1x8192x16x32_S1x8192x16x32_S1x8192x16x64_d3)

def fn_main_v246 : (main_v245 : Ref sig .tc).ty.Contents (Elt F) → (main_v230 : Ref sig .tc).ty.Contents (Elt F) → (main_v215 : Ref sig .tc).ty.Contents (Elt F) → (main_v246 : Ref sig .tc).ty.Contents (Elt F) :=
  (fun u0 u1 u2 => (concatenate S8192x1536 1 [⟨S8192x1024, (u0 : Arr F S8192x1024 .f32)⟩, ⟨S8192x256, (u1 : Arr F S8192x256 .f32)⟩, ⟨S8192x256, (u2 : Arr F S8192x256 .f32)⟩] concatenates_S8192x1024_S8192x256_S8192x256_S8192x1536_d1 : Arr F S8192x1536 .f32))

abbrev ops0 : List (HloOp τ sig (Elt F)) :=
  [ nullary main_v0 (sitofp .f32 (iotaInDim S8192 32 0)),
    nullary main_v1 (sitofp .f32 (iotaInDim S32 32 0)),
    nullary main_cst (constant S_ .f32 0x40000000#32),
    unary main_cst main_v2 (broadcastInDim S32 ![] bcast_S_S32 : Arr F S_ .f32 → Arr F S32 .f32),
    binary main_v2 main_v1 main_v3 (mulf : Arr F S32 .f32 → Arr F S32 .f32 → Arr F S32 .f32),
    nullary main_cst_0 (constant S_ .f32 0x00000000#32),
    unary main_cst_0 main_v4 (broadcastInDim S32 ![] bcast_S_S32 : Arr F S_ .f32 → Arr F S32 .f32),
    binary main_v4 main_v3 main_v5 (addf : Arr F S32 .f32 → Arr F S32 .f32 → Arr F S32 .f32),
    unary main_v5 main_v6 (Host.negf : Arr F S32 .f32 → Arr F S32 .f32),
    nullary main_cst_1 (constant S_ .f32 0x42800000#32),
    unary main_cst_1 main_v7 (broadcastInDim S32 ![] bcast_S_S32 : Arr F S_ .f32 → Arr F S32 .f32),
    binary main_v6 main_v7 main_v8 (Host.divf : Arr F S32 .f32 → Arr F S32 .f32 → Arr F S32 .f32) ]
abbrev ops1 : List (HloOp τ sig (Elt F)) :=
  [ nullary main_cst_2 (constant S_ .f32 0x461C4000#32),
    unary main_cst_2 main_v9 (broadcastInDim S32 ![] bcast_S_S32 : Arr F S_ .f32 → Arr F S32 .f32),
    binary main_v9 main_v8 main_v10 (Host.powf : Arr F S32 .f32 → Arr F S32 .f32 → Arr F S32 .f32),
    unary main_v0 main_v11 (broadcastInDim S8192x1 ![0] bcast_S8192_S8192x1_0 : Arr F S8192 .f32 → Arr F S8192x1 .f32),
    unary main_v10 main_v12 (broadcastInDim S1x32 ![1] bcast_S32_S1x32_1 : Arr F S32 .f32 → Arr F S1x32 .f32),
    unary main_v11 main_v13 (broadcastInDim S8192x32 ![0, 1] bcast_S8192x1_S8192x32_0_1 : Arr F S8192x1 .f32 → Arr F S8192x32 .f32),
    unary main_v12 main_v14 (broadcastInDim S8192x32 ![0, 1] bcast_S1x32_S8192x32_0_1 : Arr F S1x32 .f32 → Arr F S8192x32 .f32),
    binary main_v13 main_v14 main_v15 (mulf : Arr F S8192x32 .f32 → Arr F S8192x32 .f32 → Arr F S8192x32 .f32),
    unary main_v15 main_v16 (Host.cos : Arr F S8192x32 .f32 → Arr F S8192x32 .f32),
    unary main_v15 main_v17 (Host.sin : Arr F S8192x32 .f32 → Arr F S8192x32 .f32),
    unary main_arg0 main_v18 ((extractStridedSlice S8192x1024 ![0, 0] · slices_S8192x1536_S8192x1024_0_0) : Arr F S8192x1536 .f32 → Arr F S8192x1024 .f32),
    unary main_arg0 main_v19 ((extractStridedSlice S8192x256 ![0, 1024] · slices_S8192x1536_S8192x256_0_1024) : Arr F S8192x1536 .f32 → Arr F S8192x256 .f32) ]
abbrev ops2 : List (HloOp τ sig (Elt F)) :=
  [ unary main_arg0 main_v20 ((extractStridedSlice S8192x256 ![0, 1280] · slices_S8192x1536_S8192x256_0_1280) : Arr F S8192x1536 .f32 → Arr F S8192x256 .f32),
    reshape main_v18 main_v21 (rfl : (.f32 : EltTy) = .f32) shapeCasts_S8192x1024_S1x8192x16x64,
    unary main_v21 main_v22 ((extractStridedSlice S1x8192x16x32 ![0, 0, 0, 0] · slices_S1x8192x16x64_S1x8192x16x32_0_0_0_0) : Arr F S1x8192x16x64 .f32 → Arr F S1x8192x16x32 .f32),
    unary main_v21 main_v23 ((extractStridedSlice S1x8192x16x32 ![0, 0, 0, 32] · slices_S1x8192x16x64_S1x8192x16x32_0_0_0_32) : Arr F S1x8192x16x64 .f32 → Arr F S1x8192x16x32 .f32),
    unary main_v16 main_v24 (broadcastInDim S1x8192x1x32 ![1, 3] bcast_S8192x32_S1x8192x1x32_1_3 : Arr F S8192x32 .f32 → Arr F S1x8192x1x32 .f32),
    unary main_v17 main_v25 (broadcastInDim S1x8192x1x32 ![1, 3] bcast_S8192x32_S1x8192x1x32_1_3 : Arr F S8192x32 .f32 → Arr F S1x8192x1x32 .f32),
    unary main_v24 main_v26 (broadcastInDim S1x8192x16x32 ![0, 1, 2, 3] bcast_S1x8192x1x32_S1x8192x16x32_0_1_2_3 : Arr F S1x8192x1x32 .f32 → Arr F S1x8192x16x32 .f32),
    binary main_v22 main_v26 main_v27 (mulf : Arr F S1x8192x16x32 .f32 → Arr F S1x8192x16x32 .f32 → Arr F S1x8192x16x32 .f32),
    unary main_v25 main_v28 (broadcastInDim S1x8192x16x32 ![0, 1, 2, 3] bcast_S1x8192x1x32_S1x8192x16x32_0_1_2_3 : Arr F S1x8192x1x32 .f32 → Arr F S1x8192x16x32 .f32),
    binary main_v23 main_v28 main_v29 (mulf : Arr F S1x8192x16x32 .f32 → Arr F S1x8192x16x32 .f32 → Arr F S1x8192x16x32 .f32),
    binary main_v27 main_v29 main_v30 (subf : Arr F S1x8192x16x32 .f32 → Arr F S1x8192x16x32 .f32 → Arr F S1x8192x16x32 .f32),
    unary main_v24 main_v31 (broadcastInDim S1x8192x16x32 ![0, 1, 2, 3] bcast_S1x8192x1x32_S1x8192x16x32_0_1_2_3 : Arr F S1x8192x1x32 .f32 → Arr F S1x8192x16x32 .f32) ]
abbrev ops3 : List (HloOp τ sig (Elt F)) :=
  [ binary main_v23 main_v31 main_v32 (mulf : Arr F S1x8192x16x32 .f32 → Arr F S1x8192x16x32 .f32 → Arr F S1x8192x16x32 .f32),
    unary main_v25 main_v33 (broadcastInDim S1x8192x16x32 ![0, 1, 2, 3] bcast_S1x8192x1x32_S1x8192x16x32_0_1_2_3 : Arr F S1x8192x1x32 .f32 → Arr F S1x8192x16x32 .f32),
    binary main_v22 main_v33 main_v34 (mulf : Arr F S1x8192x16x32 .f32 → Arr F S1x8192x16x32 .f32 → Arr F S1x8192x16x32 .f32),
    binary main_v32 main_v34 main_v35 (addf : Arr F S1x8192x16x32 .f32 → Arr F S1x8192x16x32 .f32 → Arr F S1x8192x16x32 .f32),
    binary main_v30 main_v35 main_v36 (fn_main_v36 (F := F)),
    reshape main_v19 main_v37 (rfl : (.f32 : EltTy) = .f32) shapeCasts_S8192x256_S1x8192x4x64,
    unary main_v37 main_v38 ((extractStridedSlice S1x8192x4x32 ![0, 0, 0, 0] · slices_S1x8192x4x64_S1x8192x4x32_0_0_0_0) : Arr F S1x8192x4x64 .f32 → Arr F S1x8192x4x32 .f32),
    unary main_v37 main_v39 ((extractStridedSlice S1x8192x4x32 ![0, 0, 0, 32] · slices_S1x8192x4x64_S1x8192x4x32_0_0_0_32) : Arr F S1x8192x4x64 .f32 → Arr F S1x8192x4x32 .f32),
    unary main_v16 main_v40 (broadcastInDim S1x8192x1x32 ![1, 3] bcast_S8192x32_S1x8192x1x32_1_3 : Arr F S8192x32 .f32 → Arr F S1x8192x1x32 .f32),
    unary main_v17 main_v41 (broadcastInDim S1x8192x1x32 ![1, 3] bcast_S8192x32_S1x8192x1x32_1_3 : Arr F S8192x32 .f32 → Arr F S1x8192x1x32 .f32),
    unary main_v40 main_v42 (broadcastInDim S1x8192x4x32 ![0, 1, 2, 3] bcast_S1x8192x1x32_S1x8192x4x32_0_1_2_3 : Arr F S1x8192x1x32 .f32 → Arr F S1x8192x4x32 .f32),
    binary main_v38 main_v42 main_v43 (mulf : Arr F S1x8192x4x32 .f32 → Arr F S1x8192x4x32 .f32 → Arr F S1x8192x4x32 .f32) ]
abbrev ops4 : List (HloOp τ sig (Elt F)) :=
  [ unary main_v41 main_v44 (broadcastInDim S1x8192x4x32 ![0, 1, 2, 3] bcast_S1x8192x1x32_S1x8192x4x32_0_1_2_3 : Arr F S1x8192x1x32 .f32 → Arr F S1x8192x4x32 .f32),
    binary main_v39 main_v44 main_v45 (mulf : Arr F S1x8192x4x32 .f32 → Arr F S1x8192x4x32 .f32 → Arr F S1x8192x4x32 .f32),
    binary main_v43 main_v45 main_v46 (subf : Arr F S1x8192x4x32 .f32 → Arr F S1x8192x4x32 .f32 → Arr F S1x8192x4x32 .f32),
    unary main_v40 main_v47 (broadcastInDim S1x8192x4x32 ![0, 1, 2, 3] bcast_S1x8192x1x32_S1x8192x4x32_0_1_2_3 : Arr F S1x8192x1x32 .f32 → Arr F S1x8192x4x32 .f32),
    binary main_v39 main_v47 main_v48 (mulf : Arr F S1x8192x4x32 .f32 → Arr F S1x8192x4x32 .f32 → Arr F S1x8192x4x32 .f32),
    unary main_v41 main_v49 (broadcastInDim S1x8192x4x32 ![0, 1, 2, 3] bcast_S1x8192x1x32_S1x8192x4x32_0_1_2_3 : Arr F S1x8192x1x32 .f32 → Arr F S1x8192x4x32 .f32),
    binary main_v38 main_v49 main_v50 (mulf : Arr F S1x8192x4x32 .f32 → Arr F S1x8192x4x32 .f32 → Arr F S1x8192x4x32 .f32),
    binary main_v48 main_v50 main_v51 (addf : Arr F S1x8192x4x32 .f32 → Arr F S1x8192x4x32 .f32 → Arr F S1x8192x4x32 .f32),
    binary main_v46 main_v51 main_v52 (fn_main_v52 (F := F)),
    reshape main_v20 main_v53 (rfl : (.f32 : EltTy) = .f32) shapeCasts_S8192x256_S1x8192x4x64,
    reshape main_v36 main_v54 (rfl : (.f32 : EltTy) = .f32) shapeCasts_S1x8192x16x64_S1x64x128x4x4x64,
    reshape main_v52 main_v55 (rfl : (.f32 : EltTy) = .f32) shapeCasts_S1x8192x4x64_S1x64x128x4x64 ]
abbrev ops5 : List (HloOp τ sig (Elt F)) :=
  [ unary main_v55 main_v56 ((extractStridedSlice S1x1x128x4x64 ![0, 0, 0, 0, 0] · slices_S1x64x128x4x64_S1x1x128x4x64_0_0_0_0_0) : Arr F S1x64x128x4x64 .f32 → Arr F S1x1x128x4x64 .f32),
    nullary main_cst_3 (constant S_ .f32 0x00000000#32),
    unary main_cst_3 main_v57 (broadcastInDim S1x1x128x4x64 ![] bcast_S_S1x1x128x4x64 : Arr F S_ .f32 → Arr F S1x1x128x4x64 .f32),
    unary main_v55 main_v58 ((extractStridedSlice S1x63x128x4x64 ![0, 0, 0, 0, 0] · slices_S1x64x128x4x64_S1x63x128x4x64_0_0_0_0_0) : Arr F S1x64x128x4x64 .f32 → Arr F S1x63x128x4x64 .f32),
    binary main_v57 main_v58 main_v59 (fn_main_v59 (F := F)),
    nullary main_cst_4 (constant S_ .f32 0x00000000#32),
    unary main_cst_4 main_v60 (broadcastInDim S1x1x128x4x64 ![] bcast_S_S1x1x128x4x64 : Arr F S_ .f32 → Arr F S1x1x128x4x64 .f32),
    binary main_v59 main_v55 main_v61 (fn_main_v61 (F := F)),
    reshape main_v53 main_v62 (rfl : (.f32 : EltTy) = .f32) shapeCasts_S1x8192x4x64_S1x64x128x4x64,
    unary main_v62 main_v63 ((extractStridedSlice S1x1x128x4x64 ![0, 0, 0, 0, 0] · slices_S1x64x128x4x64_S1x1x128x4x64_0_0_0_0_0) : Arr F S1x64x128x4x64 .f32 → Arr F S1x1x128x4x64 .f32),
    nullary main_cst_5 (constant S_ .f32 0x00000000#32),
    unary main_cst_5 main_v64 (broadcastInDim S1x1x128x4x64 ![] bcast_S_S1x1x128x4x64 : Arr F S_ .f32 → Arr F S1x1x128x4x64 .f32) ]
abbrev ops6 : List (HloOp τ sig (Elt F)) :=
  [ unary main_v62 main_v65 ((extractStridedSlice S1x63x128x4x64 ![0, 0, 0, 0, 0] · slices_S1x64x128x4x64_S1x63x128x4x64_0_0_0_0_0) : Arr F S1x64x128x4x64 .f32 → Arr F S1x63x128x4x64 .f32),
    binary main_v64 main_v65 main_v66 (fn_main_v66 (F := F)),
    nullary main_cst_6 (constant S_ .f32 0x00000000#32),
    unary main_cst_6 main_v67 (broadcastInDim S1x1x128x4x64 ![] bcast_S_S1x1x128x4x64 : Arr F S_ .f32 → Arr F S1x1x128x4x64 .f32),
    binary main_v66 main_v62 main_v68 (fn_main_v68 (F := F)),
    binary main_v61 main_v54 main_v69 ((fun l r => Host.dotGeneral dot_S1x64x256x4x64_S1x64x128x4x4x64_S1x64x4x256x128x4_4_5_2_24_013_013 none l r) : Arr F S1x64x256x4x64 .f32 → Arr F S1x64x128x4x4x64 .f32 → Arr F S1x64x4x256x128x4 .f32),
    unary main_v69 main_v70 ((transpose S1x64x4x4x128x256 [0, 1, 2, 5, 4, 3] · transposes_S1x64x4x256x128x4_S1x64x4x4x128x256_0_1_2_5_4_3) : Arr F S1x64x4x256x128x4 .f32 → Arr F S1x64x4x4x128x256 .f32),
    nullary main_cst_7 (constant S_ .f32 0x3E000000#32),
    unary main_cst_7 main_v71 (broadcastInDim S1x64x4x4x128x256 ![] bcast_S_S1x64x4x4x128x256 : Arr F S_ .f32 → Arr F S1x64x4x4x128x256 .f32),
    binary main_v70 main_v71 main_v72 (mulf : Arr F S1x64x4x4x128x256 .f32 → Arr F S1x64x4x4x128x256 .f32 → Arr F S1x64x4x4x128x256 .f32),
    nullary main_v73 (iotaInDim S128 32 0),
    unary main_v73 main_v74 (broadcastInDim S128x1 ![0] bcast_S128_S128x1_0 : Arr F S128 .i32 → Arr F S128x1 .i32) ]
abbrev ops7 : List (HloOp τ sig (Elt F)) :=
  [ nullary main_v75 (iotaInDim S256 32 0),
    unary main_v75 main_v76 (broadcastInDim S1x256 ![1] bcast_S256_S1x256_1 : Arr F S256 .i32 → Arr F S1x256 .i32),
    nullary main_c (constantI S_ 32 128#32),
    unary main_c main_v77 (broadcastInDim S128x1 ![] bcast_S_S128x1 : Arr F S_ .i32 → Arr F S128x1 .i32),
    binary main_v74 main_v77 main_v78 (addi : Arr F S128x1 .i32 → Arr F S128x1 .i32 → Arr F S128x1 .i32),
    unary main_v78 main_v79 (broadcastInDim S128x256 ![0, 1] bcast_S128x1_S128x256_0_1 : Arr F S128x1 .i32 → Arr F S128x256 .i32),
    unary main_v76 main_v80 (broadcastInDim S128x256 ![0, 1] bcast_S1x256_S128x256_0_1 : Arr F S1x256 .i32 → Arr F S128x256 .i32),
    binary main_v79 main_v80 main_v81 (subi : Arr F S128x256 .i32 → Arr F S128x256 .i32 → Arr F S128x256 .i32),
    nullary main_c_8 (constantI S_ 32 0#32),
    unary main_c_8 main_v82 (broadcastInDim S128x256 ![] bcast_S_S128x256 : Arr F S_ .i32 → Arr F S128x256 .i32),
    binary main_v81 main_v82 main_v83 (cmpi .sge : Arr F S128x256 .i32 → Arr F S128x256 .i32 → Arr F S128x256 .i1),
    nullary main_c_9 (constantI S_ 32 128#32) ]
abbrev ops8 : List (HloOp τ sig (Elt F)) :=
  [ unary main_c_9 main_v84 (broadcastInDim S128x256 ![] bcast_S_S128x256 : Arr F S_ .i32 → Arr F S128x256 .i32),
    binary main_v81 main_v84 main_v85 (cmpi .slt : Arr F S128x256 .i32 → Arr F S128x256 .i32 → Arr F S128x256 .i1),
    binary main_v83 main_v85 main_v86 (andi : Arr F S128x256 .i1 → Arr F S128x256 .i1 → Arr F S128x256 .i1),
    nullary main_v87 (iotaInDim S64 32 0),
    unary main_v87 main_v88 (broadcastInDim S64x1 ![0] bcast_S64_S64x1_0 : Arr F S64 .i32 → Arr F S64x1 .i32),
    nullary main_c_10 (constantI S_ 32 128#32),
    unary main_c_10 main_v89 (broadcastInDim S64x1 ![] bcast_S_S64x1 : Arr F S_ .i32 → Arr F S64x1 .i32),
    binary main_v88 main_v89 main_v90 (muli : Arr F S64x1 .i32 → Arr F S64x1 .i32 → Arr F S64x1 .i32),
    nullary main_c_11 (constantI S_ 32 128#32),
    unary main_c_11 main_v91 (broadcastInDim S64x1 ![] bcast_S_S64x1 : Arr F S_ .i32 → Arr F S64x1 .i32),
    binary main_v90 main_v91 main_v92 (subi : Arr F S64x1 .i32 → Arr F S64x1 .i32 → Arr F S64x1 .i32),
    nullary main_v93 (iotaInDim S256 32 0) ]
abbrev ops9 : List (HloOp τ sig (Elt F)) :=
  [ unary main_v93 main_v94 (broadcastInDim S1x256 ![1] bcast_S256_S1x256_1 : Arr F S256 .i32 → Arr F S1x256 .i32),
    unary main_v92 main_v95 (broadcastInDim S64x256 ![0, 1] bcast_S64x1_S64x256_0_1 : Arr F S64x1 .i32 → Arr F S64x256 .i32),
    unary main_v94 main_v96 (broadcastInDim S64x256 ![0, 1] bcast_S1x256_S64x256_0_1 : Arr F S1x256 .i32 → Arr F S64x256 .i32),
    binary main_v95 main_v96 main_v97 (addi : Arr F S64x256 .i32 → Arr F S64x256 .i32 → Arr F S64x256 .i32),
    unary main_v86 main_v98 (broadcastInDim S1x128x256 ![1, 2] bcast_S128x256_S1x128x256_1_2 : Arr F S128x256 .i1 → Arr F S1x128x256 .i1),
    nullary main_c_12 (constantI S_ 32 0#32),
    unary main_c_12 main_v99 (broadcastInDim S64x256 ![] bcast_S_S64x256 : Arr F S_ .i32 → Arr F S64x256 .i32),
    binary main_v97 main_v99 main_v100 (cmpi .sge : Arr F S64x256 .i32 → Arr F S64x256 .i32 → Arr F S64x256 .i1),
    unary main_v100 main_v101 (broadcastInDim S64x1x256 ![0, 2] bcast_S64x256_S64x1x256_0_2 : Arr F S64x256 .i1 → Arr F S64x1x256 .i1),
    unary main_v98 main_v102 (broadcastInDim S64x128x256 ![0, 1, 2] bcast_S1x128x256_S64x128x256_0_1_2 : Arr F S1x128x256 .i1 → Arr F S64x128x256 .i1),
    unary main_v101 main_v103 (broadcastInDim S64x128x256 ![0, 1, 2] bcast_S64x1x256_S64x128x256_0_1_2 : Arr F S64x1x256 .i1 → Arr F S64x128x256 .i1),
    binary main_v102 main_v103 main_v104 (andi : Arr F S64x128x256 .i1 → Arr F S64x128x256 .i1 → Arr F S64x128x256 .i1) ]
abbrev ops10 : List (HloOp τ sig (Elt F)) :=
  [ unary main_v104 main_v105 (broadcastInDim S1x64x1x1x128x256 ![1, 4, 5] bcast_S64x128x256_S1x64x1x1x128x256_1_4_5 : Arr F S64x128x256 .i1 → Arr F S1x64x1x1x128x256 .i1),
    nullary main_cst_13 (constant S_ .f32 0xFF800000#32),
    TRef.unary (TRef.of (T := ⟨S_, .f32⟩) main_cst_13) (TRef.of (T := ⟨S_, .f32⟩) main_call0_v0) id,
    TRef.unary (TRef.of (T := ⟨S1x64x1x1x128x256, .i1⟩) main_v105) (TRef.of (T := ⟨S1x64x4x4x128x256, .i1⟩) main_v106_1) (broadcastInDim S1x64x4x4x128x256 ![0, 1, 2, 3, 4, 5] bcast_S1x64x1x1x128x256_S1x64x4x4x128x256_0_1_2_3_4_5),
    TRef.unary (TRef.of (T := ⟨S_, .f32⟩) main_call0_v0) (TRef.of (T := ⟨S1x64x4x4x128x256, .f32⟩) main_call0_v2) (broadcastInDim S1x64x4x4x128x256 ![] bcast_S_S1x64x4x4x128x256),
    TRef.ternary (TRef.of (T := ⟨S1x64x4x4x128x256, .i1⟩) main_v106_1) (TRef.of (T := ⟨S1x64x4x4x128x256, .f32⟩) main_v72) (TRef.of (T := ⟨S1x64x4x4x128x256, .f32⟩) main_call0_v2) (TRef.of (T := ⟨S1x64x4x4x128x256, .f32⟩) main_v106_0) select,
    TRef.nullary (TRef.of (T := ⟨S_, .f32⟩) main_call0_cst) (constant S_ .f32 0x00000000#32),
    TRef.unary (TRef.of (T := ⟨S_, .f32⟩) main_call0_cst) (TRef.of (T := ⟨S1x64x4x4x128x256, .f32⟩) main_v106_2) (broadcastInDim S1x64x4x4x128x256 ![] bcast_S_S1x64x4x4x128x256),
    reshape main_arg2 main_v107 (rfl : (.f32 : EltTy) = .f32) shapeCasts_S16_S4x4,
    unary main_v107 main_v108 (broadcastInDim S1x1x4x4x1x1 ![2, 3] bcast_S4x4_S1x1x4x4x1x1_2_3 : Arr F S4x4 .f32 → Arr F S1x1x4x4x1x1 .f32),
    nullary main_cst_14 (constant S_ .f32 0xFF800000#32) ]
abbrev ops11 : List (HloOp τ sig (Elt F)) :=
  [ binary main_v106_0 main_cst_14 main_v109 ((fun x v => Host.reduce FloatOps.maximumf x v reducesTo_S1x64x4x4x128x256_S1x64x4x4x128_d5 h_S_) : Arr F S1x64x4x4x128x256 .f32 → Arr F S_ .f32 → Arr F S1x64x4x4x128 .f32),
    reshape main_v109 main_v110 (rfl : (.f32 : EltTy) = .f32) shapeCasts_S1x64x4x4x128_S1x64x4x4x128x1,
    unary main_v110 main_v111 (broadcastInDim S1x64x4x4x128x256 ![0, 1, 2, 3, 4, 5] bcast_S1x64x4x4x128x1_S1x64x4x4x128x256_0_1_2_3_4_5 : Arr F S1x64x4x4x128x1 .f32 → Arr F S1x64x4x4x128x256 .f32),
    binary main_v106_0 main_v111 main_v112 (cmpf .oeq : Arr F S1x64x4x4x128x256 .f32 → Arr F S1x64x4x4x128x256 .f32 → Arr F S1x64x4x4x128x256 .i1),
    unary main_v112 main_v113 (uitofp .f32 : Arr F S1x64x4x4x128x256 .i1 → Arr F S1x64x4x4x128x256 .f32),
    nullary main_cst_15 (constant S_ .f32 0x00000000#32),
    binary main_v113 main_cst_15 main_v114 ((fun x v => Host.reduceAdd x v reducesTo_S1x64x4x4x128x256_S1x64x4x4x128_d5 h_S_) : Arr F S1x64x4x4x128x256 .f32 → Arr F S_ .f32 → Arr F S1x64x4x4x128 .f32),
    unary main_v109 main_v115 (broadcastInDim S1x64x4x4x128x1 ![0, 1, 2, 3, 4] bcast_S1x64x4x4x128_S1x64x4x4x128x1_0_1_2_3_4 : Arr F S1x64x4x4x128 .f32 → Arr F S1x64x4x4x128x1 .f32),
    unary main_v108 main_v116 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32),
    binary main_v115 main_v116 main_v117 (maximumf : Arr F S1x64x4x4x128x1 .f32 → Arr F S1x64x4x4x128x1 .f32 → Arr F S1x64x4x4x128x1 .f32),
    unary main_v108 main_v118 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32) ]
abbrev ops12 : List (HloOp τ sig (Elt F)) :=
  [ binary main_v115 main_v118 main_v119 (cmpf .ogt : Arr F S1x64x4x4x128x1 .f32 → Arr F S1x64x4x4x128x1 .f32 → Arr F S1x64x4x4x128x1 .i1),
    unary main_v108 main_v120 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32),
    binary main_v115 main_v120 main_v121 (cmpf .oeq : Arr F S1x64x4x4x128x1 .f32 → Arr F S1x64x4x4x128x1 .f32 → Arr F S1x64x4x4x128x1 .i1),
    nullary main_cst_16 (constant S_ .f32 0x3F800000#32),
    unary main_cst_16 main_v122 (broadcastInDim S1x64x4x4x128x1 ![] bcast_S_S1x64x4x4x128x1 : Arr F S_ .f32 → Arr F S1x64x4x4x128x1 .f32),
    nullary main_cst_17 (constant S_ .f32 0x00000000#32),
    unary main_cst_17 main_v123 (broadcastInDim S1x64x4x4x128x1 ![] bcast_S_S1x64x4x4x128x1 : Arr F S_ .f32 → Arr F S1x64x4x4x128x1 .f32),
    nullary main_cst_18 (constant S_ .f32 0x3F000000#32),
    unary main_cst_18 main_v124 (broadcastInDim S1x64x4x4x128x1 ![] bcast_S_S1x64x4x4x128x1 : Arr F S_ .f32 → Arr F S1x64x4x4x128x1 .f32),
    ternary main_v121 main_v124 main_v123 main_v125 (select : Arr F S1x64x4x4x128x1 .i1 → Arr F S1x64x4x4x128x1 .f32 → Arr F S1x64x4x4x128x1 .f32 → Arr F S1x64x4x4x128x1 .f32),
    ternary main_v119 main_v122 main_v125 main_v126 (select : Arr F S1x64x4x4x128x1 .i1 → Arr F S1x64x4x4x128x1 .f32 → Arr F S1x64x4x4x128x1 .f32 → Arr F S1x64x4x4x128x1 .f32) ]
abbrev ops13 : List (HloOp τ sig (Elt F)) :=
  [ unary main_v108 main_v127 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32),
    binary main_v127 main_v115 main_v128 (cmpf .ogt : Arr F S1x64x4x4x128x1 .f32 → Arr F S1x64x4x4x128x1 .f32 → Arr F S1x64x4x4x128x1 .i1),
    unary main_v108 main_v129 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32),
    binary main_v129 main_v115 main_v130 (cmpf .oeq : Arr F S1x64x4x4x128x1 .f32 → Arr F S1x64x4x4x128x1 .f32 → Arr F S1x64x4x4x128x1 .i1),
    nullary main_cst_19 (constant S_ .f32 0x3F800000#32),
    unary main_cst_19 main_v131 (broadcastInDim S1x64x4x4x128x1 ![] bcast_S_S1x64x4x4x128x1 : Arr F S_ .f32 → Arr F S1x64x4x4x128x1 .f32),
    nullary main_cst_20 (constant S_ .f32 0x00000000#32),
    unary main_cst_20 main_v132 (broadcastInDim S1x64x4x4x128x1 ![] bcast_S_S1x64x4x4x128x1 : Arr F S_ .f32 → Arr F S1x64x4x4x128x1 .f32),
    nullary main_cst_21 (constant S_ .f32 0x3F000000#32),
    unary main_cst_21 main_v133 (broadcastInDim S1x64x4x4x128x1 ![] bcast_S_S1x64x4x4x128x1 : Arr F S_ .f32 → Arr F S1x64x4x4x128x1 .f32),
    ternary main_v130 main_v133 main_v132 main_v134 (select : Arr F S1x64x4x4x128x1 .i1 → Arr F S1x64x4x4x128x1 .f32 → Arr F S1x64x4x4x128x1 .f32 → Arr F S1x64x4x4x128x1 .f32) ]
abbrev ops14 : List (HloOp τ sig (Elt F)) :=
  [ ternary main_v128 main_v131 main_v134 main_v135 (select : Arr F S1x64x4x4x128x1 .i1 → Arr F S1x64x4x4x128x1 .f32 → Arr F S1x64x4x4x128x1 .f32 → Arr F S1x64x4x4x128x1 .f32),
    unary main_v117 main_v136 (broadcastInDim S1x64x4x4x128x256 ![0, 1, 2, 3, 4, 5] bcast_S1x64x4x4x128x1_S1x64x4x4x128x256_0_1_2_3_4_5 : Arr F S1x64x4x4x128x1 .f32 → Arr F S1x64x4x4x128x256 .f32),
    binary main_v106_0 main_v136 main_v137 (subf : Arr F S1x64x4x4x128x256 .f32 → Arr F S1x64x4x4x128x256 .f32 → Arr F S1x64x4x4x128x256 .f32),
    unary main_v137 main_v138 (Host.exp : Arr F S1x64x4x4x128x256 .f32 → Arr F S1x64x4x4x128x256 .f32),
    nullary main_cst_22 (constant S_ .f32 0x00000000#32),
    binary main_v138 main_cst_22 main_v139 ((fun x v => Host.reduceAdd x v reducesTo_S1x64x4x4x128x256_S1x64x4x4x128_d5 h_S_) : Arr F S1x64x4x4x128x256 .f32 → Arr F S_ .f32 → Arr F S1x64x4x4x128 .f32),
    unary main_v139 main_v140 (broadcastInDim S1x64x4x4x128x1 ![0, 1, 2, 3, 4] bcast_S1x64x4x4x128_S1x64x4x4x128x1_0_1_2_3_4 : Arr F S1x64x4x4x128 .f32 → Arr F S1x64x4x4x128x1 .f32),
    unary main_v108 main_v141 (broadcastInDim S1x64x4x4x128x1 ![0, 1, 2, 3, 4, 5] bcast_S1x1x4x4x1x1_S1x64x4x4x128x1_0_1_2_3_4_5 : Arr F S1x1x4x4x1x1 .f32 → Arr F S1x64x4x4x128x1 .f32),
    binary main_v141 main_v117 main_v142 (subf : Arr F S1x64x4x4x128x1 .f32 → Arr F S1x64x4x4x128x1 .f32 → Arr F S1x64x4x4x128x1 .f32),
    unary main_v142 main_v143 (Host.exp : Arr F S1x64x4x4x128x1 .f32 → Arr F S1x64x4x4x128x1 .f32),
    binary main_v140 main_v143 main_v144 (addf : Arr F S1x64x4x4x128x1 .f32 → Arr F S1x64x4x4x128x1 .f32 → Arr F S1x64x4x4x128x1 .f32) ]
abbrev ops15 : List (HloOp τ sig (Elt F)) :=
  [ unary main_v144 main_v145 (broadcastInDim S1x64x4x4x128x256 ![0, 1, 2, 3, 4, 5] bcast_S1x64x4x4x128x1_S1x64x4x4x128x256_0_1_2_3_4_5 : Arr F S1x64x4x4x128x1 .f32 → Arr F S1x64x4x4x128x256 .f32),
    binary main_v138 main_v145 main_v146 (Host.divf : Arr F S1x64x4x4x128x256 .f32 → Arr F S1x64x4x4x128x256 .f32 → Arr F S1x64x4x4x128x256 .f32),
    binary main_v144 main_v144 main_v147 (mulf : Arr F S1x64x4x4x128x1 .f32 → Arr F S1x64x4x4x128x1 .f32 → Arr F S1x64x4x4x128x1 .f32),
    nullary main_cst_23 (constant S_ .f32 0x3F800000#32),
    unary main_cst_23 main_v148 (broadcastInDim S1x64x4x4x128x1 ![] bcast_S_S1x64x4x4x128x1 : Arr F S_ .f32 → Arr F S1x64x4x4x128x1 .f32),
    binary main_v148 main_v147 main_v149 (Host.divf : Arr F S1x64x4x4x128x1 .f32 → Arr F S1x64x4x4x128x1 .f32 → Arr F S1x64x4x4x128x1 .f32),
    binary main_v68 main_v146 main_v150 ((fun l r => Host.dotGeneral dot_S1x64x256x4x64_S1x64x4x4x128x256_S1x64x4x64x4x128_2_5_4_34_013_012 none l r) : Arr F S1x64x256x4x64 .f32 → Arr F S1x64x4x4x128x256 .f32 → Arr F S1x64x4x64x4x128 .f32),
    unary main_v150 main_v151 ((transpose S1x64x128x4x4x64 [0, 1, 5, 2, 4, 3] · transposes_S1x64x4x64x4x128_S1x64x128x4x4x64_0_1_5_2_4_3) : Arr F S1x64x4x64x4x128 .f32 → Arr F S1x64x128x4x4x64 .f32),
    reshape main_v151 main_v152 (rfl : (.f32 : EltTy) = .f32) shapeCasts_S1x64x128x4x4x64_S8192x1024,
    reshape main_arg1 main_v153 (rfl : (.f32 : EltTy) = .f32) shapeCasts_S8192x1024_S1x64x128x4x4x64 ]
abbrev ops16 : List (HloOp τ sig (Elt F)) :=
  [ unary main_v153 main_v154 ((transpose S1x64x4x64x4x128 [0, 1, 3, 5, 4, 2] · transposes_S1x64x128x4x4x64_S1x64x4x64x4x128_0_1_3_5_4_2) : Arr F S1x64x128x4x4x64 .f32 → Arr F S1x64x4x64x4x128 .f32),
    binary main_v154 main_v68 main_v155 ((fun l r => Host.dotGeneral dot_S1x64x4x64x4x128_S1x64x256x4x64_S1x64x4x4x128x256_3_4_45_2_012_013 none l r) : Arr F S1x64x4x64x4x128 .f32 → Arr F S1x64x256x4x64 .f32 → Arr F S1x64x4x4x128x256 .f32),
    binary main_v154 main_v146 main_v156 ((fun l r => Host.dotGeneral dot_S1x64x4x64x4x128_S1x64x4x4x128x256_S1x64x4x64x256_45_34_3_5_012_012 none l r) : Arr F S1x64x4x64x4x128 .f32 → Arr F S1x64x4x4x128x256 .f32 → Arr F S1x64x4x64x256 .f32),
    unary main_v156 main_v157 ((transpose S1x64x256x4x64 [0, 1, 4, 2, 3] · transposes_S1x64x4x64x256_S1x64x256x4x64_0_1_4_2_3) : Arr F S1x64x4x64x256 .f32 → Arr F S1x64x256x4x64 .f32),
    unary main_v149 main_v158 (broadcastInDim S1x64x4x4x128x256 ![0, 1, 2, 3, 4, 5] bcast_S1x64x4x4x128x1_S1x64x4x4x128x256_0_1_2_3_4_5 : Arr F S1x64x4x4x128x1 .f32 → Arr F S1x64x4x4x128x256 .f32),
    binary main_v155 main_v158 main_v159 (mulf : Arr F S1x64x4x4x128x256 .f32 → Arr F S1x64x4x4x128x256 .f32 → Arr F S1x64x4x4x128x256 .f32),
    binary main_v159 main_v138 main_v160 (mulf : Arr F S1x64x4x4x128x256 .f32 → Arr F S1x64x4x4x128x256 .f32 → Arr F S1x64x4x4x128x256 .f32),
    nullary main_cst_24 (constant S_ .f32 0x00000000#32),
    binary main_v160 main_cst_24 main_v161 ((fun x v => Host.reduceAdd x v reducesTo_S1x64x4x4x128x256_S1x64x4x4x128_d5 h_S_) : Arr F S1x64x4x4x128x256 .f32 → Arr F S_ .f32 → Arr F S1x64x4x4x128 .f32),
    reshape main_v161 main_v162 (rfl : (.f32 : EltTy) = .f32) shapeCasts_S1x64x4x4x128_S1x64x4x4x128x1,
    unary main_v162 main_v163 (Host.negf : Arr F S1x64x4x4x128x1 .f32 → Arr F S1x64x4x4x128x1 .f32) ]
abbrev ops17 : List (HloOp τ sig (Elt F)) :=
  [ unary main_v144 main_v164 (broadcastInDim S1x64x4x4x128x256 ![0, 1, 2, 3, 4, 5] bcast_S1x64x4x4x128x1_S1x64x4x4x128x256_0_1_2_3_4_5 : Arr F S1x64x4x4x128x1 .f32 → Arr F S1x64x4x4x128x256 .f32),
    binary main_v155 main_v164 main_v165 (Host.divf : Arr F S1x64x4x4x128x256 .f32 → Arr F S1x64x4x4x128x256 .f32 → Arr F S1x64x4x4x128x256 .f32),
    binary main_v163 main_v143 main_v166 (mulf : Arr F S1x64x4x4x128x1 .f32 → Arr F S1x64x4x4x128x1 .f32 → Arr F S1x64x4x4x128x1 .f32),
    nullary main_cst_25 (constant S_ .f32 0x00000000#32),
    binary main_v166 main_cst_25 main_v167 ((fun x v => Host.reduceAdd x v reducesTo_S1x64x4x4x128x1_S1x4x4x1_d1_4 h_S_) : Arr F S1x64x4x4x128x1 .f32 → Arr F S_ .f32 → Arr F S1x4x4x1 .f32),
    reshape main_v167 main_v168 (rfl : (.f32 : EltTy) = .f32) shapeCasts_S1x4x4x1_S1x1x4x4x1x1,
    unary main_v166 main_v169 (Host.negf : Arr F S1x64x4x4x128x1 .f32 → Arr F S1x64x4x4x128x1 .f32),
    nullary main_cst_26 (constant S_ .f32 0x00000000#32),
    binary main_v163 main_cst_26 main_v170 ((fun x v => Host.reduceAdd x v reducesTo_S1x64x4x4x128x1_S64x4x4x128_d0_5 h_S_) : Arr F S1x64x4x4x128x1 .f32 → Arr F S_ .f32 → Arr F S64x4x4x128 .f32),
    unary main_v170 main_v171 (broadcastInDim S1x64x4x4x128 ![1, 2, 3, 4] bcast_S64x4x4x128_S1x64x4x4x128_1_2_3_4 : Arr F S64x4x4x128 .f32 → Arr F S1x64x4x4x128 .f32),
    unary main_v171 main_v172 (broadcastInDim S1x64x4x4x128x256 ![0, 1, 2, 3, 4] bcast_S1x64x4x4x128_S1x64x4x4x128x256_0_1_2_3_4 : Arr F S1x64x4x4x128 .f32 → Arr F S1x64x4x4x128x256 .f32) ]
abbrev ops18 : List (HloOp τ sig (Elt F)) :=
  [ binary main_v165 main_v172 main_v173 (addf : Arr F S1x64x4x4x128x256 .f32 → Arr F S1x64x4x4x128x256 .f32 → Arr F S1x64x4x4x128x256 .f32),
    binary main_v173 main_v138 main_v174 (mulf : Arr F S1x64x4x4x128x256 .f32 → Arr F S1x64x4x4x128x256 .f32 → Arr F S1x64x4x4x128x256 .f32),
    unary main_v174 main_v175 (Host.negf : Arr F S1x64x4x4x128x256 .f32 → Arr F S1x64x4x4x128x256 .f32),
    nullary main_cst_27 (constant S_ .f32 0x00000000#32),
    binary main_v175 main_cst_27 main_v176 ((fun x v => Host.reduceAdd x v reducesTo_S1x64x4x4x128x256_S1x64x4x4x128_d5 h_S_) : Arr F S1x64x4x4x128x256 .f32 → Arr F S_ .f32 → Arr F S1x64x4x4x128 .f32),
    reshape main_v176 main_v177 (rfl : (.f32 : EltTy) = .f32) shapeCasts_S1x64x4x4x128_S1x64x4x4x128x1,
    binary main_v169 main_v177 main_v178 (addf : Arr F S1x64x4x4x128x1 .f32 → Arr F S1x64x4x4x128x1 .f32 → Arr F S1x64x4x4x128x1 .f32),
    binary main_v178 main_v135 main_v179 (mulf : Arr F S1x64x4x4x128x1 .f32 → Arr F S1x64x4x4x128x1 .f32 → Arr F S1x64x4x4x128x1 .f32),
    nullary main_cst_28 (constant S_ .f32 0x00000000#32),
    binary main_v179 main_cst_28 main_v180 ((fun x v => Host.reduceAdd x v reducesTo_S1x64x4x4x128x1_S1x4x4x1_d1_4 h_S_) : Arr F S1x64x4x4x128x1 .f32 → Arr F S_ .f32 → Arr F S1x4x4x1 .f32),
    reshape main_v180 main_v181 (rfl : (.f32 : EltTy) = .f32) shapeCasts_S1x4x4x1_S1x1x4x4x1x1 ]
abbrev ops19 : List (HloOp τ sig (Elt F)) :=
  [ binary main_v168 main_v181 main_v182 (addf : Arr F S1x1x4x4x1x1 .f32 → Arr F S1x1x4x4x1x1 .f32 → Arr F S1x1x4x4x1x1 .f32),
    binary main_v178 main_v126 main_v183 (mulf : Arr F S1x64x4x4x128x1 .f32 → Arr F S1x64x4x4x128x1 .f32 → Arr F S1x64x4x4x128x1 .f32),
    nullary main_cst_29 (constant S_ .f32 0x00000000#32),
    binary main_v183 main_cst_29 main_v184 ((fun x v => Host.reduceAdd x v reducesTo_S1x64x4x4x128x1_S64x4x4x128_d0_5 h_S_) : Arr F S1x64x4x4x128x1 .f32 → Arr F S_ .f32 → Arr F S64x4x4x128 .f32),
    unary main_v184 main_v185 (broadcastInDim S1x64x4x4x128 ![1, 2, 3, 4] bcast_S64x4x4x128_S1x64x4x4x128_1_2_3_4 : Arr F S64x4x4x128 .f32 → Arr F S1x64x4x4x128 .f32),
    binary main_v185 main_v114 main_v186 (Host.divf : Arr F S1x64x4x4x128 .f32 → Arr F S1x64x4x4x128 .f32 → Arr F S1x64x4x4x128 .f32),
    unary main_v186 main_v187 (broadcastInDim S1x64x4x4x128x256 ![0, 1, 2, 3, 4] bcast_S1x64x4x4x128_S1x64x4x4x128x256_0_1_2_3_4 : Arr F S1x64x4x4x128 .f32 → Arr F S1x64x4x4x128x256 .f32),
    binary main_v187 main_v113 main_v188 (mulf : Arr F S1x64x4x4x128x256 .f32 → Arr F S1x64x4x4x128x256 .f32 → Arr F S1x64x4x4x128x256 .f32),
    binary main_v174 main_v188 main_v189 (addf : Arr F S1x64x4x4x128x256 .f32 → Arr F S1x64x4x4x128x256 .f32 → Arr F S1x64x4x4x128x256 .f32),
    nullary main_cst_30 (constant S_ .f32 0x00000000#32),
    binary main_v182 main_cst_30 main_v190 ((fun x v => Host.reduceAdd x v reducesTo_S1x1x4x4x1x1_S4x4_d0_1_4_5 h_S_) : Arr F S1x1x4x4x1x1 .f32 → Arr F S_ .f32 → Arr F S4x4 .f32) ]
abbrev ops20 : List (HloOp τ sig (Elt F)) :=
  [ reshape main_v190 main_v191 (rfl : (.f32 : EltTy) = .f32) shapeCasts_S4x4_S16,
    TRef.nullary (TRef.of (T := ⟨S_, .f32⟩) main_call1_cst) (constant S_ .f32 0x00000000#32),
    TRef.unary (TRef.of (T := ⟨S_, .f32⟩) main_call1_cst) (TRef.of (T := ⟨S1x64x4x4x128x256, .f32⟩) main_call1_v0) (broadcastInDim S1x64x4x4x128x256 ![] bcast_S_S1x64x4x4x128x256),
    TRef.ternary (TRef.of (T := ⟨S1x64x4x4x128x256, .i1⟩) main_v106_1) (TRef.of (T := ⟨S1x64x4x4x128x256, .f32⟩) main_v189) (TRef.of (T := ⟨S1x64x4x4x128x256, .f32⟩) main_call1_v0) (TRef.of (T := ⟨S1x64x4x4x128x256, .f32⟩) main_v192) select,
    nullary main_cst_31 (constant S_ .f32 0x3E000000#32),
    unary main_cst_31 main_v193 (broadcastInDim S1x64x4x4x128x256 ![] bcast_S_S1x64x4x4x128x256 : Arr F S_ .f32 → Arr F S1x64x4x4x128x256 .f32),
    binary main_v192 main_v193 main_v194 (mulf : Arr F S1x64x4x4x128x256 .f32 → Arr F S1x64x4x4x128x256 .f32 → Arr F S1x64x4x4x128x256 .f32),
    unary main_v194 main_v195 ((transpose S1x64x4x256x128x4 [0, 1, 2, 5, 4, 3] · transposes_S1x64x4x4x128x256_S1x64x4x256x128x4_0_1_2_5_4_3) : Arr F S1x64x4x4x128x256 .f32 → Arr F S1x64x4x256x128x4 .f32),
    binary main_v195 main_v61 main_v196 ((fun l r => Host.dotGeneral dot_S1x64x4x256x128x4_S1x64x256x4x64_S1x64x4x128x4x64_3_2_45_4_012_013 none l r) : Arr F S1x64x4x256x128x4 .f32 → Arr F S1x64x256x4x64 .f32 → Arr F S1x64x4x128x4x64 .f32),
    unary main_v196 main_v197 ((transpose S1x64x128x4x4x64 [0, 1, 3, 2, 4, 5] · transposes_S1x64x4x128x4x64_S1x64x128x4x4x64_0_1_3_2_4_5) : Arr F S1x64x4x128x4x64 .f32 → Arr F S1x64x128x4x4x64 .f32),
    binary main_v195 main_v54 main_v198 ((fun l r => Host.dotGeneral dot_S1x64x4x256x128x4_S1x64x128x4x4x64_S1x64x4x256x64_45_24_3_5_012_013 none l r) : Arr F S1x64x4x256x128x4 .f32 → Arr F S1x64x128x4x4x64 .f32 → Arr F S1x64x4x256x64 .f32) ]
abbrev ops21 : List (HloOp τ sig (Elt F)) :=
  [ unary main_v198 main_v199 ((transpose S1x64x256x4x64 [0, 1, 3, 2, 4] · transposes_S1x64x4x256x64_S1x64x256x4x64_0_1_3_2_4) : Arr F S1x64x4x256x64 .f32 → Arr F S1x64x256x4x64 .f32),
    unary main_v157 main_v200 ((extractStridedSlice S1x64x128x4x64 ![0, 0, 0, 0, 0] · slices_S1x64x256x4x64_S1x64x128x4x64_0_0_0_0_0) : Arr F S1x64x256x4x64 .f32 → Arr F S1x64x128x4x64 .f32),
    unary main_v157 main_v201 ((extractStridedSlice S1x64x128x4x64 ![0, 0, 128, 0, 0] · slices_S1x64x256x4x64_S1x64x128x4x64_0_0_128_0_0) : Arr F S1x64x256x4x64 .f32 → Arr F S1x64x128x4x64 .f32),
    unary main_v200 main_v202 ((extractStridedSlice S1x1x128x4x64 ![0, 0, 0, 0, 0] · slices_S1x64x128x4x64_S1x1x128x4x64_0_0_0_0_0) : Arr F S1x64x128x4x64 .f32 → Arr F S1x1x128x4x64 .f32),
    unary main_v200 main_v203 ((extractStridedSlice S1x63x128x4x64 ![0, 1, 0, 0, 0] · slices_S1x64x128x4x64_S1x63x128x4x64_0_1_0_0_0) : Arr F S1x64x128x4x64 .f32 → Arr F S1x63x128x4x64 .f32),
    nullary main_cst_32 (constant S_ .f32 0x00000000#32),
    binary main_v203 main_cst_32 main_v204 ((fun x v => pad S1x64x128x4x64 ![0, 0, 0, 0, 0] ![0, 1, 0, 0, 0] ![0, 0, 0, 0, 0] x v pads_S1x63x128x4x64_S1x64x128x4x64_000_010_000_000_000 h_S_) : Arr F S1x63x128x4x64 .f32 → Arr F S_ .f32 → Arr F S1x64x128x4x64 .f32) ]
abbrev ops22 : List (HloOp τ sig (Elt F)) :=
  [ binary main_v201 main_v204 main_v205 (addf : Arr F S1x64x128x4x64 .f32 → Arr F S1x64x128x4x64 .f32 → Arr F S1x64x128x4x64 .f32),
    reshape main_v205 main_v206 (rfl : (.f32 : EltTy) = .f32) shapeCasts_S1x64x128x4x64_S1x8192x4x64,
    unary main_v199 main_v207 ((extractStridedSlice S1x64x128x4x64 ![0, 0, 0, 0, 0] · slices_S1x64x256x4x64_S1x64x128x4x64_0_0_0_0_0) : Arr F S1x64x256x4x64 .f32 → Arr F S1x64x128x4x64 .f32),
    unary main_v199 main_v208 ((extractStridedSlice S1x64x128x4x64 ![0, 0, 128, 0, 0] · slices_S1x64x256x4x64_S1x64x128x4x64_0_0_128_0_0) : Arr F S1x64x256x4x64 .f32 → Arr F S1x64x128x4x64 .f32),
    unary main_v207 main_v209 ((extractStridedSlice S1x1x128x4x64 ![0, 0, 0, 0, 0] · slices_S1x64x128x4x64_S1x1x128x4x64_0_0_0_0_0) : Arr F S1x64x128x4x64 .f32 → Arr F S1x1x128x4x64 .f32),
    unary main_v207 main_v210 ((extractStridedSlice S1x63x128x4x64 ![0, 1, 0, 0, 0] · slices_S1x64x128x4x64_S1x63x128x4x64_0_1_0_0_0) : Arr F S1x64x128x4x64 .f32 → Arr F S1x63x128x4x64 .f32),
    nullary main_cst_33 (constant S_ .f32 0x00000000#32),
    binary main_v210 main_cst_33 main_v211 ((fun x v => pad S1x64x128x4x64 ![0, 0, 0, 0, 0] ![0, 1, 0, 0, 0] ![0, 0, 0, 0, 0] x v pads_S1x63x128x4x64_S1x64x128x4x64_000_010_000_000_000 h_S_) : Arr F S1x63x128x4x64 .f32 → Arr F S_ .f32 → Arr F S1x64x128x4x64 .f32),
    binary main_v208 main_v211 main_v212 (addf : Arr F S1x64x128x4x64 .f32 → Arr F S1x64x128x4x64 .f32 → Arr F S1x64x128x4x64 .f32),
    reshape main_v212 main_v213 (rfl : (.f32 : EltTy) = .f32) shapeCasts_S1x64x128x4x64_S1x8192x4x64,
    reshape main_v197 main_v214 (rfl : (.f32 : EltTy) = .f32) shapeCasts_S1x64x128x4x4x64_S1x8192x16x64 ]
abbrev ops23 : List (HloOp τ sig (Elt F)) :=
  [ reshape main_v206 main_v215 (rfl : (.f32 : EltTy) = .f32) shapeCasts_S1x8192x4x64_S8192x256,
    unary main_v213 main_v216 ((extractStridedSlice S1x8192x4x32 ![0, 0, 0, 0] · slices_S1x8192x4x64_S1x8192x4x32_0_0_0_0) : Arr F S1x8192x4x64 .f32 → Arr F S1x8192x4x32 .f32),
    unary main_v213 main_v217 ((extractStridedSlice S1x8192x4x32 ![0, 0, 0, 32] · slices_S1x8192x4x64_S1x8192x4x32_0_0_0_32) : Arr F S1x8192x4x64 .f32 → Arr F S1x8192x4x32 .f32),
    unary main_v41 main_v218 (broadcastInDim S1x8192x4x32 ![0, 1, 2, 3] bcast_S1x8192x1x32_S1x8192x4x32_0_1_2_3 : Arr F S1x8192x1x32 .f32 → Arr F S1x8192x4x32 .f32),
    binary main_v217 main_v218 main_v219 (mulf : Arr F S1x8192x4x32 .f32 → Arr F S1x8192x4x32 .f32 → Arr F S1x8192x4x32 .f32),
    unary main_v40 main_v220 (broadcastInDim S1x8192x4x32 ![0, 1, 2, 3] bcast_S1x8192x1x32_S1x8192x4x32_0_1_2_3 : Arr F S1x8192x1x32 .f32 → Arr F S1x8192x4x32 .f32),
    binary main_v217 main_v220 main_v221 (mulf : Arr F S1x8192x4x32 .f32 → Arr F S1x8192x4x32 .f32 → Arr F S1x8192x4x32 .f32),
    unary main_v216 main_v222 (Host.negf : Arr F S1x8192x4x32 .f32 → Arr F S1x8192x4x32 .f32),
    unary main_v41 main_v223 (broadcastInDim S1x8192x4x32 ![0, 1, 2, 3] bcast_S1x8192x1x32_S1x8192x4x32_0_1_2_3 : Arr F S1x8192x1x32 .f32 → Arr F S1x8192x4x32 .f32),
    binary main_v222 main_v223 main_v224 (mulf : Arr F S1x8192x4x32 .f32 → Arr F S1x8192x4x32 .f32 → Arr F S1x8192x4x32 .f32),
    binary main_v221 main_v224 main_v225 (addf : Arr F S1x8192x4x32 .f32 → Arr F S1x8192x4x32 .f32 → Arr F S1x8192x4x32 .f32) ]
abbrev ops24 : List (HloOp τ sig (Elt F)) :=
  [ unary main_v40 main_v226 (broadcastInDim S1x8192x4x32 ![0, 1, 2, 3] bcast_S1x8192x1x32_S1x8192x4x32_0_1_2_3 : Arr F S1x8192x1x32 .f32 → Arr F S1x8192x4x32 .f32),
    binary main_v216 main_v226 main_v227 (mulf : Arr F S1x8192x4x32 .f32 → Arr F S1x8192x4x32 .f32 → Arr F S1x8192x4x32 .f32),
    binary main_v219 main_v227 main_v228 (addf : Arr F S1x8192x4x32 .f32 → Arr F S1x8192x4x32 .f32 → Arr F S1x8192x4x32 .f32),
    binary main_v228 main_v225 main_v229 (fn_main_v229 (F := F)),
    reshape main_v229 main_v230 (rfl : (.f32 : EltTy) = .f32) shapeCasts_S1x8192x4x64_S8192x256,
    unary main_v214 main_v231 ((extractStridedSlice S1x8192x16x32 ![0, 0, 0, 0] · slices_S1x8192x16x64_S1x8192x16x32_0_0_0_0) : Arr F S1x8192x16x64 .f32 → Arr F S1x8192x16x32 .f32),
    unary main_v214 main_v232 ((extractStridedSlice S1x8192x16x32 ![0, 0, 0, 32] · slices_S1x8192x16x64_S1x8192x16x32_0_0_0_32) : Arr F S1x8192x16x64 .f32 → Arr F S1x8192x16x32 .f32),
    unary main_v25 main_v233 (broadcastInDim S1x8192x16x32 ![0, 1, 2, 3] bcast_S1x8192x1x32_S1x8192x16x32_0_1_2_3 : Arr F S1x8192x1x32 .f32 → Arr F S1x8192x16x32 .f32),
    binary main_v232 main_v233 main_v234 (mulf : Arr F S1x8192x16x32 .f32 → Arr F S1x8192x16x32 .f32 → Arr F S1x8192x16x32 .f32),
    unary main_v24 main_v235 (broadcastInDim S1x8192x16x32 ![0, 1, 2, 3] bcast_S1x8192x1x32_S1x8192x16x32_0_1_2_3 : Arr F S1x8192x1x32 .f32 → Arr F S1x8192x16x32 .f32),
    binary main_v232 main_v235 main_v236 (mulf : Arr F S1x8192x16x32 .f32 → Arr F S1x8192x16x32 .f32 → Arr F S1x8192x16x32 .f32) ]
abbrev ops25 : List (HloOp τ sig (Elt F)) :=
  [ unary main_v231 main_v237 (Host.negf : Arr F S1x8192x16x32 .f32 → Arr F S1x8192x16x32 .f32),
    unary main_v25 main_v238 (broadcastInDim S1x8192x16x32 ![0, 1, 2, 3] bcast_S1x8192x1x32_S1x8192x16x32_0_1_2_3 : Arr F S1x8192x1x32 .f32 → Arr F S1x8192x16x32 .f32),
    binary main_v237 main_v238 main_v239 (mulf : Arr F S1x8192x16x32 .f32 → Arr F S1x8192x16x32 .f32 → Arr F S1x8192x16x32 .f32),
    binary main_v236 main_v239 main_v240 (addf : Arr F S1x8192x16x32 .f32 → Arr F S1x8192x16x32 .f32 → Arr F S1x8192x16x32 .f32),
    unary main_v24 main_v241 (broadcastInDim S1x8192x16x32 ![0, 1, 2, 3] bcast_S1x8192x1x32_S1x8192x16x32_0_1_2_3 : Arr F S1x8192x1x32 .f32 → Arr F S1x8192x16x32 .f32),
    binary main_v231 main_v241 main_v242 (mulf : Arr F S1x8192x16x32 .f32 → Arr F S1x8192x16x32 .f32 → Arr F S1x8192x16x32 .f32),
    binary main_v234 main_v242 main_v243 (addf : Arr F S1x8192x16x32 .f32 → Arr F S1x8192x16x32 .f32 → Arr F S1x8192x16x32 .f32),
    binary main_v243 main_v240 main_v244 (fn_main_v244 (F := F)),
    reshape main_v244 main_v245 (rfl : (.f32 : EltTy) = .f32) shapeCasts_S1x8192x16x64_S8192x1024,
    nary ![main_v245, main_v230, main_v215] main_v246 (fun u => fn_main_v246 (F := F) (u 0) (u 1) (u 2)),
    unary main_v246 main_v247 ((truncf .bf16 · bitsLt_bf16_f32) : Arr F S8192x1536 .f32 → Arr F S8192x1536 .bf16) ]
def opsP0 : List (HloOp τ sig (Elt F)) := ops0 ++ (ops1 ++ (ops2 ++ (ops3 ++ (ops4))))
def opsP1 : List (HloOp τ sig (Elt F)) := ops5 ++ (ops6 ++ (ops7 ++ (ops8 ++ (ops9))))
def opsP2 : List (HloOp τ sig (Elt F)) := ops10 ++ (ops11 ++ (ops12 ++ (ops13 ++ (ops14 ++ (ops15)))))
def opsP3 : List (HloOp τ sig (Elt F)) := ops16 ++ (ops17 ++ (ops18 ++ (ops19 ++ (ops20 ++ (ops21)))))
def opsP4 : List (HloOp τ sig (Elt F)) := ops22 ++ (ops23 ++ (ops24 ++ (ops25)))
abbrev ops : List (HloOp τ sig (Elt F)) := opsP0 ++ (opsP1 ++ (opsP2 ++ (opsP3 ++ opsP4)))

set_option maxRecDepth 8192 in
set_option maxHeartbeats 4000000 in
theorem part0_eq (c : Dev nD) : main_part0 (F := F) c = seq opsP0 := rfl
set_option maxRecDepth 8192 in
set_option maxHeartbeats 4000000 in
theorem part1_eq (c : Dev nD) : main_part1 (F := F) c = seq opsP1 := rfl
set_option maxRecDepth 8192 in
set_option maxHeartbeats 4000000 in
theorem part2_eq (c : Dev nD) : main_part2 (F := F) c = seq opsP2 := rfl
set_option maxRecDepth 8192 in
set_option maxHeartbeats 4000000 in
theorem part3_eq (c : Dev nD) : main_part3 (F := F) c = seq opsP3 := rfl
set_option maxRecDepth 8192 in
set_option maxHeartbeats 4000000 in
theorem part4_eq (c : Dev nD) : main_part4 (F := F) c = seq opsP4 := rfl
set_option maxRecDepth 8192 in
theorem main_eq (c : Dev nD) : main (F := F) c = seq ops := by
  simp only [ops, seq_append, ← part0_eq c, ← part1_eq c, ← part2_eq c, ← part3_eq c, ← part4_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops0_sub : (ops0 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl⟩
theorem ops1_sub : (ops1 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub ..⟩
theorem ops1_fresh : (ops1 : List (HloOp τ sig (Elt F))).Forall fun op => op.fresh = ∅ :=
  ⟨rfl, rfl, rfl, rfl, rfl, rfl, rfl, rfl, rfl, rfl, rfl, rfl⟩
theorem ops2_sub : (ops2 : List (HloOp τ sig (Elt F))).Forall fun op => op.bufs ⊆ tcRefs τ sig :=
  ⟨unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub ..⟩
theorem ops2_fresh : (ops2 : List (HloOp τ sig (Elt F))).Forall fun op => op.fresh = ∅ :=
  ⟨rfl, rfl, rfl, rfl, rfl, rfl, rfl, rfl, rfl, rfl, rfl, rfl⟩
theorem ops3_sub : (ops3 : List (HloOp τ sig (Elt F))).Forall fun op => op.bufs ⊆ tcRefs τ sig :=
  ⟨binary_bufs_sub .., unary_bufs_sub .., binary_bufs_sub .., binary_bufs_sub .., binary_bufs_sub .., reshape_bufs_sub .., unary_bufs_sub .., unary_bufs_sub .., unary_bufs_sub .., unary_bufs_sub .., unary_bufs_sub .., binary_bufs_sub ..⟩
theorem ops3_fresh : (ops3 : List (HloOp τ sig (Elt F))).Forall fun op => op.fresh = ∅ :=
  ⟨rfl, rfl, rfl, rfl, rfl, rfl, rfl, rfl, rfl, rfl, rfl, rfl⟩
theorem ops4_sub : (ops4 : List (HloOp τ sig (Elt F))).Forall fun op => op.bufs ⊆ tcRefs τ sig :=
  ⟨unary_bufs_sub .., binary_bufs_sub .., binary_bufs_sub .., unary_bufs_sub .., binary_bufs_sub .., unary_bufs_sub .., binary_bufs_sub .., binary_bufs_sub .., binary_bufs_sub .., reshape_bufs_sub .., reshape_bufs_sub .., reshape_bufs_sub ..⟩
theorem ops4_fresh : (ops4 : List (HloOp τ sig (Elt F))).Forall fun op => op.fresh = ∅ :=
  ⟨rfl, rfl, rfl, rfl, rfl, rfl, rfl, rfl, rfl, rfl, rfl, rfl⟩
theorem ops5_sub : (ops5 : List (HloOp τ sig (Elt F))).Forall fun op => op.bufs ⊆ tcRefs τ sig :=
  ⟨unary_bufs_sub .., nullary_bufs_sub .., unary_bufs_sub .., unary_bufs_sub .., binary_bufs_sub .., nullary_bufs_sub .., unary_bufs_sub .., binary_bufs_sub .., reshape_bufs_sub .., unary_bufs_sub .., nullary_bufs_sub .., unary_bufs_sub ..⟩
theorem ops5_fresh : (ops5 : List (HloOp τ sig (Elt F))).Forall fun op => op.fresh = ∅ :=
  ⟨rfl, rfl, rfl, rfl, rfl, rfl, rfl, rfl, rfl, rfl, rfl, rfl⟩
theorem ops6_sub : (ops6 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub ..⟩
theorem ops6_fresh : (ops6 : List (HloOp τ sig (Elt F))).Forall fun op => op.fresh = ∅ :=
  ⟨rfl, rfl, rfl, rfl, rfl, rfl, rfl, rfl, rfl, rfl, rfl, rfl⟩
theorem ops7_sub : (ops7 : List (HloOp τ sig (Elt F))).Forall fun op => op.bufs ⊆ tcRefs τ sig :=
  ⟨nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub ..⟩
theorem ops7_fresh : (ops7 : List (HloOp τ sig (Elt F))).Forall fun op => op.fresh = ∅ :=
  ⟨rfl, rfl, rfl, rfl, rfl, rfl, rfl, rfl, rfl, rfl, rfl, rfl⟩
theorem ops8_sub : (ops8 : List (HloOp τ sig (Elt F))).Forall fun op => op.bufs ⊆ tcRefs τ sig :=
  ⟨unary_bufs_sub .., binary_bufs_sub .., binary_bufs_sub .., nullary_bufs_sub .., unary_bufs_sub .., nullary_bufs_sub .., unary_bufs_sub .., binary_bufs_sub .., nullary_bufs_sub .., unary_bufs_sub .., binary_bufs_sub .., nullary_bufs_sub ..⟩
theorem ops8_fresh : (ops8 : List (HloOp τ sig (Elt F))).Forall fun op => op.fresh = ∅ :=
  ⟨rfl, rfl, rfl, rfl, rfl, rfl, rfl, rfl, rfl, rfl, rfl, rfl⟩
theorem ops9_sub : (ops9 : List (HloOp τ sig (Elt F))).Forall fun op => op.bufs ⊆ tcRefs τ sig :=
  ⟨unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub ..⟩
theorem ops9_fresh : (ops9 : List (HloOp τ sig (Elt F))).Forall fun op => op.fresh = ∅ :=
  ⟨rfl, rfl, rfl, rfl, rfl, rfl, rfl, rfl, rfl, rfl, rfl, rfl⟩
theorem ops10_sub : (ops10 : List (HloOp τ sig (Elt F))).Forall fun op => op.bufs ⊆ tcRefs τ sig :=
  ⟨unary_bufs_sub .., nullary_bufs_sub .., unary_bufs_sub .., unary_bufs_sub .., unary_bufs_sub .., ternary_bufs_sub .., nullary_bufs_sub .., unary_bufs_sub .., reshape_bufs_sub .., unary_bufs_sub .., nullary_bufs_sub ..⟩
theorem ops10_fresh : (ops10 : List (HloOp τ sig (Elt F))).Forall fun op => op.fresh = ∅ :=
  ⟨rfl, rfl, rfl, rfl, rfl, rfl, rfl, rfl, rfl, rfl, rfl⟩
theorem ops11_sub : (ops11 : List (HloOp τ sig (Elt F))).Forall fun op => op.bufs ⊆ tcRefs τ sig :=
  ⟨binary_bufs_sub .., reshape_bufs_sub .., unary_bufs_sub .., binary_bufs_sub .., unary_bufs_sub .., nullary_bufs_sub .., binary_bufs_sub .., unary_bufs_sub .., unary_bufs_sub .., binary_bufs_sub .., unary_bufs_sub ..⟩
theorem ops11_fresh : (ops11 : List (HloOp τ sig (Elt F))).Forall fun op => op.fresh = ∅ :=
  ⟨rfl, rfl, rfl, rfl, rfl, rfl, rfl, rfl, rfl, rfl, rfl⟩
theorem ops12_sub : (ops12 : List (HloOp τ sig (Elt F))).Forall fun op => op.bufs ⊆ tcRefs τ sig :=
  ⟨binary_bufs_sub .., unary_bufs_sub .., binary_bufs_sub .., nullary_bufs_sub .., unary_bufs_sub .., nullary_bufs_sub .., unary_bufs_sub .., nullary_bufs_sub .., unary_bufs_sub .., ternary_bufs_sub .., ternary_bufs_sub ..⟩
theorem ops12_fresh : (ops12 : List (HloOp τ sig (Elt F))).Forall fun op => op.fresh = ∅ :=
  ⟨rfl, rfl, rfl, rfl, rfl, rfl, rfl, rfl, rfl, rfl, rfl⟩
theorem ops13_sub : (ops13 : List (HloOp τ sig (Elt F))).Forall fun op => op.bufs ⊆ tcRefs τ sig :=
  ⟨unary_bufs_sub .., binary_bufs_sub .., unary_bufs_sub .., binary_bufs_sub .., nullary_bufs_sub .., unary_bufs_sub .., nullary_bufs_sub .., unary_bufs_sub .., nullary_bufs_sub .., unary_bufs_sub .., ternary_bufs_sub ..⟩
theorem ops13_fresh : (ops13 : List (HloOp τ sig (Elt F))).Forall fun op => op.fresh = ∅ :=
  ⟨rfl, rfl, rfl, rfl, rfl, rfl, rfl, rfl, rfl, rfl, rfl⟩
theorem ops14_sub : (ops14 : List (HloOp τ sig (Elt F))).Forall fun op => op.bufs ⊆ tcRefs τ sig :=
  ⟨ternary_bufs_sub .., unary_bufs_sub .., binary_bufs_sub .., unary_bufs_sub .., nullary_bufs_sub .., binary_bufs_sub .., unary_bufs_sub .., unary_bufs_sub .., binary_bufs_sub .., unary_bufs_sub .., binary_bufs_sub ..⟩
theorem ops14_fresh : (ops14 : List (HloOp τ sig (Elt F))).Forall fun op => op.fresh = ∅ :=
  ⟨rfl, rfl, rfl, rfl, rfl, rfl, rfl, rfl, rfl, rfl, rfl⟩
theorem ops15_sub : (ops15 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., unary_bufs_sub .., reshape_bufs_sub .., reshape_bufs_sub ..⟩
theorem ops15_fresh : (ops15 : List (HloOp τ sig (Elt F))).Forall fun op => op.fresh = ∅ :=
  ⟨rfl, rfl, rfl, rfl, rfl, rfl, rfl, rfl, rfl, rfl⟩
theorem ops16_sub : (ops16 : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., nullary_bufs_sub .., binary_bufs_sub .., reshape_bufs_sub .., unary_bufs_sub ..⟩
theorem ops16_fresh : (ops16 : List (HloOp τ sig (Elt F))).Forall fun op => op.fresh = ∅ :=
  ⟨rfl, rfl, rfl, rfl, rfl, rfl, rfl, rfl, rfl, rfl, rfl⟩
theorem ops17_sub : (ops17 : List (HloOp τ sig (Elt F))).Forall fun op => op.bufs ⊆ tcRefs τ sig :=
  ⟨unary_bufs_sub .., binary_bufs_sub .., binary_bufs_sub .., nullary_bufs_sub .., binary_bufs_sub .., reshape_bufs_sub .., unary_bufs_sub .., nullary_bufs_sub .., binary_bufs_sub .., unary_bufs_sub .., unary_bufs_sub ..⟩
theorem ops17_fresh : (ops17 : List (HloOp τ sig (Elt F))).Forall fun op => op.fresh = ∅ :=
  ⟨rfl, rfl, rfl, rfl, rfl, rfl, rfl, rfl, rfl, rfl, rfl⟩
theorem ops18_sub : (ops18 : List (HloOp τ sig (Elt F))).Forall fun op => op.bufs ⊆ tcRefs τ sig :=
  ⟨binary_bufs_sub .., binary_bufs_sub .., unary_bufs_sub .., nullary_bufs_sub .., binary_bufs_sub .., reshape_bufs_sub .., binary_bufs_sub .., binary_bufs_sub .., nullary_bufs_sub .., binary_bufs_sub .., reshape_bufs_sub ..⟩
theorem ops18_fresh : (ops18 : List (HloOp τ sig (Elt F))).Forall fun op => op.fresh = ∅ :=
  ⟨rfl, rfl, rfl, rfl, rfl, rfl, rfl, rfl, rfl, rfl, rfl⟩
theorem ops19_sub : (ops19 : List (HloOp τ sig (Elt F))).Forall fun op => op.bufs ⊆ tcRefs τ sig :=
  ⟨binary_bufs_sub .., binary_bufs_sub .., nullary_bufs_sub .., binary_bufs_sub .., unary_bufs_sub .., binary_bufs_sub .., unary_bufs_sub .., binary_bufs_sub .., binary_bufs_sub .., nullary_bufs_sub .., binary_bufs_sub ..⟩
theorem ops19_fresh : (ops19 : List (HloOp τ sig (Elt F))).Forall fun op => op.fresh = ∅ :=
  ⟨rfl, rfl, rfl, rfl, rfl, rfl, rfl, rfl, rfl, rfl, rfl⟩
theorem ops20_sub : (ops20 : List (HloOp τ sig (Elt F))).Forall fun op => op.bufs ⊆ tcRefs τ sig :=
  ⟨reshape_bufs_sub .., nullary_bufs_sub .., unary_bufs_sub .., ternary_bufs_sub .., nullary_bufs_sub .., unary_bufs_sub .., binary_bufs_sub .., unary_bufs_sub .., binary_bufs_sub .., unary_bufs_sub .., binary_bufs_sub ..⟩
theorem ops20_fresh : (ops20 : List (HloOp τ sig (Elt F))).Forall fun op => op.fresh = ∅ :=
  ⟨rfl, rfl, rfl, rfl, rfl, rfl, rfl, rfl, rfl, rfl, rfl⟩
theorem ops21_sub : (ops21 : List (HloOp τ sig (Elt F))).Forall fun op => op.bufs ⊆ tcRefs τ sig :=
  ⟨unary_bufs_sub .., unary_bufs_sub .., unary_bufs_sub .., unary_bufs_sub .., unary_bufs_sub .., nullary_bufs_sub .., binary_bufs_sub ..⟩
theorem ops21_fresh : (ops21 : List (HloOp τ sig (Elt F))).Forall fun op => op.fresh = ∅ :=
  ⟨rfl, rfl, rfl, rfl, rfl, rfl, rfl⟩
theorem ops22_sub : (ops22 : List (HloOp τ sig (Elt F))).Forall fun op => op.bufs ⊆ tcRefs τ sig :=
  ⟨binary_bufs_sub .., reshape_bufs_sub .., unary_bufs_sub .., unary_bufs_sub .., unary_bufs_sub .., unary_bufs_sub .., nullary_bufs_sub .., binary_bufs_sub .., binary_bufs_sub .., reshape_bufs_sub .., reshape_bufs_sub ..⟩
theorem ops22_fresh : (ops22 : List (HloOp τ sig (Elt F))).Forall fun op => op.fresh = ∅ :=
  ⟨rfl, rfl, rfl, rfl, rfl, rfl, rfl, rfl, rfl, rfl, rfl⟩
theorem ops23_sub : (ops23 : List (HloOp τ sig (Elt F))).Forall fun op => op.bufs ⊆ tcRefs τ sig :=
  ⟨reshape_bufs_sub .., unary_bufs_sub .., unary_bufs_sub .., unary_bufs_sub .., binary_bufs_sub .., unary_bufs_sub .., binary_bufs_sub .., unary_bufs_sub .., unary_bufs_sub .., binary_bufs_sub .., binary_bufs_sub ..⟩
theorem ops23_fresh : (ops23 : List (HloOp τ sig (Elt F))).Forall fun op => op.fresh = ∅ :=
  ⟨rfl, rfl, rfl, rfl, rfl, rfl, rfl, rfl, rfl, rfl, rfl⟩
theorem ops24_sub : (ops24 : List (HloOp τ sig (Elt F))).Forall fun op => op.bufs ⊆ tcRefs τ sig :=
  ⟨unary_bufs_sub .., binary_bufs_sub .., binary_bufs_sub .., binary_bufs_sub .., reshape_bufs_sub .., unary_bufs_sub .., unary_bufs_sub .., unary_bufs_sub .., binary_bufs_sub .., unary_bufs_sub .., binary_bufs_sub ..⟩
theorem ops24_fresh : (ops24 : List (HloOp τ sig (Elt F))).Forall fun op => op.fresh = ∅ :=
  ⟨rfl, rfl, rfl, rfl, rfl, rfl, rfl, rfl, rfl, rfl, rfl⟩
theorem ops25_sub : (ops25 : List (HloOp τ sig (Elt F))).Forall fun op => op.bufs ⊆ tcRefs τ sig :=
  ⟨unary_bufs_sub .., unary_bufs_sub .., binary_bufs_sub .., binary_bufs_sub .., unary_bufs_sub .., binary_bufs_sub .., binary_bufs_sub .., binary_bufs_sub .., reshape_bufs_sub .., nary_bufs_sub .., unary_bufs_sub ..⟩
theorem ops25_fresh : (ops25 : List (HloOp τ sig (Elt F))).Forall fun op => op.fresh = ∅ :=
  ⟨rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, opsP0, opsP1, opsP2, opsP3, opsP4, List.mem_append, or_assoc] at h
    rcases h with h | h | h | h | h | h | h | h | h | h | h | h | h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, List.forall_iff_forall_mem.mp ops15_sub op h, List.forall_iff_forall_mem.mp ops16_sub op h, List.forall_iff_forall_mem.mp ops17_sub op h, List.forall_iff_forall_mem.mp ops18_sub op h, List.forall_iff_forall_mem.mp ops19_sub op h, List.forall_iff_forall_mem.mp ops20_sub op h, List.forall_iff_forall_mem.mp ops21_sub op h, List.forall_iff_forall_mem.mp ops22_sub op h, List.forall_iff_forall_mem.mp ops23_sub op h, List.forall_iff_forall_mem.mp ops24_sub op h, List.forall_iff_forall_mem.mp ops25_sub op h]
theorem ops_fresh : ∀ op ∈ (ops : List (HloOp τ sig (Elt F))), op.fresh = ∅ := fun op h => by
    simp only [ops, opsP0, opsP1, opsP2, opsP3, opsP4, List.mem_append, or_assoc] at h
    rcases h with h | h | h | h | h | h | h | h | h | h | h | h | h | h | h | h | h | h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h, List.forall_iff_forall_mem.mp ops15_fresh op h, List.forall_iff_forall_mem.mp ops16_fresh op h, List.forall_iff_forall_mem.mp ops17_fresh op h, List.forall_iff_forall_mem.mp ops18_fresh op h, List.forall_iff_forall_mem.mp ops19_fresh op h, List.forall_iff_forall_mem.mp ops20_fresh op h, List.forall_iff_forall_mem.mp ops21_fresh op h, List.forall_iff_forall_mem.mp ops22_fresh op h, List.forall_iff_forall_mem.mp ops23_fresh op h, List.forall_iff_forall_mem.mp ops24_fresh op h, List.forall_iff_forall_mem.mp ops25_fresh op h]

end Cert.ReferenceIdeal.Read

end
-- ==== Proof.RefRun1.lean ====
/- The reference program run, part 1: what its buffers hold after each window of operations. -/
module

public import proofs.«01_k».proof.Proof.RefOps

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

set_option maxRecDepth 8192
set_option maxHeartbeats 2000000

def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl

/-- The buffers after the first 1 windows. -/
def val1 : Valuation τ sig (Elt F) := after ops0 (val0 V0)
abbrev W0 : List (Ref sig .tc) := [main_v0, main_v1, main_cst, main_v2, main_v3, main_cst_0, main_v4, main_v5, main_v6, main_cst_1, main_v7, main_v8]
theorem W0_writes : (ops0 : List (HloOp τ sig (Elt F))).Forall fun op => op.writes ⊆ (W0.map (Proc.devRef (τ := τ) .tc)).toFinset :=
  forall_writes_sub_of_map rfl
theorem val1_keep (r : Ref sig .tc) (h : r ∉ W0) :
    val1 V0 (no_index (Proc.devRef .tc r)) = val0 V0 (Proc.devRef .tc r) := after_of_writes_sub ops0 _ W0_writes h
theorem val1_main_v0 : val1 V0 (no_index (Proc.devRef .tc main_v0)) = val_main_v0 (F := F) := by
  unfold val1
  simp only [ops0]
  after_results_simp
  all_goals rfl
theorem val1_main_v8 : val1 V0 (no_index (Proc.devRef .tc main_v8)) = val_main_v8 (F := F) := by
  unfold val1
  simp only [ops0]
  after_results_simp
  all_goals rfl

/-- The buffers after the first 2 windows. -/
def val2 : Valuation τ sig (Elt F) := after ops1 (val1 V0)
abbrev W1 : List (Ref sig .tc) := [main_cst_2, main_v9, main_v10, main_v11, main_v12, main_v13, main_v14, main_v15, main_v16, main_v17, main_v18, main_v19]
theorem W1_writes : (ops1 : List (HloOp τ sig (Elt F))).Forall fun op => op.writes ⊆ (W1.map (Proc.devRef (τ := τ) .tc)).toFinset :=
  forall_writes_sub_of_map rfl
theorem val2_keep (r : Ref sig .tc) (h : r ∉ W1) :
    val2 V0 (no_index (Proc.devRef .tc r)) = val1 V0 (Proc.devRef .tc r) := after_of_writes_sub ops1 _ W1_writes h
theorem val2_main_v16 : val2 V0 (no_index (Proc.devRef .tc main_v16)) = val_main_v16 (F := F) := by
  unfold val2
  simp only [ops1]
  after_results_simp
  simp only [val1_main_v0, val1_main_v8] <;> rfl
theorem val2_main_v17 : val2 V0 (no_index (Proc.devRef .tc main_v17)) = val_main_v17 (F := F) := by
  unfold val2
  simp only [ops1]
  after_results_simp
  simp only [val1_main_v0, val1_main_v8] <;> rfl
theorem val2_main_v18 : val2 V0 (no_index (Proc.devRef .tc main_v18)) = val_main_v18 (F := F) (V0 (Proc.devRef .tc main_arg0)) := by
  unfold val2
  simp only [ops1]
  after_results_simp
  simp (disch := decide) only [val1_keep, val0_main_arg0] <;> rfl
theorem val2_main_v19 : val2 V0 (no_index (Proc.devRef .tc main_v19)) = val_main_v19 (F := F) (V0 (Proc.devRef .tc main_arg0)) := by
  unfold val2
  simp only [ops1]
  after_results_simp
  simp (disch := decide) only [val1_keep, val0_main_arg0] <;> rfl

/-- The buffers after the first 3 windows. -/
def val3 : Valuation τ sig (Elt F) := after ops2 (val2 V0)
abbrev W2 : List (Ref sig .tc) := [main_v20, main_v21, main_v22, main_v23, main_v24, main_v25, main_v26, main_v27, main_v28, main_v29, main_v30, main_v31]
theorem W2_writes : (ops2 : List (HloOp τ sig (Elt F))).Forall fun op => op.writes ⊆ (W2.map (Proc.devRef (τ := τ) .tc)).toFinset :=
  forall_writes_sub_of_map rfl
theorem val3_keep (r : Ref sig .tc) (h : r ∉ W2) :
    val3 V0 (no_index (Proc.devRef .tc r)) = val2 V0 (Proc.devRef .tc r) := after_of_writes_sub ops2 _ W2_writes h
theorem val3_main_v20 : val3 V0 (no_index (Proc.devRef .tc main_v20)) = val_main_v20 (F := F) (V0 (Proc.devRef .tc main_arg0)) := by
  unfold val3
  simp only [ops2]
  after_results_simp
  simp (disch := decide) only [val2_keep, val1_keep, val0_main_arg0] <;> rfl
theorem val3_main_v22 : val3 V0 (no_index (Proc.devRef .tc main_v22)) = val_main_v22 (F := F) (V0 (Proc.devRef .tc main_arg0)) := by
  unfold val3
  simp only [ops2]
  after_results_simp
  simp only [val2_main_v18] <;> rfl
theorem val3_main_v23 : val3 V0 (no_index (Proc.devRef .tc main_v23)) = val_main_v23 (F := F) (V0 (Proc.devRef .tc main_arg0)) := by
  unfold val3
  simp only [ops2]
  after_results_simp
  simp only [val2_main_v18] <;> rfl
theorem val3_main_v24 : val3 V0 (no_index (Proc.devRef .tc main_v24)) = val_main_v24 (F := F) := by
  unfold val3
  simp only [ops2]
  after_results_simp
  simp only [val2_main_v16] <;> rfl
theorem val3_main_v25 : val3 V0 (no_index (Proc.devRef .tc main_v25)) = val_main_v25 (F := F) := by
  unfold val3
  simp only [ops2]
  after_results_simp
  simp only [val2_main_v17] <;> rfl
theorem val3_main_v30 : val3 V0 (no_index (Proc.devRef .tc main_v30)) = val_main_v30 (F := F) (V0 (Proc.devRef .tc main_arg0)) := by
  unfold val3
  simp only [ops2]
  after_results_simp
  simp only [val2_main_v16, val2_main_v17, val2_main_v18] <;> rfl
theorem val3_main_v31 : val3 V0 (no_index (Proc.devRef .tc main_v31)) = val_main_v31 (F := F) := by
  unfold val3
  simp only [ops2]
  after_results_simp
  simp only [val2_main_v16] <;> rfl

/-- The buffers after the first 4 windows. -/
def val4 : Valuation τ sig (Elt F) := after ops3 (val3 V0)
abbrev W3 : List (Ref sig .tc) := [main_v32, main_v33, main_v34, main_v35, main_v36, main_v37, main_v38, main_v39, main_v40, main_v41, main_v42, main_v43]
theorem W3_writes : (ops3 : List (HloOp τ sig (Elt F))).Forall fun op => op.writes ⊆ (W3.map (Proc.devRef (τ := τ) .tc)).toFinset :=
  forall_writes_sub_of_map rfl
theorem val4_keep (r : Ref sig .tc) (h : r ∉ W3) :
    val4 V0 (no_index (Proc.devRef .tc r)) = val3 V0 (Proc.devRef .tc r) := after_of_writes_sub ops3 _ W3_writes h
theorem val4_main_v36 : val4 V0 (no_index (Proc.devRef .tc main_v36)) = val_main_v36 (F := F) (V0 (Proc.devRef .tc main_arg0)) := by
  unfold val4
  simp only [ops3]
  after_results_simp
  simp only [val3_main_v22, val3_main_v23, val3_main_v25, val3_main_v30, val3_main_v31] <;> rfl
theorem val4_main_v38 : val4 V0 (no_index (Proc.devRef .tc main_v38)) = val_main_v38 (F := F) (V0 (Proc.devRef .tc main_arg0)) := by
  unfold val4
  simp only [ops3]
  after_results_simp
  simp (disch := decide) only [val3_keep, val2_main_v19] <;> rfl
theorem val4_main_v39 : val4 V0 (no_index (Proc.devRef .tc main_v39)) = val_main_v39 (F := F) (V0 (Proc.devRef .tc main_arg0)) := by
  unfold val4
  simp only [ops3]
  after_results_simp
  simp (disch := decide) only [val3_keep, val2_main_v19] <;> rfl
theorem val4_main_v40 : val4 V0 (no_index (Proc.devRef .tc main_v40)) = val_main_v40 (F := F) := by
  unfold val4
  simp only [ops3]
  after_results_simp
  simp (disch := decide) only [val3_keep, val2_main_v16] <;> rfl
theorem val4_main_v41 : val4 V0 (no_index (Proc.devRef .tc main_v41)) = val_main_v41 (F := F) := by
  unfold val4
  simp only [ops3]
  after_results_simp
  simp (disch := decide) only [val3_keep, val2_main_v17] <;> rfl
theorem val4_main_v43 : val4 V0 (no_index (Proc.devRef .tc main_v43)) = val_main_v43 (F := F) (V0 (Proc.devRef .tc main_arg0)) := by
  unfold val4
  simp only [ops3]
  after_results_simp
  simp (disch := decide) only [val3_keep, val2_main_v16, val2_main_v19] <;> rfl

/-- The buffers after the first 5 windows. -/
def val5 : Valuation τ sig (Elt F) := after ops4 (val4 V0)
abbrev W4 : List (Ref sig .tc) := [main_v44, main_v45, main_v46, main_v47, main_v48, main_v49, main_v50, main_v51, main_v52, main_v53, main_v54, main_v55]
theorem W4_writes : (ops4 : List (HloOp τ sig (Elt F))).Forall fun op => op.writes ⊆ (W4.map (Proc.devRef (τ := τ) .tc)).toFinset :=
  forall_writes_sub_of_map rfl
theorem val5_keep (r : Ref sig .tc) (h : r ∉ W4) :
    val5 V0 (no_index (Proc.devRef .tc r)) = val4 V0 (Proc.devRef .tc r) := after_of_writes_sub ops4 _ W4_writes h
theorem val5_main_v53 : val5 V0 (no_index (Proc.devRef .tc main_v53)) = val_main_v53 (F := F) (V0 (Proc.devRef .tc main_arg0)) := by
  unfold val5
  simp only [ops4]
  after_results_simp
  simp (disch := decide) only [val4_keep, val3_main_v20] <;> rfl
theorem val5_main_v54 : val5 V0 (no_index (Proc.devRef .tc main_v54)) = val_main_v54 (F := F) (V0 (Proc.devRef .tc main_arg0)) := by
  unfold val5
  simp only [ops4]
  after_results_simp
  simp only [val4_main_v36] <;> rfl
theorem val5_main_v55 : val5 V0 (no_index (Proc.devRef .tc main_v55)) = val_main_v55 (F := F) (V0 (Proc.devRef .tc main_arg0)) := by
  unfold val5
  simp only [ops4]
  after_results_simp
  simp only [val4_main_v38, val4_main_v39, val4_main_v40, val4_main_v41, val4_main_v43] <;> rfl

/-- The buffers after the first 6 windows. -/
def val6 : Valuation τ sig (Elt F) := after ops5 (val5 V0)
abbrev W5 : List (Ref sig .tc) := [main_v56, main_cst_3, main_v57, main_v58, main_v59, main_cst_4, main_v60, main_v61, main_v62, main_v63, main_cst_5, main_v64]
theorem W5_writes : (ops5 : List (HloOp τ sig (Elt F))).Forall fun op => op.writes ⊆ (W5.map (Proc.devRef (τ := τ) .tc)).toFinset :=
  forall_writes_sub_of_map rfl
theorem val6_keep (r : Ref sig .tc) (h : r ∉ W5) :
    val6 V0 (no_index (Proc.devRef .tc r)) = val5 V0 (Proc.devRef .tc r) := after_of_writes_sub ops5 _ W5_writes h
theorem val6_main_v61 : val6 V0 (no_index (Proc.devRef .tc main_v61)) = val_main_v61 (F := F) (V0 (Proc.devRef .tc main_arg0)) := by
  unfold val6
  simp only [ops5]
  after_results_simp
  simp only [val5_main_v55] <;> rfl
theorem val6_main_v62 : val6 V0 (no_index (Proc.devRef .tc main_v62)) = val_main_v62 (F := F) (V0 (Proc.devRef .tc main_arg0)) := by
  unfold val6
  simp only [ops5]
  after_results_simp
  simp only [val5_main_v53] <;> rfl
theorem val6_main_v64 : val6 V0 (no_index (Proc.devRef .tc main_v64)) = val_main_v64 (F := F) := by
  unfold val6
  simp only [ops5]
  after_results_simp
  all_goals rfl

/-- The buffers after the first 7 windows. -/
def val7 : Valuation τ sig (Elt F) := after ops6 (val6 V0)
abbrev W6 : List (Ref sig .tc) := [main_v65, main_v66, main_cst_6, main_v67, main_v68, main_v69, main_v70, main_cst_7, main_v71, main_v72, main_v73, main_v74]
theorem W6_writes : (ops6 : List (HloOp τ sig (Elt F))).Forall fun op => op.writes ⊆ (W6.map (Proc.devRef (τ := τ) .tc)).toFinset :=
  forall_writes_sub_of_map rfl
theorem val7_keep (r : Ref sig .tc) (h : r ∉ W6) :
    val7 V0 (no_index (Proc.devRef .tc r)) = val6 V0 (Proc.devRef .tc r) := after_of_writes_sub ops6 _ W6_writes h
theorem val7_main_v68 : val7 V0 (no_index (Proc.devRef .tc main_v68)) = val_main_v68 (F := F) (V0 (Proc.devRef .tc main_arg0)) := by
  unfold val7
  simp only [ops6]
  after_results_simp
  simp only [val6_main_v62, val6_main_v64] <;> rfl
theorem val7_main_v72 : val7 V0 (no_index (Proc.devRef .tc main_v72)) = val_main_v72 (F := F) (V0 (Proc.devRef .tc main_arg0)) := by
  unfold val7
  simp only [ops6]
  after_results_simp
  simp (disch := decide) only [val6_keep, val5_main_v54, val6_main_v61] <;> rfl
theorem val7_main_v74 : val7 V0 (no_index (Proc.devRef .tc main_v74)) = val_main_v74 (F := F) := by
  unfold val7
  simp only [ops6]
  after_results_simp
  all_goals rfl

/-- The buffers after the first 8 windows. -/
def val8 : Valuation τ sig (Elt F) := after ops7 (val7 V0)
abbrev W7 : List (Ref sig .tc) := [main_v75, main_v76, main_c, main_v77, main_v78, main_v79, main_v80, main_v81, main_c_8, main_v82, main_v83, main_c_9]
theorem W7_writes : (ops7 : List (HloOp τ sig (Elt F))).Forall fun op => op.writes ⊆ (W7.map (Proc.devRef (τ := τ) .tc)).toFinset :=
  forall_writes_sub_of_map rfl
theorem val8_keep (r : Ref sig .tc) (h : r ∉ W7) :
    val8 V0 (no_index (Proc.devRef .tc r)) = val7 V0 (Proc.devRef .tc r) := after_of_writes_sub ops7 _ W7_writes h
theorem val8_main_v81 : val8 V0 (no_index (Proc.devRef .tc main_v81)) = val_main_v81 (F := F) := by
  unfold val8
  simp only [ops7]
  after_results_simp
  simp only [val7_main_v74] <;> rfl
theorem val8_main_v83 : val8 V0 (no_index (Proc.devRef .tc main_v83)) = val_main_v83 (F := F) := by
  unfold val8
  simp only [ops7]
  after_results_simp
  simp only [val7_main_v74] <;> rfl
theorem val8_main_c_9 : val8 V0 (no_index (Proc.devRef .tc main_c_9)) = val_main_c_9 (F := F) := by
  unfold val8
  simp only [ops7]
  after_results_simp
  all_goals rfl

end Cert.ReferenceIdeal.Read

end
-- ==== Proof.RefRun2.lean ====
/- The reference program run, part 2: what its buffers hold after each window of operations. -/
module

public import proofs.«01_k».proof.Proof.RefRun1

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

set_option maxRecDepth 8192
set_option maxHeartbeats 2000000

/-- The buffers after the first 9 windows. -/
def val9 : Valuation τ sig (Elt F) := after ops8 (val8 V0)
abbrev W8 : List (Ref sig .tc) := [main_v84, main_v85, main_v86, main_v87, main_v88, main_c_10, main_v89, main_v90, main_c_11, main_v91, main_v92, main_v93]
theorem W8_writes : (ops8 : List (HloOp τ sig (Elt F))).Forall fun op => op.writes ⊆ (W8.map (Proc.devRef (τ := τ) .tc)).toFinset :=
  forall_writes_sub_of_map rfl
theorem val9_keep (r : Ref sig .tc) (h : r ∉ W8) :
    val9 V0 (no_index (Proc.devRef .tc r)) = val8 V0 (Proc.devRef .tc r) := after_of_writes_sub ops8 _ W8_writes h
theorem val9_main_v86 : val9 V0 (no_index (Proc.devRef .tc main_v86)) = val_main_v86 (F := F) := by
  unfold val9
  simp only [ops8]
  after_results_simp
  simp only [val8_main_c_9, val8_main_v81, val8_main_v83] <;> rfl
theorem val9_main_v92 : val9 V0 (no_index (Proc.devRef .tc main_v92)) = val_main_v92 (F := F) := by
  unfold val9
  simp only [ops8]
  after_results_simp
  all_goals rfl
theorem val9_main_v93 : val9 V0 (no_index (Proc.devRef .tc main_v93)) = val_main_v93 (F := F) := by
  unfold val9
  simp only [ops8]
  after_results_simp
  all_goals rfl

/-- The buffers after the first 10 windows. -/
def val10 : Valuation τ sig (Elt F) := after ops9 (val9 V0)
abbrev W9 : List (Ref sig .tc) := [main_v94, main_v95, main_v96, main_v97, main_v98, main_c_12, main_v99, main_v100, main_v101, main_v102, main_v103, main_v104]
theorem W9_writes : (ops9 : List (HloOp τ sig (Elt F))).Forall fun op => op.writes ⊆ (W9.map (Proc.devRef (τ := τ) .tc)).toFinset :=
  forall_writes_sub_of_map rfl
theorem val10_keep (r : Ref sig .tc) (h : r ∉ W9) :
    val10 V0 (no_index (Proc.devRef .tc r)) = val9 V0 (Proc.devRef .tc r) := after_of_writes_sub ops9 _ W9_writes h
theorem val10_main_v104 : val10 V0 (no_index (Proc.devRef .tc main_v104)) = val_main_v104 (F := F) := by
  unfold val10
  simp only [ops9]
  after_results_simp
  simp only [val9_main_v86, val9_main_v92, val9_main_v93] <;> rfl

/-- The buffers after the first 11 windows. -/
def val11 : Valuation τ sig (Elt F) := after ops10 (val10 V0)
abbrev W10 : List (Ref sig .tc) := [main_v105, main_cst_13, main_call0_v0, main_v106_1, main_call0_v2, main_v106_0, main_call0_cst, main_v106_2, main_v107, main_v108, main_cst_14]
theorem W10_writes : (ops10 : List (HloOp τ sig (Elt F))).Forall fun op => op.writes ⊆ (W10.map (Proc.devRef (τ := τ) .tc)).toFinset :=
  forall_writes_sub_of_map rfl
theorem val11_keep (r : Ref sig .tc) (h : r ∉ W10) :
    val11 V0 (no_index (Proc.devRef .tc r)) = val10 V0 (Proc.devRef .tc r) := after_of_writes_sub ops10 _ W10_writes h
theorem val11_main_v106_1 : val11 V0 (no_index (Proc.devRef .tc main_v106_1)) = val_main_v106_1 (F := F) := by
  unfold val11
  simp only [ops10, TRef.nullary, TRef.ternary, TRef.unary, TRef.toBuf, TRef.ofBuf, cast_eq]
  after_results_simp
  simp only [val10_main_v104] <;> rfl
theorem val11_main_v106_0 : val11 V0 (no_index (Proc.devRef .tc main_v106_0)) = val_main_v106_0 (F := F) (V0 (Proc.devRef .tc main_arg0)) := by
  unfold val11
  simp only [ops10, TRef.nullary, TRef.ternary, TRef.unary, TRef.toBuf, TRef.ofBuf, cast_eq]
  after_results_simp
  simp (disch := decide) only [val10_keep, val9_keep, val8_keep, val10_main_v104, val7_main_v72] <;> rfl
theorem val11_main_v108 : val11 V0 (no_index (Proc.devRef .tc main_v108)) = val_main_v108 (F := F) (V0 (Proc.devRef .tc main_arg2)) := by
  unfold val11
  simp only [ops10, TRef.nullary, TRef.ternary, TRef.unary, TRef.toBuf, TRef.ofBuf, cast_eq]
  after_results_simp
  simp (disch := decide) only [val10_keep, val9_keep, val8_keep, val7_keep, val6_keep, val5_keep, val4_keep, val3_keep, val2_keep, val1_keep, val0_main_arg2] <;> rfl
theorem val11_main_cst_14 : val11 V0 (no_index (Proc.devRef .tc main_cst_14)) = val_main_cst_14 (F := F) := by
  unfold val11
  simp only [ops10, TRef.nullary, TRef.ternary, TRef.unary, TRef.toBuf, TRef.ofBuf, cast_eq]
  after_results_simp
  all_goals rfl

/-- The buffers after the first 12 windows. -/
def val12 : Valuation τ sig (Elt F) := after ops11 (val11 V0)
abbrev W11 : List (Ref sig .tc) := [main_v109, main_v110, main_v111, main_v112, main_v113, main_cst_15, main_v114, main_v115, main_v116, main_v117, main_v118]
theorem W11_writes : (ops11 : List (HloOp τ sig (Elt F))).Forall fun op => op.writes ⊆ (W11.map (Proc.devRef (τ := τ) .tc)).toFinset :=
  forall_writes_sub_of_map rfl
theorem val12_keep (r : Ref sig .tc) (h : r ∉ W11) :
    val12 V0 (no_index (Proc.devRef .tc r)) = val11 V0 (Proc.devRef .tc r) := after_of_writes_sub ops11 _ W11_writes h
theorem val12_main_v113 : val12 V0 (no_index (Proc.devRef .tc main_v113)) = val_main_v113 (F := F) (V0 (Proc.devRef .tc main_arg0)) := by
  unfold val12
  simp only [ops11]
  after_results_simp
  simp only [val11_main_cst_14, val11_main_v106_0] <;> rfl
theorem val12_main_v114 : val12 V0 (no_index (Proc.devRef .tc main_v114)) = val_main_v114 (F := F) (V0 (Proc.devRef .tc main_arg0)) := by
  unfold val12
  simp only [ops11]
  after_results_simp
  simp only [val11_main_cst_14, val11_main_v106_0] <;> rfl
theorem val12_main_v115 : val12 V0 (no_index (Proc.devRef .tc main_v115)) = val_main_v115 (F := F) (V0 (Proc.devRef .tc main_arg0)) := by
  unfold val12
  simp only [ops11]
  after_results_simp
  simp only [val11_main_cst_14, val11_main_v106_0] <;> rfl
theorem val12_main_v117 : val12 V0 (no_index (Proc.devRef .tc main_v117)) = val_main_v117 (F := F) (V0 (Proc.devRef .tc main_arg0)) (V0 (Proc.devRef .tc main_arg2)) := by
  unfold val12
  simp only [ops11]
  after_results_simp
  simp only [val11_main_cst_14, val11_main_v106_0, val11_main_v108] <;> rfl
theorem val12_main_v118 : val12 V0 (no_index (Proc.devRef .tc main_v118)) = val_main_v118 (F := F) (V0 (Proc.devRef .tc main_arg2)) := by
  unfold val12
  simp only [ops11]
  after_results_simp
  simp only [val11_main_v108] <;> rfl

/-- The buffers after the first 13 windows. -/
def val13 : Valuation τ sig (Elt F) := after ops12 (val12 V0)
abbrev W12 : List (Ref sig .tc) := [main_v119, main_v120, main_v121, main_cst_16, main_v122, main_cst_17, main_v123, main_cst_18, main_v124, main_v125, main_v126]
theorem W12_writes : (ops12 : List (HloOp τ sig (Elt F))).Forall fun op => op.writes ⊆ (W12.map (Proc.devRef (τ := τ) .tc)).toFinset :=
  forall_writes_sub_of_map rfl
theorem val13_keep (r : Ref sig .tc) (h : r ∉ W12) :
    val13 V0 (no_index (Proc.devRef .tc r)) = val12 V0 (Proc.devRef .tc r) := after_of_writes_sub ops12 _ W12_writes h
theorem val13_main_v126 : val13 V0 (no_index (Proc.devRef .tc main_v126)) = val_main_v126 (F := F) (V0 (Proc.devRef .tc main_arg0)) (V0 (Proc.devRef .tc main_arg2)) := by
  unfold val13
  simp only [ops12]
  after_results_simp
  simp (disch := decide) only [val12_keep, val11_main_v108, val12_main_v115, val12_main_v118] <;> rfl

/-- The buffers after the first 14 windows. -/
def val14 : Valuation τ sig (Elt F) := after ops13 (val13 V0)
abbrev W13 : List (Ref sig .tc) := [main_v127, main_v128, main_v129, main_v130, main_cst_19, main_v131, main_cst_20, main_v132, main_cst_21, main_v133, main_v134]
theorem W13_writes : (ops13 : List (HloOp τ sig (Elt F))).Forall fun op => op.writes ⊆ (W13.map (Proc.devRef (τ := τ) .tc)).toFinset :=
  forall_writes_sub_of_map rfl
theorem val14_keep (r : Ref sig .tc) (h : r ∉ W13) :
    val14 V0 (no_index (Proc.devRef .tc r)) = val13 V0 (Proc.devRef .tc r) := after_of_writes_sub ops13 _ W13_writes h
theorem val14_main_v128 : val14 V0 (no_index (Proc.devRef .tc main_v128)) = val_main_v128 (F := F) (V0 (Proc.devRef .tc main_arg0)) (V0 (Proc.devRef .tc main_arg2)) := by
  unfold val14
  simp only [ops13]
  after_results_simp
  simp (disch := decide) only [val13_keep, val12_keep, val11_main_v108, val12_main_v115] <;> rfl
theorem val14_main_v131 : val14 V0 (no_index (Proc.devRef .tc main_v131)) = val_main_v131 (F := F) := by
  unfold val14
  simp only [ops13]
  after_results_simp
  all_goals rfl
theorem val14_main_v134 : val14 V0 (no_index (Proc.devRef .tc main_v134)) = val_main_v134 (F := F) (V0 (Proc.devRef .tc main_arg0)) (V0 (Proc.devRef .tc main_arg2)) := by
  unfold val14
  simp only [ops13]
  after_results_simp
  simp (disch := decide) only [val13_keep, val12_keep, val11_main_v108, val12_main_v115] <;> rfl

/-- The buffers after the first 15 windows. -/
def val15 : Valuation τ sig (Elt F) := after ops14 (val14 V0)
abbrev W14 : List (Ref sig .tc) := [main_v135, main_v136, main_v137, main_v138, main_cst_22, main_v139, main_v140, main_v141, main_v142, main_v143, main_v144]
theorem W14_writes : (ops14 : List (HloOp τ sig (Elt F))).Forall fun op => op.writes ⊆ (W14.map (Proc.devRef (τ := τ) .tc)).toFinset :=
  forall_writes_sub_of_map rfl
theorem val15_keep (r : Ref sig .tc) (h : r ∉ W14) :
    val15 V0 (no_index (Proc.devRef .tc r)) = val14 V0 (Proc.devRef .tc r) := after_of_writes_sub ops14 _ W14_writes h
theorem val15_main_v135 : val15 V0 (no_index (Proc.devRef .tc main_v135)) = val_main_v135 (F := F) (V0 (Proc.devRef .tc main_arg0)) (V0 (Proc.devRef .tc main_arg2)) := by
  unfold val15
  simp only [ops14]
  after_results_simp
  simp only [val14_main_v128, val14_main_v131, val14_main_v134] <;> rfl
theorem val15_main_v138 : val15 V0 (no_index (Proc.devRef .tc main_v138)) = val_main_v138 (F := F) (V0 (Proc.devRef .tc main_arg0)) (V0 (Proc.devRef .tc main_arg2)) := by
  unfold val15
  simp only [ops14]
  after_results_simp
  simp (disch := decide) only [val14_keep, val13_keep, val12_keep, val11_main_v106_0, val12_main_v117] <;> rfl
theorem val15_main_v143 : val15 V0 (no_index (Proc.devRef .tc main_v143)) = val_main_v143 (F := F) (V0 (Proc.devRef .tc main_arg0)) (V0 (Proc.devRef .tc main_arg2)) := by
  unfold val15
  simp only [ops14]
  after_results_simp
  simp (disch := decide) only [val14_keep, val13_keep, val12_keep, val11_main_v108, val12_main_v117] <;> rfl
theorem val15_main_v144 : val15 V0 (no_index (Proc.devRef .tc main_v144)) = val_main_v144 (F := F) (V0 (Proc.devRef .tc main_arg0)) (V0 (Proc.devRef .tc main_arg2)) := by
  unfold val15
  simp only [ops14]
  after_results_simp
  simp (disch := decide) only [val14_keep, val13_keep, val12_keep, val11_main_v106_0, val11_main_v108, val12_main_v117] <;> rfl

/-- The buffers after the first 16 windows. -/
def val16 : Valuation τ sig (Elt F) := after ops15 (val15 V0)
abbrev W15 : List (Ref sig .tc) := [main_v145, main_v146, main_v147, main_cst_23, main_v148, main_v149, main_v150, main_v151, main_v152, main_v153]
theorem W15_writes : (ops15 : List (HloOp τ sig (Elt F))).Forall fun op => op.writes ⊆ (W15.map (Proc.devRef (τ := τ) .tc)).toFinset :=
  forall_writes_sub_of_map rfl
theorem val16_keep (r : Ref sig .tc) (h : r ∉ W15) :
    val16 V0 (no_index (Proc.devRef .tc r)) = val15 V0 (Proc.devRef .tc r) := after_of_writes_sub ops15 _ W15_writes h
theorem val16_main_v146 : val16 V0 (no_index (Proc.devRef .tc main_v146)) = val_main_v146 (F := F) (V0 (Proc.devRef .tc main_arg0)) (V0 (Proc.devRef .tc main_arg2)) := by
  unfold val16
  simp only [ops15]
  after_results_simp
  simp only [val15_main_v138, val15_main_v144] <;> rfl
theorem val16_main_v149 : val16 V0 (no_index (Proc.devRef .tc main_v149)) = val_main_v149 (F := F) (V0 (Proc.devRef .tc main_arg0)) (V0 (Proc.devRef .tc main_arg2)) := by
  unfold val16
  simp only [ops15]
  after_results_simp
  simp only [val15_main_v144] <;> rfl
theorem val16_main_v153 : val16 V0 (no_index (Proc.devRef .tc main_v153)) = val_main_v153 (F := F) (V0 (Proc.devRef .tc main_arg1)) := by
  unfold val16
  simp only [ops15]
  after_results_simp
  simp (disch := decide) only [val15_keep, val14_keep, val13_keep, val12_keep, val11_keep, val10_keep, val9_keep, val8_keep, val7_keep, val6_keep, val5_keep, val4_keep, val3_keep, val2_keep, val1_keep, val0_main_arg1] <;> rfl

end Cert.ReferenceIdeal.Read

end
-- ==== Proof.RefRun3.lean ====
/- The reference program run, part 3: what its buffers hold after each window of operations. -/
module

public import proofs.«01_k».proof.Proof.RefRun2
public import Idealize.ShloMosaic.Lib.Pipeline.Frame

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

set_option maxRecDepth 8192
set_option maxHeartbeats 2000000

/-- The buffers after the first 17 windows. -/
def val17 : Valuation τ sig (Elt F) := after ops16 (val16 V0)
abbrev W16 : List (Ref sig .tc) := [main_v154, main_v155, main_v156, main_v157, main_v158, main_v159, main_v160, main_cst_24, main_v161, main_v162, main_v163]
theorem W16_writes : (ops16 : List (HloOp τ sig (Elt F))).Forall fun op => op.writes ⊆ (W16.map (Proc.devRef (τ := τ) .tc)).toFinset :=
  forall_writes_sub_of_map rfl
theorem val17_keep (r : Ref sig .tc) (h : r ∉ W16) :
    val17 V0 (no_index (Proc.devRef .tc r)) = val16 V0 (Proc.devRef .tc r) := after_of_writes_sub ops16 _ W16_writes h
theorem val17_main_v155 : val17 V0 (no_index (Proc.devRef .tc main_v155)) = val_main_v155 (F := F) (V0 (Proc.devRef .tc main_arg0)) (V0 (Proc.devRef .tc main_arg1)) := by
  unfold val17
  simp only [ops16]
  after_results_simp
  simp (disch := decide) only [val16_keep, val15_keep, val14_keep, val13_keep, val12_keep, val11_keep, val10_keep, val9_keep, val8_keep, val16_main_v153, val7_main_v68] <;> rfl
theorem val17_main_v157 : val17 V0 (no_index (Proc.devRef .tc main_v157)) = val_main_v157 (F := F) (V0 (Proc.devRef .tc main_arg0)) (V0 (Proc.devRef .tc main_arg1)) (V0 (Proc.devRef .tc main_arg2)) := by
  unfold val17
  simp only [ops16]
  after_results_simp
  simp only [val16_main_v146, val16_main_v153] <;> rfl
theorem val17_main_v163 : val17 V0 (no_index (Proc.devRef .tc main_v163)) = val_main_v163 (F := F) (V0 (Proc.devRef .tc main_arg0)) (V0 (Proc.devRef .tc main_arg1)) (V0 (Proc.devRef .tc main_arg2)) := by
  unfold val17
  simp only [ops16]
  after_results_simp
  simp (disch := decide) only [val16_keep, val15_keep, val14_keep, val13_keep, val12_keep, val11_keep, val10_keep, val9_keep, val8_keep, val15_main_v138, val16_main_v149, val16_main_v153, val7_main_v68] <;> rfl

/-- The buffers after the first 18 windows. -/
def val18 : Valuation τ sig (Elt F) := after ops17 (val17 V0)
abbrev W17 : List (Ref sig .tc) := [main_v164, main_v165, main_v166, main_cst_25, main_v167, main_v168, main_v169, main_cst_26, main_v170, main_v171, main_v172]
theorem W17_writes : (ops17 : List (HloOp τ sig (Elt F))).Forall fun op => op.writes ⊆ (W17.map (Proc.devRef (τ := τ) .tc)).toFinset :=
  forall_writes_sub_of_map rfl
theorem val18_keep (r : Ref sig .tc) (h : r ∉ W17) :
    val18 V0 (no_index (Proc.devRef .tc r)) = val17 V0 (Proc.devRef .tc r) := after_of_writes_sub ops17 _ W17_writes h
theorem val18_main_v165 : val18 V0 (no_index (Proc.devRef .tc main_v165)) = val_main_v165 (F := F) (V0 (Proc.devRef .tc main_arg0)) (V0 (Proc.devRef .tc main_arg1)) (V0 (Proc.devRef .tc main_arg2)) := by
  unfold val18
  simp only [ops17]
  after_results_simp
  simp (disch := decide) only [val17_keep, val16_keep, val15_main_v144, val17_main_v155] <;> rfl
theorem val18_main_v168 : val18 V0 (no_index (Proc.devRef .tc main_v168)) = val_main_v168 (F := F) (V0 (Proc.devRef .tc main_arg0)) (V0 (Proc.devRef .tc main_arg1)) (V0 (Proc.devRef .tc main_arg2)) := by
  unfold val18
  simp only [ops17]
  after_results_simp
  simp (disch := decide) only [val17_keep, val16_keep, val15_main_v143, val17_main_v163] <;> rfl
theorem val18_main_v169 : val18 V0 (no_index (Proc.devRef .tc main_v169)) = val_main_v169 (F := F) (V0 (Proc.devRef .tc main_arg0)) (V0 (Proc.devRef .tc main_arg1)) (V0 (Proc.devRef .tc main_arg2)) := by
  unfold val18
  simp only [ops17]
  after_results_simp
  simp (disch := decide) only [val17_keep, val16_keep, val15_main_v143, val17_main_v163] <;> rfl
theorem val18_main_v172 : val18 V0 (no_index (Proc.devRef .tc main_v172)) = val_main_v172 (F := F) (V0 (Proc.devRef .tc main_arg0)) (V0 (Proc.devRef .tc main_arg1)) (V0 (Proc.devRef .tc main_arg2)) := by
  unfold val18
  simp only [ops17]
  after_results_simp
  simp only [val17_main_v163] <;> rfl

/-- The buffers after the first 19 windows. -/
def val19 : Valuation τ sig (Elt F) := after ops18 (val18 V0)
abbrev W18 : List (Ref sig .tc) := [main_v173, main_v174, main_v175, main_cst_27, main_v176, main_v177, main_v178, main_v179, main_cst_28, main_v180, main_v181]
theorem W18_writes : (ops18 : List (HloOp τ sig (Elt F))).Forall fun op => op.writes ⊆ (W18.map (Proc.devRef (τ := τ) .tc)).toFinset :=
  forall_writes_sub_of_map rfl
theorem val19_keep (r : Ref sig .tc) (h : r ∉ W18) :
    val19 V0 (no_index (Proc.devRef .tc r)) = val18 V0 (Proc.devRef .tc r) := after_of_writes_sub ops18 _ W18_writes h
theorem val19_main_v174 : val19 V0 (no_index (Proc.devRef .tc main_v174)) = val_main_v174 (F := F) (V0 (Proc.devRef .tc main_arg0)) (V0 (Proc.devRef .tc main_arg1)) (V0 (Proc.devRef .tc main_arg2)) := by
  unfold val19
  simp only [ops18]
  after_results_simp
  simp (disch := decide) only [val18_keep, val17_keep, val16_keep, val15_main_v138, val18_main_v165, val18_main_v172] <;> rfl
theorem val19_main_v178 : val19 V0 (no_index (Proc.devRef .tc main_v178)) = val_main_v178 (F := F) (V0 (Proc.devRef .tc main_arg0)) (V0 (Proc.devRef .tc main_arg1)) (V0 (Proc.devRef .tc main_arg2)) := by
  unfold val19
  simp only [ops18]
  after_results_simp
  simp (disch := decide) only [val18_keep, val17_keep, val16_keep, val15_main_v138, val18_main_v165, val18_main_v169, val18_main_v172] <;> rfl
theorem val19_main_v181 : val19 V0 (no_index (Proc.devRef .tc main_v181)) = val_main_v181 (F := F) (V0 (Proc.devRef .tc main_arg0)) (V0 (Proc.devRef .tc main_arg1)) (V0 (Proc.devRef .tc main_arg2)) := by
  unfold val19
  simp only [ops18]
  after_results_simp
  simp (disch := decide) only [val18_keep, val17_keep, val16_keep, val15_main_v135, val15_main_v138, val18_main_v165, val18_main_v169, val18_main_v172] <;> rfl

/-- The buffers after the first 20 windows. -/
def val20 : Valuation τ sig (Elt F) := after ops19 (val19 V0)
abbrev W19 : List (Ref sig .tc) := [main_v182, main_v183, main_cst_29, main_v184, main_v185, main_v186, main_v187, main_v188, main_v189, main_cst_30, main_v190]
theorem W19_writes : (ops19 : List (HloOp τ sig (Elt F))).Forall fun op => op.writes ⊆ (W19.map (Proc.devRef (τ := τ) .tc)).toFinset :=
  forall_writes_sub_of_map rfl
theorem val20_keep (r : Ref sig .tc) (h : r ∉ W19) :
    val20 V0 (no_index (Proc.devRef .tc r)) = val19 V0 (Proc.devRef .tc r) := after_of_writes_sub ops19 _ W19_writes h
theorem val20_main_v189 : val20 V0 (no_index (Proc.devRef .tc main_v189)) = val_main_v189 (F := F) (V0 (Proc.devRef .tc main_arg0)) (V0 (Proc.devRef .tc main_arg1)) (V0 (Proc.devRef .tc main_arg2)) := by
  unfold val20
  simp only [ops19]
  after_results_simp
  simp (disch := decide) only [val19_keep, val18_keep, val17_keep, val16_keep, val15_keep, val14_keep, val13_keep, val12_main_v113, val12_main_v114, val13_main_v126, val19_main_v174, val19_main_v178] <;> rfl
theorem val20_main_v190 : val20 V0 (no_index (Proc.devRef .tc main_v190)) = val_main_v190 (F := F) (V0 (Proc.devRef .tc main_arg0)) (V0 (Proc.devRef .tc main_arg1)) (V0 (Proc.devRef .tc main_arg2)) := by
  unfold val20
  simp only [ops19]
  after_results_simp
  simp (disch := decide) only [val19_keep, val18_main_v168, val19_main_v181] <;> rfl

/-- The buffers after the first 21 windows. -/
def val21 : Valuation τ sig (Elt F) := after ops20 (val20 V0)
abbrev W20 : List (Ref sig .tc) := [main_v191, main_call1_cst, main_call1_v0, main_v192, main_cst_31, main_v193, main_v194, main_v195, main_v196, main_v197, main_v198]
theorem W20_writes : (ops20 : List (HloOp τ sig (Elt F))).Forall fun op => op.writes ⊆ (W20.map (Proc.devRef (τ := τ) .tc)).toFinset :=
  forall_writes_sub_of_map rfl
theorem val21_keep (r : Ref sig .tc) (h : r ∉ W20) :
    val21 V0 (no_index (Proc.devRef .tc r)) = val20 V0 (Proc.devRef .tc r) := after_of_writes_sub ops20 _ W20_writes h
theorem val21_main_v191 : val21 V0 (no_index (Proc.devRef .tc main_v191)) = val_main_v191 (F := F) (V0 (Proc.devRef .tc main_arg0)) (V0 (Proc.devRef .tc main_arg1)) (V0 (Proc.devRef .tc main_arg2)) := by
  unfold val21
  simp only [ops20, TRef.nullary, TRef.ternary, TRef.unary, TRef.toBuf, TRef.ofBuf, cast_eq]
  after_results_simp
  simp only [val20_main_v190] <;> rfl
theorem val21_main_v197 : val21 V0 (no_index (Proc.devRef .tc main_v197)) = val_main_v197 (F := F) (V0 (Proc.devRef .tc main_arg0)) (V0 (Proc.devRef .tc main_arg1)) (V0 (Proc.devRef .tc main_arg2)) := by
  unfold val21
  simp only [ops20, TRef.nullary, TRef.ternary, TRef.unary, TRef.toBuf, TRef.ofBuf, cast_eq]
  after_results_simp
  simp (disch := decide) only [val20_keep, val19_keep, val18_keep, val17_keep, val16_keep, val15_keep, val14_keep, val13_keep, val12_keep, val11_keep, val10_keep, val9_keep, val8_keep, val7_keep, val11_main_v106_1, val20_main_v189, val6_main_v61] <;> rfl
theorem val21_main_v198 : val21 V0 (no_index (Proc.devRef .tc main_v198)) = val_main_v198 (F := F) (V0 (Proc.devRef .tc main_arg0)) (V0 (Proc.devRef .tc main_arg1)) (V0 (Proc.devRef .tc main_arg2)) := by
  unfold val21
  simp only [ops20, TRef.nullary, TRef.ternary, TRef.unary, TRef.toBuf, TRef.ofBuf, cast_eq]
  after_results_simp
  simp (disch := decide) only [val20_keep, val19_keep, val18_keep, val17_keep, val16_keep, val15_keep, val14_keep, val13_keep, val12_keep, val11_keep, val10_keep, val9_keep, val8_keep, val7_keep, val6_keep, val11_main_v106_1, val20_main_v189, val5_main_v54] <;> rfl

/-- The buffers after the first 22 windows. -/
def val22 : Valuation τ sig (Elt F) := after ops21 (val21 V0)
abbrev W21 : List (Ref sig .tc) := [main_v199, main_v200, main_v201, main_v202, main_v203, main_cst_32, main_v204]
theorem W21_writes : (ops21 : List (HloOp τ sig (Elt F))).Forall fun op => op.writes ⊆ (W21.map (Proc.devRef (τ := τ) .tc)).toFinset :=
  forall_writes_sub_of_map rfl
theorem val22_keep (r : Ref sig .tc) (h : r ∉ W21) :
    val22 V0 (no_index (Proc.devRef .tc r)) = val21 V0 (Proc.devRef .tc r) := after_of_writes_sub ops21 _ W21_writes h
theorem val22_main_v199 : val22 V0 (no_index (Proc.devRef .tc main_v199)) = val_main_v199 (F := F) (V0 (Proc.devRef .tc main_arg0)) (V0 (Proc.devRef .tc main_arg1)) (V0 (Proc.devRef .tc main_arg2)) := by
  unfold val22
  simp only [ops21]
  after_results_simp
  simp only [val21_main_v198] <;> rfl
theorem val22_main_v201 : val22 V0 (no_index (Proc.devRef .tc main_v201)) = val_main_v201 (F := F) (V0 (Proc.devRef .tc main_arg0)) (V0 (Proc.devRef .tc main_arg1)) (V0 (Proc.devRef .tc main_arg2)) := by
  unfold val22
  simp only [ops21]
  after_results_simp
  simp (disch := decide) only [val21_keep, val20_keep, val19_keep, val18_keep, val17_main_v157] <;> rfl
theorem val22_main_v204 : val22 V0 (no_index (Proc.devRef .tc main_v204)) = val_main_v204 (F := F) (V0 (Proc.devRef .tc main_arg0)) (V0 (Proc.devRef .tc main_arg1)) (V0 (Proc.devRef .tc main_arg2)) := by
  unfold val22
  simp only [ops21]
  after_results_simp
  simp (disch := decide) only [val21_keep, val20_keep, val19_keep, val18_keep, val17_main_v157] <;> rfl

/-- The buffers after the first 23 windows. -/
def val23 : Valuation τ sig (Elt F) := after ops22 (val22 V0)
abbrev W22 : List (Ref sig .tc) := [main_v205, main_v206, main_v207, main_v208, main_v209, main_v210, main_cst_33, main_v211, main_v212, main_v213, main_v214]
theorem W22_writes : (ops22 : List (HloOp τ sig (Elt F))).Forall fun op => op.writes ⊆ (W22.map (Proc.devRef (τ := τ) .tc)).toFinset :=
  forall_writes_sub_of_map rfl
theorem val23_keep (r : Ref sig .tc) (h : r ∉ W22) :
    val23 V0 (no_index (Proc.devRef .tc r)) = val22 V0 (Proc.devRef .tc r) := after_of_writes_sub ops22 _ W22_writes h
theorem val23_main_v206 : val23 V0 (no_index (Proc.devRef .tc main_v206)) = val_main_v206 (F := F) (V0 (Proc.devRef .tc main_arg0)) (V0 (Proc.devRef .tc main_arg1)) (V0 (Proc.devRef .tc main_arg2)) := by
  unfold val23
  simp only [ops22]
  after_results_simp
  simp only [val22_main_v201, val22_main_v204] <;> rfl
theorem val23_main_v213 : val23 V0 (no_index (Proc.devRef .tc main_v213)) = val_main_v213 (F := F) (V0 (Proc.devRef .tc main_arg0)) (V0 (Proc.devRef .tc main_arg1)) (V0 (Proc.devRef .tc main_arg2)) := by
  unfold val23
  simp only [ops22]
  after_results_simp
  simp only [val22_main_v199] <;> rfl
theorem val23_main_v214 : val23 V0 (no_index (Proc.devRef .tc main_v214)) = val_main_v214 (F := F) (V0 (Proc.devRef .tc main_arg0)) (V0 (Proc.devRef .tc main_arg1)) (V0 (Proc.devRef .tc main_arg2)) := by
  unfold val23
  simp only [ops22]
  after_results_simp
  simp (disch := decide) only [val22_keep, val21_main_v197] <;> rfl

/-- The buffers after the first 24 windows. -/
def val24 : Valuation τ sig (Elt F) := after ops23 (val23 V0)
abbrev W23 : List (Ref sig .tc) := [main_v215, main_v216, main_v217, main_v218, main_v219, main_v220, main_v221, main_v222, main_v223, main_v224, main_v225]
theorem W23_writes : (ops23 : List (HloOp τ sig (Elt F))).Forall fun op => op.writes ⊆ (W23.map (Proc.devRef (τ := τ) .tc)).toFinset :=
  forall_writes_sub_of_map rfl
theorem val24_keep (r : Ref sig .tc) (h : r ∉ W23) :
    val24 V0 (no_index (Proc.devRef .tc r)) = val23 V0 (Proc.devRef .tc r) := after_of_writes_sub ops23 _ W23_writes h
theorem val24_main_v215 : val24 V0 (no_index (Proc.devRef .tc main_v215)) = val_main_v215 (F := F) (V0 (Proc.devRef .tc main_arg0)) (V0 (Proc.devRef .tc main_arg1)) (V0 (Proc.devRef .tc main_arg2)) := by
  unfold val24
  simp only [ops23]
  after_results_simp
  simp only [val23_main_v206] <;> rfl
theorem val24_main_v216 : val24 V0 (no_index (Proc.devRef .tc main_v216)) = val_main_v216 (F := F) (V0 (Proc.devRef .tc main_arg0)) (V0 (Proc.devRef .tc main_arg1)) (V0 (Proc.devRef .tc main_arg2)) := by
  unfold val24
  simp only [ops23]
  after_results_simp
  simp only [val23_main_v213] <;> rfl
theorem val24_main_v219 : val24 V0 (no_index (Proc.devRef .tc main_v219)) = val_main_v219 (F := F) (V0 (Proc.devRef .tc main_arg0)) (V0 (Proc.devRef .tc main_arg1)) (V0 (Proc.devRef .tc main_arg2)) := by
  unfold val24
  simp only [ops23]
  after_results_simp
  simp (disch := decide) only [val23_keep, val22_keep, val21_keep, val20_keep, val19_keep, val18_keep, val17_keep, val16_keep, val15_keep, val14_keep, val13_keep, val12_keep, val11_keep, val10_keep, val9_keep, val8_keep, val7_keep, val6_keep, val5_keep, val23_main_v213, val4_main_v41] <;> rfl
theorem val24_main_v225 : val24 V0 (no_index (Proc.devRef .tc main_v225)) = val_main_v225 (F := F) (V0 (Proc.devRef .tc main_arg0)) (V0 (Proc.devRef .tc main_arg1)) (V0 (Proc.devRef .tc main_arg2)) := by
  unfold val24
  simp only [ops23]
  after_results_simp
  simp (disch := decide) only [val23_keep, val22_keep, val21_keep, val20_keep, val19_keep, val18_keep, val17_keep, val16_keep, val15_keep, val14_keep, val13_keep, val12_keep, val11_keep, val10_keep, val9_keep, val8_keep, val7_keep, val6_keep, val5_keep, val23_main_v213, val4_main_v40, val4_main_v41] <;> rfl

/-- The buffers after the first 25 windows. -/
def val25 : Valuation τ sig (Elt F) := after ops24 (val24 V0)
abbrev W24 : List (Ref sig .tc) := [main_v226, main_v227, main_v228, main_v229, main_v230, main_v231, main_v232, main_v233, main_v234, main_v235, main_v236]
theorem W24_writes : (ops24 : List (HloOp τ sig (Elt F))).Forall fun op => op.writes ⊆ (W24.map (Proc.devRef (τ := τ) .tc)).toFinset :=
  forall_writes_sub_of_map rfl
theorem val25_keep (r : Ref sig .tc) (h : r ∉ W24) :
    val25 V0 (no_index (Proc.devRef .tc r)) = val24 V0 (Proc.devRef .tc r) := after_of_writes_sub ops24 _ W24_writes h
theorem val25_main_v230 : val25 V0 (no_index (Proc.devRef .tc main_v230)) = val_main_v230 (F := F) (V0 (Proc.devRef .tc main_arg0)) (V0 (Proc.devRef .tc main_arg1)) (V0 (Proc.devRef .tc main_arg2)) := by
  unfold val25
  simp only [ops24]
  after_results_simp
  simp (disch := decide) only [val24_keep, val23_keep, val22_keep, val21_keep, val20_keep, val19_keep, val18_keep, val17_keep, val16_keep, val15_keep, val14_keep, val13_keep, val12_keep, val11_keep, val10_keep, val9_keep, val8_keep, val7_keep, val6_keep, val5_keep, val24_main_v216, val24_main_v219, val24_main_v225, val4_main_v40] <;> rfl
theorem val25_main_v231 : val25 V0 (no_index (Proc.devRef .tc main_v231)) = val_main_v231 (F := F) (V0 (Proc.devRef .tc main_arg0)) (V0 (Proc.devRef .tc main_arg1)) (V0 (Proc.devRef .tc main_arg2)) := by
  unfold val25
  simp only [ops24]
  after_results_simp
  simp (disch := decide) only [val24_keep, val23_main_v214] <;> rfl
theorem val25_main_v234 : val25 V0 (no_index (Proc.devRef .tc main_v234)) = val_main_v234 (F := F) (V0 (Proc.devRef .tc main_arg0)) (V0 (Proc.devRef .tc main_arg1)) (V0 (Proc.devRef .tc main_arg2)) := by
  unfold val25
  simp only [ops24]
  after_results_simp
  simp (disch := decide) only [val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val23_main_v214, val3_main_v25] <;> rfl
theorem val25_main_v236 : val25 V0 (no_index (Proc.devRef .tc main_v236)) = val_main_v236 (F := F) (V0 (Proc.devRef .tc main_arg0)) (V0 (Proc.devRef .tc main_arg1)) (V0 (Proc.devRef .tc main_arg2)) := by
  unfold val25
  simp only [ops24]
  after_results_simp
  simp (disch := decide) only [val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val23_main_v214, val3_main_v24] <;> rfl

/-- The buffers after the first 26 windows. -/
def val26 : Valuation τ sig (Elt F) := after ops25 (val25 V0)
abbrev W25 : List (Ref sig .tc) := [main_v237, main_v238, main_v239, main_v240, main_v241, main_v242, main_v243, main_v244, main_v245, main_v246, main_v247]
theorem W25_writes : (ops25 : List (HloOp τ sig (Elt F))).Forall fun op => op.writes ⊆ (W25.map (Proc.devRef (τ := τ) .tc)).toFinset :=
  forall_writes_sub_of_map rfl
theorem val26_keep (r : Ref sig .tc) (h : r ∉ W25) :
    val26 V0 (no_index (Proc.devRef .tc r)) = val25 V0 (Proc.devRef .tc r) := after_of_writes_sub ops25 _ W25_writes h
theorem val26_main_v247 : val26 V0 (no_index (Proc.devRef .tc main_v247)) = val_main_v247 (F := F) (V0 (Proc.devRef .tc main_arg0)) (V0 (Proc.devRef .tc main_arg1)) (V0 (Proc.devRef .tc main_arg2)) := by
  unfold val26
  simp only [ops25]
  after_results_simp
  try dsimp only [Matrix.cons_val]
  try after_results_simp
  simp (disch := decide) only [val25_keep, val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val24_main_v215, val25_main_v230, val25_main_v231, val25_main_v234, val25_main_v236, val3_main_v24, val3_main_v25] <;> rfl

theorem val26_main_arg0 : val26 V0 (Proc.devRef .tc main_arg0) = V0 (Proc.devRef .tc main_arg0) := by
  simp (disch := decide) only [val26_keep, val25_keep, val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val3_keep, val2_keep, val1_keep, val0_main_arg0]

theorem val26_main_arg1 : val26 V0 (Proc.devRef .tc main_arg1) = V0 (Proc.devRef .tc main_arg1) := by
  simp (disch := decide) only [val26_keep, val25_keep, val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val3_keep, val2_keep, val1_keep, val0_main_arg1]

theorem val26_main_arg2 : val26 V0 (Proc.devRef .tc main_arg2) = V0 (Proc.devRef .tc main_arg2) := by
  simp (disch := decide) only [val26_keep, val25_keep, val24_keep, val23_keep, val22_keep, val21_keep, val20_keep, val19_keep, val18_keep, val17_keep, val16_keep, val15_keep, val14_keep, val13_keep, val12_keep, val11_keep, val10_keep, val9_keep, val8_keep, val7_keep, val6_keep, val5_keep, val4_keep, val3_keep, val2_keep, val1_keep, val0_main_arg2]

theorem val26_main_v191 : val26 V0 (Proc.devRef .tc main_v191) = val_main_v191 (F := F) (V0 (Proc.devRef .tc main_arg0)) (V0 (Proc.devRef .tc main_arg1)) (V0 (Proc.devRef .tc main_arg2)) := by
  simp (disch := decide) only [val26_keep, val25_keep, val24_keep, val23_keep, val22_keep, val21_main_v191]

theorem after_ops (V0 : Valuation τ sig (Elt F)) : after ops V0 = val26 V0 := by
  simp only [ops, opsP0, opsP1, opsP2, opsP3, opsP4, after_append]
  rfl

set_option maxRecDepth 8192 in
/-- Every run of the reference ends with its two results at these values, and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v247)
          = val_main_v247 (F := F) (m ((c.tc : Thread nD τ).loc main_arg0)) (m ((c.tc : Thread nD τ).loc main_arg1)) (m ((c.tc : Thread nD τ).loc main_arg2))
      ∧ r.2.mem ((c.tc : Thread nD τ).loc main_v191)
          = val_main_v191 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v247).trans ((congrFun (after_ops (launchContents m c)) (Proc.devRef .tc main_v247)).trans (val26_main_v247 (launchContents m c))),
      (h c main_v191).trans ((congrFun (after_ops (launchContents m c)) (Proc.devRef .tc main_v191)).trans (val26_main_v191 (launchContents m c))),
      (h c main_arg0).trans ((congrFun (after_ops (launchContents m c)) (Proc.devRef .tc main_arg0)).trans (val26_main_arg0 (launchContents m c))),
      (h c main_arg1).trans ((congrFun (after_ops (launchContents m c)) (Proc.devRef .tc main_arg1)).trans (val26_main_arg1 (launchContents m c))),
      (h c main_arg2).trans ((congrFun (after_ops (launchContents m c)) (Proc.devRef .tc main_arg2)).trans (val26_main_arg2 (launchContents m c)))⟩)
    (run_seq scopedRefs_eq scopedSems_eq defs main (fun _ => ops) main_eq (fun _ => ops_sub) m ρ fun _ => ops_fresh)

end Cert.ReferenceIdeal.Read

end
-- ==== Proof.Finite.lean ====
/- The precondition: every entry of the three arguments is finite, so over the extended reals each is a real. -/
module

public import proofs.«01_k».proof.Pre_finite
public import Idealize.ShloMosaic.Lib.ReduceAll
public import Idealize.ShloMosaic.Lib.Pointwise

@[expose] public section

noncomputable section

namespace Cert.Pre_finite

open Idealize.ShloMosaic Facts

theorem facts : Facts where
  bcast_S_S8192x1536 := by decide
  reducesTo_S8192x1536_S_d0_1 := by decide
  h_S_ := by decide
  bcast_S_S8192x1024 := by decide
  reducesTo_S8192x1024_S_d0_1 := by decide
  bcast_S_S16 := by decide
  reducesTo_S16_S_d0 := by decide

/-- A value whose magnitude is below infinity is a real. -/
theorem real_of_olt (x : Ideal .f32)
    (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine (EReal.coe_toReal hlt.1.ne ?_).symm
  intro hb
  rw [hb] at hlt
  simp at hlt

/-- A conjunction of words that is one has both words one. -/
theorem and_one {a b : BitVec 1} (h : IntOp.andi a b = 1#1) : a = 1#1 ∧ b = 1#1 := by
  revert a b; decide

theorem real (x0 : FVec Ideal S8192x1536 .f32) (x1 : FVec Ideal S8192x1024 .f32) (x2 : FVec Ideal S16 .f32) [Facts]
    (h : fn (F := Ideal) x0 x1 x2 = fun _ => 1#1) :
    (∀ i, x0 i = (((x0 i : EReal).toReal : ℝ) : EReal)) ∧ (∀ i, x1 i = (((x1 i : EReal).toReal : ℝ) : EReal))
      ∧ ∀ i, x2 i = (((x2 i : EReal).toReal : ℝ) : EReal) := by
  haveI : Subsingleton S_.Idx := ⟨fun a b => funext fun k => k.elim0⟩
  have j : S_.Idx := fun k => k.elim0
  have e := congrFun h j
  obtain ⟨e01, e2⟩ := and_one e
  obtain ⟨e0, e1⟩ := and_one e01
  exact ⟨fun i => real_of_olt _ (Host.reduce_andi_all _ _ _ _ j e0 i), fun i => real_of_olt _ (Host.reduce_andi_all _ _ _ _ j e1 i),
    fun i => real_of_olt _ (Host.reduce_andi_all _ _ _ _ j e2 i)⟩

end Cert.Pre_finite

end
-- ==== Proof.Tables.lean ====
/- The rotation's tables: the kernel's host lines compute the reference's cosines and sines, which are real, and lay them
   out four times (the sines with their signs). -/
module

public import proofs.«01_k».proof.Proof.Gen.KernelIdeal.Frame
public import proofs.«01_k».proof.Proof.RefVal
public import Idealize.ShloMosaic.Lib.Pointwise
public import Idealize.ShloMosaic.Lib.IdealHost

@[expose] public section

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.Read (val_main_v0 val_main_v1 val_main_v8 val_main_v10 val_main_v15 val_main_v16 val_main_v17)

/-- The angle of token `b` in lane `d`, over the reals. -/
def ang (b d : ℕ) : ℝ := (b : ℝ) * Real.rpow 10000 (-(2 * (d : ℝ)) * (1 / 64))

theorem two_real : Ideal.ofBits .f32 1073741824#32 = ((2 : ℝ) : EReal) := by
  simp [Ideal.ofBits, Ideal.ieee, -EReal.coe_mul]; norm_num
theorem sixtyFour_real : Ideal.ofBits .f32 1115684864#32 = ((64 : ℝ) : EReal) := by
  simp [Ideal.ofBits, Ideal.ieee, -EReal.coe_mul]; norm_num
theorem base_real : Ideal.ofBits .f32 1176256512#32 = ((10000 : ℝ) : EReal) := by
  simp [Ideal.ofBits, Ideal.ieee, -EReal.coe_mul]; norm_num

theorem count_real (n : ℕ) (h : n < 8192) : (FloatOps.sitofp (F := Ideal) FTy.f32 (BitVec.ofNat 32 n)) = (((n : ℝ)) : EReal) := by
  show ((((BitVec.ofNat 32 n).toInt : ℤ) : ℝ) : EReal) = _
  have e : (BitVec.ofNat 32 n).toInt = (n : ℤ) := by
    rw [BitVec.toInt_ofNat', Int.bmod_eq_of_le] <;> omega
  rw [e, Int.cast_natCast]

theorem v15_real (b : Fin 8192) (d : Fin 32) :
    (val_main_v15 (F := Ideal)) (ix2 b d) = ((ang b d : ℝ) : EReal) := by
  unfold Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_cst Cert.ReferenceIdeal.Read.val_main_cst_0
    Cert.ReferenceIdeal.Read.val_main_cst_1 Cert.ReferenceIdeal.Read.val_main_cst_2
  pointwise
  have hb := count_real b b.isLt
  have hd := count_real d (by have := d.isLt; omega)
  rw [hb, hd, two_real, sixtyFour_real, base_real, Ideal.div_coe (by norm_num), ← EReal.coe_mul, ← EReal.coe_neg,
    ← EReal.coe_mul, Ideal.pow_coe_coe, ← EReal.coe_mul]
  rfl

theorem v16_real (b : Fin 8192) (d : Fin 32) :
    (val_main_v16 (F := Ideal)) (ix2 b d) = ((Real.cos (ang b d) : ℝ) : EReal) := by
  unfold Cert.ReferenceIdeal.Read.val_main_v16
  show Ideal.cos (val_main_v15 (F := Ideal) (ix2 b d)) = _
  rw [v15_real]
  rfl
theorem v17_real (b : Fin 8192) (d : Fin 32) :
    (val_main_v17 (F := Ideal)) (ix2 b d) = ((Real.sin (ang b d) : ℝ) : EReal) := by
  unfold Cert.ReferenceIdeal.Read.val_main_v17
  show Ideal.sin (val_main_v15 (F := Ideal) (ix2 b d)) = _
  rw [v15_real]
  rfl

variable (m : (ℓ : Loc nD τ sig) → Buf (Elt Ideal) ℓ) (ρ : Dev nD → PrngReg) (c : Dev nD)

set_option maxRecDepth 8192 in
theorem cos_eq : (V1 m ρ c main_v18 : Vec Ideal S8192x128 .f32) = concatenate S8192x128 1
    [⟨S8192x32, val_main_v16 (F := Ideal)⟩, ⟨S8192x32, val_main_v16 (F := Ideal)⟩, ⟨S8192x32, val_main_v16 (F := Ideal)⟩,
      ⟨S8192x32, val_main_v16 (F := Ideal)⟩] concatenates_S8192x32_S8192x32_S8192x32_S8192x32_S8192x128_d1 := by
  show StableHlo.after hostOps0 (W0 m ρ c) (Proc.devRef .tc main_v18) = _
  simp only [hostOps0]
  after_results_simp
  all_goals rfl

set_option maxRecDepth 8192 in
theorem sin_eq : (V1 m ρ c main_v21 : Vec Ideal S8192x128 .f32) = (concatenate S8192x128 1
    [⟨S8192x32, (Host.negf (val_main_v17 (F := Ideal)) : FVec Ideal S8192x32 .f32)⟩, ⟨S8192x32, val_main_v17 (F := Ideal)⟩,
      ⟨S8192x32, (Host.negf (val_main_v17 (F := Ideal)) : FVec Ideal S8192x32 .f32)⟩, ⟨S8192x32, val_main_v17 (F := Ideal)⟩] concatenates_S8192x32_S8192x32_S8192x32_S8192x32_S8192x128_d1 : FVec Ideal S8192x128 .f32) := by
  show StableHlo.after hostOps0 (W0 m ρ c) (Proc.devRef .tc main_v21) = _
  simp only [hostOps0]
  after_results_simp
  all_goals rfl

theorem cos_real (r : Fin 8192) (l : Fin 128) :
    (V1 m ρ c main_v18 : Vec Ideal S8192x128 .f32) (ix2 r l) = ((Real.cos (ang r (l % 32)) : ℝ) : EReal) := by
  rw [cos_eq]
  have h := v16_real
  generalize (val_main_v16 (F := Ideal)) = T at h
  have hl := l.isLt
  pointwise
  split_ifs <;> first | (exfalso; omega) | (rw [h]; congr 3; simp; omega)

theorem sin_real (r : Fin 8192) (l : Fin 128) :
    (V1 m ρ c main_v21 : Vec Ideal S8192x128 .f32) (ix2 r l)
      = ((if l.val % 64 < 32 then -Real.sin (ang r (l % 32)) else Real.sin (ang r (l % 32)) : ℝ) : EReal) := by
  rw [sin_eq]
  have h := v17_real
  generalize (val_main_v17 (F := Ideal)) = T at h
  have hl := l.isLt
  pointwise
  split_ifs <;> first
    | (exfalso; omega)
    | (rw [h, if_pos (show l.val % 64 < 32 by omega), EReal.coe_neg]; congr 4; simp; omega)
    | (rw [h, if_neg (show ¬ l.val % 64 < 32 by omega)]; congr 3; simp; omega)

/-- The gradient of the output reaches the second kernel as it was given. -/
theorem g_eq : (V3 m ρ c main_v23 : Vec Ideal S8192x1024 .bf16)
    = (truncf .bf16 (W2 m ρ c (Proc.devRef .tc main_arg1) : FVec Ideal S8192x1024 .f32) bitsLt_bf16_f32 : FVec Ideal S8192x1024 .bf16) := by
  show StableHlo.after hostOps1 (W2 m ρ c) (Proc.devRef .tc main_v23) = _
  simp only [hostOps1]
  after_results_simp
  all_goals rfl

theorem sink_eq : (W6 m ρ c (Proc.devRef .tc main_v28) : Vec Ideal S16 .f32)
    = shapeCast S16 (shapeCast S4x4 (extractStridedSlice S4x4x1 ![0, 0, 0] (W5 m ρ c (Proc.devRef .tc main_v24_5) : Vec Ideal S4x8x128 .f32)
        slices_S4x8x128_S4x4x1_0_0_0) shapeCasts_S4x4x1_S4x4) shapeCasts_S4x4_S16 := by
  show StableHlo.after hostOps3 (W5 m ρ c) (Proc.devRef .tc main_v28) = _
  simp only [hostOps3]
  after_results_simp
  all_goals rfl

theorem sink_apply (h : Fin 16) : (W6 m ρ c (Proc.devRef .tc main_v28) : Vec Ideal S16 .f32) (ix1 h)
    = (W5 m ρ c (Proc.devRef .tc main_v24_5) : Vec Ideal S4x8x128 .f32) (ix3 ⟨h / 4, by omega⟩ ⟨h % 4, by omega⟩ ⟨0, by omega⟩) := by
  rw [sink_eq]
  generalize (W5 m ρ c (Proc.devRef .tc main_v24_5) : Vec Ideal S4x8x128 .f32) = T
  pointwise

end Cert.KernelIdeal.Val

end
-- ==== Proof.Tile.lean ====
/- One head group of the attention's backward kernel, as named functions of the vectors it reads.

   The kernel repeats the same computation eight times (two key heads, four blocks of 128 queries); its printed pieces are
   cut without regard to that. Here each step of the computation has one name, over any float instance: the four heads'
   rows side by side (`rows`), the masked scores, the shifted exponentials, the weights, and the three products. -/
module

public import proofs.«01_k».proof.Proof.Gen.KernelIdeal.Skeleton

@[expose] public section

noncomputable section

namespace Cert.KernelIdeal.Tile

open Idealize.ShloMosaic Idealize.SL.Sem Cert.KernelIdeal Cert.KernelIdeal.Gen

variable {F : FTy → Type} [FloatOps F]

/-- The lower 64 lanes of a row. -/
def low128 : IVec S128x128 1 := cmpi .slt (iota .tc S128x128 32 [1] iota_S128x128_d1_w32) (broadcast S128x128 64#32)
def low256 : IVec S256x128 1 := cmpi .slt (iota .tc S256x128 32 [1] iota_S256x128_d1_w32) (broadcast S256x128 64#32)

/-- The number (0 to 3) of the head that a row of the four heads' rows belongs to. -/
def rid : IVec S512x1 32 := k1_pay9 k1_pay7 k1_pay8

/-- The four heads' rows under one another, each head's lanes in its own half and zero in the other. -/
def rows (x y : FVec F S128x128 .bf16) : FVec F S512x128 .bf16 :=
  concatenate S512x128 0
    [⟨S128x128, select low128 x (broadcast S128x128 (Scalar.ofBits .bf16 0x0000#16))⟩,
     ⟨S128x128, select low128 (broadcast S128x128 (Scalar.ofBits .bf16 0x0000#16)) x⟩,
     ⟨S128x128, select low128 y (broadcast S128x128 (Scalar.ofBits .bf16 0x0000#16))⟩,
     ⟨S128x128, select low128 (broadcast S128x128 (Scalar.ofBits .bf16 0x0000#16)) y⟩]
    concatenates_S128x128_S128x128_S128x128_S128x128_S512x128_d0

/-- A window of two blocks of keys. -/
def win (x y : FVec F S128x128 .bf16) : FVec F S256x128 .bf16 :=
  concatenate S256x128 0 [⟨S128x128, x⟩, ⟨S128x128, y⟩] concatenates_S128x128_S128x128_S256x128_d0

/-- The window of one key head, in both halves of the lanes. -/
def kw0 (x : FVec F S256x128 .bf16) : FVec F S256x128 .bf16 := select low256 x (dynamicRotate 1 64#32 none x rotates_S256x128_d1)
def kw1 (x : FVec F S256x128 .bf16) : FVec F S256x128 .bf16 := select low256 (dynamicRotate 1 64#32 none x rotates_S256x128_d1) x

/-- The column of the four sinks. -/
def sinkCol (a b c d : Elt F .f32) : FVec F S512x1 .f32 :=
  select (cmpi .eq rid (broadcast S512x1 3#32)) (broadcast S512x1 d)
    (select (cmpi .eq rid (broadcast S512x1 2#32)) (broadcast S512x1 c)
      (select (cmpi .eq rid (broadcast S512x1 1#32)) (broadcast S512x1 b)
        (select (cmpi .eq rid (broadcast S512x1 0#32)) (broadcast S512x1 a)
          (broadcast S512x1 (Scalar.ofBits .f32 0x00000000#32)))))

/-- The product of the rows with a window, one column per window row. -/
def dotw (Q : FVec F S512x128 .bf16) (K : FVec F S256x128 .bf16) : FVec F S512x256 .f32 :=
  matmul dot_S512x128_S256x128_S512x256_1_1_0_0_n_n none Q K (constant S512x256 .f32 0x00000000#32)

/-- The scaled scores, the invisible ones at minus infinity. -/
def score (ok : IVec S512x256 1) (Q : FVec F S512x128 .bf16) (K : FVec F S256x128 .bf16) : FVec F S512x256 .f32 :=
  select ok (mulf (dotw Q K) (broadcast S512x256 (Scalar.ofBits .f32 0x3E000000#32)))
    (broadcast S512x256 (Scalar.ofBits .f32 0xFF800000#32))

/-- The row's maximum with its sink. -/
def mx (s : FVec F S512x256 .f32) (snk : FVec F S512x1 .f32) : FVec F S512x1 .f32 :=
  maximumf (shapeCast S512x1 (multiReduction .maximumf [1] S512 s 0xFF800000#32 reduces_S512x256_S512 (.inl rfl) rfl)
    shapeCasts_S512_S512x1) snk

/-- The shifted exponentials of the scores and of the sink. -/
def pe (s : FVec F S512x256 .f32) (snk : FVec F S512x1 .f32) : FVec F S512x256 .f32 :=
  exp (subf s (broadcastTo S512x256 (mx s snk) broadcasts_S512x1_S512x256))
def es (s : FVec F S512x256 .f32) (snk : FVec F S512x1 .f32) : FVec F S512x1 .f32 := exp (subf snk (mx s snk))

/-- A row's sum, as a column. -/
def rsum (x : FVec F S512x256 .f32) : FVec F S512x1 .f32 :=
  shapeCast S512x1 (multiReduction .add [1] S512 x 0x00000000#32 reduces_S512x256_S512 (.inl rfl) rfl) shapeCasts_S512_S512x1

/-- One over the denominator. -/
def inv (s : FVec F S512x256 .f32) (snk : FVec F S512x1 .f32) : FVec F S512x1 .f32 :=
  divf (broadcast S512x1 (Scalar.ofBits .f32 0x3F800000#32)) (addf (rsum (pe s snk)) (es s snk))

/-- The weights of the columns and of the sink. -/
def pn (s : FVec F S512x256 .f32) (snk : FVec F S512x1 .f32) : FVec F S512x256 .f32 :=
  mulf (pe s snk) (broadcastTo S512x256 (inv s snk) broadcasts_S512x1_S512x256)
def ps (s : FVec F S512x256 .f32) (snk : FVec F S512x1 .f32) : FVec F S512x1 .f32 := mulf (es s snk) (inv s snk)

/-- The weights' gradient less its mean, times the weight, scaled. -/
def dsb (p dp : FVec F S512x256 .f32) : FVec F S512x256 .bf16 :=
  truncf .bf16 (mulf (mulf p (subf dp (broadcastTo S512x256 (rsum (mulf p dp)) broadcasts_S512x1_S512x256)))
    (broadcast S512x256 (Scalar.ofBits .f32 0x3E000000#32))) bitsLt_bf16_f32

/-- The rows' product with the window, the window's with the rows. -/
def dqw (d : FVec F S512x256 .bf16) (K : FVec F S256x128 .bf16) : FVec F S512x128 .f32 :=
  matmul dot_S512x256_S256x128_S512x128_1_0_0_1_n_n none d K (constant S512x128 .f32 0x00000000#32)
def dww (d : FVec F S512x256 .bf16) (Q : FVec F S512x128 .bf16) : FVec F S256x128 .f32 :=
  matmul dot_S512x256_S512x128_S256x128_0_0_1_1_n_n none d Q (constant S256x128 .f32 0x00000000#32)

/-- Two heads' rows back side by side. -/
def slab0 (x : FVec F S512x128 .f32) : FVec F S128x128 .f32 :=
  select low128 (extractStridedSlice S128x128 ![0, 0] x slices_S512x128_o0_0_S128x128)
    (extractStridedSlice S128x128 ![128, 0] x slices_S512x128_o128_0_S128x128)
def slab1 (x : FVec F S512x128 .f32) : FVec F S128x128 .f32 :=
  select low128 (extractStridedSlice S128x128 ![256, 0] x slices_S512x128_o256_0_S128x128)
    (extractStridedSlice S128x128 ![384, 0] x slices_S512x128_o384_0_S128x128)

/-- The two halves of the lanes added, and kept in the key head's half. -/
def both (x : FVec F S256x128 .f32) : FVec F S256x128 .f32 := addf x (dynamicRotate 1 64#32 none x rotates_S256x128_d1)
def fold0 (x : FVec F S256x128 .f32) : FVec F S256x128 .f32 :=
  select low256 (both x) (broadcast S256x128 (Scalar.ofBits .f32 0x00000000#32))
def fold1 (x : FVec F S256x128 .f32) : FVec F S256x128 .f32 :=
  select (xori low256 (constantI S256x128 1 1#1)) (both x) (broadcast S256x128 (Scalar.ofBits .f32 0x00000000#32))

/-- The upper and the lower block of a window, added to what is there. -/
def addUp (a : FVec F S128x128 .f32) (x : FVec F S256x128 .f32) : FVec F S128x128 .f32 :=
  addf a (extractStridedSlice S128x128 ![0, 0] x slices_S256x128_o0_0_S128x128)
def addDown (a : FVec F S128x128 .f32) (x : FVec F S256x128 .f32) : FVec F S128x128 .f32 :=
  addf a (extractStridedSlice S128x128 ![128, 0] x slices_S256x128_o128_0_S128x128)

/-- One head's part of the sinks' gradient, put in its row. -/
def sinkPart (w : BitVec 32) (sd : FVec F S512x1 .f32) : F .f32 :=
  Scalar.subf (Scalar.ofBits .f32 0x00000000#32)
    (extractAt ![0, 0, 0] (shapeCast S1x1x1 (multiReduction .add [1, 2] S1
      (shapeCast S1x512x1 (select (cmpi .eq rid (broadcast S512x1 w)) sd (broadcast S512x1 (Scalar.ofBits .f32 0x00000000#32)))
        shapeCasts_S512x1_S1x512x1) 0x00000000#32 reduces_S1x512x1_S1 (.inl rfl) rfl) shapeCasts_S1_S1x1x1) inpos_S1x1x1_p0_0_0)
def sinkStep (w : BitVec 32) (acc : FVec F S8x128 .f32) (sd : FVec F S512x1 .f32) : FVec F S8x128 .f32 :=
  addf acc (select (cmpi .eq (iota .tc S8x128 32 [0] iota_S8x128_d0_w32) (broadcast S8x128 w)) (broadcast S8x128 (sinkPart w sd))
    (broadcast S8x128 (Scalar.ofBits .f32 0x00000000#32)))
def sinkAdd (acc : FVec F S8x128 .f32) (sd : FVec F S512x1 .f32) : FVec F S8x128 .f32 :=
  sinkStep 3#32 (sinkStep 2#32 (sinkStep 1#32 (sinkStep 0#32 acc sd) sd) sd) sd

end Cert.KernelIdeal.Tile

end
-- ==== Proof.Cell.lean ====
/- What one grid cell of the attention's backward kernel stores, over any float instance.

   A cell has two key heads (`gi`) and four blocks of 128 queries (`b`). Each pair has its rows, its windows, its weights and
   its three products (`Tile`); the cell's outputs are lists of stores made of them. -/
module

public import proofs.«01_k».proof.Proof.Tile
public import Idealize.ShloMosaic.Lib.Pipeline.ValueKit

@[expose] public section

noncomputable section

namespace Cert.KernelIdeal.Cell

open Idealize.ShloMosaic Idealize.SL.Sem Cert.KernelIdeal Cert.KernelIdeal.Gen Cert.KernelIdeal.Tile

variable {F : FTy → Type} [FloatOps F]

/-- What a cell reads: its place in the grid, the sinks, its queries, its keys and the block of keys before, the same of the
    values, and the gradient of its output. -/
structure Blocks (F : FTy → Type) [FloatOps F] where
  i : grid1.Coords
  sinks : Vec F S16 .f32
  q : Vec F S512x512 .bf16
  kc : Vec F S512x128 .bf16
  kp : Vec F S128x128 .bf16
  vc : Vec F S512x128 .bf16
  vp : Vec F S128x128 .bf16
  g : Vec F S512x512 .bf16

theorem inb_rows (b gi s : ℕ) (hb : b < 4) (hg : gi < 2) (hs : s < 2) :
    ∀ a, (![128 * b, 256 * gi + 128 * s] : Fin 2 → ℕ) a + S128x128.size a ≤ S512x512.size a := by
  intro a
  match a with
  | ⟨0, _⟩ => show 128 * b + 128 ≤ 512; omega
  | ⟨1, _⟩ => show 256 * gi + 128 * s + 128 ≤ 512; omega

theorem inb_win (b : ℕ) (hb : b + 1 < 4) : ∀ a, (![128 * b, 0] : Fin 2 → ℕ) a + S256x128.size a ≤ S512x128.size a := by
  intro a
  match a with
  | ⟨0, _⟩ => show 128 * b + 256 ≤ 512; omega
  | ⟨1, _⟩ => show 0 + 128 ≤ 128; omega

theorem inb_blk (b : ℕ) (hb : b < 4) : ∀ a, (![128 * b, 0] : Fin 2 → ℕ) a + S128x128.size a ≤ S512x128.size a := by
  intro a
  match a with
  | ⟨0, _⟩ => show 128 * b + 128 ≤ 512; omega
  | ⟨1, _⟩ => show 0 + 128 ≤ 128; omega

/-- The four heads' rows of a block. -/
def rowsAt (x : Vec F S512x512 .bf16) (b gi : ℕ) (hb : b < 4) (hg : gi < 2) : FVec F S512x128 .bf16 :=
  rows (shapeCast S128x128 (View.ld x (Rect.unit (s := S512x512) ![128 * b, 256 * gi + 128 * 0] S128x128.size
      (inb_rows b gi 0 hb hg (by decide)))) shapeCasts_S128x128_S128x128)
    (shapeCast S128x128 (View.ld x (Rect.unit (s := S512x512) ![128 * b, 256 * gi + 128 * 1] S128x128.size
      (inb_rows b gi 1 hb hg (by decide)))) shapeCasts_S128x128_S128x128)

/-- The two blocks of keys a block of queries sees: for the first block, the one before the cell and the cell's first. -/
def winAt (x : Vec F S512x128 .bf16) (xp : Vec F S128x128 .bf16) (b : ℕ) (hb : b < 4) : FVec F S256x128 .bf16 :=
  match b, hb with
  | 0, _ => win (shapeCast S128x128 (View.ld xp (Rect.unit (s := S128x128) ![0, 0] S128x128.size inb_S128x128_S128x128_0_0))
        shapeCasts_S128x128_S128x128)
      (shapeCast S128x128 (View.ld x (Rect.unit (s := S512x128) ![0, 0] S128x128.size inb_S512x128_S128x128_0_0))
        shapeCasts_S128x128_S128x128)
  | b + 1, hb => shapeCast S256x128 (View.ld x (Rect.unit (s := S512x128) ![128 * b, 0] S256x128.size (inb_win b hb)))
      shapeCasts_S256x128_S256x128

def keyHead (gi : ℕ) (x : FVec F S256x128 .bf16) : FVec F S256x128 .bf16 :=
  match gi with
  | 0 => kw0 x
  | _ + 1 => kw1 x

def foldHead (gi : ℕ) (x : FVec F S256x128 .f32) : FVec F S256x128 .f32 :=
  match gi with
  | 0 => fold0 x
  | _ + 1 => fold1 x

def slabAt (s : ℕ) (x : FVec F S512x128 .f32) : FVec F S128x128 .f32 :=
  match s with
  | 0 => slab0 x
  | _ + 1 => slab1 x

/-- What a block may look at: the first block of the sequence has no block before it. -/
def visAt (i : grid1.Coords) (b : ℕ) : IVec S512x256 1 :=
  match b with
  | 0 => k1_pay11 (BitVec.ofNat 32 (i 1).val)
  | _ + 1 => k1_pay10

def sinkAt (x : Vec F S16 .f32) (i : grid1.Coords) (u v : BitVec 32) (h : ∀ a, k1_off1 i u v a + S1.size a ≤ S16.size a) :
    Elt F .f32 :=
  View.ld x (Rect.unit (s := S16) (k1_off1 i u v) S1.size h) (Shape.Idx.first (s := S1) (by decide))

namespace Blocks

variable (X : Blocks F)

def snk (gi : Fin 2) : FVec F S512x1 .f32 :=
  sinkCol (sinkAt X.sinks X.i (BitVec.ofNat 32 gi.val) 0#32 (k1_off1_inb X.i gi 0))
    (sinkAt X.sinks X.i (BitVec.ofNat 32 gi.val) 1#32 (k1_off1_inb X.i gi 1))
    (sinkAt X.sinks X.i (BitVec.ofNat 32 gi.val) 2#32 (k1_off1_inb X.i gi 2))
    (sinkAt X.sinks X.i (BitVec.ofNat 32 gi.val) 3#32 (k1_off1_inb X.i gi 3))

section One

variable (b gi : ℕ) (hb : b < 4) (hg : gi < 2)

def Q : FVec F S512x128 .bf16 := rowsAt X.q b gi hb hg
def G : FVec F S512x128 .bf16 := rowsAt X.g b gi hb hg
def K : FVec F S256x128 .bf16 := keyHead gi (winAt X.kc X.kp b hb)
def V : FVec F S256x128 .bf16 := keyHead gi (winAt X.vc X.vp b hb)

/-- The masked scores, the weights, and the scores' gradient. -/
def Sc : FVec F S512x256 .f32 := score (visAt X.i b) (X.Q b gi hb hg) (X.K b gi hb)
def P : FVec F S512x256 .f32 := pn (X.Sc b gi hb hg) (X.snk ⟨gi, hg⟩)
def D : FVec F S512x256 .bf16 := dsb (X.P b gi hb hg) (dotw (X.G b gi hb hg) (X.V b gi hb))

def dq : FVec F S512x128 .f32 := dqw (X.D b gi hb hg) (X.K b gi hb)
def dk : FVec F S256x128 .f32 := foldHead gi (dww (X.D b gi hb hg) (X.Q b gi hb hg))
def dv : FVec F S256x128 .f32 := foldHead gi (dww (truncf .bf16 (X.P b gi hb hg) bitsLt_bf16_f32) (X.G b gi hb hg))
def sd : FVec F S512x1 .f32 :=
  mulf (ps (X.Sc b gi hb hg) (X.snk ⟨gi, hg⟩)) (rsum (mulf (X.P b gi hb hg) (dotw (X.G b gi hb hg) (X.V b gi hb))))

end One

/-- One store of the queries' gradient. -/
def dqP (b gi s : ℕ) (hb : b < 4) (hg : gi < 2) (hs : s < 2) : View.Piece (Elt F) S512x512 .f32 :=
  ⟨Rect.unit (s := S512x512) ![128 * b, 256 * gi + 128 * s] S128x128.size (inb_rows b gi s hb hg hs), slabAt s (X.dq b gi hb hg)⟩

/-- The stores of the queries' gradient, the last one first. -/
def dqL : List (View.Piece (Elt F) S512x512 .f32) :=
  [X.dqP 3 1 1 (by decide) (by decide) (by decide), X.dqP 3 1 0 (by decide) (by decide) (by decide),
   X.dqP 2 1 1 (by decide) (by decide) (by decide), X.dqP 2 1 0 (by decide) (by decide) (by decide),
   X.dqP 1 1 1 (by decide) (by decide) (by decide), X.dqP 1 1 0 (by decide) (by decide) (by decide),
   X.dqP 0 1 1 (by decide) (by decide) (by decide), X.dqP 0 1 0 (by decide) (by decide) (by decide),
   X.dqP 3 0 1 (by decide) (by decide) (by decide), X.dqP 3 0 0 (by decide) (by decide) (by decide),
   X.dqP 2 0 1 (by decide) (by decide) (by decide), X.dqP 2 0 0 (by decide) (by decide) (by decide),
   X.dqP 1 0 1 (by decide) (by decide) (by decide), X.dqP 1 0 0 (by decide) (by decide) (by decide),
   X.dqP 0 0 1 (by decide) (by decide) (by decide), X.dqP 0 0 0 (by decide) (by decide) (by decide)]

end Blocks

/-- A block of an accumulator read back, and stored with the upper (lower) block of a window added to it. -/
def up (v : View sig .tc .vmem S512x128 .f32) (b : ℕ) (hb : b < 4) (x : FVec F S256x128 .f32)
    (L : List (View.Piece (Elt F) S512x128 .f32)) : List (View.Piece (Elt F) S512x128 .f32) :=
  ⟨Rect.unit (s := S512x128) ![128 * b, 0] S128x128.size (inb_blk b hb),
    addUp (shapeCast S128x128 (v.readCov L (Rect.unit (s := S512x128) ![128 * b, 0] S128x128.size (inb_blk b hb)).toLoadRect) shapeCasts_S128x128_S128x128) x⟩ :: L
def down (v : View sig .tc .vmem S512x128 .f32) (b : ℕ) (hb : b < 4) (x : FVec F S256x128 .f32)
    (L : List (View.Piece (Elt F) S512x128 .f32)) : List (View.Piece (Elt F) S512x128 .f32) :=
  ⟨Rect.unit (s := S512x128) ![128 * b, 0] S128x128.size (inb_blk b hb),
    addDown (shapeCast S128x128 (v.readCov L (Rect.unit (s := S512x128) ![128 * b, 0] S128x128.size (inb_blk b hb)).toLoadRect) shapeCasts_S128x128_S128x128) x⟩ :: L

/-- Zero everywhere. -/
def zeroL : List (View.Piece (Elt F) S512x128 .f32) :=
  [⟨Rect.unit (s := S512x128) ![0, 0] S512x128.size inb_S512x128_S512x128_0_0, k1_pay3⟩]

/-- The seven stores of one key head, from the four blocks' windows. -/
def headL (v : View sig .tc .vmem S512x128 .f32) (w0 w1 w2 w3 : FVec F S256x128 .f32)
    (L : List (View.Piece (Elt F) S512x128 .f32)) : List (View.Piece (Elt F) S512x128 .f32) :=
  down v 3 (by decide) w3 (up v 2 (by decide) w3 (down v 2 (by decide) w2 (up v 1 (by decide) w2
    (down v 1 (by decide) w1 (up v 0 (by decide) w1 (down v 0 (by decide) w0 L))))))

/-- The stores of the keys' (values') gradient inside the cell. -/
def kvL (v : View sig .tc .vmem S512x128 .f32) (w : ∀ b gi : ℕ, b < 4 → gi < 2 → FVec F S256x128 .f32) :
    List (View.Piece (Elt F) S512x128 .f32) :=
  headL v (w 0 1 (by decide) (by decide)) (w 1 1 (by decide) (by decide)) (w 2 1 (by decide) (by decide)) (w 3 1 (by decide) (by decide))
    (headL v (w 0 0 (by decide) (by decide)) (w 1 0 (by decide) (by decide)) (w 2 0 (by decide) (by decide))
      (w 3 0 (by decide) (by decide)) zeroL)

/-- The stores of the keys' (values') gradient in the block before the cell. -/
def haloUp (v : View sig .tc .vmem S128x128 .f32) (x : FVec F S256x128 .f32)
    (L : List (View.Piece (Elt F) S128x128 .f32)) : List (View.Piece (Elt F) S128x128 .f32) :=
  ⟨Rect.unit (s := S128x128) ![0, 0] S128x128.size inb_S128x128_S128x128_0_0,
    addUp (shapeCast S128x128 (v.readCov L (Rect.unit (s := S128x128) ![0, 0] S128x128.size inb_S128x128_S128x128_0_0).toLoadRect) shapeCasts_S128x128_S128x128) x⟩ :: L
def haloL (v : View sig .tc .vmem S128x128 .f32) (w : ∀ b gi : ℕ, b < 4 → gi < 2 → FVec F S256x128 .f32) :
    List (View.Piece (Elt F) S128x128 .f32) :=
  haloUp v (w 0 1 (by decide) (by decide)) (haloUp v (w 0 0 (by decide) (by decide))
    [⟨Rect.unit (s := S128x128) ![0, 0] S128x128.size inb_S128x128_S128x128_0_0, k1_pay5⟩])

/-- What one key head adds to the sinks' gradient. -/
def Blocks.dsink (X : Blocks F) (gi : ℕ) (hg : gi < 2) : FVec F S8x128 .f32 :=
  sinkAdd (sinkAdd (sinkAdd (sinkAdd (broadcast S8x128 (Scalar.ofBits .f32 0x00000000#32)) (X.sd 0 gi (by decide) hg))
    (X.sd 1 gi (by decide) hg)) (X.sd 2 gi (by decide) hg)) (X.sd 3 gi (by decide) hg)

/-- A plane of the sinks' gradient with one key head's added. -/
def sinkPlane (a : Vec F S1x8x128 .f32) (d : FVec F S8x128 .f32) : FVec F S1x8x128 .f32 :=
  shapeCast S1x8x128 (addf (shapeCast S8x128 a shapeCasts_S1x8x128_S8x128) d) shapeCasts_S8x128_S1x8x128

/-- The stores of the sinks' gradient: over zeros in a row's first cell, -/
def dsA (v : View sig .tc .vmem S2x8x128 .f32) (d0 d1 : FVec F S8x128 .f32) : List (View.Piece (Elt F) S2x8x128 .f32) :=
  let L0 : List (View.Piece (Elt F) S2x8x128 .f32) :=
    [⟨Rect.unit (s := S2x8x128) ![0, 0, 0] S2x8x128.size inb_S2x8x128_S2x8x128_0_0_0, k1_pay2⟩]
  let L1 : List (View.Piece (Elt F) S2x8x128 .f32) :=
    ⟨Rect.unit (s := S2x8x128) ![0, 0, 0] S1x8x128.size inb_S2x8x128_S1x8x128_0_0_0,
      sinkPlane (v.readCov L0 (Rect.unit (s := S2x8x128) ![0, 0, 0] S1x8x128.size inb_S2x8x128_S1x8x128_0_0_0).toLoadRect) d0⟩ :: L0
  ⟨Rect.unit (s := S2x8x128) ![1, 0, 0] S1x8x128.size inb_S2x8x128_S1x8x128_1_0_0,
    sinkPlane (v.readCov L1 (Rect.unit (s := S2x8x128) ![1, 0, 0] S1x8x128.size inb_S2x8x128_S1x8x128_1_0_0).toLoadRect) d1⟩ :: L1

/-- and over what the cell before left otherwise. -/
def dsB (x : Vec F S2x8x128 .f32) (d0 d1 : FVec F S8x128 .f32) : List (View.Piece (Elt F) S2x8x128 .f32) :=
  [⟨Rect.unit (s := S2x8x128) ![1, 0, 0] S1x8x128.size inb_S2x8x128_S1x8x128_1_0_0,
      sinkPlane (View.ld x (Rect.unit (s := S2x8x128) ![1, 0, 0] S1x8x128.size inb_S2x8x128_S1x8x128_1_0_0)) d1⟩,
    ⟨Rect.unit (s := S2x8x128) ![0, 0, 0] S1x8x128.size inb_S2x8x128_S1x8x128_0_0_0,
      sinkPlane (View.ld x (Rect.unit (s := S2x8x128) ![0, 0, 0] S1x8x128.size inb_S2x8x128_S1x8x128_0_0_0)) d0⟩]

end Cert.KernelIdeal.Cell

end
-- ==== Proof.Spec.lean ====
/- The gradient of banded grouped attention with a learned sink, over the real numbers.

   Everything is indexed by natural numbers: a token is `row = 128·n + r` (block `n`, row `r` of it), a query column is
   `64·h + d` (head `h`, lane `d`), a key column `64·(h / 4) + d`. The keys that block `n` may look at are the `256` columns
   `c` of its window: column `c` is token `128·n + c - 128`. Both programs are shown to compute these functions. -/
module

public import Idealize.ShloMosaic.Lib.Pointwise

@[expose] public section

noncomputable section

namespace Cert.Attn

open Finset

/-- What the attention reads: queries, keys, values, the gradient of its output, and the sink logits. -/
structure Data where
  q : ℕ → ℕ → ℝ
  k : ℕ → ℕ → ℝ
  v : ℕ → ℕ → ℝ
  g : ℕ → ℕ → ℝ
  s : ℕ → ℝ

/-- Column `c` of block `n`'s window is seen by row `r`: it is at most 128 tokens back, not ahead, and a token at all. -/
def ok (n r c : ℕ) : Prop := r < c ∧ c ≤ r + 128 ∧ (128 ≤ c ∨ 0 < n)

instance (n r c : ℕ) : Decidable (ok n r c) := by unfold ok; infer_instance

variable (A : Data)

/-- The scaled score of window column `c` for row `r` of block `n` in head `h`. -/
def sc (n h r c : ℕ) : ℝ :=
  (∑ d ∈ range 64, A.q (128 * n + r) (64 * h + d) * A.k (128 * n + c - 128) (64 * (h / 4) + d)) * (1 / 8)

/-- The softmax denominator: the visible columns and the sink. -/
def den (n h r : ℕ) : ℝ := (∑ c ∈ range 256, if ok n r c then Real.exp (sc A n h r c) else 0) + Real.exp (A.s h)

/-- The attention weight of column `c`, and of the sink. -/
def pr (n h r c : ℕ) : ℝ := if ok n r c then Real.exp (sc A n h r c) / den A n h r else 0
def pk (n h r : ℕ) : ℝ := Real.exp (A.s h) / den A n h r

/-- The gradient that arrives at weight `c`. -/
def dp (n h r c : ℕ) : ℝ :=
  ∑ d ∈ range 64, A.g (128 * n + r) (64 * h + d) * A.v (128 * n + c - 128) (64 * (h / 4) + d)

/-- Its mean under the weights, and the gradient of the product of query and key. -/
def dl (n h r : ℕ) : ℝ := ∑ c ∈ range 256, pr A n h r c * dp A n h r c
def ds (n h r c : ℕ) : ℝ := pr A n h r c * (dp A n h r c - dl A n h r) * (1 / 8)

/-- The gradient of the (rotated) query at token `row`, column `col`. -/
def dq (row col : ℕ) : ℝ :=
  ∑ c ∈ range 256, ds A (row / 128) (col / 64) (row % 128) c
    * A.k (128 * (row / 128) + c - 128) (64 * (col / 64 / 4) + col % 64)

/-- What block `n`'s queries send to key column `64·g + d` of window column `c`. -/
def dkw (n g c d : ℕ) : ℝ :=
  ∑ j ∈ range 4, ∑ r ∈ range 128, ds A n (4 * g + j) r c * A.q (128 * n + r) (64 * (4 * g + j) + d)
def dvw (n g c d : ℕ) : ℝ :=
  ∑ j ∈ range 4, ∑ r ∈ range 128, pr A n (4 * g + j) r c * A.g (128 * n + r) (64 * (4 * g + j) + d)

/-- The gradient of a key (of a value): what its own block sends, and what the next block sends. -/
def dk (row col : ℕ) : ℝ :=
  dkw A (row / 128) (col / 64) (128 + row % 128) (col % 64)
    + if row / 128 + 1 < 64 then dkw A (row / 128 + 1) (col / 64) (row % 128) (col % 64) else 0
def dv (row col : ℕ) : ℝ :=
  dvw A (row / 128) (col / 64) (128 + row % 128) (col % 64)
    + if row / 128 + 1 < 64 then dvw A (row / 128 + 1) (col / 64) (row % 128) (col % 64) else 0

/-- The gradient of head `h`'s sink. -/
def dsink (h : ℕ) : ℝ := -∑ n ∈ range 64, ∑ r ∈ range 128, pk A n h r * dl A n h r

/-! ### The rotation of the first two kinds of column -/

/-- Turn column pairs `(d, d + 32)` of every head by the row's angles (cosines `C`, sines `N`). -/
def rot (X C N : ℕ → ℕ → ℝ) (row col : ℕ) : ℝ :=
  if col % 64 < 32 then X row col * C row (col % 64) - X row (col + 32) * N row (col % 64)
  else X row col * C row (col % 64 - 32) + X row (col - 32) * N row (col % 64 - 32)

/-- Turn them back. -/
def unrot (Y C N : ℕ → ℕ → ℝ) (row col : ℕ) : ℝ :=
  if col % 64 < 32 then Y row col * C row (col % 64) + Y row (col + 32) * N row (col % 64)
  else Y row col * C row (col % 64 - 32) - Y row (col - 32) * N row (col % 64 - 32)

/-- The attention's data from the projected row `X` (queries, keys, values side by side), the incoming gradient `G`, the
    sinks `s` and the rotation's tables. -/
def data (X G : ℕ → ℕ → ℝ) (s : ℕ → ℝ) (C N : ℕ → ℕ → ℝ) : Data where
  q := rot X C N
  k := rot (fun r c => X r (1024 + c)) C N
  v := fun r c => X r (1280 + c)
  g := G
  s := s

/-- The gradient of the projected row. -/
def out (C N : ℕ → ℕ → ℝ) (row col : ℕ) : ℝ :=
  if col < 1024 then unrot (dq A) C N row col
  else if col < 1280 then unrot (dk A) C N row (col - 1024)
  else dv A row (col - 1280)

/-! ### A row of the softmax, shifted by any real -/

theorem den_pos (n h r : ℕ) : 0 < den A n h r := by
  unfold den
  have h1 : 0 ≤ ∑ c ∈ range 256, if ok n r c then Real.exp (sc A n h r c) else 0 :=
    sum_nonneg fun c _ => by split <;> positivity
  have := Real.exp_pos (A.s h)
  linarith

end Cert.Attn

end
-- ==== Proof.RealSum.lean ====
/- Sums of real values inside the extended reals, and the one shape of the softmax both programs compute.

   The idealized programs compute over the extended reals; on finite arguments every value but the hidden scores is real. These
   lemmas carry a sum, and a row of the shifted softmax, from the one to the other. -/
module

public import Idealize.ShloMosaic.Lib.Pointwise
public import Idealize.ShloMosaic.Lib.IdealHost

@[expose] public section

noncomputable section

namespace Cert.Attn

open Finset Idealize.ShloMosaic

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- The same over the numbers below `n`. -/
theorem sum_fin (n : ℕ) (f : ℕ → ℝ) : ∑ x : Fin n, ((f x.val : ℝ) : EReal) = ((∑ i ∈ range n, f i : ℝ) : EReal) := by
  rw [coe_sum, Fin.sum_univ_eq_sum_range]

theorem sum_fin_of {n : ℕ} {g : Fin n → EReal} (f : ℕ → ℝ) (h : ∀ x, g x = ((f x.val : ℝ) : EReal)) :
    ∑ x, g x = ((∑ i ∈ range n, f i : ℝ) : EReal) := by
  rw [← sum_fin]; exact sum_congr rfl fun x _ => h x

theorem eighth : Ideal.ofBits .f32 0x3E000000#32 = ((1 / 8 : ℝ) : EReal) := by
  simp [Ideal.ofBits, Ideal.ieee, -EReal.coe_mul]; norm_num

theorem negInf : Ideal.ofBits .f32 0xFF800000#32 = ⊥ := by
  simp [Ideal.ofBits, Ideal.ieee]

/-- The maximum of finitely many scores, each real or minus infinity, and a real is real. -/
theorem max_real {n : ℕ} (s : Fin n → EReal) (k : ℝ) (hs : ∀ c, s c < ⊤) :
    ∃ m : ℝ, max (Finset.fold max ⊥ s univ) (k : EReal) = (m : EReal) := by
  refine ⟨(max (Finset.fold max ⊥ s univ) (k : EReal)).toReal, (EReal.coe_toReal ?_ ?_).symm⟩
  · have : max (Finset.fold max ⊥ s univ) (k : EReal) < ⊤ :=
      max_lt ((Finset.fold_op_rel_iff_and (op := max) (r := fun x y => y < x) (fun {x y z} => max_lt_iff)).mpr
        ⟨bot_lt_top, fun c _ => hs c⟩) (EReal.coe_lt_top k)
    exact this.ne
  · have : ⊥ < max (Finset.fold max ⊥ s univ) (k : EReal) := lt_max_of_lt_right (EReal.bot_lt_coe k)
    exact this.ne'

/-- A masked, shifted exponential. -/
theorem exp_masked (p : Prop) [Decidable p] (x m : ℝ) :
    Ideal.exp ((if p then (x : EReal) else ⊥) - (m : EReal)) = ((if p then Real.exp (x - m) else 0 : ℝ) : EReal) := by
  split
  · rw [← EReal.coe_sub, Ideal.exp_coe]
  · rw [EReal.bot_sub, Ideal.exp_bot, EReal.coe_zero]

variable {n : ℕ} (p : ℕ → Prop) [DecidablePred p] (s : ℕ → ℝ) (k m : ℝ)

/-- A row's denominator, and the shifted one. -/
def zden (n : ℕ) : ℝ := (∑ c ∈ range n, if p c then Real.exp (s c) else 0) + Real.exp k
def zshift (n : ℕ) : ℝ := (∑ c ∈ range n, if p c then Real.exp (s c - m) else 0) + Real.exp (k - m)

theorem zden_pos : 0 < zden p s k n := by
  unfold zden
  have h1 : 0 ≤ ∑ c ∈ range n, if p c then Real.exp (s c) else 0 :=
    sum_nonneg fun c _ => by split <;> positivity
  have := Real.exp_pos k
  linarith

/-- The shift divides the denominator by its exponential. -/
theorem zshift_eq : zshift p s k m n = zden p s k n / Real.exp m := by
  unfold zshift zden
  rw [add_div, sum_div, Real.exp_sub]
  congr 1
  refine sum_congr rfl fun c _ => ?_
  split
  · rw [Real.exp_sub]
  · simp

theorem zshift_pos : 0 < zshift p s k m n := by
  rw [zshift_eq]; exact div_pos (zden_pos p s k) (Real.exp_pos m)

/-- The weights do not depend on the shift. -/
theorem weight_shift (c : ℕ) :
    (if p c then Real.exp (s c - m) else 0) * (1 / zshift p s k m n) = if p c then Real.exp (s c) / zden p s k n else 0 := by
  have h := (zden_pos (n := n) p s k).ne'
  have h' := (Real.exp_pos m).ne'
  rw [zshift_eq]
  split
  · rw [Real.exp_sub]; field_simp
  · simp

theorem sink_shift : Real.exp (k - m) * (1 / zshift p s k m n) = Real.exp k / zden p s k n := by
  have h := (zden_pos (n := n) p s k).ne'
  have h' := (Real.exp_pos m).ne'
  rw [zshift_eq, Real.exp_sub]; field_simp

/-- The shifted denominator of a row over the extended reals. -/
theorem den_shift (S : Fin n → EReal) (hS : ∀ c : Fin n, S c = if p c.val then ((s c.val : ℝ) : EReal) else ⊥) :
    ∑ c, Ideal.exp (S c - (m : EReal)) + Ideal.exp ((k : EReal) - (m : EReal)) = ((zshift p s k m n : ℝ) : EReal) := by
  unfold zshift
  rw [sum_fin_of (fun c => if p c then Real.exp (s c - m) else 0) (fun c => by rw [hS, exp_masked]),
    ← EReal.coe_sub, Ideal.exp_coe, ← EReal.coe_add]

theorem one_div_coe (y : ℝ) (h : y ≠ 0) : Ideal.div 1 (y : EReal) = ((1 / y : ℝ) : EReal) := by
  rw [Ideal.div_coe h, one_mul]

theorem mask_lt_top (q : Prop) [Decidable q] (x : ℝ) : (if q then (x : EReal) else ⊥) < ⊤ := by
  split
  · exact EReal.coe_lt_top x
  · exact bot_lt_top

end Cert.Attn

end
-- ==== Proof.TileValue.lean ====
/- What the steps of a head group compute on real inputs.

   `p` is the pair of key heads of a grid cell, `gi` the key head inside the pair, `n` the block of 128 queries; row `i` of the
   four heads' rows belongs to head `8 p + 4 gi + i / 128` and to query `i % 128` of the block. -/
module

public import proofs.«01_k».proof.Proof.Tile
public import proofs.«01_k».proof.Proof.Spec
public import proofs.«01_k».proof.Proof.RealSum
public import Idealize.ShloMosaic.Lib.WordCmp

@[expose] public section

noncomputable section

namespace Cert.KernelIdeal.Tile

open Idealize.ShloMosaic Idealize.SL.Sem Cert.KernelIdeal Cert.KernelIdeal.Gen Cert.Attn Finset

/-! ### Masks -/

theorem low128_apply (r l : Fin 128) : low128 (ix2 r l) = if l.val < 64 then 1#1 else 0#1 := by
  unfold low128; pointwise; revert l; decide +kernel

theorem low256_apply (r : Fin 256) (l : Fin 128) : low256 (ix2 r l) = if l.val < 64 then 1#1 else 0#1 := by
  unfold low256; pointwise; revert l; decide +kernel

theorem rid_apply (r : Fin 512) (u : Fin 1) : rid (ix2 r u) = BitVec.ofNat 32 (r.val / 128) := by
  unfold rid k1_pay9 k1_pay7 k1_pay8; pointwise; revert r; decide +kernel

theorem select_if {α : Type} (q : Prop) [Decidable q] (a b : α) :
    Scalar.select (if q then 1#1 else 0#1) a b = if q then a else b := by
  split <;> rfl

/-! ### Rows and windows -/

/-- The four heads' rows of a block whose 256 columns are `f`. -/
def rowF (f : ℕ → ℕ → ℝ) (i l : ℕ) : ℝ := if l / 64 = i / 128 % 2 then f (i % 128) (128 * (i / 256) + l) else 0

theorem rows_real {x y : FVec Ideal S128x128 .bf16} (f : ℕ → ℕ → ℝ)
    (hx : ∀ r l : Fin 128, x (ix2 r l) = ((f r l : ℝ) : EReal))
    (hy : ∀ r l : Fin 128, y (ix2 r l) = ((f r (128 + l) : ℝ) : EReal)) (i : Fin 512) (l : Fin 128) :
    rows x y (ix2 i l) = ((rowF f i l : ℝ) : EReal) := by
  unfold rows
  pointwise
  have hl := l.isLt
  have hi := i.isLt
  unfold rowF
  simp only [low128_apply, select_if, hx, hy, ← EReal.coe_zero]
  split_ifs <;> first | omega | rfl | (congr 2 <;> omega)

theorem win_real {x y : FVec Ideal S128x128 .bf16} (f : ℕ → ℕ → ℝ)
    (hx : ∀ r l : Fin 128, x (ix2 r l) = ((f r l : ℝ) : EReal))
    (hy : ∀ r l : Fin 128, y (ix2 r l) = ((f (128 + r) l : ℝ) : EReal)) (c : Fin 256) (l : Fin 128) :
    win x y (ix2 c l) = ((f c l : ℝ) : EReal) := by
  unfold win
  pointwise
  simp only [hx, hy]
  split_ifs <;> first | omega | rfl | (congr 2 <;> omega)

theorem kw0_real {x : FVec Ideal S256x128 .bf16} (f : ℕ → ℕ → ℝ)
    (hx : ∀ (c : Fin 256) (l : Fin 128), x (ix2 c l) = ((f c l : ℝ) : EReal)) (c : Fin 256) (l : Fin 128) :
    kw0 x (ix2 c l) = ((f c (64 * 0 + l % 64) : ℝ) : EReal) := by
  unfold kw0
  pointwise
  have hl := l.isLt
  simp only [low256_apply, select_if, hx]
  split_ifs <;> (congr 2; omega)

theorem kw1_real {x : FVec Ideal S256x128 .bf16} (f : ℕ → ℕ → ℝ)
    (hx : ∀ (c : Fin 256) (l : Fin 128), x (ix2 c l) = ((f c l : ℝ) : EReal)) (c : Fin 256) (l : Fin 128) :
    kw1 x (ix2 c l) = ((f c (64 * 1 + l % 64) : ℝ) : EReal) := by
  unfold kw1
  pointwise
  have hl := l.isLt
  simp only [low256_apply, select_if, hx]
  split_ifs <;> (congr 2; omega)

/-! ### Sums over lanes and rows -/

theorem sum_half (b : ℕ) (hb : b < 2) (g : ℕ → ℝ) :
    (∑ l ∈ range 128, if l / 64 = b then g l else 0) = ∑ d ∈ range 64, g (64 * b + d) := by
  rw [show (128 : ℕ) = 64 + 64 from rfl, sum_range_add]
  rcases Nat.lt_or_ge b 1 with h | h
  · obtain rfl : b = 0 := by omega
    rw [sum_congr rfl (g := fun d => g (64 * 0 + d)) fun d hd => by
        have := mem_range.mp hd; rw [if_pos (by omega)]; simp,
      sum_eq_zero (s := range 64) (f := fun x => if (64 + x) / 64 = 0 then g (64 + x) else 0) fun d hd => by
        rw [if_neg (by omega)], add_zero]
  · obtain rfl : b = 1 := by omega
    rw [sum_eq_zero (s := range 64) (f := fun x => if x / 64 = 1 then g x else 0) fun d hd => by
        have := mem_range.mp hd; rw [if_neg (by omega)], zero_add]
    exact sum_congr rfl fun d hd => by
        have := mem_range.mp hd; rw [if_pos (by omega)]

theorem sum_blocks (m k : ℕ) (g : ℕ → ℝ) :
    ∑ i ∈ range (m * k), g i = ∑ j ∈ range m, ∑ r ∈ range k, g (k * j + r) := by
  induction m with
  | zero => simp
  | succ m ih => rw [Nat.succ_mul, sum_range_add, ih, sum_range_succ]; simp only [Nat.mul_comm m k]

/-- The sum over the rows, head by head. -/
theorem sum_rows (g : ℕ → ℕ → ℝ) :
    ∑ i ∈ range 512, g (i / 128) (i % 128) = ∑ j ∈ range 4, ∑ r ∈ range 128, g j r := by
  rw [show (512 : ℕ) = 4 * 128 from rfl, sum_blocks]
  refine sum_congr rfl fun j _ => sum_congr rfl fun r hr => ?_
  have := mem_range.mp hr
  congr 1 <;> omega

/-- A row of the heads' rows against a window holding one key head twice. -/
theorem sum_rowF (f : ℕ → ℕ → ℝ) (k : ℕ → ℝ) (i : ℕ) (hi : i < 512) :
    ∑ l ∈ range 128, rowF f i l * k (l % 64) = ∑ d ∈ range 64, f (i % 128) (64 * (i / 128) + d) * k d := by
  have := sum_half (i / 128 % 2) (by omega) fun l => f (i % 128) (128 * (i / 256) + l) * k (l % 64)
  unfold rowF
  simp only [ite_mul, zero_mul]
  rw [this]
  refine sum_congr rfl fun d hd => ?_
  have := mem_range.mp hd
  congr 2 <;> omega

/-- The two halves of the heads' rows together. -/
theorem rowF_both (f : ℕ → ℕ → ℝ) (i l : ℕ) (hi : i < 512) (hl : l < 128) :
    rowF f i l + rowF f i ((l + 64) % 128) = f (i % 128) (64 * (i / 128) + l % 64) := by
  unfold rowF
  split_ifs with h1 h2 h2
  · omega
  · rw [add_zero]; congr 1; omega
  · rw [zero_add]; congr 1; omega
  · omega

/-! ### The sinks' column -/

theorem sinkCol_real {a b c d : Elt Ideal .f32} (s : ℕ → ℝ) (ha : a = ((s 0 : ℝ) : EReal)) (hb : b = ((s 1 : ℝ) : EReal))
    (hc : c = ((s 2 : ℝ) : EReal)) (hd : d = ((s 3 : ℝ) : EReal)) (i : Fin 512) (u : Fin 1) :
    sinkCol a b c d (ix2 i u) = ((s (i / 128) : ℝ) : EReal) := by
  unfold sinkCol
  pointwise
  rw [rid_apply]
  have hi := i.isLt
  obtain h | h | h | h : i.val / 128 = 0 ∨ i.val / 128 = 1 ∨ i.val / 128 = 2 ∨ i.val / 128 = 3 := by omega
  · rw [h, ha]; rfl
  · rw [h, hb]; rfl
  · rw [h, hc]; rfl
  · rw [h, hd]; rfl

/-! ### A head group on real inputs -/

section Group

variable (A : Data) (p gi n : ℕ)

/-- The block's queries, and the gradient of its output, of this key head's four heads side by side. -/
def qf (r l : ℕ) : ℝ := A.q (128 * n + r) (512 * p + 256 * gi + l)
def gf (r l : ℕ) : ℝ := A.g (128 * n + r) (512 * p + 256 * gi + l)

/-- The head of a row. -/
def hd (i : ℕ) : ℕ := 8 * p + 4 * gi + i / 128

/-- A group's inputs: rows of queries and of gradients, windows of keys and of values, the visibility, and the sinks. A window
    holds the data's keys (values) wherever a row may look. -/
structure Group (Q G : FVec Ideal S512x128 .bf16) (K V : FVec Ideal S256x128 .bf16) (vis : IVec S512x256 1)
    (snk : FVec Ideal S512x1 .f32) (KF VF : ℕ → ℕ → ℝ) : Prop where
  q : ∀ (i : Fin 512) (l : Fin 128), Q (ix2 i l) = ((rowF (qf A p gi n) i l : ℝ) : EReal)
  g : ∀ (i : Fin 512) (l : Fin 128), G (ix2 i l) = ((rowF (gf A p gi n) i l : ℝ) : EReal)
  k : ∀ (c : Fin 256) (l : Fin 128), K (ix2 c l) = ((KF c (64 * gi + l % 64) : ℝ) : EReal)
  v : ∀ (c : Fin 256) (l : Fin 128), V (ix2 c l) = ((VF c (64 * gi + l % 64) : ℝ) : EReal)
  vis : ∀ (i : Fin 512) (c : Fin 256), vis (ix2 i c) = if ok n (i % 128) c then 1#1 else 0#1
  snk : ∀ (i : Fin 512) (u : Fin 1), snk (ix2 i u) = ((A.s (hd p gi i) : ℝ) : EReal)
  kf : ∀ c col, (128 ≤ c ∨ 0 < n) → KF c col = A.k (128 * n + c - 128) (128 * p + col)
  vf : ∀ c col, (128 ≤ c ∨ 0 < n) → VF c col = A.v (128 * n + c - 128) (128 * p + col)
  hgi : gi < 2

variable {A p gi n} {Q G : FVec Ideal S512x128 .bf16} {K V : FVec Ideal S256x128 .bf16} {vis : IVec S512x256 1}
  {snk : FVec Ideal S512x1 .f32} {KF VF : ℕ → ℕ → ℝ}

theorem dotw_real {f : ℕ → ℕ → ℝ} {k : ℕ → ℕ → ℝ} (hQ : ∀ (i : Fin 512) (l : Fin 128), Q (ix2 i l) = ((rowF f i l : ℝ) : EReal))
    (hK : ∀ (c : Fin 256) (l : Fin 128), K (ix2 c l) = ((k c (64 * gi + l % 64) : ℝ) : EReal)) (i : Fin 512) (c : Fin 256) :
    dotw Q K (ix2 i c) = ((∑ d ∈ range 64, f (i % 128) (64 * (i / 128) + d) * k c (64 * gi + d) : ℝ) : EReal) := by
  unfold dotw
  pointwise
  rw [sum_fin_of (fun l => rowF f i l * k c (64 * gi + l % 64)) (fun l => by rw [hQ, hK, EReal.coe_mul]),
    sum_rowF f (fun d => k c (64 * gi + d)) i i.isLt]

variable (H : Group A p gi n Q G K V vis snk KF VF)
include H

theorem score_real (i : Fin 512) (c : Fin 256) :
    score vis Q K (ix2 i c) = if ok n (i % 128) c then ((sc A n (hd p gi i) (i % 128) c : ℝ) : EReal) else ⊥ := by
  unfold score
  pointwise
  rw [H.vis, select_if, dotw_real H.q H.k, eighth, negInf, ← EReal.coe_mul]
  split_ifs with h
  · unfold sc qf hd
    have := H.hgi
    have hi := i.isLt
    congr 2
    refine sum_congr rfl fun d hd => ?_
    have := mem_range.mp hd
    rw [H.kf _ _ h.2.2]
    congr 2 <;> omega
  · rfl

theorem mx_real (i : Fin 512) : ∃ m : ℝ, ∀ u : Fin 1, mx (score vis Q K) snk (ix2 i u) = (m : EReal) := by
  obtain ⟨m, hm⟩ := max_real (n := 256) (fun c => score vis Q K (ix2 i c)) (A.s (hd p gi i))
    (fun c => by rw [score_real H]; exact mask_lt_top _ _)
  refine ⟨m, fun u => ?_⟩
  rw [← hm]
  unfold mx
  pointwise
  rw [H.snk, negInf]

theorem weights (i : Fin 512) : (∀ c : Fin 256, pn (score vis Q K) snk (ix2 i c)
      = ((pr A n (hd p gi i) (i % 128) c : ℝ) : EReal)) ∧
    ∀ u : Fin 1, ps (score vis Q K) snk (ix2 i u) = ((pk A n (hd p gi i) (i % 128) : ℝ) : EReal) := by
  obtain ⟨m, hm⟩ := mx_real H i
  have hz := zshift_pos (n := 256) (ok n (i % 128)) (sc A n (hd p gi i) (i % 128)) (A.s (hd p gi i)) m
  have hinv : ∀ u : Fin 1, inv (score vis Q K) snk (ix2 i u)
      = ((1 / zshift (ok n (i % 128)) (sc A n (hd p gi i) (i % 128)) (A.s (hd p gi i)) m 256 : ℝ) : EReal) := by
    intro u
    unfold inv rsum pe es
    generalize hM : mx (score vis Q K) snk = M at hm
    pointwise
    rw [hm, hm, H.snk, den_shift (ok n (i % 128)) (sc A n (hd p gi i) (i % 128)) _ _ _ (fun c => score_real H i c),
      one_div_coe _ hz.ne']
  refine ⟨fun c => ?_, fun u => ?_⟩
  · unfold pn pe
    generalize hM : mx (score vis Q K) snk = M at hm
    generalize hI : inv (score vis Q K) snk = I at hinv
    pointwise
    rw [hm, hinv, score_real H, exp_masked, ← EReal.coe_mul, weight_shift]
    rfl
  · unfold ps es
    generalize hM : mx (score vis Q K) snk = M at hm
    generalize hI : inv (score vis Q K) snk = I at hinv
    pointwise
    rw [hm, hinv, H.snk, ← EReal.coe_sub, Ideal.exp_coe, ← EReal.coe_mul, sink_shift]
    rfl

theorem pn_real (i : Fin 512) (c : Fin 256) :
    pn (score vis Q K) snk (ix2 i c) = ((pr A n (hd p gi i) (i % 128) c : ℝ) : EReal) := (weights H i).1 c

theorem ps_real (i : Fin 512) (u : Fin 1) :
    ps (score vis Q K) snk (ix2 i u) = ((pk A n (hd p gi i) (i % 128) : ℝ) : EReal) := (weights H i).2 u

/-- Under the weight, the window's product with the gradient is the data's. -/
theorem pr_dp (i : ℕ) (hi : i < 512) (c : ℕ) :
    pr A n (hd p gi i) (i % 128) c * (∑ d ∈ range 64, gf A p gi n (i % 128) (64 * (i / 128) + d) * VF c (64 * gi + d))
      = pr A n (hd p gi i) (i % 128) c * dp A n (hd p gi i) (i % 128) c := by
  have := H.hgi
  unfold pr
  split_ifs with h
  · congr 1
    unfold dp gf hd
    refine sum_congr rfl fun d hd => ?_
    have := mem_range.mp hd
    rw [H.vf _ _ h.2.2]
    congr 2 <;> omega
  · rw [zero_mul, zero_mul]

theorem mean_real (i : Fin 512) (u : Fin 1) :
    rsum (mulf (pn (score vis Q K) snk) (dotw G V)) (ix2 i u) = ((dl A n (hd p gi i) (i % 128) : ℝ) : EReal) := by
  unfold rsum
  have hp := pn_real H
  generalize pn (score vis Q K) snk = P at hp
  have hd' := dotw_real H.g H.v
  generalize dotw G V = D at hd'
  pointwise
  exact sum_fin_of _ fun c => by rw [hp, hd', ← EReal.coe_mul, pr_dp H _ i.isLt]

theorem dsb_real (i : Fin 512) (c : Fin 256) :
    dsb (pn (score vis Q K) snk) (dotw G V) (ix2 i c) = ((ds A n (hd p gi i) (i % 128) c : ℝ) : EReal) := by
  unfold dsb
  have hm := mean_real H
  have hp := pn_real H
  have hd' := dotw_real H.g H.v
  generalize rsum (mulf (pn (score vis Q K) snk) (dotw G V)) = M at hm
  generalize pn (score vis Q K) snk = P at hp
  generalize dotw G V = D at hd'
  pointwise
  rw [hp, hd', hm, eighth, ← EReal.coe_sub, ← EReal.coe_mul, ← EReal.coe_mul, mul_sub, pr_dp H _ i.isLt, ← mul_sub]
  rfl

/-! #### The gradient of the queries -/

theorem dqw_real (i : Fin 512) (l : Fin 128) :
    dqw (dsb (pn (score vis Q K) snk) (dotw G V)) K (ix2 i l)
      = ((∑ c ∈ range 256, ds A n (hd p gi i) (i % 128) c
          * A.k (128 * n + c - 128) (128 * p + 64 * gi + l % 64) : ℝ) : EReal) := by
  unfold dqw
  have hd' := dsb_real H
  generalize dsb (pn (score vis Q K) snk) (dotw G V) = D at hd'
  pointwise
  refine sum_fin_of _ fun c => ?_
  rw [hd', H.k, ← EReal.coe_mul]
  congr 1
  unfold ds pr
  split_ifs with h
  · rw [H.kf _ _ h.2.2]; congr 2; omega
  · simp

theorem slab0_real (r l : Fin 128) :
    slab0 (dqw (dsb (pn (score vis Q K) snk) (dotw G V)) K) (ix2 r l)
      = ((dq A (128 * n + r) (512 * p + 256 * gi + l) : ℝ) : EReal) := by
  unfold slab0
  have hd' := dqw_real H
  generalize dqw (dsb (pn (score vis Q K) snk) (dotw G V)) K = D at hd'
  have := H.hgi
  pointwise
  rw [low128_apply, select_if]
  simp only [hd']
  unfold dq hd
  split_ifs <;> (congr 1; refine sum_congr rfl fun c _ => ?_; congr 2 <;> (try dsimp only) <;> omega)

theorem slab1_real (r l : Fin 128) :
    slab1 (dqw (dsb (pn (score vis Q K) snk) (dotw G V)) K) (ix2 r l)
      = ((dq A (128 * n + r) (512 * p + 256 * gi + 128 + l) : ℝ) : EReal) := by
  unfold slab1
  have hd' := dqw_real H
  generalize dqw (dsb (pn (score vis Q K) snk) (dotw G V)) K = D at hd'
  have := H.hgi
  pointwise
  rw [low128_apply, select_if]
  simp only [hd']
  unfold dq hd
  split_ifs <;> (congr 1; refine sum_congr rfl fun c _ => ?_; congr 2 <;> (try dsimp only) <;> omega)

omit H

/-! #### The gradients of the keys and values -/

theorem both_real {D : FVec Ideal S512x256 .bf16} {d : ℕ → ℕ → ℕ → ℝ} {f : ℕ → ℕ → ℝ}
    (hD : ∀ (i : Fin 512) (c : Fin 256), D (ix2 i c) = ((d (hd p gi i) (i % 128) c : ℝ) : EReal))
    (hQ : ∀ (i : Fin 512) (l : Fin 128), Q (ix2 i l) = ((rowF f i l : ℝ) : EReal)) (c : Fin 256) (l : Fin 128) :
    both (dww D Q) (ix2 c l) = ((∑ j ∈ range 4, ∑ r ∈ range 128, d (8 * p + 4 * gi + j) r c * f r (64 * j + l % 64) : ℝ) : EReal) := by
  unfold both dww
  pointwise
  rw [sum_fin_of (fun i => d (hd p gi i) (i % 128) c * rowF f i l) (fun i => by rw [hD, hQ, EReal.coe_mul]),
    sum_fin_of (fun i => d (hd p gi i) (i % 128) c * rowF f i ((l + 128 - 64) % 128)) (fun i => by rw [hD, hQ, EReal.coe_mul]),
    ← EReal.coe_add, ← sum_add_distrib, ← sum_rows (fun j r => d (8 * p + 4 * gi + j) r c * f r (64 * j + l % 64))]
  congr 1
  refine sum_congr rfl fun i hi => ?_
  rw [← mul_add, show l.val + 128 - 64 = l.val + 64 by omega, rowF_both f i l (mem_range.mp hi) l.isLt]
  rfl

theorem fold0_apply (x : FVec Ideal S256x128 .f32) (c : Fin 256) (l : Fin 128) :
    fold0 x (ix2 c l) = if l.val / 64 = 0 then both x (ix2 c l) else 0 := by
  unfold fold0
  generalize both x = y
  pointwise
  rw [low256_apply, select_if]
  have := l.isLt
  split_ifs <;> first | rfl | omega

theorem fold1_apply (x : FVec Ideal S256x128 .f32) (c : Fin 256) (l : Fin 128) :
    fold1 x (ix2 c l) = if l.val / 64 = 1 then both x (ix2 c l) else 0 := by
  unfold fold1
  generalize both x = y
  pointwise
  rw [low256_apply]
  have := l.isLt
  split_ifs <;> first | rfl | omega

include H

theorem dk_real (c : Fin 256) (l : Fin 128) :
    both (dww (dsb (pn (score vis Q K) snk) (dotw G V)) Q) (ix2 c l) = ((dkw A n (2 * p + gi) c (l % 64) : ℝ) : EReal) := by
  rw [both_real (d := ds A n) (dsb_real H) H.q]
  unfold dkw qf
  congr 1
  refine sum_congr rfl fun j _ => sum_congr rfl fun r _ => ?_
  congr 2 <;> ring

theorem dv_real (c : Fin 256) (l : Fin 128) :
    both (dww (truncf .bf16 (pn (score vis Q K) snk) bitsLt_bf16_f32) G) (ix2 c l) = ((dvw A n (2 * p + gi) c (l % 64) : ℝ) : EReal) := by
  have hp := pn_real H
  generalize pn (score vis Q K) snk = P at hp
  rw [both_real (d := pr A n) (D := truncf .bf16 P bitsLt_bf16_f32) (fun i c => by pointwise; exact hp i c) H.g]
  unfold dvw gf
  congr 1
  refine sum_congr rfl fun j _ => sum_congr rfl fun r _ => ?_
  congr 2 <;> ring

/-! #### The gradient of the sinks -/

omit H in
theorem sinkPart_real {sd : FVec Ideal S512x1 .f32} {f : ℕ → ℕ → ℝ}
    (hs : ∀ (i : Fin 512) (u : Fin 1), sd (ix2 i u) = ((f (i / 128) (i % 128) : ℝ) : EReal)) (j : ℕ) (hj : j < 4) :
    sinkPart (BitVec.ofNat 32 j) sd = ((-∑ r ∈ range 128, f j r : ℝ) : EReal) := by
  unfold sinkPart
  pointwise
  rw [sum_fin_of (fun i => if i / 128 = j then f (i / 128) (i % 128) else 0)]
  · rw [zero_sub, ← EReal.coe_neg, sum_rows (fun a r => if a = j then f a r else 0)]
    congr 2
    rw [sum_eq_single j]
    · simp
    · intro b _ hb; exact sum_eq_zero fun r _ => if_neg hb
    · intro h; exact absurd (mem_range.mpr hj) h
  · intro i
    have hi := i.isLt
    simp only [rid_apply, hs]
    rw [Fin.sum_univ_one]
    by_cases h : i.val / 128 = j
    · rw [if_pos h, h]; simp [IntOp.cmpi, Scalar.select]
    · rw [if_neg h]
      have : BitVec.ofNat 32 (i.val / 128) ≠ BitVec.ofNat 32 j := by
        intro e
        have := congrArg BitVec.toNat e
        simp only [BitVec.toNat_ofNat] at this
        omega
      simp [IntOp.cmpi, Scalar.select, beq_eq_false_iff_ne.mpr this]

omit H in
theorem sinkAdd_real {sd : FVec Ideal S512x1 .f32} {f : ℕ → ℕ → ℝ}
    (hs : ∀ (i : Fin 512) (u : Fin 1), sd (ix2 i u) = ((f (i / 128) (i % 128) : ℝ) : EReal)) {acc : FVec Ideal S8x128 .f32}
    {a : ℕ → ℝ} (ha : ∀ (r : Fin 8) (l : Fin 128), acc (ix2 r l) = ((a r : ℝ) : EReal)) (r : Fin 8) (l : Fin 128) :
    sinkAdd acc sd (ix2 r l) = ((a r + if r.val < 4 then -∑ q ∈ range 128, f r q else 0 : ℝ) : EReal) := by
  have step : ∀ (j : ℕ) (_ : j < 4) (acc : FVec Ideal S8x128 .f32) (a : ℕ → ℝ)
      (_ : ∀ (r : Fin 8) (l : Fin 128), acc (ix2 r l) = ((a r : ℝ) : EReal)) (r : Fin 8) (l : Fin 128),
      sinkStep (BitVec.ofNat 32 j) acc sd (ix2 r l)
        = ((a r + if r.val = j then -∑ q ∈ range 128, f j q else 0 : ℝ) : EReal) := by
    intro j hj acc a ha r l
    unfold sinkStep
    rw [sinkPart_real hs j hj]
    pointwise
    rw [ha]
    have hr := r.isLt
    by_cases h : r.val = j
    · rw [if_pos h, h]; simp [IntOp.cmpi, Scalar.select]
    · rw [if_neg h]
      have : BitVec.ofNat 32 r.val ≠ BitVec.ofNat 32 j := by
        intro e
        have := congrArg BitVec.toNat e
        simp only [BitVec.toNat_ofNat] at this
        omega
      simp [IntOp.cmpi, Scalar.select, beq_eq_false_iff_ne.mpr this]
  unfold sinkAdd
  have h0 := step 0 (by omega) _ a ha
  have h1 := step 1 (by omega) _ (fun x => a x + if x = 0 then _ else 0) h0
  have h2 := step 2 (by omega) _ (fun x => (a x + if x = 0 then _ else 0) + if x = 1 then _ else 0) h1
  have h3 := step 3 (by omega) _ (fun x => ((a x + if x = 0 then _ else 0) + if x = 1 then _ else 0) + if x = 2 then _ else 0) h2
  refine (h3 r l).trans ?_
  congr 1
  obtain h | h | h | h | h : r.val = 0 ∨ r.val = 1 ∨ r.val = 2 ∨ r.val = 3 ∨ 4 ≤ r.val := by omega
  · simp [h]
  · simp [h]
  · simp [h]
  · simp [h]
  · simp [show ¬ r.val < 4 by omega, show r.val ≠ 0 by omega, show r.val ≠ 1 by omega, show r.val ≠ 2 by omega,
      show r.val ≠ 3 by omega]

theorem sd_real (i : Fin 512) (u : Fin 1) :
    mulf (ps (score vis Q K) snk) (rsum (mulf (pn (score vis Q K) snk) (dotw G V))) (ix2 i u)
      = ((pk A n (8 * p + 4 * gi + i / 128) (i % 128) * dl A n (8 * p + 4 * gi + i / 128) (i % 128) : ℝ) : EReal) := by
  have h1 := ps_real H i u
  have h2 := mean_real H i u
  rw [mulf_apply, h1, h2]
  exact (EReal.coe_mul _ _).symm

end Group

end Cert.KernelIdeal.Tile

end
-- ==== Proof.CellReal.lean ====
/- One grid cell of the attention's backward kernel on real inputs: its groups of heads. -/
module

public import proofs.«01_k».proof.Proof.Cell
public import proofs.«01_k».proof.Proof.TileValue
public import Idealize.ShloMosaic.Lib.Pipeline.ValueKit

@[expose] public section

noncomputable section

namespace Cert.KernelIdeal.Cell

open Idealize.ShloMosaic Idealize.SL.Sem Cert.KernelIdeal Cert.KernelIdeal.Gen Cert.KernelIdeal.Tile Cert.Attn Finset WordCmp

/-! ### What a row may look at -/

/-- The row inside its head, as the kernel computes it. -/
def rowWord (w : BitVec 32) : BitVec 32 :=
  Scalar.select (IntOp.andi (IntOp.xori (IntOp.cmpi .slt (IntOp.remsi .vector w 128#32) 0#32) 0#1)
    (IntOp.cmpi .ne (IntOp.remsi .vector w 128#32) 0#32)) (IntOp.addi (IntOp.remsi .vector w 128#32) 128#32)
    (IntOp.remsi .vector w 128#32)

theorem rowWord_eq (i : Fin 512) : rowWord (BitVec.ofNat 32 i.val) = BitVec.ofNat 32 (i.val % 128) := by
  revert i; decide +kernel

theorem rest_word (i : Fin 512) (c : Fin 256) : k1_pay10 (ix2 i c)
    = IntOp.andi (IntOp.cmpi .sgt (BitVec.ofNat 32 c.val) (rowWord (BitVec.ofNat 32 i.val)))
        (IntOp.cmpi .sle (BitVec.ofNat 32 c.val) (IntOp.addi (rowWord (BitVec.ofNat 32 i.val)) 128#32)) := by
  unfold k1_pay10; dsimp only; pointwise; rfl

theorem rest_apply (i : Fin 512) (c : Fin 256) :
    k1_pay10 (ix2 i c) = if i.val % 128 < c.val ∧ c.val ≤ i.val % 128 + 128 then 1#1 else 0#1 := by
  have hc := c.isLt
  rw [rest_word, rowWord_eq, addi_ofNat (w := 32), cmpi_sgt_ofNat (by omega) (by omega), cmpi_sle_ofNat (by omega) (by omega), andi_ofBool,
    ← Bool.decide_and, ofBool_decide_eq_ite]

theorem first_word (t : ℕ) (i : Fin 512) (c : Fin 256) : k1_pay11 (BitVec.ofNat 32 t) (ix2 i c)
    = IntOp.andi (k1_pay10 (ix2 i c)) (IntOp.ori (IntOp.cmpi .sge (BitVec.ofNat 32 c.val) 128#32) (IntOp.cmpi .sgt (BitVec.ofNat 32 t) 0#32)) := by
  unfold k1_pay11; dsimp only
  generalize k1_pay10 = M
  pointwise
  rfl

theorem first_apply' (t : ℕ) (ht : t < 16) (i : Fin 512) (c : Fin 256) :
    k1_pay11 (BitVec.ofNat 32 t) (ix2 i c)
      = if (i.val % 128 < c.val ∧ c.val ≤ i.val % 128 + 128) ∧ (128 ≤ c.val ∨ 0 < t) then 1#1 else 0#1 := by
  have hc := c.isLt
  rw [first_word, rest_apply, cmpi_sge_ofNat (b := 128) (by omega) (by omega), cmpi_sgt_ofNat (b := 0) (by omega) (by omega), ← ofBool_decide_eq_ite, ori_ofBool,
    andi_ofBool, ← Bool.decide_or, ← Bool.decide_and, ofBool_decide_eq_ite]

theorem visAt_apply (i : grid1.Coords) (b t : ℕ) (ht : (i 1).val = t) (r : Fin 512) (c : Fin 256) :
    visAt i b (ix2 r c) = if ok (4 * t + b) (r % 128) c then 1#1 else 0#1 := by
  have h16 : (i 1).val < 16 := (i 1).isLt
  match b with
  | 0 =>
    show k1_pay11 (BitVec.ofNat 32 (i 1).val) (ix2 r c) = _
    rw [first_apply' _ h16]
    refine if_congr ?_ rfl rfl
    unfold ok
    constructor <;> intro h <;> omega
  | b + 1 =>
    show k1_pay10 (ix2 r c) = _
    rw [rest_apply]
    refine if_congr ?_ rfl rfl
    unfold ok
    constructor <;> intro h <;> omega

/-! ### Loads -/

/-- A box read from a real block. -/
theorem ld_at {n m a b : ℕ} {e : EltTy} (x : Vec Ideal ⟨2, ![n, m]⟩ e) (f : ℕ → ℕ → Elt Ideal e)
    (hx : ∀ (r : Fin n) (l : Fin m), x (ix2 r l) = f r l) (off : Fin 2 → ℕ) (o0 o1 : ℕ) (h0 : off 0 = o0) (h1 : off 1 = o1)
    (inb) (r : Fin a) (l : Fin b) :
    View.ld x (Rect.unit (s := ⟨2, ![n, m]⟩) off (⟨2, ![a, b]⟩ : Shape).size inb) (ix2 r l) = f (o0 + r) (o1 + l) := by
  have hb0 : off 0 + a ≤ n := inb 0
  have hb1 : off 1 + b ≤ m := inb 1
  have hr := r.isLt
  have hl := l.isLt
  rw [View.ld_unit_apply_of x off (⟨2, ![a, b]⟩ : Shape).size inb (ix2 r l) (ix2 ⟨o0 + r, by omega⟩ ⟨o1 + l, by omega⟩) (fun a => by
    match a with
    | ⟨0, _⟩ => show o0 + r.val = off 0 + r.val; omega
    | ⟨1, _⟩ => show o1 + l.val = off 1 + l.val; omega), hx]

theorem cast_ld {n m a b : ℕ} {e : EltTy} (x : Vec Ideal ⟨2, ![n, m]⟩ e) (f : ℕ → ℕ → Elt Ideal e)
    (hx : ∀ (r : Fin n) (l : Fin m), x (ix2 r l) = f r l) (off : Fin 2 → ℕ) (o0 o1 : ℕ) (h0 : off 0 = o0) (h1 : off 1 = o1)
    (inb) (h : (⟨2, ![a, b]⟩ : Shape).ShapeCasts ⟨2, ![a, b]⟩) (r : Fin a) (l : Fin b) :
    shapeCast (⟨2, ![a, b]⟩ : Shape) (View.ld x (Rect.unit (s := ⟨2, ![n, m]⟩) off (⟨2, ![a, b]⟩ : Shape).size inb)) h (ix2 r l)
      = f (o0 + r) (o1 + l) :=
  (congrFun (shapeCast_self (s := ⟨2, ![a, b]⟩) _ h) _).trans (ld_at x f hx off o0 o1 h0 h1 inb r l)

/-! ### Real cells -/

/-- A cell in column pair `p` and tile `t` (512 tokens, four blocks) whose blocks hold the data. -/
structure IsReal (A : Data) (p t : ℕ) (X : Blocks Ideal) : Prop where
  hp : (X.i 0).val = p
  ht : (X.i 1).val = t
  s : ∀ h : Fin 16, X.sinks (ix1 h) = ((A.s h : ℝ) : EReal)
  q : ∀ r c : Fin 512, X.q (ix2 r c) = ((A.q (512 * t + r) (512 * p + c) : ℝ) : EReal)
  g : ∀ r c : Fin 512, X.g (ix2 r c) = ((A.g (512 * t + r) (512 * p + c) : ℝ) : EReal)
  kc : ∀ (r : Fin 512) (c : Fin 128), X.kc (ix2 r c) = ((A.k (512 * t + r) (128 * p + c) : ℝ) : EReal)
  kp : ∀ r c : Fin 128, X.kp (ix2 r c) = ((A.k (128 * (4 * t - 1) + r) (128 * p + c) : ℝ) : EReal)
  vc : ∀ (r : Fin 512) (c : Fin 128), X.vc (ix2 r c) = ((A.v (512 * t + r) (128 * p + c) : ℝ) : EReal)
  vp : ∀ r c : Fin 128, X.vp (ix2 r c) = ((A.v (128 * (4 * t - 1) + r) (128 * p + c) : ℝ) : EReal)

/-- A block's window: for the first block, the halo and the cell's first block. -/
def winF (f : ℕ → ℕ → ℝ) (p t b c col : ℕ) : ℝ :=
  if b = 0 ∧ c < 128 then f (128 * (4 * t - 1) + c) (128 * p + col) else f (512 * t + (128 * b + c - 128)) (128 * p + col)

theorem winF_eq (f : ℕ → ℕ → ℝ) (p t b c col : ℕ) (h : 128 ≤ c ∨ 0 < 4 * t + b) :
    winF f p t b c col = f (128 * (4 * t + b) + c - 128) (128 * p + col) := by
  unfold winF
  split_ifs with hb <;> congr 1 <;> omega

theorem winAt_real (f : ℕ → ℕ → ℝ) (p t : ℕ) (x : Vec Ideal S512x128 .bf16) (xp : Vec Ideal S128x128 .bf16)
    (hx : ∀ (r : Fin 512) (c : Fin 128), x (ix2 r c) = ((f (512 * t + r) (128 * p + c) : ℝ) : EReal))
    (hxp : ∀ r c : Fin 128, xp (ix2 r c) = ((f (128 * (4 * t - 1) + r) (128 * p + c) : ℝ) : EReal))
    (b : ℕ) (hb : b < 4) (c : Fin 256) (l : Fin 128) : winAt x xp b hb (ix2 c l) = ((winF f p t b c l : ℝ) : EReal) := by
  match b, hb with
  | 0, hb =>
    refine win_real (winF f p t 0) (fun r l => ?_) (fun r l => ?_) c l
    · refine (cast_ld xp (fun r c => ((f (128 * (4 * t - 1) + r) (128 * p + c) : ℝ) : EReal)) hxp _ 0 0 rfl rfl _ _ r l).trans ?_
      unfold winF
      have := r.isLt
      rw [if_pos ⟨rfl, this⟩]
      congr 2 <;> omega
    · refine (cast_ld x (fun r c => ((f (512 * t + r) (128 * p + c) : ℝ) : EReal)) hx _ 0 0 rfl rfl _ _ r l).trans ?_
      unfold winF
      rw [if_neg (by omega)]
      congr 2 <;> omega
  | b + 1, hb =>
    refine (cast_ld x (fun r c => ((f (512 * t + r) (128 * p + c) : ℝ) : EReal)) hx _ (128 * b) 0 rfl rfl _ _ c l).trans ?_
    unfold winF
    rw [if_neg (by omega)]
    congr 2 <;> omega

theorem keyHead_real (gi : ℕ) (hg : gi < 2) {x : FVec Ideal S256x128 .bf16} (f : ℕ → ℕ → ℝ)
    (hx : ∀ (c : Fin 256) (l : Fin 128), x (ix2 c l) = ((f c l : ℝ) : EReal)) (c : Fin 256) (l : Fin 128) :
    keyHead gi x (ix2 c l) = ((f c (64 * gi + l % 64) : ℝ) : EReal) := by
  match gi, hg with
  | 0, _ => exact kw0_real f hx c l
  | 1, _ => exact kw1_real f hx c l

theorem foldHead_real (gi : ℕ) (hg : gi < 2) {x : FVec Ideal S256x128 .f32} (f : ℕ → ℕ → ℝ)
    (hx : ∀ (c : Fin 256) (l : Fin 128), both x (ix2 c l) = ((f c (l % 64) : ℝ) : EReal)) (c : Fin 256) (l : Fin 128) :
    foldHead gi x (ix2 c l) = ((if l.val / 64 = gi then f c (l % 64) else 0 : ℝ) : EReal) := by
  match gi, hg with
  | 0, _ =>
    refine (fold0_apply x c l).trans ?_
    rw [hx]
    split_ifs <;> rfl
  | 1, _ =>
    refine (fold1_apply x c l).trans ?_
    rw [hx]
    split_ifs <;> rfl

theorem rowsAt_real (f : ℕ → ℕ → ℝ) (p t : ℕ) (x : Vec Ideal S512x512 .bf16)
    (hx : ∀ r c : Fin 512, x (ix2 r c) = ((f (512 * t + r) (512 * p + c) : ℝ) : EReal)) (b gi : ℕ) (hb : b < 4) (hg : gi < 2)
    (i : Fin 512) (l : Fin 128) :
    rowsAt x b gi hb hg (ix2 i l)
      = ((rowF (fun r l => f (128 * (4 * t + b) + r) (512 * p + 256 * gi + l)) i l : ℝ) : EReal) := by
  refine rows_real (fun r l => f (128 * (4 * t + b) + r) (512 * p + 256 * gi + l)) (fun r l => ?_) (fun r l => ?_) i l
  · refine (cast_ld x (fun r c => ((f (512 * t + r) (512 * p + c) : ℝ) : EReal)) hx _ (128 * b) (256 * gi + 128 * 0) rfl rfl _ _ r l).trans ?_
    congr 2 <;> omega
  · refine (cast_ld x (fun r c => ((f (512 * t + r) (512 * p + c) : ℝ) : EReal)) hx _ (128 * b) (256 * gi + 128 * 1) rfl rfl _ _ r l).trans ?_
    congr 2 <;> omega

theorem off1_eq (p : Fin 2) (gi : Fin 2) (j : Fin 4) :
    (Scalar.indexCast (Scalar.addi (Scalar.muli 4#32 (Scalar.addi (Scalar.muli 2#32 (BitVec.ofNat 32 p.val)) (BitVec.ofNat 32 gi.val)))
      (BitVec.ofNat 32 j.val))).toNat = 8 * p.val + 4 * gi.val + j.val := by
  revert p gi j; decide +kernel

theorem sinkAt_real (s : ℕ → ℝ) (x : Vec Ideal S16 .f32) (hx : ∀ h : Fin 16, x (ix1 h) = ((s h : ℝ) : EReal)) (i : grid1.Coords)
    (p : ℕ) (hp : (i 0).val = p) (gi : Fin 2) (j : Fin 4) (h) :
    sinkAt x i (BitVec.ofNat 32 gi.val) (BitVec.ofNat 32 j.val) h = ((s (8 * p + 4 * gi + j) : ℝ) : EReal) := by
  have h2 : (i 0).val < 2 := (i 0).isLt
  have hj := j.isLt
  have hg := gi.isLt
  unfold sinkAt
  rw [View.ld_unit_apply_of (S := S16) x _ S1.size h _ (ix1 (⟨8 * p + 4 * gi + j, by omega⟩ : Fin 16)) (fun a => ?_), hx]
  match a with
  | ⟨0, _⟩ =>
    have := off1_eq ⟨(i 0).val, h2⟩ gi j
    show 8 * p + 4 * gi.val + j.val = k1_off1 i (BitVec.ofNat 32 gi.val) (BitVec.ofNat 32 j.val) 0 + 0
    rw [← hp]
    exact this.symm

namespace IsReal

variable {A : Data} {p t : ℕ} {X : Blocks Ideal} (H : IsReal A p t X)
include H

theorem group (b gi : ℕ) (hb : b < 4) (hg : gi < 2) :
    Group A p gi (4 * t + b) (X.Q b gi hb hg) (X.G b gi hb hg) (X.K b gi hb) (X.V b gi hb) (visAt X.i b) (X.snk ⟨gi, hg⟩)
      (winF A.k p t b) (winF A.v p t b) where
  q := rowsAt_real A.q p t X.q H.q b gi hb hg
  g := rowsAt_real A.g p t X.g H.g b gi hb hg
  k := keyHead_real gi hg _ (winAt_real A.k p t X.kc X.kp H.kc H.kp b hb)
  v := keyHead_real gi hg _ (winAt_real A.v p t X.vc X.vp H.vc H.vp b hb)
  vis := visAt_apply X.i b t H.ht
  snk := by
    intro i u
    exact sinkCol_real (fun j => A.s (8 * p + 4 * gi + j)) (sinkAt_real A.s X.sinks H.s X.i p H.hp ⟨gi, hg⟩ 0 _)
      (sinkAt_real A.s X.sinks H.s X.i p H.hp ⟨gi, hg⟩ 1 _) (sinkAt_real A.s X.sinks H.s X.i p H.hp ⟨gi, hg⟩ 2 _)
      (sinkAt_real A.s X.sinks H.s X.i p H.hp ⟨gi, hg⟩ 3 _) i u
  kf := fun c col h => winF_eq A.k p t b c col h
  vf := fun c col h => winF_eq A.v p t b c col h
  hgi := hg

/-! ### The products of one group -/

theorem slab_real (b gi s : ℕ) (hb : b < 4) (hg : gi < 2) (hs : s < 2) (r l : Fin 128) :
    slabAt s (X.dq b gi hb hg) (ix2 r l)
      = ((dq A (512 * t + (128 * b + r)) (512 * p + (256 * gi + 128 * s + l)) : ℝ) : EReal) := by
  match s, hs with
  | 0, _ => refine (slab0_real (H.group b gi hb hg) r l).trans ?_; congr 2 <;> omega
  | 1, _ => refine (slab1_real (H.group b gi hb hg) r l).trans ?_; congr 2 <;> omega

theorem dk_real (b gi : ℕ) (hb : b < 4) (hg : gi < 2) (c : Fin 256) (l : Fin 128) :
    X.dk b gi hb hg (ix2 c l) = ((if l.val / 64 = gi then dkw A (4 * t + b) (2 * p + gi) c (l % 64) else 0 : ℝ) : EReal) :=
  foldHead_real gi hg (fun c l => dkw A (4 * t + b) (2 * p + gi) c l) (Tile.dk_real (H.group b gi hb hg)) c l

theorem dv_real (b gi : ℕ) (hb : b < 4) (hg : gi < 2) (c : Fin 256) (l : Fin 128) :
    X.dv b gi hb hg (ix2 c l) = ((if l.val / 64 = gi then dvw A (4 * t + b) (2 * p + gi) c (l % 64) else 0 : ℝ) : EReal) :=
  foldHead_real gi hg (fun c l => dvw A (4 * t + b) (2 * p + gi) c l) (Tile.dv_real (H.group b gi hb hg)) c l

theorem sd_real (b gi : ℕ) (hb : b < 4) (hg : gi < 2) (i : Fin 512) (u : Fin 1) :
    X.sd b gi hb hg (ix2 i u)
      = ((pk A (4 * t + b) (8 * p + 4 * gi + i / 128) (i % 128) * dl A (4 * t + b) (8 * p + 4 * gi + i / 128) (i % 128) : ℝ) : EReal) :=
  Tile.sd_real (H.group b gi hb hg) i u

/-- What one key head adds to the sinks' gradient: the four blocks' sums, in the head's row. -/
theorem dsink_real (gi : ℕ) (hg : gi < 2) (r : Fin 8) (l : Fin 128) :
    X.dsink gi hg (ix2 r l) = ((if r.val < 4 then
      -∑ b ∈ range 4, ∑ q ∈ range 128, pk A (4 * t + b) (8 * p + 4 * gi + r) q * dl A (4 * t + b) (8 * p + 4 * gi + r) q
      else 0 : ℝ) : EReal) := by
  let f : ℕ → ℕ → ℕ → ℝ := fun b a q => pk A (4 * t + b) (8 * p + 4 * gi + a) q * dl A (4 * t + b) (8 * p + 4 * gi + a) q
  have h0 := sinkAdd_real (acc := broadcast S8x128 (Scalar.ofBits .f32 0x00000000#32)) (a := fun _ => 0) (f := f 0)
    (H.sd_real 0 gi (by decide) hg) (fun r l => by pointwise; rfl)
  have h1 := sinkAdd_real (f := f 1) (a := fun r => 0 + if r < 4 then -∑ q ∈ range 128, f 0 r q else 0) (H.sd_real 1 gi (by decide) hg) h0
  have h2 := sinkAdd_real (f := f 2) (a := fun r => (0 + if r < 4 then -∑ q ∈ range 128, f 0 r q else 0)
    + if r < 4 then -∑ q ∈ range 128, f 1 r q else 0) (H.sd_real 2 gi (by decide) hg) h1
  have h3 := sinkAdd_real (f := f 3) (a := fun r => ((0 + if r < 4 then -∑ q ∈ range 128, f 0 r q else 0)
    + if r < 4 then -∑ q ∈ range 128, f 1 r q else 0) + if r < 4 then -∑ q ∈ range 128, f 2 r q else 0)
    (H.sd_real 3 gi (by decide) hg) h2
  refine (h3 r l).trans ?_
  congr 1
  split_ifs
  · have e : ∀ φ : ℕ → ℝ, ∑ b ∈ range 4, φ b = φ 0 + φ 1 + φ 2 + φ 3 := fun φ => by simp [sum_range_succ]
    rw [e]
    ring
  · ring

end IsReal

end Cert.KernelIdeal.Cell

end
-- ==== Proof.CellOut.lean ====
/- What one grid cell of the attention's backward kernel leaves in its blocks on real inputs. -/
module

public import proofs.«01_k».proof.Proof.CellReal
public import Idealize.ShloMosaic.Lib.Ring
public import Idealize.ShloMosaic.Lib.Tactic

@[expose] public section

noncomputable section

namespace Cert.KernelIdeal.Cell

open Idealize.ShloMosaic Idealize.SL.Sem Cert.KernelIdeal Cert.KernelIdeal.Gen Cert.KernelIdeal.Tile Cert.Attn Finset

/-! ### Accumulating blocks of rows -/

theorem addUp_apply (a : FVec Ideal S128x128 .f32) (x : FVec Ideal S256x128 .f32) (r c : Fin 128) :
    addUp a x (ix2 r c) = a (ix2 r c) + x (ix2 (⟨r.val, by omega⟩ : Fin 256) c) := by
  unfold addUp
  pointwise

theorem addDown_apply (a : FVec Ideal S128x128 .f32) (x : FVec Ideal S256x128 .f32) (r c : Fin 128) :
    addDown a x (ix2 r c) = a (ix2 r c) + x (ix2 (⟨128 + r.val, by omega⟩ : Fin 256) c) := by
  unfold addDown
  pointwise

section Step

variable (v : View sig .tc .vmem S512x128 .f32) (b : ℕ) (hb : b < 4) {x : FVec Ideal S256x128 .f32}
  {L : List (View.Piece (Elt Ideal) S512x128 .f32)} {f w : ℕ → ℕ → ℝ}
  (hL : ∀ (r : Fin 512) (c : Fin 128), View.canon L (ix2 r c) = ((f r c : ℝ) : EReal))
  (hx : ∀ (r : Fin 256) (c : Fin 128), x (ix2 r c) = ((w r c : ℝ) : EReal))
include hL

/-- The block read back. -/
theorem back_real (h : S128x128.ShapeCasts S128x128) (r' c : Fin 128) :
    shapeCast S128x128 (v.readCov L (Rect.unit (s := S512x128) ![128 * b, 0] S128x128.size (inb_blk b hb)).toLoadRect) h (ix2 r' c)
      = ((f (128 * b + r') c : ℝ) : EReal) := by
  refine (congrFun (shapeCast_self (s := S128x128) _ h) _).trans ?_
  rw [View.readCov_eq_canon']
  have hr := r'.isLt
  refine Eq.trans (congrArg (View.canon L) (?_ : _ = ix2 (⟨128 * b + r', by omega⟩ : Fin 512) c)) (hL _ _)
  funext a
  apply Fin.ext
  match a with
  | ⟨0, _⟩ => show 128 * b + 1 * r'.val = 128 * b + r'.val; omega
  | ⟨1, _⟩ => show 0 + 1 * c.val = c.val; omega

/-- A block of rows stored over the rest. -/
theorem store_real {y : FVec Ideal S128x128 .f32} {u : ℕ → ℕ → ℝ}
    (hy : ∀ r' c : Fin 128, y (ix2 r' c) = ((u r' c : ℝ) : EReal)) (r : Fin 512) (c : Fin 128) :
    View.canon ((⟨Rect.unit (s := S512x128) ![128 * b, 0] S128x128.size (inb_blk b hb), y⟩ : View.Piece (Elt Ideal) S512x128 .f32) :: L) (ix2 r c)
      = ((if r.val / 128 = b then u (r % 128) c else f r c : ℝ) : EReal) := by
  have hr := r.isLt
  by_cases h : r.val / 128 = b
  · rw [if_pos h]
    have e : ix2 r c = (Rect.unit (s := S512x128) ![128 * b, 0] S128x128.size (inb_blk b hb)).emb (ix2 (⟨r % 128, by omega⟩ : Fin 128) c) := by
      funext a
      apply Fin.ext
      match a with
      | ⟨0, _⟩ => show r.val = 128 * b + 1 * (r.val % 128); omega
      | ⟨1, _⟩ => show c.val = 0 + 1 * c.val; omega
    rw [e, View.canon_cons_emb, hy]
  · rw [if_neg h, View.canon_cons_of_not_mem, hL]
    rw [Rect.mem_set_unit]
    intro hm
    have := hm 0
    have h1 : 128 * b ≤ r.val := this.1
    have h2 : r.val < 128 * b + 128 := this.2
    omega

include hx

theorem up_real (r : Fin 512) (c : Fin 128) :
    View.canon (up v b hb x L) (ix2 r c) = ((f r c + if r.val / 128 = b then w (r % 128) c else 0 : ℝ) : EReal) := by
  have hr := r.isLt
  refine (store_real b hb hL (u := fun r' c => f (128 * b + r') c + w r' c) (fun r' c => ?_) r c).trans ?_
  · refine (addUp_apply _ x r' c).trans ?_
    refine (congrArg₂ (· + ·) (back_real v b hb hL shapeCasts_S128x128_S128x128 r' c) (hx _ _)).trans ?_
    exact (EReal.coe_add _ _).symm
  · congr 1
    split_ifs with h
    · congr 2; omega
    · rw [add_zero]

theorem down_real (r : Fin 512) (c : Fin 128) :
    View.canon (down v b hb x L) (ix2 r c) = ((f r c + if r.val / 128 = b then w (128 + r % 128) c else 0 : ℝ) : EReal) := by
  have hr := r.isLt
  refine (store_real b hb hL (u := fun r' c => f (128 * b + r') c + w (128 + r') c) (fun r' c => ?_) r c).trans ?_
  · refine (addDown_apply _ x r' c).trans ?_
    refine (congrArg₂ (· + ·) (back_real v b hb hL shapeCasts_S128x128_S128x128 r' c) (hx _ _)).trans ?_
    exact (EReal.coe_add _ _).symm
  · congr 1
    split_ifs with h
    · congr 2; omega
    · rw [add_zero]

end Step

/-- The seven stores of one key head. -/
theorem headL_real (v : View sig .tc .vmem S512x128 .f32) {w0 w1 w2 w3 : FVec Ideal S256x128 .f32}
    {L : List (View.Piece (Elt Ideal) S512x128 .f32)} {f : ℕ → ℕ → ℝ} {W : ℕ → ℕ → ℕ → ℝ}
    (hL : ∀ (r : Fin 512) (c : Fin 128), View.canon L (ix2 r c) = ((f r c : ℝ) : EReal))
    (h0 : ∀ (r : Fin 256) (c : Fin 128), w0 (ix2 r c) = ((W 0 r c : ℝ) : EReal))
    (h1 : ∀ (r : Fin 256) (c : Fin 128), w1 (ix2 r c) = ((W 1 r c : ℝ) : EReal))
    (h2 : ∀ (r : Fin 256) (c : Fin 128), w2 (ix2 r c) = ((W 2 r c : ℝ) : EReal))
    (h3 : ∀ (r : Fin 256) (c : Fin 128), w3 (ix2 r c) = ((W 3 r c : ℝ) : EReal)) (r : Fin 512) (c : Fin 128) :
    View.canon (headL v w0 w1 w2 w3 L) (ix2 r c)
      = ((f r c + W (r / 128) (128 + r % 128) c + if r.val / 128 < 3 then W (r / 128 + 1) (r % 128) c else 0 : ℝ) : EReal) := by
  have hr := r.isLt
  have s1 := down_real v 0 (by decide) (f := fun r c => f r c) hL h0
  have s2 := up_real v 0 (by decide) (f := fun r c => (f r c + if r / 128 = 0 then W 0 (128 + r % 128) c else 0)) s1 h1
  have s3 := down_real v 1 (by decide) (f := fun r c => ((f r c + if r / 128 = 0 then W 0 (128 + r % 128) c else 0) + if r / 128 = 0 then W 1 (r % 128) c else 0)) s2 h1
  have s4 := up_real v 1 (by decide) (f := fun r c => (((f r c + if r / 128 = 0 then W 0 (128 + r % 128) c else 0) + if r / 128 = 0 then W 1 (r % 128) c else 0) + if r / 128 = 1 then W 1 (128 + r % 128) c else 0)) s3 h2
  have s5 := down_real v 2 (by decide) (f := fun r c => ((((f r c + if r / 128 = 0 then W 0 (128 + r % 128) c else 0) + if r / 128 = 0 then W 1 (r % 128) c else 0) + if r / 128 = 1 then W 1 (128 + r % 128) c else 0) + if r / 128 = 1 then W 2 (r % 128) c else 0)) s4 h2
  have s6 := up_real v 2 (by decide) (f := fun r c => (((((f r c + if r / 128 = 0 then W 0 (128 + r % 128) c else 0) + if r / 128 = 0 then W 1 (r % 128) c else 0) + if r / 128 = 1 then W 1 (128 + r % 128) c else 0) + if r / 128 = 1 then W 2 (r % 128) c else 0) + if r / 128 = 2 then W 2 (128 + r % 128) c else 0)) s5 h3
  have s7 := down_real v 3 (by decide) (f := fun r c => ((((((f r c + if r / 128 = 0 then W 0 (128 + r % 128) c else 0) + if r / 128 = 0 then W 1 (r % 128) c else 0) + if r / 128 = 1 then W 1 (128 + r % 128) c else 0) + if r / 128 = 1 then W 2 (r % 128) c else 0) + if r / 128 = 2 then W 2 (128 + r % 128) c else 0) + if r / 128 = 2 then W 3 (r % 128) c else 0)) s6 h3
  refine (s7 r c).trans ?_
  congr 1
  obtain h | h | h | h : r.val / 128 = 0 ∨ r.val / 128 = 1 ∨ r.val / 128 = 2 ∨ r.val / 128 = 3 := by omega
  · simp [h]
  · simp [h]
  · simp [h]
  · simp [h]

theorem zeroL_real (r : Fin 512) (c : Fin 128) : View.canon (zeroL (F := Ideal)) (ix2 r c) = ((0 : ℝ) : EReal) := by
  unfold zeroL
  refine (congrFun (View.canon_unit_zero (S := S512x128) (funext fun a => by fin_cases a <;> rfl) _ _) _).trans ?_
  unfold k1_pay3
  pointwise
  rfl

/-- The stores of the keys' (values') gradient inside the cell. -/
theorem kvL_real (v : View sig .tc .vmem S512x128 .f32) {w : ∀ b gi : ℕ, b < 4 → gi < 2 → FVec Ideal S256x128 .f32}
    {W : ℕ → ℕ → ℕ → ℕ → ℝ} (hw : ∀ (b gi : ℕ) (hb : b < 4) (hg : gi < 2) (r : Fin 256) (c : Fin 128),
      w b gi hb hg (ix2 r c) = ((if c.val / 64 = gi then W b gi r (c % 64) else 0 : ℝ) : EReal)) (r : Fin 512) (c : Fin 128) :
    View.canon (kvL v w) (ix2 r c)
      = ((W (r / 128) (c / 64) (128 + r % 128) (c % 64)
        + if r.val / 128 < 3 then W (r / 128 + 1) (c / 64) (r % 128) (c % 64) else 0 : ℝ) : EReal) := by
  have hc := c.isLt
  unfold kvL
  have a := headL_real v (f := fun _ _ => 0) (W := fun b r c => if c / 64 = 0 then W b 0 r (c % 64) else 0) zeroL_real
    (hw 0 0 (by decide) (by decide)) (hw 1 0 (by decide) (by decide)) (hw 2 0 (by decide) (by decide)) (hw 3 0 (by decide) (by decide))
  have b := headL_real v (f := fun r c => 0 + (if c / 64 = 0 then W (r / 128) 0 (128 + r % 128) (c % 64) else 0)
      + if r / 128 < 3 then (if c / 64 = 0 then W (r / 128 + 1) 0 (r % 128) (c % 64) else 0) else 0)
    (W := fun b r c => if c / 64 = 1 then W b 1 r (c % 64) else 0) a
    (hw 0 1 (by decide) (by decide)) (hw 1 1 (by decide) (by decide)) (hw 2 1 (by decide) (by decide)) (hw 3 1 (by decide) (by decide))
  refine (b r c).trans ?_
  congr 1
  obtain h | h : c.val / 64 = 0 ∨ c.val / 64 = 1 := by omega
  · simp [h]
  · simp [h]

/-! ### The block before the cell -/

theorem haloUp_real (v : View sig .tc .vmem S128x128 .f32) {x : FVec Ideal S256x128 .f32}
    {L : List (View.Piece (Elt Ideal) S128x128 .f32)} {f w : ℕ → ℕ → ℝ}
    (hL : ∀ r c : Fin 128, View.canon L (ix2 r c) = ((f r c : ℝ) : EReal))
    (hx : ∀ (r : Fin 256) (c : Fin 128), x (ix2 r c) = ((w r c : ℝ) : EReal)) (r c : Fin 128) :
    View.canon (haloUp v x L) (ix2 r c) = ((f r c + w r c : ℝ) : EReal) := by
  have z : (![0, 0] : Fin 2 → ℕ) = fun _ => 0 := funext fun a => by fin_cases a <;> rfl
  unfold haloUp
  refine (congrFun (View.canon_cons_unit_zero (S := S128x128) z _ _ _) _).trans ?_
  have h : shapeCast S128x128 (v.readCov L (Rect.unit (s := S128x128) ![0, 0] S128x128.size inb_S128x128_S128x128_0_0).toLoadRect)
      shapeCasts_S128x128_S128x128 (ix2 r c) = ((f r c : ℝ) : EReal) := by
    refine (congrFun (shapeCast_self (s := S128x128) _ _) _).trans ?_
    rw [View.readCov_eq_canon']
    refine Eq.trans (congrArg (View.canon L) (?_ : _ = ix2 r c)) (hL _ _)
    funext a
    apply Fin.ext
    match a with
    | ⟨0, _⟩ => show 0 + 1 * r.val = r.val; omega
    | ⟨1, _⟩ => show 0 + 1 * c.val = c.val; omega
  refine (addUp_apply _ x r c).trans ?_
  refine (congrArg₂ (· + ·) h (hx _ _)).trans ?_
  exact (EReal.coe_add _ _).symm

theorem haloL_real (v : View sig .tc .vmem S128x128 .f32) {w : ∀ b gi : ℕ, b < 4 → gi < 2 → FVec Ideal S256x128 .f32}
    {W : ℕ → ℕ → ℕ → ℕ → ℝ} (hw : ∀ (b gi : ℕ) (hb : b < 4) (hg : gi < 2) (r : Fin 256) (c : Fin 128),
      w b gi hb hg (ix2 r c) = ((if c.val / 64 = gi then W b gi r (c % 64) else 0 : ℝ) : EReal)) (r c : Fin 128) :
    View.canon (haloL v w) (ix2 r c) = ((W 0 (c / 64) r (c % 64) : ℝ) : EReal) := by
  have z : (![0, 0] : Fin 2 → ℕ) = fun _ => 0 := funext fun a => by fin_cases a <;> rfl
  have hc := c.isLt
  unfold haloL
  have a := haloUp_real v (f := fun _ _ => 0) (w := fun r c => if c / 64 = 0 then W 0 0 r (c % 64) else 0) (fun r c => by
      refine (congrFun (View.canon_unit_zero (Val := Elt Ideal) (e := .f32) (S := S128x128) z inb_S128x128_S128x128_0_0 (k1_pay5 (F := Ideal))) _).trans ?_
      unfold k1_pay5
      pointwise
      rfl) (hw 0 0 (by decide) (by decide))
  have b := haloUp_real v (f := fun r c => 0 + if c / 64 = 0 then W 0 0 r (c % 64) else 0)
    (w := fun r c => if c / 64 = 1 then W 0 1 r (c % 64) else 0) a (hw 0 1 (by decide) (by decide))
  refine (b r c).trans ?_
  congr 1
  obtain h | h : c.val / 64 = 0 ∨ c.val / 64 = 1 := by omega
  · simp [h]
  · simp [h]

/-! ### The sinks' planes -/

theorem sinkPlane_apply (a : Vec Ideal S1x8x128 .f32) (d : FVec Ideal S8x128 .f32) (u : Fin 1) (r : Fin 8) (l : Fin 128) :
    sinkPlane a d (ix3 u r l) = a (ix3 u r l) + d (ix2 r l) := by
  unfold sinkPlane
  obtain rfl : u = 0 := Subsingleton.elim _ _
  pointwise

section Plane

variable (g : ℕ) (inb : ∀ a, (![g, 0, 0] : Fin 3 → ℕ) a + S1x8x128.size a ≤ S2x8x128.size a)

theorem plane_here (y : Vec Ideal S1x8x128 .f32) (L : List (View.Piece (Elt Ideal) S2x8x128 .f32)) (i : Fin 2) (hi : i.val = g)
    (r : Fin 8) (l : Fin 128) :
    View.canon ((⟨Rect.unit (s := S2x8x128) ![g, 0, 0] S1x8x128.size inb, y⟩ : View.Piece (Elt Ideal) S2x8x128 .f32) :: L) (ix3 i r l)
      = y (ix3 0 r l) := by
  have e : ix3 i r l = (Rect.unit (s := S2x8x128) ![g, 0, 0] S1x8x128.size inb).emb (ix3 (0 : Fin 1) r l) := by
    funext a
    apply Fin.ext
    match a with
    | ⟨0, _⟩ => show i.val = g + 1 * 0; omega
    | ⟨1, _⟩ => show r.val = 0 + 1 * r.val; omega
    | ⟨2, _⟩ => show l.val = 0 + 1 * l.val; omega
  rw [e, View.canon_cons_emb]

theorem plane_other (y : Vec Ideal S1x8x128 .f32) (L : List (View.Piece (Elt Ideal) S2x8x128 .f32)) (i : Fin 2) (hi : i.val ≠ g)
    (r : Fin 8) (l : Fin 128) :
    View.canon ((⟨Rect.unit (s := S2x8x128) ![g, 0, 0] S1x8x128.size inb, y⟩ : View.Piece (Elt Ideal) S2x8x128 .f32) :: L) (ix3 i r l)
      = View.canon L (ix3 i r l) := by
  rw [View.canon_cons_of_not_mem]
  rw [Rect.mem_set_unit]
  intro hm
  have h1 : g ≤ i.val := (hm 0).1
  have h2 : i.val < g + 1 := (hm 0).2
  omega

theorem plane_back (v : View sig .tc .vmem S2x8x128 .f32) (L : List (View.Piece (Elt Ideal) S2x8x128 .f32)) (i : Fin 2) (hi : i.val = g)
    (r : Fin 8) (l : Fin 128) :
    (v.readCov L (Rect.unit (s := S2x8x128) ![g, 0, 0] S1x8x128.size inb).toLoadRect : Vec Ideal S1x8x128 .f32) (ix3 0 r l)
      = View.canon L (ix3 i r l) := by
  rw [View.readCov_eq_canon']
  refine congrArg (View.canon L) ?_
  funext a
  apply Fin.ext
  match a with
  | ⟨0, _⟩ => show g + 1 * 0 = i.val; omega
  | ⟨1, _⟩ => show 0 + 1 * r.val = r.val; omega
  | ⟨2, _⟩ => show 0 + 1 * l.val = l.val; omega

theorem plane_ld (x : Vec Ideal S2x8x128 .f32) (i : Fin 2) (hi : i.val = g) (r : Fin 8) (l : Fin 128) :
    (View.ld x (Rect.unit (s := S2x8x128) ![g, 0, 0] S1x8x128.size inb) : Vec Ideal S1x8x128 .f32) (ix3 0 r l) = x (ix3 i r l) :=
  View.ld_unit_apply_of x _ S1x8x128.size inb (ix3 (0 : Fin 1) r l) (ix3 i r l) fun a => by
    match a with
    | ⟨0, _⟩ => show i.val = g + 0; omega
    | ⟨1, _⟩ => show r.val = 0 + r.val; omega
    | ⟨2, _⟩ => show l.val = 0 + l.val; omega

end Plane

theorem dsA_real (v : View sig .tc .vmem S2x8x128 .f32) {d0 d1 : FVec Ideal S8x128 .f32} {D : ℕ → ℕ → ℝ}
    (h0 : ∀ (r : Fin 8) (l : Fin 128), d0 (ix2 r l) = ((D 0 r : ℝ) : EReal))
    (h1 : ∀ (r : Fin 8) (l : Fin 128), d1 (ix2 r l) = ((D 1 r : ℝ) : EReal)) (g : Fin 2) (r : Fin 8) (l : Fin 128) :
    View.canon (dsA v d0 d1) (ix3 g r l) = ((D g r : ℝ) : EReal) := by
  have hz : ∀ g : Fin 2, View.canon ([⟨Rect.unit (s := S2x8x128) ![0, 0, 0] S2x8x128.size inb_S2x8x128_S2x8x128_0_0_0, k1_pay2 (F := Ideal)⟩] :
      List (View.Piece (Elt Ideal) S2x8x128 .f32)) (ix3 g r l) = ((0 : ℝ) : EReal) := by
    intro g
    refine (congrFun (View.canon_unit_zero (S := S2x8x128) (funext fun a => by fin_cases a <;> rfl) _ _) _).trans ?_
    unfold k1_pay2
    pointwise
    rfl
  unfold dsA
  dsimp only
  by_cases hg : g.val = 1
  · refine (plane_here 1 _ _ _ g hg r l).trans ?_
    rw [sinkPlane_apply, plane_back 1 _ v _ g hg, plane_other 0 _ _ _ g (by omega), hz, h1, hg, ← EReal.coe_add, zero_add]
  · have hg0 : g.val = 0 := by have := g.isLt; omega
    refine (plane_other 1 _ _ _ g hg r l).trans ?_
    refine (plane_here 0 _ _ _ g hg0 r l).trans ?_
    rw [sinkPlane_apply, plane_back 0 _ v _ g hg0, hz, h0, hg0, ← EReal.coe_add, zero_add]

theorem dsB_real {x : Vec Ideal S2x8x128 .f32} {d0 d1 : FVec Ideal S8x128 .f32} {D E : ℕ → ℕ → ℝ}
    (hx : ∀ (g : Fin 2) (r : Fin 8) (l : Fin 128), x (ix3 g r l) = ((E g r : ℝ) : EReal))
    (h0 : ∀ (r : Fin 8) (l : Fin 128), d0 (ix2 r l) = ((D 0 r : ℝ) : EReal))
    (h1 : ∀ (r : Fin 8) (l : Fin 128), d1 (ix2 r l) = ((D 1 r : ℝ) : EReal)) (g : Fin 2) (r : Fin 8) (l : Fin 128) :
    View.canon (dsB x d0 d1) (ix3 g r l) = ((E g r + D g r : ℝ) : EReal) := by
  unfold dsB
  by_cases hg : g.val = 1
  · refine (plane_here 1 _ _ _ g hg r l).trans ?_
    rw [sinkPlane_apply, plane_ld 1 _ x g hg, hx, h1, hg, ← EReal.coe_add]
  · have hg0 : g.val = 0 := by have := g.isLt; omega
    refine (plane_other 1 _ _ _ g hg r l).trans ?_
    refine (plane_here 0 _ _ _ g hg0 r l).trans ?_
    rw [sinkPlane_apply, plane_ld 0 _ x g hg0, hx, h0, hg0, ← EReal.coe_add]

/-! ### The cell's outputs -/

namespace IsReal

variable {A : Data} {p t : ℕ} {X : Blocks Ideal} (H : IsReal A p t X)
include H

theorem dqP_real (b gi s : ℕ) (hb : b < 4) (hg : gi < 2) (hs : s < 2) (x : (X.dqP b gi s hb hg hs).1.shape.Idx) :
    (X.dqP b gi s hb hg hs).2 x = (fun y : S512x512.Idx => ((dq A (512 * t + (y 0).val) (512 * p + (y 1).val) : ℝ) : EReal))
      ((X.dqP b gi s hb hg hs).1.emb x) := by
  obtain ⟨r, l, rfl⟩ : ∃ r l : Fin 128, x = ix2 r l := ⟨x 0, x 1, eq_ix2 x⟩
  refine (H.slab_real b gi s hb hg hs r l).trans ?_
  show _ = ((dq A (512 * t + (128 * b + 1 * r.val)) (512 * p + (256 * gi + 128 * s + 1 * l.val)) : ℝ) : EReal)
  congr 2 <;> omega

theorem dq_out (r c : Fin 512) : View.canon X.dqL (ix2 r c) = ((dq A (512 * t + r) (512 * p + c) : ℝ) : EReal) := by
  refine View.canon_apply_of_pieces (fun y : S512x512.Idx => ((dq A (512 * t + (y 0).val) (512 * p + (y 1).val) : ℝ) : EReal))
    X.dqL ?_ (ix2 r c) (View.cover_of_tiledL X.dqL S128x128.size (by sl_kernel_rfl) _)
  unfold Blocks.dqL
  simp only [List.forall_mem_cons]
  refine ⟨H.dqP_real _ _ _ _ _ _, H.dqP_real _ _ _ _ _ _, H.dqP_real _ _ _ _ _ _, H.dqP_real _ _ _ _ _ _, H.dqP_real _ _ _ _ _ _, H.dqP_real _ _ _ _ _ _, H.dqP_real _ _ _ _ _ _, H.dqP_real _ _ _ _ _ _,
    H.dqP_real _ _ _ _ _ _, H.dqP_real _ _ _ _ _ _, H.dqP_real _ _ _ _ _ _, H.dqP_real _ _ _ _ _ _, H.dqP_real _ _ _ _ _ _, H.dqP_real _ _ _ _ _ _, H.dqP_real _ _ _ _ _ _, H.dqP_real _ _ _ _ _ _,
    fun _ h => absurd h (List.not_mem_nil)⟩

theorem dk_out (v : View sig .tc .vmem S512x128 .f32) (r : Fin 512) (c : Fin 128) :
    View.canon (kvL v X.dk) (ix2 r c) = ((dkw A (4 * t + r / 128) (2 * p + c / 64) (128 + r % 128) (c % 64)
      + if r.val / 128 < 3 then dkw A (4 * t + (r / 128 + 1)) (2 * p + c / 64) (r % 128) (c % 64) else 0 : ℝ) : EReal) :=
  kvL_real v (W := fun b gi r c => dkw A (4 * t + b) (2 * p + gi) r c) H.dk_real r c

theorem dv_out (v : View sig .tc .vmem S512x128 .f32) (r : Fin 512) (c : Fin 128) :
    View.canon (kvL v X.dv) (ix2 r c) = ((dvw A (4 * t + r / 128) (2 * p + c / 64) (128 + r % 128) (c % 64)
      + if r.val / 128 < 3 then dvw A (4 * t + (r / 128 + 1)) (2 * p + c / 64) (r % 128) (c % 64) else 0 : ℝ) : EReal) :=
  kvL_real v (W := fun b gi r c => dvw A (4 * t + b) (2 * p + gi) r c) H.dv_real r c

theorem dkp_out (v : View sig .tc .vmem S128x128 .f32) (r c : Fin 128) :
    View.canon (haloL v X.dk) (ix2 r c) = ((dkw A (4 * t) (2 * p + c / 64) r (c % 64) : ℝ) : EReal) :=
  haloL_real v (W := fun b gi r c => dkw A (4 * t + b) (2 * p + gi) r c) H.dk_real r c

theorem dvp_out (v : View sig .tc .vmem S128x128 .f32) (r c : Fin 128) :
    View.canon (haloL v X.dv) (ix2 r c) = ((dvw A (4 * t) (2 * p + c / 64) r (c % 64) : ℝ) : EReal) :=
  haloL_real v (W := fun b gi r c => dvw A (4 * t + b) (2 * p + gi) r c) H.dv_real r c

end IsReal

/-- One tile's part of the gradient of the sink in row `r` of plane `g`. -/
def dsF (A : Data) (p t g r : ℕ) : ℝ :=
  if r < 4 then
    -∑ b ∈ range 4, ∑ q ∈ range 128, pk A (4 * t + b) (8 * p + 4 * g + r) q * dl A (4 * t + b) (8 * p + 4 * g + r) q
  else 0

namespace IsReal

variable {A : Data} {p t : ℕ} {X : Blocks Ideal} (H : IsReal A p t X)
include H

theorem dsA_out (v : View sig .tc .vmem S2x8x128 .f32) (g : Fin 2) (r : Fin 8) (l : Fin 128) :
    View.canon (dsA v (X.dsink 0 (by decide)) (X.dsink 1 (by decide))) (ix3 g r l) = ((dsF A p t g r : ℝ) : EReal) :=
  dsA_real v (D := dsF A p t) (H.dsink_real 0 (by decide)) (H.dsink_real 1 (by decide)) g r l

theorem dsB_out {x : Vec Ideal S2x8x128 .f32} {E : ℕ → ℕ → ℝ}
    (hx : ∀ (g : Fin 2) (r : Fin 8) (l : Fin 128), x (ix3 g r l) = ((E g r : ℝ) : EReal)) (g : Fin 2) (r : Fin 8) (l : Fin 128) :
    View.canon (dsB x (X.dsink 0 (by decide)) (X.dsink 1 (by decide))) (ix3 g r l) = ((E g r + dsF A p t g r : ℝ) : EReal) :=
  dsB_real (D := dsF A p t) hx (H.dsink_real 0 (by decide)) (H.dsink_real 1 (by decide)) g r l

end IsReal

end Cert.KernelIdeal.Cell

end
-- ==== Proof.CellRunA.lean ====
/- What the first cell of a row stores, output by output, is the cell's list of stores. -/
module

public import proofs.«01_k».proof.Proof.Cell
public import proofs.«01_k».proof.Proof.Gen.KernelIdeal.Frame
public import Idealize.ShloMosaic.Lib.Pipeline.ValueKit

@[expose] public section

noncomputable section

namespace Cert.KernelIdeal.Cell

open Idealize.ShloMosaic Idealize.ShloMosaic.TcCoe Idealize.SL.Sem Cert.KernelIdeal Cert.KernelIdeal.Gen Cert.KernelIdeal.Tile

variable {F : FTy → Type} [FloatOps F]

variable (c : Dev nD) (i : grid1.Coords) (arg2 : Memref sig .tc .smem S16 .f32) (harg2 : arg2.IsWhole)
  (arg3 : Memref sig .tc .vmem S512x512 .bf16) (harg3 : arg3.IsWhole) (arg4 : Memref sig .tc .vmem S512x128 .bf16)
  (harg4 : arg4.IsWhole) (arg5 : Memref sig .tc .vmem S128x128 .bf16) (harg5 : arg5.IsWhole)
  (arg6 : Memref sig .tc .vmem S512x128 .bf16) (harg6 : arg6.IsWhole) (arg7 : Memref sig .tc .vmem S128x128 .bf16)
  (harg7 : arg7.IsWhole) (arg8 : Memref sig .tc .vmem S512x512 .bf16) (harg8 : arg8.IsWhole)
  (arg9 : Memref sig .tc .vmem S512x512 .f32) (harg9 : arg9.IsWhole) (arg10 : Memref sig .tc .vmem S512x128 .f32)
  (harg10 : arg10.IsWhole) (arg11 : Memref sig .tc .vmem S128x128 .f32) (harg11 : arg11.IsWhole)
  (arg12 : Memref sig .tc .vmem S512x128 .f32) (harg12 : arg12.IsWhole)
  (arg13 : Memref sig .tc .vmem S128x128 .f32) (harg13 : arg13.IsWhole)
  (arg14 : Memref sig .tc .vmem S2x8x128 .f32) (harg14 : arg14.IsWhole) (hc0 : cond1_0 i) (x0 : Vec F S16 .f32)
  (x1 : Vec F S512x512 .bf16) (x2 : Vec F S512x128 .bf16) (x3 : Vec F S128x128 .bf16) (x4 : Vec F S512x128 .bf16)
  (x5 : Vec F S128x128 .bf16) (x6 : Vec F S512x512 .bf16)

set_option maxHeartbeats 2000000 in
/-- Every output of the cell is the list of its stores: the six are unfolded in the same way. -/
theorem storedA :
    (out1_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (Blocks.mk i x0 x1 x2 x3 x4 x5 x6).dqL)
    ∧ (out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (kvL arg10.view (Blocks.mk i x0 x1 x2 x3 x4 x5 x6).dk))
    ∧ (out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (haloL arg11.view (Blocks.mk i x0 x1 x2 x3 x4 x5 x6).dk))
    ∧ (out1_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (kvL arg12.view (Blocks.mk i x0 x1 x2 x3 x4 x5 x6).dv))
    ∧ (out1_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (haloL arg13.view (Blocks.mk i x0 x1 x2 x3 x4 x5 x6).dv))
    ∧ (out1_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (dsA arg14.view ((Blocks.mk i x0 x1 x2 x3 x4 x5 x6).dsink 0 (by decide)) ((Blocks.mk i x0 x1 x2 x3 x4 x5 x6).dsink 1 (by decide)))) := by
  refine ⟨?o7, ?o8, ?o9, ?o10, ?o11, ?o12⟩
  case' o7 =>
    unfold out1_A_7
    rw [View.read_writes_eq_canon _ _ _ (cover1_A_7 _ _ _ _ _ _ _ _ _ _ _ _ _ _ _ _ _ _ _ _ _ _ _ _ _ _ _ _ _ x0 x1 x2 x3 x4 x5 x6)]
  case' o8 =>
    unfold out1_A_8
    rw [View.read_writes_eq_canon _ _ _ (cover1_A_8 _ _ _ _ _ _ _ _ _ _ _ _ _ _ _ _ _ _ _ _ _ _ _ _ _ _ _ _ _ x0 x1 x2 x3 x4 x5 x6)]
  case' o9 =>
    unfold out1_A_9
    rw [View.read_writes_eq_canon _ _ _ (cover1_A_9 _ _ _ _ _ _ _ _ _ _ _ _ _ _ _ _ _ _ _ _ _ _ _ _ _ _ _ _ _ x0 x1 x2 x3 x4 x5 x6)]
  case' o10 =>
    unfold out1_A_10
    rw [View.read_writes_eq_canon _ _ _ (cover1_A_10 _ _ _ _ _ _ _ _ _ _ _ _ _ _ _ _ _ _ _ _ _ _ _ _ _ _ _ _ _ x0 x1 x2 x3 x4 x5 x6)]
  case' o11 =>
    unfold out1_A_11
    rw [View.read_writes_eq_canon _ _ _ (cover1_A_11 _ _ _ _ _ _ _ _ _ _ _ _ _ _ _ _ _ _ _ _ _ _ _ _ _ _ _ _ _ x0 x1 x2 x3 x4 x5 x6)]
  case' o12 =>
    unfold out1_A_12
    rw [View.read_writes_eq_canon _ _ _ (cover1_A_12 _ _ _ _ _ _ _ _ _ _ _ _ _ _ _ _ _ _ _ _ _ _ _ _ _ _ _ _ _ x0 x1 x2 x3 x4 x5 x6)]
  all_goals
    unfold kernelRun1_A
    dsimp only
    sl_unfold_words
    simp only [View.readAt_eq_ld, harg2.read_unread, harg3.read_unread, harg4.read_unread, harg5.read_unread, harg6.read_unread, harg7.read_unread, harg8.read_unread]
    refine congrArg View.canon ?_
    dsimp only [
      rowsAt, winAt, keyHead, foldHead, slabAt, visAt, sinkAt, Blocks.snk, Blocks.Q, Blocks.G, Blocks.K, Blocks.V,
      Blocks.Sc, Blocks.P, Blocks.D, Blocks.dq, Blocks.dk, Blocks.dv, Blocks.sd, Blocks.dqP, Blocks.dqL, up, down,
      zeroL, headL, kvL, haloUp, haloL, Blocks.dsink, sinkPlane, dsA, dsB, Tile.low128, Tile.low256, Tile.rid,
      Tile.rows, Tile.win, Tile.kw0, Tile.kw1, Tile.sinkCol, Tile.dotw, Tile.score, Tile.mx, Tile.pe, Tile.es,
      Tile.rsum, Tile.inv, Tile.pn, Tile.ps, Tile.dsb, Tile.dqw, Tile.dww, Tile.slab0, Tile.slab1, Tile.both,
      Tile.fold0, Tile.fold1, Tile.addUp, Tile.addDown, Tile.sinkPart, Tile.sinkStep, Tile.sinkAdd, k1_pay1, k1_pay2,
      k1_pay3, k1_pay4, k1_pay5, k1_pay6, k1_pay7, k1_pay8, k1_pay9, k1_pay12, k1_pay13, k1_pay14, k1_pay15, k1_pay16,
      k1_pay17, k1_pay18, k1_pay19, k1_pay20, k1_pay21, k1_pay22, k1_pay23, k1_pay24, k1_pay25, k1_pay26, k1_pay27,
      k1_pay28, k1_pay29, k1_pay30, k1_pay31, k1_pay32, k1_pay33, k1_pay34, k1_pay35, k1_pay36, k1_pay37, k1_pay38,
      k1_pay39, k1_pay40, k1_pay41, k1_pay42, k1_pay43, k1_pay44, k1_pay45, k1_pay46, k1_pay47, k1_pay48, k1_pay49,
      k1_pay50, k1_pay51, k1_pay52, k1_pay53, k1_pay54, k1_pay55, k1_pay56, k1_pay57, k1_pay58, k1_pay59, k1_pay60,
      k1_pay61, k1_pay62, k1_pay63, k1_pay64, k1_pay65, k1_pay66, k1_pay67, k1_pay68, k1_pay69, k1_pay70, k1_pay71,
      k1_pay72, k1_pay73, k1_pay74, k1_pay75, k1_pay76, k1_pay77, k1_pay78, k1_pay79, k1_pay80, k1_pay81, k1_pay82,
      k1_pay83, k1_pay84, k1_pay85, k1_pay86, k1_pay87, k1_pay88, k1_pay89, k1_pay90, k1_pay91, k1_pay92, k1_pay93,
      k1_pay94, k1_pay95, k1_pay96, k1_pay97, k1_pay98, k1_pay99, k1_pay100, k1_pay101, k1_pay102, k1_pay103, k1_pay104,
      k1_pay105, k1_pay106, k1_pay107, k1_pay108, k1_pay109, k1_pay110, k1_pay111, k1_pay112, k1_pay113, k1_pay114,
      k1_pay115, k1_pay116, k1_pay117, k1_pay118, k1_pay119, k1_pay120, k1_pay121, k1_pay122, k1_pay123, k1_pay124,
      k1_pay125, k1_pay126, k1_pay127, k1_pay128, k1_pay129, k1_pay130, k1_pay131, k1_pay132, k1_pay133, k1_pay134,
      k1_pay135, k1_pay136, k1_pay137, k1_pay138, k1_pay139, k1_pay140, k1_pay141, k1_pay142, k1_pay143, k1_pay144,
      k1_pay145, k1_pay146, k1_pay147, k1_pay148, k1_pay149, k1_pay150, k1_pay151, k1_pay152, k1_pay153, k1_pay154,
      k1_pay155, k1_pay156, k1_pay157, k1_pay158, k1_pay159, k1_pay160, k1_pay161, k1_pay162, k1_pay163, k1_pay164,
      k1_pay165, k1_pay166, k1_pay167, k1_pay168, k1_pay169, k1_pay170, k1_pay171, k1_pay172, k1_pay173, k1_pay174,
      k1_pay175, k1_pay176, k1_pay177, k1_pay178, k1_pay179, k1_pay180, k1_pay181, k1_pay182, k1_pay183, k1_pay184,
      k1_pay185, k1_pay186, k1_pay187, k1_pay188, k1_pay189, k1_pay190, k1_pay191, k1_pay192, k1_pay193, k1_pay194,
      k1_pay195, k1_pay196, k1_pay197, k1_pay198, k1_pay199, k1_pay200, k1_pay201, k1_pay202, k1_pay203, k1_pay204,
      k1_pay205, k1_pay206, k1_pay207, k1_pay208, k1_pay209, k1_pay210, k1_pay211, k1_pay212, k1_pay213, k1_pay214,
      k1_pay215, k1_pay216, k1_pay217, k1_pay218, k1_pay219, k1_pay220, k1_pay221, k1_pay222, k1_pay223, k1_pay224,
      k1_pay225, k1_pay226, k1_pay227, k1_pay228, k1_pay229, k1_pay230, k1_pay231, k1_pay232, k1_pay233, k1_pay234,
      k1_pay235, k1_pay236, k1_pay237, k1_pay238, k1_pay239, k1_pay240, k1_pay241, k1_pay242, k1_pay243, k1_pay244,
      k1_pay245, k1_pay246, k1_pay247, k1_pay248, k1_pay249, k1_pay250, k1_pay251, k1_pay252, k1_pay253, k1_pay254,
      k1_pay255, k1_pay256, k1_pay257, k1_pay258, k1_pay259, k1_pay260, k1_pay261, k1_pay262, k1_pay263, k1_pay264,
      k1_pay265, k1_pay266, k1_pay267, k1_pay268, k1_pay269, k1_pay270, k1_pay271, k1_pay272, k1_pay273, k1_pay274,
      k1_pay275, k1_pay276, k1_pay277, k1_pay278, k1_pay279, k1_pay280, k1_pay281, k1_pay282, k1_pay283, k1_pay284,
      k1_pay285, k1_pay286, k1_pay287, k1_off1, Nat.reduceMul, Nat.reduceAdd]

/-- The queries' gradient. -/
theorem outA_7 :
    out1_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (Blocks.mk i x0 x1 x2 x3 x4 x5 x6).dqL :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1

/-- The keys' gradient inside the cell. -/
theorem outA_8 :
    out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (kvL arg10.view (Blocks.mk i x0 x1 x2 x3 x4 x5 x6).dk) :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1

/-- The keys' gradient in the block before the cell. -/
theorem outA_9 :
    out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (haloL arg11.view (Blocks.mk i x0 x1 x2 x3 x4 x5 x6).dk) :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1

/-- The values' gradient inside the cell. -/
theorem outA_10 :
    out1_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (kvL arg12.view (Blocks.mk i x0 x1 x2 x3 x4 x5 x6).dv) :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1

/-- The values' gradient in the block before the cell. -/
theorem outA_11 :
    out1_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (haloL arg13.view (Blocks.mk i x0 x1 x2 x3 x4 x5 x6).dv) :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1

/-- The sinks' gradient. -/
theorem outA_12 :
    out1_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (dsA arg14.view ((Blocks.mk i x0 x1 x2 x3 x4 x5 x6).dsink 0 (by decide)) ((Blocks.mk i x0 x1 x2 x3 x4 x5 x6).dsink 1 (by decide))) :=
  (storedA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.2

end Cert.KernelIdeal.Cell

end
-- ==== Proof.CellRunB.lean ====
/- What a later cell of a row stores, output by output, is the cell's list of stores. -/
module

public import proofs.«01_k».proof.Proof.Cell
public import proofs.«01_k».proof.Proof.Gen.KernelIdeal.Frame
public import Idealize.ShloMosaic.Lib.Pipeline.ValueKit

@[expose] public section

noncomputable section

namespace Cert.KernelIdeal.Cell

open Idealize.ShloMosaic Idealize.ShloMosaic.TcCoe Idealize.SL.Sem Cert.KernelIdeal Cert.KernelIdeal.Gen Cert.KernelIdeal.Tile

variable {F : FTy → Type} [FloatOps F]

variable (c : Dev nD) (i : grid1.Coords) (arg2 : Memref sig .tc .smem S16 .f32) (harg2 : arg2.IsWhole)
  (arg3 : Memref sig .tc .vmem S512x512 .bf16) (harg3 : arg3.IsWhole) (arg4 : Memref sig .tc .vmem S512x128 .bf16)
  (harg4 : arg4.IsWhole) (arg5 : Memref sig .tc .vmem S128x128 .bf16) (harg5 : arg5.IsWhole)
  (arg6 : Memref sig .tc .vmem S512x128 .bf16) (harg6 : arg6.IsWhole) (arg7 : Memref sig .tc .vmem S128x128 .bf16)
  (harg7 : arg7.IsWhole) (arg8 : Memref sig .tc .vmem S512x512 .bf16) (harg8 : arg8.IsWhole)
  (arg9 : Memref sig .tc .vmem S512x512 .f32) (harg9 : arg9.IsWhole) (arg10 : Memref sig .tc .vmem S512x128 .f32)
  (harg10 : arg10.IsWhole) (arg11 : Memref sig .tc .vmem S128x128 .f32) (harg11 : arg11.IsWhole)
  (arg12 : Memref sig .tc .vmem S512x128 .f32) (harg12 : arg12.IsWhole)
  (arg13 : Memref sig .tc .vmem S128x128 .f32) (harg13 : arg13.IsWhole)
  (arg14 : Memref sig .tc .vmem S2x8x128 .f32) (harg14 : arg14.IsWhole) (hc0 : ¬cond1_0 i) (x0 : Vec F S16 .f32)
  (x1 : Vec F S512x512 .bf16) (x2 : Vec F S512x128 .bf16) (x3 : Vec F S128x128 .bf16) (x4 : Vec F S512x128 .bf16)
  (x5 : Vec F S128x128 .bf16) (x6 : Vec F S512x512 .bf16) (xo12 : Vec F S2x8x128 .f32)

set_option maxHeartbeats 2000000 in
/-- Every output of the cell is the list of its stores: the six are unfolded in the same way. -/
theorem storedB :
    (out1_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (Blocks.mk i x0 x1 x2 x3 x4 x5 x6).dqL)
    ∧ (out1_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (kvL arg10.view (Blocks.mk i x0 x1 x2 x3 x4 x5 x6).dk))
    ∧ (out1_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (haloL arg11.view (Blocks.mk i x0 x1 x2 x3 x4 x5 x6).dk))
    ∧ (out1_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (kvL arg12.view (Blocks.mk i x0 x1 x2 x3 x4 x5 x6).dv))
    ∧ (out1_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (haloL arg13.view (Blocks.mk i x0 x1 x2 x3 x4 x5 x6).dv))
    ∧ (out1_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (dsB xo12 ((Blocks.mk i x0 x1 x2 x3 x4 x5 x6).dsink 0 (by decide)) ((Blocks.mk i x0 x1 x2 x3 x4 x5 x6).dsink 1 (by decide)))) := by
  refine ⟨?o7, ?o8, ?o9, ?o10, ?o11, ?o12⟩
  case' o7 =>
    unfold out1_B_7
    rw [View.read_writes_eq_canon _ _ _ (cover1_B_7 _ _ _ _ _ _ _ _ _ _ _ _ _ _ _ _ _ _ _ _ _ _ _ _ _ _ _ _ _ x0 x1 x2 x3 x4 x5 x6 xo12)]
  case' o8 =>
    unfold out1_B_8
    rw [View.read_writes_eq_canon _ _ _ (cover1_B_8 _ _ _ _ _ _ _ _ _ _ _ _ _ _ _ _ _ _ _ _ _ _ _ _ _ _ _ _ _ x0 x1 x2 x3 x4 x5 x6 xo12)]
  case' o9 =>
    unfold out1_B_9
    rw [View.read_writes_eq_canon _ _ _ (cover1_B_9 _ _ _ _ _ _ _ _ _ _ _ _ _ _ _ _ _ _ _ _ _ _ _ _ _ _ _ _ _ x0 x1 x2 x3 x4 x5 x6 xo12)]
  case' o10 =>
    unfold out1_B_10
    rw [View.read_writes_eq_canon _ _ _ (cover1_B_10 _ _ _ _ _ _ _ _ _ _ _ _ _ _ _ _ _ _ _ _ _ _ _ _ _ _ _ _ _ x0 x1 x2 x3 x4 x5 x6 xo12)]
  case' o11 =>
    unfold out1_B_11
    rw [View.read_writes_eq_canon _ _ _ (cover1_B_11 _ _ _ _ _ _ _ _ _ _ _ _ _ _ _ _ _ _ _ _ _ _ _ _ _ _ _ _ _ x0 x1 x2 x3 x4 x5 x6 xo12)]
  case' o12 =>
    unfold out1_B_12
    rw [View.read_writes_eq_canon _ _ _ (cover1_B_12 _ _ _ _ _ _ _ _ _ _ _ _ _ _ _ _ _ _ _ _ _ _ _ _ _ _ _ _ _ x0 x1 x2 x3 x4 x5 x6 xo12)]
  all_goals
    unfold kernelRun1_B
    dsimp only
    sl_unfold_words
    simp only [View.readAt_eq_ld, harg2.read_unread, harg3.read_unread, harg4.read_unread, harg5.read_unread, harg6.read_unread, harg7.read_unread, harg8.read_unread, harg14.read_unread]
    refine congrArg View.canon ?_
    dsimp only [
      rowsAt, winAt, keyHead, foldHead, slabAt, visAt, sinkAt, Blocks.snk, Blocks.Q, Blocks.G, Blocks.K, Blocks.V,
      Blocks.Sc, Blocks.P, Blocks.D, Blocks.dq, Blocks.dk, Blocks.dv, Blocks.sd, Blocks.dqP, Blocks.dqL, up, down,
      zeroL, headL, kvL, haloUp, haloL, Blocks.dsink, sinkPlane, dsA, dsB, Tile.low128, Tile.low256, Tile.rid,
      Tile.rows, Tile.win, Tile.kw0, Tile.kw1, Tile.sinkCol, Tile.dotw, Tile.score, Tile.mx, Tile.pe, Tile.es,
      Tile.rsum, Tile.inv, Tile.pn, Tile.ps, Tile.dsb, Tile.dqw, Tile.dww, Tile.slab0, Tile.slab1, Tile.both,
      Tile.fold0, Tile.fold1, Tile.addUp, Tile.addDown, Tile.sinkPart, Tile.sinkStep, Tile.sinkAdd, k1_pay1, k1_pay2,
      k1_pay3, k1_pay4, k1_pay5, k1_pay6, k1_pay7, k1_pay8, k1_pay9, k1_pay12, k1_pay13, k1_pay14, k1_pay15, k1_pay16,
      k1_pay17, k1_pay18, k1_pay19, k1_pay20, k1_pay21, k1_pay22, k1_pay23, k1_pay24, k1_pay25, k1_pay26, k1_pay27,
      k1_pay28, k1_pay29, k1_pay30, k1_pay31, k1_pay32, k1_pay33, k1_pay34, k1_pay35, k1_pay36, k1_pay37, k1_pay38,
      k1_pay39, k1_pay40, k1_pay41, k1_pay42, k1_pay43, k1_pay44, k1_pay45, k1_pay46, k1_pay47, k1_pay48, k1_pay49,
      k1_pay50, k1_pay51, k1_pay52, k1_pay53, k1_pay54, k1_pay55, k1_pay56, k1_pay57, k1_pay58, k1_pay59, k1_pay60,
      k1_pay61, k1_pay62, k1_pay63, k1_pay64, k1_pay65, k1_pay66, k1_pay67, k1_pay68, k1_pay69, k1_pay70, k1_pay71,
      k1_pay72, k1_pay73, k1_pay74, k1_pay75, k1_pay76, k1_pay77, k1_pay78, k1_pay79, k1_pay80, k1_pay81, k1_pay82,
      k1_pay83, k1_pay84, k1_pay85, k1_pay86, k1_pay87, k1_pay88, k1_pay89, k1_pay90, k1_pay91, k1_pay92, k1_pay93,
      k1_pay94, k1_pay95, k1_pay96, k1_pay97, k1_pay98, k1_pay99, k1_pay100, k1_pay101, k1_pay102, k1_pay103, k1_pay104,
      k1_pay105, k1_pay106, k1_pay107, k1_pay108, k1_pay109, k1_pay110, k1_pay111, k1_pay112, k1_pay113, k1_pay114,
      k1_pay115, k1_pay116, k1_pay117, k1_pay118, k1_pay119, k1_pay120, k1_pay121, k1_pay122, k1_pay123, k1_pay124,
      k1_pay125, k1_pay126, k1_pay127, k1_pay128, k1_pay129, k1_pay130, k1_pay131, k1_pay132, k1_pay133, k1_pay134,
      k1_pay135, k1_pay136, k1_pay137, k1_pay138, k1_pay139, k1_pay140, k1_pay141, k1_pay142, k1_pay143, k1_pay144,
      k1_pay145, k1_pay146, k1_pay147, k1_pay148, k1_pay149, k1_pay150, k1_pay151, k1_pay152, k1_pay153, k1_pay154,
      k1_pay155, k1_pay156, k1_pay157, k1_pay158, k1_pay159, k1_pay160, k1_pay161, k1_pay162, k1_pay163, k1_pay164,
      k1_pay165, k1_pay166, k1_pay167, k1_pay168, k1_pay169, k1_pay170, k1_pay171, k1_pay172, k1_pay173, k1_pay174,
      k1_pay175, k1_pay176, k1_pay177, k1_pay178, k1_pay179, k1_pay180, k1_pay181, k1_pay182, k1_pay183, k1_pay184,
      k1_pay185, k1_pay186, k1_pay187, k1_pay188, k1_pay189, k1_pay190, k1_pay191, k1_pay192, k1_pay193, k1_pay194,
      k1_pay195, k1_pay196, k1_pay197, k1_pay198, k1_pay199, k1_pay200, k1_pay201, k1_pay202, k1_pay203, k1_pay204,
      k1_pay205, k1_pay206, k1_pay207, k1_pay208, k1_pay209, k1_pay210, k1_pay211, k1_pay212, k1_pay213, k1_pay214,
      k1_pay215, k1_pay216, k1_pay217, k1_pay218, k1_pay219, k1_pay220, k1_pay221, k1_pay222, k1_pay223, k1_pay224,
      k1_pay225, k1_pay226, k1_pay227, k1_pay228, k1_pay229, k1_pay230, k1_pay231, k1_pay232, k1_pay233, k1_pay234,
      k1_pay235, k1_pay236, k1_pay237, k1_pay238, k1_pay239, k1_pay240, k1_pay241, k1_pay242, k1_pay243, k1_pay244,
      k1_pay245, k1_pay246, k1_pay247, k1_pay248, k1_pay249, k1_pay250, k1_pay251, k1_pay252, k1_pay253, k1_pay254,
      k1_pay255, k1_pay256, k1_pay257, k1_pay258, k1_pay259, k1_pay260, k1_pay261, k1_pay262, k1_pay263, k1_pay264,
      k1_pay265, k1_pay266, k1_pay267, k1_pay268, k1_pay269, k1_pay270, k1_pay271, k1_pay272, k1_pay273, k1_pay274,
      k1_pay275, k1_pay276, k1_pay277, k1_pay278, k1_pay279, k1_pay280, k1_pay281, k1_pay282, k1_pay283, k1_pay284,
      k1_pay285, k1_pay286, k1_pay287, k1_off1, Nat.reduceMul, Nat.reduceAdd]

/-- The queries' gradient. -/
theorem outB_7 :
    out1_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (Blocks.mk i x0 x1 x2 x3 x4 x5 x6).dqL :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).1

/-- The keys' gradient inside the cell. -/
theorem outB_8 :
    out1_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (kvL arg10.view (Blocks.mk i x0 x1 x2 x3 x4 x5 x6).dk) :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).2.1

/-- The keys' gradient in the block before the cell. -/
theorem outB_9 :
    out1_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (haloL arg11.view (Blocks.mk i x0 x1 x2 x3 x4 x5 x6).dk) :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).2.2.1

/-- The values' gradient inside the cell. -/
theorem outB_10 :
    out1_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (kvL arg12.view (Blocks.mk i x0 x1 x2 x3 x4 x5 x6).dv) :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).2.2.2.1

/-- The values' gradient in the block before the cell. -/
theorem outB_11 :
    out1_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (haloL arg13.view (Blocks.mk i x0 x1 x2 x3 x4 x5 x6).dv) :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).2.2.2.2.1

/-- The sinks' gradient. -/
theorem outB_12 :
    out1_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12 = View.canon (dsB xo12 ((Blocks.mk i x0 x1 x2 x3 x4 x5 x6).dsink 0 (by decide)) ((Blocks.mk i x0 x1 x2 x3 x4 x5 x6).dsink 1 (by decide))) :=
  (storedB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo12).2.2.2.2.2

end Cert.KernelIdeal.Cell

end
-- ==== Proof.Region1.lean ====
/- What the attention's backward kernel leaves in its arrays, from the rotated queries and keys, the values, the gradient of
   the output and the sinks. -/
module

public import proofs.«01_k».proof.Proof.CellOut
public import proofs.«01_k».proof.Proof.CellRunA
public import proofs.«01_k».proof.Proof.CellRunB

@[expose] public section

noncomputable section

namespace Cert.KernelIdeal.Cell

open Idealize.ShloMosaic Idealize.ShloMosaic.TcCoe Idealize.SL.Sem Cert.KernelIdeal Cert.KernelIdeal.Gen Cert.Attn Finset
open Idealize.ShloMosaic.Pipeline (Dat)

variable (V : (c : Dev nD) → (b : Ref sig .tc) → Buf (Elt Ideal) ((c : Thread nD τ).loc b)) (c : Dev nD)

theorem lt1 (t : Fin cfg1.N) : t.val < 32 := t.isLt

/-! ### Where the windows are at point `t` = 16 · (column pair) + tile -/

theorem pt0 (t : Fin cfg1.N) : (grid1.coords t 0).val = t.val / 16 := by revert t; decide +kernel
theorem pt1 (t : Fin cfg1.N) : (grid1.coords t 1).val = t.val % 16 := by revert t; decide +kernel

theorem at1_0 (t : Fin cfg1.N) : win1_0.index t 0 = 0 := by revert t; decide +kernel
theorem at1_1 (t : Fin cfg1.N) : win1_1.index t 0 = t.val % 16 ∧ win1_1.index t 1 = t.val / 16 := by revert t; decide +kernel
theorem at1_2 (t : Fin cfg1.N) : win1_2.index t 0 = t.val % 16 ∧ win1_2.index t 1 = t.val / 16 := by revert t; decide +kernel
theorem at1_3 (t : Fin cfg1.N) : win1_3.index t 0 = 4 * (t.val % 16) - 1 ∧ win1_3.index t 1 = t.val / 16 := by revert t; decide +kernel
theorem at1_4 (t : Fin cfg1.N) : win1_4.index t 0 = t.val % 16 ∧ win1_4.index t 1 = t.val / 16 := by revert t; decide +kernel
theorem at1_5 (t : Fin cfg1.N) : win1_5.index t 0 = 4 * (t.val % 16) - 1 ∧ win1_5.index t 1 = t.val / 16 := by revert t; decide +kernel
theorem at1_6 (t : Fin cfg1.N) : win1_6.index t 0 = t.val % 16 ∧ win1_6.index t 1 = t.val / 16 := by revert t; decide +kernel
theorem at1_7 (t : Fin cfg1.N) : win1_7.index t 0 = t.val % 16 ∧ win1_7.index t 1 = t.val / 16 := by revert t; decide +kernel
theorem at1_8 (t : Fin cfg1.N) : win1_8.index t 0 = t.val % 16 ∧ win1_8.index t 1 = t.val / 16 := by revert t; decide +kernel
theorem at1_9 (t : Fin cfg1.N) : win1_9.index t 0 = t.val % 16 ∧ win1_9.index t 1 = t.val / 16 := by revert t; decide +kernel
theorem at1_10 (t : Fin cfg1.N) : win1_10.index t 0 = t.val % 16 ∧ win1_10.index t 1 = t.val / 16 := by revert t; decide +kernel
theorem at1_11 (t : Fin cfg1.N) : win1_11.index t 0 = t.val % 16 ∧ win1_11.index t 1 = t.val / 16 := by revert t; decide +kernel
theorem at1_12 (t : Fin cfg1.N) : win1_12.index t 0 = t.val / 16 ∧ win1_12.index t 1 = 0 ∧ win1_12.index t 2 = 0 := by
  revert t; decide +kernel

/-! ### The input blocks -/

theorem iblk1_0_apply (t : Fin cfg1.N) (h : Fin 16) :
    (iblk1 V c 0 t : Vec Ideal S16 .f32) (ix1 h) = (V c main_arg2 : Vec Ideal S16 .f32) (ix1 h) := by
  unfold iblk1
  rw [View.read_apply]
  show V c main_arg2 _ = _
  congr 1
  funext a
  apply Fin.ext
  have := at1_0 t
  match a with
  | ⟨0, _⟩ => show win1_0.index t 0 * 16 + 1 * h.val = h.val
              omega

theorem iblk1_1_apply (t : Fin cfg1.N) (r : Fin 512) (l : Fin 512) :
    (iblk1 V c 1 t : Vec Ideal S512x512 .bf16) (ix2 r l) = (V c main_v22_0 : Vec Ideal S8192x1024 .bf16)
      (ix2 ⟨512 * (t.val % 16) + r, by have := lt1 t; omega⟩ ⟨512 * (t.val / 16) + l, by have := lt1 t; omega⟩) := by
  unfold iblk1
  rw [View.read_apply]
  show V c main_v22_0 _ = _
  congr 1
  funext a
  apply Fin.ext
  have h := at1_1 t
  match a with
  | ⟨0, _⟩ => show win1_1.index t 0 * 512 + 1 * r.val = 512 * (t.val % 16) + r.val
              omega
  | ⟨1, _⟩ => show win1_1.index t 1 * 512 + 1 * l.val = 512 * (t.val / 16) + l.val
              omega

theorem iblk1_2_apply (t : Fin cfg1.N) (r : Fin 512) (l : Fin 128) :
    (iblk1 V c 2 t : Vec Ideal S512x128 .bf16) (ix2 r l) = (V c main_v22_1 : Vec Ideal S8192x256 .bf16)
      (ix2 ⟨512 * (t.val % 16) + r, by have := lt1 t; omega⟩ ⟨128 * (t.val / 16) + l, by have := lt1 t; omega⟩) := by
  unfold iblk1
  rw [View.read_apply]
  show V c main_v22_1 _ = _
  congr 1
  funext a
  apply Fin.ext
  have h := at1_2 t
  match a with
  | ⟨0, _⟩ => show win1_2.index t 0 * 512 + 1 * r.val = 512 * (t.val % 16) + r.val
              omega
  | ⟨1, _⟩ => show win1_2.index t 1 * 128 + 1 * l.val = 128 * (t.val / 16) + l.val
              omega

theorem iblk1_3_apply (t : Fin cfg1.N) (r : Fin 128) (l : Fin 128) :
    (iblk1 V c 3 t : Vec Ideal S128x128 .bf16) (ix2 r l) = (V c main_v22_1 : Vec Ideal S8192x256 .bf16)
      (ix2 ⟨128 * (4 * (t.val % 16) - 1) + r, by have := lt1 t; omega⟩ ⟨128 * (t.val / 16) + l, by have := lt1 t; omega⟩) := by
  unfold iblk1
  rw [View.read_apply]
  show V c main_v22_1 _ = _
  congr 1
  funext a
  apply Fin.ext
  have h := at1_3 t
  match a with
  | ⟨0, _⟩ => show win1_3.index t 0 * 128 + 1 * r.val = 128 * (4 * (t.val % 16) - 1) + r.val
              omega
  | ⟨1, _⟩ => show win1_3.index t 1 * 128 + 1 * l.val = 128 * (t.val / 16) + l.val
              omega

theorem iblk1_4_apply (t : Fin cfg1.N) (r : Fin 512) (l : Fin 128) :
    (iblk1 V c 4 t : Vec Ideal S512x128 .bf16) (ix2 r l) = (V c main_v22_2 : Vec Ideal S8192x256 .bf16)
      (ix2 ⟨512 * (t.val % 16) + r, by have := lt1 t; omega⟩ ⟨128 * (t.val / 16) + l, by have := lt1 t; omega⟩) := by
  unfold iblk1
  rw [View.read_apply]
  show V c main_v22_2 _ = _
  congr 1
  funext a
  apply Fin.ext
  have h := at1_4 t
  match a with
  | ⟨0, _⟩ => show win1_4.index t 0 * 512 + 1 * r.val = 512 * (t.val % 16) + r.val
              omega
  | ⟨1, _⟩ => show win1_4.index t 1 * 128 + 1 * l.val = 128 * (t.val / 16) + l.val
              omega

theorem iblk1_5_apply (t : Fin cfg1.N) (r : Fin 128) (l : Fin 128) :
    (iblk1 V c 5 t : Vec Ideal S128x128 .bf16) (ix2 r l) = (V c main_v22_2 : Vec Ideal S8192x256 .bf16)
      (ix2 ⟨128 * (4 * (t.val % 16) - 1) + r, by have := lt1 t; omega⟩ ⟨128 * (t.val / 16) + l, by have := lt1 t; omega⟩) := by
  unfold iblk1
  rw [View.read_apply]
  show V c main_v22_2 _ = _
  congr 1
  funext a
  apply Fin.ext
  have h := at1_5 t
  match a with
  | ⟨0, _⟩ => show win1_5.index t 0 * 128 + 1 * r.val = 128 * (4 * (t.val % 16) - 1) + r.val
              omega
  | ⟨1, _⟩ => show win1_5.index t 1 * 128 + 1 * l.val = 128 * (t.val / 16) + l.val
              omega

theorem iblk1_6_apply (t : Fin cfg1.N) (r : Fin 512) (l : Fin 512) :
    (iblk1 V c 6 t : Vec Ideal S512x512 .bf16) (ix2 r l) = (V c main_v23 : Vec Ideal S8192x1024 .bf16)
      (ix2 ⟨512 * (t.val % 16) + r, by have := lt1 t; omega⟩ ⟨512 * (t.val / 16) + l, by have := lt1 t; omega⟩) := by
  unfold iblk1
  rw [View.read_apply]
  show V c main_v23 _ = _
  congr 1
  funext a
  apply Fin.ext
  have h := at1_6 t
  match a with
  | ⟨0, _⟩ => show win1_6.index t 0 * 512 + 1 * r.val = 512 * (t.val % 16) + r.val
              omega
  | ⟨1, _⟩ => show win1_6.index t 1 * 512 + 1 * l.val = 512 * (t.val / 16) + l.val
              omega

/-- What a tile's own blocks send to its tokens' keys (values), and what they send to the block before. -/
def inCell (w : ℕ → ℕ → ℕ → ℕ → ℝ) (row col : ℕ) : ℝ :=
  w (row / 128) (col / 64) (128 + row % 128) (col % 64)
    + if row % 512 / 128 < 3 then w (row / 128 + 1) (col / 64) (row % 128) (col % 64) else 0
def halo (w : ℕ → ℕ → ℕ → ℕ → ℝ) (row col : ℕ) : ℝ := w (4 * (row / 128)) (col / 64) (row % 128) (col % 64)

/-- The cell at point `t`. -/
abbrev cellAt (t : Fin cfg1.N) : Blocks Ideal :=
  Blocks.mk (grid1.coords t) (iblk1 V c 0 t) (iblk1 V c 1 t) (iblk1 V c 2 t) (iblk1 V c 3 t) (iblk1 V c 4 t) (iblk1 V c 5 t)
    (iblk1 V c 6 t)

/-- The region finds the data in its input arrays. -/
structure Input (A : Data) : Prop where
  s : ∀ h : Fin 16, (V c main_arg2 : Vec Ideal S16 .f32) (ix1 h) = ((A.s h : ℝ) : EReal)
  q : ∀ (r : Fin 8192) (l : Fin 1024), (V c main_v22_0 : Vec Ideal S8192x1024 .bf16) (ix2 r l) = ((A.q r l : ℝ) : EReal)
  k : ∀ (r : Fin 8192) (l : Fin 256), (V c main_v22_1 : Vec Ideal S8192x256 .bf16) (ix2 r l) = ((A.k r l : ℝ) : EReal)
  v : ∀ (r : Fin 8192) (l : Fin 256), (V c main_v22_2 : Vec Ideal S8192x256 .bf16) (ix2 r l) = ((A.v r l : ℝ) : EReal)
  g : ∀ (r : Fin 8192) (l : Fin 1024), (V c main_v23 : Vec Ideal S8192x1024 .bf16) (ix2 r l) = ((A.g r l : ℝ) : EReal)

variable {V c} {A : Data} (I : Input V c A)
include I

theorem cell_real (t : Fin cfg1.N) : IsReal A (t / 16) (t % 16) (cellAt V c t) where
  hp := pt0 t
  ht := pt1 t
  s := fun h => (iblk1_0_apply V c t h).trans (I.s h)
  q := fun r l => (iblk1_1_apply V c t r l).trans (I.q _ _)
  kc := fun r l => (iblk1_2_apply V c t r l).trans (I.k _ _)
  kp := fun r l => (iblk1_3_apply V c t r l).trans (I.k _ _)
  vc := fun r l => (iblk1_4_apply V c t r l).trans (I.v _ _)
  vp := fun r l => (iblk1_5_apply V c t r l).trans (I.v _ _)
  g := fun r l => (iblk1_6_apply V c t r l).trans (I.g _ _)

/-! ### What each point leaves -/

theorem at_7 (t : Fin cfg1.N) (r : Fin 512) (l : Fin 512) :
    (outsAt1 V c t.val t.isLt).1 (ix2 r l) = ((dq A (512 * (t.val % 16) + r) (512 * (t.val / 16) + l) : ℝ) : EReal) := by
  by_cases h0 : t.val % 16 = 0
  · rw [outsAt1_A V c t h0]
    dsimp only
    rw [outA_7]
    exact (cell_real I t).dq_out r l
  · rw [outsAt1_B V c t h0]
    dsimp only
    rw [outB_7]
    exact (cell_real I t).dq_out r l

theorem at_8 (t : Fin cfg1.N) (r : Fin 512) (l : Fin 128) :
    (outsAt1 V c t.val t.isLt).2.1 (ix2 r l) = ((dkw A (4 * (t.val % 16) + r / 128) (2 * (t.val / 16) + l / 64) (128 + r % 128) (l % 64)
        + if r.val / 128 < 3 then dkw A (4 * (t.val % 16) + (r / 128 + 1)) (2 * (t.val / 16) + l / 64) (r % 128) (l % 64) else 0 : ℝ) : EReal) := by
  by_cases h0 : t.val % 16 = 0
  · rw [outsAt1_A V c t h0]
    dsimp only
    rw [outA_8]
    exact (cell_real I t).dk_out (ms1_8 t).view r l
  · rw [outsAt1_B V c t h0]
    dsimp only
    rw [outB_8]
    exact (cell_real I t).dk_out (ms1_8 t).view r l

theorem at_9 (t : Fin cfg1.N) (r : Fin 128) (l : Fin 128) :
    (outsAt1 V c t.val t.isLt).2.2.1 (ix2 r l) = ((dkw A (4 * (t.val % 16)) (2 * (t.val / 16) + l / 64) r (l % 64) : ℝ) : EReal) := by
  by_cases h0 : t.val % 16 = 0
  · rw [outsAt1_A V c t h0]
    dsimp only
    rw [outA_9]
    exact (cell_real I t).dkp_out (ms1_9 t).view r l
  · rw [outsAt1_B V c t h0]
    dsimp only
    rw [outB_9]
    exact (cell_real I t).dkp_out (ms1_9 t).view r l

theorem at_10 (t : Fin cfg1.N) (r : Fin 512) (l : Fin 128) :
    (outsAt1 V c t.val t.isLt).2.2.2.1 (ix2 r l) = ((dvw A (4 * (t.val % 16) + r / 128) (2 * (t.val / 16) + l / 64) (128 + r % 128) (l % 64)
        + if r.val / 128 < 3 then dvw A (4 * (t.val % 16) + (r / 128 + 1)) (2 * (t.val / 16) + l / 64) (r % 128) (l % 64) else 0 : ℝ) : EReal) := by
  by_cases h0 : t.val % 16 = 0
  · rw [outsAt1_A V c t h0]
    dsimp only
    rw [outA_10]
    exact (cell_real I t).dv_out (ms1_10 t).view r l
  · rw [outsAt1_B V c t h0]
    dsimp only
    rw [outB_10]
    exact (cell_real I t).dv_out (ms1_10 t).view r l

theorem at_11 (t : Fin cfg1.N) (r : Fin 128) (l : Fin 128) :
    (outsAt1 V c t.val t.isLt).2.2.2.2.1 (ix2 r l) = ((dvw A (4 * (t.val % 16)) (2 * (t.val / 16) + l / 64) r (l % 64) : ℝ) : EReal) := by
  by_cases h0 : t.val % 16 = 0
  · rw [outsAt1_A V c t h0]
    dsimp only
    rw [outA_11]
    exact (cell_real I t).dvp_out (ms1_11 t).view r l
  · rw [outsAt1_B V c t h0]
    dsimp only
    rw [outB_11]
    exact (cell_real I t).dvp_out (ms1_11 t).view r l

/-- The sinks' planes accumulate over the tiles. -/
theorem at_12 (p : ℕ) (hp : p < 2) (t : ℕ) (ht : t < 16) (h : 16 * p + t < cfg1.N) (g : Fin 2) (r : Fin 8) (l : Fin 128) :
    (outsAt1 V c (16 * p + t) h).2.2.2.2.2 (ix3 g r l) = ((∑ u ∈ range (t + 1), dsF A p u g r : ℝ) : EReal) := by
  induction t generalizing g r l with
  | zero =>
    have h0 : (⟨16 * p + 0, h⟩ : Fin cfg1.N).val % 16 = 0 := by show (16 * p + 0) % 16 = 0; omega
    have e := outsAt1_A V c ⟨16 * p + 0, h⟩ h0
    have hc := cell_real I ⟨16 * p + 0, h⟩
    rw [show ((⟨16 * p + 0, h⟩ : Fin cfg1.N) : ℕ) / 16 = p from by show (16 * p + 0) / 16 = p; omega,
      show ((⟨16 * p + 0, h⟩ : Fin cfg1.N) : ℕ) % 16 = 0 from h0] at hc
    rw [show (outsAt1 V c (16 * p + 0) h) = _ from e]
    dsimp only
    rw [outA_12, zero_add, sum_range_one]
    exact hc.dsA_out _ g r l
  | succ t ih =>
    have h0 : ¬ (⟨16 * p + (t + 1), h⟩ : Fin cfg1.N).val % 16 = 0 := by show ¬ (16 * p + (t + 1)) % 16 = 0; omega
    have e := outsAt1_B V c ⟨16 * p + (t + 1), h⟩ h0
    have hc := cell_real I ⟨16 * p + (t + 1), h⟩
    rw [show ((⟨16 * p + (t + 1), h⟩ : Fin cfg1.N) : ℕ) / 16 = p from by show (16 * p + (t + 1)) / 16 = p; omega,
      show ((⟨16 * p + (t + 1), h⟩ : Fin cfg1.N) : ℕ) % 16 = t + 1 from by show (16 * p + (t + 1)) % 16 = t + 1; omega] at hc
    rw [show (outsAt1 V c (16 * p + (t + 1)) h) = _ from e]
    dsimp only
    rw [outB_12, sum_range_succ]
    exact hc.dsB_out (E := fun g r => ∑ u ∈ range (t + 1), dsF A p u g r) (fun g r l => ih (by omega) (by omega) g r l) g r l

/-! ### The arrays -/

theorem arr1_7 (i : S8192x1024.Idx) :
    ((dat1 V c).arrAt 7 cfg1.N : Vec Ideal S8192x1024 .f32) i = ((dq A (i 0).val (i 1).val : ℝ) : EReal) := by
  refine (dat1 V c).arrAt_forall_of_covers 7 (fun i v => v = ((dq A (i 0).val (i 1).val : ℝ) : EReal))
    (by decide +kernel) (fun t hf y => ?_) i
  rw [after1_7]
  have h := at_7 I t (y 0) (y 1)
  have hi := at1_7 t
  have ht := lt1 t
  have hy0 : (y 0).val < 512 := (y 0).isLt
  have hy1 : (y 1).val < 512 := (y 1).isLt
  have e0 : ((((cfg1.win 7).blk t).view.emb y) 0).val = 512 * (t.val % 16) + (y 0).val := by
    show win1_7.index t 0 * 512 + 1 * (y 0).val = _
    omega
  have e1 : ((((cfg1.win 7).blk t).view.emb y) 1).val = 512 * (t.val / 16) + (y 1).val := by
    show win1_7.index t 1 * 512 + 1 * (y 1).val = _
    omega
  show _ = ((dq A (((((cfg1.win 7).blk t).view.emb y) 0).val) (((((cfg1.win 7).blk t).view.emb y) 1).val) : ℝ) : EReal)
  rw [e0, e1]
  refine Eq.trans ?_ (h.trans ?_)
  · refine congrArg (outsAt1 V c t.val t.isLt).1 (funext fun a => ?_)
    match a with
    | ⟨0, _⟩ => rfl
    | ⟨1, _⟩ => rfl
  · rfl

theorem arr1_8 (i : S8192x256.Idx) :
    ((dat1 V c).arrAt 8 cfg1.N : Vec Ideal S8192x256 .f32) i = ((inCell (dkw A) (i 0).val (i 1).val : ℝ) : EReal) := by
  refine (dat1 V c).arrAt_forall_of_covers 8 (fun i v => v = ((inCell (dkw A) (i 0).val (i 1).val : ℝ) : EReal))
    (by decide +kernel) (fun t hf y => ?_) i
  rw [after1_8]
  have h := at_8 I t (y 0) (y 1)
  have hi := at1_8 t
  have ht := lt1 t
  have hy0 : (y 0).val < 512 := (y 0).isLt
  have hy1 : (y 1).val < 128 := (y 1).isLt
  have e0 : ((((cfg1.win 8).blk t).view.emb y) 0).val = 512 * (t.val % 16) + (y 0).val := by
    show win1_8.index t 0 * 512 + 1 * (y 0).val = _
    omega
  have e1 : ((((cfg1.win 8).blk t).view.emb y) 1).val = 128 * (t.val / 16) + (y 1).val := by
    show win1_8.index t 1 * 128 + 1 * (y 1).val = _
    omega
  show _ = ((inCell (dkw A) (((((cfg1.win 8).blk t).view.emb y) 0).val) (((((cfg1.win 8).blk t).view.emb y) 1).val) : ℝ) : EReal)
  rw [e0, e1]
  refine Eq.trans ?_ (h.trans ?_)
  · refine congrArg (outsAt1 V c t.val t.isLt).2.1 (funext fun a => ?_)
    match a with
    | ⟨0, _⟩ => rfl
    | ⟨1, _⟩ => rfl
  · unfold inCell
    congr 1
    refine congrArg₂ (· + ·) ?_ (if_congr ?_ ?_ rfl)
    · congr 1 <;> omega
    · constructor <;> intro h <;> omega
    · congr 1 <;> omega

theorem arr1_9 (i : S2048x256.Idx) :
    ((dat1 V c).arrAt 9 cfg1.N : Vec Ideal S2048x256 .f32) i = ((halo (dkw A) (i 0).val (i 1).val : ℝ) : EReal) := by
  refine (dat1 V c).arrAt_forall_of_covers 9 (fun i v => v = ((halo (dkw A) (i 0).val (i 1).val : ℝ) : EReal))
    (by decide +kernel) (fun t hf y => ?_) i
  rw [after1_9]
  have h := at_9 I t (y 0) (y 1)
  have hi := at1_9 t
  have ht := lt1 t
  have hy0 : (y 0).val < 128 := (y 0).isLt
  have hy1 : (y 1).val < 128 := (y 1).isLt
  have e0 : ((((cfg1.win 9).blk t).view.emb y) 0).val = 128 * (t.val % 16) + (y 0).val := by
    show win1_9.index t 0 * 128 + 1 * (y 0).val = _
    omega
  have e1 : ((((cfg1.win 9).blk t).view.emb y) 1).val = 128 * (t.val / 16) + (y 1).val := by
    show win1_9.index t 1 * 128 + 1 * (y 1).val = _
    omega
  show _ = ((halo (dkw A) (((((cfg1.win 9).blk t).view.emb y) 0).val) (((((cfg1.win 9).blk t).view.emb y) 1).val) : ℝ) : EReal)
  rw [e0, e1]
  refine Eq.trans ?_ (h.trans ?_)
  · refine congrArg (outsAt1 V c t.val t.isLt).2.2.1 (funext fun a => ?_)
    match a with
    | ⟨0, _⟩ => rfl
    | ⟨1, _⟩ => rfl
  · unfold halo
    congr 2 <;> omega

theorem arr1_10 (i : S8192x256.Idx) :
    ((dat1 V c).arrAt 10 cfg1.N : Vec Ideal S8192x256 .f32) i = ((inCell (dvw A) (i 0).val (i 1).val : ℝ) : EReal) := by
  refine (dat1 V c).arrAt_forall_of_covers 10 (fun i v => v = ((inCell (dvw A) (i 0).val (i 1).val : ℝ) : EReal))
    (by decide +kernel) (fun t hf y => ?_) i
  rw [after1_10]
  have h := at_10 I t (y 0) (y 1)
  have hi := at1_10 t
  have ht := lt1 t
  have hy0 : (y 0).val < 512 := (y 0).isLt
  have hy1 : (y 1).val < 128 := (y 1).isLt
  have e0 : ((((cfg1.win 10).blk t).view.emb y) 0).val = 512 * (t.val % 16) + (y 0).val := by
    show win1_10.index t 0 * 512 + 1 * (y 0).val = _
    omega
  have e1 : ((((cfg1.win 10).blk t).view.emb y) 1).val = 128 * (t.val / 16) + (y 1).val := by
    show win1_10.index t 1 * 128 + 1 * (y 1).val = _
    omega
  show _ = ((inCell (dvw A) (((((cfg1.win 10).blk t).view.emb y) 0).val) (((((cfg1.win 10).blk t).view.emb y) 1).val) : ℝ) : EReal)
  rw [e0, e1]
  refine Eq.trans ?_ (h.trans ?_)
  · refine congrArg (outsAt1 V c t.val t.isLt).2.2.2.1 (funext fun a => ?_)
    match a with
    | ⟨0, _⟩ => rfl
    | ⟨1, _⟩ => rfl
  · unfold inCell
    congr 1
    refine congrArg₂ (· + ·) ?_ (if_congr ?_ ?_ rfl)
    · congr 1 <;> omega
    · constructor <;> intro h <;> omega
    · congr 1 <;> omega

theorem arr1_11 (i : S2048x256.Idx) :
    ((dat1 V c).arrAt 11 cfg1.N : Vec Ideal S2048x256 .f32) i = ((halo (dvw A) (i 0).val (i 1).val : ℝ) : EReal) := by
  refine (dat1 V c).arrAt_forall_of_covers 11 (fun i v => v = ((halo (dvw A) (i 0).val (i 1).val : ℝ) : EReal))
    (by decide +kernel) (fun t hf y => ?_) i
  rw [after1_11]
  have h := at_11 I t (y 0) (y 1)
  have hi := at1_11 t
  have ht := lt1 t
  have hy0 : (y 0).val < 128 := (y 0).isLt
  have hy1 : (y 1).val < 128 := (y 1).isLt
  have e0 : ((((cfg1.win 11).blk t).view.emb y) 0).val = 128 * (t.val % 16) + (y 0).val := by
    show win1_11.index t 0 * 128 + 1 * (y 0).val = _
    omega
  have e1 : ((((cfg1.win 11).blk t).view.emb y) 1).val = 128 * (t.val / 16) + (y 1).val := by
    show win1_11.index t 1 * 128 + 1 * (y 1).val = _
    omega
  show _ = ((halo (dvw A) (((((cfg1.win 11).blk t).view.emb y) 0).val) (((((cfg1.win 11).blk t).view.emb y) 1).val) : ℝ) : EReal)
  rw [e0, e1]
  refine Eq.trans ?_ (h.trans ?_)
  · refine congrArg (outsAt1 V c t.val t.isLt).2.2.2.2.1 (funext fun a => ?_)
    match a with
    | ⟨0, _⟩ => rfl
    | ⟨1, _⟩ => rfl
  · unfold halo
    congr 2 <;> omega

theorem arr1_12 (i : S4x8x128.Idx) :
    ((dat1 V c).arrAt 12 cfg1.N : Vec Ideal S4x8x128 .f32) i
      = ((∑ u ∈ range 16, dsF A ((i 0).val / 2) u ((i 0).val % 2) (i 1).val : ℝ) : EReal) := by
  refine (dat1 V c).arrAt_forall_of_covers 12
    (fun i v => v = ((∑ u ∈ range 16, dsF A ((i 0).val / 2) u ((i 0).val % 2) (i 1).val : ℝ) : EReal))
    (by decide +kernel) (fun t hf y => ?_) i
  rw [after1_12]
  have hm := (flush1_12 t).mp hf
  have ht := lt1 t
  have hi := at1_12 t
  have hy0 : (y 0).val < 2 := (y 0).isLt
  have et : t.val = 16 * (t.val / 16) + 15 := by omega
  have h := at_12 I (t.val / 16) (by omega) 15 (by omega) (et ▸ t.isLt) (y 0) (y 1) (y 2)
  have eo : outsAt1 V c t.val t.isLt = outsAt1 V c (16 * (t.val / 16) + 15) (et ▸ t.isLt) := by congr 1
  have e0 : ((((cfg1.win 12).blk t).view.emb y) 0).val = 2 * (t.val / 16) + (y 0).val := by
    show win1_12.index t 0 * 2 + 1 * (y 0).val = _
    omega
  have e1 : ((((cfg1.win 12).blk t).view.emb y) 1).val = (y 1).val := by
    show win1_12.index t 1 * 8 + 1 * (y 1).val = _
    omega
  show _ = ((∑ u ∈ range 16, dsF A (((((cfg1.win 12).blk t).view.emb y) 0).val / 2) u (((((cfg1.win 12).blk t).view.emb y) 0).val % 2)
    ((((cfg1.win 12).blk t).view.emb y) 1).val : ℝ) : EReal)
  rw [e0, e1, show (2 * (t.val / 16) + (y 0).val) / 2 = t.val / 16 by omega,
    show (2 * (t.val / 16) + (y 0).val) % 2 = (y 0).val by omega, eo]
  refine Eq.trans ?_ h
  refine congrArg (outsAt1 V c (16 * (t.val / 16) + 15) (et ▸ t.isLt)).2.2.2.2.2 (funext fun a => ?_)
  match a with
  | ⟨0, _⟩ => rfl
  | ⟨1, _⟩ => rfl
  | ⟨2, _⟩ => rfl

end Cert.KernelIdeal.Cell

end
-- ==== Proof.Rope.lean ====
/- What the first kernel (the rotary position embedding) leaves in its blocks on real inputs. -/
module

public import proofs.«01_k».proof.Proof.Gen.KernelIdeal.Frame
public import proofs.«01_k».proof.Proof.TileValue
public import Idealize.ShloMosaic.Lib.Pipeline.ValueKit

@[expose] public section

noncomputable section

namespace Cert.KernelIdeal.Tile

open Idealize.ShloMosaic Idealize.SL.Sem Cert.KernelIdeal Cert.KernelIdeal.Gen Cert.Attn Finset

/-- A lane rotated with its partner 32 lanes away in its head of 64, by the tables `c` and `s` (`s` carries the sign). -/
def turn (c s f : ℕ → ℕ → ℝ) (i l : ℕ) : ℝ :=
  f i l * c i (l % 128) + (if l % 64 < 32 then f i (l + 32) else f i (l - 32)) * s i (l % 128)

/-- One tile of 128 lanes rotated. -/
def rope1 (c s x : FVec Ideal S512x128 .f32) : FVec Ideal S512x128 .bf16 :=
  truncf .bf16 (addf (mulf x c) (mulf (select k0_pay5 (dynamicRotate 1 96#32 none x rotates_S512x128_d1)
    (dynamicRotate 1 32#32 none x rotates_S512x128_d1)) s)) bitsLt_bf16_f32

theorem first_apply (i : Fin 512) (l : Fin 128) : k0_pay5 (ix2 i l) = if l.val % 64 < 32 then 1#1 else 0#1 := by
  unfold k0_pay5; dsimp only; pointwise; revert l; decide +kernel

theorem rope1_real {c s x : FVec Ideal S512x128 .f32} {C N X : ℕ → ℕ → ℝ} (o : ℕ)
    (hc : ∀ (i : Fin 512) (l : Fin 128), c (ix2 i l) = ((C i l : ℝ) : EReal))
    (hs : ∀ (i : Fin 512) (l : Fin 128), s (ix2 i l) = ((N i l : ℝ) : EReal))
    (hx : ∀ (i : Fin 512) (l : Fin 128), x (ix2 i l) = ((X i (128 * o + l) : ℝ) : EReal)) (i : Fin 512) (l : Fin 128) :
    rope1 c s x (ix2 i l) = ((turn C N X i (128 * o + l) : ℝ) : EReal) := by
  unfold rope1
  have hl := l.isLt
  have hf := first_apply i l
  generalize k0_pay5 = M at hf
  pointwise
  rw [hf, select_if]
  simp only [hc, hs, hx]
  unfold turn
  rw [show (128 * o + l.val) % 128 = l.val by omega]
  by_cases h : l.val % 64 < 32
  · rw [if_pos h, if_pos (by omega), ← EReal.coe_mul, ← EReal.coe_mul, ← EReal.coe_add]
    congr 4; omega
  · rw [if_neg h, if_neg (by omega), ← EReal.coe_mul, ← EReal.coe_mul, ← EReal.coe_add]
    congr 4; omega

theorem z2 : (![0, 0] : Fin 2 → Nat) = fun _ => 0 := funext fun a => by fin_cases a <;> rfl

variable (x0 : Vec Ideal S512x1536 .f32) (x1 x2 : Vec Ideal S512x128 .f32)

theorem out0_3_eq : out0_3 x0 x1 x2
    = View.canon [⟨r0_16, rope1 x1 x2 (View.ld x0 r0_15)⟩, ⟨r0_14, rope1 x1 x2 (View.ld x0 r0_13)⟩,
      ⟨r0_12, rope1 x1 x2 (View.ld x0 r0_11)⟩, ⟨r0_10, rope1 x1 x2 (View.ld x0 r0_9)⟩, ⟨r0_8, rope1 x1 x2 (View.ld x0 r0_7)⟩,
      ⟨r0_6, rope1 x1 x2 (View.ld x0 r0_5)⟩, ⟨r0_4, rope1 x1 x2 (View.ld x0 r0_3)⟩, ⟨r0_2, rope1 x1 x2 (View.ld x0 r0_1)⟩] := by
  unfold_out out0_3
  rw [View.ld_unit_zero (S := S512x128) z2, View.ld_unit_zero (S := S512x128) z2]
  unfold k0_pay6 k0_pay8 k0_pay9 k0_pay10 k0_pay11 k0_pay12 k0_pay14 k0_pay15 k0_pay16 k0_pay13 k0_pay7 k0_pay3 k0_pay4
  simp only [shapeCast_self]
  rfl

theorem out0_4_eq : out0_4 x0 x1 x2
    = View.canon [⟨r0_20, rope1 x1 x2 (View.ld x0 r0_19)⟩, ⟨r0_18, rope1 x1 x2 (View.ld x0 r0_17)⟩] := by
  unfold_out out0_4
  rw [View.ld_unit_zero (S := S512x128) z2, View.ld_unit_zero (S := S512x128) z2]
  unfold k0_pay1 k0_pay17 k0_pay3 k0_pay4
  simp only [shapeCast_self]
  rfl

variable {x0 x1 x2} {X C N : ℕ → ℕ → ℝ}

/-- A tile loaded from the block. -/
theorem ld_real (hx : ∀ (i : Fin 512) (l : Fin 1536), x0 (ix2 i l) = ((X i l : ℝ) : EReal)) (o : ℕ) (off : Fin 2 → ℕ)
    (h0 : off 0 = 0) (h1 : off 1 = 128 * o) (inb) (i : Fin 512) (l : Fin 128) :
    View.ld x0 (Rect.unit (s := S512x1536) off S512x128.size inb) (ix2 i l) = ((X i (128 * o + l) : ℝ) : EReal) := by
  have hb : off 1 + 128 ≤ 1536 := inb 1
  have hl := l.isLt
  rw [View.ld_unit_apply_of x0 off S512x128.size inb (ix2 i l) (ix2 i ⟨128 * o + l, by omega⟩) (fun a => by
    match a with
    | ⟨0, _⟩ => show i.val = off 0 + i.val; omega
    | ⟨1, _⟩ => show 128 * o + l.val = off 1 + l.val; omega), hx]

/-- One stored tile, where it holds the index. -/
theorem tile_real {n : ℕ} (hc : ∀ (i : Fin 512) (l : Fin 128), x1 (ix2 i l) = ((C i l : ℝ) : EReal))
    (hs : ∀ (i : Fin 512) (l : Fin 128), x2 (ix2 i l) = ((N i l : ℝ) : EReal)) (o k : ℕ) (f : ℕ → ℕ → ℝ)
    (hf : ∀ i l, l / 128 = k → f i l = turn C N X i (128 * o + l - 128 * k))
    {t : FVec Ideal S512x128 .f32} (ht : ∀ (i : Fin 512) (l : Fin 128), t (ix2 i l) = ((X i (128 * o + l) : ℝ) : EReal))
    (off : Fin 2 → ℕ) (h0 : off 0 = 0) (h1 : off 1 = 128 * k) (i : Fin 512) (l : Fin n) :
    View.TileAt (Val := Elt Ideal) (S := ⟨2, ![512, n]⟩) (e := .bf16) (ix2 i l) off S512x128.size (rope1 x1 x2 t) ((f i l : ℝ) : EReal) := by
  intro x hx
  obtain ⟨i', l', rfl⟩ : ∃ (i' : Fin 512) (l' : Fin 128), x = ix2 i' l' := ⟨x 0, x 1, eq_ix2 x⟩
  have e0 : i.val = off 0 + i'.val := hx 0
  have e1 : l.val = off 1 + l'.val := hx 1
  have hl := l'.isLt
  rw [rope1_real o hc hs ht, hf _ _ (by omega)]
  congr 2 <;> omega

theorem out0_3_real (hx : ∀ (i : Fin 512) (l : Fin 1536), x0 (ix2 i l) = ((X i l : ℝ) : EReal))
    (hc : ∀ (i : Fin 512) (l : Fin 128), x1 (ix2 i l) = ((C i l : ℝ) : EReal))
    (hs : ∀ (i : Fin 512) (l : Fin 128), x2 (ix2 i l) = ((N i l : ℝ) : EReal)) (i : Fin 512) (l : Fin 1024) :
    out0_3 x0 x1 x2 (ix2 i l) = ((turn C N X i l : ℝ) : EReal) := by
  rw [out0_3_eq]
  refine View.canon_eq_of_allAt _ _ _ (cover0_3 ..) ?_
  refine View.allAt_cons_unit _ _ _ _ _ (tile_real hc hs 7 7 _ (fun _ _ _ => by congr 1; omega) (ld_real hx 7 _ rfl rfl _) _ rfl rfl i l) ?_
  refine View.allAt_cons_unit _ _ _ _ _ (tile_real hc hs 6 6 _ (fun _ _ _ => by congr 1; omega) (ld_real hx 6 _ rfl rfl _) _ rfl rfl i l) ?_
  refine View.allAt_cons_unit _ _ _ _ _ (tile_real hc hs 5 5 _ (fun _ _ _ => by congr 1; omega) (ld_real hx 5 _ rfl rfl _) _ rfl rfl i l) ?_
  refine View.allAt_cons_unit _ _ _ _ _ (tile_real hc hs 4 4 _ (fun _ _ _ => by congr 1; omega) (ld_real hx 4 _ rfl rfl _) _ rfl rfl i l) ?_
  refine View.allAt_cons_unit _ _ _ _ _ (tile_real hc hs 3 3 _ (fun _ _ _ => by congr 1; omega) (ld_real hx 3 _ rfl rfl _) _ rfl rfl i l) ?_
  refine View.allAt_cons_unit _ _ _ _ _ (tile_real hc hs 2 2 _ (fun _ _ _ => by congr 1; omega) (ld_real hx 2 _ rfl rfl _) _ rfl rfl i l) ?_
  refine View.allAt_cons_unit _ _ _ _ _ (tile_real hc hs 1 1 _ (fun _ _ _ => by congr 1; omega) (ld_real hx 1 _ rfl rfl _) _ rfl rfl i l) ?_
  exact View.allAt_cons_unit _ _ _ _ _ (tile_real hc hs 0 0 _ (fun _ _ _ => by congr 1; omega) (ld_real hx 0 _ rfl rfl _) _ rfl rfl i l)
    (View.allAt_nil _ _)

theorem out0_4_real (hx : ∀ (i : Fin 512) (l : Fin 1536), x0 (ix2 i l) = ((X i l : ℝ) : EReal))
    (hc : ∀ (i : Fin 512) (l : Fin 128), x1 (ix2 i l) = ((C i l : ℝ) : EReal))
    (hs : ∀ (i : Fin 512) (l : Fin 128), x2 (ix2 i l) = ((N i l : ℝ) : EReal)) (i : Fin 512) (l : Fin 256) :
    out0_4 x0 x1 x2 (ix2 i l) = ((turn C N X i (1024 + l) : ℝ) : EReal) := by
  rw [out0_4_eq]
  refine View.canon_eq_of_allAt _ _ _ (cover0_4 ..) ?_
  refine View.allAt_cons_unit _ _ _ _ _ (tile_real hc hs 9 1 (fun i l => turn C N X i (1024 + l)) (fun _ _ _ => by congr 1; omega) (ld_real hx 9 _ rfl rfl _) _ rfl rfl i l) ?_
  exact View.allAt_cons_unit _ _ _ _ _ (tile_real hc hs 8 0 (fun i l => turn C N X i (1024 + l)) (fun _ _ _ => by first | rfl | (congr 1; omega)) (ld_real hx 8 _ rfl rfl _) _ rfl rfl i l)
    (View.allAt_nil _ _)

theorem out0_5_real (hx : ∀ (i : Fin 512) (l : Fin 1536), x0 (ix2 i l) = ((X i l : ℝ) : EReal)) (i : Fin 512) (l : Fin 256) :
    out0_5 x0 x1 x2 (ix2 i l) = ((X i (1280 + l) : ℝ) : EReal) := by
  unfold_out out0_5
  rw [View.canon_unit_zero z2]
  unfold k0_pay2
  show View.ld x0 r0_21 (ix2 i l) = _
  rw [View.ld_unit_apply_of x0 _ S512x256.size _ (ix2 i l) (ix2 i ⟨1280 + l, by omega⟩) (fun a => by
    match a with
    | ⟨0, _⟩ => show i.val = 0 + i.val; omega
    | ⟨1, _⟩ => rfl)]
  exact hx _ _

end Cert.KernelIdeal.Tile

end
-- ==== Proof.Back.lean ====
/- What the third kernel (the rotation undone, and the halo added) leaves in its block on real inputs. -/
module

public import proofs.«01_k».proof.Proof.Rope

@[expose] public section

noncomputable section

namespace Cert.KernelIdeal.Tile

open Idealize.ShloMosaic Idealize.ShloMosaic.TcCoe Idealize.SL.Sem Cert.KernelIdeal Cert.KernelIdeal.Gen Cert.Attn Finset
open WordCmp

/-- The sine table with its sign changed. -/
def negate (s : FVec Ideal S512x128 .f32) : FVec Ideal S512x128 .f32 :=
  subf (broadcast S512x128 (Scalar.ofBits .f32 0x00000000#32)) s

/-- The tile's own sums with the next tile's halo added in the last 128 rows. -/
def addHalo (i : grid2.Coords) (h : FVec Ideal S128x256 .f32) (x : FVec Ideal S512x256 .f32) : FVec Ideal S512x256 .f32 :=
  addf x (select (k2_pay14 (Scalar.cmpi .slt (BitVec.ofNat 32 (i 0).val) 15#32) (iota .tc S512x256 32 [0] iota_S512x256_d0_w32))
    (concatenate S512x256 0 [⟨S384x256, k2_pay13⟩, ⟨S128x256, shapeCast S128x256 h shapeCasts_S128x256_S128x256⟩] concatenates_S384x256_S128x256_S512x256_d0)
    (broadcast S512x256 (Scalar.ofBits .f32 0x00000000#32)))

theorem negate_real {s : FVec Ideal S512x128 .f32} {N : ℕ → ℕ → ℝ}
    (hs : ∀ (i : Fin 512) (l : Fin 128), s (ix2 i l) = ((N i l : ℝ) : EReal)) (i : Fin 512) (l : Fin 128) :
    negate s (ix2 i l) = ((-N i l : ℝ) : EReal) := by
  unfold negate
  pointwise
  rw [hs]
  rw [zero_sub, EReal.coe_neg]

theorem next_apply (i : grid2.Coords) (hi : (i 0).val < 16) (r : Fin 512) (l : Fin 256) :
    k2_pay14 (Scalar.cmpi .slt (BitVec.ofNat 32 (i 0).val) 15#32) (iota .tc S512x256 32 [0] iota_S512x256_d0_w32) (ix2 r l)
      = if (i 0).val < 15 ∧ 384 ≤ r.val then 1#1 else 0#1 := by
  unfold k2_pay14
  dsimp only
  generalize (i 0).val = n at hi
  pointwise
  revert r
  interval_cases n <;> decide +kernel

theorem addHalo_real (i : grid2.Coords) (hi : (i 0).val < 16) {h : FVec Ideal S128x256 .f32} {x : FVec Ideal S512x256 .f32} {H X : ℕ → ℕ → ℝ}
    (hh : ∀ (r : Fin 128) (l : Fin 256), h (ix2 r l) = ((H r l : ℝ) : EReal))
    (hx : ∀ (r : Fin 512) (l : Fin 256), x (ix2 r l) = ((X r l : ℝ) : EReal)) (r : Fin 512) (l : Fin 256) :
    addHalo i h x (ix2 r l) = ((X r l + if (i 0).val < 15 ∧ 384 ≤ r.val then H (r - 384) l else 0 : ℝ) : EReal) := by
  unfold addHalo
  have hm := next_apply i hi r l
  generalize k2_pay14 _ _ = M at hm
  pointwise
  rw [hm, hx, select_if]
  by_cases hr : (i 0).val < 15 ∧ 384 ≤ r.val
  · rw [if_pos hr, if_pos hr, EReal.coe_add]
    refine congrArg₂ (· + ·) rfl ?_
    split_ifs <;> first | (exfalso; omega) | skip
    exact hh _ _
  · rw [if_neg hr, if_neg hr, add_zero, add_zero]

theorem out2_eq (c : Dev nD) (i : grid2.Coords) (arg1 : Memref sig .tc .vmem S512x1024 .f32) (harg1 : arg1.IsWhole) (arg2 : Memref sig .tc .vmem S512x256 .f32) (harg2 : arg2.IsWhole) (arg3 : Memref sig .tc .vmem S128x256 .f32) (harg3 : arg3.IsWhole) (arg4 : Memref sig .tc .vmem S512x256 .f32) (harg4 : arg4.IsWhole) (arg5 : Memref sig .tc .vmem S128x256 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole)
    (x0 : Vec Ideal S512x1024 .f32) (x1 : Vec Ideal S512x256 .f32) (x2 : Vec Ideal S128x256 .f32) (x3 : Vec Ideal S512x256 .f32) (x4 : Vec Ideal S128x256 .f32) (x5 x6 : Vec Ideal S512x128 .f32) :
    out2_A_7 c i arg1 harg1 arg2 harg2 arg3 harg3 arg4 harg4 arg5 harg5 arg6 harg6 arg7 harg7 arg8 harg8 x0 x1 x2 x3 x4 x5 x6 = View.canon [
      ⟨Rect.unit (s := S512x1536) ![0, 1280] S512x256.size inb_S512x1536_S512x256_0_1280, truncf .bf16 (addHalo i x4 x3) bitsLt_bf16_f32⟩,
      ⟨Rect.unit (s := S512x1536) ![0, 1152] S512x128.size inb_S512x1536_S512x128_0_1152,
        rope1 x5 (negate x6) (extractStridedSlice S512x128 ![0, 128] (addHalo i x2 x1) slices_S512x256_o0_128_S512x128)⟩,
      ⟨Rect.unit (s := S512x1536) ![0, 1024] S512x128.size inb_S512x1536_S512x128_0_1024,
        rope1 x5 (negate x6) (extractStridedSlice S512x128 ![0, 0] (addHalo i x2 x1) slices_S512x256_o0_0_S512x128)⟩,
      ⟨Rect.unit (s := S512x1536) ![0, 896] S512x128.size inb_S512x1536_S512x128_0_896,
        rope1 x5 (negate x6) (View.ld x0 (Rect.unit (s := S512x1024) ![0, 896] S512x128.size inb_S512x1024_S512x128_0_896))⟩,
      ⟨Rect.unit (s := S512x1536) ![0, 768] S512x128.size inb_S512x1536_S512x128_0_768,
        rope1 x5 (negate x6) (View.ld x0 (Rect.unit (s := S512x1024) ![0, 768] S512x128.size inb_S512x1024_S512x128_0_768))⟩,
      ⟨Rect.unit (s := S512x1536) ![0, 640] S512x128.size inb_S512x1536_S512x128_0_640,
        rope1 x5 (negate x6) (View.ld x0 (Rect.unit (s := S512x1024) ![0, 640] S512x128.size inb_S512x1024_S512x128_0_640))⟩,
      ⟨Rect.unit (s := S512x1536) ![0, 512] S512x128.size inb_S512x1536_S512x128_0_512,
        rope1 x5 (negate x6) (View.ld x0 (Rect.unit (s := S512x1024) ![0, 512] S512x128.size inb_S512x1024_S512x128_0_512))⟩,
      ⟨Rect.unit (s := S512x1536) ![0, 384] S512x128.size inb_S512x1536_S512x128_0_384,
        rope1 x5 (negate x6) (View.ld x0 (Rect.unit (s := S512x1024) ![0, 384] S512x128.size inb_S512x1024_S512x128_0_384))⟩,
      ⟨Rect.unit (s := S512x1536) ![0, 256] S512x128.size inb_S512x1536_S512x128_0_256,
        rope1 x5 (negate x6) (View.ld x0 (Rect.unit (s := S512x1024) ![0, 256] S512x128.size inb_S512x1024_S512x128_0_256))⟩,
      ⟨Rect.unit (s := S512x1536) ![0, 128] S512x128.size inb_S512x1536_S512x128_0_128,
        rope1 x5 (negate x6) (View.ld x0 (Rect.unit (s := S512x1024) ![0, 128] S512x128.size inb_S512x1024_S512x128_0_128))⟩,
      ⟨Rect.unit (s := S512x1536) ![0, 0] S512x128.size inb_S512x1536_S512x128_0_0,
        rope1 x5 (negate x6) (View.ld x0 (Rect.unit (s := S512x1024) ![0, 0] S512x128.size inb_S512x1024_S512x128_0_0))⟩] := by
  unfold out2_A_7
  rw [View.read_writes_eq_canon _ _ _ (cover2_A_7 c i arg1 harg1 arg2 harg2 arg3 harg3 arg4 harg4 arg5 harg5 arg6 harg6 arg7 harg7 arg8 harg8 x0 x1 x2 x3 x4 x5 x6)]
  unfold kernelRun2_A
  dsimp only
  sl_unfold_words
  simp only [View.readAt_eq_ld, harg1.read_unread, harg2.read_unread, harg3.read_unread, harg4.read_unread, harg5.read_unread, harg6.read_unread, harg7.read_unread]
  rw [View.ld_unit_zero (S := S512x128) z2, View.ld_unit_zero (S := S512x128) z2, View.ld_unit_zero (S := S512x256) z2,
    View.ld_unit_zero (S := S128x256) z2, View.ld_unit_zero (S := S512x256) z2, View.ld_unit_zero (S := S128x256) z2]
  refine congrArg View.canon ?_
  unfold addHalo rope1 negate
  dsimp only [k2_pay1, k2_pay2, k2_pay4, k2_pay5, k2_pay6, k2_pay7, k2_pay8, k2_pay9, k2_pay10, k2_pay11, k2_pay12, k2_pay15, k2_pay16, k2_pay17, k2_pay18]
  simp only [shapeCast_self]
  rfl

/-- The whole row of the gradient block. -/
def backRow (C N Q K W : ℕ → ℕ → ℝ) (i l : ℕ) : ℝ :=
  if l < 1024 then turn C N Q i l else if l < 1280 then turn C N K i (l - 1024) else W i (l - 1280)

/-- With the next tile's halo. -/
def plusHalo (t : ℕ) (X H : ℕ → ℕ → ℝ) (r l : ℕ) : ℝ := X r l + if t < 15 ∧ 384 ≤ r then H (r - 384) l else 0

theorem ldq_real {x0 : Vec Ideal S512x1024 .f32} {X : ℕ → ℕ → ℝ} (hx : ∀ (i : Fin 512) (l : Fin 1024), x0 (ix2 i l) = ((X i l : ℝ) : EReal)) (o : ℕ) (off : Fin 2 → ℕ)
    (h0 : off 0 = 0) (h1 : off 1 = 128 * o) (inb) (i : Fin 512) (l : Fin 128) :
    View.ld x0 (Rect.unit (s := S512x1024) off S512x128.size inb) (ix2 i l) = ((X i (128 * o + l) : ℝ) : EReal) := by
  have hb : off 1 + 128 ≤ 1024 := inb 1
  have hl := l.isLt
  rw [View.ld_unit_apply_of x0 off S512x128.size inb (ix2 i l) (ix2 i ⟨128 * o + l, by omega⟩) (fun a => by
    match a with
    | ⟨0, _⟩ => show i.val = off 0 + i.val; omega
    | ⟨1, _⟩ => show 128 * o + l.val = off 1 + l.val; omega), hx]

theorem half_real {x : FVec Ideal S512x256 .f32} {X : ℕ → ℕ → ℝ} (hx : ∀ (i : Fin 512) (l : Fin 256), x (ix2 i l) = ((X i l : ℝ) : EReal))
    (o : ℕ) (ho : o < 2) (h : S512x256.Slices ![0, 128 * o] S512x128) (i : Fin 512) (l : Fin 128) :
    extractStridedSlice S512x128 ![0, 128 * o] x h (ix2 i l) = ((X i (128 * o + l) : ℝ) : EReal) := by
  have hl := l.isLt
  refine Eq.trans ?_ (hx i ⟨128 * o + l, by omega⟩)
  pointwise

theorem half0_real {x : FVec Ideal S512x256 .f32} {X : ℕ → ℕ → ℝ} (hx : ∀ (i : Fin 512) (l : Fin 256), x (ix2 i l) = ((X i l : ℝ) : EReal))
    (i : Fin 512) (l : Fin 128) :
    extractStridedSlice S512x128 ![0, 0] x slices_S512x256_o0_0_S512x128 (ix2 i l) = ((X i (128 * 0 + l) : ℝ) : EReal) :=
  half_real hx 0 (by omega) _ i l
theorem half1_real {x : FVec Ideal S512x256 .f32} {X : ℕ → ℕ → ℝ} (hx : ∀ (i : Fin 512) (l : Fin 256), x (ix2 i l) = ((X i l : ℝ) : EReal))
    (i : Fin 512) (l : Fin 128) :
    extractStridedSlice S512x128 ![0, 128] x slices_S512x256_o0_128_S512x128 (ix2 i l) = ((X i (128 * 1 + l) : ℝ) : EReal) :=
  half_real hx 1 (by omega) _ i l

theorem backRow_q (C N Q K W : ℕ → ℕ → ℝ) (i l k : ℕ) (hk : k < 8) (h : l / 128 = k) :
    backRow C N Q K W i l = turn C N Q i (128 * k + l - 128 * k) := by
  unfold backRow
  rw [if_pos (show l < 1024 by omega), show 128 * k + l - 128 * k = l by omega]
theorem backRow_k (C N Q K W : ℕ → ℕ → ℝ) (i l j : ℕ) (hj : j < 2) (h : l / 128 = 8 + j) :
    backRow C N Q K W i l = turn C N K i (128 * j + l - 128 * (8 + j)) := by
  unfold backRow
  rw [if_neg (show ¬ l < 1024 by omega), if_pos (show l < 1280 by omega),
    show 128 * j + l - 128 * (8 + j) = l - 1024 by omega]

theorem out2_of (c : Dev nD) (i : grid2.Coords) (arg1 : Memref sig .tc .vmem S512x1024 .f32) (harg1 : arg1.IsWhole) (arg2 : Memref sig .tc .vmem S512x256 .f32) (harg2 : arg2.IsWhole) (arg3 : Memref sig .tc .vmem S128x256 .f32) (harg3 : arg3.IsWhole) (arg4 : Memref sig .tc .vmem S512x256 .f32) (harg4 : arg4.IsWhole) (arg5 : Memref sig .tc .vmem S128x256 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole)
    {x0 : Vec Ideal S512x1024 .f32} {x1 : Vec Ideal S512x256 .f32} {x2 : Vec Ideal S128x256 .f32} {x3 : Vec Ideal S512x256 .f32} {x4 : Vec Ideal S128x256 .f32} {x5 x6 : Vec Ideal S512x128 .f32}
    {Q K W C N : ℕ → ℕ → ℝ}
    (h0 : ∀ (r : Fin 512) (l : Fin 1024), x0 (ix2 r l) = ((Q r l : ℝ) : EReal))
    (hk : ∀ (r : Fin 512) (l : Fin 256), addHalo i x2 x1 (ix2 r l) = ((K r l : ℝ) : EReal))
    (hw : ∀ (r : Fin 512) (l : Fin 256), addHalo i x4 x3 (ix2 r l) = ((W r l : ℝ) : EReal))
    (h5 : ∀ (r : Fin 512) (l : Fin 128), x5 (ix2 r l) = ((C r l : ℝ) : EReal))
    (hn : ∀ (r : Fin 512) (l : Fin 128), negate x6 (ix2 r l) = ((N r l : ℝ) : EReal)) (r : Fin 512) (l : Fin 1536) :
    out2_A_7 c i arg1 harg1 arg2 harg2 arg3 harg3 arg4 harg4 arg5 harg5 arg6 harg6 arg7 harg7 arg8 harg8 x0 x1 x2 x3 x4 x5 x6 (ix2 r l) = ((backRow C N Q K W r l : ℝ) : EReal) := by
  rw [out2_eq]
  refine View.canon_eq_of_allAt _ _ _ (View.cover_of_tiledBy _ ![512, 128] (by sl_kernel_rfl) _) ?_
  refine View.allAt_cons_unit _ _ _ _ _ ?_ ?_
  · intro x hx
    obtain ⟨i', l', rfl⟩ : ∃ (i' : Fin 512) (l' : Fin 256), x = ix2 i' l' := ⟨x 0, x 1, eq_ix2 x⟩
    have e0 : r.val = 0 + i'.val := hx 0
    have e1 : l.val = 1280 + l'.val := hx 1
    refine (hw i' l').trans (congrArg _ ?_)
    unfold backRow
    rw [if_neg (show ¬ l.val < 1024 by omega), if_neg (show ¬ l.val < 1280 by omega), show r.val = i'.val by omega,
      show l.val - 1280 = l'.val by omega]
  refine View.allAt_cons_unit _ _ _ _ _ (tile_real h5 hn 1 9 (backRow C N Q K W)
    (X := K) (t := extractStridedSlice S512x128 ![0, 128] (addHalo i x2 x1) slices_S512x256_o0_128_S512x128) (fun i l h => backRow_k C N Q K W i l 1 (by omega) h)
    (half1_real hk) _ rfl rfl r l) ?_
  refine View.allAt_cons_unit _ _ _ _ _ (tile_real h5 hn 0 8 (backRow C N Q K W)
    (X := K) (t := extractStridedSlice S512x128 ![0, 0] (addHalo i x2 x1) slices_S512x256_o0_0_S512x128) (fun i l h => backRow_k C N Q K W i l 0 (by omega) h)
    (half0_real hk) _ rfl rfl r l) ?_
  refine View.allAt_cons_unit _ _ _ _ _ (tile_real h5 hn 7 7 (backRow C N Q K W)
    (fun i l h => backRow_q C N Q K W i l 7 (by omega) h) (ldq_real h0 7 _ rfl rfl _) _ rfl rfl r l) ?_
  refine View.allAt_cons_unit _ _ _ _ _ (tile_real h5 hn 6 6 (backRow C N Q K W)
    (fun i l h => backRow_q C N Q K W i l 6 (by omega) h) (ldq_real h0 6 _ rfl rfl _) _ rfl rfl r l) ?_
  refine View.allAt_cons_unit _ _ _ _ _ (tile_real h5 hn 5 5 (backRow C N Q K W)
    (fun i l h => backRow_q C N Q K W i l 5 (by omega) h) (ldq_real h0 5 _ rfl rfl _) _ rfl rfl r l) ?_
  refine View.allAt_cons_unit _ _ _ _ _ (tile_real h5 hn 4 4 (backRow C N Q K W)
    (fun i l h => backRow_q C N Q K W i l 4 (by omega) h) (ldq_real h0 4 _ rfl rfl _) _ rfl rfl r l) ?_
  refine View.allAt_cons_unit _ _ _ _ _ (tile_real h5 hn 3 3 (backRow C N Q K W)
    (fun i l h => backRow_q C N Q K W i l 3 (by omega) h) (ldq_real h0 3 _ rfl rfl _) _ rfl rfl r l) ?_
  refine View.allAt_cons_unit _ _ _ _ _ (tile_real h5 hn 2 2 (backRow C N Q K W)
    (fun i l h => backRow_q C N Q K W i l 2 (by omega) h) (ldq_real h0 2 _ rfl rfl _) _ rfl rfl r l) ?_
  refine View.allAt_cons_unit _ _ _ _ _ (tile_real h5 hn 1 1 (backRow C N Q K W)
    (fun i l h => backRow_q C N Q K W i l 1 (by omega) h) (ldq_real h0 1 _ rfl rfl _) _ rfl rfl r l) ?_
  refine View.allAt_cons_unit _ _ _ _ _ (tile_real h5 hn 0 0 (backRow C N Q K W)
    (fun i l h => backRow_q C N Q K W i l 0 (by omega) h) (ldq_real h0 0 _ rfl rfl _) _ rfl rfl r l) ?_
  exact View.allAt_nil _ _

theorem out2_real (c : Dev nD) (i : grid2.Coords) (hi : (i 0).val < 16) (arg1 : Memref sig .tc .vmem S512x1024 .f32) (harg1 : arg1.IsWhole) (arg2 : Memref sig .tc .vmem S512x256 .f32) (harg2 : arg2.IsWhole) (arg3 : Memref sig .tc .vmem S128x256 .f32) (harg3 : arg3.IsWhole) (arg4 : Memref sig .tc .vmem S512x256 .f32) (harg4 : arg4.IsWhole) (arg5 : Memref sig .tc .vmem S128x256 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole)
    {x0 : Vec Ideal S512x1024 .f32} {x1 : Vec Ideal S512x256 .f32} {x2 : Vec Ideal S128x256 .f32} {x3 : Vec Ideal S512x256 .f32} {x4 : Vec Ideal S128x256 .f32} {x5 x6 : Vec Ideal S512x128 .f32}
    {Q K HK W HW C N : ℕ → ℕ → ℝ}
    (h0 : ∀ (r : Fin 512) (l : Fin 1024), x0 (ix2 r l) = ((Q r l : ℝ) : EReal))
    (h1 : ∀ (r : Fin 512) (l : Fin 256), x1 (ix2 r l) = ((K r l : ℝ) : EReal))
    (h2 : ∀ (r : Fin 128) (l : Fin 256), x2 (ix2 r l) = ((HK r l : ℝ) : EReal))
    (h3 : ∀ (r : Fin 512) (l : Fin 256), x3 (ix2 r l) = ((W r l : ℝ) : EReal))
    (h4 : ∀ (r : Fin 128) (l : Fin 256), x4 (ix2 r l) = ((HW r l : ℝ) : EReal))
    (h5 : ∀ (r : Fin 512) (l : Fin 128), x5 (ix2 r l) = ((C r l : ℝ) : EReal))
    (h6 : ∀ (r : Fin 512) (l : Fin 128), x6 (ix2 r l) = ((N r l : ℝ) : EReal)) (r : Fin 512) (l : Fin 1536) :
    out2_A_7 c i arg1 harg1 arg2 harg2 arg3 harg3 arg4 harg4 arg5 harg5 arg6 harg6 arg7 harg7 arg8 harg8 x0 x1 x2 x3 x4 x5 x6 (ix2 r l)
      = ((backRow C (fun r l => -N r l) Q (plusHalo (i 0).val K HK) (plusHalo (i 0).val W HW) r l : ℝ) : EReal) :=
  out2_of c i arg1 harg1 arg2 harg2 arg3 harg3 arg4 harg4 arg5 harg5 arg6 harg6 arg7 harg7 arg8 harg8 (N := fun r l => -N r l) (K := plusHalo (i 0).val K HK) (W := plusHalo (i 0).val W HW)
    h0 (addHalo_real i hi h2 h1) (addHalo_real i hi h4 h3) h5 (negate_real h6) r l

end Cert.KernelIdeal.Tile

end
-- ==== Proof.Region2.lean ====
/- What the third kernel leaves in the gradient of the projected row, from the arrays it reads. -/
module

public import proofs.«01_k».proof.Proof.Back

@[expose] public section

noncomputable section

namespace Cert.KernelIdeal.Tile

open Idealize.ShloMosaic Idealize.ShloMosaic.TcCoe Idealize.SL.Sem Cert.KernelIdeal Cert.KernelIdeal.Gen Cert.Attn Finset
open Idealize.ShloMosaic.Pipeline (Dat)

variable (V : (c : Dev nD) → (b : Ref sig .tc) → Buf (Elt Ideal) ((c : Thread nD τ).loc b)) (c : Dev nD)

theorem lt2 (t : Fin cfg2.N) : t.val < 16 := t.isLt
theorem pt2 (t : Fin cfg2.N) : (grid2.coords t 0).val = t.val := by revert t; decide +kernel

theorem at2_0 (t : Fin cfg2.N) : win2_0.index t 0 = t.val ∧ win2_0.index t 1 = 0 := by revert t; decide +kernel
theorem at2_1 (t : Fin cfg2.N) : win2_1.index t 0 = t.val ∧ win2_1.index t 1 = 0 := by revert t; decide +kernel
theorem at2_2 (t : Fin cfg2.N) : win2_2.index t 0 = min (t.val + 1) 15 ∧ win2_2.index t 1 = 0 := by revert t; decide +kernel
theorem at2_3 (t : Fin cfg2.N) : win2_3.index t 0 = t.val ∧ win2_3.index t 1 = 0 := by revert t; decide +kernel
theorem at2_4 (t : Fin cfg2.N) : win2_4.index t 0 = min (t.val + 1) 15 ∧ win2_4.index t 1 = 0 := by revert t; decide +kernel
theorem at2_5 (t : Fin cfg2.N) : win2_5.index t 0 = t.val ∧ win2_5.index t 1 = 0 := by revert t; decide +kernel
theorem at2_6 (t : Fin cfg2.N) : win2_6.index t 0 = t.val ∧ win2_6.index t 1 = 0 := by revert t; decide +kernel
theorem at2_7 (t : Fin cfg2.N) : win2_7.index t 0 = t.val ∧ win2_7.index t 1 = 0 := by revert t; decide +kernel

theorem iblk2_0_apply (t : Fin cfg2.N) (r : Fin 512) (l : Fin 1024) :
    (iblk2 V c 0 t : Vec Ideal S512x1024 .f32) (ix2 r l) = (V c main_v24_0 : Vec Ideal S8192x1024 .f32)
      (ix2 ⟨512 * (t.val) + r, by have := lt2 t; omega⟩ l) := by
  unfold iblk2
  rw [View.read_apply]
  show V c main_v24_0 _ = _
  congr 1
  funext a
  apply Fin.ext
  have h := at2_0 t
  match a with
  | ⟨0, _⟩ => show win2_0.index t 0 * 512 + 1 * r.val = 512 * (t.val) + r.val
              omega
  | ⟨1, _⟩ => show win2_0.index t 1 * 1024 + 1 * l.val = l.val
              omega

theorem iblk2_1_apply (t : Fin cfg2.N) (r : Fin 512) (l : Fin 256) :
    (iblk2 V c 1 t : Vec Ideal S512x256 .f32) (ix2 r l) = (V c main_v24_1 : Vec Ideal S8192x256 .f32)
      (ix2 ⟨512 * (t.val) + r, by have := lt2 t; omega⟩ l) := by
  unfold iblk2
  rw [View.read_apply]
  show V c main_v24_1 _ = _
  congr 1
  funext a
  apply Fin.ext
  have h := at2_1 t
  match a with
  | ⟨0, _⟩ => show win2_1.index t 0 * 512 + 1 * r.val = 512 * (t.val) + r.val
              omega
  | ⟨1, _⟩ => show win2_1.index t 1 * 256 + 1 * l.val = l.val
              omega

theorem iblk2_2_apply (t : Fin cfg2.N) (r : Fin 128) (l : Fin 256) :
    (iblk2 V c 2 t : Vec Ideal S128x256 .f32) (ix2 r l) = (V c main_v24_2 : Vec Ideal S2048x256 .f32)
      (ix2 ⟨128 * (min (t.val + 1) 15) + r, by have := lt2 t; omega⟩ l) := by
  unfold iblk2
  rw [View.read_apply]
  show V c main_v24_2 _ = _
  congr 1
  funext a
  apply Fin.ext
  have h := at2_2 t
  match a with
  | ⟨0, _⟩ => show win2_2.index t 0 * 128 + 1 * r.val = 128 * (min (t.val + 1) 15) + r.val
              omega
  | ⟨1, _⟩ => show win2_2.index t 1 * 256 + 1 * l.val = l.val
              omega

theorem iblk2_3_apply (t : Fin cfg2.N) (r : Fin 512) (l : Fin 256) :
    (iblk2 V c 3 t : Vec Ideal S512x256 .f32) (ix2 r l) = (V c main_v24_3 : Vec Ideal S8192x256 .f32)
      (ix2 ⟨512 * (t.val) + r, by have := lt2 t; omega⟩ l) := by
  unfold iblk2
  rw [View.read_apply]
  show V c main_v24_3 _ = _
  congr 1
  funext a
  apply Fin.ext
  have h := at2_3 t
  match a with
  | ⟨0, _⟩ => show win2_3.index t 0 * 512 + 1 * r.val = 512 * (t.val) + r.val
              omega
  | ⟨1, _⟩ => show win2_3.index t 1 * 256 + 1 * l.val = l.val
              omega

theorem iblk2_4_apply (t : Fin cfg2.N) (r : Fin 128) (l : Fin 256) :
    (iblk2 V c 4 t : Vec Ideal S128x256 .f32) (ix2 r l) = (V c main_v24_4 : Vec Ideal S2048x256 .f32)
      (ix2 ⟨128 * (min (t.val + 1) 15) + r, by have := lt2 t; omega⟩ l) := by
  unfold iblk2
  rw [View.read_apply]
  show V c main_v24_4 _ = _
  congr 1
  funext a
  apply Fin.ext
  have h := at2_4 t
  match a with
  | ⟨0, _⟩ => show win2_4.index t 0 * 128 + 1 * r.val = 128 * (min (t.val + 1) 15) + r.val
              omega
  | ⟨1, _⟩ => show win2_4.index t 1 * 256 + 1 * l.val = l.val
              omega

theorem iblk2_5_apply (t : Fin cfg2.N) (r : Fin 512) (l : Fin 128) :
    (iblk2 V c 5 t : Vec Ideal S512x128 .f32) (ix2 r l) = (V c main_v18 : Vec Ideal S8192x128 .f32)
      (ix2 ⟨512 * (t.val) + r, by have := lt2 t; omega⟩ l) := by
  unfold iblk2
  rw [View.read_apply]
  show V c main_v18 _ = _
  congr 1
  funext a
  apply Fin.ext
  have h := at2_5 t
  match a with
  | ⟨0, _⟩ => show win2_5.index t 0 * 512 + 1 * r.val = 512 * (t.val) + r.val
              omega
  | ⟨1, _⟩ => show win2_5.index t 1 * 128 + 1 * l.val = l.val
              omega

theorem iblk2_6_apply (t : Fin cfg2.N) (r : Fin 512) (l : Fin 128) :
    (iblk2 V c 6 t : Vec Ideal S512x128 .f32) (ix2 r l) = (V c main_v21 : Vec Ideal S8192x128 .f32)
      (ix2 ⟨512 * (t.val) + r, by have := lt2 t; omega⟩ l) := by
  unfold iblk2
  rw [View.read_apply]
  show V c main_v21 _ = _
  congr 1
  funext a
  apply Fin.ext
  have h := at2_6 t
  match a with
  | ⟨0, _⟩ => show win2_6.index t 0 * 512 + 1 * r.val = 512 * (t.val) + r.val
              omega
  | ⟨1, _⟩ => show win2_6.index t 1 * 128 + 1 * l.val = l.val
              omega

/-- The sums of a tile's own blocks with what the next tile sends to its last block. -/
def withNext (K H : ℕ → ℕ → ℝ) (row l : ℕ) : ℝ :=
  K row l + if row / 512 < 15 ∧ 384 ≤ row % 512 then H (128 * (row / 512 + 1) + (row % 512 - 384)) l else 0

theorem backRow_at {C N Q K W C' N' Q' K' W' : ℕ → ℕ → ℝ} (i r : ℕ) (hC : ∀ l, C i l = C' r l) (hN : ∀ l, N i l = N' r l)
    (hQ : ∀ l, Q i l = Q' r l) (hK : ∀ l, K i l = K' r l) (hW : ∀ l, W i l = W' r l) (l : ℕ) :
    backRow C N Q K W i l = backRow C' N' Q' K' W' r l := by
  unfold backRow turn
  simp only [hC, hN, hQ, hK, hW]

theorem plusHalo_at (K H : ℕ → ℕ → ℝ) (t i l : ℕ) (ht : t < 16) (hi : i < 512) :
    plusHalo t (fun r l => K (512 * t + r) l) (fun r l => H (128 * min (t + 1) 15 + r) l) i l = withNext K H (512 * t + i) l := by
  unfold plusHalo withNext
  rw [show (512 * t + i) / 512 = t by omega, show (512 * t + i) % 512 = i by omega]
  by_cases h : t < 15 ∧ 384 ≤ i
  · rw [if_pos h, if_pos h, show min (t + 1) 15 = t + 1 by omega]
  · rw [if_neg h, if_neg h]

variable {V c} {Q K HK W HW C N : ℕ → ℕ → ℝ}
    (h0 : ∀ (r : Fin 8192) (l : Fin 1024), (V c main_v24_0 : Vec Ideal S8192x1024 .f32) (ix2 r l) = ((Q r l : ℝ) : EReal))
    (h1 : ∀ (r : Fin 8192) (l : Fin 256), (V c main_v24_1 : Vec Ideal S8192x256 .f32) (ix2 r l) = ((K r l : ℝ) : EReal))
    (h2 : ∀ (r : Fin 2048) (l : Fin 256), (V c main_v24_2 : Vec Ideal S2048x256 .f32) (ix2 r l) = ((HK r l : ℝ) : EReal))
    (h3 : ∀ (r : Fin 8192) (l : Fin 256), (V c main_v24_3 : Vec Ideal S8192x256 .f32) (ix2 r l) = ((W r l : ℝ) : EReal))
    (h4 : ∀ (r : Fin 2048) (l : Fin 256), (V c main_v24_4 : Vec Ideal S2048x256 .f32) (ix2 r l) = ((HW r l : ℝ) : EReal))
    (h5 : ∀ (r : Fin 8192) (l : Fin 128), (V c main_v18 : Vec Ideal S8192x128 .f32) (ix2 r l) = ((C r l : ℝ) : EReal))
    (h6 : ∀ (r : Fin 8192) (l : Fin 128), (V c main_v21 : Vec Ideal S8192x128 .f32) (ix2 r l) = ((N r l : ℝ) : EReal))
include h0 h1 h2 h3 h4 h5 h6

theorem outsAt2_real (t : Fin cfg2.N) (r : Fin 512) (l : Fin 1536) :
    outsAt2 V c t (ix2 r l) = ((backRow (fun r l => C (512 * t.val + r) l) (fun r l => -N (512 * t.val + r) l)
      (fun r l => Q (512 * t.val + r) l) (plusHalo t.val (fun r l => K (512 * t.val + r) l) (fun r l => HK (128 * min (t.val + 1) 15 + r) l))
      (plusHalo t.val (fun r l => W (512 * t.val + r) l) (fun r l => HW (128 * min (t.val + 1) 15 + r) l)) r l : ℝ) : EReal) := by
  have h := out2_real c (grid2.coords t) (by rw [pt2]; exact lt2 t) (ms2_0 t) (hs2_0 t) (ms2_1 t) (hs2_1 t) (ms2_2 t) (hs2_2 t)
    (ms2_3 t) (hs2_3 t) (ms2_4 t) (hs2_4 t) (ms2_5 t) (hs2_5 t) (ms2_6 t) (hs2_6 t) (ms2_7 t) (hs2_7 t)
    (Q := fun r l => Q (512 * t.val + r) l) (K := fun r l => K (512 * t.val + r) l) (HK := fun r l => HK (128 * min (t.val + 1) 15 + r) l)
    (W := fun r l => W (512 * t.val + r) l) (HW := fun r l => HW (128 * min (t.val + 1) 15 + r) l)
    (C := fun r l => C (512 * t.val + r) l) (N := fun r l => N (512 * t.val + r) l)
    (fun r l => (iblk2_0_apply V c t r l).trans (h0 _ _))
    (fun r l => (iblk2_1_apply V c t r l).trans (h1 _ _))
    (fun r l => (iblk2_2_apply V c t r l).trans (h2 _ _))
    (fun r l => (iblk2_3_apply V c t r l).trans (h3 _ _))
    (fun r l => (iblk2_4_apply V c t r l).trans (h4 _ _))
    (fun r l => (iblk2_5_apply V c t r l).trans (h5 _ _))
    (fun r l => (iblk2_6_apply V c t r l).trans (h6 _ _))
    r l
  rw [pt2] at h
  exact h

theorem arr2_7 (i : S8192x1536.Idx) :
    ((dat2 V c).arrAt 7 cfg2.N : Vec Ideal S8192x1536 .bf16) i
      = ((backRow C (fun r l => -N r l) Q (withNext K HK) (withNext W HW) (i 0).val (i 1).val : ℝ) : EReal) := by
  refine (dat2 V c).arrAt_forall_of_covers 7
    (fun i v => v = ((backRow C (fun r l => -N r l) Q (withNext K HK) (withNext W HW) (i 0).val (i 1).val : ℝ) : EReal))
    (by decide +kernel) (fun t hf y => ?_) i
  rw [after2_7]
  have ht := lt2 t
  have hy0 : (y 0).val < 512 := (y 0).isLt
  have hy1 : (y 1).val < 1536 := (y 1).isLt
  have hi := at2_7 t
  have e0 : ((((cfg2.win 7).blk t).view.emb y) 0).val = 512 * t.val + (y 0).val := by
    show win2_7.index t 0 * 512 + 1 * (y 0).val = _
    omega
  have e1 : ((((cfg2.win 7).blk t).view.emb y) 1).val = (y 1).val := by
    show win2_7.index t 1 * 1536 + 1 * (y 1).val = _
    omega
  have h := outsAt2_real h0 h1 h2 h3 h4 h5 h6 t (y 0) (y 1)
  show _ = ((backRow C (fun r l => -N r l) Q (withNext K HK) (withNext W HW) (((((cfg2.win 7).blk t).view.emb y) 0).val) (((((cfg2.win 7).blk t).view.emb y) 1).val) : ℝ) : EReal)
  rw [e0, e1]
  refine Eq.trans ?_ (h.trans (congrArg _ ?_))
  · generalize outsAt2 V c t = f
    refine congrArg f (funext fun a => ?_)
    match a with
    | ⟨0, _⟩ => rfl
    | ⟨1, _⟩ => rfl
  · exact backRow_at (y 0).val (512 * t.val + (y 0).val) (fun _ => rfl) (fun _ => rfl) (fun _ => rfl)
      (fun l => plusHalo_at K HK t.val (y 0).val l ht hy0) (fun l => plusHalo_at W HW t.val (y 0).val l ht hy0) (y 1).val

end Cert.KernelIdeal.Tile

end
-- ==== Proof.Laws.lean ====
/- Equations between the specification's functions and the forms the three kernels leave them in. -/
module

public import proofs.«01_k».proof.Proof.Region1
public import proofs.«01_k».proof.Proof.Region2

@[expose] public section

noncomputable section

namespace Cert.KernelIdeal.Val

open Idealize.ShloMosaic Cert.KernelIdeal.Tile Cert.KernelIdeal.Cell Cert.Attn Finset

/-- The tables as the kernels hold them: four copies of 32 lanes, the sines negative in the first half of a head. -/
def cos4 (C : ℕ → ℕ → ℝ) (r l : ℕ) : ℝ := C r (l % 32)
def sin4 (N : ℕ → ℕ → ℝ) (r l : ℕ) : ℝ := if l % 64 < 32 then -N r (l % 32) else N r (l % 32)

theorem turn_rot (C N X : ℕ → ℕ → ℝ) (r l : ℕ) : turn (cos4 C) (sin4 N) X r l = rot X C N r l := by
  unfold turn rot cos4 sin4
  rw [show l % 128 % 32 = l % 32 by omega, show l % 128 % 64 = l % 64 by omega]
  by_cases h : l % 64 < 32
  · rw [if_pos h, if_pos h, if_pos h, show l % 64 = l % 32 by omega]; ring
  · rw [if_neg h, if_neg h, if_neg h, show l % 64 - 32 = l % 32 by omega]

theorem turn_unrot (C N Y : ℕ → ℕ → ℝ) (r l : ℕ) :
    turn (cos4 C) (fun r l => -sin4 N r l) Y r l = unrot Y C N r l := by
  unfold turn unrot cos4 sin4
  dsimp only
  rw [show l % 128 % 32 = l % 32 by omega, show l % 128 % 64 = l % 64 by omega]
  by_cases h : l % 64 < 32
  · rw [if_pos h, if_pos h, if_pos h, show l % 64 = l % 32 by omega]; ring
  · rw [if_neg h, if_neg h, if_neg h, show l % 64 - 32 = l % 32 by omega]; ring

theorem rot_shift (C N X : ℕ → ℕ → ℝ) (r l : ℕ) : rot X C N r (1024 + l) = rot (fun r c => X r (1024 + c)) C N r l := by
  unfold rot
  rw [show (1024 + l) % 64 = l % 64 by omega]
  by_cases h : l % 64 < 32
  · rw [if_pos h, if_pos h, show 1024 + l + 32 = 1024 + (l + 32) by omega]
  · rw [if_neg h, if_neg h, show 1024 + l - 32 = 1024 + (l - 32) by omega]

/-- A tile's own sums and the next tile's halo make what every block sends and what its next block sends. -/
theorem withNext_eq (w : ℕ → ℕ → ℕ → ℕ → ℝ) (row col : ℕ) (h : row < 8192) :
    withNext (inCell w) (halo w) row col
      = w (row / 128) (col / 64) (128 + row % 128) (col % 64)
        + if row / 128 + 1 < 64 then w (row / 128 + 1) (col / 64) (row % 128) (col % 64) else 0 := by
  unfold withNext inCell halo
  by_cases h1 : row % 512 / 128 < 3
  · rw [if_pos h1, if_neg (by omega), if_pos (by omega), add_zero]
  · rw [if_neg h1, add_zero]
    by_cases h2 : row / 512 < 15
    · rw [if_pos (by omega), if_pos (by omega),
        show 4 * ((128 * (row / 512 + 1) + (row % 512 - 384)) / 128) = row / 128 + 1 by omega,
        show (128 * (row / 512 + 1) + (row % 512 - 384)) % 128 = row % 128 by omega]
    · rw [if_neg (by omega), if_neg (by omega)]

theorem backRow_out (A : Data) (C N : ℕ → ℕ → ℝ) (row col : ℕ) (h : row < 8192) :
    backRow (cos4 C) (fun r l => -sin4 N r l) (dq A) (withNext (inCell (dkw A)) (halo (dkw A)))
      (withNext (inCell (dvw A)) (halo (dvw A))) row col = out A C N row col := by
  have hk : ∀ l, withNext (inCell (dkw A)) (halo (dkw A)) row l = dk A row l := fun l => withNext_eq (dkw A) row l h
  have hv : ∀ l, withNext (inCell (dvw A)) (halo (dvw A)) row l = dv A row l := fun l => withNext_eq (dvw A) row l h
  unfold backRow out
  rw [turn_unrot, turn_unrot, hv]
  unfold unrot
  rw [hk, hk, hk]

theorem sum_blocks (f : ℕ → ℝ) (n : ℕ) : ∑ u ∈ range n, ∑ b ∈ range 4, f (4 * u + b) = ∑ k ∈ range (4 * n), f k := by
  induction n with
  | zero => rfl
  | succ n ih =>
    rw [sum_range_succ, ih, show 4 * (n + 1) = 4 * n + 4 by omega, sum_range_add]

theorem planes_dsink (A : Data) (h : ℕ) (h16 : h < 16) :
    ∑ u ∈ range 16, dsF A (h / 4 / 2) u (h / 4 % 2) (h % 4) = dsink A h := by
  unfold dsink
  rw [show (64 : ℕ) = 4 * 16 from rfl, ← sum_blocks, ← sum_neg_distrib]
  refine sum_congr rfl fun u _ => ?_
  unfold dsF
  rw [if_pos (by omega), show 8 * (h / 4 / 2) + 4 * (h / 4 % 2) + h % 4 = h by omega]

end Cert.KernelIdeal.Val

end
-- ==== Proof.Region0.lean ====
/- What the rotary kernel leaves in its three arrays: the rotated queries, the rotated keys, the values. -/
module

public import proofs.«01_k».proof.Proof.Rope

@[expose] public section

noncomputable section

namespace Cert.KernelIdeal.Tile

open Idealize.ShloMosaic Idealize.ShloMosaic.TcCoe Idealize.SL.Sem Cert.KernelIdeal Cert.KernelIdeal.Gen Cert.Attn Finset
open Idealize.ShloMosaic.Pipeline (Dat)

variable (V : (c : Dev nD) → (b : Ref sig .tc) → Buf (Elt Ideal) ((c : Thread nD τ).loc b)) (c : Dev nD)

theorem lt0 (t : Fin cfg0.N) : t.val < 16 := t.isLt

/-! ### Every window's block at point `t` is rows `512 t …` of its array -/

theorem at0_0 (t : Fin cfg0.N) : win0_0.index t 0 = t.val ∧ win0_0.index t 1 = 0 := by revert t; decide +kernel
theorem at0_1 (t : Fin cfg0.N) : win0_1.index t 0 = t.val ∧ win0_1.index t 1 = 0 := by revert t; decide +kernel
theorem at0_2 (t : Fin cfg0.N) : win0_2.index t 0 = t.val ∧ win0_2.index t 1 = 0 := by revert t; decide +kernel
theorem at0_3 (t : Fin cfg0.N) : win0_3.index t 0 = t.val ∧ win0_3.index t 1 = 0 := by revert t; decide +kernel
theorem at0_4 (t : Fin cfg0.N) : win0_4.index t 0 = t.val ∧ win0_4.index t 1 = 0 := by revert t; decide +kernel
theorem at0_5 (t : Fin cfg0.N) : win0_5.index t 0 = t.val ∧ win0_5.index t 1 = 0 := by revert t; decide +kernel

theorem iblk0_0_apply (t : Fin cfg0.N) (i : Fin 512) (l : Fin 1536) :
    (iblk0 V c 0 t : Vec Ideal S512x1536 .f32) (ix2 i l)
      = (V c main_arg0 : Vec Ideal S8192x1536 .f32) (ix2 ⟨512 * t + i, by have := lt0 t; omega⟩ l) := by
  unfold iblk0
  rw [View.read_apply]
  show V c main_arg0 _ = _
  congr 1
  funext a
  apply Fin.ext
  have h := at0_0 t
  match a with
  | ⟨0, _⟩ => show win0_0.index t 0 * 512 + 1 * i.val = 512 * t.val + i.val
              omega
  | ⟨1, _⟩ => show win0_0.index t 1 * 1536 + 1 * l.val = l.val
              omega

theorem iblk0_1_apply (t : Fin cfg0.N) (i : Fin 512) (l : Fin 128) :
    (iblk0 V c 1 t : Vec Ideal S512x128 .f32) (ix2 i l)
      = (V c main_v18 : Vec Ideal S8192x128 .f32) (ix2 ⟨512 * t + i, by have := lt0 t; omega⟩ l) := by
  unfold iblk0
  rw [View.read_apply]
  show V c main_v18 _ = _
  congr 1
  funext a
  apply Fin.ext
  have h := at0_1 t
  match a with
  | ⟨0, _⟩ => show win0_1.index t 0 * 512 + 1 * i.val = 512 * t.val + i.val
              omega
  | ⟨1, _⟩ => show win0_1.index t 1 * 128 + 1 * l.val = l.val
              omega

theorem iblk0_2_apply (t : Fin cfg0.N) (i : Fin 512) (l : Fin 128) :
    (iblk0 V c 2 t : Vec Ideal S512x128 .f32) (ix2 i l)
      = (V c main_v21 : Vec Ideal S8192x128 .f32) (ix2 ⟨512 * t + i, by have := lt0 t; omega⟩ l) := by
  unfold iblk0
  rw [View.read_apply]
  show V c main_v21 _ = _
  congr 1
  funext a
  apply Fin.ext
  have h := at0_2 t
  match a with
  | ⟨0, _⟩ => show win0_2.index t 0 * 512 + 1 * i.val = 512 * t.val + i.val
              omega
  | ⟨1, _⟩ => show win0_2.index t 1 * 128 + 1 * l.val = l.val
              omega

/-- A row of block `t` is that row of the array. -/
theorem turn_shift (C N X : ℕ → ℕ → ℝ) (o i l : ℕ) :
    turn (fun i l => C (o + i) l) (fun i l => N (o + i) l) (fun i l => X (o + i) l) i l = turn C N X (o + i) l := rfl

variable {X C N : ℕ → ℕ → ℝ}
  (hx : ∀ (i : Fin 8192) (l : Fin 1536), (V c main_arg0 : Vec Ideal S8192x1536 .f32) (ix2 i l) = ((X i l : ℝ) : EReal))
  (hc : ∀ (i : Fin 8192) (l : Fin 128), (V c main_v18 : Vec Ideal S8192x128 .f32) (ix2 i l) = ((C i l : ℝ) : EReal))
  (hs : ∀ (i : Fin 8192) (l : Fin 128), (V c main_v21 : Vec Ideal S8192x128 .f32) (ix2 i l) = ((N i l : ℝ) : EReal))

include hx hc hs in
/-- The rotated queries. -/
theorem arr0_3 (i : S8192x1024.Idx) :
    ((dat0 V c).arrAt 3 cfg0.N : Vec Ideal S8192x1024 .bf16) i = ((turn C N X (i 0).val (i 1).val : ℝ) : EReal) := by
  refine (dat0 V c).arrAt_forall_of_covers 3 (fun i v => v = ((turn C N X (i 0).val (i 1).val : ℝ) : EReal))
    (by decide +kernel) (fun t hf y => ?_) i
  rw [after0_3]
  have h := out0_3_real (X := fun i l => X (512 * t + i) l) (C := fun i l => C (512 * t + i) l) (N := fun i l => N (512 * t + i) l)
    (fun i l => (iblk0_0_apply V c t i l).trans (hx _ _)) (fun i l => (iblk0_1_apply V c t i l).trans (hc _ _))
    (fun i l => (iblk0_2_apply V c t i l).trans (hs _ _)) (y 0) (y 1)
  rw [turn_shift] at h
  have hi := at0_3 t
  have e0 : ((((cfg0.win 3).blk t).view.emb y) 0).val = 512 * t.val + (y 0).val := by
    show win0_3.index t 0 * 512 + 1 * (y 0).val = _
    omega
  have e1 : ((((cfg0.win 3).blk t).view.emb y) 1).val = (y 1).val := by
    show win0_3.index t 1 * 1024 + 1 * (y 1).val = _
    omega
  show _ = ((turn C N X ((((cfg0.win 3).blk t).view.emb y) 0).val ((((cfg0.win 3).blk t).view.emb y) 1).val : ℝ) : EReal)
  rw [e0, e1, ← h]
  show out0_3 _ _ _ _ = out0_3 _ _ _ _
  congr 1
  funext a
  match a with
  | ⟨0, _⟩ => rfl
  | ⟨1, _⟩ => rfl

include hx hc hs in
/-- The rotated keys. -/
theorem arr0_4 (i : S8192x256.Idx) :
    ((dat0 V c).arrAt 4 cfg0.N : Vec Ideal S8192x256 .bf16) i = ((turn C N X (i 0).val (1024 + (i 1).val) : ℝ) : EReal) := by
  refine (dat0 V c).arrAt_forall_of_covers 4 (fun i v => v = ((turn C N X (i 0).val (1024 + (i 1).val) : ℝ) : EReal))
    (by decide +kernel) (fun t hf y => ?_) i
  rw [after0_4]
  have h := out0_4_real (X := fun i l => X (512 * t + i) l) (C := fun i l => C (512 * t + i) l) (N := fun i l => N (512 * t + i) l)
    (fun i l => (iblk0_0_apply V c t i l).trans (hx _ _)) (fun i l => (iblk0_1_apply V c t i l).trans (hc _ _))
    (fun i l => (iblk0_2_apply V c t i l).trans (hs _ _)) (y 0) (y 1)
  rw [turn_shift] at h
  have hi := at0_4 t
  have e0 : ((((cfg0.win 4).blk t).view.emb y) 0).val = 512 * t.val + (y 0).val := by
    show win0_4.index t 0 * 512 + 1 * (y 0).val = _
    omega
  have e1 : ((((cfg0.win 4).blk t).view.emb y) 1).val = (y 1).val := by
    show win0_4.index t 1 * 256 + 1 * (y 1).val = _
    omega
  show _ = ((turn C N X ((((cfg0.win 4).blk t).view.emb y) 0).val (1024 + ((((cfg0.win 4).blk t).view.emb y) 1).val) : ℝ) : EReal)
  rw [e0, e1, ← h]
  show out0_4 _ _ _ _ = out0_4 _ _ _ _
  congr 1
  funext a
  match a with
  | ⟨0, _⟩ => rfl
  | ⟨1, _⟩ => rfl

include hx in
/-- The values. -/
theorem arr0_5 (i : S8192x256.Idx) :
    ((dat0 V c).arrAt 5 cfg0.N : Vec Ideal S8192x256 .bf16) i = ((X (i 0).val (1280 + (i 1).val) : ℝ) : EReal) := by
  refine (dat0 V c).arrAt_forall_of_covers 5 (fun i v => v = ((X (i 0).val (1280 + (i 1).val) : ℝ) : EReal))
    (by decide +kernel) (fun t hf y => ?_) i
  rw [after0_5]
  have h := out0_5_real (x1 := iblk0 V c 1 t) (x2 := iblk0 V c 2 t) (X := fun i l => X (512 * t + i) l)
    (fun i l => (iblk0_0_apply V c t i l).trans (hx _ _)) (y 0) (y 1)
  have hi := at0_5 t
  have e0 : ((((cfg0.win 5).blk t).view.emb y) 0).val = 512 * t.val + (y 0).val := by
    show win0_5.index t 0 * 512 + 1 * (y 0).val = _
    omega
  have e1 : ((((cfg0.win 5).blk t).view.emb y) 1).val = (y 1).val := by
    show win0_5.index t 1 * 256 + 1 * (y 1).val = _
    omega
  show _ = ((X ((((cfg0.win 5).blk t).view.emb y) 0).val (1280 + ((((cfg0.win 5).blk t).view.emb y) 1).val) : ℝ) : EReal)
  rw [e0, e1]
  refine Eq.trans ?_ h
  show out0_5 (iblk0 V c 0 t) (iblk0 V c 1 t) (iblk0 V c 2 t) _ = out0_5 (iblk0 V c 0 t) (iblk0 V c 1 t) (iblk0 V c 2 t) _
  congr 1
  funext a
  match a with
  | ⟨0, _⟩ => rfl
  | ⟨1, _⟩ => rfl

end Cert.KernelIdeal.Tile

end
-- ==== Proof.Chain.lean ====
/- The kernel's three calls and its host lines, one after the other: what its two results hold when the arguments are real. -/
module

public import proofs.«01_k».proof.Proof.Tables
public import proofs.«01_k».proof.Proof.Laws
public import proofs.«01_k».proof.Proof.Region0

@[expose] public section

noncomputable section

namespace Cert.KernelIdeal.Val

open Cert.KernelIdeal Cert.KernelIdeal.Gen Cert.KernelIdeal.Tile Cert.KernelIdeal.Cell Cert.Attn
open Idealize.ShloMosaic Idealize.ShloMosaic.TcCoe Idealize.SL.Sem

/-- The rotation's cosine and sine of token `b` in lane `d`. -/
def cosT (b d : ℕ) : ℝ := Real.cos (ang b d)
def sinT (b d : ℕ) : ℝ := Real.sin (ang b d)

variable (m : (ℓ : Loc nD τ sig) → Buf (Elt Ideal) ℓ) (ρ : Dev nD → PrngReg) (c : Dev nD)

theorem cos4_real (r : Fin 8192) (l : Fin 128) :
    (V1 m ρ c main_v18 : Vec Ideal S8192x128 .f32) (ix2 r l) = ((cos4 cosT r l : ℝ) : EReal) := cos_real m ρ c r l
theorem sin4_real (r : Fin 8192) (l : Fin 128) :
    (V1 m ρ c main_v21 : Vec Ideal S8192x128 .f32) (ix2 r l) = ((sin4 sinT r l : ℝ) : EReal) := sin_real m ρ c r l

variable {X G : ℕ → ℕ → ℝ} {s : ℕ → ℝ}

/-- The three argument arrays of one device, real at every index. -/
structure Given (X G : ℕ → ℕ → ℝ) (s : ℕ → ℝ) : Prop where
  x : ∀ (r : Fin 8192) (l : Fin 1536), (m ((c : Thread nD τ).loc main_arg0) : Vec Ideal S8192x1536 .f32) (ix2 r l) = ((X r l : ℝ) : EReal)
  g : ∀ (r : Fin 8192) (l : Fin 1024), (m ((c : Thread nD τ).loc main_arg1) : Vec Ideal S8192x1024 .f32) (ix2 r l) = ((G r l : ℝ) : EReal)
  s : ∀ h : Fin 16, (m ((c : Thread nD τ).loc main_arg2) : Vec Ideal S16 .f32) (ix1 h) = ((s h : ℝ) : EReal)

variable {m c} (H : Given m c X G s)
include H

theorem x_V1 (r : Fin 8192) (l : Fin 1536) : (V1 m ρ c main_arg0 : Vec Ideal S8192x1536 .f32) (ix2 r l) = ((X r l : ℝ) : EReal) :=
  (congrFun (W1_args m ρ c main_arg0 (by decide)) (ix2 r l)).trans (H.x r l)

/-- What the second call is given. -/
theorem input : Input (V3 m ρ) c (data X G s cosT sinT) where
  s := fun h => (congrFun (W3_args m ρ c main_arg2 (by decide)) (ix1 h)).trans (H.s h)
  q := fun r l => by
    refine (congrFun ((W3_of m ρ c main_v22_0 (by decide)).trans (W2_arr m ρ c 3)) (ix2 r l)).trans ?_
    rw [arr0_3 (V1 m ρ) c (x_V1 ρ H) (cos4_real m ρ c) (sin4_real m ρ c), turn_rot]
    rfl
  k := fun r l => by
    refine (congrFun ((W3_of m ρ c main_v22_1 (by decide)).trans (W2_arr m ρ c 4)) (ix2 r l)).trans ?_
    rw [arr0_4 (V1 m ρ) c (x_V1 ρ H) (cos4_real m ρ c) (sin4_real m ρ c), turn_rot, rot_shift]
    rfl
  v := fun r l => by
    refine (congrFun ((W3_of m ρ c main_v22_2 (by decide)).trans (W2_arr m ρ c 5)) (ix2 r l)).trans ?_
    rw [arr0_5 (V1 m ρ) c (x_V1 ρ H)]
    rfl
  g := fun r l => by
    refine (congrFun (g_eq m ρ c) (ix2 r l)).trans ?_
    exact (congrFun (W2_args m ρ c main_arg1 (by decide)) (ix2 r l)).trans (H.g r l)

omit H in
theorem cos4_V4 (r : Fin 8192) (l : Fin 128) :
    (V4 m ρ c main_v18 : Vec Ideal S8192x128 .f32) (ix2 r l) = ((cos4 cosT r l : ℝ) : EReal) :=
  (congrFun ((W4_of m ρ c main_v18 (by decide)).trans ((W3_of m ρ c main_v18 (by decide)).trans (W2_of m ρ c main_v18 (by decide))))
    (ix2 r l)).trans (cos4_real m ρ c r l)

omit H in
theorem sin4_V4 (r : Fin 8192) (l : Fin 128) :
    (V4 m ρ c main_v21 : Vec Ideal S8192x128 .f32) (ix2 r l) = ((sin4 sinT r l : ℝ) : EReal) :=
  (congrFun ((W4_of m ρ c main_v21 (by decide)).trans ((W3_of m ρ c main_v21 (by decide)).trans (W2_of m ρ c main_v21 (by decide))))
    (ix2 r l)).trans (sin4_real m ρ c r l)

/-- The first result: the gradient of queries, keys and values. -/
theorem result0 (r : Fin 8192) (l : Fin 1536) :
    (W6 m ρ c (Proc.devRef .tc main_v25) : Vec Ideal S8192x1536 .bf16) (ix2 r l)
      = ((out (data X G s cosT sinT) cosT sinT r l : ℝ) : EReal) := by
  have I := input ρ H
  refine (congrFun ((W6_of m ρ c main_v25 (by decide)).trans (W5_arr m ρ c 7)) (ix2 r l)).trans ?_
  rw [arr2_7 (V := V4 m ρ) (c := c) (C := cos4 cosT) (N := sin4 sinT) (Q := dq (data X G s cosT sinT))
    (K := inCell (dkw (data X G s cosT sinT))) (HK := halo (dkw (data X G s cosT sinT)))
    (W := inCell (dvw (data X G s cosT sinT))) (HW := halo (dvw (data X G s cosT sinT)))
    (fun a b => (congrFun (W4_arr m ρ c 7) (ix2 a b)).trans (arr1_7 I _))
    (fun a b => (congrFun (W4_arr m ρ c 8) (ix2 a b)).trans (arr1_8 I _))
    (fun a b => (congrFun (W4_arr m ρ c 9) (ix2 a b)).trans (arr1_9 I _))
    (fun a b => (congrFun (W4_arr m ρ c 10) (ix2 a b)).trans (arr1_10 I _))
    (fun a b => (congrFun (W4_arr m ρ c 11) (ix2 a b)).trans (arr1_11 I _))
    (cos4_V4 ρ) (sin4_V4 ρ)]
  exact congrArg _ (backRow_out _ _ _ _ _ r.isLt)

/-- The second result: the gradient of the sinks. -/
theorem result1 (h : Fin 16) :
    (W6 m ρ c (Proc.devRef .tc main_v28) : Vec Ideal S16 .f32) (ix1 h)
      = ((dsink (data X G s cosT sinT) h : ℝ) : EReal) := by
  refine (sink_apply m ρ c h).trans ?_
  refine (congrFun ((W5_of m ρ c main_v24_5 (by decide)).trans (W4_arr m ρ c 12)) _).trans ?_
  rw [arr1_12 (input ρ H)]
  exact congrArg _ (planes_dsink _ _ h.isLt)

end Cert.KernelIdeal.Val

end
-- ==== Proof.ValueRun.lean ====
/- The kernel program run: its two result arrays end at the contents the segments' fold gives them, its arguments as launched. -/
module

public import proofs.«01_k».proof.Proof.Gen.KernelIdeal.Frame

@[expose] public section

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

-- the launch lemma's implicit arguments are found by unfolding plain definitions in a metavariable's type
set_option backward.isDefEq.respectTransparency.types false in
/-- Every weakly fair execution ends, with both results at the last segment's contents and the arguments as launched. -/
theorem run : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v25 (by decide)), h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Val

end
-- ==== Proof.RefA.lean ====
/- The reference program up to its masked scores, over the real numbers. -/
module

public import proofs.«01_k».proof.Proof.RefVal
public import proofs.«01_k».proof.Proof.Spec
public import proofs.«01_k».proof.Proof.RealSum
public import Idealize.ShloMosaic.Lib.ValueIdxRank6
public import Idealize.ShloMosaic.Lib.WordCmp

@[expose] public section

noncomputable section

namespace Cert.ReferenceIdeal.Real

open Idealize.ShloMosaic Idealize.SL.Sem Cert.ReferenceIdeal Cert.ReferenceIdeal.Gen Cert.ReferenceIdeal.Read Cert.Attn Finset

abbrev A0 : Type := (⟨S8192x1536, .f32⟩ : BufTy).Contents (Elt Ideal)
abbrev A1 : Type := (⟨S8192x1024, .f32⟩ : BufTy).Contents (Elt Ideal)
abbrev A2 : Type := (⟨S16, .f32⟩ : BufTy).Contents (Elt Ideal)

/-- The reference's arguments and its two tables, as real functions. -/
structure Args (x0 : A0) (x1 : A1) (x2 : A2) (X G : ℕ → ℕ → ℝ) (s : ℕ → ℝ) (C N : ℕ → ℕ → ℝ) : Prop where
  x : ∀ (b : Fin 8192) (c : Fin 1536), x0 (ix2 b c) = ((X b c : ℝ) : EReal)
  g : ∀ (b : Fin 8192) (c : Fin 1024), x1 (ix2 b c) = ((G b c : ℝ) : EReal)
  s : ∀ h : Fin 16, x2 (ix1 h) = ((s h : ℝ) : EReal)
  c : ∀ (b : Fin 8192) (d : Fin 32), val_main_v16 (F := Ideal) (ix2 b d) = ((C b d : ℝ) : EReal)
  n : ∀ (b : Fin 8192) (d : Fin 32), val_main_v17 (F := Ideal) (ix2 b d) = ((N b d : ℝ) : EReal)

variable {x0 : A0} {x1 : A1} {x2 : A2} {X G : ℕ → ℕ → ℝ} {s : ℕ → ℝ} {C N : ℕ → ℕ → ℝ}
variable (H : Args x0 x1 x2 X G s C N)
include H

/-! ### Rotated queries and keys, and the values -/

theorem v36_real (b : Fin 8192) (h : Fin 16) (d : Fin 64) :
    val_main_v36 x0 (ix4 0 b h d) = ((rot X C N b (64 * h + d) : ℝ) : EReal) := by
  have hc := H.c
  have hn := H.n
  unfold val_main_v36 val_main_v30 val_main_v35 val_main_v27 val_main_v29 val_main_v32 val_main_v34 val_main_v26 val_main_v28
    val_main_v31 val_main_v33 val_main_v24 val_main_v25 val_main_v22 val_main_v23 val_main_v21 val_main_v18
  generalize val_main_v16 (F := Ideal) = T at hc
  generalize val_main_v17 (F := Ideal) = U at hn
  pointwise
  simp only [H.x, hc, hn, ← EReal.coe_mul, ← EReal.coe_add, ← EReal.coe_sub]
  unfold rot
  have := d.isLt
  split_ifs <;> first | omega | (congr 4 <;> (try dsimp only) <;> omega)

theorem v52_real (b : Fin 8192) (k : Fin 4) (d : Fin 64) :
    val_main_v52 x0 (ix4 0 b k d) = (((data X G s C N).k b (64 * k + d) : ℝ) : EReal) := by
  have hc := H.c
  have hn := H.n
  unfold val_main_v52 val_main_v46 val_main_v51 val_main_v43 val_main_v45 val_main_v48 val_main_v50 val_main_v42 val_main_v44
    val_main_v47 val_main_v49 val_main_v40 val_main_v41 val_main_v38 val_main_v39 val_main_v37 val_main_v19
  generalize val_main_v16 (F := Ideal) = T at hc
  generalize val_main_v17 (F := Ideal) = U at hn
  pointwise
  simp only [H.x, hc, hn, ← EReal.coe_mul, ← EReal.coe_add, ← EReal.coe_sub]
  unfold data rot
  have := d.isLt
  dsimp only
  split_ifs <;> first | omega | (congr 4 <;> (try dsimp only) <;> omega)

theorem v54_real (n : Fin 64) (r : Fin 128) (k g : Fin 4) (d : Fin 64) :
    val_main_v54 x0 (ix6 0 n r k g d) = (((data X G s C N).q (128 * n + r) (64 * (4 * k + g) + d) : ℝ) : EReal) := by
  have h36 := v36_real H
  unfold val_main_v54
  generalize val_main_v36 x0 = y at h36
  pointwise
  rw [h36]
  unfold data
  dsimp only
  congr 2 <;> omega

theorem v55_real (n : Fin 64) (r : Fin 128) (k : Fin 4) (d : Fin 64) :
    val_main_v55 x0 (ix5 0 n r k d) = (((data X G s C N).k (128 * n + r) (64 * k + d) : ℝ) : EReal) := by
  have h52 := v52_real H
  unfold val_main_v55
  generalize val_main_v52 x0 = y at h52
  pointwise
  rw [h52]
  dsimp only
  congr 2; omega

theorem v62_real (n : Fin 64) (r : Fin 128) (k : Fin 4) (d : Fin 64) :
    val_main_v62 x0 (ix5 0 n r k d) = (((data X G s C N).v (128 * n + r) (64 * k + d) : ℝ) : EReal) := by
  unfold val_main_v62 val_main_v53 val_main_v20
  pointwise
  rw [H.x]
  unfold data
  dsimp only
  congr 2 <;> omega

/-! ### The windows -/

/-- Block `n`'s window of the token rows `f`, with nothing before the first block. -/
def band (f : ℕ → ℕ → ℝ) (n c col : ℕ) : ℝ := if 128 ≤ c ∨ 0 < n then f (128 * n + c - 128) col else 0

theorem v61_real (n : Fin 64) (c : Fin 256) (k : Fin 4) (d : Fin 64) :
    val_main_v61 x0 (ix5 0 n c k d) = ((band (data X G s C N).k n c (64 * k + d) : ℝ) : EReal) := by
  have h55 := v55_real H
  unfold val_main_v61 val_main_v59 val_main_v58 val_main_v57 val_main_cst_3
  generalize val_main_v55 x0 = y at h55
  pointwise
  simp only [h55]
  unfold band
  split_ifs <;> first | omega | rfl | (congr 2; omega)

theorem v68_real (n : Fin 64) (c : Fin 256) (k : Fin 4) (d : Fin 64) :
    val_main_v68 x0 (ix5 0 n c k d) = ((band (data X G s C N).v n c (64 * k + d) : ℝ) : EReal) := by
  have h55 := v62_real H
  unfold val_main_v68 val_main_v66 val_main_v65 val_main_v64 val_main_cst_5
  generalize val_main_v62 x0 = y at h55
  pointwise
  simp only [h55]
  unfold band
  split_ifs <;> first | omega | rfl | (congr 2; omega)

/-! ### The mask -/

omit H in
theorem v86_apply (r : Fin 128) (c : Fin 256) :
    val_main_v86 (F := Ideal) (ix2 r c) = if r.val < c.val ∧ c.val ≤ r.val + 128 then 1#1 else 0#1 := by
  unfold val_main_v86 val_main_v83 val_main_v85 val_main_v82 val_main_v84 val_main_v81 val_main_v79 val_main_v80 val_main_v78
    val_main_v77 val_main_v76 val_main_v75 val_main_v74 val_main_v73 val_main_c_9 val_main_c_8 val_main_c
  pointwise
  revert r c
  decide +kernel

omit H in
theorem v100_apply (n : Fin 64) (c : Fin 256) :
    val_main_v100 (F := Ideal) (ix2 n c) = if 128 ≤ c.val ∨ 0 < n.val then 1#1 else 0#1 := by
  unfold val_main_v100 val_main_v97 val_main_v99 val_main_v95 val_main_v96 val_main_v94 val_main_v93 val_main_v92 val_main_v91
    val_main_v90 val_main_v89 val_main_v88 val_main_v87 val_main_c_12 val_main_c_11 val_main_c_10
  pointwise
  revert n c
  decide +kernel

omit H in
theorem v105_apply (n : Fin 64) (r : Fin 128) (c : Fin 256) :
    val_main_v105 (F := Ideal) (ix6 0 n 0 0 r c) = if ok n r c then 1#1 else 0#1 := by
  have h86 := v86_apply r c
  have h100 := v100_apply n c
  unfold val_main_v105 val_main_v104 val_main_v103 val_main_v102 val_main_v101 val_main_v98
  generalize val_main_v86 (F := Ideal) = y at h86
  generalize val_main_v100 (F := Ideal) = z at h100
  pointwise
  rw [h86, h100]
  by_cases h1 : r.val < c.val ∧ c.val ≤ r.val + 128 <;> by_cases h2 : 128 ≤ c.val ∨ 0 < n.val
  · rw [if_pos h1, if_pos h2, if_pos (show ok n r c from ⟨h1.1, h1.2, h2⟩)]; rfl
  · rw [if_pos h1, if_neg h2, if_neg (show ¬ok n r c from fun h => h2 h.2.2)]; rfl
  · rw [if_neg h1, if_pos h2, if_neg (show ¬ok n r c from fun h => h1 ⟨h.1, h.2.1⟩)]; rfl
  · rw [if_neg h1, if_neg h2, if_neg (show ¬ok n r c from fun h => h2 h.2.2)]; rfl

omit H in
theorem v106_1_apply (n : Fin 64) (k g : Fin 4) (r : Fin 128) (c : Fin 256) :
    val_main_v106_1 (F := Ideal) (ix6 0 n k g r c) = if ok n r c then 1#1 else 0#1 := by
  have h := v105_apply n r c
  unfold val_main_v106_1
  generalize val_main_v105 (F := Ideal) = y at h
  pointwise
  exact h

omit H in
theorem select_if {α : Type} (q : Prop) [Decidable q] (a b : α) :
    Scalar.select (if q then 1#1 else 0#1) a b = if q then a else b := by
  split <;> rfl

/-! ### The masked scores and the sinks -/

theorem v106_0_real (n : Fin 64) (k g : Fin 4) (r : Fin 128) (c : Fin 256) :
    val_main_v106_0 x0 (ix6 0 n k g r c)
      = if ok n r c then ((sc (data X G s C N) n (4 * k + g) r c : ℝ) : EReal) else ⊥ := by
  have h1 := v106_1_apply n k g r c
  have h2 := v61_real H
  have h3 := v54_real H
  unfold val_main_v106_0 val_main_v72 val_main_v70 val_main_v69 val_main_v71 val_main_cst_7 val_main_call0_v2 val_main_call0_v0
    val_main_cst_13
  generalize val_main_v106_1 (F := Ideal) = M at h1
  generalize val_main_v61 x0 = y at h2
  generalize val_main_v54 x0 = z at h3
  dsimp only [id]
  pointwise
  rw [h1, select_if, eighth, negInf,
    sum_fin_of (fun d => band (data X G s C N).k n c (64 * k + d) * (data X G s C N).q (128 * n + r) (64 * (4 * k + g) + d))
      (fun d => by rw [h2, h3, EReal.coe_mul]), ← EReal.coe_mul]
  split_ifs with h
  · unfold sc band
    congr 2
    refine sum_congr rfl fun d _ => ?_
    rw [if_pos h.2.2, mul_comm]
    congr 3; omega
  · rfl

theorem v108_real (k g : Fin 4) : val_main_v108 x2 (ix6 0 0 k g 0 0) = (((data X G s C N).s (4 * k + g) : ℝ) : EReal) := by
  unfold val_main_v108 val_main_v107
  pointwise
  rw [H.s]
  unfold data
  dsimp only
  congr 2; omega

end Cert.ReferenceIdeal.Real

end
-- ==== Proof.Rank6.lean ====
/- Reductions of rank-6 arrays along the axis sets the reference reduces: the last axis, the block and row axes, and unit axes. -/
module

public import Idealize.ShloMosaic.Lib.Pointwise
public import Idealize.ShloMosaic.Lib.ValueIdxRank6

@[expose] public section

namespace Cert.Attn

open Idealize.ShloMosaic Finset

variable {n0 n1 n2 n3 n4 n5 : ℕ}

/-! ### The last axis -/

theorem last_fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ k, v (ix6 a b c d e k) :=
  congrArg (init + ·) (Finset.sum_filter_eq_sum_of_fiber _ (fun k : Fin n5 => ix6 a b c d e k)
    (fun _ _ q => congrFun q 5) (last_fiber h a b c d e) v)

theorem fold_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    (univ.filter fun i => h.drop i = ix5 a b c d e).fold max init v = (univ : Finset (Fin n5)).fold max init fun k => v (ix6 a b c d e k) :=
  Finset.fold_filter_eq_fold_of_fiber max _ (fun k : Fin n5 => ix6 a b c d e k)
    (fun _ _ q => congrFun q 5) (last_fiber h a b c d e) init v

/-! ### The block and row axes -/

theorem mid_fiber (h : (⟨6, ![n0, n1, n2, n3, n4, n5]⟩ : Shape).ReducesTo [1, 4] ⟨4, ![n0, n2, n3, n5]⟩)
    (a : Fin n0) (c : Fin n2) (d : Fin n3) (f : Fin n5) (i : (⟨6, ![n0, n1, n2, n3, n4, n5]⟩ : Shape).Idx) :
    h.drop i = ix4 a c d f ↔ ∃ k : Fin n1 × Fin n4, ix6 a k.1 c d k.2 f = i := by
  constructor
  · intro q
    refine ⟨(i 1, i 4), ?_⟩
    funext x; apply Fin.ext
    match x with
    | ⟨0, _⟩ => exact (congrArg Fin.val (congrFun q 0)).symm
    | ⟨1, _⟩ => rfl
    | ⟨2, _⟩ => exact (congrArg Fin.val (congrFun q 1)).symm
    | ⟨3, _⟩ => exact (congrArg Fin.val (congrFun q 2)).symm
    | ⟨4, _⟩ => rfl
    | ⟨5, _⟩ => exact (congrArg Fin.val (congrFun q 3)).symm
  · rintro ⟨k, rfl⟩
    funext x; apply Fin.ext
    match x with
    | ⟨0, _⟩ => rfl
    | ⟨1, _⟩ => rfl
    | ⟨2, _⟩ => rfl
    | ⟨3, _⟩ => rfl

theorem sum_mid (h : (⟨6, ![n0, n1, n2, n3, n4, n5]⟩ : Shape).ReducesTo [1, 4] ⟨4, ![n0, n2, n3, n5]⟩)
    (v : (⟨6, ![n0, n1, n2, n3, n4, n5]⟩ : Shape).Idx → EReal) (init : EReal)
    (a : Fin n0) (c : Fin n2) (d : Fin n3) (f : Fin n5) :
    Ideal.hostReduceAdd h v init (ix4 a c d f) = init + ∑ n, ∑ r, v (ix6 a n c d r f) := by
  refine congrArg (init + ·) ((Finset.sum_filter_eq_sum_of_fiber _ (fun k : Fin n1 × Fin n4 => ix6 a k.1 c d k.2 f)
    (fun _ _ q => Prod.ext (congrFun q 1) (congrFun q 4)) (mid_fiber h a c d f) v).trans ?_)
  simp only [Fintype.sum_prod_type]

/-! ### Unit axes -/

theorem ends_fiber (h : (⟨6, ![1, n1, n2, n3, n4, 1]⟩ : Shape).ReducesTo [0, 5] ⟨4, ![n1, n2, n3, n4]⟩)
    (b : Fin n1) (c : Fin n2) (d : Fin n3) (e : Fin n4) (i : (⟨6, ![1, n1, n2, n3, n4, 1]⟩ : Shape).Idx) :
    h.drop i = ix4 b c d e ↔ ∃ _k : Unit, ix6 0 b c d e 0 = i := by
  constructor
  · intro q
    refine ⟨(), ?_⟩
    funext x; apply Fin.ext
    match x with
    | ⟨0, _⟩ => exact (Nat.lt_one_iff.mp (i 0).isLt).symm
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => exact (Nat.lt_one_iff.mp (i 5).isLt).symm
  · rintro ⟨k, rfl⟩
    funext x; apply Fin.ext
    match x with
    | ⟨0, _⟩ => rfl
    | ⟨1, _⟩ => rfl
    | ⟨2, _⟩ => rfl
    | ⟨3, _⟩ => rfl

theorem sum_ends (h : (⟨6, ![1, n1, n2, n3, n4, 1]⟩ : Shape).ReducesTo [0, 5] ⟨4, ![n1, n2, n3, n4]⟩)
    (v : (⟨6, ![1, n1, n2, n3, n4, 1]⟩ : Shape).Idx → EReal) (init : EReal)
    (b : Fin n1) (c : Fin n2) (d : Fin n3) (e : Fin n4) :
    Ideal.hostReduceAdd h v init (ix4 b c d e) = init + v (ix6 0 b c d e 0) := by
  refine congrArg (init + ·) ((Finset.sum_filter_eq_sum_of_fiber _ (fun _ : Unit => ix6 0 b c d e 0)
    (fun _ _ _ => rfl) (ends_fiber h b c d e) v).trans ?_)
  simp

theorem four_fiber (h : (⟨6, ![1, 1, n2, n3, 1, 1]⟩ : Shape).ReducesTo [0, 1, 4, 5] ⟨2, ![n2, n3]⟩)
    (c : Fin n2) (d : Fin n3) (i : (⟨6, ![1, 1, n2, n3, 1, 1]⟩ : Shape).Idx) :
    h.drop i = ix2 c d ↔ ∃ _k : Unit, ix6 0 0 c d 0 0 = i := by
  constructor
  · intro q
    refine ⟨(), ?_⟩
    funext x; apply Fin.ext
    match x with
    | ⟨0, _⟩ => exact (Nat.lt_one_iff.mp (i 0).isLt).symm
    | ⟨1, _⟩ => exact (Nat.lt_one_iff.mp (i 1).isLt).symm
    | ⟨2, _⟩ => exact (congrArg Fin.val (congrFun q 0)).symm
    | ⟨3, _⟩ => exact (congrArg Fin.val (congrFun q 1)).symm
    | ⟨4, _⟩ => exact (Nat.lt_one_iff.mp (i 4).isLt).symm
    | ⟨5, _⟩ => exact (Nat.lt_one_iff.mp (i 5).isLt).symm
  · rintro ⟨k, rfl⟩
    funext x; apply Fin.ext
    match x with
    | ⟨0, _⟩ => rfl
    | ⟨1, _⟩ => rfl

theorem sum_four (h : (⟨6, ![1, 1, n2, n3, 1, 1]⟩ : Shape).ReducesTo [0, 1, 4, 5] ⟨2, ![n2, n3]⟩)
    (v : (⟨6, ![1, 1, n2, n3, 1, 1]⟩ : Shape).Idx → EReal) (init : EReal) (c : Fin n2) (d : Fin n3) :
    Ideal.hostReduceAdd h v init (ix2 c d) = init + v (ix6 0 0 c d 0 0) := by
  refine congrArg (init + ·) ((Finset.sum_filter_eq_sum_of_fiber _ (fun _ : Unit => ix6 0 0 c d 0 0)
    (fun _ _ _ => rfl) (four_fiber h c d) v).trans ?_)
  simp

end Cert.Attn
-- ==== Proof.RefB.lean ====
/- The reference's softmax and its gradient, over the real numbers. -/
module

public import proofs.«01_k».proof.Proof.RefA
public import proofs.«01_k».proof.Proof.Rank6

@[expose] public section

noncomputable section

namespace Cert.Attn

open Finset

/-! ### Identities of a row, for shifted exponentials `e` over a shifted denominator `z` -/

variable (A : Data) (n h r : ℕ)

theorem pr_sum : ∑ c ∈ range 256, pr A n h r c + pk A n h r = 1 := by
  have hd := (den_pos A n h r).ne'
  have : ∀ c, pr A n h r c = (if ok n r c then Real.exp (sc A n h r c) else 0) / den A n h r := fun c => by
    unfold pr; split <;> simp
  simp only [this, pk, ← sum_div, ← add_div]
  exact div_self hd

/-- The weights' own mean gradient leaves nothing for the maximum. -/
theorem shift_zero : -(-(pk A n h r * dl A n h r)) + ∑ c ∈ range 256, -(pr A n h r c * (dp A n h r c - dl A n h r)) = 0 := by
  have h1 := pr_sum A n h r
  have h2 : ∑ c ∈ range 256, -(pr A n h r c * (dp A n h r c - dl A n h r))
      = (∑ c ∈ range 256, pr A n h r c) * dl A n h r - dl A n h r := by
    conv_rhs => rw [sum_mul]; arg 2; unfold dl
    rw [← sum_sub_distrib]
    exact sum_congr rfl fun c _ => by ring
  rw [h2]
  linear_combination dl A n h r * h1

end Cert.Attn

namespace Cert.ReferenceIdeal.Real

open Idealize.ShloMosaic Idealize.SL.Sem Cert.ReferenceIdeal Cert.ReferenceIdeal.Gen Cert.ReferenceIdeal.Read Cert.Attn Finset

variable {x0 : A0} {x1 : A1} {x2 : A2} {X G : ℕ → ℕ → ℝ} {s : ℕ → ℝ} {C N : ℕ → ℕ → ℝ}
variable (H : Args x0 x1 x2 X G s C N)

/-- The row maximum the reference subtracts. -/
def top (x0 : A0) (x2 : A2) (n : Fin 64) (k g : Fin 4) (r : Fin 128) : ℝ := (val_main_v117 x0 x2 (ix6 0 n k g r 0)).toReal

/-- The shifted denominator, and the shifted exponentials. -/
def zz (x0 : A0) (x2 : A2) (A : Data) (n : Fin 64) (k g : Fin 4) (r : Fin 128) : ℝ :=
  zshift (fun c => ok n r c) (fun c => sc A n (4 * k + g) r c) (A.s (4 * k + g)) (top x0 x2 n k g r) 256
def ee (x0 : A0) (x2 : A2) (A : Data) (n : Fin 64) (k g : Fin 4) (r : Fin 128) (c : ℕ) : ℝ :=
  if ok n r c then Real.exp (sc A n (4 * k + g) r c - top x0 x2 n k g r) else 0
def es (x0 : A0) (x2 : A2) (A : Data) (n : Fin 64) (k g : Fin 4) (r : Fin 128) : ℝ :=
  Real.exp (A.s (4 * k + g) - top x0 x2 n k g r)

/-- The gradient at the weights, before the mask. -/
def dpb (A : Data) (n h r c : ℕ) : ℝ := ∑ d ∈ range 64, A.g (128 * n + r) (64 * h + d) * band A.v n c (64 * (h / 4) + d)

theorem dpb_ok (A : Data) (n h r c : ℕ) (hc : ok n r c) : dpb A n h r c = dp A n h r c := by
  unfold dpb dp band
  refine sum_congr rfl fun d _ => ?_
  rw [if_pos hc.2.2]

section
variable (x0 x2) (A : Data) (n : Fin 64) (k g : Fin 4) (r : Fin 128)

theorem zz_pos : 0 < zz x0 x2 A n k g r := zshift_pos ..

theorem ee_zz (c : ℕ) : ee x0 x2 A n k g r c * (1 / zz x0 x2 A n k g r) = pr A n (4 * k + g) r c :=
  weight_shift (fun c => ok n r c) (fun c => sc A n (4 * k + g) r c) (A.s (4 * k + g)) (top x0 x2 n k g r) c

theorem es_zz : es x0 x2 A n k g r * (1 / zz x0 x2 A n k g r) = pk A n (4 * k + g) r :=
  sink_shift (fun c => ok n r c) (fun c => sc A n (4 * k + g) r c) (A.s (4 * k + g)) (top x0 x2 n k g r)

theorem pr_dpb (c : ℕ) : pr A n (4 * k + g) r c * dpb A n (4 * k + g) r c = pr A n (4 * k + g) r c * dp A n (4 * k + g) r c := by
  by_cases hc : ok n r c
  · rw [dpb_ok _ _ _ _ _ hc]
  · unfold pr; rw [if_neg hc, zero_mul, zero_mul]

theorem dl_shift : ∑ c ∈ range 256, dpb A n (4 * k + g) r c * (1 / (zz x0 x2 A n k g r * zz x0 x2 A n k g r)) * ee x0 x2 A n k g r c
    = dl A n (4 * k + g) r * (1 / zz x0 x2 A n k g r) := by
  unfold dl
  rw [sum_mul]
  refine sum_congr rfl fun c _ => ?_
  rw [← pr_dpb, ← ee_zz x0 x2]
  ring

theorem pk_shift : -(dl A n (4 * k + g) r * (1 / zz x0 x2 A n k g r)) * es x0 x2 A n k g r = -(pk A n (4 * k + g) r * dl A n (4 * k + g) r) := by
  rw [← es_zz x0 x2]; ring

theorem ds_shift (c : ℕ) : (dpb A n (4 * k + g) r c * (1 / zz x0 x2 A n k g r) + -(dl A n (4 * k + g) r * (1 / zz x0 x2 A n k g r)))
    * ee x0 x2 A n k g r c = pr A n (4 * k + g) r c * (dp A n (4 * k + g) r c - dl A n (4 * k + g) r) := by
  have h := pr_dpb A n k g r c
  have e := ee_zz x0 x2 A n k g r c
  rw [mul_sub, ← h, ← e]; ring

end

section
include H

theorem v109_lt (n : Fin 64) (k g : Fin 4) (r : Fin 128) : val_main_v109 x0 (ix5 0 n k g r) < ⊤ := by
  have h1 := v106_0_real H n k g r
  unfold val_main_v109 val_main_cst_14
  generalize val_main_v106_0 x0 = y at h1
  rw [Host.reduce_eq_fold]
  refine lt_of_eq_of_lt (fold_last _ _ _ 0 n k g r) ?_
  refine (Finset.fold_op_rel_iff_and (op := max) (r := fun x y => y < x) (fun {x y z} => max_lt_iff)).mpr
        ⟨?_, fun c _ => by rw [h1]; exact mask_lt_top _ _⟩
  show Ideal.ofBits .f32 0xFF800000#32 < ⊤
  rw [negInf]; exact bot_lt_top

omit H in
theorem max6 (x y : (⟨S1x64x4x4x128x1, .f32⟩ : BufTy).Contents (Elt Ideal)) (i) : maximumf (F := Ideal) (φ := .f32) x y i = max (x i) (y i) := by
  rw [maximumf_apply, Ideal.maximumf_eq_max]

omit H in
theorem keep5 (y : (⟨S1x64x4x4x128, .f32⟩ : BufTy).Contents (Elt Ideal)) (n : Fin 64) (k g : Fin 4) (r : Fin 128) :
    broadcastInDim S1x64x4x4x128x1 ![0, 1, 2, 3, 4] bcast_S1x64x4x4x128_S1x64x4x4x128x1_0_1_2_3_4 y (ix6 0 n k g r 0) = y (ix5 0 n k g r) := by
  pointwise

omit H in
theorem keep6 (y : (⟨S1x1x4x4x1x1, .f32⟩ : BufTy).Contents (Elt Ideal)) (n : Fin 64) (k g : Fin 4) (r : Fin 128) :
    broadcastInDim S1x64x4x4x128x1 ![0, 1, 2, 3, 4, 5] bcast_S1x1x4x4x1x1_S1x64x4x4x128x1_0_1_2_3_4_5 y (ix6 0 n k g r 0) = y (ix6 0 0 k g 0 0) := by
  pointwise

theorem v117_ex (n : Fin 64) (k g : Fin 4) (r : Fin 128) :
    ∃ t : ℝ, val_main_v117 x0 x2 (ix6 0 n k g r 0) = (t : EReal) := by
  have h1 := v109_lt H n k g r
  have h2 := v108_real H k g
  unfold val_main_v117 val_main_v115 val_main_v116
  generalize val_main_v109 x0 = y at h1
  generalize val_main_v108 x2 = z at h2
  rw [max6, keep5, keep6, h2]
  refine ⟨(max (y (ix5 0 n k g r)) _).toReal, (EReal.coe_toReal ?_ ?_).symm⟩
  · exact (max_lt h1 (EReal.coe_lt_top _)).ne
  · exact (lt_max_of_lt_right (EReal.bot_lt_coe _)).ne'

theorem v117_real (n : Fin 64) (k g : Fin 4) (r : Fin 128) :
    val_main_v117 x0 x2 (ix6 0 n k g r 0) = ((top x0 x2 n k g r : ℝ) : EReal) := by
  obtain ⟨t, ht⟩ := v117_ex H n k g r
  rw [top, ht, EReal.toReal_coe]

theorem v138_real (n : Fin 64) (k g : Fin 4) (r : Fin 128) (c : Fin 256) :
    val_main_v138 x0 x2 (ix6 0 n k g r c) = ((ee x0 x2 (data X G s C N) n k g r c : ℝ) : EReal) := by
  have h1 := v106_0_real H n k g r
  have h2 := v117_real H n k g r
  unfold val_main_v138 val_main_v137 val_main_v136
  generalize val_main_v106_0 x0 = y at h1
  generalize val_main_v117 x0 x2 = z at h2
  pointwise
  rw [h1, h2, exp_masked]
  rfl

theorem v143_real (n : Fin 64) (k g : Fin 4) (r : Fin 128) :
    val_main_v143 x0 x2 (ix6 0 n k g r 0) = ((es x0 x2 (data X G s C N) n k g r : ℝ) : EReal) := by
  have h1 := v108_real H k g
  have h2 := v117_real H n k g r
  unfold val_main_v143 val_main_v142 val_main_v141
  generalize val_main_v108 x2 = y at h1
  generalize val_main_v117 x0 x2 = z at h2
  pointwise
  rw [h1, h2, ← EReal.coe_sub, Ideal.exp_coe]
  rfl

theorem v144_real (n : Fin 64) (k g : Fin 4) (r : Fin 128) :
    val_main_v144 x0 x2 (ix6 0 n k g r 0) = ((zz x0 x2 (data X G s C N) n k g r : ℝ) : EReal) := by
  have h1 := v138_real H n k g r
  have h2 := v143_real H n k g r
  unfold val_main_v144 val_main_v140 val_main_v139 val_main_cst_22
  generalize val_main_v138 x0 x2 = y at h1
  generalize val_main_v143 x0 x2 = z at h2
  pointwise
  rw [sum_last, h2, sum_fin_of (fun c => ee x0 x2 (data X G s C N) n k g r c) h1]
  simp only [Ideal.ofBits_zero, zero_add, ← EReal.coe_add]
  rfl

theorem v146_real (n : Fin 64) (k g : Fin 4) (r : Fin 128) (c : Fin 256) :
    val_main_v146 x0 x2 (ix6 0 n k g r c) = ((pr (data X G s C N) n (4 * k + g) r c : ℝ) : EReal) := by
  have h1 := v138_real H n k g r c
  have h2 := v144_real H n k g r
  unfold val_main_v146 val_main_v145
  generalize val_main_v138 x0 x2 = y at h1
  generalize val_main_v144 x0 x2 = z at h2
  pointwise
  rw [h1, h2, Ideal.div_coe (zz_pos x0 x2 _ n k g r).ne', ← EReal.coe_mul, ee_zz]

theorem v149_real (n : Fin 64) (k g : Fin 4) (r : Fin 128) :
    val_main_v149 x0 x2 (ix6 0 n k g r 0)
      = ((1 / (zz x0 x2 (data X G s C N) n k g r * zz x0 x2 (data X G s C N) n k g r) : ℝ) : EReal) := by
  have h2 := v144_real H n k g r
  have hz := (zz_pos x0 x2 (data X G s C N) n k g r).ne'
  unfold val_main_v149 val_main_v148 val_main_v147 val_main_cst_23
  generalize val_main_v144 x0 x2 = z at h2
  pointwise
  rw [h2, ← EReal.coe_mul, ← one_div_coe _ (mul_ne_zero hz hz)]

theorem v155_real (n : Fin 64) (k g : Fin 4) (r : Fin 128) (c : Fin 256) :
    val_main_v155 x0 x1 (ix6 0 n k g r c) = ((dpb (data X G s C N) n (4 * k + g) r c : ℝ) : EReal) := by
  have h1 := v68_real H n c k
  unfold val_main_v155 val_main_v154 val_main_v153
  generalize val_main_v68 x0 = y at h1
  pointwise
  rw [sum_fin_of (fun d => G (128 * n + r) (64 * (4 * k + g) + d) * band (data X G s C N).v n c (64 * k + d))
      (fun d => by rw [h1, H.g, EReal.coe_mul]; congr 3 <;> dsimp only <;> omega)]
  have : (4 * k.val + g.val) / 4 = k.val := by omega
  unfold dpb
  rw [this]
  rfl

theorem v161_real (n : Fin 64) (k g : Fin 4) (r : Fin 128) :
    val_main_v161 x0 x1 x2 (ix5 0 n k g r)
      = ((dl (data X G s C N) n (4 * k + g) r * (1 / zz x0 x2 (data X G s C N) n k g r) : ℝ) : EReal) := by
  have h1 := v155_real H n k g r
  have h2 := v149_real H n k g r
  have h3 := v138_real H n k g r
  unfold val_main_v161 val_main_v160 val_main_v159 val_main_v158 val_main_cst_24
  generalize val_main_v155 x0 x1 = x at h1
  generalize val_main_v149 x0 x2 = y at h2
  generalize val_main_v138 x0 x2 = z at h3
  pointwise
  rw [sum_last, ← dl_shift]
  pointwise
  rw [sum_fin_of (fun c => dpb (data X G s C N) n (4 * k + g) r c
      * (1 / (zz x0 x2 (data X G s C N) n k g r * zz x0 x2 (data X G s C N) n k g r)) * ee x0 x2 (data X G s C N) n k g r c)
      (fun c => by rw [h1, h2, h3, ← EReal.coe_mul, ← EReal.coe_mul])]

end

end Cert.ReferenceIdeal.Real

end
-- ==== Proof.RefC.lean ====
/- The reference's gradients of the sinks and of the scores, over the real numbers. -/
module

public import proofs.«01_k».proof.Proof.RefB

@[expose] public section

noncomputable section

namespace Cert.ReferenceIdeal.Real

open Idealize.ShloMosaic Idealize.SL.Sem Cert.ReferenceIdeal Cert.ReferenceIdeal.Gen Cert.ReferenceIdeal.Read Cert.Attn Finset

variable {x0 : A0} {x1 : A1} {x2 : A2} {X G : ℕ → ℕ → ℝ} {s : ℕ → ℝ} {C N : ℕ → ℕ → ℝ}
variable (H : Args x0 x1 x2 X G s C N)
include H

theorem v163_real (n : Fin 64) (k g : Fin 4) (r : Fin 128) :
    val_main_v163 x0 x1 x2 (ix6 0 n k g r 0)
      = ((-(dl (data X G s C N) n (4 * k + g) r * (1 / zz x0 x2 (data X G s C N) n k g r)) : ℝ) : EReal) := by
  have h1 := v161_real H n k g r
  unfold val_main_v163 val_main_v162
  generalize val_main_v161 x0 x1 x2 = x at h1
  pointwise
  rw [h1, ← EReal.coe_neg]

theorem v166_real (n : Fin 64) (k g : Fin 4) (r : Fin 128) :
    val_main_v166 x0 x1 x2 (ix6 0 n k g r 0)
      = ((-(pk (data X G s C N) n (4 * k + g) r * dl (data X G s C N) n (4 * k + g) r) : ℝ) : EReal) := by
  have h1 := v163_real H n k g r
  have h2 := v143_real H n k g r
  unfold val_main_v166
  generalize val_main_v163 x0 x1 x2 = x at h1
  generalize val_main_v143 x0 x2 = y at h2
  pointwise
  rw [h1, h2, ← EReal.coe_mul, pk_shift]

theorem v172_real (n : Fin 64) (k g : Fin 4) (r : Fin 128) (c : Fin 256) :
    val_main_v172 x0 x1 x2 (ix6 0 n k g r c)
      = ((-(dl (data X G s C N) n (4 * k + g) r * (1 / zz x0 x2 (data X G s C N) n k g r)) : ℝ) : EReal) := by
  have h1 := v163_real H n k g r
  unfold val_main_v172 val_main_v171 val_main_v170 val_main_cst_26
  generalize val_main_v163 x0 x1 x2 = x at h1
  pointwise
  rw [sum_ends, h1]
  simp [Ideal.ofBits_zero]

theorem v174_real (n : Fin 64) (k g : Fin 4) (r : Fin 128) (c : Fin 256) :
    val_main_v174 x0 x1 x2 (ix6 0 n k g r c)
      = ((pr (data X G s C N) n (4 * k + g) r c * (dp (data X G s C N) n (4 * k + g) r c - dl (data X G s C N) n (4 * k + g) r) : ℝ) : EReal) := by
  have h1 := v155_real H n k g r c
  have h2 := v144_real H n k g r
  have h3 := v172_real H n k g r c
  have h4 := v138_real H n k g r c
  unfold val_main_v174 val_main_v173 val_main_v165 val_main_v164
  generalize val_main_v155 x0 x1 = x at h1
  generalize val_main_v144 x0 x2 = y at h2
  generalize val_main_v172 x0 x1 x2 = z at h3
  generalize val_main_v138 x0 x2 = w at h4
  pointwise
  rw [h1, h2, h3, h4, Ideal.div_coe (zz_pos x0 x2 _ n k g r).ne', ← EReal.coe_mul, ← EReal.coe_add, ← EReal.coe_mul, ds_shift]

theorem v178_real (n : Fin 64) (k g : Fin 4) (r : Fin 128) : val_main_v178 x0 x1 x2 (ix6 0 n k g r 0) = 0 := by
  have h1 := v166_real H n k g r
  have h2 := v174_real H n k g r
  unfold val_main_v178 val_main_v169 val_main_v177 val_main_v176 val_main_v175 val_main_cst_27
  generalize val_main_v166 x0 x1 x2 = x at h1
  generalize val_main_v174 x0 x1 x2 = y at h2
  pointwise
  rw [sum_last, h1]
  pointwise
  rw [sum_fin_of (fun c => -(pr (data X G s C N) n (4 * k + g) r c * (dp (data X G s C N) n (4 * k + g) r c - dl (data X G s C N) n (4 * k + g) r)))
    (fun c => by rw [h2, ← EReal.coe_neg]), ← EReal.coe_neg]
  simp only [Ideal.ofBits_zero, zero_add, ← EReal.coe_add, shift_zero, EReal.coe_zero]

/-- The sum of a real function over the blocks and rows. -/
theorem sum_rows (f : ℕ → ℕ → ℝ) (y : Fin 64 → Fin 128 → EReal) (h : ∀ n r, y n r = ((f n r : ℝ) : EReal)) :
    ∑ n, ∑ r, y n r = ((∑ n ∈ range 64, ∑ r ∈ range 128, f n r : ℝ) : EReal) :=
  sum_fin_of (fun n => ∑ r ∈ range 128, f n r) fun n => sum_fin_of (f n) (h n)

theorem v168_real (k g : Fin 4) :
    val_main_v168 x0 x1 x2 (ix6 0 0 k g 0 0) = ((dsink (data X G s C N) (4 * k + g) : ℝ) : EReal) := by
  have h1 := fun n r => v166_real H n k g r
  unfold val_main_v168 val_main_v167 val_main_cst_25
  generalize val_main_v166 x0 x1 x2 = x at h1
  pointwise
  rw [sum_mid, sum_rows H (fun n r => -(pk (data X G s C N) n (4 * k + g) r * dl (data X G s C N) n (4 * k + g) r)) _ h1]
  unfold dsink
  simp [Ideal.ofBits_zero]

theorem v181_real (k g : Fin 4) : val_main_v181 x0 x1 x2 (ix6 0 0 k g 0 0) = 0 := by
  have h1 := fun n r => v178_real H n k g r
  unfold val_main_v181 val_main_v180 val_main_v179 val_main_cst_28
  generalize val_main_v178 x0 x1 x2 = x at h1
  generalize val_main_v135 x0 x2 = y
  pointwise
  rw [sum_mid]
  pointwise
  simp [h1, Ideal.ofBits_zero]

theorem v191_real (h : Fin 16) : val_main_v191 x0 x1 x2 (ix1 h) = ((dsink (data X G s C N) h : ℝ) : EReal) := by
  have h1 := v168_real H
  have h2 := v181_real H
  unfold val_main_v191 val_main_v190 val_main_v182 val_main_cst_30
  generalize val_main_v168 x0 x1 x2 = x at h1
  generalize val_main_v181 x0 x1 x2 = y at h2
  pointwise
  rw [sum_four]
  pointwise
  rw [h1, h2]
  have : 4 * (h.val / 4) + h.val % 4 = h.val := by omega
  simp [Ideal.ofBits_zero, this]

theorem v185_real (n : Fin 64) (k g : Fin 4) (r : Fin 128) : val_main_v185 x0 x1 x2 (ix5 0 n k g r) = 0 := by
  have h1 := v178_real H n k g r
  unfold val_main_v185 val_main_v184 val_main_v183 val_main_cst_29
  generalize val_main_v178 x0 x1 x2 = x at h1
  generalize val_main_v126 x0 x2 = y
  pointwise
  rw [sum_ends]
  pointwise
  simp [h1, Ideal.ofBits_zero]

omit H in
/-- A tie's share of nothing: a row's ties are counted, and where there is one the count is not zero. -/
theorem tie_zero (t : Fin 256 → BitVec 1) (c : Fin 256) :
    Ideal.div 0 (∑ c, ((((t c).toNat : ℝ)) : EReal)) * (((t c).toNat : ℝ) : EReal) = 0 := by
  by_cases h : (t c).toNat = 0
  · rw [h]; simp
  · have hs : ∑ c, ((((t c).toNat : ℝ)) : EReal) = ((∑ c, ((t c).toNat : ℝ) : ℝ) : EReal) := coe_sum univ _
    have hp : (0 : ℝ) < ∑ c, ((t c).toNat : ℝ) :=
      lt_of_lt_of_le (by exact_mod_cast Nat.pos_of_ne_zero h) (single_le_sum (f := fun c => ((t c).toNat : ℝ)) (fun _ _ => by positivity) (mem_univ c))
    rw [hs, Ideal.div_coe hp.ne', zero_mul, zero_mul]

theorem v188_real (n : Fin 64) (k g : Fin 4) (r : Fin 128) (c : Fin 256) : val_main_v188 x0 x1 x2 (ix6 0 n k g r c) = 0 := by
  have h1 := v185_real H n k g r
  unfold val_main_v188 val_main_v187 val_main_v186 val_main_v114 val_main_v113 val_main_cst_15
  generalize val_main_v185 x0 x1 x2 = x at h1
  generalize val_main_v112 x0 = y
  pointwise
  rw [sum_last, h1]
  pointwise
  exact tie_zero (fun c => y (ix6 0 n k g r c)) c

theorem v194_real (n : Fin 64) (k g : Fin 4) (r : Fin 128) (c : Fin 256) :
    val_main_v194 x0 x1 x2 (ix6 0 n k g r c) = ((ds (data X G s C N) n (4 * k + g) r c : ℝ) : EReal) := by
  have h1 := v106_1_apply n k g r c
  have h2 := v174_real H n k g r c
  have h3 := v188_real H n k g r c
  unfold val_main_v194 val_main_v193 val_main_v192 val_main_v189 val_main_cst_31 val_main_call1_v0 val_main_call1_cst
  generalize val_main_v106_1 (F := Ideal) = x at h1
  generalize val_main_v174 x0 x1 x2 = y at h2
  generalize val_main_v188 x0 x1 x2 = z at h3
  pointwise
  rw [h1, h2, h3, select_if, eighth]
  unfold ds
  split_ifs with h
  · rw [add_zero, ← EReal.coe_mul]
  · unfold pr; rw [if_neg h]; simp [Ideal.ofBits_zero]

end Cert.ReferenceIdeal.Real

end
-- ==== Proof.RefD.lean ====
/- The reference's gradient of the projected row, over the real numbers. -/
module

public import proofs.«01_k».proof.Proof.RefC

@[expose] public section

noncomputable section

namespace Cert.ReferenceIdeal.Real

open Idealize.ShloMosaic Idealize.SL.Sem Cert.ReferenceIdeal Cert.ReferenceIdeal.Gen Cert.ReferenceIdeal.Read Cert.Attn Finset

variable {x0 : A0} {x1 : A1} {x2 : A2} {X G : ℕ → ℕ → ℝ} {s : ℕ → ℝ} {C N : ℕ → ℕ → ℝ}
variable (H : Args x0 x1 x2 X G s C N)

theorem ds_band (A : Data) (f : ℕ → ℕ → ℝ) (n h r c col : ℕ) :
    ds A n h r c * band f n c col = ds A n h r c * f (128 * n + c - 128) col := by
  by_cases hc : ok n r c
  · unfold band; rw [if_pos hc.2.2]
  · unfold ds pr; rw [if_neg hc]; simp

include H

theorem v214_real (b : Fin 8192) (h : Fin 16) (d : Fin 64) :
    val_main_v214 x0 x1 x2 (ix4 0 b h d) = ((dq (data X G s C N) b (64 * h + d) : ℝ) : EReal) := by
  have h1 := v194_real H
  have h2 := v61_real H
  unfold val_main_v214 val_main_v197 val_main_v196 val_main_v195
  generalize val_main_v194 x0 x1 x2 = x at h1
  generalize val_main_v61 x0 = y at h2
  pointwise
  rw [sum_fin_of (fun c => ds (data X G s C N) (b / 128) (4 * (h / 4) + h % 4) (b % 128) c
      * (data X G s C N).k (128 * (b / 128) + c - 128) (64 * (h / 4) + d))
      (fun c => by rw [h1, h2, ← EReal.coe_mul, ds_band])]
  unfold dq
  have e1 : (64 * h.val + d.val) / 64 = h.val := by omega
  have e2 : (64 * h.val + d.val) % 64 = d.val := by omega
  have e3 : 4 * (h.val / 4) + h.val % 4 = h.val := by omega
  rw [e1, e2, e3]

theorem v198_real (n : Fin 64) (k : Fin 4) (c : Fin 256) (d : Fin 64) :
    val_main_v198 x0 x1 x2 (ix5 0 n k c d) = ((dkw (data X G s C N) n k c d : ℝ) : EReal) := by
  have h1 := v194_real H
  have h2 := v54_real H
  unfold val_main_v198 val_main_v195
  generalize val_main_v194 x0 x1 x2 = x at h1
  generalize val_main_v54 x0 = y at h2
  pointwise
  rw [sum_fin_of (fun r => ∑ j ∈ range 4, ds (data X G s C N) n (4 * k + j) r c * (data X G s C N).q (128 * n + r) (64 * (4 * k + j) + d))
    (fun r => sum_fin_of _ (fun j => by rw [h1, h2, ← EReal.coe_mul]))]
  unfold dkw
  rw [sum_comm]

theorem v156_real (n : Fin 64) (k : Fin 4) (c : Fin 256) (d : Fin 64) :
    val_main_v156 x0 x1 x2 (ix5 0 n k d c) = ((dvw (data X G s C N) n k c d : ℝ) : EReal) := by
  have h1 := v146_real H
  unfold val_main_v156 val_main_v154 val_main_v153
  generalize val_main_v146 x0 x2 = x at h1
  pointwise
  rw [sum_fin_of (fun j => ∑ r ∈ range 128, pr (data X G s C N) n (4 * k + j) r c * (data X G s C N).g (128 * n + r) (64 * (4 * k + j) + d))
    (fun j => sum_fin_of _ (fun r => by
      rw [h1, H.g, ← EReal.coe_mul, mul_comm]
      unfold data
      dsimp only
      congr 3 <;> omega))]
  rfl

theorem v211_real (n : Fin 64) (r : Fin 128) (k : Fin 4) (d : Fin 64) :
    val_main_v211 x0 x1 x2 (ix5 0 n r k d) = ((if n.val + 1 < 64 then dkw (data X G s C N) (n + 1) k r d else 0 : ℝ) : EReal) := by
  have h1 := v198_real H
  unfold val_main_v211 val_main_v210 val_main_v207 val_main_v199 val_main_cst_33
  generalize val_main_v198 x0 x1 x2 = x at h1
  pointwise
  by_cases h : n.val < 63
  · rw [dif_pos h, if_pos (by omega), h1]
    congr 2
    exact Nat.add_comm 1 _
  · rw [dif_neg h, if_neg (by omega)]
    simp [Ideal.ofBits_zero]

theorem v212_real (n : Fin 64) (r : Fin 128) (k : Fin 4) (d : Fin 64) :
    val_main_v212 x0 x1 x2 (ix5 0 n r k d)
      = ((dkw (data X G s C N) n k (128 + r) d + if n.val + 1 < 64 then dkw (data X G s C N) (n + 1) k r d else 0 : ℝ) : EReal) := by
  have h1 := v198_real H
  have h2 := v211_real H n r k d
  unfold val_main_v212 val_main_v208 val_main_v199
  generalize val_main_v198 x0 x1 x2 = x at h1
  generalize val_main_v211 x0 x1 x2 = y at h2
  pointwise
  rw [h1, h2, ← EReal.coe_add]

theorem v213_real (b : Fin 8192) (k : Fin 4) (d : Fin 64) :
    val_main_v213 x0 x1 x2 (ix4 0 b k d) = ((dk (data X G s C N) b (64 * k + d) : ℝ) : EReal) := by
  have h1 := v212_real H
  unfold val_main_v213
  generalize val_main_v212 x0 x1 x2 = x at h1
  pointwise
  have e1 : (64 * k.val + d.val) / 64 = k.val := by omega
  have e2 : (64 * k.val + d.val) % 64 = d.val := by omega
  unfold dk
  rw [e1, e2, h1]

theorem v204_real (n : Fin 64) (r : Fin 128) (k : Fin 4) (d : Fin 64) :
    val_main_v204 x0 x1 x2 (ix5 0 n r k d) = ((if n.val + 1 < 64 then dvw (data X G s C N) (n + 1) k r d else 0 : ℝ) : EReal) := by
  have h1 := v156_real H
  unfold val_main_v204 val_main_v203 val_main_v200 val_main_v157 val_main_cst_32
  generalize val_main_v156 x0 x1 x2 = x at h1
  pointwise
  by_cases h : n.val < 63
  · rw [dif_pos h, if_pos (by omega), h1]
    congr 2
    exact Nat.add_comm 1 _
  · rw [dif_neg h, if_neg (by omega)]
    simp [Ideal.ofBits_zero]

theorem v205_real (n : Fin 64) (r : Fin 128) (k : Fin 4) (d : Fin 64) :
    val_main_v205 x0 x1 x2 (ix5 0 n r k d)
      = ((dvw (data X G s C N) n k (128 + r) d + if n.val + 1 < 64 then dvw (data X G s C N) (n + 1) k r d else 0 : ℝ) : EReal) := by
  have h1 := v156_real H
  have h2 := v204_real H n r k d
  unfold val_main_v205 val_main_v201 val_main_v157
  generalize val_main_v156 x0 x1 x2 = x at h1
  generalize val_main_v204 x0 x1 x2 = y at h2
  pointwise
  rw [h1, h2, ← EReal.coe_add]

theorem v206_real (b : Fin 8192) (k : Fin 4) (d : Fin 64) :
    val_main_v206 x0 x1 x2 (ix4 0 b k d) = ((dv (data X G s C N) b (64 * k + d) : ℝ) : EReal) := by
  have h1 := v205_real H
  unfold val_main_v206
  generalize val_main_v205 x0 x1 x2 = x at h1
  pointwise
  have e1 : (64 * k.val + d.val) / 64 = k.val := by omega
  have e2 : (64 * k.val + d.val) % 64 = d.val := by omega
  unfold dv
  rw [e1, e2, h1]

theorem v215_real (b : Fin 8192) (c : Fin 256) :
    val_main_v215 x0 x1 x2 (ix2 b c) = ((dv (data X G s C N) b c : ℝ) : EReal) := by
  have h1 := v206_real H
  unfold val_main_v215
  generalize val_main_v206 x0 x1 x2 = x at h1
  pointwise
  rw [h1]
  congr 2
  dsimp only
  omega

theorem v230_real (b : Fin 8192) (c : Fin 256) :
    val_main_v230 x0 x1 x2 (ix2 b c) = ((unrot (dk (data X G s C N)) C N b c : ℝ) : EReal) := by
  have h1 := v213_real H
  have hc := H.c
  have hn := H.n
  unfold val_main_v230 val_main_v229 val_main_v228 val_main_v225 val_main_v219 val_main_v227 val_main_v221 val_main_v224
    val_main_v222 val_main_v217 val_main_v218 val_main_v216 val_main_v226 val_main_v220 val_main_v223 val_main_v40 val_main_v41
  generalize val_main_v213 x0 x1 x2 = x at h1
  generalize val_main_v16 (F := Ideal) = T at hc
  generalize val_main_v17 (F := Ideal) = U at hn
  pointwise
  simp only [h1, hc, hn, ← EReal.coe_mul, ← EReal.coe_add, ← EReal.coe_neg]
  unfold unrot
  have := c.isLt
  split_ifs <;> first | (exfalso; omega) | skip
  · congr 1
    rw [add_comm]
    congr 3 <;> omega
  · congr 1
    rw [neg_mul, ← sub_eq_add_neg]
    congr 3 <;> omega

theorem v245_real (b : Fin 8192) (c : Fin 1024) :
    val_main_v245 x0 x1 x2 (ix2 b c) = ((unrot (dq (data X G s C N)) C N b c : ℝ) : EReal) := by
  have h1 := v214_real H
  have hc := H.c
  have hn := H.n
  unfold val_main_v245 val_main_v244 val_main_v243 val_main_v240 val_main_v234 val_main_v242 val_main_v236 val_main_v239
    val_main_v237 val_main_v232 val_main_v233 val_main_v231 val_main_v241 val_main_v235 val_main_v238 val_main_v24 val_main_v25
  generalize val_main_v214 x0 x1 x2 = x at h1
  generalize val_main_v16 (F := Ideal) = T at hc
  generalize val_main_v17 (F := Ideal) = U at hn
  pointwise
  simp only [h1, hc, hn, ← EReal.coe_mul, ← EReal.coe_add, ← EReal.coe_neg]
  unfold unrot
  have := c.isLt
  split_ifs <;> first | (exfalso; omega) | skip
  · congr 1
    rw [add_comm]
    congr 3 <;> omega
  · congr 1
    rw [neg_mul, ← sub_eq_add_neg]
    congr 3 <;> omega

theorem v247_real (b : Fin 8192) (c : Fin 1536) :
    val_main_v247 x0 x1 x2 (ix2 b c) = ((out (data X G s C N) C N b c : ℝ) : EReal) := by
  have h1 := v245_real H
  have h2 := v230_real H
  have h3 := v215_real H
  unfold val_main_v247 val_main_v246
  generalize val_main_v245 x0 x1 x2 = x at h1
  generalize val_main_v230 x0 x1 x2 = y at h2
  generalize val_main_v215 x0 x1 x2 = z at h3
  pointwise
  unfold out
  have := c.isLt
  by_cases e1 : c.val < 1024
  · rw [dif_pos e1, if_pos e1]
    exact h1 _ _
  · rw [dif_neg e1, if_neg e1]
    by_cases e2 : c.val < 1280
    · rw [dif_pos (by omega), if_pos e2]
      exact h2 _ _
    · rw [dif_neg (by omega), if_neg e2, h3]
      show ((dv _ b (c.val - 1024 - 256) : ℝ) : EReal) = _
      rw [Nat.sub_sub]

end Cert.ReferenceIdeal.Real

end
-- ==== Proof.Algebraic.lean ====
/- The value claim: from finite arguments, kernel and reference end with the same two results over the extended reals. -/
module

public import proofs.«01_k».proof.Defs
public import proofs.«01_k».proof.Proof.Finite
public import proofs.«01_k».proof.Proof.Chain
public import proofs.«01_k».proof.Proof.ValueRun
public import proofs.«01_k».proof.Proof.RefRun3
public import proofs.«01_k».proof.Proof.RefD

@[expose] public section

noncomputable section

namespace Cert.Proof

open Idealize.ShloMosaic Idealize.ShloMosaic.TcCoe Idealize.SL.Sem Cert.KernelIdeal.Val

/-- A matrix of extended reals that are reals, read at a row and a column. -/
def entry {n k : ℕ} (x : (⟨2, ![n, k]⟩ : Shape).Idx → EReal) (r l : ℕ) : ℝ :=
  if h : r < n ∧ l < k then (x (ix2 ⟨r, h.1⟩ ⟨l, h.2⟩)).toReal else 0

theorem entry_at {n k : ℕ} (x : (⟨2, ![n, k]⟩ : Shape).Idx → EReal) (r : Fin n) (l : Fin k) :
    entry x r l = (x (ix2 r l)).toReal := by
  unfold entry; rw [dif_pos ⟨r.isLt, l.isLt⟩]

/-- A vector of extended reals that are reals, read at a position. -/
def entry1 {n : ℕ} (x : (⟨1, ![n]⟩ : Shape).Idx → EReal) (r : ℕ) : ℝ :=
  if h : r < n then (x (ix1 ⟨r, h⟩)).toReal else 0

theorem entry1_at {n : ℕ} (x : (⟨1, ![n]⟩ : Shape).Idx → EReal) (r : Fin n) : entry1 x r = (x (ix1 r)).toReal := by
  unfold entry1; rw [dif_pos r.isLt]

abbrev A0 := FVec Ideal Cert.KernelIdeal.S8192x1536 .f32
abbrev A1 := FVec Ideal Cert.KernelIdeal.S8192x1024 .f32
abbrev A2 := FVec Ideal Cert.KernelIdeal.S16 .f32

/-- From finite arguments the kernel's results are the reference's. -/
theorem results (m : (ℓ : Loc Cert.KernelIdeal.nD Cert.KernelIdeal.τ Cert.KernelIdeal.sig) → Buf (Elt Ideal) ℓ)
    (ρ : Dev Cert.KernelIdeal.nD → Idealize.ShloMosaic.PrngReg) (c : Dev Cert.KernelIdeal.nD) (x0 : A0) (x1 : A1) (x2 : A2)
    (h0 : m ((c : Thread Cert.KernelIdeal.nD Cert.KernelIdeal.τ).loc Cert.KernelIdeal.main_arg0) = x0)
    (h1 : m ((c : Thread Cert.KernelIdeal.nD Cert.KernelIdeal.τ).loc Cert.KernelIdeal.main_arg1) = x1)
    (h2 : m ((c : Thread Cert.KernelIdeal.nD Cert.KernelIdeal.τ).loc Cert.KernelIdeal.main_arg2) = x2)
    (r0 : ∀ i, x0 i = (((x0 i : EReal).toReal : ℝ) : EReal)) (r1 : ∀ i, x1 i = (((x1 i : EReal).toReal : ℝ) : EReal))
    (r2 : ∀ i, x2 i = (((x2 i : EReal).toReal : ℝ) : EReal)) :
    (Cert.KernelIdeal.Gen.W6 m ρ c (Proc.devRef .tc Cert.KernelIdeal.main_v25) : FVec Ideal Cert.KernelIdeal.S8192x1536 .bf16)
        = Cert.ReferenceIdeal.Read.val_main_v247 (F := Ideal) x0 x1 x2
      ∧ (Cert.KernelIdeal.Gen.W6 m ρ c (Proc.devRef .tc Cert.KernelIdeal.main_v28) : FVec Ideal Cert.KernelIdeal.S16 .f32)
        = Cert.ReferenceIdeal.Read.val_main_v191 (F := Ideal) x0 x1 x2 := by
  have hx : ∀ (r : Fin 8192) (l : Fin 1536), x0 (ix2 r l) = ((entry x0 r l : ℝ) : EReal) := fun r l => by
    rw [entry_at]; exact r0 _
  have hg : ∀ (r : Fin 8192) (l : Fin 1024), x1 (ix2 r l) = ((entry x1 r l : ℝ) : EReal) := fun r l => by
    rw [entry_at]; exact r1 _
  have hs : ∀ h : Fin 16, x2 (ix1 h) = ((entry1 x2 h : ℝ) : EReal) := fun h => by
    rw [entry1_at]; exact r2 _
  have G : Given m c (entry x0) (entry x1) (entry1 x2) :=
    ⟨fun r l => (congrFun h0 _).trans (hx r l), fun r l => (congrFun h1 _).trans (hg r l), fun h => (congrFun h2 _).trans (hs h)⟩
  have R : Cert.ReferenceIdeal.Real.Args x0 x1 x2 (entry x0) (entry x1) (entry1 x2) cosT sinT :=
    ⟨hx, hg, hs, v16_real, v17_real⟩
  constructor
  · funext i
    rw [eq_ix2 i]
    exact (result0 ρ G _ _).trans (Cert.ReferenceIdeal.Real.v247_real R _ _).symm
  · funext i
    rw [eq_ix1 i]
    exact (result1 ρ G _).trans (Cert.ReferenceIdeal.Real.v191_real R _).symm

/-- Both programs run, and end with equal results. -/
theorem algebraic : Cert.algebraic_KernelIdeal_ReferenceIdeal_pre_finite (hPre_finite := Cert.Pre_finite.facts) := by
  haveI := Cert.Pre_finite.facts
  intro m ρ m' ρ' hp hm
  have res := fun c : Dev Cert.KernelIdeal.nD =>
    let p := Cert.Pre_finite.real _ _ _ (hp c)
    results m ρ c _ _ _ (hm c).1.symm (hm c).2.1.symm (hm c).2.2.symm
      (fun i => by rw [(hm c).1]; exact p.1 i) (fun i => by rw [(hm c).2.1]; exact p.2.1 i) (fun i => by rw [(hm c).2.2]; exact p.2.2 i)
  refine ⟨fun c => Cert.KernelIdeal.Gen.W6 m ρ c (Proc.devRef .tc Cert.KernelIdeal.main_v25),
    fun c => Cert.KernelIdeal.Gen.W6 m ρ c (Proc.devRef .tc Cert.KernelIdeal.main_v28), run m ρ, ?_⟩
  exact (θ_run Cert.ReferenceIdeal.defs _ _).mono
    (fun r h c => ⟨(h c).1.trans (res c).1.symm, (h c).2.1.trans (res c).2.symm, (h c).2.2⟩) (Cert.ReferenceIdeal.Read.run m' ρ')

end Cert.Proof

end
-- ==== Proof.FfnRun.lean ====
/- The feed-forward half step's program run: its two result arrays end at the contents the segments' fold gives them, its arguments as launched. -/
module

public import proofs.«01_k».proof.Proof.Gen.Kernel2Ideal.Frame

@[expose] public section

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

-- the launch lemma's implicit arguments are found by unfolding plain definitions in a metavariable's type
set_option backward.isDefEq.respectTransparency.types false in
/-- Every weakly fair execution ends, with both results at the last segment's contents and the arguments as launched. -/
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10 (by decide)), h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel2Ideal.Ffn

end
-- ==== Proof.Ffn.lean ====
/- The feed-forward half step and its gradients on reals: what the reference's mathematics is, entry by entry. -/
module

public import proofs.«01_k».proof.Proof.RealSum

@[expose] public section

noncomputable section

namespace Cert.Ffn

open Finset Idealize.ShloMosaic

/-- The logistic function. -/
def sg (z : ℝ) : ℝ := (1 + Real.exp (-z))⁻¹

/-- The hidden value at a gate `g` and a value `u`, and its derivatives in the two. -/
def act (g u : ℝ) : ℝ := g * sg g * u
def byGate (g u : ℝ) : ℝ := u * (sg g * (g - g * sg g + 1))
def byValue (g : ℝ) : ℝ := g * sg g

/-- `n` products of a row with a column, and of a row with a row. -/
def dot (n : ℕ) (A B : ℕ → ℕ → ℝ) (r j : ℕ) : ℝ := ∑ k ∈ range n, A r k * B k j
def dotT (n : ℕ) (A B : ℕ → ℕ → ℝ) (r j : ℕ) : ℝ := ∑ k ∈ range n, A r k * B j k

/-- The joint input weights' second half. -/
def right (W : ℕ → ℕ → ℝ) (k j : ℕ) : ℝ := W k (2816 + j)

/-- The residual's factor. -/
def alpha : ℝ := (Ideal.ofBits .f32 0x3FD744FD#32).toReal

theorem alpha_real : Ideal.ofBits .f32 0x3FD744FD#32 = ((alpha : ℝ) : EReal) := by
  refine (EReal.coe_toReal ?_ ?_).symm
  · simp [Ideal.ofBits, Ideal.ieee, -EReal.coe_mul]
  · simp [Ideal.ofBits, Ideal.ieee, -EReal.coe_mul]

theorem half_real : Ideal.ofBits .f32 0x3F000000#32 = ((1 / 2 : ℝ) : EReal) := by
  simp [Ideal.ofBits, Ideal.ieee, -EReal.coe_mul]; norm_num

section

variable (X W O Z : ℕ → ℕ → ℝ)

def gate (r j : ℕ) : ℝ := dot 1024 X W r j
def value (r j : ℕ) : ℝ := dot 1024 X (right W) r j
def hidden (r j : ℕ) : ℝ := act (gate X W r j) (value X W r j)

/-- Half the incoming gradient, and what it sends to the hidden row. -/
def halved (r d : ℕ) : ℝ := 1 / 2 * Z r d
def back (r j : ℕ) : ℝ := dotT 1024 (halved Z) O r j

/-- The two derivatives, the first plane the gate's. -/
def jac (p r j : ℕ) : ℝ := if p = 0 then byGate (gate X W r j) (value X W r j) else byValue (gate X W r j)

/-- The gradients of gate and value. -/
def dh (p r j : ℕ) : ℝ := back O Z r j * jac X W p r j

/-- The gradient of the output weights. -/
def dOut (j d : ℕ) : ℝ := ∑ r ∈ range 8192, hidden X W r j * halved Z r d

/-- The gradient of the tokens. -/
def dx (r k : ℕ) : ℝ :=
  dotT 2816 (dh X W O Z 0) W r k + dotT 2816 (dh X W O Z 1) (fun k j => W k (2816 + j)) r k + alpha * Z r k

end

/-- The derivative in the gate the other way round. -/
theorem byGate_eq (g u b : ℝ) : b * byGate g u = b * u * sg g + g * (b * u) * (sg g * (1 - sg g)) := by
  unfold byGate; ring

/-- A sum of products of real entries. -/
theorem sum_mul {n : ℕ} {a b : Fin n → EReal} (f g : ℕ → ℝ) (ha : ∀ k : Fin n, a k = ((f k : ℝ) : EReal))
    (hb : ∀ k : Fin n, b k = ((g k : ℝ) : EReal)) : ∑ k, a k * b k = ((∑ k ∈ range n, f k * g k : ℝ) : EReal) :=
  Cert.Attn.sum_fin_of (fun k => f k * g k) fun k => by rw [ha, hb, EReal.coe_mul]

theorem logistic_real (z : ℝ) : Ideal.logistic (z : EReal) = ((sg z : ℝ) : EReal) := Ideal.logistic_coe z

end Cert.Ffn

end
-- ==== Proof.FfnCells.lean ====
/- The feed-forward half step, one grid point of each of its calls: what the body leaves in its blocks on real inputs. -/
module

public import proofs.«01_k».proof.Proof.Ffn
public import proofs.«01_k».proof.Proof.Gen.Kernel2Ideal.Frame
public import Idealize.ShloMosaic.Lib.Pipeline.ValueKit
public import Idealize.ShloMosaic.Lib.Pointwise
public import Idealize.ShloMosaic.Lib.IdealHost
public import Idealize.ShloMosaic.Lib.Ring
public import Idealize.ShloMosaic.Lib.Tactic

@[expose] public section

noncomputable section

namespace Cert.Kernel2Ideal.Ffn

open Cert.Kernel2Ideal Cert.Kernel2Ideal.Gen Cert.Ffn Idealize.ShloMosaic Idealize.ShloMosaic.TcCoe Idealize.SL.Sem Finset

theorem zero2 : (![0, 0] : Fin 2 → Nat) = fun _ => 0 := funext fun a => by fin_cases a <;> rfl
theorem zero3 : (![0, 0, 0] : Fin 3 → Nat) = fun _ => 0 := funext fun a => by fin_cases a <;> rfl

/-! ### The first call: gate, value and the hidden row -/

section Up

variable {x : Vec Ideal S512x1024 .bf16} {w w' : Vec Ideal S1024x1408 .bf16} {X W W' : ℕ → ℕ → ℝ}
  (hx : ∀ (r : Fin 512) (k : Fin 1024), x (ix2 r k) = ((X r k : ℝ) : EReal))
  (hw : ∀ (k : Fin 1024) (l : Fin 1408), w (ix2 k l) = ((W k l : ℝ) : EReal))
  (hw' : ∀ (k : Fin 1024) (l : Fin 1408), w' (ix2 k l) = ((W' k l : ℝ) : EReal))
  (r : Fin 512) (l : Fin 1408)
include hx hw

theorem gate_real : k0_pay2 (F := Ideal) x w (ix2 r l) = ((dot 1024 X W r l : ℝ) : EReal) := by
  unfold k0_pay2 k0_pay1
  pointwise
  exact sum_mul (fun k => X r k) (fun k => W k l) (fun k => hx r k) (fun k => hw k l)

theorem value_real : k0_pay3 (F := Ideal) x w (ix2 r l) = ((dot 1024 X W r l : ℝ) : EReal) := by
  unfold k0_pay3 k0_pay1
  pointwise
  exact sum_mul (fun k => X r k) (fun k => W k l) (fun k => hx r k) (fun k => hw k l)

theorem swish_real : k0_pay5 (F := Ideal) x w (ix2 r l) = ((byValue (dot 1024 X W r l) : ℝ) : EReal) := by
  have h := gate_real hx hw r l
  unfold k0_pay5 k0_pay4
  generalize k0_pay2 (F := Ideal) x w = g at h
  pointwise
  rw [h, logistic_real, ← EReal.coe_mul]
  rfl

theorem plane1_real : k0_pay7 (F := Ideal) x w (ix3 0 r l) = ((byValue (dot 1024 X W r l) : ℝ) : EReal) := by
  have h := swish_real hx hw r l
  unfold k0_pay7
  generalize k0_pay5 (F := Ideal) x w = g at h
  pointwise
  exact h

include hw'

theorem plane0_real : k0_pay6 (F := Ideal) x w w' (ix3 0 r l) = ((byGate (dot 1024 X W r l) (dot 1024 X W' r l) : ℝ) : EReal) := by
  have h := gate_real hx hw r l
  have h' := value_real hx hw' r l
  have h'' := swish_real hx hw r l
  unfold k0_pay6 k0_pay4
  generalize k0_pay2 (F := Ideal) x w = g at h
  generalize k0_pay3 (F := Ideal) x w' = g' at h'
  generalize k0_pay5 (F := Ideal) x w = g'' at h''
  pointwise
  rw [h, h', h'', logistic_real, ← EReal.coe_sub, ← EReal.coe_one, ← EReal.coe_add, ← EReal.coe_mul, ← EReal.coe_mul]
  rfl

theorem hidden_real : k0_pay8 (F := Ideal) x w w' (ix2 r l) = ((act (dot 1024 X W r l) (dot 1024 X W' r l) : ℝ) : EReal) := by
  have h' := value_real hx hw' r l
  have h'' := swish_real hx hw r l
  unfold k0_pay8
  generalize k0_pay3 (F := Ideal) x w' = g' at h'
  generalize k0_pay5 (F := Ideal) x w = g'' at h''
  pointwise
  rw [h', h'', ← EReal.coe_mul]
  rfl

theorem out0_4_real : out0_4 x w w' (ix2 r l) = ((act (dot 1024 X W r l) (dot 1024 X W' r l) : ℝ) : EReal) := by
  unfold out0_4
  rw [View.canon_unit_zero (S := S512x1408) zero2, View.ld_unit_zero (S := S512x1024) zero2, View.ld_unit_zero (S := S1024x1408) zero2,
    View.ld_unit_zero (S := S1024x1408) zero2]
  exact hidden_real hx hw hw' r l

omit hx hw hw' in
/-- Both planes of the derivatives as one block. -/
def planes (X W W' : ℕ → ℕ → ℝ) : Vec Ideal S2x512x1408 .bf16 := fun y =>
  ((if (y 0).val = 0 then byGate (dot 1024 X W (y 1) (y 2)) (dot 1024 X W' (y 1) (y 2)) else byValue (dot 1024 X W (y 1) (y 2)) : ℝ) : EReal)

omit hx hw hw' in
theorem at_row {n k : ℕ} (y : (⟨3, ![1, n, k]⟩ : Shape).Idx) : y = ix3 (0 : Fin 1) (y 1 : Fin n) (y 2 : Fin k) := by
  funext a
  match a with
  | ⟨0, _⟩ => exact Subsingleton.elim (α := Fin 1) _ _
  | ⟨1, _⟩ => rfl
  | ⟨2, _⟩ => rfl

omit hx hw hw' in
theorem planes_at (y : S2x512x1408.Idx) (p r l : ℕ) (h0 : (y 0).val = p) (h1 : (y 1).val = r) (h2 : (y 2).val = l) :
    planes X W W' y = ((if p = 0 then byGate (dot 1024 X W r l) (dot 1024 X W' r l) else byValue (dot 1024 X W r l) : ℝ) : EReal) := by
  subst h0 h1 h2; rfl

theorem out0_3_real (p : Fin 2) : out0_3 x w w' (ix3 p r l)
    = ((if p.val = 0 then byGate (dot 1024 X W r l) (dot 1024 X W' r l) else byValue (dot 1024 X W r l) : ℝ) : EReal) := by
  unfold out0_3
  rw [View.ld_unit_zero (S := S512x1024) zero2, View.ld_unit_zero (S := S1024x1408) zero2,
    View.ld_unit_zero (S := S1024x1408) zero2]
  refine View.canon_apply_of_pieces (planes X W W') _ (fun q hq y => ?_) (ix3 p r l) (cover0_3 _ _ _)
  simp only [List.mem_cons, List.not_mem_nil, or_false] at hq
  obtain rfl | rfl := hq
  · refine (congrArg _ (at_row y)).trans ((plane1_real hx hw (y 1) (y 2)).trans ?_)
    rw [planes_at _ 1 (y 1).val (y 2).val]
    · rw [if_neg one_ne_zero]
    · show 1 + 1 * (y 0).val = 1
      have : (y 0).val < 1 := (y 0).isLt
      omega
    · show 0 + 1 * (y 1).val = _; omega
    · show 0 + 1 * (y 2).val = _; omega
  · refine (congrArg _ (at_row y)).trans ((plane0_real hx hw hw' (y 1) (y 2)).trans ?_)
    rw [planes_at _ 0 (y 1).val (y 2).val]
    · rw [if_pos rfl]
    · show 0 + 1 * (y 0).val = 0
      have : (y 0).val < 1 := (y 0).isLt
      omega
    · show 0 + 1 * (y 1).val = _; omega
    · show 0 + 1 * (y 2).val = _; omega

end Up

/-! ### The second call: the two gradients of the hidden row -/

section Mid

variable (z : Vec Ideal S1024x1024 .bf16) (w : Vec Ideal S4x352x1024 .bf16)

def sent (r : Fin 1024) (n : ℕ) (hn : n < 1408) : EReal := ∑ d : Fin 1024, z (ix2 r d) * w (ix3 ⟨n / 352, by omega⟩ ⟨n % 352, by omega⟩ d)

variable (j : Vec Ideal S1x1024x512 .bf16) (k : Vec Ideal S1x1024x384 .bf16) (r : Fin 1024) (l : Fin 512) (o : Fin 384)

theorem pay9_apply : k1_pay9 (F := Ideal) w z j (ix3 0 r l) = sent z w r l (by omega) * j (ix3 0 r l) := by
  unfold k1_pay9 k1_pay8 k1_pay7 k1_pay6 sent
  pointwise

theorem pay10_apply : k1_pay10 (F := Ideal) w z j (ix3 0 r l) = sent z w r l (by omega) * j (ix3 0 r l) := by
  unfold k1_pay10 k1_pay8 k1_pay7 k1_pay6 sent
  pointwise

theorem pay1_apply : k1_pay1 (F := Ideal) (k1_pay12 (F := Ideal) w z j) (ix3 0 r l) = sent z w r (512 + l) (by omega) * j (ix3 0 r l) := by
  unfold k1_pay1 k1_pay12 k1_pay11 k1_pay7 k1_pay6 sent
  pointwise

theorem pay2_apply : k1_pay2 (F := Ideal) (k1_pay11 (F := Ideal) w z) j (ix3 0 r l) = sent z w r (512 + l) (by omega) * j (ix3 0 r l) := by
  unfold k1_pay2 k1_pay11 k1_pay7 k1_pay6 sent
  pointwise

theorem pay4_apply : k1_pay4 (F := Ideal) (k1_pay6 (F := Ideal) w) (k1_pay7 (F := Ideal) z) k (ix3 0 r o) = sent z w r (1024 + o) (by omega) * k (ix3 0 r o) := by
  unfold k1_pay4 k1_pay3 k1_pay7 k1_pay6 sent
  pointwise

theorem pay5_apply : k1_pay5 (F := Ideal) (k1_pay6 (F := Ideal) w) (k1_pay7 (F := Ideal) z) k (ix3 0 r o) = sent z w r (1024 + o) (by omega) * k (ix3 0 r o) := by
  unfold k1_pay5 k1_pay3 k1_pay7 k1_pay6 sent
  pointwise

/-- What the body leaves: each derivative times what comes back. -/
def mid (J : Vec Ideal S2x1024x1408 .bf16) : Vec Ideal S2x1024x1408 .bf16 := fun y => sent z w (y 1) (y 2).val (y 2).isLt * J y

theorem mid_at (J : Vec Ideal S2x1024x1408 .bf16) {R : Rect S2x1024x1408} (x : R.shape.Idx) (q : Fin 1024) (n : ℕ) (hn : n < 1408)
    (h1 : ((R.emb x) 1).val = q.val) (h2 : ((R.emb x) 2).val = n) :
    sent z w q n hn * View.ld J R x = mid z w J (R.emb x) := by
  subst h2
  obtain rfl : (R.emb x) 1 = q := Fin.ext h1
  rfl

theorem mid_out (c : Dev nD) (i : grid1.Coords) (a2 : Memref sig .tc .vmem S1024x1024 .bf16) (h2 : a2.IsWhole)
    (a3 : Memref sig .tc .vmem S4x352x1024 .bf16) (h3 : a3.IsWhole) (a4 : Memref sig .tc .vmem S2x1024x1408 .bf16) (h4 : a4.IsWhole)
    (a5 : Memref sig .tc .vmem S2x1024x1408 .bf16) (h5 : a5.IsWhole) (J : Vec Ideal S2x1024x1408 .bf16) (y : S2x1024x1408.Idx) :
    out1_A_3 c i a2 h2 a3 h3 a4 h4 a5 h5 z w J y = mid z w J y := by
  have cov := cover1_A_3 c i a2 h2 a3 h3 a4 h4 a5 h5 z w J y
  unfold out1_A_3
  rw [View.read_writes_eq_canon _ _ _ (cover1_A_3 c i a2 h2 a3 h3 a4 h4 a5 h5 z w J)]
  refine View.canon_apply_of_pieces (mid z w J) _ (fun q hq x => ?_) y cov
  revert hq
  unfold kernelRun1_A
  dsimp only
  sl_unfold_words
  simp only [View.readAt_eq_ld, h2.read_unread, h3.read_unread, h4.read_unread, View.ld_unit_zero (S := S1024x1024) zero2,
    View.ld_unit_zero (S := S4x352x1024) zero3, List.mem_cons, List.not_mem_nil, or_false]
  rintro (rfl | rfl | rfl | rfl | rfl | rfl)
  · refine (congrArg _ (at_row x)).trans ((pay5_apply z w _ (x 1) (x 2)).trans ?_)
    refine Eq.trans (congrArg _ (congrArg _ (at_row x).symm)) (mid_at z w J x (x 1) _ _ ?_ ?_)
    · show 0 + 1 * (x 1).val = _; omega
    · show 1024 + 1 * (x 2).val = _; omega
  · refine (congrArg _ (at_row x)).trans ((pay4_apply z w _ (x 1) (x 2)).trans ?_)
    refine Eq.trans (congrArg _ (congrArg _ (at_row x).symm)) (mid_at z w J x (x 1) _ _ ?_ ?_)
    · show 0 + 1 * (x 1).val = _; omega
    · show 1024 + 1 * (x 2).val = _; omega
  · refine (congrArg _ (at_row x)).trans ((pay2_apply z w _ (x 1) (x 2)).trans ?_)
    refine Eq.trans (congrArg _ (congrArg _ (at_row x).symm)) (mid_at z w J x (x 1) _ _ ?_ ?_)
    · show 0 + 1 * (x 1).val = _; omega
    · show 512 + 1 * (x 2).val = _; omega
  · refine (congrArg _ (at_row x)).trans ((pay1_apply z w _ (x 1) (x 2)).trans ?_)
    refine Eq.trans (congrArg _ (congrArg _ (at_row x).symm)) (mid_at z w J x (x 1) _ _ ?_ ?_)
    · show 0 + 1 * (x 1).val = _; omega
    · show 512 + 1 * (x 2).val = _; omega
  · refine (congrArg _ (at_row x)).trans ((pay10_apply z w _ (x 1) (x 2)).trans ?_)
    refine Eq.trans (congrArg _ (congrArg _ (at_row x).symm)) (mid_at z w J x (x 1) _ _ ?_ ?_)
    · show 0 + 1 * (x 1).val = _; omega
    · show 0 + 1 * (x 2).val = _; omega
  · refine (congrArg _ (at_row x)).trans ((pay9_apply z w _ (x 1) (x 2)).trans ?_)
    refine Eq.trans (congrArg _ (congrArg _ (at_row x).symm)) (mid_at z w J x (x 1) _ _ ?_ ?_)
    · show 0 + 1 * (x 1).val = _; omega
    · show 0 + 1 * (x 2).val = _; omega

end Mid

/-! ### The third call: one block of rows' products added up -/

section Dout

theorem step_apply (acc : Vec Ideal S1408x1024 .f32) (x : Vec Ideal S2048x1408 .bf16) (d : Vec Ideal S2048x1024 .bf16)
    (r : Fin 1408) (l : Fin 1024) :
    k2_pay2 (F := Ideal) acc x d (ix2 r l) = acc (ix2 r l) + ∑ k : Fin 2048, x (ix2 k r) * d (ix2 k l) := by
  unfold k2_pay2
  pointwise

theorem zero_apply (r : Fin 1408) (l : Fin 1024) : k2_pay1 (F := Ideal) (ix2 r l) = 0 := by
  unfold k2_pay1
  pointwise

variable (c : Dev nD) (i : grid2.Coords) (a3 : Memref sig .tc .vmem S2048x1408 .bf16) (h3 : a3.IsWhole)
  (a4 : Memref sig .tc .vmem S2048x1024 .bf16) (h4 : a4.IsWhole) (a5 : Memref sig .tc .vmem S1408x1024 .f32) (h5 : a5.IsWhole)
  (x : Vec Ideal S2048x1408 .bf16) (d : Vec Ideal S2048x1024 .bf16)

theorem first (hc0 : cond2_0 i) :
    out2_A_2 c i a3 h3 a4 h4 a5 h5 hc0 x d = k2_pay2 (F := Ideal) (k2_pay1 (F := Ideal)) x d := by
  unfold out2_A_2
  rw [View.read_writes_eq_canon _ _ _ (cover2_A_2 c i a3 h3 a4 h4 a5 h5 hc0 x d)]
  unfold kernelRun2_A
  dsimp only
  sl_unfold_words
  rw [View.canon_cons_unit_zero (S := S1408x1024) zero2, View.readCov_unit_zero (S := S1408x1024) _ zero2]
  simp only [View.readAt_eq_ld, h3.read_unread, h4.read_unread, View.ld_unit_zero (S := S2048x1408) zero2,
    View.ld_unit_zero (S := S2048x1024) zero2]

theorem next (hc0 : ¬cond2_0 i) (acc : Vec Ideal S1408x1024 .f32) :
    out2_B_2 c i a3 h3 a4 h4 a5 h5 hc0 x d acc = k2_pay2 (F := Ideal) acc x d := by
  unfold out2_B_2
  rw [View.read_writes_eq_canon _ _ _ (cover2_B_2 c i a3 h3 a4 h4 a5 h5 hc0 x d acc)]
  unfold kernelRun2_B
  dsimp only
  sl_unfold_words
  rw [View.canon_unit_zero (S := S1408x1024) zero2]
  simp only [View.readAt_eq_ld, h3.read_unread, h4.read_unread, h5.read_unread, View.ld_unit_zero (S := S2048x1408) zero2,
    View.ld_unit_zero (S := S2048x1024) zero2, View.ld_unit_zero (S := S1408x1024) zero2]

end Dout

/-! ### The fourth call -/

theorem dx_apply (d : Vec Ideal S1x512x2816 .bf16) (w : Vec Ideal S1024x2816 .bf16) (d' : Vec Ideal S1x512x2816 .bf16)
    (w' : Vec Ideal S1024x2816 .bf16) (z : Vec Ideal S512x1024 .f32) (r : Fin 512) (k : Fin 1024) :
    k3_pay1 (F := Ideal) d w d' w' z (ix2 r k)
      = ∑ x, d (ix3 0 r x) * w (ix2 k x) + ∑ x, d' (ix3 0 r x) * w' (ix2 k x) + Ideal.ofBits .f32 0x3FD744FD#32 * z (ix2 r k) := by
  unfold k3_pay1
  pointwise

theorem out3_4_apply (d : Vec Ideal S2x512x2816 .bf16) (w w' : Vec Ideal S1024x2816 .bf16) (z : Vec Ideal S512x1024 .f32) (r : Fin 512)
    (k : Fin 1024) : out3_4 d w w' z (ix2 r k)
      = ∑ x, d (ix3 0 r x) * w (ix2 k x) + ∑ x, d (ix3 1 r x) * w' (ix2 k x) + Ideal.ofBits .f32 0x3FD744FD#32 * z (ix2 r k) := by
  unfold out3_4
  rw [View.canon_unit_zero (S := S512x1024) zero2, View.ld_unit_zero (S := S1024x2816) zero2, View.ld_unit_zero (S := S1024x2816) zero2,
    View.ld_unit_zero (S := S512x1024) zero2, dx_apply]
  have e0 : ∀ x : Fin 2816, View.ld d r3_0 (ix3 (0 : Fin 1) r x) = d (ix3 0 r x) := fun x => by
    refine congrArg d (funext fun a => Fin.ext ?_)
    match a with
    | ⟨0, _⟩ => rfl
    | ⟨1, _⟩ => show 0 + 1 * r.val = r.val; omega
    | ⟨2, _⟩ => show 0 + 1 * x.val = x.val; omega
  have e1 : ∀ x : Fin 2816, View.ld d r3_2 (ix3 (0 : Fin 1) r x) = d (ix3 1 r x) := fun x => by
    refine congrArg d (funext fun a => Fin.ext ?_)
    match a with
    | ⟨0, _⟩ => rfl
    | ⟨1, _⟩ => show 0 + 1 * r.val = r.val; omega
    | ⟨2, _⟩ => show 0 + 1 * x.val = x.val; omega
  exact congrArg₂ (· + ·) (congrArg₂ (· + ·) (sum_congr rfl fun x _ => congrArg (· * _) (e0 x)) (sum_congr rfl fun x _ => congrArg (· * _) (e1 x))) rfl

end Cert.Kernel2Ideal.Ffn

end
-- ==== Proof.FfnArrays.lean ====
/- The feed-forward half step, its first, second and fourth call: the arrays they leave, from the arrays they read. -/
module

public import proofs.«01_k».proof.Proof.FfnCells

@[expose] public section

noncomputable section

namespace Cert.Kernel2Ideal.Ffn

open Cert.Kernel2Ideal Cert.Kernel2Ideal.Gen Cert.Ffn Idealize.ShloMosaic Idealize.ShloMosaic.TcCoe Idealize.SL.Sem Finset
open Idealize.ShloMosaic.Pipeline (Dat)

variable (V : (c : Dev nD) → (b : Ref sig .tc) → Buf (Elt Ideal) ((c : Thread nD τ).loc b)) (c : Dev nD)

/-! ### The first call -/

theorem lt0 (t : Fin cfg0.N) : t.val < 32 := t.isLt
theorem at0_0 (t : Fin cfg0.N) : win0_0.index t 0 = t.val % 16 ∧ win0_0.index t 1 = 0 := by revert t; decide +kernel
theorem at0_1 (t : Fin cfg0.N) : win0_1.index t 0 = 0 ∧ win0_1.index t 1 = t.val / 16 := by revert t; decide +kernel
theorem at0_2 (t : Fin cfg0.N) : win0_2.index t 0 = 0 ∧ win0_2.index t 1 = 2 + t.val / 16 := by revert t; decide +kernel
theorem at0_3 (t : Fin cfg0.N) : win0_3.index t 0 = 0 ∧ win0_3.index t 1 = t.val % 16 ∧ win0_3.index t 2 = t.val / 16 := by revert t; decide +kernel
theorem at0_4 (t : Fin cfg0.N) : win0_4.index t 0 = t.val % 16 ∧ win0_4.index t 1 = t.val / 16 := by revert t; decide +kernel

theorem read0_0 (t : Fin cfg0.N) (r : Fin 512) (k : Fin 1024) :
    (iblk0 V c 0 t : Vec Ideal S512x1024 .bf16) (ix2 r k) = (V c main_v0 : Vec Ideal S8192x1024 .bf16)
      (ix2 ⟨512 * (t.val % 16) + r.val, by have := lt0 t; omega⟩ k) := by
  unfold iblk0
  rw [View.read_apply]
  show V c main_v0 _ = _
  congr 1
  funext a
  apply Fin.ext
  have h := at0_0 t
  match a with
  | ⟨0, _⟩ => show win0_0.index t 0 * 512 + 1 * r.val = 512 * (t.val % 16) + r.val; omega
  | ⟨1, _⟩ => show win0_0.index t 1 * 1024 + 1 * k.val = k.val; omega

theorem read0_1 (t : Fin cfg0.N) (k : Fin 1024) (l : Fin 1408) :
    (iblk0 V c 1 t : Vec Ideal S1024x1408 .bf16) (ix2 k l) = (V c main_v1 : Vec Ideal S1024x5632 .bf16)
      (ix2 k ⟨1408 * (t.val / 16) + l.val, by have := lt0 t; omega⟩) := by
  unfold iblk0
  rw [View.read_apply]
  show V c main_v1 _ = _
  congr 1
  funext a
  apply Fin.ext
  have h := at0_1 t
  match a with
  | ⟨0, _⟩ => show win0_1.index t 0 * 1024 + 1 * k.val = k.val; omega
  | ⟨1, _⟩ => show win0_1.index t 1 * 1408 + 1 * l.val = 1408 * (t.val / 16) + l.val; omega

theorem read0_2 (t : Fin cfg0.N) (k : Fin 1024) (l : Fin 1408) :
    (iblk0 V c 2 t : Vec Ideal S1024x1408 .bf16) (ix2 k l) = (V c main_v1 : Vec Ideal S1024x5632 .bf16)
      (ix2 k ⟨2816 + (1408 * (t.val / 16) + l.val), by have := lt0 t; omega⟩) := by
  unfold iblk0
  rw [View.read_apply]
  show V c main_v1 _ = _
  congr 1
  funext a
  apply Fin.ext
  have h := at0_2 t
  match a with
  | ⟨0, _⟩ => show win0_2.index t 0 * 1024 + 1 * k.val = k.val; omega
  | ⟨1, _⟩ => show win0_2.index t 1 * 1408 + 1 * l.val = 2816 + (1408 * (t.val / 16) + l.val); omega

section

variable {X W : ℕ → ℕ → ℝ} (hx : ∀ (r : Fin 8192) (k : Fin 1024), (V c main_v0 : Vec Ideal S8192x1024 .bf16) (ix2 r k) = ((X r k : ℝ) : EReal))
  (hw : ∀ (k : Fin 1024) (l : Fin 5632), (V c main_v1 : Vec Ideal S1024x5632 .bf16) (ix2 k l) = ((W k l : ℝ) : EReal))
include hx hw

/-- The two derivatives. -/
theorem arr0_3 (i : S2x8192x2816.Idx) :
    ((dat0 V c).arrAt 3 cfg0.N : Vec Ideal S2x8192x2816 .bf16) i = ((jac X W (i 0).val (i 1).val (i 2).val : ℝ) : EReal) := by
  refine (dat0 V c).arrAt_forall_of_covers 3 (fun i v => v = ((jac X W (i 0).val (i 1).val (i 2).val : ℝ) : EReal))
    (by decide +kernel) (fun t hf y => ?_) i
  rw [after0_3]
  have ht := lt0 t
  have hi := at0_3 t
  have hy0 : (y 0).val < 2 := (y 0).isLt
  have hy1 : (y 1).val < 512 := (y 1).isLt
  have hy2 : (y 2).val < 1408 := (y 2).isLt
  have e0 : ((((cfg0.win 3).blk t).view.emb y) 0).val = (y 0).val := by
    show win0_3.index t 0 * 2 + 1 * (y 0).val = _
    omega
  have e1 : ((((cfg0.win 3).blk t).view.emb y) 1).val = 512 * (t.val % 16) + (y 1).val := by
    show win0_3.index t 1 * 512 + 1 * (y 1).val = _
    omega
  have e2 : ((((cfg0.win 3).blk t).view.emb y) 2).val = 1408 * (t.val / 16) + (y 2).val := by
    show win0_3.index t 2 * 1408 + 1 * (y 2).val = _
    omega
  show _ = ((jac X W ((((cfg0.win 3).blk t).view.emb y) 0).val ((((cfg0.win 3).blk t).view.emb y) 1).val ((((cfg0.win 3).blk t).view.emb y) 2).val : ℝ) : EReal)
  rw [e0, e1, e2]
  have h := out0_3_real (X := fun r k => X (512 * (t.val % 16) + r) k) (W := fun k l => W k (1408 * (t.val / 16) + l))
    (W' := fun k l => W k (2816 + (1408 * (t.val / 16) + l)))
    (fun r k => (read0_0 V c t r k).trans (hx _ _)) (fun k l => (read0_1 V c t k l).trans (hw _ _))
    (fun k l => (read0_2 V c t k l).trans (hw _ _)) ⟨(y 1).val, hy1⟩ ⟨(y 2).val, hy2⟩ ⟨(y 0).val, hy0⟩
  generalize out0_3 (iblk0 V c 0 t) (iblk0 V c 1 t) (iblk0 V c 2 t) = f at h ⊢
  refine Eq.trans ?_ h
  exact congrArg f (funext fun a => match a with
    | ⟨0, _⟩ => rfl
    | ⟨1, _⟩ => rfl
    | ⟨2, _⟩ => rfl)

/-- The hidden rows. -/
theorem arr0_4 (i : S8192x2816.Idx) :
    ((dat0 V c).arrAt 4 cfg0.N : Vec Ideal S8192x2816 .bf16) i = ((hidden X W (i 0).val (i 1).val : ℝ) : EReal) := by
  refine (dat0 V c).arrAt_forall_of_covers 4 (fun i v => v = ((hidden X W (i 0).val (i 1).val : ℝ) : EReal))
    (by decide +kernel) (fun t hf y => ?_) i
  rw [after0_4]
  have ht := lt0 t
  have hi := at0_4 t
  have hy0 : (y 0).val < 512 := (y 0).isLt
  have hy1 : (y 1).val < 1408 := (y 1).isLt
  have e0 : ((((cfg0.win 4).blk t).view.emb y) 0).val = 512 * (t.val % 16) + (y 0).val := by
    show win0_4.index t 0 * 512 + 1 * (y 0).val = _
    omega
  have e1 : ((((cfg0.win 4).blk t).view.emb y) 1).val = 1408 * (t.val / 16) + (y 1).val := by
    show win0_4.index t 1 * 1408 + 1 * (y 1).val = _
    omega
  show _ = ((hidden X W ((((cfg0.win 4).blk t).view.emb y) 0).val ((((cfg0.win 4).blk t).view.emb y) 1).val : ℝ) : EReal)
  rw [e0, e1]
  have h := out0_4_real (X := fun r k => X (512 * (t.val % 16) + r) k) (W := fun k l => W k (1408 * (t.val / 16) + l))
    (W' := fun k l => W k (2816 + (1408 * (t.val / 16) + l)))
    (fun r k => (read0_0 V c t r k).trans (hx _ _)) (fun k l => (read0_1 V c t k l).trans (hw _ _))
    (fun k l => (read0_2 V c t k l).trans (hw _ _)) ⟨(y 0).val, hy0⟩ ⟨(y 1).val, hy1⟩
  generalize out0_4 (iblk0 V c 0 t) (iblk0 V c 1 t) (iblk0 V c 2 t) = f at h ⊢
  refine Eq.trans ?_ h
  exact congrArg f (funext fun a => match a with
    | ⟨0, _⟩ => rfl
    | ⟨1, _⟩ => rfl)

end

/-! ### The second call -/

theorem lt1 (t : Fin cfg1.N) : t.val < 16 := t.isLt
theorem at1_0 (t : Fin cfg1.N) : win1_0.index t 0 = t.val % 8 ∧ win1_0.index t 1 = 0 := by revert t; decide +kernel
theorem at1_1 (t : Fin cfg1.N) : win1_1.index t 0 = t.val / 8 ∧ win1_1.index t 1 = 0 ∧ win1_1.index t 2 = 0 := by revert t; decide +kernel
theorem at1_2 (t : Fin cfg1.N) : win1_2.index t 0 = 0 ∧ win1_2.index t 1 = t.val % 8 ∧ win1_2.index t 2 = t.val / 8 := by revert t; decide +kernel
theorem at1_3 (t : Fin cfg1.N) : win1_3.index t 0 = 0 ∧ win1_3.index t 1 = t.val % 8 ∧ win1_3.index t 2 = t.val / 8 := by revert t; decide +kernel

theorem read1_0 (t : Fin cfg1.N) (r : Fin 1024) (d : Fin 1024) :
    (iblk1 V c 0 t : Vec Ideal S1024x1024 .bf16) (ix2 r d) = (V c main_v6 : Vec Ideal S8192x1024 .bf16)
      (ix2 ⟨1024 * (t.val % 8) + r.val, by have := lt1 t; omega⟩ d) := by
  unfold iblk1
  rw [View.read_apply]
  show V c main_v6 _ = _
  congr 1
  funext a
  apply Fin.ext
  have h := at1_0 t
  match a with
  | ⟨0, _⟩ => show win1_0.index t 0 * 1024 + 1 * r.val = 1024 * (t.val % 8) + r.val; omega
  | ⟨1, _⟩ => show win1_0.index t 1 * 1024 + 1 * d.val = d.val; omega

theorem read1_1 (t : Fin cfg1.N) (s : Fin 4) (b : Fin 352) (d : Fin 1024) :
    (iblk1 V c 1 t : Vec Ideal S4x352x1024 .bf16) (ix3 s b d) = (V c main_v3 : Vec Ideal S8x352x1024 .bf16)
      (ix3 ⟨4 * (t.val / 8) + s.val, by have := lt1 t; omega⟩ b d) := by
  unfold iblk1
  rw [View.read_apply]
  show V c main_v3 _ = _
  congr 1
  funext a
  apply Fin.ext
  have h := at1_1 t
  match a with
  | ⟨0, _⟩ => show win1_1.index t 0 * 4 + 1 * s.val = 4 * (t.val / 8) + s.val; omega
  | ⟨1, _⟩ => show win1_1.index t 1 * 352 + 1 * b.val = b.val; omega
  | ⟨2, _⟩ => show win1_1.index t 2 * 1024 + 1 * d.val = d.val; omega

theorem read1_2 (t : Fin cfg1.N) (p : Fin 2) (r : Fin 1024) (l : Fin 1408) :
    (iblk1 V c 2 t : Vec Ideal S2x1024x1408 .bf16) (ix3 p r l) = (V c main_v7_0 : Vec Ideal S2x8192x2816 .bf16)
      (ix3 p ⟨1024 * (t.val % 8) + r.val, by have := lt1 t; omega⟩ ⟨1408 * (t.val / 8) + l.val, by have := lt1 t; omega⟩) := by
  unfold iblk1
  rw [View.read_apply]
  show V c main_v7_0 _ = _
  congr 1
  funext a
  apply Fin.ext
  have h := at1_2 t
  match a with
  | ⟨0, _⟩ => show win1_2.index t 0 * 2 + 1 * p.val = p.val; omega
  | ⟨1, _⟩ => show win1_2.index t 1 * 1024 + 1 * r.val = 1024 * (t.val % 8) + r.val; omega
  | ⟨2, _⟩ => show win1_2.index t 2 * 1408 + 1 * l.val = 1408 * (t.val / 8) + l.val; omega

section

variable {H O : ℕ → ℕ → ℝ} {J : ℕ → ℕ → ℕ → ℝ}
  (hz : ∀ (r : Fin 8192) (d : Fin 1024), (V c main_v6 : Vec Ideal S8192x1024 .bf16) (ix2 r d) = ((H r d : ℝ) : EReal))
  (ho : ∀ (s : Fin 8) (b : Fin 352) (d : Fin 1024), (V c main_v3 : Vec Ideal S8x352x1024 .bf16) (ix3 s b d) = ((O (352 * s + b) d : ℝ) : EReal))
  (hj : ∀ (p : Fin 2) (r : Fin 8192) (l : Fin 2816), (V c main_v7_0 : Vec Ideal S2x8192x2816 .bf16) (ix3 p r l) = ((J p r l : ℝ) : EReal))
include hz ho

theorem sent_real (t : Fin cfg1.N) (r : Fin 1024) (n : ℕ) (hn : n < 1408) :
    sent (iblk1 V c 0 t) (iblk1 V c 1 t) r n hn = ((dotT 1024 H O (1024 * (t.val % 8) + r) (1408 * (t.val / 8) + n) : ℝ) : EReal) := by
  unfold sent
  refine sum_mul (fun d => H (1024 * (t.val % 8) + r) d) (fun d => O (1408 * (t.val / 8) + n) d)
    (fun d => (read1_0 V c t r d).trans (hz _ _)) (fun d => (read1_1 V c t _ _ d).trans ((ho _ _ _).trans ?_))
  have e : 352 * (4 * (t.val / 8) + n / 352) + n % 352 = 1408 * (t.val / 8) + n := by omega
  show ((O (352 * (4 * (t.val / 8) + n / 352) + n % 352) d : ℝ) : EReal) = _
  rw [e]

include hj

/-- The two gradients of the hidden rows. -/
theorem arr1_3 (i : S2x8192x2816.Idx) :
    ((dat1 V c).arrAt 3 cfg1.N : Vec Ideal S2x8192x2816 .bf16) i = ((dotT 1024 H O (i 1).val (i 2).val * J (i 0).val (i 1).val (i 2).val : ℝ) : EReal) := by
  refine (dat1 V c).arrAt_forall_of_covers 3 (fun i v => v = ((dotT 1024 H O (i 1).val (i 2).val * J (i 0).val (i 1).val (i 2).val : ℝ) : EReal))
    (by decide +kernel) (fun t hf y => ?_) i
  rw [after1_3]
  have ht := lt1 t
  have hi := at1_3 t
  have hy0 : (y 0).val < 2 := (y 0).isLt
  have hy1 : (y 1).val < 1024 := (y 1).isLt
  have hy2 : (y 2).val < 1408 := (y 2).isLt
  have e0 : ((((cfg1.win 3).blk t).view.emb y) 0).val = (y 0).val := by
    show win1_3.index t 0 * 2 + 1 * (y 0).val = _
    omega
  have e1 : ((((cfg1.win 3).blk t).view.emb y) 1).val = 1024 * (t.val % 8) + (y 1).val := by
    show win1_3.index t 1 * 1024 + 1 * (y 1).val = _
    omega
  have e2 : ((((cfg1.win 3).blk t).view.emb y) 2).val = 1408 * (t.val / 8) + (y 2).val := by
    show win1_3.index t 2 * 1408 + 1 * (y 2).val = _
    omega
  show _ = ((dotT 1024 H O ((((cfg1.win 3).blk t).view.emb y) 1).val ((((cfg1.win 3).blk t).view.emb y) 2).val * J ((((cfg1.win 3).blk t).view.emb y) 0).val ((((cfg1.win 3).blk t).view.emb y) 1).val ((((cfg1.win 3).blk t).view.emb y) 2).val : ℝ) : EReal)
  rw [e0, e1, e2]
  have h : outsAt1 V c t (ix3 (⟨(y 0).val, hy0⟩ : Fin 2) (⟨(y 1).val, hy1⟩ : Fin 1024) (⟨(y 2).val, hy2⟩ : Fin 1408)) = _ :=
    mid_out _ _ _ _ _ _ _ _ _ _ _ _ _ _
  rw [EReal.coe_mul]
  refine Eq.trans ?_ (h.trans (congrArg₂ (· * ·) (sent_real V c hz ho t ⟨(y 1).val, hy1⟩ (y 2).val hy2)
    ((read1_2 V c t ⟨(y 0).val, hy0⟩ ⟨(y 1).val, hy1⟩ ⟨(y 2).val, hy2⟩).trans (hj _ _ _))))
  generalize outsAt1 V c t = f
  exact congrArg f (funext fun a => match a with
    | ⟨0, _⟩ => rfl
    | ⟨1, _⟩ => rfl
    | ⟨2, _⟩ => rfl)

end

/-! ### The fourth call -/

theorem lt3 (t : Fin cfg3.N) : t.val < 16 := t.isLt
theorem at3_0 (t : Fin cfg3.N) : win3_0.index t 0 = 0 ∧ win3_0.index t 1 = t.val ∧ win3_0.index t 2 = 0 := by revert t; decide +kernel
theorem at3_1 (t : Fin cfg3.N) : win3_1.index t 0 = 0 ∧ win3_1.index t 1 = 0 := by revert t; decide +kernel
theorem at3_2 (t : Fin cfg3.N) : win3_2.index t 0 = 0 ∧ win3_2.index t 1 = 1 := by revert t; decide +kernel
theorem at3_3 (t : Fin cfg3.N) : win3_3.index t 0 = t.val ∧ win3_3.index t 1 = 0 := by revert t; decide +kernel
theorem at3_4 (t : Fin cfg3.N) : win3_4.index t 0 = t.val ∧ win3_4.index t 1 = 0 := by revert t; decide +kernel

theorem read3_0 (t : Fin cfg3.N) (p : Fin 2) (r : Fin 512) (l : Fin 2816) :
    (iblk3 V c 0 t : Vec Ideal S2x512x2816 .bf16) (ix3 p r l) = (V c main_v8 : Vec Ideal S2x8192x2816 .bf16)
      (ix3 p ⟨512 * t.val + r.val, by have := lt3 t; omega⟩ l) := by
  unfold iblk3
  rw [View.read_apply]
  show V c main_v8 _ = _
  congr 1
  funext a
  apply Fin.ext
  have h := at3_0 t
  match a with
  | ⟨0, _⟩ => show win3_0.index t 0 * 2 + 1 * p.val = p.val; omega
  | ⟨1, _⟩ => show win3_0.index t 1 * 512 + 1 * r.val = 512 * t.val + r.val; omega
  | ⟨2, _⟩ => show win3_0.index t 2 * 2816 + 1 * l.val = l.val; omega

theorem read3_1 (t : Fin cfg3.N) (k : Fin 1024) (l : Fin 2816) :
    (iblk3 V c 1 t : Vec Ideal S1024x2816 .bf16) (ix2 k l) = (V c main_v1 : Vec Ideal S1024x5632 .bf16)
      (ix2 k ⟨l.val, by have := lt3 t; omega⟩) := by
  unfold iblk3
  rw [View.read_apply]
  show V c main_v1 _ = _
  congr 1
  funext a
  apply Fin.ext
  have h := at3_1 t
  match a with
  | ⟨0, _⟩ => show win3_1.index t 0 * 1024 + 1 * k.val = k.val; omega
  | ⟨1, _⟩ => show win3_1.index t 1 * 2816 + 1 * l.val = l.val; omega

theorem read3_2 (t : Fin cfg3.N) (k : Fin 1024) (l : Fin 2816) :
    (iblk3 V c 2 t : Vec Ideal S1024x2816 .bf16) (ix2 k l) = (V c main_v1 : Vec Ideal S1024x5632 .bf16)
      (ix2 k ⟨2816 + l.val, by have := lt3 t; omega⟩) := by
  unfold iblk3
  rw [View.read_apply]
  show V c main_v1 _ = _
  congr 1
  funext a
  apply Fin.ext
  have h := at3_2 t
  match a with
  | ⟨0, _⟩ => show win3_2.index t 0 * 1024 + 1 * k.val = k.val; omega
  | ⟨1, _⟩ => show win3_2.index t 1 * 2816 + 1 * l.val = 2816 + l.val; omega

theorem read3_3 (t : Fin cfg3.N) (r : Fin 512) (k : Fin 1024) :
    (iblk3 V c 3 t : Vec Ideal S512x1024 .f32) (ix2 r k) = (V c main_arg3 : Vec Ideal S8192x1024 .f32)
      (ix2 ⟨512 * t.val + r.val, by have := lt3 t; omega⟩ k) := by
  unfold iblk3
  rw [View.read_apply]
  show V c main_arg3 _ = _
  congr 1
  funext a
  apply Fin.ext
  have h := at3_3 t
  match a with
  | ⟨0, _⟩ => show win3_3.index t 0 * 512 + 1 * r.val = 512 * t.val + r.val; omega
  | ⟨1, _⟩ => show win3_3.index t 1 * 1024 + 1 * k.val = k.val; omega

section

variable {D : ℕ → ℕ → ℕ → ℝ} {W Z : ℕ → ℕ → ℝ}
  (hd : ∀ (p : Fin 2) (r : Fin 8192) (l : Fin 2816), (V c main_v8 : Vec Ideal S2x8192x2816 .bf16) (ix3 p r l) = ((D p r l : ℝ) : EReal))
  (hw : ∀ (k : Fin 1024) (l : Fin 5632), (V c main_v1 : Vec Ideal S1024x5632 .bf16) (ix2 k l) = ((W k l : ℝ) : EReal))
  (hz : ∀ (r : Fin 8192) (k : Fin 1024), (V c main_arg3 : Vec Ideal S8192x1024 .f32) (ix2 r k) = ((Z r k : ℝ) : EReal))
include hd hw hz

/-- The gradient of the tokens. -/
theorem arr3_4 (i : S8192x1024.Idx) :
    ((dat3 V c).arrAt 4 cfg3.N : Vec Ideal S8192x1024 .f32) i = ((dotT 2816 (D 0) W (i 0).val (i 1).val + dotT 2816 (D 1) (fun k j => W k (2816 + j)) (i 0).val (i 1).val + alpha * Z (i 0).val (i 1).val : ℝ) : EReal) := by
  refine (dat3 V c).arrAt_forall_of_covers 4 (fun i v => v = ((dotT 2816 (D 0) W (i 0).val (i 1).val + dotT 2816 (D 1) (fun k j => W k (2816 + j)) (i 0).val (i 1).val + alpha * Z (i 0).val (i 1).val : ℝ) : EReal))
    (by decide +kernel) (fun t hf y => ?_) i
  rw [after3_4]
  have ht := lt3 t
  have hi := at3_4 t
  have hy0 : (y 0).val < 512 := (y 0).isLt
  have hy1 : (y 1).val < 1024 := (y 1).isLt
  have e0 : ((((cfg3.win 4).blk t).view.emb y) 0).val = 512 * t.val + (y 0).val := by
    show win3_4.index t 0 * 512 + 1 * (y 0).val = _
    omega
  have e1 : ((((cfg3.win 4).blk t).view.emb y) 1).val = (y 1).val := by
    show win3_4.index t 1 * 1024 + 1 * (y 1).val = _
    omega
  show _ = ((dotT 2816 (D 0) W ((((cfg3.win 4).blk t).view.emb y) 0).val ((((cfg3.win 4).blk t).view.emb y) 1).val + dotT 2816 (D 1) (fun k j => W k (2816 + j)) ((((cfg3.win 4).blk t).view.emb y) 0).val ((((cfg3.win 4).blk t).view.emb y) 1).val + alpha * Z ((((cfg3.win 4).blk t).view.emb y) 0).val ((((cfg3.win 4).blk t).view.emb y) 1).val : ℝ) : EReal)
  rw [e0, e1]
  have h := out3_4_apply (iblk3 V c 0 t) (iblk3 V c 1 t) (iblk3 V c 2 t) (iblk3 V c 3 t) ⟨(y 0).val, hy0⟩ ⟨(y 1).val, hy1⟩
  rw [EReal.coe_add, EReal.coe_add, EReal.coe_mul, ← alpha_real]
  refine Eq.trans ?_ (h.trans (congrArg₂ (· + ·) (congrArg₂ (· + ·)
    (sum_mul (fun x => D 0 (512 * t.val + (y 0).val) x) (fun x => W (y 1).val x)
      (fun x => (read3_0 V c t 0 _ x).trans (hd _ _ _)) (fun x => (read3_1 V c t _ x).trans (hw _ _)))
    (sum_mul (fun x => D 1 (512 * t.val + (y 0).val) x) (fun x => W (y 1).val (2816 + x))
      (fun x => (read3_0 V c t 1 _ x).trans (hd _ _ _)) (fun x => (read3_2 V c t _ x).trans (hw _ _))))
    (congrArg₂ (· * ·) rfl ((read3_3 V c t _ _).trans (hz _ _)))))
  generalize out3_4 (iblk3 V c 0 t) (iblk3 V c 1 t) (iblk3 V c 2 t) (iblk3 V c 3 t) = f
  exact congrArg f (funext fun a => match a with
    | ⟨0, _⟩ => rfl
    | ⟨1, _⟩ => rfl)

end

end Cert.Kernel2Ideal.Ffn

end
-- ==== Proof.FfnOut.lean ====
/- The feed-forward half step, its third call: four points add up a block of the output weights' gradient. -/
module

public import proofs.«01_k».proof.Proof.FfnCells

@[expose] public section

noncomputable section

namespace Cert.Kernel2Ideal.Ffn

open Cert.Kernel2Ideal Cert.Kernel2Ideal.Gen Cert.Ffn Idealize.ShloMosaic Idealize.ShloMosaic.TcCoe Idealize.SL.Sem Finset
open Idealize.ShloMosaic.Pipeline (Dat)

variable (V : (c : Dev nD) → (b : Ref sig .tc) → Buf (Elt Ideal) ((c : Thread nD τ).loc b)) (c : Dev nD)

theorem lt2 (t : Fin cfg2.N) : t.val < 8 := t.isLt
theorem at2_0 (t : Fin cfg2.N) : win2_0.index t 0 = t.val % 4 ∧ win2_0.index t 1 = t.val / 4 := by revert t; decide +kernel
theorem at2_1 (t : Fin cfg2.N) : win2_1.index t 0 = t.val % 4 ∧ win2_1.index t 1 = 0 := by revert t; decide +kernel
theorem at2_2 (t : Fin cfg2.N) : win2_2.index t 0 = t.val / 4 ∧ win2_2.index t 1 = 0 := by revert t; decide +kernel

theorem read2_0 (t : Fin cfg2.N) (k : Fin 2048) (r : Fin 1408) :
    (iblk2 V c 0 t : Vec Ideal S2048x1408 .bf16) (ix2 k r) = (V c main_v7_1 : Vec Ideal S8192x2816 .bf16)
      (ix2 ⟨2048 * (t.val % 4) + k.val, by have := lt2 t; omega⟩ ⟨1408 * (t.val / 4) + r.val, by have := lt2 t; omega⟩) := by
  unfold iblk2
  rw [View.read_apply]
  show V c main_v7_1 _ = _
  congr 1
  funext a
  apply Fin.ext
  have h := at2_0 t
  match a with
  | ⟨0, _⟩ => show win2_0.index t 0 * 2048 + 1 * k.val = 2048 * (t.val % 4) + k.val; omega
  | ⟨1, _⟩ => show win2_0.index t 1 * 1408 + 1 * r.val = 1408 * (t.val / 4) + r.val; omega

theorem read2_1 (t : Fin cfg2.N) (k : Fin 2048) (l : Fin 1024) :
    (iblk2 V c 1 t : Vec Ideal S2048x1024 .bf16) (ix2 k l) = (V c main_v6 : Vec Ideal S8192x1024 .bf16)
      (ix2 ⟨2048 * (t.val % 4) + k.val, by have := lt2 t; omega⟩ l) := by
  unfold iblk2
  rw [View.read_apply]
  show V c main_v6 _ = _
  congr 1
  funext a
  apply Fin.ext
  have h := at2_1 t
  match a with
  | ⟨0, _⟩ => show win2_1.index t 0 * 2048 + 1 * k.val = 2048 * (t.val % 4) + k.val; omega
  | ⟨1, _⟩ => show win2_1.index t 1 * 1024 + 1 * l.val = l.val; omega

variable {A H : ℕ → ℕ → ℝ}
  (ha : ∀ (k : Fin 8192) (j : Fin 2816), (V c main_v7_1 : Vec Ideal S8192x2816 .bf16) (ix2 k j) = ((A k j : ℝ) : EReal))
  (hz : ∀ (r : Fin 8192) (d : Fin 1024), (V c main_v6 : Vec Ideal S8192x1024 .bf16) (ix2 r d) = ((H r d : ℝ) : EReal))
include ha hz

/-- A point adds the next 2048 rows. -/
theorem step_real (t : Fin cfg2.N) (acc : Vec Ideal S1408x1024 .f32) (r : Fin 1408) (l : Fin 1024)
    (h : acc (ix2 r l) = ((∑ k ∈ range (2048 * (t.val % 4)), A k (1408 * (t.val / 4) + r) * H k l : ℝ) : EReal)) :
    k2_pay2 (F := Ideal) acc (iblk2 V c 0 t) (iblk2 V c 1 t) (ix2 r l)
      = ((∑ k ∈ range (2048 * (t.val % 4 + 1)), A k (1408 * (t.val / 4) + r) * H k l : ℝ) : EReal) := by
  refine (step_apply acc (iblk2 V c 0 t) (iblk2 V c 1 t) r l).trans ?_
  rw [show 2048 * (t.val % 4 + 1) = 2048 * (t.val % 4) + 2048 by omega, sum_range_add, EReal.coe_add]
  exact congrArg₂ (· + ·) h (sum_mul (fun k => A (2048 * (t.val % 4) + k) (1408 * (t.val / 4) + r)) (fun k => H (2048 * (t.val % 4) + k) l)
    (fun k => (read2_0 V c t k r).trans (ha _ _)) (fun k => (read2_1 V c t k l).trans (hz _ _)))

/-- The running sum: the rows so far. -/
theorem sums : ∀ (n : ℕ) (h : n < cfg2.N) (r : Fin 1408) (l : Fin 1024),
    outsAt2 V c n h (ix2 r l) = ((∑ k ∈ range (2048 * (n % 4 + 1)), A k (1408 * (n / 4) + r) * H k l : ℝ) : EReal) := by
  intro n
  induction n with
  | zero =>
    intro h r l
    rw [outsAt2_A V c ⟨0, h⟩ rfl, first]
    exact step_real V c ha hz ⟨0, h⟩ _ r l ((zero_apply r l).trans (by simp))
  | succ n ih =>
    intro h r l
    by_cases h0 : (n + 1) % 4 = 0
    · rw [outsAt2_A V c ⟨n + 1, h⟩ h0, first]
      exact step_real V c ha hz ⟨n + 1, h⟩ _ r l ((zero_apply r l).trans (by simp [h0]))
    · rw [outsAt2_B V c ⟨n + 1, h⟩ h0, next]
      refine step_real V c ha hz ⟨n + 1, h⟩ _ r l ((ih (Nat.lt_of_succ_lt h) r l).trans ?_)
      have e1 : n % 4 + 1 = (n + 1) % 4 := by omega
      have e2 : n / 4 = (n + 1) / 4 := by omega
      rw [e1, e2]

/-- The output weights' gradient. -/
theorem arr2_2 (i : S2816x1024.Idx) :
    ((dat2 V c).arrAt 2 cfg2.N : Vec Ideal S2816x1024 .f32) i = ((∑ k ∈ range 8192, A k (i 0).val * H k (i 1).val : ℝ) : EReal) := by
  refine (dat2 V c).arrAt_forall_of_covers 2 (fun i v => v = ((∑ k ∈ range 8192, A k (i 0).val * H k (i 1).val : ℝ) : EReal))
    (by decide +kernel) (fun t hf y => ?_) i
  rw [after2_2]
  have ht := lt2 t
  have hi := at2_2 t
  have hy0 : (y 0).val < 1408 := (y 0).isLt
  have hy1 : (y 1).val < 1024 := (y 1).isLt
  have e0 : ((((cfg2.win 2).blk t).view.emb y) 0).val = 1408 * (t.val / 4) + (y 0).val := by
    show win2_2.index t 0 * 1408 + 1 * (y 0).val = _
    omega
  have e1 : ((((cfg2.win 2).blk t).view.emb y) 1).val = (y 1).val := by
    show win2_2.index t 1 * 1024 + 1 * (y 1).val = _
    omega
  show _ = ((∑ k ∈ range 8192, A k ((((cfg2.win 2).blk t).view.emb y) 0).val * H k ((((cfg2.win 2).blk t).view.emb y) 1).val : ℝ) : EReal)
  rw [e0, e1]
  have h3 := (flush2_2 t).mp hf
  have h := sums V c ha hz t.val t.isLt ⟨(y 0).val, hy0⟩ ⟨(y 1).val, hy1⟩
  rw [h3] at h
  generalize outsAt2 V c t.val t.isLt = f at h ⊢
  refine Eq.trans ?_ h
  exact congrArg f (funext fun a => match a with
    | ⟨0, _⟩ => rfl
    | ⟨1, _⟩ => rfl)

end Cert.Kernel2Ideal.Ffn

end
-- ==== Proof.FfnChain.lean ====
/- The feed-forward half step's host lines and four calls, one after the other: its two results on real arguments. -/
module

public import proofs.«01_k».proof.Proof.FfnArrays
public import proofs.«01_k».proof.Proof.FfnOut

@[expose] public section

noncomputable section

namespace Cert.Kernel2Ideal.Ffn

open Cert.Kernel2Ideal Cert.Kernel2Ideal.Gen Cert.Ffn Idealize.ShloMosaic Idealize.ShloMosaic.TcCoe Idealize.SL.Sem Finset

variable (m : (ℓ : Loc nD τ sig) → Buf (Elt Ideal) ℓ) (ρ : Dev nD → PrngReg) (c : Dev nD)

/-- The four argument arrays of one device, real at every index. -/
structure Given (X W O Z : ℕ → ℕ → ℝ) : Prop where
  x : ∀ (r : Fin 8192) (k : Fin 1024), (m ((c : Thread nD τ).loc main_arg0) : Vec Ideal S8192x1024 .f32) (ix2 r k) = ((X r k : ℝ) : EReal)
  w : ∀ (k : Fin 1024) (l : Fin 5632), (m ((c : Thread nD τ).loc main_arg1) : Vec Ideal S1024x5632 .f32) (ix2 k l) = ((W k l : ℝ) : EReal)
  o : ∀ (j : Fin 2816) (d : Fin 1024), (m ((c : Thread nD τ).loc main_arg2) : Vec Ideal S2816x1024 .f32) (ix2 j d) = ((O j d : ℝ) : EReal)
  z : ∀ (r : Fin 8192) (d : Fin 1024), (m ((c : Thread nD τ).loc main_arg3) : Vec Ideal S8192x1024 .f32) (ix2 r d) = ((Z r d : ℝ) : EReal)

/-! ### The host lines -/

theorem host_x : (V1 m ρ c main_v0 : FVec Ideal S8192x1024 .bf16) = (m ((c : Thread nD τ).loc main_arg0) : FVec Ideal S8192x1024 .f32) := by
  show StableHlo.after hostOps0 (W0 m ρ c) (Proc.devRef .tc main_v0) = _
  simp only [hostOps0]
  after_results_simp
  all_goals rfl

theorem host_w : (V1 m ρ c main_v1 : FVec Ideal S1024x5632 .bf16) = (m ((c : Thread nD τ).loc main_arg1) : FVec Ideal S1024x5632 .f32) := by
  show StableHlo.after hostOps0 (W0 m ρ c) (Proc.devRef .tc main_v1) = _
  simp only [hostOps0]
  after_results_simp
  all_goals rfl

theorem host_o : (V1 m ρ c main_v3 : FVec Ideal S8x352x1024 .bf16)
    = shapeCast S8x352x1024 (truncf .bf16 (m ((c : Thread nD τ).loc main_arg2) : FVec Ideal S2816x1024 .f32) bitsLt_bf16_f32 : FVec Ideal S2816x1024 .bf16)
        shapeCasts_S2816x1024_S8x352x1024 := by
  show StableHlo.after hostOps0 (W0 m ρ c) (Proc.devRef .tc main_v3) = _
  simp only [hostOps0]
  after_results_simp
  all_goals rfl

theorem host_z : (V1 m ρ c main_v6 : FVec Ideal S8192x1024 .bf16)
    = (truncf .bf16 (mulf (broadcastInDim S8192x1024 ![] bcast_S_S8192x1024 (constant S_ .f32 0x3F000000#32))
        (m ((c : Thread nD τ).loc main_arg3) : FVec Ideal S8192x1024 .f32)) bitsLt_bf16_f32 : FVec Ideal S8192x1024 .bf16) := by
  show StableHlo.after hostOps0 (W0 m ρ c) (Proc.devRef .tc main_v6) = _
  simp only [hostOps0]
  after_results_simp
  all_goals rfl

/-- What no call has written by its entry is what the host lines left. -/
theorem z_V2 : (V2 m ρ c main_v6 : Vec Ideal S8192x1024 .bf16) = V1 m ρ c main_v6 := W2_of m ρ c main_v6 (by decide)
theorem o_V2 : (V2 m ρ c main_v3 : Vec Ideal S8x352x1024 .bf16) = V1 m ρ c main_v3 := W2_of m ρ c main_v3 (by decide)
theorem w_V4 : (V4 m ρ c main_v1 : Vec Ideal S1024x5632 .bf16) = V1 m ρ c main_v1 :=
  (W4_of m ρ c main_v1 (by decide)).trans ((W3_of m ρ c main_v1 (by decide)).trans (W2_of m ρ c main_v1 (by decide)))

variable {m c} {X W O Z : ℕ → ℕ → ℝ} (G : Given m c X W O Z)
include G

theorem x_real (r : Fin 8192) (k : Fin 1024) : (V1 m ρ c main_v0 : Vec Ideal S8192x1024 .bf16) (ix2 r k) = ((X r k : ℝ) : EReal) :=
  (congrFun (host_x m ρ c) _).trans (G.x r k)

theorem w_real (k : Fin 1024) (l : Fin 5632) : (V1 m ρ c main_v1 : Vec Ideal S1024x5632 .bf16) (ix2 k l) = ((W k l : ℝ) : EReal) :=
  (congrFun (host_w m ρ c) _).trans (G.w k l)

theorem o_real (s : Fin 8) (b : Fin 352) (d : Fin 1024) :
    (V2 m ρ c main_v3 : Vec Ideal S8x352x1024 .bf16) (ix3 s b d) = ((O (352 * s + b) d : ℝ) : EReal) := by
  have ho := G.o
  refine (congrFun ((o_V2 m ρ c).trans (host_o m ρ c)) _).trans ?_
  generalize (m ((c : Thread nD τ).loc main_arg2) : FVec Ideal S2816x1024 .f32) = o at ho
  pointwise
  rw [ho]
  dsimp only
  rw [mul_comm]

theorem z_real (r : Fin 8192) (d : Fin 1024) :
    (V1 m ρ c main_v6 : Vec Ideal S8192x1024 .bf16) (ix2 r d) = ((halved Z r d : ℝ) : EReal) := by
  have hz := G.z
  refine (congrFun (host_z m ρ c) _).trans ?_
  generalize (m ((c : Thread nD τ).loc main_arg3) : FVec Ideal S8192x1024 .f32) = z at hz
  pointwise
  rw [half_real, hz, ← EReal.coe_mul]
  rfl

/-! ### The calls -/

theorem jac_real (p : Fin 2) (r : Fin 8192) (l : Fin 2816) :
    (V2 m ρ c main_v7_0 : Vec Ideal S2x8192x2816 .bf16) (ix3 p r l) = ((jac X W p r l : ℝ) : EReal) :=
  (congrFun (W2_arr m ρ c 3) (ix3 p r l)).trans (arr0_3 (V1 m ρ) c (x_real ρ G) (w_real ρ G) _)

theorem hidden_V3 (r : Fin 8192) (l : Fin 2816) :
    (V3 m ρ c main_v7_1 : Vec Ideal S8192x2816 .bf16) (ix2 r l) = ((hidden X W r l : ℝ) : EReal) :=
  (congrFun ((W3_of m ρ c main_v7_1 (by decide)).trans (W2_arr m ρ c 4)) (ix2 r l)).trans
    (arr0_4 (V1 m ρ) c (x_real ρ G) (w_real ρ G) _)

theorem dh_V3 (p : Fin 2) (r : Fin 8192) (l : Fin 2816) :
    (V3 m ρ c main_v8 : Vec Ideal S2x8192x2816 .bf16) (ix3 p r l) = ((dh X W O Z p r l : ℝ) : EReal) :=
  (congrFun (W3_arr m ρ c 3) (ix3 p r l)).trans
    (arr1_3 (V2 m ρ) c (fun r d => (congrFun (z_V2 m ρ c) _).trans (z_real ρ G r d)) (o_real ρ G) (jac_real ρ G) _)

/-- The gradient of the output weights. -/
theorem result1 (j : Fin 2816) (d : Fin 1024) :
    (W5 m ρ c (Proc.devRef .tc main_v9) : Vec Ideal S2816x1024 .f32) (ix2 j d) = ((dOut X W Z j d : ℝ) : EReal) :=
  (congrFun ((W5_of m ρ c main_v9 (by decide)).trans (W4_arr m ρ c 2)) (ix2 j d)).trans
    (arr2_2 (V3 m ρ) c (hidden_V3 ρ G)
      (fun r d => (congrFun ((W3_of m ρ c main_v6 (by decide)).trans (z_V2 m ρ c)) _).trans (z_real ρ G r d)) _)

/-- The gradient of the tokens. -/
theorem result0 (r : Fin 8192) (k : Fin 1024) :
    (W5 m ρ c (Proc.devRef .tc main_v10) : Vec Ideal S8192x1024 .f32) (ix2 r k) = ((dx X W O Z r k : ℝ) : EReal) :=
  (congrFun (W5_arr m ρ c 4) (ix2 r k)).trans
    (arr3_4 (V4 m ρ) c (fun p r l => (congrFun (W4_of m ρ c main_v8 (by decide)) _).trans (dh_V3 ρ G p r l))
      (fun k l => (congrFun (w_V4 m ρ c) _).trans (w_real ρ G k l))
      (fun r d => (congrFun (W4_args m ρ c main_arg3 (by decide)) _).trans (G.z r d)) _)

end Cert.Kernel2Ideal.Ffn

end
-- ==== Proof.FfnRef.lean ====
/- The feed-forward half step's reference: its two gradients on real arguments. -/
module

public import proofs.«01_k».proof.Proof.Ffn
public import proofs.«01_k».proof.Proof.Gen.Reference2Ideal.Run
public import Idealize.ShloMosaic.Lib.Pointwise
public import Idealize.ShloMosaic.Lib.IdealHost

@[expose] public section

noncomputable section

namespace Cert.Reference2Ideal.Ffn

open Cert.Reference2Ideal Cert.Reference2Ideal.Gen Cert.Ffn Idealize.ShloMosaic Idealize.ShloMosaic.TcCoe Idealize.SL.Sem Finset

abbrev Tokens := FVec Ideal S8192x1024 .f32
abbrev Rows := FVec Ideal S8192x2816 .f32

def gateOf (x : Tokens) (w : FVec Ideal S1024x5632 .f32) : Rows :=
  extractStridedSlice S8192x2816 ![0, 0] (Host.dotGeneral dot_S8192x1024_S1024x5632_S8192x5632_1_0_0_1_n_n none x w) slices_S8192x5632_S8192x2816_0_0

def valueOf (x : Tokens) (w : FVec Ideal S1024x5632 .f32) : Rows :=
  extractStridedSlice S8192x2816 ![0, 2816] (Host.dotGeneral dot_S8192x1024_S1024x5632_S8192x5632_1_0_0_1_n_n none x w) slices_S8192x5632_S8192x2816_0_2816

def one : Rows := broadcastInDim S8192x2816 ![] bcast_S_S8192x2816 (constant S_ .f32 0x3F800000#32)

def sigma (g : Rows) : Rows := Host.divf one (addf one (Host.exp (Host.negf g)))

def halfOf (z : Tokens) : Tokens :=
  mulf (broadcastInDim S8192x1024 ![] bcast_S_S8192x1024 (constant S_ .f32 0x3F000000#32)) (shapeCast _ z shapeCasts_S8192x1024_S8192x1024)

def hiddenOf (g u : Rows) : Rows := mulf (mulf g (sigma g)) u

/-- The gradient of the output weights. -/
def outOf (h : Rows) (z : Tokens) : FVec Ideal S2816x1024 .f32 :=
  transpose S2816x1024 [1, 0] (Host.dotGeneral dot_S8192x1024_S8192x2816_S1024x2816_0_0_1_1_n_n none (halfOf z) h) transposes_S1024x2816_S2816x1024_1_0

def backOf (z : Tokens) (o : FVec Ideal S2816x1024 .f32) : Rows :=
  Host.dotGeneral dot_S8192x1024_S2816x1024_S8192x2816_1_1_0_0_n_n none (halfOf z) o

def gateGrad (a g u : Rows) : Rows :=
  addf (mulf (mulf a u) (sigma g)) (mulf (mulf g (mulf a u)) (mulf (sigma g) (subf one (sigma g))))

def valueGrad (a g : Rows) : Rows := mulf (mulf g (sigma g)) a

def joined (a b : Rows) : FVec Ideal S8192x5632 .f32 :=
  concatenate S8192x5632 1 [⟨S8192x2816, a⟩, ⟨S8192x2816, b⟩] concatenates_S8192x2816_S8192x2816_S8192x5632_d1

/-- The gradient of the tokens. -/
def tokensOf (d : FVec Ideal S8192x5632 .f32) (w : FVec Ideal S1024x5632 .f32) (z : Tokens) : Tokens :=
  addf (Host.dotGeneral dot_S8192x5632_S1024x5632_S8192x1024_1_1_0_0_n_n none d w)
    (mulf (broadcastInDim S8192x1024 ![] bcast_S_S8192x1024 (constant S_ .f32 0x3FD744FD#32)) (shapeCast _ z shapeCasts_S8192x1024_S8192x1024))

/-- Both results from the four arguments. -/
def result0 (x : Tokens) (w : FVec Ideal S1024x5632 .f32) (o : FVec Ideal S2816x1024 .f32) (z : Tokens) : Tokens :=
  tokensOf (joined (gateGrad (backOf z o) (gateOf x w) (valueOf x w)) (valueGrad (backOf z o) (gateOf x w))) w z
def result1 (x : Tokens) (w : FVec Ideal S1024x5632 .f32) (z : Tokens) : FVec Ideal S2816x1024 .f32 :=
  outOf (hiddenOf (gateOf x w) (valueOf x w)) z

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = result0 (m ((c.tc : Thread nD τ).loc main_arg0)) (m ((c.tc : Thread nD τ).loc main_arg1)) (m ((c.tc : Thread nD τ).loc main_arg2))
              (m ((c.tc : Thread nD τ).loc main_arg3))
      ∧ r.2.mem ((c.tc : Thread nD τ).loc main_v16)
          = result1 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run m ρ

/-! ### On real arguments -/

theorem one_real (i : S8192x2816.Idx) : one i = ((1 : ℝ) : EReal) := by
  unfold one
  pointwise
  simp [Ideal.ofBits, Ideal.ieee]

theorem sigma_real {g : Rows} {i : S8192x2816.Idx} {a : ℝ} (h : g i = ((a : ℝ) : EReal)) : sigma g i = ((sg a : ℝ) : EReal) := by
  have h1 := one_real i
  unfold sigma
  generalize one = e at h1
  pointwise
  rw [h1, h]
  exact logistic_real a

variable {x : Tokens} {w : FVec Ideal S1024x5632 .f32} {o : FVec Ideal S2816x1024 .f32} {z : Tokens} {X W O Z : ℕ → ℕ → ℝ}

/-- The four arguments, real at every index. -/
structure Args (x : Tokens) (w : FVec Ideal S1024x5632 .f32) (o : FVec Ideal S2816x1024 .f32) (z : Tokens) (X W O Z : ℕ → ℕ → ℝ) : Prop where
  x : ∀ (r : Fin 8192) (k : Fin 1024), x (ix2 r k) = ((X r k : ℝ) : EReal)
  w : ∀ (k : Fin 1024) (l : Fin 5632), w (ix2 k l) = ((W k l : ℝ) : EReal)
  o : ∀ (j : Fin 2816) (d : Fin 1024), o (ix2 j d) = ((O j d : ℝ) : EReal)
  z : ∀ (r : Fin 8192) (d : Fin 1024), z (ix2 r d) = ((Z r d : ℝ) : EReal)

variable (A : Args x w o z X W O Z)
include A

theorem gate_real (r : Fin 8192) (j : Fin 2816) : gateOf x w (ix2 r j) = ((gate X W r j : ℝ) : EReal) := by
  unfold gateOf
  pointwise
  exact sum_mul (fun k => X r k) (fun k => W k j) (fun k => A.x r k) (fun k => (A.w k _).trans (by simp))

theorem value_real (r : Fin 8192) (j : Fin 2816) : valueOf x w (ix2 r j) = ((value X W r j : ℝ) : EReal) := by
  unfold valueOf
  pointwise
  exact sum_mul (fun k => X r k) (fun k => W k (2816 + j)) (fun k => A.x r k) (fun k => (A.w k _).trans (by simp))

theorem half_at (r : Fin 8192) (d : Fin 1024) : halfOf z (ix2 r d) = ((halved Z r d : ℝ) : EReal) := by
  unfold halfOf
  pointwise
  rw [half_real, A.z, ← EReal.coe_mul]
  rfl

theorem hidden_real (r : Fin 8192) (j : Fin 2816) :
    hiddenOf (gateOf x w) (valueOf x w) (ix2 r j) = ((hidden X W r j : ℝ) : EReal) := by
  have hg := gate_real A r j
  have hu := value_real A r j
  have hs := sigma_real hg
  unfold hiddenOf
  generalize sigma (gateOf x w) = s at hs
  generalize gateOf x w = g at hg
  generalize valueOf x w = u at hu
  pointwise
  rw [hg, hu, hs, ← EReal.coe_mul, ← EReal.coe_mul]
  rfl

theorem back_real (r : Fin 8192) (j : Fin 2816) : backOf z o (ix2 r j) = ((back O Z r j : ℝ) : EReal) := by
  have h := half_at A r
  unfold backOf
  generalize halfOf z = y at h
  pointwise
  exact sum_mul (fun d => halved Z r d) (fun d => O j d) h (fun d => A.o j d)

theorem gateGrad_real (r : Fin 8192) (j : Fin 2816) :
    gateGrad (backOf z o) (gateOf x w) (valueOf x w) (ix2 r j) = ((dh X W O Z 0 r j : ℝ) : EReal) := by
  have hg := gate_real A r j
  have hu := value_real A r j
  have hb := back_real A r j
  have hs := sigma_real hg
  have h1 := one_real (ix2 r j)
  unfold gateGrad
  generalize sigma (gateOf x w) = s at hs
  generalize gateOf x w = g at hg
  generalize valueOf x w = u at hu
  generalize backOf z o = b at hb
  generalize one = e at h1
  pointwise
  rw [hg, hu, hs, hb, h1, ← EReal.coe_sub]
  simp only [← EReal.coe_mul, ← EReal.coe_add]
  exact congrArg _ (byGate_eq _ _ _).symm

theorem valueGrad_real (r : Fin 8192) (j : Fin 2816) :
    valueGrad (backOf z o) (gateOf x w) (ix2 r j) = ((dh X W O Z 1 r j : ℝ) : EReal) := by
  have hg := gate_real A r j
  have hb := back_real A r j
  have hs := sigma_real hg
  unfold valueGrad
  generalize sigma (gateOf x w) = s at hs
  generalize gateOf x w = g at hg
  generalize backOf z o = b at hb
  pointwise
  rw [hg, hs, hb, ← EReal.coe_mul, ← EReal.coe_mul, mul_comm]
  rfl

theorem result0_real (r : Fin 8192) (k : Fin 1024) : result0 x w o z (ix2 r k) = ((dx X W O Z r k : ℝ) : EReal) := by
  have ha := gateGrad_real A r
  have hb := valueGrad_real A r
  unfold result0 tokensOf joined
  generalize gateGrad (backOf z o) (gateOf x w) (valueOf x w) = a at ha
  generalize valueGrad (backOf z o) (gateOf x w) = b at hb
  pointwise
  rw [alpha_real, A.z]
  unfold dx
  rw [EReal.coe_add, EReal.coe_mul alpha]
  refine congrArg₂ (· + ·) ?_ rfl
  rw [EReal.coe_add]
  exact congrArg₂ (· + ·) (sum_mul (fun l => dh X W O Z 0 r l) (fun l => W k l) ha (fun l => A.w k _))
    (sum_mul (fun l => dh X W O Z 1 r l) (fun l => W k (2816 + l)) hb (fun l => A.w k _))

theorem result1_real (j : Fin 2816) (d : Fin 1024) : result1 x w z (ix2 j d) = ((dOut X W Z j d : ℝ) : EReal) := by
  have h := fun r => half_at A r d
  have hh := fun r => hidden_real A r j
  unfold result1 outOf
  generalize hiddenOf (gateOf x w) (valueOf x w) = y at hh
  generalize halfOf z = q at h
  pointwise
  unfold dOut
  simp only [mul_comm (hidden X W _ _)]
  exact sum_mul (fun r => halved Z r d) (fun r => hidden X W r j) h hh

end Cert.Reference2Ideal.Ffn

end
-- ==== Proof.FfnAlgebraic.lean ====
/- The feed-forward half step's value claim: from finite arguments, its four calls and the reference end with the same two gradients. -/
module

public import proofs.«01_k».proof.Proof.Algebraic
public import proofs.«01_k».proof.Proof.FfnRun
public import proofs.«01_k».proof.Proof.FfnChain
public import proofs.«01_k».proof.Proof.FfnRef

@[expose] public section

noncomputable section

namespace Cert.Pre_finite2

open Idealize.ShloMosaic Facts Cert.Pre_finite

theorem facts : Facts where
  bcast_S_S8192x1024 := by decide
  reducesTo_S8192x1024_S_d0_1 := by decide
  h_S_ := by decide
  bcast_S_S1024x5632 := by decide
  reducesTo_S1024x5632_S_d0_1 := by decide
  bcast_S_S2816x1024 := by decide
  reducesTo_S2816x1024_S_d0_1 := by decide

theorem real (x : FVec Ideal S8192x1024 .f32) (w : FVec Ideal S1024x5632 .f32) (o : FVec Ideal S2816x1024 .f32)
    (z : FVec Ideal S8192x1024 .f32) [Facts] (h : fn (F := Ideal) x w o z = fun _ => 1#1) :
    ((∀ i, x i = (((x i : EReal).toReal : ℝ) : EReal)) ∧ ∀ i, w i = (((w i : EReal).toReal : ℝ) : EReal))
      ∧ (∀ i, o i = (((o i : EReal).toReal : ℝ) : EReal)) ∧ ∀ i, z i = (((z i : EReal).toReal : ℝ) : EReal) := by
  haveI : Subsingleton S_.Idx := ⟨fun a b => funext fun k => k.elim0⟩
  have j : S_.Idx := fun k => k.elim0
  obtain ⟨e, ez⟩ := and_one (congrFun h j)
  obtain ⟨e, eo⟩ := and_one e
  obtain ⟨ex, ew⟩ := and_one e
  exact ⟨⟨fun i => real_of_olt _ (Host.reduce_andi_all _ _ _ _ j ex i), fun i => real_of_olt _ (Host.reduce_andi_all _ _ _ _ j ew i)⟩,
    fun i => real_of_olt _ (Host.reduce_andi_all _ _ _ _ j eo i), fun i => real_of_olt _ (Host.reduce_andi_all _ _ _ _ j ez i)⟩

end Cert.Pre_finite2

namespace Cert.Proof.HalfStep

open Idealize.ShloMosaic Idealize.ShloMosaic.TcCoe Idealize.SL.Sem Cert.Proof Cert.Kernel2Ideal Cert.Kernel2Ideal.Ffn

theorem of_real {n k : ℕ} (x : (⟨2, ![n, k]⟩ : Shape).Idx → EReal) (h : ∀ i, x i = (((x i).toReal : ℝ) : EReal)) (r : Fin n) (l : Fin k) :
    x (ix2 r l) = ((entry x r l : ℝ) : EReal) := by
  rw [entry_at]; exact h _

/-- From finite arguments the calls' results are the reference's. -/
theorem results (m : (ℓ : Loc nD τ sig) → Buf (Elt Ideal) ℓ) (ρ : Dev nD → PrngReg) (c : Dev nD) (x : FVec Ideal S8192x1024 .f32)
    (w : FVec Ideal S1024x5632 .f32) (o : FVec Ideal S2816x1024 .f32) (z : FVec Ideal S8192x1024 .f32)
    (hx : m ((c : Thread nD τ).loc main_arg0) = x) (hw : m ((c : Thread nD τ).loc main_arg1) = w)
    (ho : m ((c : Thread nD τ).loc main_arg2) = o) (hz : m ((c : Thread nD τ).loc main_arg3) = z)
    (rx : ∀ i, x i = (((x i : EReal).toReal : ℝ) : EReal)) (rw : ∀ i, w i = (((w i : EReal).toReal : ℝ) : EReal))
    (ro : ∀ i, o i = (((o i : EReal).toReal : ℝ) : EReal)) (rz : ∀ i, z i = (((z i : EReal).toReal : ℝ) : EReal)) :
    (Gen.W5 m ρ c (Proc.devRef .tc main_v10) : FVec Ideal S8192x1024 .f32) = Cert.Reference2Ideal.Ffn.result0 x w o z
      ∧ (Gen.W5 m ρ c (Proc.devRef .tc main_v9) : FVec Ideal S2816x1024 .f32) = Cert.Reference2Ideal.Ffn.result1 x w z := by
  have G : Given m c (entry x) (entry w) (entry o) (entry z) :=
    ⟨fun r l => (congrFun hx _).trans (of_real x rx r l), fun r l => (congrFun hw _).trans (of_real w rw r l),
      fun r l => (congrFun ho _).trans (of_real o ro r l), fun r l => (congrFun hz _).trans (of_real z rz r l)⟩
  have A : Cert.Reference2Ideal.Ffn.Args x w o z (entry x) (entry w) (entry o) (entry z) :=
    ⟨of_real x rx, of_real w rw, of_real o ro, of_real z rz⟩
  constructor
  · funext i
    refine (congrArg _ (eq_ix2 i)).trans (((result0 ρ G _ _).trans (Cert.Reference2Ideal.Ffn.result0_real A _ _).symm).trans ?_)
    exact congrArg _ (eq_ix2 i).symm
  · funext i
    refine (congrArg _ (eq_ix2 i)).trans (((result1 ρ G _ _).trans (Cert.Reference2Ideal.Ffn.result1_real A _ _).symm).trans ?_)
    exact congrArg _ (eq_ix2 i).symm

/-- Both programs run, and end with equal results. -/
theorem algebraic : Cert.algebraic_Kernel2Ideal_Reference2Ideal_pre_finite2 (hPre_finite2 := Cert.Pre_finite2.facts) := by
  haveI := Cert.Pre_finite2.facts
  intro m ρ m' ρ' hp hm
  have res := fun c : Dev nD =>
    let p := Cert.Pre_finite2.real _ _ _ _ (hp c)
    results m ρ c _ _ _ _ (hm c).1.symm (hm c).2.1.symm (hm c).2.2.1.symm (hm c).2.2.2.symm
      (fun i => by rw [(hm c).1]; exact p.1.1 i) (fun i => by rw [(hm c).2.1]; exact p.1.2 i)
      (fun i => by rw [(hm c).2.2.1]; exact p.2.1 i) (fun i => by rw [(hm c).2.2.2]; exact p.2.2 i)
  refine ⟨fun c => Gen.W5 m ρ c (Proc.devRef .tc main_v10), fun c => Gen.W5 m ρ c (Proc.devRef .tc main_v9), run m ρ, ?_⟩
  exact (θ_run Cert.Reference2Ideal.defs _ _).mono
    (fun r h c => ⟨(h c).1.trans (res c).1.symm, (h c).2.1.trans (res c).2.symm, (h c).2.2⟩) (Cert.Reference2Ideal.Ffn.run m' ρ')

end Cert.Proof.HalfStep

end
-- ==== Proof.DwCases.lean ====
/- The gradient of the joint input weights, one grid point: what the body leaves in its running sum and in its two shards. -/
module

public import proofs.«01_k».proof.Proof.Gen.Kernel3Ideal.Frame
public import Idealize.ShloMosaic.Lib.Pipeline.Value
public import Idealize.ShloMosaic.Lib.Pointwise
public import Idealize.ShloMosaic.Lib.IdealHost
public import Idealize.ShloMosaic.Lib.Ring
public import Idealize.ShloMosaic.Lib.Tactic

@[expose] public section

noncomputable section

namespace Cert.Kernel3Ideal.Dw

open Cert.Kernel3Ideal Cert.Kernel3Ideal.Gen Idealize.ShloMosaic Idealize.ShloMosaic.TcCoe Idealize.SL.Sem Finset

theorem zero2 : (![0, 0] : Fin 2 → Nat) = fun _ => 0 := funext fun a => by fin_cases a <;> rfl
theorem zero3 : (![0, 0, 0] : Fin 3 → Nat) = fun _ => 0 := funext fun a => by fin_cases a <;> rfl

/-- One step adds a block's product. -/
theorem step_apply (acc : Vec Ideal S1024x1408 .f32) (x : Vec Ideal S2048x1024 .bf16) (d : Vec Ideal S1x2048x1408 .bf16)
    (r : Fin 1024) (l : Fin 1408) :
    k0_pay2 (F := Ideal) acc x d (ix2 r l) = acc (ix2 r l) + ∑ k : Fin 2048, x (ix2 k r) * d (ix3 0 k l) := by
  unfold k0_pay2
  pointwise

theorem zero_apply (r : Fin 1024) (l : Fin 1408) : k0_pay1 (F := Ideal) (ix2 r l) = 0 := by
  unfold k0_pay1
  pointwise

theorem shard0_apply (x : Vec Ideal S1024x704 .f32) (r : Fin 1024) (l : Fin 704) : k0_pay3 (F := Ideal) x (ix3 0 r l) = x (ix2 r l) := by
  unfold k0_pay3
  pointwise

theorem shard1_apply (x : Vec Ideal S1024x704 .f32) (r : Fin 1024) (l : Fin 704) : k0_pay4 (F := Ideal) x (ix3 0 r l) = x (ix2 r l) := by
  unfold k0_pay4
  pointwise

variable (c : Dev nD) (i : grid0.Coords) (a3 : Memref sig .tc .vmem S2048x1024 .bf16) (h3 : a3.IsWhole)
  (a4 : Memref sig .tc .vmem S1x2048x1408 .bf16) (h4 : a4.IsWhole) (a5 : Memref sig .tc .vmem S2x1024x704 .f32) (h5 : a5.IsWhole)
  (a6 : Memref sig .tc .vmem S1024x1408 .f32) (h6 : a6.IsWhole) (x : Vec Ideal S2048x1024 .bf16) (d : Vec Ideal S1x2048x1408 .bf16)

/-- The first point of a block resets and adds. -/
theorem first (hc0 : cond0_0 i) (hc1 : ¬cond0_1 i) :
    sout0_A_0 c i a3 h3 a4 h4 a5 h5 a6 h6 hc0 hc1 x d = k0_pay2 (F := Ideal) (k0_pay1 (F := Ideal)) x d := by
  unfold sout0_A_0
  rw [View.read_writes_eq_canon _ _ _ (scover0_A_0 c i a3 h3 a4 h4 a5 h5 a6 h6 hc0 hc1 x d)]
  unfold kernelRun0_A
  dsimp only
  sl_unfold_words
  rw [View.canon_cons_unit_zero (S := S1024x1408) zero2, View.readCov_unit_zero (S := S1024x1408) _ zero2]
  simp only [View.readAt_eq_ld, h3.read_unread, h4.read_unread, View.ld_unit_zero (S := S2048x1024) zero2,
    View.ld_unit_zero (S := S1x2048x1408) zero3]

/-- A middle point adds. -/
theorem middle (hc0 : ¬cond0_0 i) (hc1 : ¬cond0_1 i) (acc : Vec Ideal S1024x1408 .f32) :
    sout0_B_0 c i a3 h3 a4 h4 a5 h5 a6 h6 hc0 hc1 x d acc = k0_pay2 (F := Ideal) acc x d := by
  unfold sout0_B_0
  rw [View.read_writes_eq_canon _ _ _ (scover0_B_0 c i a3 h3 a4 h4 a5 h5 a6 h6 hc0 hc1 x d acc)]
  unfold kernelRun0_B
  dsimp only
  sl_unfold_words
  rw [View.canon_unit_zero (S := S1024x1408) zero2]
  simp only [View.readAt_eq_ld, h3.read_unread, h4.read_unread, h6.read_unread, View.ld_unit_zero (S := S2048x1024) zero2,
    View.ld_unit_zero (S := S1x2048x1408) zero3, View.ld_unit_zero (S := S1024x1408) zero2]

/-- The last point adds and cuts the sum into its two shards. -/
theorem last (hc0 : ¬cond0_0 i) (hc1 : cond0_1 i) (acc : Vec Ideal S1024x1408 .f32) (p : Fin 2) (r : Fin 1024) (l : Fin 704) :
    out0_C_2 c i a3 h3 a4 h4 a5 h5 a6 h6 hc0 hc1 x d acc (ix3 p r l)
      = k0_pay2 (F := Ideal) acc x d (ix2 r ⟨704 * p + l, by omega⟩) := by
  unfold out0_C_2
  rw [View.read_writes_eq_canon _ _ _ (cover0_C_2 c i a3 h3 a4 h4 a5 h5 a6 h6 hc0 hc1 x d acc)]
  unfold kernelRun0_C
  dsimp only
  sl_unfold_words
  simp only [View.readAt_eq_ld, h3.read_unread, h4.read_unread, h6.read_unread, View.ld_unit_zero (S := S2048x1024) zero2,
    View.ld_unit_zero (S := S1x2048x1408) zero3, View.ld_unit_zero (S := S1024x1408) zero2]
  generalize k0_pay2 (F := Ideal) acc x d = y
  obtain hp | hp : p = 1 ∨ p = 0 := by omega
  · subst hp
    rw [show (ix3 (1 : Fin 2) r l : S2x1024x704.Idx)
      = (Rect.unit (s := S2x1024x704) ![1, 0, 0] ![1, 1024, 704] inb_S2x1024x704_S1x1024x704_1_0_0).emb (ix3 (0 : Fin 1) r l) from ?_,
      View.canon_cons_emb, shard1_apply, View.readCov_eq_canon', View.canon_unit_zero (S := S1024x1408) zero2]
    · refine congrArg y ?_
      funext a
      apply Fin.ext
      match a with
      | ⟨0, _⟩ => show 0 + 1 * r.val = r.val; omega
      | ⟨1, _⟩ => show 704 + 1 * l.val = 704 * 1 + l.val; omega
    · funext a
      apply Fin.ext
      match a with
      | ⟨0, _⟩ => rfl
      | ⟨1, _⟩ => show r.val = 0 + 1 * r.val; omega
      | ⟨2, _⟩ => show l.val = 0 + 1 * l.val; omega
  · subst hp
    rw [View.canon_cons_of_not_mem, show (ix3 (0 : Fin 2) r l : S2x1024x704.Idx)
      = (Rect.unit (s := S2x1024x704) ![0, 0, 0] ![1, 1024, 704] inb_S2x1024x704_S1x1024x704_0_0_0).emb (ix3 (0 : Fin 1) r l) from ?_,
      View.canon_cons_emb, shard0_apply, View.readCov_eq_canon', View.canon_unit_zero (S := S1024x1408) zero2]
    · refine congrArg y ?_
      funext a
      apply Fin.ext
      match a with
      | ⟨0, _⟩ => show 0 + 1 * r.val = r.val; omega
      | ⟨1, _⟩ => show 0 + 1 * l.val = 704 * 0 + l.val; omega
    · funext a
      apply Fin.ext
      match a with
      | ⟨0, _⟩ => rfl
      | ⟨1, _⟩ => show r.val = 0 + 1 * r.val; omega
      | ⟨2, _⟩ => show l.val = 0 + 1 * l.val; omega
    · rw [Rect.mem_set_unit]
      intro hm
      exact absurd (hm 0).1 (by show ¬1 ≤ 0; omega)

end Cert.Kernel3Ideal.Dw

end
-- ==== Proof.Dw.lean ====
/- The gradient of the joint input weights, the whole call: four points add up a block, and the eight shards hold the whole product. -/
module

public import proofs.«01_k».proof.Proof.DwCases
public import proofs.«01_k».proof.Proof.Gen.Kernel3Ideal.Value
public import Idealize.ShloMosaic.Lib.Pipeline.ValueKit

@[expose] public section

noncomputable section

namespace Cert.Kernel3Ideal.Dw

open Cert.Kernel3Ideal Cert.Kernel3Ideal.Gen Idealize.ShloMosaic Idealize.ShloMosaic.TcCoe Idealize.SL.Sem Finset
open Idealize.ShloMosaic.Pipeline (Dat)

variable (m : (ℓ : Loc nD τ sig) → Buf (Elt Ideal) ℓ) (c : Dev nD)

/-- The two arguments. -/
abbrev argX : Vec Ideal S8192x1024 .f32 := m ((c : Thread nD τ).loc main_arg0)
abbrev argD : Vec Ideal S2x8192x2816 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_d : (V m c main_v1 : Vec Ideal S2x8192x2816 .bf16) = argD m c := by
  show StableHlo.after hostOps0 (fun b => m (c, b)) (Proc.devRef .tc main_v1) = _
  simp only [hostOps0]
  after_results_simp
  all_goals rfl

theorem lt16 (t : Fin cfg0.N) : t.val < 16 := t.isLt

theorem at0 (t : Fin cfg0.N) : win0_0.index t 0 = t.val % 4 ∧ win0_0.index t 1 = 0 := by revert t; decide +kernel
theorem at1 (t : Fin cfg0.N) : win0_1.index t 0 = t.val / 8 ∧ win0_1.index t 1 = t.val % 4 ∧ win0_1.index t 2 = t.val / 4 % 2 := by
  revert t; decide +kernel
theorem at2 (t : Fin cfg0.N) : win0_2.index t 0 = t.val / 4 ∧ win0_2.index t 1 = 0 ∧ win0_2.index t 2 = 0 := by revert t; decide +kernel

theorem rows_apply (t : Fin cfg0.N) (r : Fin 2048) (l : Fin 1024) :
    (iblk m c 0 t : Vec Ideal S2048x1024 .bf16) (ix2 r l) = argX m c (ix2 ⟨2048 * (t.val % 4) + r, by omega⟩ l) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 2048 + 1 * r.val = 2048 * (t.val % 4) + r.val
              omega
  | ⟨1, _⟩ => show win0_0.index t 1 * 1024 + 1 * l.val = l.val
              omega

theorem grads_apply (t : Fin cfg0.N) (r : Fin 2048) (l : Fin 1408) :
    (iblk m c 1 t : Vec Ideal S1x2048x1408 .bf16) (ix3 0 r l)
      = argD m c (ix3 ⟨t.val / 8, by have := lt16 t; omega⟩ ⟨2048 * (t.val % 4) + r, by omega⟩ ⟨1408 * (t.val / 4 % 2) + l, by omega⟩) := by
  unfold iblk
  rw [View.read_apply]
  refine Eq.trans ?_ (congrFun (host_d m c) _)
  show V m c main_v1 _ = _
  congr 1
  funext a
  apply Fin.ext
  have h := at1 t
  match a with
  | ⟨0, _⟩ => show win0_1.index t 0 * 1 + 1 * 0 = t.val / 8
              omega
  | ⟨1, _⟩ => show win0_1.index t 1 * 2048 + 1 * r.val = 2048 * (t.val % 4) + r.val
              omega
  | ⟨2, _⟩ => show win0_1.index t 2 * 1408 + 1 * l.val = 1408 * (t.val / 4 % 2) + l.val
              omega

/-- One row's contribution to the entry of column `j` of shard `s` in input lane `r`. -/
def term (s : Fin 8) (r : Fin 1024) (j : Fin 704) (k : ℕ) : EReal :=
  if h : k < 8192 then argX m c (ix2 ⟨k, h⟩ r) * argD m c (ix3 ⟨s / 4, by omega⟩ ⟨k, h⟩ ⟨704 * (s % 4) + j, by omega⟩) else 0

/-- A step of point `t` adds the next 2048 rows. -/
theorem step_rows (t : Fin cfg0.N) (acc : Vec Ideal S1024x1408 .f32) (p : Fin 2) (r : Fin 1024) (j : Fin 704)
    (hs : 2 * (t.val / 4) + p < 8) :
    k0_pay2 (F := Ideal) acc (iblk m c 0 t) (iblk m c 1 t) (ix2 r ⟨704 * p + j, by omega⟩)
      = acc (ix2 r ⟨704 * p + j, by omega⟩)
        + ∑ k ∈ range 2048, term m c ⟨2 * (t.val / 4) + p, hs⟩ r j (2048 * (t.val % 4) + k) := by
  refine (step_apply acc (iblk m c 0 t) (iblk m c 1 t) r ⟨704 * p + j, by omega⟩).trans ?_
  rw [← Fin.sum_univ_eq_sum_range (fun k => term m c ⟨2 * (t.val / 4) + p, hs⟩ r j (2048 * (t.val % 4) + k)) 2048]
  refine congrArg₂ (· + ·) rfl (sum_congr rfl fun k _ => ?_)
  unfold term
  rw [dif_pos (show 2048 * (t.val % 4) + k.val < 8192 by omega)]
  refine congrArg₂ (· * ·) (rows_apply m c t k r) ((grads_apply m c t k _).trans (congrArg (argD m c) ?_))
  have ht := lt16 t
  funext a
  apply Fin.ext
  match a with
  | ⟨0, _⟩ => show t.val / 8 = (2 * (t.val / 4) + p.val) / 4; omega
  | ⟨1, _⟩ => rfl
  | ⟨2, _⟩ => show 1408 * (t.val / 4 % 2) + (704 * p.val + j.val) = 704 * ((2 * (t.val / 4) + p.val) % 4) + j.val; omega

/-- The running sum before the block's last point: the rows so far. -/
theorem sum_rows : ∀ (n : ℕ) (h : n < cfg0.N) (p : Fin 2) (r : Fin 1024) (j : Fin 704) (hs : 2 * (n / 4) + p < 8), n % 4 ≠ 3 →
    (outsAt0 m c n h).2 (ix2 r ⟨704 * p + j, by omega⟩)
      = ∑ k ∈ range (2048 * (n % 4 + 1)), term m c ⟨2 * (n / 4) + p, hs⟩ r j k
  | 0, h, p, r, j, hs, _ => by
    rw [outsAt0_A m c ⟨0, h⟩ rfl (by dsimp only; omega)]
    dsimp only
    rw [first, step_rows m c ⟨0, h⟩ _ p r j hs, zero_apply, zero_add]
    simp
  | n + 1, h, p, r, j, hs, h3 => by
    by_cases h0 : (n + 1) % 4 = 0
    · rw [outsAt0_A m c ⟨n + 1, h⟩ h0 h3]
      dsimp only
      rw [first, step_rows m c ⟨n + 1, h⟩ _ p r j hs, zero_apply, zero_add]
      simp [h0]
    · rw [outsAt0_B m c ⟨n + 1, h⟩ h0 h3]
      dsimp only
      rw [middle, step_rows m c ⟨n + 1, h⟩ _ p r j hs]
      have hn := sum_rows n (Nat.lt_of_succ_lt h) p r j (by omega) (by omega)
      have e1 : 2048 * ((n + 1) % 4 + 1) = 2048 * (n % 4 + 1) + 2048 := by omega
      have e2 : 2048 * ((n + 1) % 4) = 2048 * (n % 4 + 1) := by omega
      have e3 : (⟨2 * ((n + 1) / 4) + p, hs⟩ : Fin 8) = ⟨2 * (n / 4) + p, by omega⟩ := Fin.ext (by dsimp only; omega)
      rw [e1, sum_range_add, e3]
      dsimp only
      rw [e2]
      exact congrArg₂ (· + ·) hn rfl

/-- What the block's last point leaves in its two shards: all the rows. -/
theorem shards (t : Fin cfg0.N) (h3 : t.val % 4 = 3) (p : Fin 2) (r : Fin 1024) (j : Fin 704) (hs : 2 * (t.val / 4) + p < 8) :
    (outsAt0 m c t.val t.isLt).1 (ix3 p r j) = ∑ k ∈ range 8192, term m c ⟨2 * (t.val / 4) + p, hs⟩ r j k := by
  rw [outsAt0_C m c t (by omega) h3]
  dsimp only
  rw [last, step_rows m c t _ p r j hs]
  have hn := sum_rows m c (t.val - 1) (by have := t.isLt; omega) p r j (by omega) (by omega)
  have e2 : 2048 * (t.val % 4) = 2048 * ((t.val - 1) % 4 + 1) := by omega
  have e1 : 8192 = 2048 * ((t.val - 1) % 4 + 1) + 2048 := by omega
  have e3 : (⟨2 * (t.val / 4) + p, hs⟩ : Fin 8) = ⟨2 * ((t.val - 1) / 4) + p, by omega⟩ := Fin.ext (by dsimp only; omega)
  rw [e1, sum_range_add, e3, e2]
  exact congrArg₂ (· + ·) hn rfl

/-- The array the call leaves. -/
theorem array (i : S8x1024x704.Idx) :
    ((dats m 0 c).arrAt 2 cfg0.N : Vec Ideal S8x1024x704 .f32) i = ∑ k ∈ range 8192, term m c (i 0) (i 1) (i 2) k := by
  refine (dats m 0 c).arrAt_forall_of_covers 2 (fun i v => v = ∑ k ∈ range 8192, term m c (i 0) (i 1) (i 2) k)
    (by decide +kernel) (fun t hf y => ?_) i
  rw [after0_2]
  have ht := lt16 t
  have h3 := (flush0_2 t).mp hf
  have h := at2 t
  have hy0 : (y 0).val < 2 := (y 0).isLt
  have hy1 : (y 1).val < 1024 := (y 1).isLt
  have hy2 : (y 2).val < 704 := (y 2).isLt
  refine Eq.trans (congrArg (outsAt0 m c t.val t.isLt).1 (?_ : _ = ix3 (⟨(y 0).val, hy0⟩ : Fin 2) (⟨(y 1).val, hy1⟩ : Fin 1024) (⟨(y 2).val, hy2⟩ : Fin 704)))
    ((shards m c t h3 ⟨(y 0).val, hy0⟩ ⟨(y 1).val, hy1⟩ ⟨(y 2).val, hy2⟩ (by show 2 * (t.val / 4) + (y 0).val < 8; omega)).trans ?_)
  · funext a
    apply Fin.ext
    match a with
    | ⟨0, _⟩ => rfl
    | ⟨1, _⟩ => rfl
    | ⟨2, _⟩ => rfl
  · have e0 : (⟨2 * (t.val / 4) + (y 0).val, by omega⟩ : Fin 8) = ((cfg0.win 2).blk t).view.emb y 0 := Fin.ext (by
      show 2 * (t.val / 4) + (y 0).val = win0_2.index t 0 * 2 + 1 * (y 0).val; omega)
    have e1 : (⟨(y 1).val, hy1⟩ : Fin 1024) = ((cfg0.win 2).blk t).view.emb y 1 := Fin.ext (by
      show (y 1).val = win0_2.index t 1 * 1024 + 1 * (y 1).val; omega)
    have e2 : (⟨(y 2).val, hy2⟩ : Fin 704) = ((cfg0.win 2).blk t).view.emb y 2 := Fin.ext (by
      show (y 2).val = win0_2.index t 2 * 704 + 1 * (y 2).val; omega)
    exact sum_congr rfl fun k _ => by rw [← e0, ← e1, ← e2]

end Cert.Kernel3Ideal.Dw

end
-- ==== Proof.DwRef.lean ====
/- The gradient of the joint input weights: the reference's result, and the kernel's beside it. -/
module

public import proofs.«01_k».proof.Defs
public import proofs.«01_k».proof.Proof.Dw
public import proofs.«01_k».proof.Proof.Gen.Reference3Ideal.Run

@[expose] public section

noncomputable section

namespace Cert.Proof.Joint

open Cert.Reference3Ideal Cert.Reference3Ideal.Gen Idealize.ShloMosaic Idealize.ShloMosaic.TcCoe Idealize.SL.Sem Finset

/-- The two gradients side by side. -/
def both (d : FVec Ideal S2x8192x2816 .f32) : FVec Ideal S8192x5632 .f32 :=
  concatenate S8192x5632 1
    [⟨S8192x2816, (shapeCast _ (extractStridedSlice S1x8192x2816 ![0, 0, 0] d slices_S2x8192x2816_S1x8192x2816_0_0_0) shapeCasts_S1x8192x2816_S8192x2816 : FVec Ideal S8192x2816 .f32)⟩,
      ⟨S8192x2816, (shapeCast _ (extractStridedSlice S1x8192x2816 ![1, 0, 0] d slices_S2x8192x2816_S1x8192x2816_1_0_0) shapeCasts_S1x8192x2816_S8192x2816 : FVec Ideal S8192x2816 .f32)⟩]
    concatenates_S8192x2816_S8192x2816_S8192x5632_d1

theorem both_apply (d : FVec Ideal S2x8192x2816 .f32) (k : Fin 8192) (l : Fin 5632) :
    both d (ix2 k l) = d (ix3 ⟨l / 2816, by omega⟩ k ⟨l % 2816, by omega⟩) := by
  unfold both
  pointwise
  have hl := l.isLt
  split_ifs <;> first | (exfalso; omega) | skip
  all_goals
    refine congrArg d (funext fun a => Fin.ext ?_)
    match a with
    | ⟨0, _⟩ => show _ = l.val / 2816; simp; omega
    | ⟨1, _⟩ => simp
    | ⟨2, _⟩ => show _ = l.val % 2816; simp; omega

/-- The whole product in its eight shards. -/
def product (x : FVec Ideal S8192x1024 .f32) (y : FVec Ideal S8192x5632 .f32) : FVec Ideal S8x1024x704 .f32 :=
  transpose S8x1024x704 [1, 0, 2] (shapeCast _ (transpose S1024x5632 [1, 0]
    (Host.dotGeneral dot_S8192x5632_S8192x1024_S5632x1024_0_0_1_1_n_n none y x) transposes_S5632x1024_S1024x5632_1_0)
    shapeCasts_S1024x5632_S1024x8x704) transposes_S1024x8x704_S8x1024x704_1_0_2

theorem product_apply (x : FVec Ideal S8192x1024 .f32) (y : FVec Ideal S8192x5632 .f32) (s : Fin 8) (r : Fin 1024) (j : Fin 704) :
    product x y (ix3 s r j) = ∑ k : Fin 8192, y (ix2 k ⟨704 * s + j, by omega⟩) * x (ix2 k r) := by
  unfold product
  pointwise
  have e : (⟨s.val * 704 + j.val, by omega⟩ : Fin 5632) = ⟨704 * s + j, by omega⟩ := Fin.ext (by dsimp only; omega)
  exact sum_congr rfl fun k _ => by rw [e]

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = product (m ((c.tc : Thread nD τ).loc main_arg0)) (both (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference3Ideal.Value.run m ρ

/-- The kernel's eight shards are the reference's. -/
theorem shards (m : (ℓ : Loc Cert.Kernel3Ideal.nD Cert.Kernel3Ideal.τ Cert.Kernel3Ideal.sig) → Buf (Elt Ideal) ℓ) (c : Dev Cert.Kernel3Ideal.nD)
    (x : FVec Ideal S8192x1024 .f32) (d : FVec Ideal S2x8192x2816 .f32)
    (hx : m ((c : Thread Cert.Kernel3Ideal.nD Cert.Kernel3Ideal.τ).loc Cert.Kernel3Ideal.main_arg0) = x)
    (hd : m ((c : Thread Cert.Kernel3Ideal.nD Cert.Kernel3Ideal.τ).loc Cert.Kernel3Ideal.main_arg1) = d) :
    ((Cert.Kernel3Ideal.Gen.dats m 0 c).arrAt 2 Cert.Kernel3Ideal.cfg0.N : FVec Ideal S8x1024x704 .f32) = product x (both d) := by
  funext i
  rw [eq_ix3 i]
  refine (Cert.Kernel3Ideal.Dw.array m c _).trans ((product_apply x _ _ _ _).trans ?_).symm
  rw [← Fin.sum_univ_eq_sum_range]
  refine sum_congr rfl fun k _ => ?_
  subst hx hd
  have h0 : (i 0).val < 8 := (i 0).isLt
  have h2 : (i 2).val < 704 := (i 2).isLt
  unfold Cert.Kernel3Ideal.Dw.term
  rw [dif_pos k.isLt, both_apply, mul_comm]
  refine congrArg₂ (· * ·) rfl (congrArg (m ((c : Thread Cert.Kernel3Ideal.nD Cert.Kernel3Ideal.τ).loc Cert.Kernel3Ideal.main_arg1)) ?_)
  funext a
  apply Fin.ext
  match a with
  | ⟨0, _⟩ => show (704 * (i 0).val + (i 2).val) / 2816 = (i 0).val / 4; omega
  | ⟨1, _⟩ => rfl
  | ⟨2, _⟩ => show (704 * (i 0).val + (i 2).val) % 2816 = 704 * ((i 0).val % 4) + (i 2).val; omega

/-- Both programs run, and end with the same shards. -/
theorem algebraic : Cert.algebraic_Kernel3Ideal_Reference3Ideal := by
  intro m ρ m' ρ' _ hm
  have res := fun c : Dev Cert.Kernel3Ideal.nD => shards m c _ _ (hm c).1.symm (hm c).2.symm
  refine ⟨fun c => (Cert.Kernel3Ideal.Gen.dats m 0 c).arrAt 2 Cert.Kernel3Ideal.cfg0.N, Cert.Kernel3Ideal.Value.run_blocks m ρ, ?_⟩
  exact (θ_run Cert.Reference3Ideal.defs _ _).mono
    (fun r h c => ⟨(h c).1.trans (res c).symm, (h c).2⟩) (reference m' ρ')

end Cert.Proof.Joint

end
-- ==== Proof.FwdRun.lean ====
/- The forward half step's program run: its three result arrays end at the contents the segments' fold gives them, its arguments as launched. -/
module

public import proofs.«01_k».proof.Proof.Gen.Kernel4Ideal.Frame

@[expose] public section

noncomputable section

namespace Cert.Kernel4Ideal.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

-- the launch lemma's implicit arguments are found by unfolding plain definitions in a metavariable's type
set_option backward.isDefEq.respectTransparency.types false in
/-- Every weakly fair execution ends, with the three results at the last segment's contents and the arguments as launched. -/
theorem run : θ_run defs (onTc (τ := τ) (main (F := F))) ⟨m, fun _ => 0, ρ⟩ (fun r => ∀ c : Dev nD,
      r.2.mem ((c.tc : Thread nD τ).loc main_v7_0) = W4 m ρ c (Proc.devRef .tc main_v7_0)
      ∧ r.2.mem ((c.tc : Thread nD τ).loc main_v7_1) = W4 m ρ c (Proc.devRef .tc main_v7_1)
      ∧ r.2.mem ((c.tc : Thread nD τ).loc main_v7_2) = W4 m ρ c (Proc.devRef .tc main_v7_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v7_0 (by decide)), h c _ (mem_uc main_v7_1 (by decide)), h c _ (mem_uc main_v7_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel4Ideal.Fwd

end
-- ==== Proof.FwdCells.lean ====
/- The feed-forward half step with its layer norm, one grid point of each of its two calls. -/
module

public import proofs.«01_k».proof.Proof.Gen.Kernel4Ideal.Frame
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Fwd

open Idealize.ShloMosaic Finset

/-- The hidden value at a gate and a value. -/
def act (g u : EReal) : EReal := g * Ideal.logistic g * u

/-- The residual and half of what the hidden row sends out. -/
def residual (x s : EReal) : EReal := Ideal.ofBits .f32 0x3FD744FD#32 * x + Ideal.ofBits .f32 0x3F000000#32 * s

/-- A row of 1024 less its mean, over its standard deviation, scaled and shifted. -/
def mean (z : Fin 1024 → EReal) : EReal := Ideal.div (∑ k, z k) (Ideal.ofBits .f32 0x44800000#32)
def norm (z : Fin 1024 → EReal) (g b : EReal) (d : Fin 1024) : EReal :=
  (z d - mean z) * Ideal.rsqrt (mean (fun k => (z k - mean z) * (z k - mean z)) + Ideal.ofBits .f32 0x3727C5AC#32) * g + b

section

variable (x : Fin 8192 → Fin 1024 → EReal) (w : Fin 1024 → Fin 5632 → EReal) (o : Fin 2816 → Fin 1024 → EReal)

/-- The hidden rows, the half step's rows, and these normalised. -/
def hiddenRow (r : Fin 8192) (j : Fin 2816) : EReal :=
  act (∑ k, x r k * w k ⟨j, by omega⟩) (∑ k, x r k * w k ⟨2816 + j, by omega⟩)
def step (h : Fin 8192 → Fin 2816 → EReal) (r : Fin 8192) (d : Fin 1024) : EReal := residual (x r d) (∑ j, h r j * o j d)
def normed (h : Fin 8192 → Fin 2816 → EReal) (g b : Fin 1024 → EReal) (r : Fin 8192) (d : Fin 1024) : EReal :=
  norm (step x o h r) (g d) (b d) d

end

end Cert.Fwd

namespace Cert.Kernel4Ideal.Fwd

open Cert.Kernel4Ideal Cert.Kernel4Ideal.Gen Cert.Fwd Idealize.ShloMosaic Idealize.ShloMosaic.TcCoe Idealize.SL.Sem Finset

theorem zero2 : (![0, 0] : Fin 2 → Nat) = fun _ => 0 := funext fun a => by fin_cases a <;> rfl
theorem zero3 : (![0, 0, 0] : Fin 3 → Nat) = fun _ => 0 := funext fun a => by fin_cases a <;> rfl

theorem gate_apply (x : Vec Ideal S512x1024 .bf16) (w : Vec Ideal S1024x1408 .bf16) (r : Fin 512) (l : Fin 1408) :
    k0_pay2 (F := Ideal) x w (ix2 r l) = ∑ k : Fin 1024, x (ix2 r k) * w (ix2 k l) := by
  unfold k0_pay2 k0_pay1
  pointwise

theorem value_apply (x : Vec Ideal S512x1024 .bf16) (w : Vec Ideal S1024x1408 .bf16) (r : Fin 512) (l : Fin 1408) :
    k0_pay3 (F := Ideal) x w (ix2 r l) = ∑ k : Fin 1024, x (ix2 r k) * w (ix2 k l) := by
  unfold k0_pay3 k0_pay1
  pointwise

theorem out0_4_apply (x : Vec Ideal S512x1024 .bf16) (w w' : Vec Ideal S1024x1408 .bf16) (r : Fin 512) (l : Fin 1408) :
    out0_4 x w w' (ix2 r l) = act (∑ k : Fin 1024, x (ix2 r k) * w (ix2 k l)) (∑ k : Fin 1024, x (ix2 r k) * w' (ix2 k l)) := by
  unfold out0_4
  rw [View.canon_unit_zero (S := S512x1408) zero2, View.ld_unit_zero (S := S512x1024) zero2, View.ld_unit_zero (S := S1024x1408) zero2,
    View.ld_unit_zero (S := S1024x1408) zero2, ← gate_apply, ← value_apply]
  unfold k0_pay8 k0_pay5 k0_pay4
  generalize k0_pay3 (F := Ideal) x w' = u
  generalize k0_pay2 (F := Ideal) x w = g
  pointwise
  rfl

/-- The eight shards of the output weights, by row of the whole. -/
def whole (w : Vec Ideal S8x352x1024 .bf16) (j : Fin 2816) (d : Fin 1024) : EReal := w (ix3 ⟨j / 352, by omega⟩ ⟨j % 352, by omega⟩ d)

theorem residual_apply (x : Vec Ideal S512x1024 .f32) (a : Vec Ideal S512x2816 .bf16) (w : Vec Ideal S8x352x1024 .bf16) (r : Fin 512)
    (d : Fin 1024) : k1_pay2 (F := Ideal) x a w (ix2 r d)
      = residual (x (ix2 r d)) (∑ j : Fin 2816, a (ix2 r j) * whole w j d) := by
  unfold k1_pay2
  pointwise
  rfl

theorem norm_apply (x : Vec Ideal S512x1024 .f32) (a : Vec Ideal S512x2816 .bf16) (w : Vec Ideal S8x352x1024 .bf16)
    (g b : Vec Ideal S1x1024 .f32) (r : Fin 512) (d : Fin 1024) :
    k1_pay3 (F := Ideal) x a w g b (ix2 r d) = norm (fun k => k1_pay2 (F := Ideal) x a w (ix2 r k)) (g (ix2 0 d)) (b (ix2 0 d)) d := by
  unfold k1_pay3
  generalize k1_pay2 (F := Ideal) x a w = z
  pointwise
  rfl

section

variable (a : Vec Ideal S512x2816 .bf16) (w : Vec Ideal S8x352x1024 .bf16) (x : Vec Ideal S512x1024 .f32) (g b : Vec Ideal S1x1024 .f32)

theorem out1_5_eq : out1_5 a w x g b = k1_pay2 (F := Ideal) x a w := by
  unfold out1_5
  rw [View.canon_unit_zero (S := S512x1024) zero2, View.ld_unit_zero (S := S512x1024) zero2, View.ld_unit_zero (S := S512x2816) zero2,
    View.ld_unit_zero (S := S8x352x1024) zero3]

theorem out1_6_eq : out1_6 a w x g b = k1_pay3 (F := Ideal) x a w g b := by
  unfold out1_6 k1_pay4
  rw [View.canon_unit_zero (S := S512x1024) zero2, View.ld_unit_zero (S := S512x1024) zero2, View.ld_unit_zero (S := S512x2816) zero2,
    View.ld_unit_zero (S := S8x352x1024) zero3, View.ld_unit_zero (S := S1x1024) zero2, View.ld_unit_zero (S := S1x1024) zero2]

theorem out1_7_eq : out1_7 a w x g b = k1_pay1 (F := Ideal) (k1_pay3 (F := Ideal) x a w g b) := by
  unfold out1_7 k1_pay4
  rw [View.canon_unit_zero (S := S512x1024) zero2, View.ld_unit_zero (S := S512x1024) zero2, View.ld_unit_zero (S := S512x2816) zero2,
    View.ld_unit_zero (S := S8x352x1024) zero3, View.ld_unit_zero (S := S1x1024) zero2, View.ld_unit_zero (S := S1x1024) zero2]

end

end Cert.Kernel4Ideal.Fwd

end
-- ==== Proof.FwdArrays.lean ====
/- The feed-forward half step with its layer norm: the arrays its two calls leave, from the arrays they read. -/
module

public import proofs.«01_k».proof.Proof.FwdCells

@[expose] public section

noncomputable section

namespace Cert.Kernel4Ideal.Fwd

open Cert.Kernel4Ideal Cert.Kernel4Ideal.Gen Cert.Fwd Idealize.ShloMosaic Idealize.ShloMosaic.TcCoe Idealize.SL.Sem Finset
open Idealize.ShloMosaic.Pipeline (Dat)

variable (V : (c : Dev nD) → (b : Ref sig .tc) → Buf (Elt Ideal) ((c : Thread nD τ).loc b)) (c : Dev nD)

/-! ### The first call -/

theorem lt0 (t : Fin cfg0.N) : t.val < 32 := t.isLt
theorem at0_0 (t : Fin cfg0.N) : win0_0.index t 0 = t.val % 16 ∧ win0_0.index t 1 = 0 := by revert t; decide +kernel
theorem at0_1 (t : Fin cfg0.N) : win0_1.index t 0 = 0 ∧ win0_1.index t 1 = t.val / 16 := by revert t; decide +kernel
theorem at0_2 (t : Fin cfg0.N) : win0_2.index t 0 = 0 ∧ win0_2.index t 1 = 2 + t.val / 16 := by revert t; decide +kernel
theorem at0_4 (t : Fin cfg0.N) : win0_4.index t 0 = t.val % 16 ∧ win0_4.index t 1 = t.val / 16 := by revert t; decide +kernel

theorem read0_0 (t : Fin cfg0.N) (r : Fin 512) (k : Fin 1024) (q : Fin 8192) (hq : 512 * (t.val % 16) + r.val = q.val) :
    (iblk0 V c 0 t : Vec Ideal S512x1024 .bf16) (ix2 r k) = (V c main_v0 : Vec Ideal S8192x1024 .bf16) (ix2 q k) := by
  unfold iblk0
  rw [View.read_apply]
  show V c main_v0 _ = _
  congr 1
  funext a
  apply Fin.ext
  have h := at0_0 t
  match a with
  | ⟨0, _⟩ => show win0_0.index t 0 * 512 + 1 * r.val = q.val; omega
  | ⟨1, _⟩ => show win0_0.index t 1 * 1024 + 1 * k.val = k.val; omega

theorem read0_1 (t : Fin cfg0.N) (k : Fin 1024) (l : Fin 1408) (q : Fin 5632) (hq : 1408 * (t.val / 16) + l.val = q.val) :
    (iblk0 V c 1 t : Vec Ideal S1024x1408 .bf16) (ix2 k l) = (V c main_v1 : Vec Ideal S1024x5632 .bf16) (ix2 k q) := by
  unfold iblk0
  rw [View.read_apply]
  show V c main_v1 _ = _
  congr 1
  funext a
  apply Fin.ext
  have h := at0_1 t
  match a with
  | ⟨0, _⟩ => show win0_1.index t 0 * 1024 + 1 * k.val = k.val; omega
  | ⟨1, _⟩ => show win0_1.index t 1 * 1408 + 1 * l.val = q.val; omega

theorem read0_2 (t : Fin cfg0.N) (k : Fin 1024) (l : Fin 1408) (q : Fin 5632) (hq : 2816 + (1408 * (t.val / 16) + l.val) = q.val) :
    (iblk0 V c 2 t : Vec Ideal S1024x1408 .bf16) (ix2 k l) = (V c main_v1 : Vec Ideal S1024x5632 .bf16) (ix2 k q) := by
  unfold iblk0
  rw [View.read_apply]
  show V c main_v1 _ = _
  congr 1
  funext a
  apply Fin.ext
  have h := at0_2 t
  match a with
  | ⟨0, _⟩ => show win0_2.index t 0 * 1024 + 1 * k.val = k.val; omega
  | ⟨1, _⟩ => show win0_2.index t 1 * 1408 + 1 * l.val = q.val; omega

/-- The hidden rows. -/
theorem arr0_4 {x : Fin 8192 → Fin 1024 → EReal} {w : Fin 1024 → Fin 5632 → EReal}
    (hx : ∀ r k, (V c main_v0 : Vec Ideal S8192x1024 .bf16) (ix2 r k) = x r k)
    (hw : ∀ k l, (V c main_v1 : Vec Ideal S1024x5632 .bf16) (ix2 k l) = w k l) (i : S8192x2816.Idx) :
    ∀ (r : Fin 8192) (j : Fin 2816), (i 0).val = r.val → (i 1).val = j.val →
      ((dat0 V c).arrAt 4 cfg0.N : Vec Ideal S8192x2816 .bf16) i = hiddenRow x w r j := by
  refine (dat0 V c).arrAt_forall_of_covers 4
    (fun i v => ∀ (r : Fin 8192) (j : Fin 2816), (i 0).val = r.val → (i 1).val = j.val → v = hiddenRow x w r j)
    (by decide +kernel) (fun t hf y r j hr hj => ?_) i
  rw [after0_4]
  have hi := at0_4 t
  have hr : win0_4.index t 0 * 512 + 1 * (y 0).val = r.val := hr
  have hj : win0_4.index t 1 * 1408 + 1 * (y 1).val = j.val := hj
  have h := out0_4_apply (iblk0 V c 0 t) (iblk0 V c 1 t) (iblk0 V c 2 t) ⟨(y 0).val, (y 0).isLt⟩ ⟨(y 1).val, (y 1).isLt⟩
  generalize out0_4 (iblk0 V c 0 t) (iblk0 V c 1 t) (iblk0 V c 2 t) = f at h ⊢
  refine Eq.trans (congrArg f (eq_ix2 y)) (Eq.trans h ?_)
  unfold hiddenRow
  refine congrArg₂ act (sum_congr rfl fun k _ => ?_) (sum_congr rfl fun k _ => ?_)
  · rw [read0_0 V c t _ k r (by dsimp only; omega), read0_1 V c t k _ ⟨j, by omega⟩ (by dsimp only; omega), hx, hw]
  · rw [read0_0 V c t _ k r (by dsimp only; omega), read0_2 V c t k _ ⟨2816 + j, by omega⟩ (by dsimp only; omega), hx, hw]

/-! ### The second call -/

theorem lt1 (t : Fin cfg1.N) : t.val < 16 := t.isLt
theorem at1_0 (t : Fin cfg1.N) : win1_0.index t 0 = t.val ∧ win1_0.index t 1 = 0 := by revert t; decide +kernel
theorem at1_1 (t : Fin cfg1.N) : win1_1.index t 0 = 0 ∧ win1_1.index t 1 = 0 ∧ win1_1.index t 2 = 0 := by revert t; decide +kernel
theorem at1_2 (t : Fin cfg1.N) : win1_2.index t 0 = t.val ∧ win1_2.index t 1 = 0 := by revert t; decide +kernel
theorem at1_3 (t : Fin cfg1.N) : win1_3.index t 0 = 0 ∧ win1_3.index t 1 = 0 := by revert t; decide +kernel
theorem at1_4 (t : Fin cfg1.N) : win1_4.index t 0 = 0 ∧ win1_4.index t 1 = 0 := by revert t; decide +kernel
theorem at1_5 (t : Fin cfg1.N) : win1_5.index t 0 = t.val ∧ win1_5.index t 1 = 0 := by revert t; decide +kernel
theorem at1_6 (t : Fin cfg1.N) : win1_6.index t 0 = t.val ∧ win1_6.index t 1 = 0 := by revert t; decide +kernel
theorem at1_7 (t : Fin cfg1.N) : win1_7.index t 0 = t.val ∧ win1_7.index t 1 = 0 := by revert t; decide +kernel

theorem read1_0 (t : Fin cfg1.N) (r : Fin 512) (j : Fin 2816) (q : Fin 8192) (hq : 512 * t.val + r.val = q.val) :
    (iblk1 V c 0 t : Vec Ideal S512x2816 .bf16) (ix2 r j) = (V c main_v4_1 : Vec Ideal S8192x2816 .bf16) (ix2 q j) := by
  unfold iblk1
  rw [View.read_apply]
  show V c main_v4_1 _ = _
  congr 1
  funext a
  apply Fin.ext
  have h := at1_0 t
  match a with
  | ⟨0, _⟩ => show win1_0.index t 0 * 512 + 1 * r.val = q.val; omega
  | ⟨1, _⟩ => show win1_0.index t 1 * 2816 + 1 * j.val = j.val; omega

theorem read1_1 (t : Fin cfg1.N) : (iblk1 V c 1 t : Vec Ideal S8x352x1024 .bf16) = (V c main_v3 : Vec Ideal S8x352x1024 .bf16) := by
  funext i
  unfold iblk1
  rw [View.read_apply]
  show V c main_v3 _ = _
  congr 1
  funext a
  apply Fin.ext
  have h := at1_1 t
  match a with
  | ⟨0, _⟩ => show win1_1.index t 0 * 8 + 1 * (i 0).val = (i 0).val; omega
  | ⟨1, _⟩ => show win1_1.index t 1 * 352 + 1 * (i 1).val = (i 1).val; omega
  | ⟨2, _⟩ => show win1_1.index t 2 * 1024 + 1 * (i 2).val = (i 2).val; omega

theorem read1_2 (t : Fin cfg1.N) (r : Fin 512) (d : Fin 1024) (q : Fin 8192) (hq : 512 * t.val + r.val = q.val) :
    (iblk1 V c 2 t : Vec Ideal S512x1024 .f32) (ix2 r d) = (V c main_arg0 : Vec Ideal S8192x1024 .f32) (ix2 q d) := by
  unfold iblk1
  rw [View.read_apply]
  show V c main_arg0 _ = _
  congr 1
  funext a
  apply Fin.ext
  have h := at1_2 t
  match a with
  | ⟨0, _⟩ => show win1_2.index t 0 * 512 + 1 * r.val = q.val; omega
  | ⟨1, _⟩ => show win1_2.index t 1 * 1024 + 1 * d.val = d.val; omega

theorem read1_3 (t : Fin cfg1.N) : (iblk1 V c 3 t : Vec Ideal S1x1024 .f32) = (V c main_v5 : Vec Ideal S1x1024 .f32) := by
  funext i
  unfold iblk1
  rw [View.read_apply]
  show V c main_v5 _ = _
  congr 1
  funext a
  apply Fin.ext
  have h := at1_3 t
  match a with
  | ⟨0, _⟩ => show win1_3.index t 0 * 1 + 1 * (i 0).val = (i 0).val; omega
  | ⟨1, _⟩ => show win1_3.index t 1 * 1024 + 1 * (i 1).val = (i 1).val; omega

theorem read1_4 (t : Fin cfg1.N) : (iblk1 V c 4 t : Vec Ideal S1x1024 .f32) = (V c main_v6 : Vec Ideal S1x1024 .f32) := by
  funext i
  unfold iblk1
  rw [View.read_apply]
  show V c main_v6 _ = _
  congr 1
  funext a
  apply Fin.ext
  have h := at1_4 t
  match a with
  | ⟨0, _⟩ => show win1_4.index t 0 * 1 + 1 * (i 0).val = (i 0).val; omega
  | ⟨1, _⟩ => show win1_4.index t 1 * 1024 + 1 * (i 1).val = (i 1).val; omega

section

variable {x : Fin 8192 → Fin 1024 → EReal} {o : Fin 2816 → Fin 1024 → EReal} {h : Fin 8192 → Fin 2816 → EReal} {g b : Fin 1024 → EReal}
  (hx : ∀ r d, (V c main_arg0 : Vec Ideal S8192x1024 .f32) (ix2 r d) = x r d)
  (hh : ∀ r j, (V c main_v4_1 : Vec Ideal S8192x2816 .bf16) (ix2 r j) = h r j)
  (ho : ∀ j d, whole (V c main_v3 : Vec Ideal S8x352x1024 .bf16) j d = o j d)
  (hg : ∀ d, (V c main_v5 : Vec Ideal S1x1024 .f32) (ix2 0 d) = g d)
  (hb : ∀ d, (V c main_v6 : Vec Ideal S1x1024 .f32) (ix2 0 d) = b d)
include hx hh ho

/-- One block of the half step's rows, and of these normalised. -/
theorem rows_apply (t : Fin cfg1.N) (r : Fin 512) (d : Fin 1024) (q : Fin 8192) (hq : 512 * t.val + r.val = q.val) :
    k1_pay2 (F := Ideal) (iblk1 V c 2 t) (iblk1 V c 0 t) (iblk1 V c 1 t) (ix2 r d) = step x o h q d := by
  rw [residual_apply, read1_1, read1_2 V c t r d q hq, hx]
  exact congrArg _ (sum_congr rfl fun j _ => by rw [read1_0 V c t r j q hq, hh, ho])

include hg hb

theorem normed_apply (t : Fin cfg1.N) (r : Fin 512) (d : Fin 1024) (q : Fin 8192) (hq : 512 * t.val + r.val = q.val) :
    k1_pay3 (F := Ideal) (iblk1 V c 2 t) (iblk1 V c 0 t) (iblk1 V c 1 t) (iblk1 V c 3 t) (iblk1 V c 4 t) (ix2 r d)
      = normed x o h g b q d := by
  rw [norm_apply, read1_3, read1_4, hg, hb]
  simp only [rows_apply V c hx hh ho t r _ q hq]
  rfl

omit hg hb in
theorem arr1_5 (i : S8192x1024.Idx) : ∀ (r : Fin 8192) (d : Fin 1024), (i 0).val = r.val → (i 1).val = d.val →
    ((dat1 V c).arrAt 5 cfg1.N : Vec Ideal S8192x1024 .f32) i = step x o h r d := by
  refine (dat1 V c).arrAt_forall_of_covers 5
    (fun i v => ∀ (r : Fin 8192) (d : Fin 1024), (i 0).val = r.val → (i 1).val = d.val → v = step x o h r d)
    (by decide +kernel) (fun t hf y r d hr hd => ?_) i
  rw [after1_5, out1_5_eq]
  have hi := at1_5 t
  have hr : win1_5.index t 0 * 512 + 1 * (y 0).val = r.val := hr
  have hd : win1_5.index t 1 * 1024 + 1 * (y 1).val = d.val := hd
  obtain rfl : d = ⟨(y 1).val, (y 1).isLt⟩ := Fin.ext (by dsimp only; omega)
  have e := rows_apply V c hx hh ho t ⟨(y 0).val, (y 0).isLt⟩ ⟨(y 1).val, (y 1).isLt⟩ r (by dsimp only; omega)
  generalize k1_pay2 (F := Ideal) (iblk1 V c 2 t) (iblk1 V c 0 t) (iblk1 V c 1 t) = f at e ⊢
  exact Eq.trans (congrArg f (eq_ix2 y)) e

theorem arr1_6 (i : S8192x1024.Idx) : ∀ (r : Fin 8192) (d : Fin 1024), (i 0).val = r.val → (i 1).val = d.val →
    ((dat1 V c).arrAt 6 cfg1.N : Vec Ideal S8192x1024 .f32) i = normed x o h g b r d := by
  refine (dat1 V c).arrAt_forall_of_covers 6
    (fun i v => ∀ (r : Fin 8192) (d : Fin 1024), (i 0).val = r.val → (i 1).val = d.val → v = normed x o h g b r d)
    (by decide +kernel) (fun t hf y r d hr hd => ?_) i
  rw [after1_6, out1_6_eq]
  have hi := at1_6 t
  have hr : win1_6.index t 0 * 512 + 1 * (y 0).val = r.val := hr
  have hd : win1_6.index t 1 * 1024 + 1 * (y 1).val = d.val := hd
  obtain rfl : d = ⟨(y 1).val, (y 1).isLt⟩ := Fin.ext (by dsimp only; omega)
  have e := normed_apply V c hx hh ho hg hb t ⟨(y 0).val, (y 0).isLt⟩ ⟨(y 1).val, (y 1).isLt⟩ r (by dsimp only; omega)
  generalize k1_pay3 (F := Ideal) (iblk1 V c 2 t) (iblk1 V c 0 t) (iblk1 V c 1 t) (iblk1 V c 3 t) (iblk1 V c 4 t) = f at e ⊢
  exact Eq.trans (congrArg f (eq_ix2 y)) e

theorem arr1_7 (i : S8192x1024.Idx) : ∀ (r : Fin 8192) (d : Fin 1024), (i 0).val = r.val → (i 1).val = d.val →
    ((dat1 V c).arrAt 7 cfg1.N : Vec Ideal S8192x1024 .bf16) i = normed x o h g b r d := by
  refine (dat1 V c).arrAt_forall_of_covers 7
    (fun i v => ∀ (r : Fin 8192) (d : Fin 1024), (i 0).val = r.val → (i 1).val = d.val → v = normed x o h g b r d)
    (by decide +kernel) (fun t hf y r d hr hd => ?_) i
  rw [after1_7, out1_7_eq]
  have hi := at1_7 t
  have hr : win1_7.index t 0 * 512 + 1 * (y 0).val = r.val := hr
  have hd : win1_7.index t 1 * 1024 + 1 * (y 1).val = d.val := hd
  obtain rfl : d = ⟨(y 1).val, (y 1).isLt⟩ := Fin.ext (by dsimp only; omega)
  have e := normed_apply V c hx hh ho hg hb t ⟨(y 0).val, (y 0).isLt⟩ ⟨(y 1).val, (y 1).isLt⟩ r (by dsimp only; omega)
  generalize k1_pay3 (F := Ideal) (iblk1 V c 2 t) (iblk1 V c 0 t) (iblk1 V c 1 t) (iblk1 V c 3 t) (iblk1 V c 4 t) = f at e ⊢
  exact Eq.trans (congrArg f (eq_ix2 y)) e

end

end Cert.Kernel4Ideal.Fwd

end
-- ==== Proof.FwdChain.lean ====
/- The forward half step's host lines and two calls, one after the other: its three results from its arguments. -/
module

public import proofs.«01_k».proof.Proof.FwdArrays

@[expose] public section

noncomputable section

namespace Cert.Kernel4Ideal.Fwd

open Cert.Kernel4Ideal Cert.Kernel4Ideal.Gen Cert.Fwd Idealize.ShloMosaic Idealize.ShloMosaic.TcCoe Idealize.SL.Sem Finset

variable (m : (ℓ : Loc nD τ sig) → Buf (Elt Ideal) ℓ) (ρ : Dev nD → PrngReg) (c : Dev nD)

/-- The five argument arrays of one device, by row and column. -/
def argX (r : Fin 8192) (d : Fin 1024) : EReal := (m ((c : Thread nD τ).loc main_arg0) : Vec Ideal S8192x1024 .f32) (ix2 r d)
def argW (k : Fin 1024) (l : Fin 5632) : EReal := (m ((c : Thread nD τ).loc main_arg1) : Vec Ideal S1024x5632 .f32) (ix2 k l)
def argO (j : Fin 2816) (d : Fin 1024) : EReal := (m ((c : Thread nD τ).loc main_arg2) : Vec Ideal S2816x1024 .f32) (ix2 j d)
def argG (d : Fin 1024) : EReal := (m ((c : Thread nD τ).loc main_arg3) : Vec Ideal S1024 .f32) (ix1 d)
def argB (d : Fin 1024) : EReal := (m ((c : Thread nD τ).loc main_arg4) : Vec Ideal S1024 .f32) (ix1 d)

/-! ### The host lines -/

theorem host_x (r : Fin 8192) (k : Fin 1024) : (V1 m ρ c main_v0 : FVec Ideal S8192x1024 .bf16) (ix2 r k) = argX m c r k := by
  refine congrFun (f := (V1 m ρ c main_v0 : FVec Ideal S8192x1024 .bf16)) (g := (m ((c : Thread nD τ).loc main_arg0) : FVec Ideal S8192x1024 .f32)) ?_ _
  show StableHlo.after hostOps0 (W0 m ρ c) (Proc.devRef .tc main_v0) = _
  simp only [hostOps0]
  after_results_simp
  all_goals rfl

theorem host_w (k : Fin 1024) (l : Fin 5632) : (V1 m ρ c main_v1 : FVec Ideal S1024x5632 .bf16) (ix2 k l) = argW m c k l := by
  refine congrFun (f := (V1 m ρ c main_v1 : FVec Ideal S1024x5632 .bf16)) (g := (m ((c : Thread nD τ).loc main_arg1) : FVec Ideal S1024x5632 .f32)) ?_ _
  show StableHlo.after hostOps0 (W0 m ρ c) (Proc.devRef .tc main_v1) = _
  simp only [hostOps0]
  after_results_simp
  all_goals rfl

theorem host_o : (V1 m ρ c main_v3 : FVec Ideal S8x352x1024 .bf16)
    = shapeCast S8x352x1024 (truncf .bf16 (m ((c : Thread nD τ).loc main_arg2) : FVec Ideal S2816x1024 .f32) bitsLt_bf16_f32 : FVec Ideal S2816x1024 .bf16)
        shapeCasts_S2816x1024_S8x352x1024 := by
  show StableHlo.after hostOps0 (W0 m ρ c) (Proc.devRef .tc main_v3) = _
  simp only [hostOps0]
  after_results_simp
  all_goals rfl

theorem host_g : (V3 m ρ c main_v5 : FVec Ideal S1x1024 .f32)
    = shapeCast S1x1024 (m ((c : Thread nD τ).loc main_arg3) : FVec Ideal S1024 .f32) shapeCasts_S1024_S1x1024 := by
  refine Eq.trans ?_ (congrArg (fun v : FVec Ideal S1024 .f32 => shapeCast S1x1024 v shapeCasts_S1024_S1x1024) (W2_args m ρ c main_arg3 (by decide)))
  show StableHlo.after hostOps1 (W2 m ρ c) (Proc.devRef .tc main_v5) = _
  simp only [hostOps1]
  after_results_simp
  all_goals rfl

theorem host_b : (V3 m ρ c main_v6 : FVec Ideal S1x1024 .f32)
    = shapeCast S1x1024 (m ((c : Thread nD τ).loc main_arg4) : FVec Ideal S1024 .f32) shapeCasts_S1024_S1x1024 := by
  refine Eq.trans ?_ (congrArg (fun v : FVec Ideal S1024 .f32 => shapeCast S1x1024 v shapeCasts_S1024_S1x1024) (W2_args m ρ c main_arg4 (by decide)))
  show StableHlo.after hostOps1 (W2 m ρ c) (Proc.devRef .tc main_v6) = _
  simp only [hostOps1]
  after_results_simp
  all_goals rfl

theorem row_of (v : FVec Ideal S1024 .f32) (d : Fin 1024) : shapeCast S1x1024 v shapeCasts_S1024_S1x1024 (ix2 0 d) = v (ix1 d) := by
  pointwise

theorem read_o (j : Fin 2816) (d : Fin 1024) :
    whole (V3 m ρ c main_v3 : Vec Ideal S8x352x1024 .bf16) j d = argO m c j d := by
  refine (congrFun ((W3_of m ρ c main_v3 (by decide)).trans ((W2_of m ρ c main_v3 (by decide)).trans (host_o m ρ c))) _).trans ?_
  unfold argO
  generalize (m ((c : Thread nD τ).loc main_arg2) : FVec Ideal S2816x1024 .f32) = o
  pointwise

/-! ### The calls -/

theorem read_h (r : Fin 8192) (j : Fin 2816) :
    (V3 m ρ c main_v4_1 : Vec Ideal S8192x2816 .bf16) (ix2 r j) = hiddenRow (argX m c) (argW m c) r j :=
  (congrFun ((W3_of m ρ c main_v4_1 (by decide)).trans (W2_arr m ρ c 4)) _).trans
    (arr0_4 (V1 m ρ) c (host_x m ρ c) (host_w m ρ c) _ r j rfl rfl)

theorem read_x (r : Fin 8192) (d : Fin 1024) : (V3 m ρ c main_arg0 : Vec Ideal S8192x1024 .f32) (ix2 r d) = argX m c r d :=
  congrFun (W3_args m ρ c main_arg0 (by decide)) _

/-- The half step's rows. -/
theorem result0 (r : Fin 8192) (d : Fin 1024) : (W4 m ρ c (Proc.devRef .tc main_v7_0) : Vec Ideal S8192x1024 .f32) (ix2 r d)
    = step (argX m c) (argO m c) (hiddenRow (argX m c) (argW m c)) r d :=
  (congrFun (W4_arr m ρ c 5) _).trans (arr1_5 (V3 m ρ) c (read_x m ρ c) (read_h m ρ c) (read_o m ρ c) _ r d rfl rfl)

/-- These normalised, and the same once more in the narrower type. -/
theorem result1 (r : Fin 8192) (d : Fin 1024) : (W4 m ρ c (Proc.devRef .tc main_v7_1) : Vec Ideal S8192x1024 .f32) (ix2 r d)
    = normed (argX m c) (argO m c) (hiddenRow (argX m c) (argW m c)) (argG m c) (argB m c) r d :=
  (congrFun (W4_arr m ρ c 6) _).trans (arr1_6 (V3 m ρ) c (read_x m ρ c) (read_h m ρ c) (read_o m ρ c)
    (fun d => (congrFun (host_g m ρ c) _).trans (row_of _ d)) (fun d => (congrFun (host_b m ρ c) _).trans (row_of _ d)) _ r d rfl rfl)

theorem result2 (r : Fin 8192) (d : Fin 1024) : (W4 m ρ c (Proc.devRef .tc main_v7_2) : Vec Ideal S8192x1024 .bf16) (ix2 r d)
    = normed (argX m c) (argO m c) (hiddenRow (argX m c) (argW m c)) (argG m c) (argB m c) r d :=
  (congrFun (W4_arr m ρ c 7) _).trans (arr1_7 (V3 m ρ) c (read_x m ρ c) (read_h m ρ c) (read_o m ρ c)
    (fun d => (congrFun (host_g m ρ c) _).trans (row_of _ d)) (fun d => (congrFun (host_b m ρ c) _).trans (row_of _ d)) _ r d rfl rfl)

end Cert.Kernel4Ideal.Fwd

end
-- ==== Proof.FwdRef.lean ====
/- The forward half step's reference: its three results, entry by entry. -/
module

public import proofs.«01_k».proof.Proof.FwdCells
public import proofs.«01_k».proof.Proof.Gen.Reference4Ideal.Run

@[expose] public section

noncomputable section

namespace Cert.Reference4Ideal.Fwd

open Cert.Reference4Ideal Cert.Reference4Ideal.Gen Cert.Fwd Idealize.ShloMosaic Idealize.ShloMosaic.TcCoe Idealize.SL.Sem Finset

abbrev Tokens := FVec Ideal S8192x1024 .f32
abbrev Rows := FVec Ideal S8192x2816 .f32

def gateOf (x : Tokens) (w : FVec Ideal S1024x5632 .f32) : Rows :=
  extractStridedSlice S8192x2816 ![0, 0] (Host.dotGeneral dot_S8192x1024_S1024x5632_S8192x5632_1_0_0_1_n_n none x w) slices_S8192x5632_S8192x2816_0_0

def valueOf (x : Tokens) (w : FVec Ideal S1024x5632 .f32) : Rows :=
  extractStridedSlice S8192x2816 ![0, 2816] (Host.dotGeneral dot_S8192x1024_S1024x5632_S8192x5632_1_0_0_1_n_n none x w) slices_S8192x5632_S8192x2816_0_2816

def one : Rows := broadcastInDim S8192x2816 ![] bcast_S_S8192x2816 (constant S_ .f32 0x3F800000#32)

def hiddenOf (g u : Rows) : Rows := mulf (mulf g (Host.divf one (addf one (Host.exp (Host.negf g))))) u

def stepOf (x : Tokens) (h : Rows) (o : FVec Ideal S2816x1024 .f32) : Tokens :=
  addf (mulf (broadcastInDim S8192x1024 ![] bcast_S_S8192x1024 (constant S_ .f32 0x3FD744FD#32)) x)
    (mulf (broadcastInDim S8192x1024 ![] bcast_S_S8192x1024 (constant S_ .f32 0x3F000000#32))
      (Host.dotGeneral dot_S8192x2816_S2816x1024_S8192x1024_1_0_0_1_n_n none h o))

/-- The means of the rows, the rows less their means, and these normalised. -/
def meanOf (z : Tokens) : FVec Ideal S8192x1 .f32 :=
  Host.divf (broadcastInDim S8192x1 ![0] bcast_S8192_S8192x1_0
    (Host.reduceAdd z (constant S_ .f32 0x00000000#32) reducesTo_S8192x1024_S8192_d1 h_S_ : FVec Ideal S8192 .f32))
    (broadcastInDim S8192x1 ![] bcast_S_S8192x1 (constant S_ .f32 0x44800000#32))
def centred (z : Tokens) : Tokens := subf z (broadcastInDim S8192x1024 ![0, 1] bcast_S8192x1_S8192x1024_0_1 (meanOf z))
def normOf (z : Tokens) (g b : FVec Ideal S1024 .f32) : Tokens :=
  addf (mulf (mulf (centred z) (broadcastInDim S8192x1024 ![0, 1] bcast_S8192x1_S8192x1024_0_1
      (Host.rsqrt (addf (meanOf (mulf (centred z) (centred z))) (broadcastInDim S8192x1 ![] bcast_S_S8192x1 (constant S_ .f32 0x3727C5AC#32))))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

def result0 (x : Tokens) (w : FVec Ideal S1024x5632 .f32) (o : FVec Ideal S2816x1024 .f32) : Tokens :=
  stepOf x (hiddenOf (gateOf x w) (valueOf x w)) o

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = result0 (m ((c.tc : Thread nD τ).loc main_arg0)) (m ((c.tc : Thread nD τ).loc main_arg1)) (m ((c.tc : Thread nD τ).loc main_arg2))
      ∧ r.2.mem ((c.tc : Thread nD τ).loc main_v32)
          = normOf (result0 (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_v33)
          = (truncf .bf16 (normOf (result0 (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))) bitsLt_bf16_f32 : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference4Ideal.Value.run m ρ

theorem gateOf_apply (x : Tokens) (w : FVec Ideal S1024x5632 .f32) (r : Fin 8192) (j : Fin 2816) :
    gateOf x w (ix2 r j) = ∑ k : Fin 1024, x (ix2 r k) * w (ix2 k ⟨j, by omega⟩) := by
  unfold gateOf
  pointwise

theorem valueOf_apply (x : Tokens) (w : FVec Ideal S1024x5632 .f32) (r : Fin 8192) (j : Fin 2816) :
    valueOf x w (ix2 r j) = ∑ k : Fin 1024, x (ix2 r k) * w (ix2 k ⟨2816 + j, by omega⟩) := by
  unfold valueOf
  pointwise

theorem hiddenOf_apply (g u : Rows) (r : Fin 8192) (j : Fin 2816) : hiddenOf g u (ix2 r j) = act (g (ix2 r j)) (u (ix2 r j)) := by
  unfold hiddenOf one
  pointwise
  rfl

theorem stepOf_apply (x : Tokens) (h : Rows) (o : FVec Ideal S2816x1024 .f32) (r : Fin 8192) (d : Fin 1024) :
    stepOf x h o (ix2 r d) = residual (x (ix2 r d)) (∑ j : Fin 2816, h (ix2 r j) * o (ix2 j d)) := by
  unfold stepOf
  pointwise
  rfl

theorem meanOf_apply (z : Tokens) (r : Fin 8192) : meanOf z (ix2 r 0) = mean fun k => z (ix2 r k) := by
  unfold meanOf
  pointwise
  rfl

theorem centred_apply (z : Tokens) (r : Fin 8192) (d : Fin 1024) : centred z (ix2 r d) = z (ix2 r d) - mean fun k => z (ix2 r k) := by
  rw [← meanOf_apply]
  unfold centred
  generalize meanOf z = a
  pointwise

theorem normOf_apply (z : Tokens) (g b : FVec Ideal S1024 .f32) (r : Fin 8192) (d : Fin 1024) :
    normOf z g b (ix2 r d) = norm (fun k => z (ix2 r k)) (g (ix1 d)) (b (ix1 d)) d := by
  have h := meanOf_apply (mulf (centred z) (centred z)) r
  have e : (fun k => mulf (centred z) (centred z) (ix2 r k))
      = fun k => (z (ix2 r k) - mean fun k => z (ix2 r k)) * (z (ix2 r k) - mean fun k => z (ix2 r k)) := funext fun k => by
    rw [← centred_apply]; rfl
  rw [e] at h
  have h' := centred_apply z r d
  unfold normOf
  generalize meanOf (mulf (centred z) (centred z)) = a at h ⊢
  generalize centred z = c at h' ⊢
  pointwise
  rw [h, h']
  rfl

theorem result0_apply (x : Tokens) (w : FVec Ideal S1024x5632 .f32) (o : FVec Ideal S2816x1024 .f32) (r : Fin 8192) (d : Fin 1024) :
    result0 x w o (ix2 r d) = step (fun r k => x (ix2 r k)) (fun j d => o (ix2 j d))
      (hiddenRow (fun r k => x (ix2 r k)) (fun k l => w (ix2 k l))) r d := by
  unfold result0
  rw [stepOf_apply]
  refine congrArg (residual _) (sum_congr rfl fun j _ => ?_)
  rw [hiddenOf_apply, gateOf_apply, valueOf_apply]
  rfl

end Cert.Reference4Ideal.Fwd

end
-- ==== Proof.FwdAlgebraic.lean ====
/- The forward half step's value claim: from equal arguments its two calls and the reference end with the same three results. -/
module

public import proofs.«01_k».proof.Defs
public import proofs.«01_k».proof.Proof.FwdRun
public import proofs.«01_k».proof.Proof.FwdChain
public import proofs.«01_k».proof.Proof.FwdRef

@[expose] public section

noncomputable section

namespace Cert.Proof.Forward

open Idealize.ShloMosaic Idealize.ShloMosaic.TcCoe Idealize.SL.Sem Cert.Kernel4Ideal Cert.Kernel4Ideal.Fwd

/-- The calls' results are the reference's. -/
theorem results (m : (ℓ : Loc nD τ sig) → Buf (Elt Ideal) ℓ) (ρ : Dev nD → PrngReg) (c : Dev nD) (x : FVec Ideal S8192x1024 .f32)
    (w : FVec Ideal S1024x5632 .f32) (o : FVec Ideal S2816x1024 .f32) (g b : FVec Ideal S1024 .f32)
    (hx : m ((c : Thread nD τ).loc main_arg0) = x) (hw : m ((c : Thread nD τ).loc main_arg1) = w)
    (ho : m ((c : Thread nD τ).loc main_arg2) = o) (hg : m ((c : Thread nD τ).loc main_arg3) = g)
    (hb : m ((c : Thread nD τ).loc main_arg4) = b) :
    (Gen.W4 m ρ c (Proc.devRef .tc main_v7_0) : FVec Ideal S8192x1024 .f32) = Cert.Reference4Ideal.Fwd.result0 x w o
      ∧ (Gen.W4 m ρ c (Proc.devRef .tc main_v7_1) : FVec Ideal S8192x1024 .f32)
          = Cert.Reference4Ideal.Fwd.normOf (Cert.Reference4Ideal.Fwd.result0 x w o) g b
      ∧ (Gen.W4 m ρ c (Proc.devRef .tc main_v7_2) : FVec Ideal S8192x1024 .bf16)
          = Cert.Reference4Ideal.Fwd.normOf (Cert.Reference4Ideal.Fwd.result0 x w o) g b := by
  subst hx hw ho hg hb
  have n : ∀ (r : Fin 8192) (d : Fin 1024), Cert.Reference4Ideal.Fwd.normOf (Cert.Reference4Ideal.Fwd.result0 (m ((c : Thread nD τ).loc main_arg0))
      (m ((c : Thread nD τ).loc main_arg1)) (m ((c : Thread nD τ).loc main_arg2))) (m ((c : Thread nD τ).loc main_arg3))
      (m ((c : Thread nD τ).loc main_arg4)) (ix2 r d)
        = Cert.Fwd.normed (argX m c) (argO m c) (Cert.Fwd.hiddenRow (argX m c) (argW m c)) (argG m c) (argB m c) r d := fun r d => by
    rw [Cert.Reference4Ideal.Fwd.normOf_apply]
    refine congrArg (Cert.Fwd.norm · _ _ d) (funext fun k => ?_)
    exact Cert.Reference4Ideal.Fwd.result0_apply _ _ _ r k
  refine ⟨funext fun i => ?_, funext fun i => ?_, funext fun i => ?_⟩
  · rw [eq_ix2 i]
    exact (result0 m ρ c _ _).trans (Cert.Reference4Ideal.Fwd.result0_apply _ _ _ _ _).symm
  · rw [eq_ix2 i]
    exact (result1 m ρ c _ _).trans (n _ _).symm
  · rw [eq_ix2 i]
    exact (result2 m ρ c _ _).trans (n _ _).symm

/-- Both programs run, and end with equal results. -/
theorem algebraic : Cert.algebraic_Kernel4Ideal_Reference4Ideal := by
  intro m ρ m' ρ' _ hm
  have res := fun c : Dev nD => results m ρ c _ _ _ _ _ (hm c).1.symm (hm c).2.1.symm (hm c).2.2.1.symm (hm c).2.2.2.1.symm (hm c).2.2.2.2.symm
  refine ⟨fun c => Gen.W4 m ρ c (Proc.devRef .tc main_v7_0), fun c => Gen.W4 m ρ c (Proc.devRef .tc main_v7_1),
    fun c => Gen.W4 m ρ c (Proc.devRef .tc main_v7_2), run m ρ, ?_⟩
  exact (θ_run Cert.Reference4Ideal.defs _ _).mono
    (fun r h c => ⟨(h c).1.trans (res c).1.symm, (h c).2.1.trans (res c).2.1.symm, (h c).2.2.1.trans (res c).2.2.symm, (h c).2.2.2⟩)
    (Cert.Reference4Ideal.Fwd.run m' ρ')

end Cert.Proof.Forward

end
-- ==== Proof.Proj.lean ====
/- The attention's input projection forward: each grid point multiplies 512 rows, and the sixteen blocks are the whole product. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel5Ideal.Proj

open Cert.Kernel5Ideal Cert.Kernel5Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- What a grid point leaves: the product of its rows with the weights. -/
theorem tile_apply (x : Vec Ideal S512x1024 .bf16) (w : Vec Ideal S1024x1536 .bf16) (r : Fin 512) (l : Fin 1536) :
    out0_2 x w (ix2 r l) = ∑ k : Fin 1024, x (ix2 r k) * w (ix2 k l) := by
  unfold out0_2
  rw [View.canon_unit_zero (S := S512x1536) zero2, View.ld_unit_zero (S := S512x1024) zero2, View.ld_unit_zero (S := S1024x1536) zero2]
  unfold k0_pay1
  pointwise

variable (m : (ℓ : Loc nD τ sig) → Buf (Elt Ideal) ℓ) (c : Dev nD)

/-- The two arguments. -/
abbrev argX : Vec Ideal S8192x1024 .f32 := m ((c : Thread nD τ).loc main_arg0)
abbrev argW : Vec Ideal S1024x1536 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_w : (V m c main_v1 : Vec Ideal S1024x1536 .bf16) = argW m c := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 := by revert t; decide +kernel
theorem at2 (t : Fin cfg0.N) : win0_2.index t 0 = t.val ∧ win0_2.index t 1 = 0 := by revert t; decide +kernel

theorem rows_apply (t : Fin cfg0.N) (r : Fin 512) (k : Fin 1024) (q : Fin 8192) (hq : 512 * t.val + r.val = q.val) :
    (iblk m c 0 t : Vec Ideal S512x1024 .bf16) (ix2 r k) = argX m c (ix2 q k) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 512 + 1 * r.val = q.val; omega
  | ⟨1, _⟩ => show win0_0.index t 1 * 1024 + 1 * k.val = k.val; omega

theorem weights_apply (t : Fin cfg0.N) (k : Fin 1024) (l : Fin 1536) :
    (iblk m c 1 t : Vec Ideal S1024x1536 .bf16) (ix2 k l) = argW m c (ix2 k l) := by
  unfold iblk
  rw [View.read_apply]
  refine Eq.trans ?_ (congrFun (host_w m c) _)
  show V m c main_v1 _ = _
  congr 1
  funext a
  apply Fin.ext
  have h := at1 t
  match a with
  | ⟨0, _⟩ => show win0_1.index t 0 * 1024 + 1 * k.val = k.val; omega
  | ⟨1, _⟩ => show win0_1.index t 1 * 1536 + 1 * l.val = l.val; omega

/-- An entry of the product. -/
def entry (r : Fin 8192) (l : Fin 1536) : EReal := ∑ k : Fin 1024, argX m c (ix2 r k) * argW m c (ix2 k l)

/-- The array the call leaves. -/
theorem array (i : S8192x1536.Idx) : ∀ (r : Fin 8192) (l : Fin 1536), (i 0).val = r.val → (i 1).val = l.val →
    ((dats m 0 c).arrAt 2 cfg0.N : Vec Ideal S8192x1536 .f32) i = entry m c r l := by
  refine (dats m 0 c).arrAt_forall_of_covers 2
    (fun i v => ∀ (r : Fin 8192) (l : Fin 1536), (i 0).val = r.val → (i 1).val = l.val → v = entry m c r l)
    (by decide +kernel) (fun t hf y r l hr hl => ?_) i
  rw [after0_2]
  have h2 := at2 t
  have hr : win0_2.index t 0 * 512 + 1 * (y 0).val = r.val := hr
  have hl : win0_2.index t 1 * 1536 + 1 * (y 1).val = l.val := hl
  have h : out0_2 (iblk m c 0 t) (iblk m c 1 t) (ix2 ⟨(y 0).val, (y 0).isLt⟩ l) = entry m c r l :=
    (tile_apply _ _ _ _).trans (sum_congr rfl fun k _ => by
      rw [rows_apply m c t _ k r (by dsimp only; omega), weights_apply m c t k l])
  have e : y = (ix2 (⟨(y 0).val, (y 0).isLt⟩ : Fin 512) l : S512x1536.Idx) := by
    funext a
    apply Fin.ext
    match a with
    | ⟨0, _⟩ => rfl
    | ⟨1, _⟩ => show (y 1).val = l.val; omega
  generalize out0_2 (iblk m c 0 t) (iblk m c 1 t) = f at h ⊢
  exact Eq.trans (congrArg f e) h

end Cert.Kernel5Ideal.Proj

namespace Cert.Proof.Project

open Cert.Reference5Ideal Cert.Reference5Ideal.Gen Idealize.ShloMosaic Idealize.ShloMosaic.TcCoe Idealize.SL.Sem Finset

def product (x : FVec Ideal S8192x1024 .f32) (w : FVec Ideal S1024x1536 .f32) : FVec Ideal S8192x1536 .f32 :=
  Host.dotGeneral dot_S8192x1024_S1024x1536_S8192x1536_1_0_0_1_n_n none x w

theorem product_apply (x : FVec Ideal S8192x1024 .f32) (w : FVec Ideal S1024x1536 .f32) (r : Fin 8192) (l : Fin 1536) :
    product x w (ix2 r l) = ∑ k : Fin 1024, x (ix2 r k) * w (ix2 k l) := by
  unfold product
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference5Ideal.Value.run m ρ

/-- The kernel's blocks are the reference's product. -/
theorem rows (m : (ℓ : Loc Cert.Kernel5Ideal.nD Cert.Kernel5Ideal.τ Cert.Kernel5Ideal.sig) → Buf (Elt Ideal) ℓ) (c : Dev Cert.Kernel5Ideal.nD)
    (x : FVec Ideal S8192x1024 .f32) (w : FVec Ideal S1024x1536 .f32)
    (hx : m ((c : Thread Cert.Kernel5Ideal.nD Cert.Kernel5Ideal.τ).loc Cert.Kernel5Ideal.main_arg0) = x)
    (hw : m ((c : Thread Cert.Kernel5Ideal.nD Cert.Kernel5Ideal.τ).loc Cert.Kernel5Ideal.main_arg1) = w) :
    ((Cert.Kernel5Ideal.Gen.dats m 0 c).arrAt 2 Cert.Kernel5Ideal.cfg0.N : FVec Ideal S8192x1536 .f32) = product x w := by
  subst hx hw
  funext i
  rw [eq_ix2 i]
  exact (Cert.Kernel5Ideal.Proj.array m c _ _ _ rfl rfl).trans (product_apply _ _ _ _).symm

/-- Both programs run, and end with the same product. -/
theorem algebraic : Cert.algebraic_Kernel5Ideal_Reference5Ideal := by
  intro m ρ m' ρ' _ hm
  have res := fun c : Dev Cert.Kernel5Ideal.nD => rows m c _ _ (hm c).1.symm (hm c).2.symm
  refine ⟨fun c => (Cert.Kernel5Ideal.Gen.dats m 0 c).arrAt 2 Cert.Kernel5Ideal.cfg0.N, Cert.Kernel5Ideal.Value.run_blocks m ρ, ?_⟩
  exact (θ_run Cert.Reference5Ideal.defs _ _).mono
    (fun r h c => ⟨(h c).1.trans (res c).symm, (h c).2⟩) (reference m' ρ')

end Cert.Proof.Project

end
-- ==== Proof.ProjBack.lean ====
/- The gradient of the rows that the attention's block takes: each grid point multiplies 512 rows with the transposed weights and adds the
   residual's gradient, and the sixteen blocks are the whole. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel6Ideal.Proj

open Cert.Kernel6Ideal Cert.Kernel6Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- What a grid point leaves: the product of its rows with the transposed weights, and the residual's gradient. -/
theorem tile_apply (d : Vec Ideal S512x1536 .bf16) (w : Vec Ideal S1024x1536 .bf16) (z : Vec Ideal S512x1024 .f32) (r : Fin 512) (l : Fin 1024) :
    out0_3 d w z (ix2 r l) = ∑ k : Fin 1536, d (ix2 r k) * w (ix2 l k) + Ideal.ofBits .f32 0x3FD744FD#32 * z (ix2 r l) := by
  unfold out0_3
  rw [View.canon_unit_zero (S := S512x1024) zero2, View.ld_unit_zero (S := S512x1536) zero2, View.ld_unit_zero (S := S1024x1536) zero2,
    View.ld_unit_zero (S := S512x1024) zero2]
  unfold k0_pay1
  pointwise

variable (m : (ℓ : Loc nD τ sig) → Buf (Elt Ideal) ℓ) (c : Dev nD)

/-- The three arguments. -/
abbrev argD : Vec Ideal S8192x1536 .f32 := m ((c : Thread nD τ).loc main_arg0)
abbrev argW : Vec Ideal S1024x1536 .f32 := m ((c : Thread nD τ).loc main_arg1)
abbrev argZ : Vec Ideal S8192x1024 .f32 := m ((c : Thread nD τ).loc main_arg2)

theorem host_d : (V m c main_v0 : Vec Ideal S8192x1536 .bf16) = argD m c := by
  show StableHlo.after hostOps0 (fun b => m (c, b)) (Proc.devRef .tc main_v0) = _
  simp only [hostOps0]
  after_results_simp
  all_goals rfl

theorem host_w : (V m c main_v1 : Vec Ideal S1024x1536 .bf16) = argW m c := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 := by revert t; decide +kernel
theorem at2 (t : Fin cfg0.N) : win0_2.index t 0 = t.val ∧ win0_2.index t 1 = 0 := by revert t; decide +kernel
theorem at3 (t : Fin cfg0.N) : win0_3.index t 0 = t.val ∧ win0_3.index t 1 = 0 := by revert t; decide +kernel

theorem rows_apply (t : Fin cfg0.N) (r : Fin 512) (k : Fin 1536) (q : Fin 8192) (hq : 512 * t.val + r.val = q.val) :
    (iblk m c 0 t : Vec Ideal S512x1536 .bf16) (ix2 r k) = argD m c (ix2 q k) := by
  unfold iblk
  rw [View.read_apply]
  refine Eq.trans ?_ (congrFun (host_d m c) _)
  show V m c main_v0 _ = _
  congr 1
  funext a
  apply Fin.ext
  have h := at0 t
  match a with
  | ⟨0, _⟩ => show win0_0.index t 0 * 512 + 1 * r.val = q.val; omega
  | ⟨1, _⟩ => show win0_0.index t 1 * 1536 + 1 * k.val = k.val; omega

theorem weights_apply (t : Fin cfg0.N) (l : Fin 1024) (k : Fin 1536) :
    (iblk m c 1 t : Vec Ideal S1024x1536 .bf16) (ix2 l k) = argW m c (ix2 l k) := by
  unfold iblk
  rw [View.read_apply]
  refine Eq.trans ?_ (congrFun (host_w m c) _)
  show V m c main_v1 _ = _
  congr 1
  funext a
  apply Fin.ext
  have h := at1 t
  match a with
  | ⟨0, _⟩ => show win0_1.index t 0 * 1024 + 1 * l.val = l.val; omega
  | ⟨1, _⟩ => show win0_1.index t 1 * 1536 + 1 * k.val = k.val; omega

theorem residual_apply (t : Fin cfg0.N) (r : Fin 512) (l : Fin 1024) (q : Fin 8192) (hq : 512 * t.val + r.val = q.val) :
    (iblk m c 2 t : Vec Ideal S512x1024 .f32) (ix2 r l) = argZ m c (ix2 q l) := by
  unfold iblk
  rw [View.read_apply]
  refine Eq.trans ?_ (congrFun (V_main_arg2 m c) _)
  show V m c main_arg2 _ = _
  congr 1
  funext a
  apply Fin.ext
  have h := at2 t
  match a with
  | ⟨0, _⟩ => show win0_2.index t 0 * 512 + 1 * r.val = q.val; omega
  | ⟨1, _⟩ => show win0_2.index t 1 * 1024 + 1 * l.val = l.val; omega

/-- An entry of the gradient. -/
def entry (r : Fin 8192) (l : Fin 1024) : EReal :=
  ∑ k : Fin 1536, argD m c (ix2 r k) * argW m c (ix2 l k) + Ideal.ofBits .f32 0x3FD744FD#32 * argZ m c (ix2 r l)

/-- The same with the residual first, as the reference has it. -/
theorem entry_eq (r : Fin 8192) (l : Fin 1024) :
    entry m c r l = Ideal.ofBits .f32 0x3FD744FD#32 * argZ m c (ix2 r l) + ∑ k : Fin 1536, argD m c (ix2 r k) * argW m c (ix2 l k) :=
  add_comm _ _

/-- The array the call leaves. -/
theorem array (i : S8192x1024.Idx) : ∀ (r : Fin 8192) (l : Fin 1024), (i 0).val = r.val → (i 1).val = l.val →
    ((dats m 0 c).arrAt 3 cfg0.N : Vec Ideal S8192x1024 .f32) i = entry m c r l := by
  refine (dats m 0 c).arrAt_forall_of_covers 3
    (fun i v => ∀ (r : Fin 8192) (l : Fin 1024), (i 0).val = r.val → (i 1).val = l.val → v = entry m c r l)
    (by decide +kernel) (fun t hf y r l hr hl => ?_) i
  rw [after0_3]
  have h3 := at3 t
  have hr : win0_3.index t 0 * 512 + 1 * (y 0).val = r.val := hr
  have hl : win0_3.index t 1 * 1024 + 1 * (y 1).val = l.val := hl
  have h : out0_3 (iblk m c 0 t) (iblk m c 1 t) (iblk m c 2 t) (ix2 ⟨(y 0).val, (y 0).isLt⟩ l) = entry m c r l :=
    (tile_apply _ _ _ _ _).trans (congrArg₂ (· + ·) (sum_congr rfl fun k _ => by
      rw [rows_apply m c t _ k r (by dsimp only; omega), weights_apply m c t l k])
      (by rw [residual_apply m c t _ l r (by dsimp only; omega)]))
  have e : y = (ix2 (⟨(y 0).val, (y 0).isLt⟩ : Fin 512) l : S512x1024.Idx) := by
    funext a
    apply Fin.ext
    match a with
    | ⟨0, _⟩ => rfl
    | ⟨1, _⟩ => show (y 1).val = l.val; omega
  generalize out0_3 (iblk m c 0 t) (iblk m c 1 t) (iblk m c 2 t) = f at h ⊢
  exact Eq.trans (congrArg f e) h

end Cert.Kernel6Ideal.Proj

namespace Cert.Proof.ProjectBack

open Cert.Reference6Ideal Cert.Reference6Ideal.Gen Idealize.ShloMosaic Idealize.ShloMosaic.TcCoe Idealize.SL.Sem Finset

def gradient (d : FVec Ideal S8192x1536 .f32) (w : FVec Ideal S1024x1536 .f32) (z : FVec Ideal S8192x1024 .f32) : FVec Ideal S8192x1024 .f32 :=
  addf (mulf (broadcastInDim S8192x1024 ![] bcast_S_S8192x1024 (constant S_ .f32 0x3FD744FD#32)) z)
    (Host.dotGeneral dot_S8192x1536_S1024x1536_S8192x1024_1_1_0_0_n_n none d w)

theorem gradient_apply (d : FVec Ideal S8192x1536 .f32) (w : FVec Ideal S1024x1536 .f32) (z : FVec Ideal S8192x1024 .f32) (r : Fin 8192)
    (l : Fin 1024) : gradient d w z (ix2 r l)
      = Ideal.ofBits .f32 0x3FD744FD#32 * z (ix2 r l) + ∑ k : Fin 1536, d (ix2 r k) * w (ix2 l k) := by
  unfold gradient
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
          = gradient (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference6Ideal.Value.run m ρ

/-- The kernel's blocks are the reference's gradient. -/
theorem rows (m : (ℓ : Loc Cert.Kernel6Ideal.nD Cert.Kernel6Ideal.τ Cert.Kernel6Ideal.sig) → Buf (Elt Ideal) ℓ) (c : Dev Cert.Kernel6Ideal.nD)
    (d : FVec Ideal S8192x1536 .f32) (w : FVec Ideal S1024x1536 .f32) (z : FVec Ideal S8192x1024 .f32)
    (hd : m ((c : Thread Cert.Kernel6Ideal.nD Cert.Kernel6Ideal.τ).loc Cert.Kernel6Ideal.main_arg0) = d)
    (hw : m ((c : Thread Cert.Kernel6Ideal.nD Cert.Kernel6Ideal.τ).loc Cert.Kernel6Ideal.main_arg1) = w)
    (hz : m ((c : Thread Cert.Kernel6Ideal.nD Cert.Kernel6Ideal.τ).loc Cert.Kernel6Ideal.main_arg2) = z) :
    ((Cert.Kernel6Ideal.Gen.dats m 0 c).arrAt 3 Cert.Kernel6Ideal.cfg0.N : FVec Ideal S8192x1024 .f32) = gradient d w z := by
  subst hd hw hz
  funext i
  rw [eq_ix2 i]
  exact (Cert.Kernel6Ideal.Proj.array m c _ _ _ rfl rfl).trans ((Cert.Kernel6Ideal.Proj.entry_eq m c _ _).trans (gradient_apply _ _ _ _ _).symm)

/-- Both programs run, and end with the same gradient. -/
theorem algebraic : Cert.algebraic_Kernel6Ideal_Reference6Ideal := by
  intro m ρ m' ρ' _ hm
  have res := fun c : Dev Cert.Kernel6Ideal.nD => rows m c _ _ _ (hm c).1.symm (hm c).2.1.symm (hm c).2.2.symm
  refine ⟨fun c => (Cert.Kernel6Ideal.Gen.dats m 0 c).arrAt 3 Cert.Kernel6Ideal.cfg0.N, Cert.Kernel6Ideal.Value.run_blocks m ρ, ?_⟩
  exact (θ_run Cert.Reference6Ideal.defs _ _).mono
    (fun r h c => ⟨(h c).1.trans (res c).symm, (h c).2⟩) (reference m' ρ')

end Cert.Proof.ProjectBack

end
-- ==== Proof.MixOut.lean ====
/- The output product of the attention and of the recurrent block with the layer norm that follows it: each grid point multiplies 512
   rows with the weights, adds the scaled residual and normalises. -/
module

public import proofs.«01_k».proof.Defs
public import proofs.«01_k».proof.Proof.FwdRef
public import proofs.«01_k».proof.Proof.Gen.Kernel7Ideal.Value
public import proofs.«01_k».proof.Proof.Gen.Reference7Ideal.Run

@[expose] public section

noncomputable section

namespace Cert.Kernel7Ideal.Mix

open Cert.Kernel7Ideal Cert.Kernel7Ideal.Gen Cert.Fwd Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The eight shards of the weights, by row of the whole. -/
def whole (w : Vec Ideal S8x128x1024 .bf16) (j d : Fin 1024) : EReal := w (ix3 ⟨j / 128, by omega⟩ ⟨j % 128, by omega⟩ d)

/-- The scaled residual and what the product adds to it. -/
def sum (x s : EReal) : EReal := Ideal.ofBits .f32 0x3FD744FD#32 * x + s

theorem sum_apply (x : Vec Ideal S512x1024 .f32) (a : Vec Ideal S512x1024 .bf16) (w : Vec Ideal S8x128x1024 .bf16) (r : Fin 512)
    (d : Fin 1024) : k0_pay2 (F := Ideal) x a w (ix2 r d) = sum (x (ix2 r d)) (∑ j : Fin 1024, a (ix2 r j) * whole w j d) := by
  have h : k0_pay2 (F := Ideal) x a w (ix2 r d) = Ideal.ofBits .f32 0x3FD744FD#32 * x (ix2 r d)
      + Ideal.ofBits .f32 0x3F800000#32 * ∑ j : Fin 1024, a (ix2 r j) * whole w j d := by
    unfold k0_pay2
    pointwise
    rfl
  rw [h, Ideal.ofBits_one_f32, one_mul]
  rfl

theorem norm_apply (x : Vec Ideal S512x1024 .f32) (a : Vec Ideal S512x1024 .bf16) (w : Vec Ideal S8x128x1024 .bf16)
    (g b : Vec Ideal S1x1024 .f32) (r : Fin 512) (d : Fin 1024) :
    k0_pay3 (F := Ideal) x a w g b (ix2 r d) = norm (fun k => k0_pay2 (F := Ideal) x a w (ix2 r k)) (g (ix2 0 d)) (b (ix2 0 d)) d := by
  unfold k0_pay3
  generalize k0_pay2 (F := Ideal) x a w = z
  pointwise
  rfl

section

variable (a : Vec Ideal S512x1024 .bf16) (w : Vec Ideal S8x128x1024 .bf16) (x : Vec Ideal S512x1024 .f32) (g b : Vec Ideal S1x1024 .f32)

theorem out0_5_eq : out0_5 a w x g b = k0_pay2 (F := Ideal) x a w := by
  unfold out0_5
  rw [View.canon_unit_zero (S := S512x1024) zero2, View.ld_unit_zero (S := S512x1024) zero2, View.ld_unit_zero (S := S512x1024) zero2,
    View.ld_unit_zero (S := S8x128x1024) zero3]

theorem out0_6_eq : out0_6 a w x g b = k0_pay3 (F := Ideal) x a w g b := by
  unfold out0_6 k0_pay4
  rw [View.canon_unit_zero (S := S512x1024) zero2, View.ld_unit_zero (S := S512x1024) zero2, View.ld_unit_zero (S := S512x1024) zero2,
    View.ld_unit_zero (S := S8x128x1024) zero3, View.ld_unit_zero (S := S1x1024) zero2, View.ld_unit_zero (S := S1x1024) zero2]

theorem out0_7_eq : out0_7 a w x g b = k0_pay1 (F := Ideal) (k0_pay3 (F := Ideal) x a w g b) := by
  unfold out0_7 k0_pay4
  rw [View.canon_unit_zero (S := S512x1024) zero2, View.ld_unit_zero (S := S512x1024) zero2, View.ld_unit_zero (S := S512x1024) zero2,
    View.ld_unit_zero (S := S8x128x1024) zero3, View.ld_unit_zero (S := S1x1024) zero2, View.ld_unit_zero (S := S1x1024) zero2]

end

variable (m : (ℓ : Loc nD τ sig) → Buf (Elt Ideal) ℓ) (c : Dev nD)

/-- The five arguments. -/
abbrev argA : Vec Ideal S8192x1024 .f32 := m ((c : Thread nD τ).loc main_arg0)
abbrev argW : Vec Ideal S1024x1024 .f32 := m ((c : Thread nD τ).loc main_arg1)
abbrev argX : Vec Ideal S8192x1024 .f32 := m ((c : Thread nD τ).loc main_arg2)
abbrev argG : Vec Ideal S1024 .f32 := m ((c : Thread nD τ).loc main_arg3)
abbrev argB : Vec Ideal S1024 .f32 := m ((c : Thread nD τ).loc main_arg4)

theorem host_a : (V m c main_v2 : Vec Ideal S8192x1024 .bf16) = argA m c := by
  show StableHlo.after hostOps0 (fun b => m (c, b)) (Proc.devRef .tc main_v2) = _
  simp only [hostOps0]
  after_results_simp
  all_goals rfl

theorem host_w : (V m c main_v1 : FVec Ideal S8x128x1024 .bf16)
    = shapeCast S8x128x1024 (truncf .bf16 (argW m c : FVec Ideal S1024x1024 .f32) bitsLt_bf16_f32 : FVec Ideal S1024x1024 .bf16)
        shapeCasts_S1024x1024_S8x128x1024 := by
  show StableHlo.after hostOps0 (fun b => m (c, b)) (Proc.devRef .tc main_v1) = _
  simp only [hostOps0]
  after_results_simp
  all_goals rfl

theorem host_g : (V m c main_v3 : Vec Ideal S1x1024 .f32) = shapeCast S1x1024 (argG m c) shapeCasts_S1024_S1x1024 := by
  show StableHlo.after hostOps0 (fun b => m (c, b)) (Proc.devRef .tc main_v3) = _
  simp only [hostOps0]
  after_results_simp
  all_goals rfl

theorem host_b : (V m c main_v4 : Vec Ideal S1x1024 .f32) = shapeCast S1x1024 (argB m c) shapeCasts_S1024_S1x1024 := by
  show StableHlo.after hostOps0 (fun b => m (c, b)) (Proc.devRef .tc main_v4) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 ∧ win0_1.index t 2 = 0 := by revert t; decide +kernel
theorem at2 (t : Fin cfg0.N) : win0_2.index t 0 = t.val ∧ win0_2.index t 1 = 0 := by revert t; decide +kernel
theorem at3 (t : Fin cfg0.N) : win0_3.index t 0 = 0 ∧ win0_3.index t 1 = 0 := by revert t; decide +kernel
theorem at4 (t : Fin cfg0.N) : win0_4.index t 0 = 0 ∧ win0_4.index t 1 = 0 := by revert t; decide +kernel
theorem at5 (t : Fin cfg0.N) : win0_5.index t 0 = t.val ∧ win0_5.index t 1 = 0 := by revert t; decide +kernel
theorem at6 (t : Fin cfg0.N) : win0_6.index t 0 = t.val ∧ win0_6.index t 1 = 0 := by revert t; decide +kernel
theorem at7 (t : Fin cfg0.N) : win0_7.index t 0 = t.val ∧ win0_7.index t 1 = 0 := by revert t; decide +kernel

theorem mixed_apply (t : Fin cfg0.N) (r : Fin 512) (k : Fin 1024) (q : Fin 8192) (hq : 512 * t.val + r.val = q.val) :
    (iblk m c 0 t : Vec Ideal S512x1024 .bf16) (ix2 r k) = argA m c (ix2 q k) := by
  unfold iblk
  rw [View.read_apply]
  refine Eq.trans ?_ (congrFun (host_a m c) _)
  show V m c main_v2 _ = _
  congr 1
  funext a
  apply Fin.ext
  have h := at0 t
  match a with
  | ⟨0, _⟩ => show win0_0.index t 0 * 512 + 1 * r.val = q.val; omega
  | ⟨1, _⟩ => show win0_0.index t 1 * 1024 + 1 * k.val = k.val; omega

theorem shards_apply (t : Fin cfg0.N) : (iblk m c 1 t : Vec Ideal S8x128x1024 .bf16) = (V m c main_v1 : Vec Ideal S8x128x1024 .bf16) := by
  funext i
  unfold iblk
  rw [View.read_apply]
  show V m c main_v1 _ = _
  congr 1
  funext a
  apply Fin.ext
  have h := at1 t
  match a with
  | ⟨0, _⟩ => show win0_1.index t 0 * 8 + 1 * (i 0).val = (i 0).val; omega
  | ⟨1, _⟩ => show win0_1.index t 1 * 128 + 1 * (i 1).val = (i 1).val; omega
  | ⟨2, _⟩ => show win0_1.index t 2 * 1024 + 1 * (i 2).val = (i 2).val; omega

theorem weights_apply (t : Fin cfg0.N) (j d : Fin 1024) : whole (iblk m c 1 t) j d = argW m c (ix2 j d) := by
  rw [shards_apply]
  refine (congrFun (host_w m c) _).trans ?_
  generalize argW m c = w
  pointwise

theorem residual_apply (t : Fin cfg0.N) (r : Fin 512) (k : Fin 1024) (q : Fin 8192) (hq : 512 * t.val + r.val = q.val) :
    (iblk m c 2 t : Vec Ideal S512x1024 .f32) (ix2 r k) = argX m c (ix2 q k) := by
  unfold iblk
  rw [View.read_apply]
  refine Eq.trans ?_ (congrFun (V_main_arg2 m c) _)
  show V m c main_arg2 _ = _
  congr 1
  funext a
  apply Fin.ext
  have h := at2 t
  match a with
  | ⟨0, _⟩ => show win0_2.index t 0 * 512 + 1 * r.val = q.val; omega
  | ⟨1, _⟩ => show win0_2.index t 1 * 1024 + 1 * k.val = k.val; omega

theorem scale_apply (t : Fin cfg0.N) (d : Fin 1024) : (iblk m c 3 t : Vec Ideal S1x1024 .f32) (ix2 0 d) = argG m c (ix1 d) := by
  have e : (iblk m c 3 t : Vec Ideal S1x1024 .f32) (ix2 0 d) = (V m c main_v3 : Vec Ideal S1x1024 .f32) (ix2 0 d) := by
    unfold iblk
    rw [View.read_apply]
    show V m c main_v3 _ = _
    congr 1
    funext a
    apply Fin.ext
    have h := at3 t
    match a with
    | ⟨0, _⟩ => show win0_3.index t 0 * 1 + 1 * 0 = 0; omega
    | ⟨1, _⟩ => show win0_3.index t 1 * 1024 + 1 * d.val = d.val; omega
  refine e.trans ((congrFun (host_g m c) _).trans ?_)
  generalize argG m c = w
  pointwise

theorem shift_apply (t : Fin cfg0.N) (d : Fin 1024) : (iblk m c 4 t : Vec Ideal S1x1024 .f32) (ix2 0 d) = argB m c (ix1 d) := by
  have e : (iblk m c 4 t : Vec Ideal S1x1024 .f32) (ix2 0 d) = (V m c main_v4 : Vec Ideal S1x1024 .f32) (ix2 0 d) := by
    unfold iblk
    rw [View.read_apply]
    show V m c main_v4 _ = _
    congr 1
    funext a
    apply Fin.ext
    have h := at4 t
    match a with
    | ⟨0, _⟩ => show win0_4.index t 0 * 1 + 1 * 0 = 0; omega
    | ⟨1, _⟩ => show win0_4.index t 1 * 1024 + 1 * d.val = d.val; omega
  refine e.trans ((congrFun (host_b m c) _).trans ?_)
  generalize argB m c = w
  pointwise

/-- The rows before the norm, and these normalised. -/
def before (r : Fin 8192) (d : Fin 1024) : EReal := sum (argX m c (ix2 r d)) (∑ j : Fin 1024, argA m c (ix2 r j) * argW m c (ix2 j d))
def after (r : Fin 8192) (d : Fin 1024) : EReal := norm (before m c r) (argG m c (ix1 d)) (argB m c (ix1 d)) d

theorem before_apply (t : Fin cfg0.N) (r : Fin 512) (d : Fin 1024) (q : Fin 8192) (hq : 512 * t.val + r.val = q.val) :
    k0_pay2 (F := Ideal) (iblk m c 2 t) (iblk m c 0 t) (iblk m c 1 t) (ix2 r d) = before m c q d := by
  refine (sum_apply (iblk m c 2 t) (iblk m c 0 t) (iblk m c 1 t) r d).trans ?_
  unfold before
  rw [residual_apply m c t r d q hq]
  exact congrArg _ (sum_congr rfl fun j _ => by rw [mixed_apply m c t r j q hq, weights_apply m c t j d])

theorem after_apply (t : Fin cfg0.N) (r : Fin 512) (d : Fin 1024) (q : Fin 8192) (hq : 512 * t.val + r.val = q.val) :
    k0_pay3 (F := Ideal) (iblk m c 2 t) (iblk m c 0 t) (iblk m c 1 t) (iblk m c 3 t) (iblk m c 4 t) (ix2 r d) = after m c q d := by
  refine (norm_apply (iblk m c 2 t) (iblk m c 0 t) (iblk m c 1 t) (iblk m c 3 t) (iblk m c 4 t) r d).trans ?_
  unfold after
  rw [scale_apply, shift_apply]
  exact congrArg (norm · _ _ d) (funext fun k => before_apply m c t r k q hq)

/-- A block that holds rows `512 t` onward of an array holds them at each of its indices. -/
theorem at_index {f : S512x1024.Idx → EReal} {v : Fin 8192 → Fin 1024 → EReal} {t a b : ℕ} (hab : a = t ∧ b = 0)
    (h : ∀ (r : Fin 512) (d : Fin 1024) (q : Fin 8192), 512 * t + r.val = q.val → f (ix2 r d) = v q d) (y : S512x1024.Idx)
    (r : Fin 8192) (d : Fin 1024) (hr : a * 512 + 1 * (y 0).val = r.val) (hd : b * 1024 + 1 * (y 1).val = d.val) : f y = v r d := by
  obtain rfl : d = ⟨(y 1).val, (y 1).isLt⟩ := Fin.ext (by dsimp only; omega)
  exact (congrArg f (eq_ix2 y)).trans (h ⟨(y 0).val, (y 0).isLt⟩ _ r (by dsimp only; omega))

/-- The three arrays the call leaves. -/
theorem array5 (i : S8192x1024.Idx) : ∀ (r : Fin 8192) (d : Fin 1024), (i 0).val = r.val → (i 1).val = d.val →
    ((dats m 0 c).arrAt 5 cfg0.N : Vec Ideal S8192x1024 .f32) i = before m c r d := by
  refine (dats m 0 c).arrAt_forall_of_covers 5
    (fun i v => ∀ (r : Fin 8192) (d : Fin 1024), (i 0).val = r.val → (i 1).val = d.val → v = before m c r d)
    (by decide +kernel) (fun t hf y r d hr hd => ?_) i
  rw [after0_5, out0_5_eq]
  exact at_index (at5 t) (before_apply m c t) y r d hr hd

theorem array6 (i : S8192x1024.Idx) : ∀ (r : Fin 8192) (d : Fin 1024), (i 0).val = r.val → (i 1).val = d.val →
    ((dats m 0 c).arrAt 6 cfg0.N : Vec Ideal S8192x1024 .f32) i = after m c r d := by
  refine (dats m 0 c).arrAt_forall_of_covers 6
    (fun i v => ∀ (r : Fin 8192) (d : Fin 1024), (i 0).val = r.val → (i 1).val = d.val → v = after m c r d)
    (by decide +kernel) (fun t hf y r d hr hd => ?_) i
  rw [after0_6, out0_6_eq]
  exact at_index (at6 t) (after_apply m c t) y r d hr hd

theorem array7 (i : S8192x1024.Idx) : ∀ (r : Fin 8192) (d : Fin 1024), (i 0).val = r.val → (i 1).val = d.val →
    ((dats m 0 c).arrAt 7 cfg0.N : Vec Ideal S8192x1024 .bf16) i = after m c r d := by
  refine (dats m 0 c).arrAt_forall_of_covers 7
    (fun i v => ∀ (r : Fin 8192) (d : Fin 1024), (i 0).val = r.val → (i 1).val = d.val → v = after m c r d)
    (by decide +kernel) (fun t hf y r d hr hd => ?_) i
  rw [after0_7, out0_7_eq]
  exact at_index (at7 t) (after_apply m c t) y r d hr hd

end Cert.Kernel7Ideal.Mix

namespace Cert.Proof.MixOut

open Cert.Reference7Ideal Cert.Reference7Ideal.Gen Cert.Reference4Ideal.Fwd Cert.Fwd
open Idealize.ShloMosaic Idealize.ShloMosaic.TcCoe Idealize.SL.Sem Finset

def rows (a : FVec Ideal S8192x1024 .f32) (w : FVec Ideal S1024x1024 .f32) (x : FVec Ideal S8192x1024 .f32) : FVec Ideal S8192x1024 .f32 :=
  addf (mulf (broadcastInDim S8192x1024 ![] bcast_S_S8192x1024 (constant S_ .f32 0x3FD744FD#32)) x)
    (Host.dotGeneral dot_S8192x1024_S1024x1024_S8192x1024_1_0_0_1_n_n none a w)

theorem rows_apply (a : FVec Ideal S8192x1024 .f32) (w : FVec Ideal S1024x1024 .f32) (x : FVec Ideal S8192x1024 .f32) (r : Fin 8192)
    (d : Fin 1024) : rows a w x (ix2 r d) = Cert.Kernel7Ideal.Mix.sum (x (ix2 r d)) (∑ j : Fin 1024, a (ix2 r j) * w (ix2 j d)) := by
  unfold rows
  pointwise
  rfl

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = rows (m ((c.tc : Thread nD τ).loc main_arg0)) (m ((c.tc : Thread nD τ).loc main_arg1)) (m ((c.tc : Thread nD τ).loc main_arg2))
      ∧ r.2.mem ((c.tc : Thread nD τ).loc main_v25)
          = normOf (rows (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_v26)
          = (truncf .bf16 (normOf (rows (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))) bitsLt_bf16_f32 : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference7Ideal.Value.run m ρ

section

variable (m : (ℓ : Loc Cert.Kernel7Ideal.nD Cert.Kernel7Ideal.τ Cert.Kernel7Ideal.sig) → Buf (Elt Ideal) ℓ) (c : Dev Cert.Kernel7Ideal.nD)

theorem before_eq : Cert.Kernel7Ideal.Mix.before m c
    = fun r d => rows (Cert.Kernel7Ideal.Mix.argA m c) (Cert.Kernel7Ideal.Mix.argW m c) (Cert.Kernel7Ideal.Mix.argX m c) (ix2 r d) :=
  funext fun r => funext fun d => (rows_apply _ _ _ r d).symm

/-- The kernel's first array is the reference's rows, its second and third are these normalised. -/
theorem first (i : S8192x1024.Idx) :
    ((Cert.Kernel7Ideal.Gen.dats m 0 c).arrAt 5 Cert.Kernel7Ideal.cfg0.N : FVec Ideal S8192x1024 .f32) i
      = rows (Cert.Kernel7Ideal.Mix.argA m c) (Cert.Kernel7Ideal.Mix.argW m c) (Cert.Kernel7Ideal.Mix.argX m c) i := by
  rw [eq_ix2 i]
  exact (Cert.Kernel7Ideal.Mix.array5 m c _ _ _ rfl rfl).trans (congrFun (congrFun (before_eq m c) _) _)

theorem normed (r : Fin 8192) (d : Fin 1024) : Cert.Kernel7Ideal.Mix.after m c r d
    = normOf (rows (Cert.Kernel7Ideal.Mix.argA m c) (Cert.Kernel7Ideal.Mix.argW m c) (Cert.Kernel7Ideal.Mix.argX m c))
        (Cert.Kernel7Ideal.Mix.argG m c) (Cert.Kernel7Ideal.Mix.argB m c) (ix2 r d) := by
  unfold Cert.Kernel7Ideal.Mix.after
  rw [normOf_apply, before_eq]

theorem second (i : S8192x1024.Idx) :
    ((Cert.Kernel7Ideal.Gen.dats m 0 c).arrAt 6 Cert.Kernel7Ideal.cfg0.N : FVec Ideal S8192x1024 .f32) i
      = normOf (rows (Cert.Kernel7Ideal.Mix.argA m c) (Cert.Kernel7Ideal.Mix.argW m c) (Cert.Kernel7Ideal.Mix.argX m c))
        (Cert.Kernel7Ideal.Mix.argG m c) (Cert.Kernel7Ideal.Mix.argB m c) i := by
  rw [eq_ix2 i]
  exact (Cert.Kernel7Ideal.Mix.array6 m c _ _ _ rfl rfl).trans (normed m c _ _)

theorem third (i : S8192x1024.Idx) :
    ((Cert.Kernel7Ideal.Gen.dats m 0 c).arrAt 7 Cert.Kernel7Ideal.cfg0.N : FVec Ideal S8192x1024 .bf16) i
      = normOf (rows (Cert.Kernel7Ideal.Mix.argA m c) (Cert.Kernel7Ideal.Mix.argW m c) (Cert.Kernel7Ideal.Mix.argX m c))
        (Cert.Kernel7Ideal.Mix.argG m c) (Cert.Kernel7Ideal.Mix.argB m c) i := by
  rw [eq_ix2 i]
  exact (Cert.Kernel7Ideal.Mix.array7 m c _ _ _ rfl rfl).trans (normed m c _ _)

end

/-- Both programs run, and end with the same three results. -/
theorem algebraic : Cert.algebraic_Kernel7Ideal_Reference7Ideal := by
  intro m ρ m' ρ' _ hm
  refine ⟨fun c => (Cert.Kernel7Ideal.Gen.dats m 0 c).arrAt 5 Cert.Kernel7Ideal.cfg0.N,
    fun c => (Cert.Kernel7Ideal.Gen.dats m 0 c).arrAt 6 Cert.Kernel7Ideal.cfg0.N,
    fun c => (Cert.Kernel7Ideal.Gen.dats m 0 c).arrAt 7 Cert.Kernel7Ideal.cfg0.N, Cert.Kernel7Ideal.Value.run_blocks m ρ, ?_⟩
  refine (θ_run Cert.Reference7Ideal.defs _ _).mono (fun r h c => ?_) (reference m' ρ')
  have ha := hm c
  obtain ⟨e0, e1, e2, e3⟩ := h c
  refine ⟨e0.trans ?_, e1.trans ?_, e2.trans ?_, e3⟩
  · rw [ha.1, ha.2.1, ha.2.2.1]
    exact (funext (first m c)).symm
  · rw [ha.1, ha.2.1, ha.2.2.1, ha.2.2.2.1, ha.2.2.2.2]
    exact (funext (second m c)).symm
  · rw [ha.1, ha.2.1, ha.2.2.1, ha.2.2.2.1, ha.2.2.2.2]
    exact (funext (third m c)).symm

end Cert.Proof.MixOut

end
-- ==== Proof.MixDw.lean ====
/- The gradient of the weights of the attention's or the recurrent block's output product: four grid points add up the tokens. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.IdealHost
public import Idealize.ShloMosaic.Lib.Ring
public import Idealize.ShloMosaic.Lib.Tactic

@[expose] public section

noncomputable section

namespace Cert.Kernel8Ideal.Mix

open Cert.Kernel8Ideal Cert.Kernel8Ideal.Gen Idealize.ShloMosaic Idealize.ShloMosaic.TcCoe Idealize.SL.Sem Finset
open Idealize.ShloMosaic.Pipeline (Dat)

/-- One step adds a block's product. -/
theorem step_apply (acc : Vec Ideal S1024x1024 .f32) (x d : Vec Ideal S2048x1024 .bf16) (r l : Fin 1024) :
    k0_pay2 (F := Ideal) acc x d (ix2 r l) = acc (ix2 r l) + ∑ k : Fin 2048, x (ix2 k r) * d (ix2 k l) := by
  unfold k0_pay2
  pointwise

theorem zero_apply (r l : Fin 1024) : k0_pay1 (F := Ideal) (ix2 r l) = 0 := by
  unfold k0_pay1
  pointwise

variable (m : (ℓ : Loc nD τ sig) → Buf (Elt Ideal) ℓ) (c : Dev nD)

/-- The two arguments. -/
abbrev argX : Vec Ideal S8192x1024 .f32 := m ((c : Thread nD τ).loc main_arg0)
abbrev argZ : Vec Ideal S8192x1024 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_z : (V m c main_v1 : Vec Ideal S8192x1024 .bf16) = argZ m c := by
  show StableHlo.after hostOps0 (fun b => m (c, b)) (Proc.devRef .tc main_v1) = _
  simp only [hostOps0]
  after_results_simp
  all_goals rfl

theorem lt4 (t : Fin cfg0.N) : t.val < 4 := t.isLt
theorem at0 (t : Fin cfg0.N) : win0_0.index t 0 = t.val ∧ win0_0.index t 1 = 0 := by revert t; decide +kernel
theorem at1 (t : Fin cfg0.N) : win0_1.index t 0 = t.val ∧ win0_1.index t 1 = 0 := by revert t; decide +kernel
theorem last (t : Fin cfg0.N) (h : (cfg0.win 2).flush t = true) : t.val = 3 := by revert t; decide +kernel
theorem at2 (t : Fin cfg0.N) : win0_2.index t 0 = 0 ∧ win0_2.index t 1 = 0 := by revert t; decide +kernel

theorem rows_apply (t : Fin cfg0.N) (k : Fin 2048) (r : Fin 1024) :
    (iblk m c 0 t : Vec Ideal S2048x1024 .bf16) (ix2 k r) = argX m c (ix2 ⟨2048 * t.val + k, by have := lt4 t; omega⟩ r) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 2048 + 1 * k.val = 2048 * t.val + k.val; omega
  | ⟨1, _⟩ => show win0_0.index t 1 * 1024 + 1 * r.val = r.val; omega

theorem grads_apply (t : Fin cfg0.N) (k : Fin 2048) (l : Fin 1024) :
    (iblk m c 1 t : Vec Ideal S2048x1024 .bf16) (ix2 k l) = argZ m c (ix2 ⟨2048 * t.val + k, by have := lt4 t; omega⟩ l) := by
  unfold iblk
  rw [View.read_apply]
  refine Eq.trans ?_ (congrFun (host_z m c) _)
  show V m c main_v1 _ = _
  congr 1
  funext a
  apply Fin.ext
  have h := at1 t
  match a with
  | ⟨0, _⟩ => show win0_1.index t 0 * 2048 + 1 * k.val = 2048 * t.val + k.val; omega
  | ⟨1, _⟩ => show win0_1.index t 1 * 1024 + 1 * l.val = l.val; omega

/-- One token's contribution to an entry. -/
def term (r l : Fin 1024) (k : ℕ) : EReal := if h : k < 8192 then argX m c (ix2 ⟨k, h⟩ r) * argZ m c (ix2 ⟨k, h⟩ l) else 0

/-- A step of point `t` adds the next 2048 tokens. -/
theorem step_rows (t : Fin cfg0.N) (acc : Vec Ideal S1024x1024 .f32) (r l : Fin 1024)
    (h : acc (ix2 r l) = ∑ k ∈ range (2048 * t.val), term m c r l k) :
    k0_pay2 (F := Ideal) acc (iblk m c 0 t) (iblk m c 1 t) (ix2 r l) = ∑ k ∈ range (2048 * (t.val + 1)), term m c r l k := by
  refine (step_apply acc (iblk m c 0 t) (iblk m c 1 t) r l).trans ?_
  have ht := lt4 t
  rw [show 2048 * (t.val + 1) = 2048 * t.val + 2048 by omega, sum_range_add,
    ← Fin.sum_univ_eq_sum_range (fun k => term m c r l (2048 * t.val + k)) 2048]
  refine congrArg₂ (· + ·) h (sum_congr rfl fun k _ => ?_)
  unfold term
  rw [dif_pos (show 2048 * t.val + k.val < 8192 by omega)]
  exact congrArg₂ (· * ·) (rows_apply m c t k r) (grads_apply m c t k l)

/-- The running sum: the tokens so far. -/
theorem sums : ∀ (n : ℕ) (h : n < cfg0.N) (r l : Fin 1024), outsAt0 m c n h (ix2 r l) = ∑ k ∈ range (2048 * (n + 1)), term m c r l k
  | 0, h, r, l => by
    rw [outsAt0_A m c ⟨0, h⟩ rfl, Value.out_A_2_eq]
    exact step_rows m c ⟨0, h⟩ _ r l ((zero_apply r l).trans (by simp))
  | n + 1, h, r, l => by
    have ht := lt4 ⟨n + 1, h⟩
    rw [outsAt0_B m c ⟨n + 1, h⟩ (by dsimp only at ht ⊢; omega), Value.out_B_2_eq]
    exact step_rows m c ⟨n + 1, h⟩ _ r l (sums n (Nat.lt_of_succ_lt h) r l)

/-- The array the call leaves. -/
theorem array (i : S1024x1024.Idx) : ∀ r l : Fin 1024, (i 0).val = r.val → (i 1).val = l.val →
    ((dats m 0 c).arrAt 2 cfg0.N : Vec Ideal S1024x1024 .f32) i = ∑ k ∈ range 8192, term m c r l k := by
  refine (dats m 0 c).arrAt_forall_of_covers 2
    (fun i v => ∀ r l : Fin 1024, (i 0).val = r.val → (i 1).val = l.val → v = ∑ k ∈ range 8192, term m c r l k)
    (by decide +kernel) (fun t hf y r l hr hl => ?_) i
  rw [after0_2]
  have h2 := at2 t
  have hr : win0_2.index t 0 * 1024 + 1 * (y 0).val = r.val := hr
  have hl : win0_2.index t 1 * 1024 + 1 * (y 1).val = l.val := hl
  have h3 : t.val = 3 := last t hf
  have h := sums m c t.val t.isLt r l
  have e : y = (ix2 r l : S1024x1024.Idx) := by
    funext a
    apply Fin.ext
    match a with
    | ⟨0, _⟩ => show (y 0).val = r.val; omega
    | ⟨1, _⟩ => show (y 1).val = l.val; omega
  rw [show 2048 * (t.val + 1) = 8192 by omega] at h
  generalize outsAt0 m c t.val t.isLt = f at h ⊢
  exact Eq.trans (congrArg f e) h

end Cert.Kernel8Ideal.Mix

namespace Cert.Proof.MixWeights

open Cert.Reference8Ideal Cert.Reference8Ideal.Gen Idealize.ShloMosaic Idealize.ShloMosaic.TcCoe Idealize.SL.Sem Finset

def gradient (x z : FVec Ideal S8192x1024 .f32) : FVec Ideal S1024x1024 .f32 :=
  transpose S1024x1024 [1, 0] (Host.dotGeneral dot_S8192x1024_S8192x1024_S1024x1024_0_0_1_1_n_n none z x) transposes_S1024x1024_S1024x1024_1_0

theorem gradient_apply (x z : FVec Ideal S8192x1024 .f32) (r l : Fin 1024) :
    gradient x z (ix2 r l) = ∑ k : Fin 8192, z (ix2 k l) * x (ix2 k r) := by
  unfold gradient
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = gradient (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference8Ideal.Value.run m ρ

/-- The kernel's sums are the reference's gradient. -/
theorem weights (m : (ℓ : Loc Cert.Kernel8Ideal.nD Cert.Kernel8Ideal.τ Cert.Kernel8Ideal.sig) → Buf (Elt Ideal) ℓ) (c : Dev Cert.Kernel8Ideal.nD)
    (x z : FVec Ideal S8192x1024 .f32)
    (hx : m ((c : Thread Cert.Kernel8Ideal.nD Cert.Kernel8Ideal.τ).loc Cert.Kernel8Ideal.main_arg0) = x)
    (hz : m ((c : Thread Cert.Kernel8Ideal.nD Cert.Kernel8Ideal.τ).loc Cert.Kernel8Ideal.main_arg1) = z) :
    ((Cert.Kernel8Ideal.Gen.dats m 0 c).arrAt 2 Cert.Kernel8Ideal.cfg0.N : FVec Ideal S1024x1024 .f32) = gradient x z := by
  subst hx hz
  funext i
  rw [eq_ix2 i]
  refine (Cert.Kernel8Ideal.Mix.array m c _ _ _ rfl rfl).trans ((gradient_apply _ _ _ _).trans ?_).symm
  rw [← Fin.sum_univ_eq_sum_range]
  refine sum_congr rfl fun k _ => ?_
  unfold Cert.Kernel8Ideal.Mix.term
  rw [dif_pos k.isLt, mul_comm]
  rfl

/-- Both programs run, and end with the same gradient. -/
theorem algebraic : Cert.algebraic_Kernel8Ideal_Reference8Ideal := by
  intro m ρ m' ρ' _ hm
  have res := fun c : Dev Cert.Kernel8Ideal.nD => weights m c _ _ (hm c).1.symm (hm c).2.symm
  refine ⟨fun c => (Cert.Kernel8Ideal.Gen.dats m 0 c).arrAt 2 Cert.Kernel8Ideal.cfg0.N, Cert.Kernel8Ideal.Value.run_blocks m ρ, ?_⟩
  exact (θ_run Cert.Reference8Ideal.defs _ _).mono
    (fun r h c => ⟨(h c).1.trans (res c).symm, (h c).2⟩) (reference m' ρ')

end Cert.Proof.MixWeights

end
-- ==== Proof.MixDo.lean ====
/- The gradient of the rows that the attention's output product takes: each grid point multiplies 512 rows with the transposed
   weights, which it reads in the eight shards of the devices. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel9Ideal.Mix

open Cert.Kernel9Ideal Cert.Kernel9Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The eight shards of the weights, by row of the whole. -/
def whole (w : Vec Ideal S8x128x1024 .bf16) (l k : Fin 1024) : EReal := w (ix3 ⟨l / 128, by omega⟩ ⟨l % 128, by omega⟩ k)

/-- What a grid point leaves: the product of its rows with the transposed weights. -/
theorem tile_apply (x : Vec Ideal S512x1024 .bf16) (w : Vec Ideal S8x128x1024 .bf16) (r : Fin 512) (l : Fin 1024) :
    out0_2 x w (ix2 r l) = ∑ k : Fin 1024, x (ix2 r k) * whole w l k := by
  unfold out0_2
  rw [View.canon_unit_zero (S := S512x1024) zero2, View.ld_unit_zero (S := S512x1024) zero2, View.ld_unit_zero (S := S8x128x1024) zero3]
  unfold k0_pay1
  pointwise
  rfl

variable (m : (ℓ : Loc nD τ sig) → Buf (Elt Ideal) ℓ) (c : Dev nD)

/-- The two arguments. -/
abbrev argZ : Vec Ideal S8192x1024 .f32 := m ((c : Thread nD τ).loc main_arg0)
abbrev argW : Vec Ideal S1024x1024 .f32 := m ((c : Thread nD τ).loc main_arg1)

theorem host_z : (V m c main_v2 : Vec Ideal S8192x1024 .bf16) = argZ m c := by
  show StableHlo.after hostOps0 (fun b => m (c, b)) (Proc.devRef .tc main_v2) = _
  simp only [hostOps0]
  after_results_simp
  all_goals rfl

theorem host_w : (V m c main_v1 : FVec Ideal S8x128x1024 .bf16)
    = shapeCast S8x128x1024 (truncf .bf16 (argW m c : FVec Ideal S1024x1024 .f32) bitsLt_bf16_f32 : FVec Ideal S1024x1024 .bf16)
        shapeCasts_S1024x1024_S8x128x1024 := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 ∧ win0_1.index t 2 = 0 := by revert t; decide +kernel
theorem at2 (t : Fin cfg0.N) : win0_2.index t 0 = t.val ∧ win0_2.index t 1 = 0 := by revert t; decide +kernel

theorem rows_apply (t : Fin cfg0.N) (r : Fin 512) (k : Fin 1024) (q : Fin 8192) (hq : 512 * t.val + r.val = q.val) :
    (iblk m c 0 t : Vec Ideal S512x1024 .bf16) (ix2 r k) = argZ m c (ix2 q k) := by
  unfold iblk
  rw [View.read_apply]
  refine Eq.trans ?_ (congrFun (host_z m c) _)
  show V m c main_v2 _ = _
  congr 1
  funext a
  apply Fin.ext
  have h := at0 t
  match a with
  | ⟨0, _⟩ => show win0_0.index t 0 * 512 + 1 * r.val = q.val; omega
  | ⟨1, _⟩ => show win0_0.index t 1 * 1024 + 1 * k.val = k.val; omega

theorem shards_apply (t : Fin cfg0.N) : (iblk m c 1 t : Vec Ideal S8x128x1024 .bf16) = (V m c main_v1 : Vec Ideal S8x128x1024 .bf16) := by
  funext i
  unfold iblk
  rw [View.read_apply]
  show V m c main_v1 _ = _
  congr 1
  funext a
  apply Fin.ext
  have h := at1 t
  match a with
  | ⟨0, _⟩ => show win0_1.index t 0 * 8 + 1 * (i 0).val = (i 0).val; omega
  | ⟨1, _⟩ => show win0_1.index t 1 * 128 + 1 * (i 1).val = (i 1).val; omega
  | ⟨2, _⟩ => show win0_1.index t 2 * 1024 + 1 * (i 2).val = (i 2).val; omega

theorem weights_apply (t : Fin cfg0.N) (l k : Fin 1024) : whole (iblk m c 1 t) l k = argW m c (ix2 l k) := by
  rw [shards_apply]
  refine (congrFun (host_w m c) _).trans ?_
  generalize argW m c = w
  pointwise

/-- An entry of the product. -/
def entry (r : Fin 8192) (l : Fin 1024) : EReal := ∑ k : Fin 1024, argZ m c (ix2 r k) * argW m c (ix2 l k)

/-- The array the call leaves. -/
theorem array (i : S8192x1024.Idx) : ∀ (r : Fin 8192) (l : Fin 1024), (i 0).val = r.val → (i 1).val = l.val →
    ((dats m 0 c).arrAt 2 cfg0.N : Vec Ideal S8192x1024 .bf16) i = entry m c r l := by
  refine (dats m 0 c).arrAt_forall_of_covers 2
    (fun i v => ∀ (r : Fin 8192) (l : Fin 1024), (i 0).val = r.val → (i 1).val = l.val → v = entry m c r l)
    (by decide +kernel) (fun t hf y r l hr hl => ?_) i
  rw [after0_2]
  have h2 := at2 t
  have hr : win0_2.index t 0 * 512 + 1 * (y 0).val = r.val := hr
  have hl : win0_2.index t 1 * 1024 + 1 * (y 1).val = l.val := hl
  have h : out0_2 (iblk m c 0 t) (iblk m c 1 t) (ix2 ⟨(y 0).val, (y 0).isLt⟩ l) = entry m c r l :=
    (tile_apply _ _ _ _).trans (sum_congr rfl fun k _ => by
      rw [rows_apply m c t _ k r (by dsimp only; omega), weights_apply m c t l k])
  have e : y = (ix2 (⟨(y 0).val, (y 0).isLt⟩ : Fin 512) l : S512x1024.Idx) := by
    funext a
    apply Fin.ext
    match a with
    | ⟨0, _⟩ => rfl
    | ⟨1, _⟩ => show (y 1).val = l.val; omega
  generalize out0_2 (iblk m c 0 t) (iblk m c 1 t) = f at h ⊢
  exact Eq.trans (congrArg f e) h

end Cert.Kernel9Ideal.Mix

namespace Cert.Proof.MixRows

open Cert.Reference9Ideal Cert.Reference9Ideal.Gen Idealize.ShloMosaic Idealize.ShloMosaic.TcCoe Idealize.SL.Sem Finset

def gradient (z : FVec Ideal S8192x1024 .f32) (w : FVec Ideal S1024x1024 .f32) : FVec Ideal S8192x1024 .bf16 :=
  truncf .bf16 (Host.dotGeneral dot_S8192x1024_S1024x1024_S8192x1024_1_1_0_0_n_n none z w : FVec Ideal S8192x1024 .f32) bitsLt_bf16_f32

theorem gradient_apply (z : FVec Ideal S8192x1024 .f32) (w : FVec Ideal S1024x1024 .f32) (r : Fin 8192) (l : Fin 1024) :
    gradient z w (ix2 r l) = ∑ k : Fin 1024, z (ix2 r k) * w (ix2 l k) := by
  unfold gradient
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = gradient (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference9Ideal.Value.run m ρ

/-- The kernel's blocks are the reference's gradient. -/
theorem rows (m : (ℓ : Loc Cert.Kernel9Ideal.nD Cert.Kernel9Ideal.τ Cert.Kernel9Ideal.sig) → Buf (Elt Ideal) ℓ) (c : Dev Cert.Kernel9Ideal.nD)
    (z : FVec Ideal S8192x1024 .f32) (w : FVec Ideal S1024x1024 .f32)
    (hz : m ((c : Thread Cert.Kernel9Ideal.nD Cert.Kernel9Ideal.τ).loc Cert.Kernel9Ideal.main_arg0) = z)
    (hw : m ((c : Thread Cert.Kernel9Ideal.nD Cert.Kernel9Ideal.τ).loc Cert.Kernel9Ideal.main_arg1) = w) :
    ((Cert.Kernel9Ideal.Gen.dats m 0 c).arrAt 2 Cert.Kernel9Ideal.cfg0.N : FVec Ideal S8192x1024 .bf16) = gradient z w := by
  subst hz hw
  funext i
  rw [eq_ix2 i]
  exact (Cert.Kernel9Ideal.Mix.array m c _ _ _ rfl rfl).trans (gradient_apply _ _ _ _).symm

/-- Both programs run, and end with the same gradient. -/
theorem algebraic : Cert.algebraic_Kernel9Ideal_Reference9Ideal := by
  intro m ρ m' ρ' _ hm
  have res := fun c : Dev Cert.Kernel9Ideal.nD => rows m c _ _ (hm c).1.symm (hm c).2.symm
  refine ⟨fun c => (Cert.Kernel9Ideal.Gen.dats m 0 c).arrAt 2 Cert.Kernel9Ideal.cfg0.N, Cert.Kernel9Ideal.Value.run_blocks m ρ, ?_⟩
  exact (θ_run Cert.Reference9Ideal.defs _ _).mono
    (fun r h c => ⟨(h c).1.trans (res c).symm, (h c).2⟩) (reference m' ρ')

end Cert.Proof.MixRows

end
-- ==== Proof.LruDo.lean ====
/- The gradient of the rows that the recurrent block's output product takes, in f32: each grid point multiplies 512 rows with the transposed
   weights, which it reads in the eight shards of the devices. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel10Ideal.Lru

open Cert.Kernel10Ideal Cert.Kernel10Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-- The eight shards of the weights, by row of the whole. -/
def whole (w : Vec Ideal S8x128x1024 .bf16) (l k : Fin 1024) : EReal := w (ix3 ⟨l / 128, by omega⟩ ⟨l % 128, by omega⟩ k)

/-- What a grid point leaves: the product of its rows with the transposed weights. -/
theorem tile_apply (x : Vec Ideal S512x1024 .bf16) (w : Vec Ideal S8x128x1024 .bf16) (r : Fin 512) (l : Fin 1024) :
    out0_2 x w (ix2 r l) = ∑ k : Fin 1024, x (ix2 r k) * whole w l k := by
  unfold out0_2
  rw [View.canon_unit_zero (S := S512x1024) zero2, View.ld_unit_zero (S := S512x1024) zero2, View.ld_unit_zero (S := S8x128x1024) zero3]
  unfold k0_pay1
  pointwise
  rfl

variable (m : (ℓ : Loc nD τ sig) → Buf (Elt Ideal) ℓ) (c : Dev nD)

/-- The two arguments. -/
abbrev argZ : Vec Ideal S8192x1024 .f32 := m ((c : Thread nD τ).loc main_arg0)
abbrev argW : Vec Ideal S1024x1024 .f32 := m ((c : Thread nD τ).loc main_arg1)

theorem host_z : (V m c main_v2 : Vec Ideal S8192x1024 .bf16) = argZ m c := by
  show StableHlo.after hostOps0 (fun b => m (c, b)) (Proc.devRef .tc main_v2) = _
  simp only [hostOps0]
  after_results_simp
  all_goals rfl

theorem host_w : (V m c main_v1 : FVec Ideal S8x128x1024 .bf16)
    = shapeCast S8x128x1024 (truncf .bf16 (argW m c : FVec Ideal S1024x1024 .f32) bitsLt_bf16_f32 : FVec Ideal S1024x1024 .bf16)
        shapeCasts_S1024x1024_S8x128x1024 := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 ∧ win0_1.index t 2 = 0 := by revert t; decide +kernel
theorem at2 (t : Fin cfg0.N) : win0_2.index t 0 = t.val ∧ win0_2.index t 1 = 0 := by revert t; decide +kernel

theorem rows_apply (t : Fin cfg0.N) (r : Fin 512) (k : Fin 1024) (q : Fin 8192) (hq : 512 * t.val + r.val = q.val) :
    (iblk m c 0 t : Vec Ideal S512x1024 .bf16) (ix2 r k) = argZ m c (ix2 q k) := by
  unfold iblk
  rw [View.read_apply]
  refine Eq.trans ?_ (congrFun (host_z m c) _)
  show V m c main_v2 _ = _
  congr 1
  funext a
  apply Fin.ext
  have h := at0 t
  match a with
  | ⟨0, _⟩ => show win0_0.index t 0 * 512 + 1 * r.val = q.val; omega
  | ⟨1, _⟩ => show win0_0.index t 1 * 1024 + 1 * k.val = k.val; omega

theorem shards_apply (t : Fin cfg0.N) : (iblk m c 1 t : Vec Ideal S8x128x1024 .bf16) = (V m c main_v1 : Vec Ideal S8x128x1024 .bf16) := by
  funext i
  unfold iblk
  rw [View.read_apply]
  show V m c main_v1 _ = _
  congr 1
  funext a
  apply Fin.ext
  have h := at1 t
  match a with
  | ⟨0, _⟩ => show win0_1.index t 0 * 8 + 1 * (i 0).val = (i 0).val; omega
  | ⟨1, _⟩ => show win0_1.index t 1 * 128 + 1 * (i 1).val = (i 1).val; omega
  | ⟨2, _⟩ => show win0_1.index t 2 * 1024 + 1 * (i 2).val = (i 2).val; omega

theorem weights_apply (t : Fin cfg0.N) (l k : Fin 1024) : whole (iblk m c 1 t) l k = argW m c (ix2 l k) := by
  rw [shards_apply]
  refine (congrFun (host_w m c) _).trans ?_
  generalize argW m c = w
  pointwise

/-- An entry of the product. -/
def entry (r : Fin 8192) (l : Fin 1024) : EReal := ∑ k : Fin 1024, argZ m c (ix2 r k) * argW m c (ix2 l k)

/-- The array the call leaves. -/
theorem array (i : S8192x1024.Idx) : ∀ (r : Fin 8192) (l : Fin 1024), (i 0).val = r.val → (i 1).val = l.val →
    ((dats m 0 c).arrAt 2 cfg0.N : Vec Ideal S8192x1024 .f32) i = entry m c r l := by
  refine (dats m 0 c).arrAt_forall_of_covers 2
    (fun i v => ∀ (r : Fin 8192) (l : Fin 1024), (i 0).val = r.val → (i 1).val = l.val → v = entry m c r l)
    (by decide +kernel) (fun t hf y r l hr hl => ?_) i
  rw [after0_2]
  have h2 := at2 t
  have hr : win0_2.index t 0 * 512 + 1 * (y 0).val = r.val := hr
  have hl : win0_2.index t 1 * 1024 + 1 * (y 1).val = l.val := hl
  have h : out0_2 (iblk m c 0 t) (iblk m c 1 t) (ix2 ⟨(y 0).val, (y 0).isLt⟩ l) = entry m c r l :=
    (tile_apply _ _ _ _).trans (sum_congr rfl fun k _ => by
      rw [rows_apply m c t _ k r (by dsimp only; omega), weights_apply m c t l k])
  have e : y = (ix2 (⟨(y 0).val, (y 0).isLt⟩ : Fin 512) l : S512x1024.Idx) := by
    funext a
    apply Fin.ext
    match a with
    | ⟨0, _⟩ => rfl
    | ⟨1, _⟩ => show (y 1).val = l.val; omega
  generalize out0_2 (iblk m c 0 t) (iblk m c 1 t) = f at h ⊢
  exact Eq.trans (congrArg f e) h

end Cert.Kernel10Ideal.Lru

namespace Cert.Proof.LruRows

open Cert.Reference10Ideal Cert.Reference10Ideal.Gen Idealize.ShloMosaic Idealize.ShloMosaic.TcCoe Idealize.SL.Sem Finset

def gradient (z : FVec Ideal S8192x1024 .f32) (w : FVec Ideal S1024x1024 .f32) : FVec Ideal S8192x1024 .f32 :=
  Host.dotGeneral dot_S8192x1024_S1024x1024_S8192x1024_1_1_0_0_n_n none z w

theorem gradient_apply (z : FVec Ideal S8192x1024 .f32) (w : FVec Ideal S1024x1024 .f32) (r : Fin 8192) (l : Fin 1024) :
    gradient z w (ix2 r l) = ∑ k : Fin 1024, z (ix2 r k) * w (ix2 l k) := by
  unfold gradient
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = gradient (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference10Ideal.Value.run m ρ

/-- The kernel's blocks are the reference's gradient. -/
theorem rows (m : (ℓ : Loc Cert.Kernel10Ideal.nD Cert.Kernel10Ideal.τ Cert.Kernel10Ideal.sig) → Buf (Elt Ideal) ℓ) (c : Dev Cert.Kernel10Ideal.nD)
    (z : FVec Ideal S8192x1024 .f32) (w : FVec Ideal S1024x1024 .f32)
    (hz : m ((c : Thread Cert.Kernel10Ideal.nD Cert.Kernel10Ideal.τ).loc Cert.Kernel10Ideal.main_arg0) = z)
    (hw : m ((c : Thread Cert.Kernel10Ideal.nD Cert.Kernel10Ideal.τ).loc Cert.Kernel10Ideal.main_arg1) = w) :
    ((Cert.Kernel10Ideal.Gen.dats m 0 c).arrAt 2 Cert.Kernel10Ideal.cfg0.N : FVec Ideal S8192x1024 .f32) = gradient z w := by
  subst hz hw
  funext i
  rw [eq_ix2 i]
  exact (Cert.Kernel10Ideal.Lru.array m c _ _ _ rfl rfl).trans (gradient_apply _ _ _ _).symm

/-- Both programs run, and end with the same gradient. -/
theorem algebraic : Cert.algebraic_Kernel10Ideal_Reference10Ideal := by
  intro m ρ m' ρ' _ hm
  have res := fun c : Dev Cert.Kernel10Ideal.nD => rows m c _ _ (hm c).1.symm (hm c).2.symm
  refine ⟨fun c => (Cert.Kernel10Ideal.Gen.dats m 0 c).arrAt 2 Cert.Kernel10Ideal.cfg0.N, Cert.Kernel10Ideal.Value.run_blocks m ρ, ?_⟩
  exact (θ_run Cert.Reference10Ideal.defs _ _).mono
    (fun r h c => ⟨(h c).1.trans (res c).symm, (h c).2⟩) (reference m' ρ')

end Cert.Proof.LruRows

end
-- ==== Proof.LruIn.lean ====
/- The recurrent block's input projection forward: each grid point multiplies 512 rows, and the sixteen blocks are the whole product. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel11Ideal.Lru

open Cert.Kernel11Ideal Cert.Kernel11Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- What a grid point leaves: the product of its rows with the weights. -/
theorem tile_apply (x : Vec Ideal S512x1024 .bf16) (w : Vec Ideal S1024x2048 .bf16) (r : Fin 512) (l : Fin 2048) :
    out0_2 x w (ix2 r l) = ∑ k : Fin 1024, x (ix2 r k) * w (ix2 k l) := by
  unfold out0_2
  rw [View.canon_unit_zero (S := S512x2048) zero2, View.ld_unit_zero (S := S512x1024) zero2, View.ld_unit_zero (S := S1024x2048) zero2]
  unfold k0_pay1
  pointwise

variable (m : (ℓ : Loc nD τ sig) → Buf (Elt Ideal) ℓ) (c : Dev nD)

/-- The two arguments. -/
abbrev argX : Vec Ideal S8192x1024 .f32 := m ((c : Thread nD τ).loc main_arg0)
abbrev argW : Vec Ideal S1024x2048 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_w : (V m c main_v1 : Vec Ideal S1024x2048 .bf16) = argW m c := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 := by revert t; decide +kernel
theorem at2 (t : Fin cfg0.N) : win0_2.index t 0 = t.val ∧ win0_2.index t 1 = 0 := by revert t; decide +kernel

theorem rows_apply (t : Fin cfg0.N) (r : Fin 512) (k : Fin 1024) (q : Fin 8192) (hq : 512 * t.val + r.val = q.val) :
    (iblk m c 0 t : Vec Ideal S512x1024 .bf16) (ix2 r k) = argX m c (ix2 q k) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 512 + 1 * r.val = q.val; omega
  | ⟨1, _⟩ => show win0_0.index t 1 * 1024 + 1 * k.val = k.val; omega

theorem weights_apply (t : Fin cfg0.N) (k : Fin 1024) (l : Fin 2048) :
    (iblk m c 1 t : Vec Ideal S1024x2048 .bf16) (ix2 k l) = argW m c (ix2 k l) := by
  unfold iblk
  rw [View.read_apply]
  refine Eq.trans ?_ (congrFun (host_w m c) _)
  show V m c main_v1 _ = _
  congr 1
  funext a
  apply Fin.ext
  have h := at1 t
  match a with
  | ⟨0, _⟩ => show win0_1.index t 0 * 1024 + 1 * k.val = k.val; omega
  | ⟨1, _⟩ => show win0_1.index t 1 * 2048 + 1 * l.val = l.val; omega

/-- An entry of the product. -/
def entry (r : Fin 8192) (l : Fin 2048) : EReal := ∑ k : Fin 1024, argX m c (ix2 r k) * argW m c (ix2 k l)

/-- The array the call leaves. -/
theorem array (i : S8192x2048.Idx) : ∀ (r : Fin 8192) (l : Fin 2048), (i 0).val = r.val → (i 1).val = l.val →
    ((dats m 0 c).arrAt 2 cfg0.N : Vec Ideal S8192x2048 .f32) i = entry m c r l := by
  refine (dats m 0 c).arrAt_forall_of_covers 2
    (fun i v => ∀ (r : Fin 8192) (l : Fin 2048), (i 0).val = r.val → (i 1).val = l.val → v = entry m c r l)
    (by decide +kernel) (fun t hf y r l hr hl => ?_) i
  rw [after0_2]
  have h2 := at2 t
  have hr : win0_2.index t 0 * 512 + 1 * (y 0).val = r.val := hr
  have hl : win0_2.index t 1 * 2048 + 1 * (y 1).val = l.val := hl
  have h : out0_2 (iblk m c 0 t) (iblk m c 1 t) (ix2 ⟨(y 0).val, (y 0).isLt⟩ l) = entry m c r l :=
    (tile_apply _ _ _ _).trans (sum_congr rfl fun k _ => by
      rw [rows_apply m c t _ k r (by dsimp only; omega), weights_apply m c t k l])
  have e : y = (ix2 (⟨(y 0).val, (y 0).isLt⟩ : Fin 512) l : S512x2048.Idx) := by
    funext a
    apply Fin.ext
    match a with
    | ⟨0, _⟩ => rfl
    | ⟨1, _⟩ => show (y 1).val = l.val; omega
  generalize out0_2 (iblk m c 0 t) (iblk m c 1 t) = f at h ⊢
  exact Eq.trans (congrArg f e) h

end Cert.Kernel11Ideal.Lru

namespace Cert.Proof.LruIn

open Cert.Reference11Ideal Cert.Reference11Ideal.Gen Idealize.ShloMosaic Idealize.ShloMosaic.TcCoe Idealize.SL.Sem Finset

def product (x : FVec Ideal S8192x1024 .f32) (w : FVec Ideal S1024x2048 .f32) : FVec Ideal S8192x2048 .f32 :=
  Host.dotGeneral dot_S8192x1024_S1024x2048_S8192x2048_1_0_0_1_n_n none x w

theorem product_apply (x : FVec Ideal S8192x1024 .f32) (w : FVec Ideal S1024x2048 .f32) (r : Fin 8192) (l : Fin 2048) :
    product x w (ix2 r l) = ∑ k : Fin 1024, x (ix2 r k) * w (ix2 k l) := by
  unfold product
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference11Ideal.Value.run m ρ

/-- The kernel's blocks are the reference's product. -/
theorem rows (m : (ℓ : Loc Cert.Kernel11Ideal.nD Cert.Kernel11Ideal.τ Cert.Kernel11Ideal.sig) → Buf (Elt Ideal) ℓ) (c : Dev Cert.Kernel11Ideal.nD)
    (x : FVec Ideal S8192x1024 .f32) (w : FVec Ideal S1024x2048 .f32)
    (hx : m ((c : Thread Cert.Kernel11Ideal.nD Cert.Kernel11Ideal.τ).loc Cert.Kernel11Ideal.main_arg0) = x)
    (hw : m ((c : Thread Cert.Kernel11Ideal.nD Cert.Kernel11Ideal.τ).loc Cert.Kernel11Ideal.main_arg1) = w) :
    ((Cert.Kernel11Ideal.Gen.dats m 0 c).arrAt 2 Cert.Kernel11Ideal.cfg0.N : FVec Ideal S8192x2048 .f32) = product x w := by
  subst hx hw
  funext i
  rw [eq_ix2 i]
  exact (Cert.Kernel11Ideal.Lru.array m c _ _ _ rfl rfl).trans (product_apply _ _ _ _).symm

/-- Both programs run, and end with the same product. -/
theorem algebraic : Cert.algebraic_Kernel11Ideal_Reference11Ideal := by
  intro m ρ m' ρ' _ hm
  have res := fun c : Dev Cert.Kernel11Ideal.nD => rows m c _ _ (hm c).1.symm (hm c).2.symm
  refine ⟨fun c => (Cert.Kernel11Ideal.Gen.dats m 0 c).arrAt 2 Cert.Kernel11Ideal.cfg0.N, Cert.Kernel11Ideal.Value.run_blocks m ρ, ?_⟩
  exact (θ_run Cert.Reference11Ideal.defs _ _).mono
    (fun r h c => ⟨(h c).1.trans (res c).symm, (h c).2⟩) (reference m' ρ')

end Cert.Proof.LruIn

end
-- ==== Proof.LruBack.lean ====
/- The gradient of the rows that the recurrent block takes: each grid point multiplies 512 rows with the transposed weights and adds the
   residual's gradient, and the sixteen blocks are the whole. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.IdealHost
public import Idealize.ShloMosaic.Lib.Tactic

@[expose] public section

noncomputable section

namespace Cert.Kernel12Ideal.Lru

open Cert.Kernel12Ideal Cert.Kernel12Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- What a grid point leaves: the product of its rows with the transposed weights, and the residual's gradient. -/
theorem tile_apply (d : Vec Ideal S512x2048 .bf16) (w : Vec Ideal S1024x2048 .bf16) (z : Vec Ideal S512x1024 .f32) (r : Fin 512) (l : Fin 1024) :
    out0_3 d w z (ix2 r l) = ∑ k : Fin 2048, d (ix2 r k) * w (ix2 l k) + Ideal.ofBits .f32 0x3FD744FD#32 * z (ix2 r l) := by
  unfold out0_3
  rw [View.canon_unit_zero (S := S512x1024) zero2, View.ld_unit_zero (S := S512x2048) zero2, View.ld_unit_zero (S := S1024x2048) zero2,
    View.ld_unit_zero (S := S512x1024) zero2]
  unfold k0_pay1
  pointwise

variable (m : (ℓ : Loc nD τ sig) → Buf (Elt Ideal) ℓ) (c : Dev nD)

/-- The three arguments. -/
abbrev argD : Vec Ideal S8192x2048 .f32 := m ((c : Thread nD τ).loc main_arg0)
abbrev argW : Vec Ideal S1024x2048 .f32 := m ((c : Thread nD τ).loc main_arg1)
abbrev argZ : Vec Ideal S8192x1024 .f32 := m ((c : Thread nD τ).loc main_arg2)

theorem host_d : (V m c main_v0 : Vec Ideal S8192x2048 .bf16) = argD m c := by
  show StableHlo.after hostOps0 (fun b => m (c, b)) (Proc.devRef .tc main_v0) = _
  simp only [hostOps0]
  after_results_simp
  all_goals rfl

theorem host_w : (V m c main_v1 : Vec Ideal S1024x2048 .bf16) = argW m c := by
  show StableHlo.after hostOps0 (fun b => m (c, b)) (Proc.devRef .tc main_v1) = _
  simp only [hostOps0]
  after_results_simp
  all_goals rfl

theorem at0 (t : Fin cfg0.N) : win0_0.index t 0 = t.val ∧ win0_0.index t 1 = 0 := by revert t; decide +kernel
theorem at1 (t : Fin cfg0.N) : win0_1.index t 0 = 0 ∧ win0_1.index t 1 = 0 := by revert t; decide +kernel
theorem at2 (t : Fin cfg0.N) : win0_2.index t 0 = t.val ∧ win0_2.index t 1 = 0 := by revert t; decide +kernel
theorem at3 (t : Fin cfg0.N) : win0_3.index t 0 = t.val ∧ win0_3.index t 1 = 0 := by revert t; decide +kernel

theorem rows_apply (t : Fin cfg0.N) (r : Fin 512) (k : Fin 2048) (q : Fin 8192) (hq : 512 * t.val + r.val = q.val) :
    (iblk m c 0 t : Vec Ideal S512x2048 .bf16) (ix2 r k) = argD m c (ix2 q k) := by
  unfold iblk
  rw [View.read_apply]
  refine Eq.trans ?_ (congrFun (host_d m c) _)
  show V m c main_v0 _ = _
  congr 1
  funext a
  apply Fin.ext
  have h := at0 t
  match a with
  | ⟨0, _⟩ => show win0_0.index t 0 * 512 + 1 * r.val = q.val; omega
  | ⟨1, _⟩ => show win0_0.index t 1 * 2048 + 1 * k.val = k.val; omega

theorem weights_apply (t : Fin cfg0.N) (l : Fin 1024) (k : Fin 2048) :
    (iblk m c 1 t : Vec Ideal S1024x2048 .bf16) (ix2 l k) = argW m c (ix2 l k) := by
  unfold iblk
  rw [View.read_apply]
  refine Eq.trans ?_ (congrFun (host_w m c) _)
  show V m c main_v1 _ = _
  congr 1
  funext a
  apply Fin.ext
  have h := at1 t
  match a with
  | ⟨0, _⟩ => show win0_1.index t 0 * 1024 + 1 * l.val = l.val; omega
  | ⟨1, _⟩ => show win0_1.index t 1 * 2048 + 1 * k.val = k.val; omega

theorem residual_apply (t : Fin cfg0.N) (r : Fin 512) (l : Fin 1024) (q : Fin 8192) (hq : 512 * t.val + r.val = q.val) :
    (iblk m c 2 t : Vec Ideal S512x1024 .f32) (ix2 r l) = argZ m c (ix2 q l) := by
  unfold iblk
  rw [View.read_apply]
  refine Eq.trans ?_ (congrFun (V_main_arg2 m c) _)
  show V m c main_arg2 _ = _
  congr 1
  funext a
  apply Fin.ext
  have h := at2 t
  match a with
  | ⟨0, _⟩ => show win0_2.index t 0 * 512 + 1 * r.val = q.val; omega
  | ⟨1, _⟩ => show win0_2.index t 1 * 1024 + 1 * l.val = l.val; omega

/-- An entry of the gradient. -/
def entry (r : Fin 8192) (l : Fin 1024) : EReal :=
  ∑ k : Fin 2048, argD m c (ix2 r k) * argW m c (ix2 l k) + Ideal.ofBits .f32 0x3FD744FD#32 * argZ m c (ix2 r l)

/-- The same with the residual first, as the reference has it. -/
theorem entry_eq (r : Fin 8192) (l : Fin 1024) :
    entry m c r l = Ideal.ofBits .f32 0x3FD744FD#32 * argZ m c (ix2 r l) + ∑ k : Fin 2048, argD m c (ix2 r k) * argW m c (ix2 l k) :=
  add_comm _ _

/-- The array the call leaves. -/
theorem array (i : S8192x1024.Idx) : ∀ (r : Fin 8192) (l : Fin 1024), (i 0).val = r.val → (i 1).val = l.val →
    ((dats m 0 c).arrAt 3 cfg0.N : Vec Ideal S8192x1024 .f32) i = entry m c r l := by
  refine (dats m 0 c).arrAt_forall_of_covers 3
    (fun i v => ∀ (r : Fin 8192) (l : Fin 1024), (i 0).val = r.val → (i 1).val = l.val → v = entry m c r l)
    (by decide +kernel) (fun t hf y r l hr hl => ?_) i
  rw [after0_3]
  have h3 := at3 t
  have hr : win0_3.index t 0 * 512 + 1 * (y 0).val = r.val := hr
  have hl : win0_3.index t 1 * 1024 + 1 * (y 1).val = l.val := hl
  have h : out0_3 (iblk m c 0 t) (iblk m c 1 t) (iblk m c 2 t) (ix2 ⟨(y 0).val, (y 0).isLt⟩ l) = entry m c r l :=
    (tile_apply _ _ _ _ _).trans (congrArg₂ (· + ·) (sum_congr rfl fun k _ => by
      rw [rows_apply m c t _ k r (by dsimp only; omega), weights_apply m c t l k])
      (by rw [residual_apply m c t _ l r (by dsimp only; omega)]))
  have e : y = (ix2 (⟨(y 0).val, (y 0).isLt⟩ : Fin 512) l : S512x1024.Idx) := by
    funext a
    apply Fin.ext
    match a with
    | ⟨0, _⟩ => rfl
    | ⟨1, _⟩ => show (y 1).val = l.val; omega
  generalize out0_3 (iblk m c 0 t) (iblk m c 1 t) (iblk m c 2 t) = f at h ⊢
  exact Eq.trans (congrArg f e) h

end Cert.Kernel12Ideal.Lru

namespace Cert.Proof.LruBack

open Cert.Reference12Ideal Cert.Reference12Ideal.Gen Idealize.ShloMosaic Idealize.ShloMosaic.TcCoe Idealize.SL.Sem Finset

def gradient (d : FVec Ideal S8192x2048 .f32) (w : FVec Ideal S1024x2048 .f32) (z : FVec Ideal S8192x1024 .f32) : FVec Ideal S8192x1024 .f32 :=
  addf (mulf (broadcastInDim S8192x1024 ![] bcast_S_S8192x1024 (constant S_ .f32 0x3FD744FD#32)) z)
    (Host.dotGeneral dot_S8192x2048_S1024x2048_S8192x1024_1_1_0_0_n_n none d w)

theorem gradient_apply (d : FVec Ideal S8192x2048 .f32) (w : FVec Ideal S1024x2048 .f32) (z : FVec Ideal S8192x1024 .f32) (r : Fin 8192)
    (l : Fin 1024) : gradient d w z (ix2 r l)
      = Ideal.ofBits .f32 0x3FD744FD#32 * z (ix2 r l) + ∑ k : Fin 2048, d (ix2 r k) * w (ix2 l k) := by
  unfold gradient
  pointwise

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
          = gradient (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference12Ideal.Value.run m ρ

/-- The kernel's blocks are the reference's gradient. -/
theorem rows (m : (ℓ : Loc Cert.Kernel12Ideal.nD Cert.Kernel12Ideal.τ Cert.Kernel12Ideal.sig) → Buf (Elt Ideal) ℓ) (c : Dev Cert.Kernel12Ideal.nD)
    (d : FVec Ideal S8192x2048 .f32) (w : FVec Ideal S1024x2048 .f32) (z : FVec Ideal S8192x1024 .f32)
    (hd : m ((c : Thread Cert.Kernel12Ideal.nD Cert.Kernel12Ideal.τ).loc Cert.Kernel12Ideal.main_arg0) = d)
    (hw : m ((c : Thread Cert.Kernel12Ideal.nD Cert.Kernel12Ideal.τ).loc Cert.Kernel12Ideal.main_arg1) = w)
    (hz : m ((c : Thread Cert.Kernel12Ideal.nD Cert.Kernel12Ideal.τ).loc Cert.Kernel12Ideal.main_arg2) = z) :
    ((Cert.Kernel12Ideal.Gen.dats m 0 c).arrAt 3 Cert.Kernel12Ideal.cfg0.N : FVec Ideal S8192x1024 .f32) = gradient d w z := by
  subst hd hw hz
  funext i
  rw [eq_ix2 i]
  exact (Cert.Kernel12Ideal.Lru.array m c _ _ _ rfl rfl).trans ((Cert.Kernel12Ideal.Lru.entry_eq m c _ _).trans (gradient_apply _ _ _ _ _).symm)

/-- Both programs run, and end with the same gradient. -/
theorem algebraic : Cert.algebraic_Kernel12Ideal_Reference12Ideal := by
  intro m ρ m' ρ' _ hm
  have res := fun c : Dev Cert.Kernel12Ideal.nD => rows m c _ _ _ (hm c).1.symm (hm c).2.1.symm (hm c).2.2.symm
  refine ⟨fun c => (Cert.Kernel12Ideal.Gen.dats m 0 c).arrAt 3 Cert.Kernel12Ideal.cfg0.N, Cert.Kernel12Ideal.Value.run_blocks m ρ, ?_⟩
  exact (θ_run Cert.Reference12Ideal.defs _ _).mono
    (fun r h c => ⟨(h c).1.trans (res c).symm, (h c).2⟩) (reference m' ρ')

end Cert.Proof.LruBack

end
-- ==== Proof.LruDw.lean ====
/- The gradient of the weights of the recurrent block's input projection: four grid points add up a block of columns, and the eight shards hold the whole product. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.IdealHost
public import Idealize.ShloMosaic.Lib.Ring
public import Idealize.ShloMosaic.Lib.Tactic

@[expose] public section

noncomputable section

namespace Cert.Kernel13Ideal.Dw

open Cert.Kernel13Ideal Cert.Kernel13Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- One step adds a block's product. -/
theorem step_apply (acc : Vec Ideal S1024x1024 .f32) (x : Vec Ideal S2048x1024 .bf16) (d : Vec Ideal S2048x1024 .bf16) (r : Fin 1024) (l : Fin 1024) :
    k0_pay2 (F := Ideal) acc x d (ix2 r l) = acc (ix2 r l) + ∑ k : Fin 2048, x (ix2 k r) * d (ix2 k l) := by
  unfold k0_pay2
  pointwise

theorem zero_apply (r : Fin 1024) (l : Fin 1024) : k0_pay1 (F := Ideal) (ix2 r l) = 0 := by
  unfold k0_pay1
  pointwise

/-- A shard is its part of the sum. -/
theorem shard_apply (x : Vec Ideal S1024x256 .f32) (z : S1x1024x256.Idx) (r : Fin 1024) (l : Fin 256) (hr : r.val = 0 + (z 1).val)
    (hl : l.val = 0 + (z 2).val) : k0_pay3 (F := Ideal) x z = x (ix2 r l) := by
  have h0 : (z 0).val < 1 := (z 0).isLt
  have e : z = (ix3 (0 : Fin 1) r l : S1x1024x256.Idx) := by
    funext a
    apply Fin.ext
    match a with
    | ⟨0, _⟩ => show (z 0).val = 0; omega
    | ⟨1, _⟩ => show (z 1).val = r.val; omega
    | ⟨2, _⟩ => show (z 2).val = l.val; omega
  rw [e]
  unfold k0_pay3
  pointwise

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S4x1024x256 .f32) (h5 : a5.IsWhole)
  (a6 : Memref sig .tc .vmem S1024x1024 .f32) (h6 : a6.IsWhole) (x : Vec Ideal S2048x1024 .bf16) (d : Vec Ideal S2048x1024 .bf16)

/-- The first point of a block resets and adds. -/
theorem first (hc0 : cond0_0 i) (hc1 : ¬cond0_1 i) :
    sout0_A_0 c i a3 h3 a4 h4 a5 h5 a6 h6 hc0 hc1 x d = k0_pay2 (F := Ideal) (k0_pay1 (F := Ideal)) x d := by
  unfold sout0_A_0
  rw [View.read_writes_eq_canon _ _ _ (scover0_A_0 c i a3 h3 a4 h4 a5 h5 a6 h6 hc0 hc1 x d)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2, View.ld_unit_zero (S := S2048x1024) zero2]

/-- A middle point adds. -/
theorem middle (hc0 : ¬cond0_0 i) (hc1 : ¬cond0_1 i) (acc : Vec Ideal S1024x1024 .f32) :
    sout0_B_0 c i a3 h3 a4 h4 a5 h5 a6 h6 hc0 hc1 x d acc = k0_pay2 (F := Ideal) acc x d := by
  unfold sout0_B_0
  rw [View.read_writes_eq_canon _ _ _ (scover0_B_0 c i a3 h3 a4 h4 a5 h5 a6 h6 hc0 hc1 x d acc)]
  unfold kernelRun0_B
  dsimp only
  sl_unfold_words
  rw [View.canon_unit_zero (S := S1024x1024) zero2]
  simp only [View.readAt_eq_ld, h3.read_unread, h4.read_unread, h6.read_unread, View.ld_unit_zero (S := S2048x1024) zero2,
    View.ld_unit_zero (S := S2048x1024) zero2, View.ld_unit_zero (S := S1024x1024) zero2]

/-- The last point adds and cuts the sum into its four shards. -/
theorem last (hc0 : ¬cond0_0 i) (hc1 : cond0_1 i) (acc : Vec Ideal S1024x1024 .f32) (p : Fin 4) (r : Fin 1024) (l : Fin 256) :
    out0_C_2 c i a3 h3 a4 h4 a5 h5 a6 h6 hc0 hc1 x d acc (ix3 p r l)
      = k0_pay2 (F := Ideal) acc x d (ix2 r ⟨256 * p + l, by omega⟩) := by
  unfold out0_C_2
  have hcov := cover0_C_2 c i a3 h3 a4 h4 a5 h5 a6 h6 hc0 hc1 x d acc
  rw [View.read_writes_eq_canon _ _ _ hcov]
  refine View.canon_eq_of_allAt _ _ _ (hcov _) ?_
  unfold kernelRun0_C
  dsimp only
  sl_unfold_words
  simp only [View.readAt_eq_ld, h3.read_unread, h4.read_unread, h6.read_unread, View.ld_unit_zero (S := S2048x1024) zero2,
    View.ld_unit_zero (S := S2048x1024) zero2, View.ld_unit_zero (S := S1024x1024) zero2]
  generalize k0_pay2 (F := Ideal) acc x d = y
  refine View.allAt_cons_unit _ _ _ _ _ ?_ (View.allAt_cons_unit _ _ _ _ _ ?_
    (View.allAt_cons_unit _ _ _ _ _ ?_ (View.allAt_cons_unit _ _ _ _ _ ?_ (View.allAt_nil _ _))))
  all_goals
    intro z hz
    have hp : (z 0).val < 1 := (z 0).isLt
    refine (shard_apply _ z r l (hz 1) (hz 2)).trans ?_
    rw [View.readCov_eq_canon', View.canon_unit_zero (S := S1024x1024) zero2]
    refine congrArg y (funext fun a => Fin.ext ?_)
    match a with
    | ⟨0, _⟩ => show 0 + 1 * r.val = r.val; omega
    | ⟨1, _⟩ =>
      first
        | (have h : p.val = 3 + (z 0).val := hz 0
           show 768 + 1 * l.val = 256 * p.val + l.val
           omega)
        | (have h : p.val = 2 + (z 0).val := hz 0
           show 512 + 1 * l.val = 256 * p.val + l.val
           omega)
        | (have h : p.val = 1 + (z 0).val := hz 0
           show 256 + 1 * l.val = 256 * p.val + l.val
           omega)
        | (have h : p.val = 0 + (z 0).val := hz 0
           show 0 + 1 * l.val = 256 * p.val + l.val
           omega)

end

variable (m : (ℓ : Loc nD τ sig) → Buf (Elt Ideal) ℓ) (c : Dev nD)

/-- The two arguments. -/
abbrev argX : Vec Ideal S8192x1024 .f32 := m ((c : Thread nD τ).loc main_arg0)
abbrev argD : Vec Ideal S8192x2048 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_d : (V m c main_v1 : Vec Ideal S8192x2048 .bf16) = argD m c := by
  show StableHlo.after hostOps0 (fun b => m (c, b)) (Proc.devRef .tc main_v1) = _
  simp only [hostOps0]
  after_results_simp
  all_goals rfl

theorem lt8 (t : Fin cfg0.N) : t.val < 8 := t.isLt

theorem at0 (t : Fin cfg0.N) : win0_0.index t 0 = t.val % 4 ∧ win0_0.index t 1 = 0 := by revert t; decide +kernel
theorem at1 (t : Fin cfg0.N) : win0_1.index t 0 = t.val % 4 ∧ win0_1.index t 1 = t.val / 4 := by revert t; decide +kernel
theorem at2 (t : Fin cfg0.N) : win0_2.index t 0 = t.val / 4 ∧ win0_2.index t 1 = 0 ∧ win0_2.index t 2 = 0 := by revert t; decide +kernel

theorem rows_apply (t : Fin cfg0.N) (r : Fin 2048) (l : Fin 1024) :
    (iblk m c 0 t : Vec Ideal S2048x1024 .bf16) (ix2 r l) = argX m c (ix2 ⟨2048 * (t.val % 4) + r, by omega⟩ l) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 2048 + 1 * r.val = 2048 * (t.val % 4) + r.val
              omega
  | ⟨1, _⟩ => show win0_0.index t 1 * 1024 + 1 * l.val = l.val
              omega

theorem grads_apply (t : Fin cfg0.N) (r : Fin 2048) (l : Fin 1024) :
    (iblk m c 1 t : Vec Ideal S2048x1024 .bf16) (ix2 r l)
      = argD m c (ix2 ⟨2048 * (t.val % 4) + r, by omega⟩ ⟨1024 * (t.val / 4) + l, by have := lt8 t; omega⟩) := by
  unfold iblk
  rw [View.read_apply]
  refine Eq.trans ?_ (congrFun (host_d m c) _)
  show V m c main_v1 _ = _
  congr 1
  funext a
  apply Fin.ext
  have h := at1 t
  match a with
  | ⟨0, _⟩ => show win0_1.index t 0 * 2048 + 1 * r.val = 2048 * (t.val % 4) + r.val
              omega
  | ⟨1, _⟩ => show win0_1.index t 1 * 1024 + 1 * l.val = 1024 * (t.val / 4) + l.val
              omega

/-- One row's contribution to the entry of column `j` of shard `s` in input lane `r`. -/
def term (s : Fin 8) (r : Fin 1024) (j : Fin 256) (k : ℕ) : EReal :=
  if h : k < 8192 then argX m c (ix2 ⟨k, h⟩ r) * argD m c (ix2 ⟨k, h⟩ ⟨256 * s + j, by omega⟩) else 0

/-- A step of point `t` adds the next 2048 rows. -/
theorem step_rows (t : Fin cfg0.N) (acc : Vec Ideal S1024x1024 .f32) (p : Fin 4) (r : Fin 1024) (j : Fin 256)
    (hs : 4 * (t.val / 4) + p < 8) :
    k0_pay2 (F := Ideal) acc (iblk m c 0 t) (iblk m c 1 t) (ix2 r ⟨256 * p + j, by omega⟩)
      = acc (ix2 r ⟨256 * p + j, by omega⟩)
        + ∑ k ∈ range 2048, term m c ⟨4 * (t.val / 4) + p, hs⟩ r j (2048 * (t.val % 4) + k) := by
  refine (step_apply acc (iblk m c 0 t) (iblk m c 1 t) r ⟨256 * p + j, by omega⟩).trans ?_
  rw [← Fin.sum_univ_eq_sum_range (fun k => term m c ⟨4 * (t.val / 4) + p, hs⟩ r j (2048 * (t.val % 4) + k)) 2048]
  refine congrArg₂ (· + ·) rfl (sum_congr rfl fun k _ => ?_)
  unfold term
  rw [dif_pos (show 2048 * (t.val % 4) + k.val < 8192 by omega)]
  refine congrArg₂ (· * ·) (rows_apply m c t k r) ((grads_apply m c t k _).trans (congrArg (argD m c) ?_))
  have ht := lt8 t
  funext a
  apply Fin.ext
  match a with
  | ⟨0, _⟩ => rfl
  | ⟨1, _⟩ => show 1024 * (t.val / 4) + (256 * p.val + j.val) = 256 * (4 * (t.val / 4) + p.val) + j.val; omega

/-- The running sum before the block's last point: the rows so far. -/
theorem sum_rows : ∀ (n : ℕ) (h : n < cfg0.N) (p : Fin 4) (r : Fin 1024) (j : Fin 256) (hs : 4 * (n / 4) + p < 8), n % 4 ≠ 3 →
    (outsAt0 m c n h).2 (ix2 r ⟨256 * p + j, by omega⟩)
      = ∑ k ∈ range (2048 * (n % 4 + 1)), term m c ⟨4 * (n / 4) + p, hs⟩ r j k
  | 0, h, p, r, j, hs, _ => by
    rw [outsAt0_A m c ⟨0, h⟩ rfl (by dsimp only; omega)]
    dsimp only
    rw [first, step_rows m c ⟨0, h⟩ _ p r j hs, zero_apply, zero_add]
    simp
  | n + 1, h, p, r, j, hs, h3 => by
    by_cases h0 : (n + 1) % 4 = 0
    · rw [outsAt0_A m c ⟨n + 1, h⟩ h0 h3]
      dsimp only
      rw [first, step_rows m c ⟨n + 1, h⟩ _ p r j hs, zero_apply, zero_add]
      simp [h0]
    · rw [outsAt0_B m c ⟨n + 1, h⟩ h0 h3]
      dsimp only
      rw [middle, step_rows m c ⟨n + 1, h⟩ _ p r j hs]
      have hn := sum_rows n (Nat.lt_of_succ_lt h) p r j (by omega) (by omega)
      have e1 : 2048 * ((n + 1) % 4 + 1) = 2048 * (n % 4 + 1) + 2048 := by omega
      have e2 : 2048 * ((n + 1) % 4) = 2048 * (n % 4 + 1) := by omega
      have e3 : (⟨4 * ((n + 1) / 4) + p, hs⟩ : Fin 8) = ⟨4 * (n / 4) + p, by omega⟩ := Fin.ext (by dsimp only; omega)
      rw [e1, sum_range_add, e3]
      dsimp only
      rw [e2]
      exact congrArg₂ (· + ·) hn rfl

/-- What the block's last point leaves in its four shards: all the rows. -/
theorem shards (t : Fin cfg0.N) (h3 : t.val % 4 = 3) (p : Fin 4) (r : Fin 1024) (j : Fin 256) (hs : 4 * (t.val / 4) + p < 8) :
    (outsAt0 m c t.val t.isLt).1 (ix3 p r j) = ∑ k ∈ range 8192, term m c ⟨4 * (t.val / 4) + p, hs⟩ r j k := by
  rw [outsAt0_C m c t (by omega) h3]
  dsimp only
  rw [last, step_rows m c t _ p r j hs]
  have hn := sum_rows m c (t.val - 1) (by have := t.isLt; omega) p r j (by omega) (by omega)
  have e2 : 2048 * (t.val % 4) = 2048 * ((t.val - 1) % 4 + 1) := by omega
  have e1 : 8192 = 2048 * ((t.val - 1) % 4 + 1) + 2048 := by omega
  have e3 : (⟨4 * (t.val / 4) + p, hs⟩ : Fin 8) = ⟨4 * ((t.val - 1) / 4) + p, by omega⟩ := Fin.ext (by dsimp only; omega)
  rw [e1, sum_range_add, e3, e2]
  exact congrArg₂ (· + ·) hn rfl

/-- The array the call leaves. -/
theorem array (i : S8x1024x256.Idx) :
    ((dats m 0 c).arrAt 2 cfg0.N : Vec Ideal S8x1024x256 .f32) i = ∑ k ∈ range 8192, term m c (i 0) (i 1) (i 2) k := by
  refine (dats m 0 c).arrAt_forall_of_covers 2 (fun i v => v = ∑ k ∈ range 8192, term m c (i 0) (i 1) (i 2) k)
    (by decide +kernel) (fun t hf y => ?_) i
  rw [after0_2]
  have ht := lt8 t
  have h3 := (flush0_2 t).mp hf
  have h := at2 t
  have hy0 : (y 0).val < 4 := (y 0).isLt
  have hy1 : (y 1).val < 1024 := (y 1).isLt
  have hy2 : (y 2).val < 256 := (y 2).isLt
  refine Eq.trans (congrArg (outsAt0 m c t.val t.isLt).1 (?_ : _ = ix3 (⟨(y 0).val, hy0⟩ : Fin 4) (⟨(y 1).val, hy1⟩ : Fin 1024) (⟨(y 2).val, hy2⟩ : Fin 256)))
    ((shards m c t h3 ⟨(y 0).val, hy0⟩ ⟨(y 1).val, hy1⟩ ⟨(y 2).val, hy2⟩ (by show 4 * (t.val / 4) + (y 0).val < 8; omega)).trans ?_)
  · funext a
    apply Fin.ext
    match a with
    | ⟨0, _⟩ => rfl
    | ⟨1, _⟩ => rfl
    | ⟨2, _⟩ => rfl
  · have e0 : (⟨4 * (t.val / 4) + (y 0).val, by omega⟩ : Fin 8) = ((cfg0.win 2).blk t).view.emb y 0 := Fin.ext (by
      show 4 * (t.val / 4) + (y 0).val = win0_2.index t 0 * 4 + 1 * (y 0).val; omega)
    have e1 : (⟨(y 1).val, hy1⟩ : Fin 1024) = ((cfg0.win 2).blk t).view.emb y 1 := Fin.ext (by
      show (y 1).val = win0_2.index t 1 * 1024 + 1 * (y 1).val; omega)
    have e2 : (⟨(y 2).val, hy2⟩ : Fin 256) = ((cfg0.win 2).blk t).view.emb y 2 := Fin.ext (by
      show (y 2).val = win0_2.index t 2 * 256 + 1 * (y 2).val; omega)
    exact sum_congr rfl fun k _ => by rw [← e0, ← e1, ← e2]

end Cert.Kernel13Ideal.Dw

namespace Cert.Proof.LruWeights

open Cert.Reference13Ideal Cert.Reference13Ideal.Gen Idealize.ShloMosaic Idealize.ShloMosaic.TcCoe Idealize.SL.Sem Finset

/-- The whole product in its eight shards. -/
def product (x : FVec Ideal S8192x1024 .f32) (y : FVec Ideal S8192x2048 .f32) : FVec Ideal S8x1024x256 .f32 :=
  transpose S8x1024x256 [1, 0, 2] (shapeCast _ (transpose S1024x2048 [1, 0]
    (Host.dotGeneral dot_S8192x2048_S8192x1024_S2048x1024_0_0_1_1_n_n none y x) transposes_S2048x1024_S1024x2048_1_0)
    shapeCasts_S1024x2048_S1024x8x256) transposes_S1024x8x256_S8x1024x256_1_0_2

theorem product_apply (x : FVec Ideal S8192x1024 .f32) (y : FVec Ideal S8192x2048 .f32) (s : Fin 8) (r : Fin 1024) (j : Fin 256) :
    product x y (ix3 s r j) = ∑ k : Fin 8192, y (ix2 k ⟨256 * s + j, by omega⟩) * x (ix2 k r) := by
  unfold product
  pointwise
  have e : (⟨s.val * 256 + j.val, by omega⟩ : Fin 2048) = ⟨256 * s + j, by omega⟩ := Fin.ext (by dsimp only; omega)
  exact sum_congr rfl fun k _ => by rw [e]

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference13Ideal.Value.run m ρ

/-- The kernel's eight shards are the reference's. -/
theorem shards (m : (ℓ : Loc Cert.Kernel13Ideal.nD Cert.Kernel13Ideal.τ Cert.Kernel13Ideal.sig) → Buf (Elt Ideal) ℓ) (c : Dev Cert.Kernel13Ideal.nD)
    (x : FVec Ideal S8192x1024 .f32) (d : FVec Ideal S8192x2048 .f32)
    (hx : m ((c : Thread Cert.Kernel13Ideal.nD Cert.Kernel13Ideal.τ).loc Cert.Kernel13Ideal.main_arg0) = x)
    (hd : m ((c : Thread Cert.Kernel13Ideal.nD Cert.Kernel13Ideal.τ).loc Cert.Kernel13Ideal.main_arg1) = d) :
    ((Cert.Kernel13Ideal.Gen.dats m 0 c).arrAt 2 Cert.Kernel13Ideal.cfg0.N : FVec Ideal S8x1024x256 .f32) = product x d := by
  funext i
  rw [eq_ix3 i]
  refine (Cert.Kernel13Ideal.Dw.array m c _).trans ((product_apply x _ _ _ _).trans ?_).symm
  rw [← Fin.sum_univ_eq_sum_range]
  refine sum_congr rfl fun k _ => ?_
  subst hx hd
  unfold Cert.Kernel13Ideal.Dw.term
  rw [dif_pos k.isLt, mul_comm]
  rfl

/-- Both programs run, and end with the same shards. -/
theorem algebraic : Cert.algebraic_Kernel13Ideal_Reference13Ideal := by
  intro m ρ m' ρ' _ hm
  have res := fun c : Dev Cert.Kernel13Ideal.nD => shards m c _ _ (hm c).1.symm (hm c).2.symm
  refine ⟨fun c => (Cert.Kernel13Ideal.Gen.dats m 0 c).arrAt 2 Cert.Kernel13Ideal.cfg0.N, Cert.Kernel13Ideal.Value.run_blocks m ρ, ?_⟩
  exact (θ_run Cert.Reference13Ideal.defs _ _).mono
    (fun r h c => ⟨(h c).1.trans (res c).symm, (h c).2⟩) (reference m' ρ')

end Cert.Proof.LruWeights

end
-- ==== Proof.ProjDw.lean ====
/- The gradient of the weights of the attention's input projection: four grid points add up a block of columns, and the eight shards hold the whole product. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.IdealHost
public import Idealize.ShloMosaic.Lib.Ring
public import Idealize.ShloMosaic.Lib.Tactic

@[expose] public section

noncomputable section

namespace Cert.Kernel14Ideal.Dw

open Cert.Kernel14Ideal Cert.Kernel14Ideal.Gen Idealize.ShloMosaic Idealize.ShloMosaic.TcCoe Idealize.SL.Sem Finset
open Idealize.ShloMosaic.Pipeline (Dat)

theorem zero2 : (![0, 0] : Fin 2 → Nat) = fun _ => 0 := funext fun a => by fin_cases a <;> rfl

/-- One step adds a block's product. -/
theorem step_apply (acc : Vec Ideal S1024x768 .f32) (x : Vec Ideal S2048x1024 .bf16) (d : Vec Ideal S2048x768 .bf16) (r : Fin 1024) (l : Fin 768) :
    k0_pay2 (F := Ideal) acc x d (ix2 r l) = acc (ix2 r l) + ∑ k : Fin 2048, x (ix2 k r) * d (ix2 k l) := by
  unfold k0_pay2
  pointwise

theorem zero_apply (r : Fin 1024) (l : Fin 768) : k0_pay1 (F := Ideal) (ix2 r l) = 0 := by
  unfold k0_pay1
  pointwise

/-- A shard is its part of the sum. -/
theorem shard_apply (x : Vec Ideal S1024x192 .f32) (z : S1x1024x192.Idx) (r : Fin 1024) (l : Fin 192) (hr : r.val = 0 + (z 1).val)
    (hl : l.val = 0 + (z 2).val) : k0_pay3 (F := Ideal) x z = x (ix2 r l) := by
  have h0 : (z 0).val < 1 := (z 0).isLt
  have e : z = (ix3 (0 : Fin 1) r l : S1x1024x192.Idx) := by
    funext a
    apply Fin.ext
    match a with
    | ⟨0, _⟩ => show (z 0).val = 0; omega
    | ⟨1, _⟩ => show (z 1).val = r.val; omega
    | ⟨2, _⟩ => show (z 2).val = l.val; omega
  rw [e]
  unfold k0_pay3
  pointwise

section
variable (c : Dev nD) (i : grid0.Coords) (a3 : Memref sig .tc .vmem S2048x1024 .bf16) (h3 : a3.IsWhole)
  (a4 : Memref sig .tc .vmem S2048x768 .bf16) (h4 : a4.IsWhole) (a5 : Memref sig .tc .vmem S4x1024x192 .f32) (h5 : a5.IsWhole)
  (a6 : Memref sig .tc .vmem S1024x768 .f32) (h6 : a6.IsWhole) (x : Vec Ideal S2048x1024 .bf16) (d : Vec Ideal S2048x768 .bf16)

/-- The first point of a block resets and adds. -/
theorem first (hc0 : cond0_0 i) (hc1 : ¬cond0_1 i) :
    sout0_A_0 c i a3 h3 a4 h4 a5 h5 a6 h6 hc0 hc1 x d = k0_pay2 (F := Ideal) (k0_pay1 (F := Ideal)) x d := by
  unfold sout0_A_0
  rw [View.read_writes_eq_canon _ _ _ (scover0_A_0 c i a3 h3 a4 h4 a5 h5 a6 h6 hc0 hc1 x d)]
  unfold kernelRun0_A
  dsimp only
  sl_unfold_words
  rw [View.canon_cons_unit_zero (S := S1024x768) zero2, View.readCov_unit_zero (S := S1024x768) _ zero2]
  simp only [View.readAt_eq_ld, h3.read_unread, h4.read_unread, View.ld_unit_zero (S := S2048x1024) zero2, View.ld_unit_zero (S := S2048x768) zero2]

/-- A middle point adds. -/
theorem middle (hc0 : ¬cond0_0 i) (hc1 : ¬cond0_1 i) (acc : Vec Ideal S1024x768 .f32) :
    sout0_B_0 c i a3 h3 a4 h4 a5 h5 a6 h6 hc0 hc1 x d acc = k0_pay2 (F := Ideal) acc x d := by
  unfold sout0_B_0
  rw [View.read_writes_eq_canon _ _ _ (scover0_B_0 c i a3 h3 a4 h4 a5 h5 a6 h6 hc0 hc1 x d acc)]
  unfold kernelRun0_B
  dsimp only
  sl_unfold_words
  rw [View.canon_unit_zero (S := S1024x768) zero2]
  simp only [View.readAt_eq_ld, h3.read_unread, h4.read_unread, h6.read_unread, View.ld_unit_zero (S := S2048x1024) zero2,
    View.ld_unit_zero (S := S2048x768) zero2, View.ld_unit_zero (S := S1024x768) zero2]

/-- The last point adds and cuts the sum into its four shards. -/
theorem last (hc0 : ¬cond0_0 i) (hc1 : cond0_1 i) (acc : Vec Ideal S1024x768 .f32) (p : Fin 4) (r : Fin 1024) (l : Fin 192) :
    out0_C_2 c i a3 h3 a4 h4 a5 h5 a6 h6 hc0 hc1 x d acc (ix3 p r l)
      = k0_pay2 (F := Ideal) acc x d (ix2 r ⟨192 * p + l, by omega⟩) := by
  unfold out0_C_2
  have hcov := cover0_C_2 c i a3 h3 a4 h4 a5 h5 a6 h6 hc0 hc1 x d acc
  rw [View.read_writes_eq_canon _ _ _ hcov]
  refine View.canon_eq_of_allAt _ _ _ (hcov _) ?_
  unfold kernelRun0_C
  dsimp only
  sl_unfold_words
  simp only [View.readAt_eq_ld, h3.read_unread, h4.read_unread, h6.read_unread, View.ld_unit_zero (S := S2048x1024) zero2,
    View.ld_unit_zero (S := S2048x768) zero2, View.ld_unit_zero (S := S1024x768) zero2]
  generalize k0_pay2 (F := Ideal) acc x d = y
  refine View.allAt_cons_unit _ _ _ _ _ ?_ (View.allAt_cons_unit _ _ _ _ _ ?_
    (View.allAt_cons_unit _ _ _ _ _ ?_ (View.allAt_cons_unit _ _ _ _ _ ?_ (View.allAt_nil _ _))))
  all_goals
    intro z hz
    have hp : (z 0).val < 1 := (z 0).isLt
    refine (shard_apply _ z r l (hz 1) (hz 2)).trans ?_
    rw [View.readCov_eq_canon', View.canon_unit_zero (S := S1024x768) zero2]
    refine congrArg y (funext fun a => Fin.ext ?_)
    match a with
    | ⟨0, _⟩ => show 0 + 1 * r.val = r.val; omega
    | ⟨1, _⟩ =>
      first
        | (have h : p.val = 3 + (z 0).val := hz 0
           show 576 + 1 * l.val = 192 * p.val + l.val
           omega)
        | (have h : p.val = 2 + (z 0).val := hz 0
           show 384 + 1 * l.val = 192 * p.val + l.val
           omega)
        | (have h : p.val = 1 + (z 0).val := hz 0
           show 192 + 1 * l.val = 192 * p.val + l.val
           omega)
        | (have h : p.val = 0 + (z 0).val := hz 0
           show 0 + 1 * l.val = 192 * p.val + l.val
           omega)

end

variable (m : (ℓ : Loc nD τ sig) → Buf (Elt Ideal) ℓ) (c : Dev nD)

/-- The two arguments. -/
abbrev argX : Vec Ideal S8192x1024 .f32 := m ((c : Thread nD τ).loc main_arg0)
abbrev argD : Vec Ideal S8192x1536 .f32 := m ((c : Thread nD τ).loc main_arg1)

theorem host_x : (V m c main_v0 : Vec Ideal S8192x1024 .bf16) = argX m c := by
  show StableHlo.after hostOps0 (fun b => m (c, b)) (Proc.devRef .tc main_v0) = _
  simp only [hostOps0]
  after_results_simp
  all_goals rfl

theorem host_d : (V m c main_v1 : Vec Ideal S8192x1536 .bf16) = argD m c := by
  show StableHlo.after hostOps0 (fun b => m (c, b)) (Proc.devRef .tc main_v1) = _
  simp only [hostOps0]
  after_results_simp
  all_goals rfl

theorem lt8 (t : Fin cfg0.N) : t.val < 8 := t.isLt

theorem at0 (t : Fin cfg0.N) : win0_0.index t 0 = t.val % 4 ∧ win0_0.index t 1 = 0 := by revert t; decide +kernel
theorem at1 (t : Fin cfg0.N) : win0_1.index t 0 = t.val % 4 ∧ win0_1.index t 1 = t.val / 4 := by revert t; decide +kernel
theorem at2 (t : Fin cfg0.N) : win0_2.index t 0 = t.val / 4 ∧ win0_2.index t 1 = 0 ∧ win0_2.index t 2 = 0 := by revert t; decide +kernel

theorem rows_apply (t : Fin cfg0.N) (r : Fin 2048) (l : Fin 1024) :
    (iblk m c 0 t : Vec Ideal S2048x1024 .bf16) (ix2 r l) = argX m c (ix2 ⟨2048 * (t.val % 4) + r, by omega⟩ l) := by
  unfold iblk
  rw [View.read_apply]
  refine Eq.trans ?_ (congrFun (host_x m c) _)
  show V m c main_v0 _ = _
  congr 1
  funext a
  apply Fin.ext
  have h := at0 t
  match a with
  | ⟨0, _⟩ => show win0_0.index t 0 * 2048 + 1 * r.val = 2048 * (t.val % 4) + r.val
              omega
  | ⟨1, _⟩ => show win0_0.index t 1 * 1024 + 1 * l.val = l.val
              omega

theorem grads_apply (t : Fin cfg0.N) (r : Fin 2048) (l : Fin 768) :
    (iblk m c 1 t : Vec Ideal S2048x768 .bf16) (ix2 r l)
      = argD m c (ix2 ⟨2048 * (t.val % 4) + r, by omega⟩ ⟨768 * (t.val / 4) + l, by have := lt8 t; omega⟩) := by
  unfold iblk
  rw [View.read_apply]
  refine Eq.trans ?_ (congrFun (host_d m c) _)
  show V m c main_v1 _ = _
  congr 1
  funext a
  apply Fin.ext
  have h := at1 t
  match a with
  | ⟨0, _⟩ => show win0_1.index t 0 * 2048 + 1 * r.val = 2048 * (t.val % 4) + r.val
              omega
  | ⟨1, _⟩ => show win0_1.index t 1 * 768 + 1 * l.val = 768 * (t.val / 4) + l.val
              omega

/-- One row's contribution to the entry of column `j` of shard `s` in input lane `r`. -/
def term (s : Fin 8) (r : Fin 1024) (j : Fin 192) (k : ℕ) : EReal :=
  if h : k < 8192 then argX m c (ix2 ⟨k, h⟩ r) * argD m c (ix2 ⟨k, h⟩ ⟨192 * s + j, by omega⟩) else 0

/-- A step of point `t` adds the next 2048 rows. -/
theorem step_rows (t : Fin cfg0.N) (acc : Vec Ideal S1024x768 .f32) (p : Fin 4) (r : Fin 1024) (j : Fin 192)
    (hs : 4 * (t.val / 4) + p < 8) :
    k0_pay2 (F := Ideal) acc (iblk m c 0 t) (iblk m c 1 t) (ix2 r ⟨192 * p + j, by omega⟩)
      = acc (ix2 r ⟨192 * p + j, by omega⟩)
        + ∑ k ∈ range 2048, term m c ⟨4 * (t.val / 4) + p, hs⟩ r j (2048 * (t.val % 4) + k) := by
  refine (step_apply acc (iblk m c 0 t) (iblk m c 1 t) r ⟨192 * p + j, by omega⟩).trans ?_
  rw [← Fin.sum_univ_eq_sum_range (fun k => term m c ⟨4 * (t.val / 4) + p, hs⟩ r j (2048 * (t.val % 4) + k)) 2048]
  refine congrArg₂ (· + ·) rfl (sum_congr rfl fun k _ => ?_)
  unfold term
  rw [dif_pos (show 2048 * (t.val % 4) + k.val < 8192 by omega)]
  refine congrArg₂ (· * ·) (rows_apply m c t k r) ((grads_apply m c t k _).trans (congrArg (argD m c) ?_))
  have ht := lt8 t
  funext a
  apply Fin.ext
  match a with
  | ⟨0, _⟩ => rfl
  | ⟨1, _⟩ => show 768 * (t.val / 4) + (192 * p.val + j.val) = 192 * (4 * (t.val / 4) + p.val) + j.val; omega

/-- The running sum before the block's last point: the rows so far. -/
theorem sum_rows : ∀ (n : ℕ) (h : n < cfg0.N) (p : Fin 4) (r : Fin 1024) (j : Fin 192) (hs : 4 * (n / 4) + p < 8), n % 4 ≠ 3 →
    (outsAt0 m c n h).2 (ix2 r ⟨192 * p + j, by omega⟩)
      = ∑ k ∈ range (2048 * (n % 4 + 1)), term m c ⟨4 * (n / 4) + p, hs⟩ r j k
  | 0, h, p, r, j, hs, _ => by
    rw [outsAt0_A m c ⟨0, h⟩ rfl (by dsimp only; omega)]
    dsimp only
    rw [first, step_rows m c ⟨0, h⟩ _ p r j hs, zero_apply, zero_add]
    simp
  | n + 1, h, p, r, j, hs, h3 => by
    by_cases h0 : (n + 1) % 4 = 0
    · rw [outsAt0_A m c ⟨n + 1, h⟩ h0 h3]
      dsimp only
      rw [first, step_rows m c ⟨n + 1, h⟩ _ p r j hs, zero_apply, zero_add]
      simp [h0]
    · rw [outsAt0_B m c ⟨n + 1, h⟩ h0 h3]
      dsimp only
      rw [middle, step_rows m c ⟨n + 1, h⟩ _ p r j hs]
      have hn := sum_rows n (Nat.lt_of_succ_lt h) p r j (by omega) (by omega)
      have e1 : 2048 * ((n + 1) % 4 + 1) = 2048 * (n % 4 + 1) + 2048 := by omega
      have e2 : 2048 * ((n + 1) % 4) = 2048 * (n % 4 + 1) := by omega
      have e3 : (⟨4 * ((n + 1) / 4) + p, hs⟩ : Fin 8) = ⟨4 * (n / 4) + p, by omega⟩ := Fin.ext (by dsimp only; omega)
      rw [e1, sum_range_add, e3]
      dsimp only
      rw [e2]
      exact congrArg₂ (· + ·) hn rfl

/-- What the block's last point leaves in its four shards: all the rows. -/
theorem shards (t : Fin cfg0.N) (h3 : t.val % 4 = 3) (p : Fin 4) (r : Fin 1024) (j : Fin 192) (hs : 4 * (t.val / 4) + p < 8) :
    (outsAt0 m c t.val t.isLt).1 (ix3 p r j) = ∑ k ∈ range 8192, term m c ⟨4 * (t.val / 4) + p, hs⟩ r j k := by
  rw [outsAt0_C m c t (by omega) h3]
  dsimp only
  rw [last, step_rows m c t _ p r j hs]
  have hn := sum_rows m c (t.val - 1) (by have := t.isLt; omega) p r j (by omega) (by omega)
  have e2 : 2048 * (t.val % 4) = 2048 * ((t.val - 1) % 4 + 1) := by omega
  have e1 : 8192 = 2048 * ((t.val - 1) % 4 + 1) + 2048 := by omega
  have e3 : (⟨4 * (t.val / 4) + p, hs⟩ : Fin 8) = ⟨4 * ((t.val - 1) / 4) + p, by omega⟩ := Fin.ext (by dsimp only; omega)
  rw [e1, sum_range_add, e3, e2]
  exact congrArg₂ (· + ·) hn rfl

/-- The array the call leaves. -/
theorem array (i : S8x1024x192.Idx) :
    ((dats m 0 c).arrAt 2 cfg0.N : Vec Ideal S8x1024x192 .f32) i = ∑ k ∈ range 8192, term m c (i 0) (i 1) (i 2) k := by
  refine (dats m 0 c).arrAt_forall_of_covers 2 (fun i v => v = ∑ k ∈ range 8192, term m c (i 0) (i 1) (i 2) k)
    (by decide +kernel) (fun t hf y => ?_) i
  rw [after0_2]
  have ht := lt8 t
  have h3 := (flush0_2 t).mp hf
  have h := at2 t
  have hy0 : (y 0).val < 4 := (y 0).isLt
  have hy1 : (y 1).val < 1024 := (y 1).isLt
  have hy2 : (y 2).val < 192 := (y 2).isLt
  refine Eq.trans (congrArg (outsAt0 m c t.val t.isLt).1 (?_ : _ = ix3 (⟨(y 0).val, hy0⟩ : Fin 4) (⟨(y 1).val, hy1⟩ : Fin 1024) (⟨(y 2).val, hy2⟩ : Fin 192)))
    ((shards m c t h3 ⟨(y 0).val, hy0⟩ ⟨(y 1).val, hy1⟩ ⟨(y 2).val, hy2⟩ (by show 4 * (t.val / 4) + (y 0).val < 8; omega)).trans ?_)
  · funext a
    apply Fin.ext
    match a with
    | ⟨0, _⟩ => rfl
    | ⟨1, _⟩ => rfl
    | ⟨2, _⟩ => rfl
  · have e0 : (⟨4 * (t.val / 4) + (y 0).val, by omega⟩ : Fin 8) = ((cfg0.win 2).blk t).view.emb y 0 := Fin.ext (by
      show 4 * (t.val / 4) + (y 0).val = win0_2.index t 0 * 4 + 1 * (y 0).val; omega)
    have e1 : (⟨(y 1).val, hy1⟩ : Fin 1024) = ((cfg0.win 2).blk t).view.emb y 1 := Fin.ext (by
      show (y 1).val = win0_2.index t 1 * 1024 + 1 * (y 1).val; omega)
    have e2 : (⟨(y 2).val, hy2⟩ : Fin 192) = ((cfg0.win 2).blk t).view.emb y 2 := Fin.ext (by
      show (y 2).val = win0_2.index t 2 * 192 + 1 * (y 2).val; omega)
    exact sum_congr rfl fun k _ => by rw [← e0, ← e1, ← e2]

end Cert.Kernel14Ideal.Dw

namespace Cert.Proof.ProjectWeights

open Cert.Reference14Ideal Cert.Reference14Ideal.Gen Idealize.ShloMosaic Idealize.ShloMosaic.TcCoe Idealize.SL.Sem Finset

/-- The whole product in its eight shards. -/
def product (x : FVec Ideal S8192x1024 .f32) (y : FVec Ideal S8192x1536 .f32) : FVec Ideal S8x1024x192 .f32 :=
  transpose S8x1024x192 [1, 0, 2] (shapeCast _ (transpose S1024x1536 [1, 0]
    (Host.dotGeneral dot_S8192x1536_S8192x1024_S1536x1024_0_0_1_1_n_n none y x) transposes_S1536x1024_S1024x1536_1_0)
    shapeCasts_S1024x1536_S1024x8x192) transposes_S1024x8x192_S8x1024x192_1_0_2

theorem product_apply (x : FVec Ideal S8192x1024 .f32) (y : FVec Ideal S8192x1536 .f32) (s : Fin 8) (r : Fin 1024) (j : Fin 192) :
    product x y (ix3 s r j) = ∑ k : Fin 8192, y (ix2 k ⟨192 * s + j, by omega⟩) * x (ix2 k r) := by
  unfold product
  pointwise
  have e : (⟨s.val * 192 + j.val, by omega⟩ : Fin 1536) = ⟨192 * s + j, by omega⟩ := Fin.ext (by dsimp only; omega)
  exact sum_congr rfl fun k _ => by rw [e]

theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference14Ideal.Value.run m ρ

/-- The kernel's eight shards are the reference's. -/
theorem shards (m : (ℓ : Loc Cert.Kernel14Ideal.nD Cert.Kernel14Ideal.τ Cert.Kernel14Ideal.sig) → Buf (Elt Ideal) ℓ) (c : Dev Cert.Kernel14Ideal.nD)
    (x : FVec Ideal S8192x1024 .f32) (d : FVec Ideal S8192x1536 .f32)
    (hx : m ((c : Thread Cert.Kernel14Ideal.nD Cert.Kernel14Ideal.τ).loc Cert.Kernel14Ideal.main_arg0) = x)
    (hd : m ((c : Thread Cert.Kernel14Ideal.nD Cert.Kernel14Ideal.τ).loc Cert.Kernel14Ideal.main_arg1) = d) :
    ((Cert.Kernel14Ideal.Gen.dats m 0 c).arrAt 2 Cert.Kernel14Ideal.cfg0.N : FVec Ideal S8x1024x192 .f32) = product x d := by
  funext i
  rw [eq_ix3 i]
  refine (Cert.Kernel14Ideal.Dw.array m c _).trans ((product_apply x _ _ _ _).trans ?_).symm
  rw [← Fin.sum_univ_eq_sum_range]
  refine sum_congr rfl fun k _ => ?_
  subst hx hd
  unfold Cert.Kernel14Ideal.Dw.term
  rw [dif_pos k.isLt, mul_comm]
  rfl

/-- Both programs run, and end with the same shards. -/
theorem algebraic : Cert.algebraic_Kernel14Ideal_Reference14Ideal := by
  intro m ρ m' ρ' _ hm
  have res := fun c : Dev Cert.Kernel14Ideal.nD => shards m c _ _ (hm c).1.symm (hm c).2.symm
  refine ⟨fun c => (Cert.Kernel14Ideal.Gen.dats m 0 c).arrAt 2 Cert.Kernel14Ideal.cfg0.N, Cert.Kernel14Ideal.Value.run_blocks m ρ, ?_⟩
  exact (θ_run Cert.Reference14Ideal.defs _ _).mono
    (fun r h c => ⟨(h c).1.trans (res c).symm, (h c).2⟩) (reference m' ρ')

end Cert.Proof.ProjectWeights

end
-- ==== Proof.lean ====
/- The certificate: what the modules of this directory prove, put together. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.RefRun3
public import proofs.«01_k».proof.Proof.Algebraic
public import proofs.«01_k».proof.Proof.FfnAlgebraic
public import proofs.«01_k».proof.Proof.DwRef
public import proofs.«01_k».proof.Proof.FwdAlgebraic
public import proofs.«01_k».proof.Proof.Proj
public import proofs.«01_k».proof.Proof.ProjBack
public import proofs.«01_k».proof.Proof.MixOut
public import proofs.«01_k».proof.Proof.MixDw
public import proofs.«01_k».proof.Proof.MixDo
public import proofs.«01_k».proof.Proof.LruDo
public import proofs.«01_k».proof.Proof.LruIn
public import proofs.«01_k».proof.Proof.LruBack
public import proofs.«01_k».proof.Proof.LruDw
public import proofs.«01_k».proof.Proof.ProjDw
public import Idealize.ShloMosaic.Adequacy
public import Idealize.ShloMosaic.Init

@[expose] public section

noncomputable section

namespace Cert.Proof

open Idealize.ShloMosaic Idealize.SL.Sem

/-! ### The attention's backward pass -/

theorem frame_kernel : Cert.quiescent_Kernel := fun m ρ _ => Cert.Kernel.Gen.frame m ρ

theorem frame_ideal : Cert.quiescent_KernelIdeal := fun m ρ _ => Cert.KernelIdeal.Gen.frame m ρ

/-- The reference declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Read.run m ρ)

/-! ### The feed-forward half step -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2, sem_eq_zero_of_no_sems (by decide) r.2⟩) (Cert.Reference2Ideal.Ffn.run m ρ)

/-! ### The gradient of its joint input weights -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, sem_eq_zero_of_no_sems (by decide) r.2⟩) (Joint.reference m ρ)

/-! ### The half step forward -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2.2.2, sem_eq_zero_of_no_sems (by decide) r.2⟩) (Cert.Reference4Ideal.Fwd.run m ρ)

/-! ### The projection of the rows before the attention -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, sem_eq_zero_of_no_sems (by decide) r.2⟩) (Project.reference m ρ)

/-! ### The gradient of its rows -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, sem_eq_zero_of_no_sems (by decide) r.2⟩) (ProjectBack.reference m ρ)

/-! ### The output product of the attention and of the recurrent block, with its layer norm -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2.2.2, sem_eq_zero_of_no_sems (by decide) r.2⟩) (MixOut.reference m ρ)

/-! ### The gradient of that product's weights -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2, sem_eq_zero_of_no_sems (by decide) r.2⟩) (MixWeights.reference m ρ)

/-! ### The gradient of that product's rows -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2, sem_eq_zero_of_no_sems (by decide) r.2⟩) (MixRows.reference m ρ)

/-! ### The gradient of the output product's rows in the recurrent block's layers -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun r h => ⟨fun c => (h c).2, sem_eq_zero_of_no_sems (by decide) r.2⟩) (LruRows.reference m ρ)

/-! ### The recurrent block's input projection -/

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono
    (fun r h => ⟨fun c => (h c).2, sem_eq_zero_of_no_sems (by decide) r.2⟩) (LruIn.reference m ρ)

/-! ### The gradient of its rows -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun r h => ⟨fun c => (h c).2, sem_eq_zero_of_no_sems (by decide) r.2⟩) (LruBack.reference m ρ)

/-! ### The gradient of that projection's weights -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono
    (fun r h => ⟨fun c => (h c).2, sem_eq_zero_of_no_sems (by decide) r.2⟩) (LruWeights.reference m ρ)

/-! ### The gradient of the weights of the attention's projection -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono
    (fun r h => ⟨fun c => (h c).2, sem_eq_zero_of_no_sems (by decide) r.2⟩) (ProjectWeights.reference m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.facts, Cert.Pre_finite2.facts,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, frame_reference3, frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    trivial, algebraic, trivial, HalfStep.algebraic, trivial, Joint.algebraic, trivial, Forward.algebraic,
    trivial, Project.algebraic, trivial, ProjectBack.algebraic, trivial, MixOut.algebraic, trivial, MixWeights.algebraic, trivial, MixRows.algebraic,
    trivial, LruRows.algebraic, trivial, LruIn.algebraic, trivial, LruBack.algebraic,
    trivial, LruWeights.algebraic, trivial, ProjectWeights.algebraic⟩

end Cert.Proof

end
